-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_ReferenceGradInIdeal (m : (ℓ : Loc Cert.ReferenceGradInIdeal.nD Cert.ReferenceGradInIdeal.τ Cert.ReferenceGradInIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_ReferenceGradOutIdeal (m : (ℓ : Loc Cert.ReferenceGradOutIdeal.nD Cert.ReferenceGradOutIdeal.τ Cert.ReferenceGradOutIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_ReferenceFfnUpIdeal (m : (ℓ : Loc Cert.ReferenceFfnUpIdeal.nD Cert.ReferenceFfnUpIdeal.τ Cert.ReferenceFfnUpIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_ReferenceFfnDownIdeal (m : (ℓ : Loc Cert.ReferenceFfnDownIdeal.nD Cert.ReferenceFfnDownIdeal.τ Cert.ReferenceFfnDownIdeal.sig) → Buf (Elt Ideal) ℓ) : Prop :=
  True

def Pre_GradSq (m : (ℓ : Loc Cert.GradSq.nD Cert.GradSq.τ Cert.GradSq.sig) → Buf (Elt Bits) ℓ) : Prop :=
  True

def Pre_GradSqIdeal (m : (ℓ : Loc Cert.GradSqIdeal.nD Cert.GradSqIdeal.τ Cert.GradSqIdeal.sig) → Buf (Elt Ideal) ℓ) : Prop :=
  True

def Pre_ReferenceGradSqIdeal (m : (ℓ : Loc Cert.ReferenceGradSqIdeal.nD Cert.ReferenceGradSqIdeal.τ Cert.ReferenceGradSqIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_ReferenceOddInIdeal (m : (ℓ : Loc Cert.ReferenceOddInIdeal.nD Cert.ReferenceOddInIdeal.τ Cert.ReferenceOddInIdeal.sig) → Buf (Elt Ideal) ℓ) : Prop :=
  True

def Pre_OddInBwd (m : (ℓ : Loc Cert.OddInBwd.nD Cert.OddInBwd.τ Cert.OddInBwd.sig) → Buf (Elt Bits) ℓ) : Prop :=
  True

def Pre_OddInBwdIdeal (m : (ℓ : Loc Cert.OddInBwdIdeal.nD Cert.OddInBwdIdeal.τ Cert.OddInBwdIdeal.sig) → Buf (Elt Ideal) ℓ) : Prop :=
  True

def Pre_ReferenceOddInBwdIdeal (m : (ℓ : Loc Cert.ReferenceOddInBwdIdeal.nD Cert.ReferenceOddInBwdIdeal.τ Cert.ReferenceOddInBwdIdeal.sig) → Buf (Elt Ideal) ℓ) : Prop :=
  True

def Pre_FfnUpBwd (m : (ℓ : Loc Cert.FfnUpBwd.nD Cert.FfnUpBwd.τ Cert.FfnUpBwd.sig) → Buf (Elt Bits) ℓ) : Prop :=
  True

def Pre_FfnUpBwdIdeal (m : (ℓ : Loc Cert.FfnUpBwdIdeal.nD Cert.FfnUpBwdIdeal.τ Cert.FfnUpBwdIdeal.sig) → Buf (Elt Ideal) ℓ) : Prop :=
  True

def Pre_FfnUpBwdIdeal_ffn_finite [hPre_ffn_finite : Cert.Pre_ffn_finite.Facts] (m : (ℓ : Loc Cert.FfnUpBwdIdeal.nD Cert.FfnUpBwdIdeal.τ Cert.FfnUpBwdIdeal.sig) → Buf (Elt Ideal) ℓ) : Prop :=
  ∀ c : Dev Cert.FfnUpBwdIdeal.nD,
    (Cert.Pre_ffn_finite.fn (F := Ideal) (m ((c.tc : Thread Cert.FfnUpBwdIdeal.nD Cert.FfnUpBwdIdeal.τ).loc Cert.FfnUpBwdIdeal.main_arg0)) (m ((c.tc : Thread Cert.FfnUpBwdIdeal.nD Cert.FfnUpBwdIdeal.τ).loc Cert.FfnUpBwdIdeal.main_arg1)) (m ((c.tc : Thread Cert.FfnUpBwdIdeal.nD Cert.FfnUpBwdIdeal.τ).loc Cert.FfnUpBwdIdeal.main_arg2)) (m ((c.tc : Thread Cert.FfnUpBwdIdeal.nD Cert.FfnUpBwdIdeal.τ).loc Cert.FfnUpBwdIdeal.main_arg3)) (m ((c.tc : Thread Cert.FfnUpBwdIdeal.nD Cert.FfnUpBwdIdeal.τ).loc Cert.FfnUpBwdIdeal.main_arg4)) (m ((c.tc : Thread Cert.FfnUpBwdIdeal.nD Cert.FfnUpBwdIdeal.τ).loc Cert.FfnUpBwdIdeal.main_arg5))) = (fun _ => 1#1)

def Pre_ReferenceFfnUpBwdIdeal (m : (ℓ : Loc Cert.ReferenceFfnUpBwdIdeal.nD Cert.ReferenceFfnUpBwdIdeal.τ Cert.ReferenceFfnUpBwdIdeal.sig) → Buf (Elt Ideal) ℓ) : Prop :=
  True

def Pre_ReferenceFfnUpBwdIdeal_ffn_finite [hPre_ffn_finite : Cert.Pre_ffn_finite.Facts] (m : (ℓ : Loc Cert.ReferenceFfnUpBwdIdeal.nD Cert.ReferenceFfnUpBwdIdeal.τ Cert.ReferenceFfnUpBwdIdeal.sig) → Buf (Elt Ideal) ℓ) : Prop :=
  ∀ c : Dev Cert.ReferenceFfnUpBwdIdeal.nD,
    (Cert.Pre_ffn_finite.fn (F := Ideal) (m ((c.tc : Thread Cert.ReferenceFfnUpBwdIdeal.nD Cert.ReferenceFfnUpBwdIdeal.τ).loc Cert.ReferenceFfnUpBwdIdeal.main_arg0)) (m ((c.tc : Thread Cert.ReferenceFfnUpBwdIdeal.nD Cert.ReferenceFfnUpBwdIdeal.τ).loc Cert.ReferenceFfnUpBwdIdeal.main_arg1)) (m ((c.tc : Thread Cert.ReferenceFfnUpBwdIdeal.nD Cert.ReferenceFfnUpBwdIdeal.τ).loc Cert.ReferenceFfnUpBwdIdeal.main_arg2)) (m ((c.tc : Thread Cert.ReferenceFfnUpBwdIdeal.nD Cert.ReferenceFfnUpBwdIdeal.τ).loc Cert.ReferenceFfnUpBwdIdeal.main_arg3)) (m ((c.tc : Thread Cert.ReferenceFfnUpBwdIdeal.nD Cert.ReferenceFfnUpBwdIdeal.τ).loc Cert.ReferenceFfnUpBwdIdeal.main_arg4)) (m ((c.tc : Thread Cert.ReferenceFfnUpBwdIdeal.nD Cert.ReferenceFfnUpBwdIdeal.τ).loc Cert.ReferenceFfnUpBwdIdeal.main_arg5))) = (fun _ => 1#1)

def Pre_FfnDownBwd (m : (ℓ : Loc Cert.FfnDownBwd.nD Cert.FfnDownBwd.τ Cert.FfnDownBwd.sig) → Buf (Elt Bits) ℓ) : Prop :=
  True

def Pre_FfnDownBwdIdeal (m : (ℓ : Loc Cert.FfnDownBwdIdeal.nD Cert.FfnDownBwdIdeal.τ Cert.FfnDownBwdIdeal.sig) → Buf (Elt Ideal) ℓ) : Prop :=
  True

def Pre_FfnDownBwdIdeal_norm_finite [hPre_norm_finite : Cert.Pre_norm_finite.Facts] (m : (ℓ : Loc Cert.FfnDownBwdIdeal.nD Cert.FfnDownBwdIdeal.τ Cert.FfnDownBwdIdeal.sig) → Buf (Elt Ideal) ℓ) : Prop :=
  ∀ c : Dev Cert.FfnDownBwdIdeal.nD,
    (Cert.Pre_norm_finite.fn (F := Ideal) (m ((c.tc : Thread Cert.FfnDownBwdIdeal.nD Cert.FfnDownBwdIdeal.τ).loc Cert.FfnDownBwdIdeal.main_arg0)) (m ((c.tc : Thread Cert.FfnDownBwdIdeal.nD Cert.FfnDownBwdIdeal.τ).loc Cert.FfnDownBwdIdeal.main_arg1)) (m ((c.tc : Thread Cert.FfnDownBwdIdeal.nD Cert.FfnDownBwdIdeal.τ).loc Cert.FfnDownBwdIdeal.main_arg2)) (m ((c.tc : Thread Cert.FfnDownBwdIdeal.nD Cert.FfnDownBwdIdeal.τ).loc Cert.FfnDownBwdIdeal.main_arg3)) (m ((c.tc : Thread Cert.FfnDownBwdIdeal.nD Cert.FfnDownBwdIdeal.τ).loc Cert.FfnDownBwdIdeal.main_arg4)) (m ((c.tc : Thread Cert.FfnDownBwdIdeal.nD Cert.FfnDownBwdIdeal.τ).loc Cert.FfnDownBwdIdeal.main_arg5)) (m ((c.tc : Thread Cert.FfnDownBwdIdeal.nD Cert.FfnDownBwdIdeal.τ).loc Cert.FfnDownBwdIdeal.main_arg6))) = (fun _ => 1#1)

def Pre_ReferenceFfnDownBwdIdeal (m : (ℓ : Loc Cert.ReferenceFfnDownBwdIdeal.nD Cert.ReferenceFfnDownBwdIdeal.τ Cert.ReferenceFfnDownBwdIdeal.sig) → Buf (Elt Ideal) ℓ) : Prop :=
  True

def Pre_ReferenceFfnDownBwdIdeal_norm_finite [hPre_norm_finite : Cert.Pre_norm_finite.Facts] (m : (ℓ : Loc Cert.ReferenceFfnDownBwdIdeal.nD Cert.ReferenceFfnDownBwdIdeal.τ Cert.ReferenceFfnDownBwdIdeal.sig) → Buf (Elt Ideal) ℓ) : Prop :=
  ∀ c : Dev Cert.ReferenceFfnDownBwdIdeal.nD,
    (Cert.Pre_norm_finite.fn (F := Ideal) (m ((c.tc : Thread Cert.ReferenceFfnDownBwdIdeal.nD Cert.ReferenceFfnDownBwdIdeal.τ).loc Cert.ReferenceFfnDownBwdIdeal.main_arg0)) (m ((c.tc : Thread Cert.ReferenceFfnDownBwdIdeal.nD Cert.ReferenceFfnDownBwdIdeal.τ).loc Cert.ReferenceFfnDownBwdIdeal.main_arg1)) (m ((c.tc : Thread Cert.ReferenceFfnDownBwdIdeal.nD Cert.ReferenceFfnDownBwdIdeal.τ).loc Cert.ReferenceFfnDownBwdIdeal.main_arg2)) (m ((c.tc : Thread Cert.ReferenceFfnDownBwdIdeal.nD Cert.ReferenceFfnDownBwdIdeal.τ).loc Cert.ReferenceFfnDownBwdIdeal.main_arg3)) (m ((c.tc : Thread Cert.ReferenceFfnDownBwdIdeal.nD Cert.ReferenceFfnDownBwdIdeal.τ).loc Cert.ReferenceFfnDownBwdIdeal.main_arg4)) (m ((c.tc : Thread Cert.ReferenceFfnDownBwdIdeal.nD Cert.ReferenceFfnDownBwdIdeal.τ).loc Cert.ReferenceFfnDownBwdIdeal.main_arg5)) (m ((c.tc : Thread Cert.ReferenceFfnDownBwdIdeal.nD Cert.ReferenceFfnDownBwdIdeal.τ).loc Cert.ReferenceFfnDownBwdIdeal.main_arg6))) = (fun _ => 1#1)

def Pre_EvIn (m : (ℓ : Loc Cert.EvIn.nD Cert.EvIn.τ Cert.EvIn.sig) → Buf (Elt Bits) ℓ) : Prop :=
  True

def Pre_EvInIdeal (m : (ℓ : Loc Cert.EvInIdeal.nD Cert.EvInIdeal.τ Cert.EvInIdeal.sig) → Buf (Elt Ideal) ℓ) : Prop :=
  True

def Pre_ReferenceEvInIdeal (m : (ℓ : Loc Cert.ReferenceEvInIdeal.nD Cert.ReferenceEvInIdeal.τ Cert.ReferenceEvInIdeal.sig) → Buf (Elt Ideal) ℓ) : Prop :=
  True

def Pre_EvInBwd (m : (ℓ : Loc Cert.EvInBwd.nD Cert.EvInBwd.τ Cert.EvInBwd.sig) → Buf (Elt Bits) ℓ) : Prop :=
  True

def Pre_EvInBwdIdeal (m : (ℓ : Loc Cert.EvInBwdIdeal.nD Cert.EvInBwdIdeal.τ Cert.EvInBwdIdeal.sig) → Buf (Elt Ideal) ℓ) : Prop :=
  True

def Pre_ReferenceEvInBwdIdeal (m : (ℓ : Loc Cert.ReferenceEvInBwdIdeal.nD Cert.ReferenceEvInBwdIdeal.τ Cert.ReferenceEvInBwdIdeal.sig) → Buf (Elt Ideal) ℓ) : Prop :=
  True

def Pre_GradXbc (m : (ℓ : Loc Cert.GradXbc.nD Cert.GradXbc.τ Cert.GradXbc.sig) → Buf (Elt Bits) ℓ) : Prop :=
  True

def Pre_GradXbcIdeal (m : (ℓ : Loc Cert.GradXbcIdeal.nD Cert.GradXbcIdeal.τ Cert.GradXbcIdeal.sig) → Buf (Elt Ideal) ℓ) : Prop :=
  True

def Pre_ReferenceGradXbcIdeal (m : (ℓ : Loc Cert.ReferenceGradXbcIdeal.nD Cert.ReferenceGradXbcIdeal.τ Cert.ReferenceGradXbcIdeal.sig) → Buf (Elt Ideal) ℓ) : Prop :=
  True

def Pre_GradPool (m : (ℓ : Loc Cert.GradPool.nD Cert.GradPool.τ Cert.GradPool.sig) → Buf (Elt Bits) ℓ) : Prop :=
  True

def Pre_GradPoolIdeal (m : (ℓ : Loc Cert.GradPoolIdeal.nD Cert.GradPoolIdeal.τ Cert.GradPoolIdeal.sig) → Buf (Elt Ideal) ℓ) : Prop :=
  True

def Pre_ReferenceGradPoolIdeal (m : (ℓ : Loc Cert.ReferenceGradPoolIdeal.nD Cert.ReferenceGradPoolIdeal.τ Cert.ReferenceGradPoolIdeal.sig) → Buf (Elt Ideal) ℓ) : Prop :=
  True

def Pre_GradDt (m : (ℓ : Loc Cert.GradDt.nD Cert.GradDt.τ Cert.GradDt.sig) → Buf (Elt Bits) ℓ) : Prop :=
  True

def Pre_GradDtIdeal (m : (ℓ : Loc Cert.GradDtIdeal.nD Cert.GradDtIdeal.τ Cert.GradDtIdeal.sig) → Buf (Elt Ideal) ℓ) : Prop :=
  True

def Pre_ReferenceGradDtIdeal (m : (ℓ : Loc Cert.ReferenceGradDtIdeal.nD Cert.ReferenceGradDtIdeal.τ Cert.ReferenceGradDtIdeal.sig) → Buf (Elt Ideal) ℓ) : Prop :=
  True

def Pre_GradMix (m : (ℓ : Loc Cert.GradMix.nD Cert.GradMix.τ Cert.GradMix.sig) → Buf (Elt Bits) ℓ) : Prop :=
  True

def Pre_GradMixIdeal (m : (ℓ : Loc Cert.GradMixIdeal.nD Cert.GradMixIdeal.τ Cert.GradMixIdeal.sig) → Buf (Elt Ideal) ℓ) : Prop :=
  True

def Pre_ReferenceGradMixIdeal (m : (ℓ : Loc Cert.ReferenceGradMixIdeal.nD Cert.ReferenceGradMixIdeal.τ Cert.ReferenceGradMixIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_ReferenceMixOutIdeal (m : (ℓ : Loc Cert.ReferenceMixOutIdeal.nD Cert.ReferenceMixOutIdeal.τ Cert.ReferenceMixOutIdeal.sig) → Buf (Elt Ideal) ℓ) : Prop :=
  True

def Pre_MixOutOdd (m : (ℓ : Loc Cert.MixOutOdd.nD Cert.MixOutOdd.τ Cert.MixOutOdd.sig) → Buf (Elt Bits) ℓ) : Prop :=
  True

def Pre_MixOutOddIdeal (m : (ℓ : Loc Cert.MixOutOddIdeal.nD Cert.MixOutOddIdeal.τ Cert.MixOutOddIdeal.sig) → Buf (Elt Ideal) ℓ) : Prop :=
  True

def Pre_ReferenceMixOutOddIdeal (m : (ℓ : Loc Cert.ReferenceMixOutOddIdeal.nD Cert.ReferenceMixOutOddIdeal.τ Cert.ReferenceMixOutOddIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1)
      ∧ r.2.mem ((c.tc : Thread Cert.GradIn.nD Cert.GradIn.τ).loc Cert.GradIn.main_arg2) = m ((c.tc : Thread Cert.GradIn.nD Cert.GradIn.τ).loc Cert.GradIn.main_arg2))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
      ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2))
      ∧ r.2.sem = fun _ => 0)

def quiescent_ReferenceGradInIdeal [hReferenceGradInIdeal : Cert.ReferenceGradInIdeal.Facts] : Prop :=
  ∀ (m : (ℓ : Loc Cert.ReferenceGradInIdeal.nD Cert.ReferenceGradInIdeal.τ Cert.ReferenceGradInIdeal.sig) → Buf (Elt Ideal) ℓ) (g : Dev Cert.ReferenceGradInIdeal.nD → PrngReg), Pre_ReferenceGradInIdeal m →
    θ_run (Cert.ReferenceGradInIdeal.defs (F := Ideal)) (onTc (τ := Cert.ReferenceGradInIdeal.τ) (Cert.ReferenceGradInIdeal.main (F := Ideal))) ⟨m, fun _ => 0, g⟩ (fun r => (∀ c : Dev Cert.ReferenceGradInIdeal.nD,
      r.2.mem ((c.tc : Thread Cert.ReferenceGradInIdeal.nD Cert.ReferenceGradInIdeal.τ).loc Cert.ReferenceGradInIdeal.main_arg0) = m ((c.tc : Thread Cert.ReferenceGradInIdeal.nD Cert.ReferenceGradInIdeal.τ).loc Cert.ReferenceGradInIdeal.main_arg0)
      ∧ r.2.mem ((c.tc : Thread Cert.ReferenceGradInIdeal.nD Cert.ReferenceGradInIdeal.τ).loc Cert.ReferenceGradInIdeal.main_arg1) = m ((c.tc : Thread Cert.ReferenceGradInIdeal.nD Cert.ReferenceGradInIdeal.τ).loc Cert.ReferenceGradInIdeal.main_arg1)
      ∧ r.2.mem ((c.tc : Thread Cert.ReferenceGradInIdeal.nD Cert.ReferenceGradInIdeal.τ).loc Cert.ReferenceGradInIdeal.main_arg2) = m ((c.tc : Thread Cert.ReferenceGradInIdeal.nD Cert.ReferenceGradInIdeal.τ).loc Cert.ReferenceGradInIdeal.main_arg2))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1)
      ∧ r.2.mem ((c.tc : Thread Cert.GradOut.nD Cert.GradOut.τ).loc Cert.GradOut.main_arg2) = m ((c.tc : Thread Cert.GradOut.nD Cert.GradOut.τ).loc Cert.GradOut.main_arg2))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
      ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2))
      ∧ r.2.sem = fun _ => 0)

def quiescent_ReferenceGradOutIdeal [hReferenceGradOutIdeal : Cert.ReferenceGradOutIdeal.Facts] : Prop :=
  ∀ (m : (ℓ : Loc Cert.ReferenceGradOutIdeal.nD Cert.ReferenceGradOutIdeal.τ Cert.ReferenceGradOutIdeal.sig) → Buf (Elt Ideal) ℓ) (g : Dev Cert.ReferenceGradOutIdeal.nD → PrngReg), Pre_ReferenceGradOutIdeal m →
    θ_run (Cert.ReferenceGradOutIdeal.defs (F := Ideal)) (onTc (τ := Cert.ReferenceGradOutIdeal.τ) (Cert.ReferenceGradOutIdeal.main (F := Ideal))) ⟨m, fun _ => 0, g⟩ (fun r => (∀ c : Dev Cert.ReferenceGradOutIdeal.nD,
      r.2.mem ((c.tc : Thread Cert.ReferenceGradOutIdeal.nD Cert.ReferenceGradOutIdeal.τ).loc Cert.ReferenceGradOutIdeal.main_arg0) = m ((c.tc : Thread Cert.ReferenceGradOutIdeal.nD Cert.ReferenceGradOutIdeal.τ).loc Cert.ReferenceGradOutIdeal.main_arg0)
      ∧ r.2.mem ((c.tc : Thread Cert.ReferenceGradOutIdeal.nD Cert.ReferenceGradOutIdeal.τ).loc Cert.ReferenceGradOutIdeal.main_arg1) = m ((c.tc : Thread Cert.ReferenceGradOutIdeal.nD Cert.ReferenceGradOutIdeal.τ).loc Cert.ReferenceGradOutIdeal.main_arg1)
      ∧ r.2.mem ((c.tc : Thread Cert.ReferenceGradOutIdeal.nD Cert.ReferenceGradOutIdeal.τ).loc Cert.ReferenceGradOutIdeal.main_arg2) = m ((c.tc : Thread Cert.ReferenceGradOutIdeal.nD Cert.ReferenceGradOutIdeal.τ).loc Cert.ReferenceGradOutIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_ReferenceFfnUpIdeal [hReferenceFfnUpIdeal : Cert.ReferenceFfnUpIdeal.Facts] : Prop :=
  ∀ (m : (ℓ : Loc Cert.ReferenceFfnUpIdeal.nD Cert.ReferenceFfnUpIdeal.τ Cert.ReferenceFfnUpIdeal.sig) → Buf (Elt Ideal) ℓ) (g : Dev Cert.ReferenceFfnUpIdeal.nD → PrngReg), Pre_ReferenceFfnUpIdeal m →
    θ_run (Cert.ReferenceFfnUpIdeal.defs (F := Ideal)) (onTc (τ := Cert.ReferenceFfnUpIdeal.τ) (Cert.ReferenceFfnUpIdeal.main (F := Ideal))) ⟨m, fun _ => 0, g⟩ (fun r => (∀ c : Dev Cert.ReferenceFfnUpIdeal.nD,
      r.2.mem ((c.tc : Thread Cert.ReferenceFfnUpIdeal.nD Cert.ReferenceFfnUpIdeal.τ).loc Cert.ReferenceFfnUpIdeal.main_arg0) = m ((c.tc : Thread Cert.ReferenceFfnUpIdeal.nD Cert.ReferenceFfnUpIdeal.τ).loc Cert.ReferenceFfnUpIdeal.main_arg0)
      ∧ r.2.mem ((c.tc : Thread Cert.ReferenceFfnUpIdeal.nD Cert.ReferenceFfnUpIdeal.τ).loc Cert.ReferenceFfnUpIdeal.main_arg1) = m ((c.tc : Thread Cert.ReferenceFfnUpIdeal.nD Cert.ReferenceFfnUpIdeal.τ).loc Cert.ReferenceFfnUpIdeal.main_arg1)
      ∧ r.2.mem ((c.tc : Thread Cert.ReferenceFfnUpIdeal.nD Cert.ReferenceFfnUpIdeal.τ).loc Cert.ReferenceFfnUpIdeal.main_arg2) = m ((c.tc : Thread Cert.ReferenceFfnUpIdeal.nD Cert.ReferenceFfnUpIdeal.τ).loc Cert.ReferenceFfnUpIdeal.main_arg2)
      ∧ r.2.mem ((c.tc : Thread Cert.ReferenceFfnUpIdeal.nD Cert.ReferenceFfnUpIdeal.τ).loc Cert.ReferenceFfnUpIdeal.main_arg3) = m ((c.tc : Thread Cert.ReferenceFfnUpIdeal.nD Cert.ReferenceFfnUpIdeal.τ).loc Cert.ReferenceFfnUpIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4)
      ∧ r.2.mem ((c.tc : Thread Cert.FfnDown.nD Cert.FfnDown.τ).loc Cert.FfnDown.main_arg5) = m ((c.tc : Thread Cert.FfnDown.nD Cert.FfnDown.τ).loc Cert.FfnDown.main_arg5))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
      ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5))
      ∧ r.2.sem = fun _ => 0)

def quiescent_ReferenceFfnDownIdeal [hReferenceFfnDownIdeal : Cert.ReferenceFfnDownIdeal.Facts] : Prop :=
  ∀ (m : (ℓ : Loc Cert.ReferenceFfnDownIdeal.nD Cert.ReferenceFfnDownIdeal.τ Cert.ReferenceFfnDownIdeal.sig) → Buf (Elt Ideal) ℓ) (g : Dev Cert.ReferenceFfnDownIdeal.nD → PrngReg), Pre_ReferenceFfnDownIdeal m →
    θ_run (Cert.ReferenceFfnDownIdeal.defs (F := Ideal)) (onTc (τ := Cert.ReferenceFfnDownIdeal.τ) (Cert.ReferenceFfnDownIdeal.main (F := Ideal))) ⟨m, fun _ => 0, g⟩ (fun r => (∀ c : Dev Cert.ReferenceFfnDownIdeal.nD,
      r.2.mem ((c.tc : Thread Cert.ReferenceFfnDownIdeal.nD Cert.ReferenceFfnDownIdeal.τ).loc Cert.ReferenceFfnDownIdeal.main_arg0) = m ((c.tc : Thread Cert.ReferenceFfnDownIdeal.nD Cert.ReferenceFfnDownIdeal.τ).loc Cert.ReferenceFfnDownIdeal.main_arg0)
      ∧ r.2.mem ((c.tc : Thread Cert.ReferenceFfnDownIdeal.nD Cert.ReferenceFfnDownIdeal.τ).loc Cert.ReferenceFfnDownIdeal.main_arg1) = m ((c.tc : Thread Cert.ReferenceFfnDownIdeal.nD Cert.ReferenceFfnDownIdeal.τ).loc Cert.ReferenceFfnDownIdeal.main_arg1)
      ∧ r.2.mem ((c.tc : Thread Cert.ReferenceFfnDownIdeal.nD Cert.ReferenceFfnDownIdeal.τ).loc Cert.ReferenceFfnDownIdeal.main_arg2) = m ((c.tc : Thread Cert.ReferenceFfnDownIdeal.nD Cert.ReferenceFfnDownIdeal.τ).loc Cert.ReferenceFfnDownIdeal.main_arg2)
      ∧ r.2.mem ((c.tc : Thread Cert.ReferenceFfnDownIdeal.nD Cert.ReferenceFfnDownIdeal.τ).loc Cert.ReferenceFfnDownIdeal.main_arg3) = m ((c.tc : Thread Cert.ReferenceFfnDownIdeal.nD Cert.ReferenceFfnDownIdeal.τ).loc Cert.ReferenceFfnDownIdeal.main_arg3)
      ∧ r.2.mem ((c.tc : Thread Cert.ReferenceFfnDownIdeal.nD Cert.ReferenceFfnDownIdeal.τ).loc Cert.ReferenceFfnDownIdeal.main_arg4) = m ((c.tc : Thread Cert.ReferenceFfnDownIdeal.nD Cert.ReferenceFfnDownIdeal.τ).loc Cert.ReferenceFfnDownIdeal.main_arg4)
      ∧ r.2.mem ((c.tc : Thread Cert.ReferenceFfnDownIdeal.nD Cert.ReferenceFfnDownIdeal.τ).loc Cert.ReferenceFfnDownIdeal.main_arg5) = m ((c.tc : Thread Cert.ReferenceFfnDownIdeal.nD Cert.ReferenceFfnDownIdeal.τ).loc Cert.ReferenceFfnDownIdeal.main_arg5))
      ∧ r.2.sem = fun _ => 0)

def quiescent_GradSq [hGradSq : Cert.GradSq.Facts] : Prop :=
  ∀ (m : (ℓ : Loc Cert.GradSq.nD Cert.GradSq.τ Cert.GradSq.sig) → Buf (Elt Bits) ℓ) (g : Dev Cert.GradSq.nD → PrngReg), Pre_GradSq m →
    θ_run (Cert.GradSq.defs (F := Bits)) (onTc (τ := Cert.GradSq.τ) (Cert.GradSq.main (F := Bits))) ⟨m, fun _ => 0, g⟩ (fun r => (∀ c : Dev Cert.GradSq.nD,
      r.2.mem ((c.tc : Thread Cert.GradSq.nD Cert.GradSq.τ).loc Cert.GradSq.main_arg0) = m ((c.tc : Thread Cert.GradSq.nD Cert.GradSq.τ).loc Cert.GradSq.main_arg0)
      ∧ r.2.mem ((c.tc : Thread Cert.GradSq.nD Cert.GradSq.τ).loc Cert.GradSq.main_arg1) = m ((c.tc : Thread Cert.GradSq.nD Cert.GradSq.τ).loc Cert.GradSq.main_arg1)
      ∧ r.2.mem ((c.tc : Thread Cert.GradSq.nD Cert.GradSq.τ).loc Cert.GradSq.main_arg2) = m ((c.tc : Thread Cert.GradSq.nD Cert.GradSq.τ).loc Cert.GradSq.main_arg2))
      ∧ r.2.sem = fun _ => 0)

def quiescent_GradSqIdeal [hGradSqIdeal : Cert.GradSqIdeal.Facts] : Prop :=
  ∀ (m : (ℓ : Loc Cert.GradSqIdeal.nD Cert.GradSqIdeal.τ Cert.GradSqIdeal.sig) → Buf (Elt Ideal) ℓ) (g : Dev Cert.GradSqIdeal.nD → PrngReg), Pre_GradSqIdeal m →
    θ_run (Cert.GradSqIdeal.defs (F := Ideal)) (onTc (τ := Cert.GradSqIdeal.τ) (Cert.GradSqIdeal.main (F := Ideal))) ⟨m, fun _ => 0, g⟩ (fun r => (∀ c : Dev Cert.GradSqIdeal.nD,
      r.2.mem ((c.tc : Thread Cert.GradSqIdeal.nD Cert.GradSqIdeal.τ).loc Cert.GradSqIdeal.main_arg0) = m ((c.tc : Thread Cert.GradSqIdeal.nD Cert.GradSqIdeal.τ).loc Cert.GradSqIdeal.main_arg0)
      ∧ r.2.mem ((c.tc : Thread Cert.GradSqIdeal.nD Cert.GradSqIdeal.τ).loc Cert.GradSqIdeal.main_arg1) = m ((c.tc : Thread Cert.GradSqIdeal.nD Cert.GradSqIdeal.τ).loc Cert.GradSqIdeal.main_arg1)
      ∧ r.2.mem ((c.tc : Thread Cert.GradSqIdeal.nD Cert.GradSqIdeal.τ).loc Cert.GradSqIdeal.main_arg2) = m ((c.tc : Thread Cert.GradSqIdeal.nD Cert.GradSqIdeal.τ).loc Cert.GradSqIdeal.main_arg2))
      ∧ r.2.sem = fun _ => 0)

def quiescent_ReferenceGradSqIdeal [hReferenceGradSqIdeal : Cert.ReferenceGradSqIdeal.Facts] : Prop :=
  ∀ (m : (ℓ : Loc Cert.ReferenceGradSqIdeal.nD Cert.ReferenceGradSqIdeal.τ Cert.ReferenceGradSqIdeal.sig) → Buf (Elt Ideal) ℓ) (g : Dev Cert.ReferenceGradSqIdeal.nD → PrngReg), Pre_ReferenceGradSqIdeal m →
    θ_run (Cert.ReferenceGradSqIdeal.defs (F := Ideal)) (onTc (τ := Cert.ReferenceGradSqIdeal.τ) (Cert.ReferenceGradSqIdeal.main (F := Ideal))) ⟨m, fun _ => 0, g⟩ (fun r => (∀ c : Dev Cert.ReferenceGradSqIdeal.nD,
      r.2.mem ((c.tc : Thread Cert.ReferenceGradSqIdeal.nD Cert.ReferenceGradSqIdeal.τ).loc Cert.ReferenceGradSqIdeal.main_arg0) = m ((c.tc : Thread Cert.ReferenceGradSqIdeal.nD Cert.ReferenceGradSqIdeal.τ).loc Cert.ReferenceGradSqIdeal.main_arg0)
      ∧ r.2.mem ((c.tc : Thread Cert.ReferenceGradSqIdeal.nD Cert.ReferenceGradSqIdeal.τ).loc Cert.ReferenceGradSqIdeal.main_arg1) = m ((c.tc : Thread Cert.ReferenceGradSqIdeal.nD Cert.ReferenceGradSqIdeal.τ).loc Cert.ReferenceGradSqIdeal.main_arg1)
      ∧ r.2.mem ((c.tc : Thread Cert.ReferenceGradSqIdeal.nD Cert.ReferenceGradSqIdeal.τ).loc Cert.ReferenceGradSqIdeal.main_arg2) = m ((c.tc : Thread Cert.ReferenceGradSqIdeal.nD Cert.ReferenceGradSqIdeal.τ).loc Cert.ReferenceGradSqIdeal.main_arg2))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3))
      ∧ r.2.sem = fun _ => 0)

def quiescent_ReferenceOddInIdeal [hReferenceOddInIdeal : Cert.ReferenceOddInIdeal.Facts] : Prop :=
  ∀ (m : (ℓ : Loc Cert.ReferenceOddInIdeal.nD Cert.ReferenceOddInIdeal.τ Cert.ReferenceOddInIdeal.sig) → Buf (Elt Ideal) ℓ) (g : Dev Cert.ReferenceOddInIdeal.nD → PrngReg), Pre_ReferenceOddInIdeal m →
    θ_run (Cert.ReferenceOddInIdeal.defs (F := Ideal)) (onTc (τ := Cert.ReferenceOddInIdeal.τ) (Cert.ReferenceOddInIdeal.main (F := Ideal))) ⟨m, fun _ => 0, g⟩ (fun r => (∀ c : Dev Cert.ReferenceOddInIdeal.nD,
      r.2.mem ((c.tc : Thread Cert.ReferenceOddInIdeal.nD Cert.ReferenceOddInIdeal.τ).loc Cert.ReferenceOddInIdeal.main_arg0) = m ((c.tc : Thread Cert.ReferenceOddInIdeal.nD Cert.ReferenceOddInIdeal.τ).loc Cert.ReferenceOddInIdeal.main_arg0)
      ∧ r.2.mem ((c.tc : Thread Cert.ReferenceOddInIdeal.nD Cert.ReferenceOddInIdeal.τ).loc Cert.ReferenceOddInIdeal.main_arg1) = m ((c.tc : Thread Cert.ReferenceOddInIdeal.nD Cert.ReferenceOddInIdeal.τ).loc Cert.ReferenceOddInIdeal.main_arg1)
      ∧ r.2.mem ((c.tc : Thread Cert.ReferenceOddInIdeal.nD Cert.ReferenceOddInIdeal.τ).loc Cert.ReferenceOddInIdeal.main_arg2) = m ((c.tc : Thread Cert.ReferenceOddInIdeal.nD Cert.ReferenceOddInIdeal.τ).loc Cert.ReferenceOddInIdeal.main_arg2)
      ∧ r.2.mem ((c.tc : Thread Cert.ReferenceOddInIdeal.nD Cert.ReferenceOddInIdeal.τ).loc Cert.ReferenceOddInIdeal.main_arg3) = m ((c.tc : Thread Cert.ReferenceOddInIdeal.nD Cert.ReferenceOddInIdeal.τ).loc Cert.ReferenceOddInIdeal.main_arg3))
      ∧ r.2.sem = fun _ => 0)

def quiescent_OddInBwd [hOddInBwd : Cert.OddInBwd.Facts] : Prop :=
  ∀ (m : (ℓ : Loc Cert.OddInBwd.nD Cert.OddInBwd.τ Cert.OddInBwd.sig) → Buf (Elt Bits) ℓ) (g : Dev Cert.OddInBwd.nD → PrngReg), Pre_OddInBwd m →
    θ_run (Cert.OddInBwd.defs (F := Bits)) (onTc (τ := Cert.OddInBwd.τ) (Cert.OddInBwd.main (F := Bits))) ⟨m, fun _ => 0, g⟩ (fun r => (∀ c : Dev Cert.OddInBwd.nD,
      r.2.mem ((c.tc : Thread Cert.OddInBwd.nD Cert.OddInBwd.τ).loc Cert.OddInBwd.main_arg0) = m ((c.tc : Thread Cert.OddInBwd.nD Cert.OddInBwd.τ).loc Cert.OddInBwd.main_arg0)
      ∧ r.2.mem ((c.tc : Thread Cert.OddInBwd.nD Cert.OddInBwd.τ).loc Cert.OddInBwd.main_arg1) = m ((c.tc : Thread Cert.OddInBwd.nD Cert.OddInBwd.τ).loc Cert.OddInBwd.main_arg1)
      ∧ r.2.mem ((c.tc : Thread Cert.OddInBwd.nD Cert.OddInBwd.τ).loc Cert.OddInBwd.main_arg2) = m ((c.tc : Thread Cert.OddInBwd.nD Cert.OddInBwd.τ).loc Cert.OddInBwd.main_arg2)
      ∧ r.2.mem ((c.tc : Thread Cert.OddInBwd.nD Cert.OddInBwd.τ).loc Cert.OddInBwd.main_arg3) = m ((c.tc : Thread Cert.OddInBwd.nD Cert.OddInBwd.τ).loc Cert.OddInBwd.main_arg3)
      ∧ r.2.mem ((c.tc : Thread Cert.OddInBwd.nD Cert.OddInBwd.τ).loc Cert.OddInBwd.main_arg4) = m ((c.tc : Thread Cert.OddInBwd.nD Cert.OddInBwd.τ).loc Cert.OddInBwd.main_arg4)
      ∧ r.2.mem ((c.tc : Thread Cert.OddInBwd.nD Cert.OddInBwd.τ).loc Cert.OddInBwd.main_arg5) = m ((c.tc : Thread Cert.OddInBwd.nD Cert.OddInBwd.τ).loc Cert.OddInBwd.main_arg5)
      ∧ r.2.mem ((c.tc : Thread Cert.OddInBwd.nD Cert.OddInBwd.τ).loc Cert.OddInBwd.main_arg6) = m ((c.tc : Thread Cert.OddInBwd.nD Cert.OddInBwd.τ).loc Cert.OddInBwd.main_arg6))
      ∧ r.2.sem = fun _ => 0)

def quiescent_OddInBwdIdeal [hOddInBwdIdeal : Cert.OddInBwdIdeal.Facts] : Prop :=
  ∀ (m : (ℓ : Loc Cert.OddInBwdIdeal.nD Cert.OddInBwdIdeal.τ Cert.OddInBwdIdeal.sig) → Buf (Elt Ideal) ℓ) (g : Dev Cert.OddInBwdIdeal.nD → PrngReg), Pre_OddInBwdIdeal m →
    θ_run (Cert.OddInBwdIdeal.defs (F := Ideal)) (onTc (τ := Cert.OddInBwdIdeal.τ) (Cert.OddInBwdIdeal.main (F := Ideal))) ⟨m, fun _ => 0, g⟩ (fun r => (∀ c : Dev Cert.OddInBwdIdeal.nD,
      r.2.mem ((c.tc : Thread Cert.OddInBwdIdeal.nD Cert.OddInBwdIdeal.τ).loc Cert.OddInBwdIdeal.main_arg0) = m ((c.tc : Thread Cert.OddInBwdIdeal.nD Cert.OddInBwdIdeal.τ).loc Cert.OddInBwdIdeal.main_arg0)
      ∧ r.2.mem ((c.tc : Thread Cert.OddInBwdIdeal.nD Cert.OddInBwdIdeal.τ).loc Cert.OddInBwdIdeal.main_arg1) = m ((c.tc : Thread Cert.OddInBwdIdeal.nD Cert.OddInBwdIdeal.τ).loc Cert.OddInBwdIdeal.main_arg1)
      ∧ r.2.mem ((c.tc : Thread Cert.OddInBwdIdeal.nD Cert.OddInBwdIdeal.τ).loc Cert.OddInBwdIdeal.main_arg2) = m ((c.tc : Thread Cert.OddInBwdIdeal.nD Cert.OddInBwdIdeal.τ).loc Cert.OddInBwdIdeal.main_arg2)
      ∧ r.2.mem ((c.tc : Thread Cert.OddInBwdIdeal.nD Cert.OddInBwdIdeal.τ).loc Cert.OddInBwdIdeal.main_arg3) = m ((c.tc : Thread Cert.OddInBwdIdeal.nD Cert.OddInBwdIdeal.τ).loc Cert.OddInBwdIdeal.main_arg3)
      ∧ r.2.mem ((c.tc : Thread Cert.OddInBwdIdeal.nD Cert.OddInBwdIdeal.τ).loc Cert.OddInBwdIdeal.main_arg4) = m ((c.tc : Thread Cert.OddInBwdIdeal.nD Cert.OddInBwdIdeal.τ).loc Cert.OddInBwdIdeal.main_arg4)
      ∧ r.2.mem ((c.tc : Thread Cert.OddInBwdIdeal.nD Cert.OddInBwdIdeal.τ).loc Cert.OddInBwdIdeal.main_arg5) = m ((c.tc : Thread Cert.OddInBwdIdeal.nD Cert.OddInBwdIdeal.τ).loc Cert.OddInBwdIdeal.main_arg5)
      ∧ r.2.mem ((c.tc : Thread Cert.OddInBwdIdeal.nD Cert.OddInBwdIdeal.τ).loc Cert.OddInBwdIdeal.main_arg6) = m ((c.tc : Thread Cert.OddInBwdIdeal.nD Cert.OddInBwdIdeal.τ).loc Cert.OddInBwdIdeal.main_arg6))
      ∧ r.2.sem = fun _ => 0)

def quiescent_ReferenceOddInBwdIdeal [hReferenceOddInBwdIdeal : Cert.ReferenceOddInBwdIdeal.Facts] : Prop :=
  ∀ (m : (ℓ : Loc Cert.ReferenceOddInBwdIdeal.nD Cert.ReferenceOddInBwdIdeal.τ Cert.ReferenceOddInBwdIdeal.sig) → Buf (Elt Ideal) ℓ) (g : Dev Cert.ReferenceOddInBwdIdeal.nD → PrngReg), Pre_ReferenceOddInBwdIdeal m →
    θ_run (Cert.ReferenceOddInBwdIdeal.defs (F := Ideal)) (onTc (τ := Cert.ReferenceOddInBwdIdeal.τ) (Cert.ReferenceOddInBwdIdeal.main (F := Ideal))) ⟨m, fun _ => 0, g⟩ (fun r => (∀ c : Dev Cert.ReferenceOddInBwdIdeal.nD,
      r.2.mem ((c.tc : Thread Cert.ReferenceOddInBwdIdeal.nD Cert.ReferenceOddInBwdIdeal.τ).loc Cert.ReferenceOddInBwdIdeal.main_arg0) = m ((c.tc : Thread Cert.ReferenceOddInBwdIdeal.nD Cert.ReferenceOddInBwdIdeal.τ).loc Cert.ReferenceOddInBwdIdeal.main_arg0)
      ∧ r.2.mem ((c.tc : Thread Cert.ReferenceOddInBwdIdeal.nD Cert.ReferenceOddInBwdIdeal.τ).loc Cert.ReferenceOddInBwdIdeal.main_arg1) = m ((c.tc : Thread Cert.ReferenceOddInBwdIdeal.nD Cert.ReferenceOddInBwdIdeal.τ).loc Cert.ReferenceOddInBwdIdeal.main_arg1)
      ∧ r.2.mem ((c.tc : Thread Cert.ReferenceOddInBwdIdeal.nD Cert.ReferenceOddInBwdIdeal.τ).loc Cert.ReferenceOddInBwdIdeal.main_arg2) = m ((c.tc : Thread Cert.ReferenceOddInBwdIdeal.nD Cert.ReferenceOddInBwdIdeal.τ).loc Cert.ReferenceOddInBwdIdeal.main_arg2)
      ∧ r.2.mem ((c.tc : Thread Cert.ReferenceOddInBwdIdeal.nD Cert.ReferenceOddInBwdIdeal.τ).loc Cert.ReferenceOddInBwdIdeal.main_arg3) = m ((c.tc : Thread Cert.ReferenceOddInBwdIdeal.nD Cert.ReferenceOddInBwdIdeal.τ).loc Cert.ReferenceOddInBwdIdeal.main_arg3)
      ∧ r.2.mem ((c.tc : Thread Cert.ReferenceOddInBwdIdeal.nD Cert.ReferenceOddInBwdIdeal.τ).loc Cert.ReferenceOddInBwdIdeal.main_arg4) = m ((c.tc : Thread Cert.ReferenceOddInBwdIdeal.nD Cert.ReferenceOddInBwdIdeal.τ).loc Cert.ReferenceOddInBwdIdeal.main_arg4)
      ∧ r.2.mem ((c.tc : Thread Cert.ReferenceOddInBwdIdeal.nD Cert.ReferenceOddInBwdIdeal.τ).loc Cert.ReferenceOddInBwdIdeal.main_arg5) = m ((c.tc : Thread Cert.ReferenceOddInBwdIdeal.nD Cert.ReferenceOddInBwdIdeal.τ).loc Cert.ReferenceOddInBwdIdeal.main_arg5)
      ∧ r.2.mem ((c.tc : Thread Cert.ReferenceOddInBwdIdeal.nD Cert.ReferenceOddInBwdIdeal.τ).loc Cert.ReferenceOddInBwdIdeal.main_arg6) = m ((c.tc : Thread Cert.ReferenceOddInBwdIdeal.nD Cert.ReferenceOddInBwdIdeal.τ).loc Cert.ReferenceOddInBwdIdeal.main_arg6))
      ∧ r.2.sem = fun _ => 0)

def quiescent_FfnUpBwd [hFfnUpBwd : Cert.FfnUpBwd.Facts] : Prop :=
  ∀ (m : (ℓ : Loc Cert.FfnUpBwd.nD Cert.FfnUpBwd.τ Cert.FfnUpBwd.sig) → Buf (Elt Bits) ℓ) (g : Dev Cert.FfnUpBwd.nD → PrngReg), Pre_FfnUpBwd m →
    θ_run (Cert.FfnUpBwd.defs (F := Bits)) (onTc (τ := Cert.FfnUpBwd.τ) (Cert.FfnUpBwd.main (F := Bits))) ⟨m, fun _ => 0, g⟩ (fun r => (∀ c : Dev Cert.FfnUpBwd.nD,
      r.2.mem ((c.tc : Thread Cert.FfnUpBwd.nD Cert.FfnUpBwd.τ).loc Cert.FfnUpBwd.main_arg0) = m ((c.tc : Thread Cert.FfnUpBwd.nD Cert.FfnUpBwd.τ).loc Cert.FfnUpBwd.main_arg0)
      ∧ r.2.mem ((c.tc : Thread Cert.FfnUpBwd.nD Cert.FfnUpBwd.τ).loc Cert.FfnUpBwd.main_arg1) = m ((c.tc : Thread Cert.FfnUpBwd.nD Cert.FfnUpBwd.τ).loc Cert.FfnUpBwd.main_arg1)
      ∧ r.2.mem ((c.tc : Thread Cert.FfnUpBwd.nD Cert.FfnUpBwd.τ).loc Cert.FfnUpBwd.main_arg2) = m ((c.tc : Thread Cert.FfnUpBwd.nD Cert.FfnUpBwd.τ).loc Cert.FfnUpBwd.main_arg2)
      ∧ r.2.mem ((c.tc : Thread Cert.FfnUpBwd.nD Cert.FfnUpBwd.τ).loc Cert.FfnUpBwd.main_arg3) = m ((c.tc : Thread Cert.FfnUpBwd.nD Cert.FfnUpBwd.τ).loc Cert.FfnUpBwd.main_arg3)
      ∧ r.2.mem ((c.tc : Thread Cert.FfnUpBwd.nD Cert.FfnUpBwd.τ).loc Cert.FfnUpBwd.main_arg4) = m ((c.tc : Thread Cert.FfnUpBwd.nD Cert.FfnUpBwd.τ).loc Cert.FfnUpBwd.main_arg4)
      ∧ r.2.mem ((c.tc : Thread Cert.FfnUpBwd.nD Cert.FfnUpBwd.τ).loc Cert.FfnUpBwd.main_arg5) = m ((c.tc : Thread Cert.FfnUpBwd.nD Cert.FfnUpBwd.τ).loc Cert.FfnUpBwd.main_arg5))
      ∧ r.2.sem = fun _ => 0)

def quiescent_FfnUpBwdIdeal [hFfnUpBwdIdeal : Cert.FfnUpBwdIdeal.Facts] : Prop :=
  ∀ (m : (ℓ : Loc Cert.FfnUpBwdIdeal.nD Cert.FfnUpBwdIdeal.τ Cert.FfnUpBwdIdeal.sig) → Buf (Elt Ideal) ℓ) (g : Dev Cert.FfnUpBwdIdeal.nD → PrngReg), Pre_FfnUpBwdIdeal m →
    θ_run (Cert.FfnUpBwdIdeal.defs (F := Ideal)) (onTc (τ := Cert.FfnUpBwdIdeal.τ) (Cert.FfnUpBwdIdeal.main (F := Ideal))) ⟨m, fun _ => 0, g⟩ (fun r => (∀ c : Dev Cert.FfnUpBwdIdeal.nD,
      r.2.mem ((c.tc : Thread Cert.FfnUpBwdIdeal.nD Cert.FfnUpBwdIdeal.τ).loc Cert.FfnUpBwdIdeal.main_arg0) = m ((c.tc : Thread Cert.FfnUpBwdIdeal.nD Cert.FfnUpBwdIdeal.τ).loc Cert.FfnUpBwdIdeal.main_arg0)
      ∧ r.2.mem ((c.tc : Thread Cert.FfnUpBwdIdeal.nD Cert.FfnUpBwdIdeal.τ).loc Cert.FfnUpBwdIdeal.main_arg1) = m ((c.tc : Thread Cert.FfnUpBwdIdeal.nD Cert.FfnUpBwdIdeal.τ).loc Cert.FfnUpBwdIdeal.main_arg1)
      ∧ r.2.mem ((c.tc : Thread Cert.FfnUpBwdIdeal.nD Cert.FfnUpBwdIdeal.τ).loc Cert.FfnUpBwdIdeal.main_arg2) = m ((c.tc : Thread Cert.FfnUpBwdIdeal.nD Cert.FfnUpBwdIdeal.τ).loc Cert.FfnUpBwdIdeal.main_arg2)
      ∧ r.2.mem ((c.tc : Thread Cert.FfnUpBwdIdeal.nD Cert.FfnUpBwdIdeal.τ).loc Cert.FfnUpBwdIdeal.main_arg3) = m ((c.tc : Thread Cert.FfnUpBwdIdeal.nD Cert.FfnUpBwdIdeal.τ).loc Cert.FfnUpBwdIdeal.main_arg3)
      ∧ r.2.mem ((c.tc : Thread Cert.FfnUpBwdIdeal.nD Cert.FfnUpBwdIdeal.τ).loc Cert.FfnUpBwdIdeal.main_arg4) = m ((c.tc : Thread Cert.FfnUpBwdIdeal.nD Cert.FfnUpBwdIdeal.τ).loc Cert.FfnUpBwdIdeal.main_arg4)
      ∧ r.2.mem ((c.tc : Thread Cert.FfnUpBwdIdeal.nD Cert.FfnUpBwdIdeal.τ).loc Cert.FfnUpBwdIdeal.main_arg5) = m ((c.tc : Thread Cert.FfnUpBwdIdeal.nD Cert.FfnUpBwdIdeal.τ).loc Cert.FfnUpBwdIdeal.main_arg5))
      ∧ r.2.sem = fun _ => 0)

def quiescent_FfnUpBwdIdeal_pre_ffn_finite [hFfnUpBwdIdeal : Cert.FfnUpBwdIdeal.Facts] [hPre_ffn_finite : Cert.Pre_ffn_finite.Facts] : Prop :=
  ∀ (m : (ℓ : Loc Cert.FfnUpBwdIdeal.nD Cert.FfnUpBwdIdeal.τ Cert.FfnUpBwdIdeal.sig) → Buf (Elt Ideal) ℓ) (g : Dev Cert.FfnUpBwdIdeal.nD → PrngReg), Pre_FfnUpBwdIdeal_ffn_finite m →
    θ_run (Cert.FfnUpBwdIdeal.defs (F := Ideal)) (onTc (τ := Cert.FfnUpBwdIdeal.τ) (Cert.FfnUpBwdIdeal.main (F := Ideal))) ⟨m, fun _ => 0, g⟩ (fun r => (∀ c : Dev Cert.FfnUpBwdIdeal.nD,
      r.2.mem ((c.tc : Thread Cert.FfnUpBwdIdeal.nD Cert.FfnUpBwdIdeal.τ).loc Cert.FfnUpBwdIdeal.main_arg0) = m ((c.tc : Thread Cert.FfnUpBwdIdeal.nD Cert.FfnUpBwdIdeal.τ).loc Cert.FfnUpBwdIdeal.main_arg0)
      ∧ r.2.mem ((c.tc : Thread Cert.FfnUpBwdIdeal.nD Cert.FfnUpBwdIdeal.τ).loc Cert.FfnUpBwdIdeal.main_arg1) = m ((c.tc : Thread Cert.FfnUpBwdIdeal.nD Cert.FfnUpBwdIdeal.τ).loc Cert.FfnUpBwdIdeal.main_arg1)
      ∧ r.2.mem ((c.tc : Thread Cert.FfnUpBwdIdeal.nD Cert.FfnUpBwdIdeal.τ).loc Cert.FfnUpBwdIdeal.main_arg2) = m ((c.tc : Thread Cert.FfnUpBwdIdeal.nD Cert.FfnUpBwdIdeal.τ).loc Cert.FfnUpBwdIdeal.main_arg2)
      ∧ r.2.mem ((c.tc : Thread Cert.FfnUpBwdIdeal.nD Cert.FfnUpBwdIdeal.τ).loc Cert.FfnUpBwdIdeal.main_arg3) = m ((c.tc : Thread Cert.FfnUpBwdIdeal.nD Cert.FfnUpBwdIdeal.τ).loc Cert.FfnUpBwdIdeal.main_arg3)
      ∧ r.2.mem ((c.tc : Thread Cert.FfnUpBwdIdeal.nD Cert.FfnUpBwdIdeal.τ).loc Cert.FfnUpBwdIdeal.main_arg4) = m ((c.tc : Thread Cert.FfnUpBwdIdeal.nD Cert.FfnUpBwdIdeal.τ).loc Cert.FfnUpBwdIdeal.main_arg4)
      ∧ r.2.mem ((c.tc : Thread Cert.FfnUpBwdIdeal.nD Cert.FfnUpBwdIdeal.τ).loc Cert.FfnUpBwdIdeal.main_arg5) = m ((c.tc : Thread Cert.FfnUpBwdIdeal.nD Cert.FfnUpBwdIdeal.τ).loc Cert.FfnUpBwdIdeal.main_arg5))
      ∧ r.2.sem = fun _ => 0)

def quiescent_ReferenceFfnUpBwdIdeal [hReferenceFfnUpBwdIdeal : Cert.ReferenceFfnUpBwdIdeal.Facts] : Prop :=
  ∀ (m : (ℓ : Loc Cert.ReferenceFfnUpBwdIdeal.nD Cert.ReferenceFfnUpBwdIdeal.τ Cert.ReferenceFfnUpBwdIdeal.sig) → Buf (Elt Ideal) ℓ) (g : Dev Cert.ReferenceFfnUpBwdIdeal.nD → PrngReg), Pre_ReferenceFfnUpBwdIdeal m →
    θ_run (Cert.ReferenceFfnUpBwdIdeal.defs (F := Ideal)) (onTc (τ := Cert.ReferenceFfnUpBwdIdeal.τ) (Cert.ReferenceFfnUpBwdIdeal.main (F := Ideal))) ⟨m, fun _ => 0, g⟩ (fun r => (∀ c : Dev Cert.ReferenceFfnUpBwdIdeal.nD,
      r.2.mem ((c.tc : Thread Cert.ReferenceFfnUpBwdIdeal.nD Cert.ReferenceFfnUpBwdIdeal.τ).loc Cert.ReferenceFfnUpBwdIdeal.main_arg0) = m ((c.tc : Thread Cert.ReferenceFfnUpBwdIdeal.nD Cert.ReferenceFfnUpBwdIdeal.τ).loc Cert.ReferenceFfnUpBwdIdeal.main_arg0)
      ∧ r.2.mem ((c.tc : Thread Cert.ReferenceFfnUpBwdIdeal.nD Cert.ReferenceFfnUpBwdIdeal.τ).loc Cert.ReferenceFfnUpBwdIdeal.main_arg1) = m ((c.tc : Thread Cert.ReferenceFfnUpBwdIdeal.nD Cert.ReferenceFfnUpBwdIdeal.τ).loc Cert.ReferenceFfnUpBwdIdeal.main_arg1)
      ∧ r.2.mem ((c.tc : Thread Cert.ReferenceFfnUpBwdIdeal.nD Cert.ReferenceFfnUpBwdIdeal.τ).loc Cert.ReferenceFfnUpBwdIdeal.main_arg2) = m ((c.tc : Thread Cert.ReferenceFfnUpBwdIdeal.nD Cert.ReferenceFfnUpBwdIdeal.τ).loc Cert.ReferenceFfnUpBwdIdeal.main_arg2)
      ∧ r.2.mem ((c.tc : Thread Cert.ReferenceFfnUpBwdIdeal.nD Cert.ReferenceFfnUpBwdIdeal.τ).loc Cert.ReferenceFfnUpBwdIdeal.main_arg3) = m ((c.tc : Thread Cert.ReferenceFfnUpBwdIdeal.nD Cert.ReferenceFfnUpBwdIdeal.τ).loc Cert.ReferenceFfnUpBwdIdeal.main_arg3)
      ∧ r.2.mem ((c.tc : Thread Cert.ReferenceFfnUpBwdIdeal.nD Cert.ReferenceFfnUpBwdIdeal.τ).loc Cert.ReferenceFfnUpBwdIdeal.main_arg4) = m ((c.tc : Thread Cert.ReferenceFfnUpBwdIdeal.nD Cert.ReferenceFfnUpBwdIdeal.τ).loc Cert.ReferenceFfnUpBwdIdeal.main_arg4)
      ∧ r.2.mem ((c.tc : Thread Cert.ReferenceFfnUpBwdIdeal.nD Cert.ReferenceFfnUpBwdIdeal.τ).loc Cert.ReferenceFfnUpBwdIdeal.main_arg5) = m ((c.tc : Thread Cert.ReferenceFfnUpBwdIdeal.nD Cert.ReferenceFfnUpBwdIdeal.τ).loc Cert.ReferenceFfnUpBwdIdeal.main_arg5))
      ∧ r.2.sem = fun _ => 0)

def quiescent_ReferenceFfnUpBwdIdeal_pre_ffn_finite [hReferenceFfnUpBwdIdeal : Cert.ReferenceFfnUpBwdIdeal.Facts] [hPre_ffn_finite : Cert.Pre_ffn_finite.Facts] : Prop :=
  ∀ (m : (ℓ : Loc Cert.ReferenceFfnUpBwdIdeal.nD Cert.ReferenceFfnUpBwdIdeal.τ Cert.ReferenceFfnUpBwdIdeal.sig) → Buf (Elt Ideal) ℓ) (g : Dev Cert.ReferenceFfnUpBwdIdeal.nD → PrngReg), Pre_ReferenceFfnUpBwdIdeal_ffn_finite m →
    θ_run (Cert.ReferenceFfnUpBwdIdeal.defs (F := Ideal)) (onTc (τ := Cert.ReferenceFfnUpBwdIdeal.τ) (Cert.ReferenceFfnUpBwdIdeal.main (F := Ideal))) ⟨m, fun _ => 0, g⟩ (fun r => (∀ c : Dev Cert.ReferenceFfnUpBwdIdeal.nD,
      r.2.mem ((c.tc : Thread Cert.ReferenceFfnUpBwdIdeal.nD Cert.ReferenceFfnUpBwdIdeal.τ).loc Cert.ReferenceFfnUpBwdIdeal.main_arg0) = m ((c.tc : Thread Cert.ReferenceFfnUpBwdIdeal.nD Cert.ReferenceFfnUpBwdIdeal.τ).loc Cert.ReferenceFfnUpBwdIdeal.main_arg0)
      ∧ r.2.mem ((c.tc : Thread Cert.ReferenceFfnUpBwdIdeal.nD Cert.ReferenceFfnUpBwdIdeal.τ).loc Cert.ReferenceFfnUpBwdIdeal.main_arg1) = m ((c.tc : Thread Cert.ReferenceFfnUpBwdIdeal.nD Cert.ReferenceFfnUpBwdIdeal.τ).loc Cert.ReferenceFfnUpBwdIdeal.main_arg1)
      ∧ r.2.mem ((c.tc : Thread Cert.ReferenceFfnUpBwdIdeal.nD Cert.ReferenceFfnUpBwdIdeal.τ).loc Cert.ReferenceFfnUpBwdIdeal.main_arg2) = m ((c.tc : Thread Cert.ReferenceFfnUpBwdIdeal.nD Cert.ReferenceFfnUpBwdIdeal.τ).loc Cert.ReferenceFfnUpBwdIdeal.main_arg2)
      ∧ r.2.mem ((c.tc : Thread Cert.ReferenceFfnUpBwdIdeal.nD Cert.ReferenceFfnUpBwdIdeal.τ).loc Cert.ReferenceFfnUpBwdIdeal.main_arg3) = m ((c.tc : Thread Cert.ReferenceFfnUpBwdIdeal.nD Cert.ReferenceFfnUpBwdIdeal.τ).loc Cert.ReferenceFfnUpBwdIdeal.main_arg3)
      ∧ r.2.mem ((c.tc : Thread Cert.ReferenceFfnUpBwdIdeal.nD Cert.ReferenceFfnUpBwdIdeal.τ).loc Cert.ReferenceFfnUpBwdIdeal.main_arg4) = m ((c.tc : Thread Cert.ReferenceFfnUpBwdIdeal.nD Cert.ReferenceFfnUpBwdIdeal.τ).loc Cert.ReferenceFfnUpBwdIdeal.main_arg4)
      ∧ r.2.mem ((c.tc : Thread Cert.ReferenceFfnUpBwdIdeal.nD Cert.ReferenceFfnUpBwdIdeal.τ).loc Cert.ReferenceFfnUpBwdIdeal.main_arg5) = m ((c.tc : Thread Cert.ReferenceFfnUpBwdIdeal.nD Cert.ReferenceFfnUpBwdIdeal.τ).loc Cert.ReferenceFfnUpBwdIdeal.main_arg5))
      ∧ r.2.sem = fun _ => 0)

def quiescent_FfnDownBwd [hFfnDownBwd : Cert.FfnDownBwd.Facts] : Prop :=
  ∀ (m : (ℓ : Loc Cert.FfnDownBwd.nD Cert.FfnDownBwd.τ Cert.FfnDownBwd.sig) → Buf (Elt Bits) ℓ) (g : Dev Cert.FfnDownBwd.nD → PrngReg), Pre_FfnDownBwd m →
    θ_run (Cert.FfnDownBwd.defs (F := Bits)) (onTc (τ := Cert.FfnDownBwd.τ) (Cert.FfnDownBwd.main (F := Bits))) ⟨m, fun _ => 0, g⟩ (fun r => (∀ c : Dev Cert.FfnDownBwd.nD,
      r.2.mem ((c.tc : Thread Cert.FfnDownBwd.nD Cert.FfnDownBwd.τ).loc Cert.FfnDownBwd.main_arg0) = m ((c.tc : Thread Cert.FfnDownBwd.nD Cert.FfnDownBwd.τ).loc Cert.FfnDownBwd.main_arg0)
      ∧ r.2.mem ((c.tc : Thread Cert.FfnDownBwd.nD Cert.FfnDownBwd.τ).loc Cert.FfnDownBwd.main_arg1) = m ((c.tc : Thread Cert.FfnDownBwd.nD Cert.FfnDownBwd.τ).loc Cert.FfnDownBwd.main_arg1)
      ∧ r.2.mem ((c.tc : Thread Cert.FfnDownBwd.nD Cert.FfnDownBwd.τ).loc Cert.FfnDownBwd.main_arg2) = m ((c.tc : Thread Cert.FfnDownBwd.nD Cert.FfnDownBwd.τ).loc Cert.FfnDownBwd.main_arg2)
      ∧ r.2.mem ((c.tc : Thread Cert.FfnDownBwd.nD Cert.FfnDownBwd.τ).loc Cert.FfnDownBwd.main_arg3) = m ((c.tc : Thread Cert.FfnDownBwd.nD Cert.FfnDownBwd.τ).loc Cert.FfnDownBwd.main_arg3)
      ∧ r.2.mem ((c.tc : Thread Cert.FfnDownBwd.nD Cert.FfnDownBwd.τ).loc Cert.FfnDownBwd.main_arg4) = m ((c.tc : Thread Cert.FfnDownBwd.nD Cert.FfnDownBwd.τ).loc Cert.FfnDownBwd.main_arg4)
      ∧ r.2.mem ((c.tc : Thread Cert.FfnDownBwd.nD Cert.FfnDownBwd.τ).loc Cert.FfnDownBwd.main_arg5) = m ((c.tc : Thread Cert.FfnDownBwd.nD Cert.FfnDownBwd.τ).loc Cert.FfnDownBwd.main_arg5)
      ∧ r.2.mem ((c.tc : Thread Cert.FfnDownBwd.nD Cert.FfnDownBwd.τ).loc Cert.FfnDownBwd.main_arg6) = m ((c.tc : Thread Cert.FfnDownBwd.nD Cert.FfnDownBwd.τ).loc Cert.FfnDownBwd.main_arg6))
      ∧ r.2.sem = fun _ => 0)

def quiescent_FfnDownBwdIdeal [hFfnDownBwdIdeal : Cert.FfnDownBwdIdeal.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg), Pre_FfnDownBwdIdeal m →
    θ_run (Cert.FfnDownBwdIdeal.defs (F := Ideal)) (onTc (τ := Cert.FfnDownBwdIdeal.τ) (Cert.FfnDownBwdIdeal.main (F := Ideal))) ⟨m, fun _ => 0, g⟩ (fun r => (∀ c : Dev Cert.FfnDownBwdIdeal.nD,
      r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
      ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1)
      ∧ r.2.mem ((c.tc : Thread Cert.FfnDownBwdIdeal.nD Cert.FfnDownBwdIdeal.τ).loc Cert.FfnDownBwdIdeal.main_arg2) = m ((c.tc : Thread Cert.FfnDownBwdIdeal.nD Cert.FfnDownBwdIdeal.τ).loc Cert.FfnDownBwdIdeal.main_arg2)
      ∧ r.2.mem ((c.tc : Thread Cert.FfnDownBwdIdeal.nD Cert.FfnDownBwdIdeal.τ).loc Cert.FfnDownBwdIdeal.main_arg3) = m ((c.tc : Thread Cert.FfnDownBwdIdeal.nD Cert.FfnDownBwdIdeal.τ).loc Cert.FfnDownBwdIdeal.main_arg3)
      ∧ r.2.mem ((c.tc : Thread Cert.FfnDownBwdIdeal.nD Cert.FfnDownBwdIdeal.τ).loc Cert.FfnDownBwdIdeal.main_arg4) = m ((c.tc : Thread Cert.FfnDownBwdIdeal.nD Cert.FfnDownBwdIdeal.τ).loc Cert.FfnDownBwdIdeal.main_arg4)
      ∧ r.2.mem ((c.tc : Thread Cert.FfnDownBwdIdeal.nD Cert.FfnDownBwdIdeal.τ).loc Cert.FfnDownBwdIdeal.main_arg5) = m ((c.tc : Thread Cert.FfnDownBwdIdeal.nD Cert.FfnDownBwdIdeal.τ).loc Cert.FfnDownBwdIdeal.main_arg5)
      ∧ r.2.mem ((c.tc : Thread Cert.FfnDownBwdIdeal.nD Cert.FfnDownBwdIdeal.τ).loc Cert.FfnDownBwdIdeal.main_arg6) = m ((c.tc : Thread Cert.FfnDownBwdIdeal.nD Cert.FfnDownBwdIdeal.τ).loc Cert.FfnDownBwdIdeal.main_arg6))
      ∧ r.2.sem = fun _ => 0)

def quiescent_FfnDownBwdIdeal_pre_norm_finite [hFfnDownBwdIdeal : Cert.FfnDownBwdIdeal.Facts] [hPre_norm_finite : Cert.Pre_norm_finite.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg), Pre_FfnDownBwdIdeal_norm_finite m →
    θ_run (Cert.FfnDownBwdIdeal.defs (F := Ideal)) (onTc (τ := Cert.FfnDownBwdIdeal.τ) (Cert.FfnDownBwdIdeal.main (F := Ideal))) ⟨m, fun _ => 0, g⟩ (fun r => (∀ c : Dev Cert.FfnDownBwdIdeal.nD,
      r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
      ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1)
      ∧ r.2.mem ((c.tc : Thread Cert.FfnDownBwdIdeal.nD Cert.FfnDownBwdIdeal.τ).loc Cert.FfnDownBwdIdeal.main_arg2) = m ((c.tc : Thread Cert.FfnDownBwdIdeal.nD Cert.FfnDownBwdIdeal.τ).loc Cert.FfnDownBwdIdeal.main_arg2)
      ∧ r.2.mem ((c.tc : Thread Cert.FfnDownBwdIdeal.nD Cert.FfnDownBwdIdeal.τ).loc Cert.FfnDownBwdIdeal.main_arg3) = m ((c.tc : Thread Cert.FfnDownBwdIdeal.nD Cert.FfnDownBwdIdeal.τ).loc Cert.FfnDownBwdIdeal.main_arg3)
      ∧ r.2.mem ((c.tc : Thread Cert.FfnDownBwdIdeal.nD Cert.FfnDownBwdIdeal.τ).loc Cert.FfnDownBwdIdeal.main_arg4) = m ((c.tc : Thread Cert.FfnDownBwdIdeal.nD Cert.FfnDownBwdIdeal.τ).loc Cert.FfnDownBwdIdeal.main_arg4)
      ∧ r.2.mem ((c.tc : Thread Cert.FfnDownBwdIdeal.nD Cert.FfnDownBwdIdeal.τ).loc Cert.FfnDownBwdIdeal.main_arg5) = m ((c.tc : Thread Cert.FfnDownBwdIdeal.nD Cert.FfnDownBwdIdeal.τ).loc Cert.FfnDownBwdIdeal.main_arg5)
      ∧ r.2.mem ((c.tc : Thread Cert.FfnDownBwdIdeal.nD Cert.FfnDownBwdIdeal.τ).loc Cert.FfnDownBwdIdeal.main_arg6) = m ((c.tc : Thread Cert.FfnDownBwdIdeal.nD Cert.FfnDownBwdIdeal.τ).loc Cert.FfnDownBwdIdeal.main_arg6))
      ∧ r.2.sem = fun _ => 0)

def quiescent_ReferenceFfnDownBwdIdeal [hReferenceFfnDownBwdIdeal : Cert.ReferenceFfnDownBwdIdeal.Facts] : Prop :=
  ∀ (m : (ℓ : Loc Cert.ReferenceFfnDownBwdIdeal.nD Cert.ReferenceFfnDownBwdIdeal.τ Cert.ReferenceFfnDownBwdIdeal.sig) → Buf (Elt Ideal) ℓ) (g : Dev Cert.ReferenceFfnDownBwdIdeal.nD → PrngReg), Pre_ReferenceFfnDownBwdIdeal m →
    θ_run (Cert.ReferenceFfnDownBwdIdeal.defs (F := Ideal)) (onTc (τ := Cert.ReferenceFfnDownBwdIdeal.τ) (Cert.ReferenceFfnDownBwdIdeal.main (F := Ideal))) ⟨m, fun _ => 0, g⟩ (fun r => (∀ c : Dev Cert.ReferenceFfnDownBwdIdeal.nD,
      r.2.mem ((c.tc : Thread Cert.ReferenceFfnDownBwdIdeal.nD Cert.ReferenceFfnDownBwdIdeal.τ).loc Cert.ReferenceFfnDownBwdIdeal.main_arg0) = m ((c.tc : Thread Cert.ReferenceFfnDownBwdIdeal.nD Cert.ReferenceFfnDownBwdIdeal.τ).loc Cert.ReferenceFfnDownBwdIdeal.main_arg0)
      ∧ r.2.mem ((c.tc : Thread Cert.ReferenceFfnDownBwdIdeal.nD Cert.ReferenceFfnDownBwdIdeal.τ).loc Cert.ReferenceFfnDownBwdIdeal.main_arg1) = m ((c.tc : Thread Cert.ReferenceFfnDownBwdIdeal.nD Cert.ReferenceFfnDownBwdIdeal.τ).loc Cert.ReferenceFfnDownBwdIdeal.main_arg1)
      ∧ r.2.mem ((c.tc : Thread Cert.ReferenceFfnDownBwdIdeal.nD Cert.ReferenceFfnDownBwdIdeal.τ).loc Cert.ReferenceFfnDownBwdIdeal.main_arg2) = m ((c.tc : Thread Cert.ReferenceFfnDownBwdIdeal.nD Cert.ReferenceFfnDownBwdIdeal.τ).loc Cert.ReferenceFfnDownBwdIdeal.main_arg2)
      ∧ r.2.mem ((c.tc : Thread Cert.ReferenceFfnDownBwdIdeal.nD Cert.ReferenceFfnDownBwdIdeal.τ).loc Cert.ReferenceFfnDownBwdIdeal.main_arg3) = m ((c.tc : Thread Cert.ReferenceFfnDownBwdIdeal.nD Cert.ReferenceFfnDownBwdIdeal.τ).loc Cert.ReferenceFfnDownBwdIdeal.main_arg3)
      ∧ r.2.mem ((c.tc : Thread Cert.ReferenceFfnDownBwdIdeal.nD Cert.ReferenceFfnDownBwdIdeal.τ).loc Cert.ReferenceFfnDownBwdIdeal.main_arg4) = m ((c.tc : Thread Cert.ReferenceFfnDownBwdIdeal.nD Cert.ReferenceFfnDownBwdIdeal.τ).loc Cert.ReferenceFfnDownBwdIdeal.main_arg4)
      ∧ r.2.mem ((c.tc : Thread Cert.ReferenceFfnDownBwdIdeal.nD Cert.ReferenceFfnDownBwdIdeal.τ).loc Cert.ReferenceFfnDownBwdIdeal.main_arg5) = m ((c.tc : Thread Cert.ReferenceFfnDownBwdIdeal.nD Cert.ReferenceFfnDownBwdIdeal.τ).loc Cert.ReferenceFfnDownBwdIdeal.main_arg5)
      ∧ r.2.mem ((c.tc : Thread Cert.ReferenceFfnDownBwdIdeal.nD Cert.ReferenceFfnDownBwdIdeal.τ).loc Cert.ReferenceFfnDownBwdIdeal.main_arg6) = m ((c.tc : Thread Cert.ReferenceFfnDownBwdIdeal.nD Cert.ReferenceFfnDownBwdIdeal.τ).loc Cert.ReferenceFfnDownBwdIdeal.main_arg6))
      ∧ r.2.sem = fun _ => 0)

def quiescent_ReferenceFfnDownBwdIdeal_pre_norm_finite [hReferenceFfnDownBwdIdeal : Cert.ReferenceFfnDownBwdIdeal.Facts] [hPre_norm_finite : Cert.Pre_norm_finite.Facts] : Prop :=
  ∀ (m : (ℓ : Loc Cert.ReferenceFfnDownBwdIdeal.nD Cert.ReferenceFfnDownBwdIdeal.τ Cert.ReferenceFfnDownBwdIdeal.sig) → Buf (Elt Ideal) ℓ) (g : Dev Cert.ReferenceFfnDownBwdIdeal.nD → PrngReg), Pre_ReferenceFfnDownBwdIdeal_norm_finite m →
    θ_run (Cert.ReferenceFfnDownBwdIdeal.defs (F := Ideal)) (onTc (τ := Cert.ReferenceFfnDownBwdIdeal.τ) (Cert.ReferenceFfnDownBwdIdeal.main (F := Ideal))) ⟨m, fun _ => 0, g⟩ (fun r => (∀ c : Dev Cert.ReferenceFfnDownBwdIdeal.nD,
      r.2.mem ((c.tc : Thread Cert.ReferenceFfnDownBwdIdeal.nD Cert.ReferenceFfnDownBwdIdeal.τ).loc Cert.ReferenceFfnDownBwdIdeal.main_arg0) = m ((c.tc : Thread Cert.ReferenceFfnDownBwdIdeal.nD Cert.ReferenceFfnDownBwdIdeal.τ).loc Cert.ReferenceFfnDownBwdIdeal.main_arg0)
      ∧ r.2.mem ((c.tc : Thread Cert.ReferenceFfnDownBwdIdeal.nD Cert.ReferenceFfnDownBwdIdeal.τ).loc Cert.ReferenceFfnDownBwdIdeal.main_arg1) = m ((c.tc : Thread Cert.ReferenceFfnDownBwdIdeal.nD Cert.ReferenceFfnDownBwdIdeal.τ).loc Cert.ReferenceFfnDownBwdIdeal.main_arg1)
      ∧ r.2.mem ((c.tc : Thread Cert.ReferenceFfnDownBwdIdeal.nD Cert.ReferenceFfnDownBwdIdeal.τ).loc Cert.ReferenceFfnDownBwdIdeal.main_arg2) = m ((c.tc : Thread Cert.ReferenceFfnDownBwdIdeal.nD Cert.ReferenceFfnDownBwdIdeal.τ).loc Cert.ReferenceFfnDownBwdIdeal.main_arg2)
      ∧ r.2.mem ((c.tc : Thread Cert.ReferenceFfnDownBwdIdeal.nD Cert.ReferenceFfnDownBwdIdeal.τ).loc Cert.ReferenceFfnDownBwdIdeal.main_arg3) = m ((c.tc : Thread Cert.ReferenceFfnDownBwdIdeal.nD Cert.ReferenceFfnDownBwdIdeal.τ).loc Cert.ReferenceFfnDownBwdIdeal.main_arg3)
      ∧ r.2.mem ((c.tc : Thread Cert.ReferenceFfnDownBwdIdeal.nD Cert.ReferenceFfnDownBwdIdeal.τ).loc Cert.ReferenceFfnDownBwdIdeal.main_arg4) = m ((c.tc : Thread Cert.ReferenceFfnDownBwdIdeal.nD Cert.ReferenceFfnDownBwdIdeal.τ).loc Cert.ReferenceFfnDownBwdIdeal.main_arg4)
      ∧ r.2.mem ((c.tc : Thread Cert.ReferenceFfnDownBwdIdeal.nD Cert.ReferenceFfnDownBwdIdeal.τ).loc Cert.ReferenceFfnDownBwdIdeal.main_arg5) = m ((c.tc : Thread Cert.ReferenceFfnDownBwdIdeal.nD Cert.ReferenceFfnDownBwdIdeal.τ).loc Cert.ReferenceFfnDownBwdIdeal.main_arg5)
      ∧ r.2.mem ((c.tc : Thread Cert.ReferenceFfnDownBwdIdeal.nD Cert.ReferenceFfnDownBwdIdeal.τ).loc Cert.ReferenceFfnDownBwdIdeal.main_arg6) = m ((c.tc : Thread Cert.ReferenceFfnDownBwdIdeal.nD Cert.ReferenceFfnDownBwdIdeal.τ).loc Cert.ReferenceFfnDownBwdIdeal.main_arg6))
      ∧ r.2.sem = fun _ => 0)

def quiescent_EvIn [hEvIn : Cert.EvIn.Facts] : Prop :=
  ∀ (m : (ℓ : Loc Cert.EvIn.nD Cert.EvIn.τ Cert.EvIn.sig) → Buf (Elt Bits) ℓ) (g : Dev Cert.EvIn.nD → PrngReg), Pre_EvIn m →
    θ_run (Cert.EvIn.defs (F := Bits)) (onTc (τ := Cert.EvIn.τ) (Cert.EvIn.main (F := Bits))) ⟨m, fun _ => 0, g⟩ (fun r => (∀ c : Dev Cert.EvIn.nD,
      r.2.mem ((c.tc : Thread Cert.EvIn.nD Cert.EvIn.τ).loc Cert.EvIn.main_arg0) = m ((c.tc : Thread Cert.EvIn.nD Cert.EvIn.τ).loc Cert.EvIn.main_arg0)
      ∧ r.2.mem ((c.tc : Thread Cert.EvIn.nD Cert.EvIn.τ).loc Cert.EvIn.main_arg1) = m ((c.tc : Thread Cert.EvIn.nD Cert.EvIn.τ).loc Cert.EvIn.main_arg1)
      ∧ r.2.mem ((c.tc : Thread Cert.EvIn.nD Cert.EvIn.τ).loc Cert.EvIn.main_arg2) = m ((c.tc : Thread Cert.EvIn.nD Cert.EvIn.τ).loc Cert.EvIn.main_arg2)
      ∧ r.2.mem ((c.tc : Thread Cert.EvIn.nD Cert.EvIn.τ).loc Cert.EvIn.main_arg3) = m ((c.tc : Thread Cert.EvIn.nD Cert.EvIn.τ).loc Cert.EvIn.main_arg3))
      ∧ r.2.sem = fun _ => 0)

def quiescent_EvInIdeal [hEvInIdeal : Cert.EvInIdeal.Facts] : Prop :=
  ∀ (m : (ℓ : Loc Cert.EvInIdeal.nD Cert.EvInIdeal.τ Cert.EvInIdeal.sig) → Buf (Elt Ideal) ℓ) (g : Dev Cert.EvInIdeal.nD → PrngReg), Pre_EvInIdeal m →
    θ_run (Cert.EvInIdeal.defs (F := Ideal)) (onTc (τ := Cert.EvInIdeal.τ) (Cert.EvInIdeal.main (F := Ideal))) ⟨m, fun _ => 0, g⟩ (fun r => (∀ c : Dev Cert.EvInIdeal.nD,
      r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
      ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1)
      ∧ r.2.mem ((c.tc : Thread Cert.EvInIdeal.nD Cert.EvInIdeal.τ).loc Cert.EvInIdeal.main_arg2) = m ((c.tc : Thread Cert.EvInIdeal.nD Cert.EvInIdeal.τ).loc Cert.EvInIdeal.main_arg2)
      ∧ r.2.mem ((c.tc : Thread Cert.EvInIdeal.nD Cert.EvInIdeal.τ).loc Cert.EvInIdeal.main_arg3) = m ((c.tc : Thread Cert.EvInIdeal.nD Cert.EvInIdeal.τ).loc Cert.EvInIdeal.main_arg3))
      ∧ r.2.sem = fun _ => 0)

def quiescent_ReferenceEvInIdeal [hReferenceEvInIdeal : Cert.ReferenceEvInIdeal.Facts] : Prop :=
  ∀ (m : (ℓ : Loc Cert.ReferenceEvInIdeal.nD Cert.ReferenceEvInIdeal.τ Cert.ReferenceEvInIdeal.sig) → Buf (Elt Ideal) ℓ) (g : Dev Cert.ReferenceEvInIdeal.nD → PrngReg), Pre_ReferenceEvInIdeal m →
    θ_run (Cert.ReferenceEvInIdeal.defs (F := Ideal)) (onTc (τ := Cert.ReferenceEvInIdeal.τ) (Cert.ReferenceEvInIdeal.main (F := Ideal))) ⟨m, fun _ => 0, g⟩ (fun r => (∀ c : Dev Cert.ReferenceEvInIdeal.nD,
      r.2.mem ((c.tc : Thread Cert.ReferenceEvInIdeal.nD Cert.ReferenceEvInIdeal.τ).loc Cert.ReferenceEvInIdeal.main_arg0) = m ((c.tc : Thread Cert.ReferenceEvInIdeal.nD Cert.ReferenceEvInIdeal.τ).loc Cert.ReferenceEvInIdeal.main_arg0)
      ∧ r.2.mem ((c.tc : Thread Cert.ReferenceEvInIdeal.nD Cert.ReferenceEvInIdeal.τ).loc Cert.ReferenceEvInIdeal.main_arg1) = m ((c.tc : Thread Cert.ReferenceEvInIdeal.nD Cert.ReferenceEvInIdeal.τ).loc Cert.ReferenceEvInIdeal.main_arg1)
      ∧ r.2.mem ((c.tc : Thread Cert.ReferenceEvInIdeal.nD Cert.ReferenceEvInIdeal.τ).loc Cert.ReferenceEvInIdeal.main_arg2) = m ((c.tc : Thread Cert.ReferenceEvInIdeal.nD Cert.ReferenceEvInIdeal.τ).loc Cert.ReferenceEvInIdeal.main_arg2)
      ∧ r.2.mem ((c.tc : Thread Cert.ReferenceEvInIdeal.nD Cert.ReferenceEvInIdeal.τ).loc Cert.ReferenceEvInIdeal.main_arg3) = m ((c.tc : Thread Cert.ReferenceEvInIdeal.nD Cert.ReferenceEvInIdeal.τ).loc Cert.ReferenceEvInIdeal.main_arg3))
      ∧ r.2.sem = fun _ => 0)

def quiescent_EvInBwd [hEvInBwd : Cert.EvInBwd.Facts] : Prop :=
  ∀ (m : (ℓ : Loc Cert.EvInBwd.nD Cert.EvInBwd.τ Cert.EvInBwd.sig) → Buf (Elt Bits) ℓ) (g : Dev Cert.EvInBwd.nD → PrngReg), Pre_EvInBwd m →
    θ_run (Cert.EvInBwd.defs (F := Bits)) (onTc (τ := Cert.EvInBwd.τ) (Cert.EvInBwd.main (F := Bits))) ⟨m, fun _ => 0, g⟩ (fun r => (∀ c : Dev Cert.EvInBwd.nD,
      r.2.mem ((c.tc : Thread Cert.EvInBwd.nD Cert.EvInBwd.τ).loc Cert.EvInBwd.main_arg0) = m ((c.tc : Thread Cert.EvInBwd.nD Cert.EvInBwd.τ).loc Cert.EvInBwd.main_arg0)
      ∧ r.2.mem ((c.tc : Thread Cert.EvInBwd.nD Cert.EvInBwd.τ).loc Cert.EvInBwd.main_arg1) = m ((c.tc : Thread Cert.EvInBwd.nD Cert.EvInBwd.τ).loc Cert.EvInBwd.main_arg1)
      ∧ r.2.mem ((c.tc : Thread Cert.EvInBwd.nD Cert.EvInBwd.τ).loc Cert.EvInBwd.main_arg2) = m ((c.tc : Thread Cert.EvInBwd.nD Cert.EvInBwd.τ).loc Cert.EvInBwd.main_arg2)
      ∧ r.2.mem ((c.tc : Thread Cert.EvInBwd.nD Cert.EvInBwd.τ).loc Cert.EvInBwd.main_arg3) = m ((c.tc : Thread Cert.EvInBwd.nD Cert.EvInBwd.τ).loc Cert.EvInBwd.main_arg3)
      ∧ r.2.mem ((c.tc : Thread Cert.EvInBwd.nD Cert.EvInBwd.τ).loc Cert.EvInBwd.main_arg4) = m ((c.tc : Thread Cert.EvInBwd.nD Cert.EvInBwd.τ).loc Cert.EvInBwd.main_arg4)
      ∧ r.2.mem ((c.tc : Thread Cert.EvInBwd.nD Cert.EvInBwd.τ).loc Cert.EvInBwd.main_arg5) = m ((c.tc : Thread Cert.EvInBwd.nD Cert.EvInBwd.τ).loc Cert.EvInBwd.main_arg5)
      ∧ r.2.mem ((c.tc : Thread Cert.EvInBwd.nD Cert.EvInBwd.τ).loc Cert.EvInBwd.main_arg6) = m ((c.tc : Thread Cert.EvInBwd.nD Cert.EvInBwd.τ).loc Cert.EvInBwd.main_arg6)
      ∧ r.2.mem ((c.tc : Thread Cert.EvInBwd.nD Cert.EvInBwd.τ).loc Cert.EvInBwd.main_arg7) = m ((c.tc : Thread Cert.EvInBwd.nD Cert.EvInBwd.τ).loc Cert.EvInBwd.main_arg7))
      ∧ r.2.sem = fun _ => 0)

def quiescent_EvInBwdIdeal [hEvInBwdIdeal : Cert.EvInBwdIdeal.Facts] : Prop :=
  ∀ (m : (ℓ : Loc Cert.EvInBwdIdeal.nD Cert.EvInBwdIdeal.τ Cert.EvInBwdIdeal.sig) → Buf (Elt Ideal) ℓ) (g : Dev Cert.EvInBwdIdeal.nD → PrngReg), Pre_EvInBwdIdeal m →
    θ_run (Cert.EvInBwdIdeal.defs (F := Ideal)) (onTc (τ := Cert.EvInBwdIdeal.τ) (Cert.EvInBwdIdeal.main (F := Ideal))) ⟨m, fun _ => 0, g⟩ (fun r => (∀ c : Dev Cert.EvInBwdIdeal.nD,
      r.2.mem ((c.tc : Thread Cert.EvInBwdIdeal.nD Cert.EvInBwdIdeal.τ).loc Cert.EvInBwdIdeal.main_arg0) = m ((c.tc : Thread Cert.EvInBwdIdeal.nD Cert.EvInBwdIdeal.τ).loc Cert.EvInBwdIdeal.main_arg0)
      ∧ r.2.mem ((c.tc : Thread Cert.EvInBwdIdeal.nD Cert.EvInBwdIdeal.τ).loc Cert.EvInBwdIdeal.main_arg1) = m ((c.tc : Thread Cert.EvInBwdIdeal.nD Cert.EvInBwdIdeal.τ).loc Cert.EvInBwdIdeal.main_arg1)
      ∧ r.2.mem ((c.tc : Thread Cert.EvInBwdIdeal.nD Cert.EvInBwdIdeal.τ).loc Cert.EvInBwdIdeal.main_arg2) = m ((c.tc : Thread Cert.EvInBwdIdeal.nD Cert.EvInBwdIdeal.τ).loc Cert.EvInBwdIdeal.main_arg2)
      ∧ r.2.mem ((c.tc : Thread Cert.EvInBwdIdeal.nD Cert.EvInBwdIdeal.τ).loc Cert.EvInBwdIdeal.main_arg3) = m ((c.tc : Thread Cert.EvInBwdIdeal.nD Cert.EvInBwdIdeal.τ).loc Cert.EvInBwdIdeal.main_arg3)
      ∧ r.2.mem ((c.tc : Thread Cert.EvInBwdIdeal.nD Cert.EvInBwdIdeal.τ).loc Cert.EvInBwdIdeal.main_arg4) = m ((c.tc : Thread Cert.EvInBwdIdeal.nD Cert.EvInBwdIdeal.τ).loc Cert.EvInBwdIdeal.main_arg4)
      ∧ r.2.mem ((c.tc : Thread Cert.EvInBwdIdeal.nD Cert.EvInBwdIdeal.τ).loc Cert.EvInBwdIdeal.main_arg5) = m ((c.tc : Thread Cert.EvInBwdIdeal.nD Cert.EvInBwdIdeal.τ).loc Cert.EvInBwdIdeal.main_arg5)
      ∧ r.2.mem ((c.tc : Thread Cert.EvInBwdIdeal.nD Cert.EvInBwdIdeal.τ).loc Cert.EvInBwdIdeal.main_arg6) = m ((c.tc : Thread Cert.EvInBwdIdeal.nD Cert.EvInBwdIdeal.τ).loc Cert.EvInBwdIdeal.main_arg6)
      ∧ r.2.mem ((c.tc : Thread Cert.EvInBwdIdeal.nD Cert.EvInBwdIdeal.τ).loc Cert.EvInBwdIdeal.main_arg7) = m ((c.tc : Thread Cert.EvInBwdIdeal.nD Cert.EvInBwdIdeal.τ).loc Cert.EvInBwdIdeal.main_arg7))
      ∧ r.2.sem = fun _ => 0)

def quiescent_ReferenceEvInBwdIdeal [hReferenceEvInBwdIdeal : Cert.ReferenceEvInBwdIdeal.Facts] : Prop :=
  ∀ (m : (ℓ : Loc Cert.ReferenceEvInBwdIdeal.nD Cert.ReferenceEvInBwdIdeal.τ Cert.ReferenceEvInBwdIdeal.sig) → Buf (Elt Ideal) ℓ) (g : Dev Cert.ReferenceEvInBwdIdeal.nD → PrngReg), Pre_ReferenceEvInBwdIdeal m →
    θ_run (Cert.ReferenceEvInBwdIdeal.defs (F := Ideal)) (onTc (τ := Cert.ReferenceEvInBwdIdeal.τ) (Cert.ReferenceEvInBwdIdeal.main (F := Ideal))) ⟨m, fun _ => 0, g⟩ (fun r => (∀ c : Dev Cert.ReferenceEvInBwdIdeal.nD,
      r.2.mem ((c.tc : Thread Cert.ReferenceEvInBwdIdeal.nD Cert.ReferenceEvInBwdIdeal.τ).loc Cert.ReferenceEvInBwdIdeal.main_arg0) = m ((c.tc : Thread Cert.ReferenceEvInBwdIdeal.nD Cert.ReferenceEvInBwdIdeal.τ).loc Cert.ReferenceEvInBwdIdeal.main_arg0)
      ∧ r.2.mem ((c.tc : Thread Cert.ReferenceEvInBwdIdeal.nD Cert.ReferenceEvInBwdIdeal.τ).loc Cert.ReferenceEvInBwdIdeal.main_arg1) = m ((c.tc : Thread Cert.ReferenceEvInBwdIdeal.nD Cert.ReferenceEvInBwdIdeal.τ).loc Cert.ReferenceEvInBwdIdeal.main_arg1)
      ∧ r.2.mem ((c.tc : Thread Cert.ReferenceEvInBwdIdeal.nD Cert.ReferenceEvInBwdIdeal.τ).loc Cert.ReferenceEvInBwdIdeal.main_arg2) = m ((c.tc : Thread Cert.ReferenceEvInBwdIdeal.nD Cert.ReferenceEvInBwdIdeal.τ).loc Cert.ReferenceEvInBwdIdeal.main_arg2)
      ∧ r.2.mem ((c.tc : Thread Cert.ReferenceEvInBwdIdeal.nD Cert.ReferenceEvInBwdIdeal.τ).loc Cert.ReferenceEvInBwdIdeal.main_arg3) = m ((c.tc : Thread Cert.ReferenceEvInBwdIdeal.nD Cert.ReferenceEvInBwdIdeal.τ).loc Cert.ReferenceEvInBwdIdeal.main_arg3)
      ∧ r.2.mem ((c.tc : Thread Cert.ReferenceEvInBwdIdeal.nD Cert.ReferenceEvInBwdIdeal.τ).loc Cert.ReferenceEvInBwdIdeal.main_arg4) = m ((c.tc : Thread Cert.ReferenceEvInBwdIdeal.nD Cert.ReferenceEvInBwdIdeal.τ).loc Cert.ReferenceEvInBwdIdeal.main_arg4)
      ∧ r.2.mem ((c.tc : Thread Cert.ReferenceEvInBwdIdeal.nD Cert.ReferenceEvInBwdIdeal.τ).loc Cert.ReferenceEvInBwdIdeal.main_arg5) = m ((c.tc : Thread Cert.ReferenceEvInBwdIdeal.nD Cert.ReferenceEvInBwdIdeal.τ).loc Cert.ReferenceEvInBwdIdeal.main_arg5)
      ∧ r.2.mem ((c.tc : Thread Cert.ReferenceEvInBwdIdeal.nD Cert.ReferenceEvInBwdIdeal.τ).loc Cert.ReferenceEvInBwdIdeal.main_arg6) = m ((c.tc : Thread Cert.ReferenceEvInBwdIdeal.nD Cert.ReferenceEvInBwdIdeal.τ).loc Cert.ReferenceEvInBwdIdeal.main_arg6)
      ∧ r.2.mem ((c.tc : Thread Cert.ReferenceEvInBwdIdeal.nD Cert.ReferenceEvInBwdIdeal.τ).loc Cert.ReferenceEvInBwdIdeal.main_arg7) = m ((c.tc : Thread Cert.ReferenceEvInBwdIdeal.nD Cert.ReferenceEvInBwdIdeal.τ).loc Cert.ReferenceEvInBwdIdeal.main_arg7))
      ∧ r.2.sem = fun _ => 0)

def quiescent_GradXbc [hGradXbc : Cert.GradXbc.Facts] : Prop :=
  ∀ (m : (ℓ : Loc Cert.GradXbc.nD Cert.GradXbc.τ Cert.GradXbc.sig) → Buf (Elt Bits) ℓ) (g : Dev Cert.GradXbc.nD → PrngReg), Pre_GradXbc m →
    θ_run (Cert.GradXbc.defs (F := Bits)) (onTc (τ := Cert.GradXbc.τ) (Cert.GradXbc.main (F := Bits))) ⟨m, fun _ => 0, g⟩ (fun r => (∀ c : Dev Cert.GradXbc.nD,
      r.2.mem ((c.tc : Thread Cert.GradXbc.nD Cert.GradXbc.τ).loc Cert.GradXbc.main_arg0) = m ((c.tc : Thread Cert.GradXbc.nD Cert.GradXbc.τ).loc Cert.GradXbc.main_arg0)
      ∧ r.2.mem ((c.tc : Thread Cert.GradXbc.nD Cert.GradXbc.τ).loc Cert.GradXbc.main_arg1) = m ((c.tc : Thread Cert.GradXbc.nD Cert.GradXbc.τ).loc Cert.GradXbc.main_arg1)
      ∧ r.2.mem ((c.tc : Thread Cert.GradXbc.nD Cert.GradXbc.τ).loc Cert.GradXbc.main_arg2) = m ((c.tc : Thread Cert.GradXbc.nD Cert.GradXbc.τ).loc Cert.GradXbc.main_arg2))
      ∧ r.2.sem = fun _ => 0)

def quiescent_GradXbcIdeal [hGradXbcIdeal : Cert.GradXbcIdeal.Facts] : Prop :=
  ∀ (m : (ℓ : Loc Cert.GradXbcIdeal.nD Cert.GradXbcIdeal.τ Cert.GradXbcIdeal.sig) → Buf (Elt Ideal) ℓ) (g : Dev Cert.GradXbcIdeal.nD → PrngReg), Pre_GradXbcIdeal m →
    θ_run (Cert.GradXbcIdeal.defs (F := Ideal)) (onTc (τ := Cert.GradXbcIdeal.τ) (Cert.GradXbcIdeal.main (F := Ideal))) ⟨m, fun _ => 0, g⟩ (fun r => (∀ c : Dev Cert.GradXbcIdeal.nD,
      r.2.mem ((c.tc : Thread Cert.GradXbcIdeal.nD Cert.GradXbcIdeal.τ).loc Cert.GradXbcIdeal.main_arg0) = m ((c.tc : Thread Cert.GradXbcIdeal.nD Cert.GradXbcIdeal.τ).loc Cert.GradXbcIdeal.main_arg0)
      ∧ r.2.mem ((c.tc : Thread Cert.GradXbcIdeal.nD Cert.GradXbcIdeal.τ).loc Cert.GradXbcIdeal.main_arg1) = m ((c.tc : Thread Cert.GradXbcIdeal.nD Cert.GradXbcIdeal.τ).loc Cert.GradXbcIdeal.main_arg1)
      ∧ r.2.mem ((c.tc : Thread Cert.GradXbcIdeal.nD Cert.GradXbcIdeal.τ).loc Cert.GradXbcIdeal.main_arg2) = m ((c.tc : Thread Cert.GradXbcIdeal.nD Cert.GradXbcIdeal.τ).loc Cert.GradXbcIdeal.main_arg2))
      ∧ r.2.sem = fun _ => 0)

def quiescent_ReferenceGradXbcIdeal [hReferenceGradXbcIdeal : Cert.ReferenceGradXbcIdeal.Facts] : Prop :=
  ∀ (m : (ℓ : Loc Cert.ReferenceGradXbcIdeal.nD Cert.ReferenceGradXbcIdeal.τ Cert.ReferenceGradXbcIdeal.sig) → Buf (Elt Ideal) ℓ) (g : Dev Cert.ReferenceGradXbcIdeal.nD → PrngReg), Pre_ReferenceGradXbcIdeal m →
    θ_run (Cert.ReferenceGradXbcIdeal.defs (F := Ideal)) (onTc (τ := Cert.ReferenceGradXbcIdeal.τ) (Cert.ReferenceGradXbcIdeal.main (F := Ideal))) ⟨m, fun _ => 0, g⟩ (fun r => (∀ c : Dev Cert.ReferenceGradXbcIdeal.nD,
      r.2.mem ((c.tc : Thread Cert.ReferenceGradXbcIdeal.nD Cert.ReferenceGradXbcIdeal.τ).loc Cert.ReferenceGradXbcIdeal.main_arg0) = m ((c.tc : Thread Cert.ReferenceGradXbcIdeal.nD Cert.ReferenceGradXbcIdeal.τ).loc Cert.ReferenceGradXbcIdeal.main_arg0)
      ∧ r.2.mem ((c.tc : Thread Cert.ReferenceGradXbcIdeal.nD Cert.ReferenceGradXbcIdeal.τ).loc Cert.ReferenceGradXbcIdeal.main_arg1) = m ((c.tc : Thread Cert.ReferenceGradXbcIdeal.nD Cert.ReferenceGradXbcIdeal.τ).loc Cert.ReferenceGradXbcIdeal.main_arg1)
      ∧ r.2.mem ((c.tc : Thread Cert.ReferenceGradXbcIdeal.nD Cert.ReferenceGradXbcIdeal.τ).loc Cert.ReferenceGradXbcIdeal.main_arg2) = m ((c.tc : Thread Cert.ReferenceGradXbcIdeal.nD Cert.ReferenceGradXbcIdeal.τ).loc Cert.ReferenceGradXbcIdeal.main_arg2))
      ∧ r.2.sem = fun _ => 0)

def quiescent_GradPool [hGradPool : Cert.GradPool.Facts] : Prop :=
  ∀ (m : (ℓ : Loc Cert.GradPool.nD Cert.GradPool.τ Cert.GradPool.sig) → Buf (Elt Bits) ℓ) (g : Dev Cert.GradPool.nD → PrngReg), Pre_GradPool m →
    θ_run (Cert.GradPool.defs (F := Bits)) (onTc (τ := Cert.GradPool.τ) (Cert.GradPool.main (F := Bits))) ⟨m, fun _ => 0, g⟩ (fun r => (∀ c : Dev Cert.GradPool.nD,
      r.2.mem ((c.tc : Thread Cert.GradPool.nD Cert.GradPool.τ).loc Cert.GradPool.main_arg0) = m ((c.tc : Thread Cert.GradPool.nD Cert.GradPool.τ).loc Cert.GradPool.main_arg0)
      ∧ r.2.mem ((c.tc : Thread Cert.GradPool.nD Cert.GradPool.τ).loc Cert.GradPool.main_arg1) = m ((c.tc : Thread Cert.GradPool.nD Cert.GradPool.τ).loc Cert.GradPool.main_arg1)
      ∧ r.2.mem ((c.tc : Thread Cert.GradPool.nD Cert.GradPool.τ).loc Cert.GradPool.main_arg2) = m ((c.tc : Thread Cert.GradPool.nD Cert.GradPool.τ).loc Cert.GradPool.main_arg2))
      ∧ r.2.sem = fun _ => 0)

def quiescent_GradPoolIdeal [hGradPoolIdeal : Cert.GradPoolIdeal.Facts] : Prop :=
  ∀ (m : (ℓ : Loc Cert.GradPoolIdeal.nD Cert.GradPoolIdeal.τ Cert.GradPoolIdeal.sig) → Buf (Elt Ideal) ℓ) (g : Dev Cert.GradPoolIdeal.nD → PrngReg), Pre_GradPoolIdeal m →
    θ_run (Cert.GradPoolIdeal.defs (F := Ideal)) (onTc (τ := Cert.GradPoolIdeal.τ) (Cert.GradPoolIdeal.main (F := Ideal))) ⟨m, fun _ => 0, g⟩ (fun r => (∀ c : Dev Cert.GradPoolIdeal.nD,
      r.2.mem ((c.tc : Thread Cert.GradPoolIdeal.nD Cert.GradPoolIdeal.τ).loc Cert.GradPoolIdeal.main_arg0) = m ((c.tc : Thread Cert.GradPoolIdeal.nD Cert.GradPoolIdeal.τ).loc Cert.GradPoolIdeal.main_arg0)
      ∧ r.2.mem ((c.tc : Thread Cert.GradPoolIdeal.nD Cert.GradPoolIdeal.τ).loc Cert.GradPoolIdeal.main_arg1) = m ((c.tc : Thread Cert.GradPoolIdeal.nD Cert.GradPoolIdeal.τ).loc Cert.GradPoolIdeal.main_arg1)
      ∧ r.2.mem ((c.tc : Thread Cert.GradPoolIdeal.nD Cert.GradPoolIdeal.τ).loc Cert.GradPoolIdeal.main_arg2) = m ((c.tc : Thread Cert.GradPoolIdeal.nD Cert.GradPoolIdeal.τ).loc Cert.GradPoolIdeal.main_arg2))
      ∧ r.2.sem = fun _ => 0)

def quiescent_ReferenceGradPoolIdeal [hReferenceGradPoolIdeal : Cert.ReferenceGradPoolIdeal.Facts] : Prop :=
  ∀ (m : (ℓ : Loc Cert.ReferenceGradPoolIdeal.nD Cert.ReferenceGradPoolIdeal.τ Cert.ReferenceGradPoolIdeal.sig) → Buf (Elt Ideal) ℓ) (g : Dev Cert.ReferenceGradPoolIdeal.nD → PrngReg), Pre_ReferenceGradPoolIdeal m →
    θ_run (Cert.ReferenceGradPoolIdeal.defs (F := Ideal)) (onTc (τ := Cert.ReferenceGradPoolIdeal.τ) (Cert.ReferenceGradPoolIdeal.main (F := Ideal))) ⟨m, fun _ => 0, g⟩ (fun r => (∀ c : Dev Cert.ReferenceGradPoolIdeal.nD,
      r.2.mem ((c.tc : Thread Cert.ReferenceGradPoolIdeal.nD Cert.ReferenceGradPoolIdeal.τ).loc Cert.ReferenceGradPoolIdeal.main_arg0) = m ((c.tc : Thread Cert.ReferenceGradPoolIdeal.nD Cert.ReferenceGradPoolIdeal.τ).loc Cert.ReferenceGradPoolIdeal.main_arg0)
      ∧ r.2.mem ((c.tc : Thread Cert.ReferenceGradPoolIdeal.nD Cert.ReferenceGradPoolIdeal.τ).loc Cert.ReferenceGradPoolIdeal.main_arg1) = m ((c.tc : Thread Cert.ReferenceGradPoolIdeal.nD Cert.ReferenceGradPoolIdeal.τ).loc Cert.ReferenceGradPoolIdeal.main_arg1)
      ∧ r.2.mem ((c.tc : Thread Cert.ReferenceGradPoolIdeal.nD Cert.ReferenceGradPoolIdeal.τ).loc Cert.ReferenceGradPoolIdeal.main_arg2) = m ((c.tc : Thread Cert.ReferenceGradPoolIdeal.nD Cert.ReferenceGradPoolIdeal.τ).loc Cert.ReferenceGradPoolIdeal.main_arg2))
      ∧ r.2.sem = fun _ => 0)

def quiescent_GradDt [hGradDt : Cert.GradDt.Facts] : Prop :=
  ∀ (m : (ℓ : Loc Cert.GradDt.nD Cert.GradDt.τ Cert.GradDt.sig) → Buf (Elt Bits) ℓ) (g : Dev Cert.GradDt.nD → PrngReg), Pre_GradDt m →
    θ_run (Cert.GradDt.defs (F := Bits)) (onTc (τ := Cert.GradDt.τ) (Cert.GradDt.main (F := Bits))) ⟨m, fun _ => 0, g⟩ (fun r => (∀ c : Dev Cert.GradDt.nD,
      r.2.mem ((c.tc : Thread Cert.GradDt.nD Cert.GradDt.τ).loc Cert.GradDt.main_arg0) = m ((c.tc : Thread Cert.GradDt.nD Cert.GradDt.τ).loc Cert.GradDt.main_arg0)
      ∧ r.2.mem ((c.tc : Thread Cert.GradDt.nD Cert.GradDt.τ).loc Cert.GradDt.main_arg1) = m ((c.tc : Thread Cert.GradDt.nD Cert.GradDt.τ).loc Cert.GradDt.main_arg1)
      ∧ r.2.mem ((c.tc : Thread Cert.GradDt.nD Cert.GradDt.τ).loc Cert.GradDt.main_arg2) = m ((c.tc : Thread Cert.GradDt.nD Cert.GradDt.τ).loc Cert.GradDt.main_arg2))
      ∧ r.2.sem = fun _ => 0)

def quiescent_GradDtIdeal [hGradDtIdeal : Cert.GradDtIdeal.Facts] : Prop :=
  ∀ (m : (ℓ : Loc Cert.GradDtIdeal.nD Cert.GradDtIdeal.τ Cert.GradDtIdeal.sig) → Buf (Elt Ideal) ℓ) (g : Dev Cert.GradDtIdeal.nD → PrngReg), Pre_GradDtIdeal m →
    θ_run (Cert.GradDtIdeal.defs (F := Ideal)) (onTc (τ := Cert.GradDtIdeal.τ) (Cert.GradDtIdeal.main (F := Ideal))) ⟨m, fun _ => 0, g⟩ (fun r => (∀ c : Dev Cert.GradDtIdeal.nD,
      r.2.mem ((c.tc : Thread Cert.GradDtIdeal.nD Cert.GradDtIdeal.τ).loc Cert.GradDtIdeal.main_arg0) = m ((c.tc : Thread Cert.GradDtIdeal.nD Cert.GradDtIdeal.τ).loc Cert.GradDtIdeal.main_arg0)
      ∧ r.2.mem ((c.tc : Thread Cert.GradDtIdeal.nD Cert.GradDtIdeal.τ).loc Cert.GradDtIdeal.main_arg1) = m ((c.tc : Thread Cert.GradDtIdeal.nD Cert.GradDtIdeal.τ).loc Cert.GradDtIdeal.main_arg1)
      ∧ r.2.mem ((c.tc : Thread Cert.GradDtIdeal.nD Cert.GradDtIdeal.τ).loc Cert.GradDtIdeal.main_arg2) = m ((c.tc : Thread Cert.GradDtIdeal.nD Cert.GradDtIdeal.τ).loc Cert.GradDtIdeal.main_arg2))
      ∧ r.2.sem = fun _ => 0)

def quiescent_ReferenceGradDtIdeal [hReferenceGradDtIdeal : Cert.ReferenceGradDtIdeal.Facts] : Prop :=
  ∀ (m : (ℓ : Loc Cert.ReferenceGradDtIdeal.nD Cert.ReferenceGradDtIdeal.τ Cert.ReferenceGradDtIdeal.sig) → Buf (Elt Ideal) ℓ) (g : Dev Cert.ReferenceGradDtIdeal.nD → PrngReg), Pre_ReferenceGradDtIdeal m →
    θ_run (Cert.ReferenceGradDtIdeal.defs (F := Ideal)) (onTc (τ := Cert.ReferenceGradDtIdeal.τ) (Cert.ReferenceGradDtIdeal.main (F := Ideal))) ⟨m, fun _ => 0, g⟩ (fun r => (∀ c : Dev Cert.ReferenceGradDtIdeal.nD,
      r.2.mem ((c.tc : Thread Cert.ReferenceGradDtIdeal.nD Cert.ReferenceGradDtIdeal.τ).loc Cert.ReferenceGradDtIdeal.main_arg0) = m ((c.tc : Thread Cert.ReferenceGradDtIdeal.nD Cert.ReferenceGradDtIdeal.τ).loc Cert.ReferenceGradDtIdeal.main_arg0)
      ∧ r.2.mem ((c.tc : Thread Cert.ReferenceGradDtIdeal.nD Cert.ReferenceGradDtIdeal.τ).loc Cert.ReferenceGradDtIdeal.main_arg1) = m ((c.tc : Thread Cert.ReferenceGradDtIdeal.nD Cert.ReferenceGradDtIdeal.τ).loc Cert.ReferenceGradDtIdeal.main_arg1)
      ∧ r.2.mem ((c.tc : Thread Cert.ReferenceGradDtIdeal.nD Cert.ReferenceGradDtIdeal.τ).loc Cert.ReferenceGradDtIdeal.main_arg2) = m ((c.tc : Thread Cert.ReferenceGradDtIdeal.nD Cert.ReferenceGradDtIdeal.τ).loc Cert.ReferenceGradDtIdeal.main_arg2))
      ∧ r.2.sem = fun _ => 0)

def quiescent_GradMix [hGradMix : Cert.GradMix.Facts] : Prop :=
  ∀ (m : (ℓ : Loc Cert.GradMix.nD Cert.GradMix.τ Cert.GradMix.sig) → Buf (Elt Bits) ℓ) (g : Dev Cert.GradMix.nD → PrngReg), Pre_GradMix m →
    θ_run (Cert.GradMix.defs (F := Bits)) (onTc (τ := Cert.GradMix.τ) (Cert.GradMix.main (F := Bits))) ⟨m, fun _ => 0, g⟩ (fun r => (∀ c : Dev Cert.GradMix.nD,
      r.2.mem ((c.tc : Thread Cert.GradMix.nD Cert.GradMix.τ).loc Cert.GradMix.main_arg0) = m ((c.tc : Thread Cert.GradMix.nD Cert.GradMix.τ).loc Cert.GradMix.main_arg0)
      ∧ r.2.mem ((c.tc : Thread Cert.GradMix.nD Cert.GradMix.τ).loc Cert.GradMix.main_arg1) = m ((c.tc : Thread Cert.GradMix.nD Cert.GradMix.τ).loc Cert.GradMix.main_arg1)
      ∧ r.2.mem ((c.tc : Thread Cert.GradMix.nD Cert.GradMix.τ).loc Cert.GradMix.main_arg2) = m ((c.tc : Thread Cert.GradMix.nD Cert.GradMix.τ).loc Cert.GradMix.main_arg2))
      ∧ r.2.sem = fun _ => 0)

def quiescent_GradMixIdeal [hGradMixIdeal : Cert.GradMixIdeal.Facts] : Prop :=
  ∀ (m : (ℓ : Loc Cert.GradMixIdeal.nD Cert.GradMixIdeal.τ Cert.GradMixIdeal.sig) → Buf (Elt Ideal) ℓ) (g : Dev Cert.GradMixIdeal.nD → PrngReg), Pre_GradMixIdeal m →
    θ_run (Cert.GradMixIdeal.defs (F := Ideal)) (onTc (τ := Cert.GradMixIdeal.τ) (Cert.GradMixIdeal.main (F := Ideal))) ⟨m, fun _ => 0, g⟩ (fun r => (∀ c : Dev Cert.GradMixIdeal.nD,
      r.2.mem ((c.tc : Thread Cert.GradMixIdeal.nD Cert.GradMixIdeal.τ).loc Cert.GradMixIdeal.main_arg0) = m ((c.tc : Thread Cert.GradMixIdeal.nD Cert.GradMixIdeal.τ).loc Cert.GradMixIdeal.main_arg0)
      ∧ r.2.mem ((c.tc : Thread Cert.GradMixIdeal.nD Cert.GradMixIdeal.τ).loc Cert.GradMixIdeal.main_arg1) = m ((c.tc : Thread Cert.GradMixIdeal.nD Cert.GradMixIdeal.τ).loc Cert.GradMixIdeal.main_arg1)
      ∧ r.2.mem ((c.tc : Thread Cert.GradMixIdeal.nD Cert.GradMixIdeal.τ).loc Cert.GradMixIdeal.main_arg2) = m ((c.tc : Thread Cert.GradMixIdeal.nD Cert.GradMixIdeal.τ).loc Cert.GradMixIdeal.main_arg2))
      ∧ r.2.sem = fun _ => 0)

def quiescent_ReferenceGradMixIdeal [hReferenceGradMixIdeal : Cert.ReferenceGradMixIdeal.Facts] : Prop :=
  ∀ (m : (ℓ : Loc Cert.ReferenceGradMixIdeal.nD Cert.ReferenceGradMixIdeal.τ Cert.ReferenceGradMixIdeal.sig) → Buf (Elt Ideal) ℓ) (g : Dev Cert.ReferenceGradMixIdeal.nD → PrngReg), Pre_ReferenceGradMixIdeal m →
    θ_run (Cert.ReferenceGradMixIdeal.defs (F := Ideal)) (onTc (τ := Cert.ReferenceGradMixIdeal.τ) (Cert.ReferenceGradMixIdeal.main (F := Ideal))) ⟨m, fun _ => 0, g⟩ (fun r => (∀ c : Dev Cert.ReferenceGradMixIdeal.nD,
      r.2.mem ((c.tc : Thread Cert.ReferenceGradMixIdeal.nD Cert.ReferenceGradMixIdeal.τ).loc Cert.ReferenceGradMixIdeal.main_arg0) = m ((c.tc : Thread Cert.ReferenceGradMixIdeal.nD Cert.ReferenceGradMixIdeal.τ).loc Cert.ReferenceGradMixIdeal.main_arg0)
      ∧ r.2.mem ((c.tc : Thread Cert.ReferenceGradMixIdeal.nD Cert.ReferenceGradMixIdeal.τ).loc Cert.ReferenceGradMixIdeal.main_arg1) = m ((c.tc : Thread Cert.ReferenceGradMixIdeal.nD Cert.ReferenceGradMixIdeal.τ).loc Cert.ReferenceGradMixIdeal.main_arg1)
      ∧ r.2.mem ((c.tc : Thread Cert.ReferenceGradMixIdeal.nD Cert.ReferenceGradMixIdeal.τ).loc Cert.ReferenceGradMixIdeal.main_arg2) = m ((c.tc : Thread Cert.ReferenceGradMixIdeal.nD Cert.ReferenceGradMixIdeal.τ).loc Cert.ReferenceGradMixIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_ReferenceMixOutIdeal [hReferenceMixOutIdeal : Cert.ReferenceMixOutIdeal.Facts] : Prop :=
  ∀ (m : (ℓ : Loc Cert.ReferenceMixOutIdeal.nD Cert.ReferenceMixOutIdeal.τ Cert.ReferenceMixOutIdeal.sig) → Buf (Elt Ideal) ℓ) (g : Dev Cert.ReferenceMixOutIdeal.nD → PrngReg), Pre_ReferenceMixOutIdeal m →
    θ_run (Cert.ReferenceMixOutIdeal.defs (F := Ideal)) (onTc (τ := Cert.ReferenceMixOutIdeal.τ) (Cert.ReferenceMixOutIdeal.main (F := Ideal))) ⟨m, fun _ => 0, g⟩ (fun r => (∀ c : Dev Cert.ReferenceMixOutIdeal.nD,
      r.2.mem ((c.tc : Thread Cert.ReferenceMixOutIdeal.nD Cert.ReferenceMixOutIdeal.τ).loc Cert.ReferenceMixOutIdeal.main_arg0) = m ((c.tc : Thread Cert.ReferenceMixOutIdeal.nD Cert.ReferenceMixOutIdeal.τ).loc Cert.ReferenceMixOutIdeal.main_arg0)
      ∧ r.2.mem ((c.tc : Thread Cert.ReferenceMixOutIdeal.nD Cert.ReferenceMixOutIdeal.τ).loc Cert.ReferenceMixOutIdeal.main_arg1) = m ((c.tc : Thread Cert.ReferenceMixOutIdeal.nD Cert.ReferenceMixOutIdeal.τ).loc Cert.ReferenceMixOutIdeal.main_arg1)
      ∧ r.2.mem ((c.tc : Thread Cert.ReferenceMixOutIdeal.nD Cert.ReferenceMixOutIdeal.τ).loc Cert.ReferenceMixOutIdeal.main_arg2) = m ((c.tc : Thread Cert.ReferenceMixOutIdeal.nD Cert.ReferenceMixOutIdeal.τ).loc Cert.ReferenceMixOutIdeal.main_arg2)
      ∧ r.2.mem ((c.tc : Thread Cert.ReferenceMixOutIdeal.nD Cert.ReferenceMixOutIdeal.τ).loc Cert.ReferenceMixOutIdeal.main_arg3) = m ((c.tc : Thread Cert.ReferenceMixOutIdeal.nD Cert.ReferenceMixOutIdeal.τ).loc Cert.ReferenceMixOutIdeal.main_arg3)
      ∧ r.2.mem ((c.tc : Thread Cert.ReferenceMixOutIdeal.nD Cert.ReferenceMixOutIdeal.τ).loc Cert.ReferenceMixOutIdeal.main_arg4) = m ((c.tc : Thread Cert.ReferenceMixOutIdeal.nD Cert.ReferenceMixOutIdeal.τ).loc Cert.ReferenceMixOutIdeal.main_arg4)
      ∧ r.2.mem ((c.tc : Thread Cert.ReferenceMixOutIdeal.nD Cert.ReferenceMixOutIdeal.τ).loc Cert.ReferenceMixOutIdeal.main_arg5) = m ((c.tc : Thread Cert.ReferenceMixOutIdeal.nD Cert.ReferenceMixOutIdeal.τ).loc Cert.ReferenceMixOutIdeal.main_arg5)
      ∧ r.2.mem ((c.tc : Thread Cert.ReferenceMixOutIdeal.nD Cert.ReferenceMixOutIdeal.τ).loc Cert.ReferenceMixOutIdeal.main_arg6) = m ((c.tc : Thread Cert.ReferenceMixOutIdeal.nD Cert.ReferenceMixOutIdeal.τ).loc Cert.ReferenceMixOutIdeal.main_arg6))
      ∧ r.2.sem = fun _ => 0)

def quiescent_MixOutOdd [hMixOutOdd : Cert.MixOutOdd.Facts] : Prop :=
  ∀ (m : (ℓ : Loc Cert.MixOutOdd.nD Cert.MixOutOdd.τ Cert.MixOutOdd.sig) → Buf (Elt Bits) ℓ) (g : Dev Cert.MixOutOdd.nD → PrngReg), Pre_MixOutOdd m →
    θ_run (Cert.MixOutOdd.defs (F := Bits)) (onTc (τ := Cert.MixOutOdd.τ) (Cert.MixOutOdd.main (F := Bits))) ⟨m, fun _ => 0, g⟩ (fun r => (∀ c : Dev Cert.MixOutOdd.nD,
      r.2.mem ((c.tc : Thread Cert.MixOutOdd.nD Cert.MixOutOdd.τ).loc Cert.MixOutOdd.main_arg0) = m ((c.tc : Thread Cert.MixOutOdd.nD Cert.MixOutOdd.τ).loc Cert.MixOutOdd.main_arg0)
      ∧ r.2.mem ((c.tc : Thread Cert.MixOutOdd.nD Cert.MixOutOdd.τ).loc Cert.MixOutOdd.main_arg1) = m ((c.tc : Thread Cert.MixOutOdd.nD Cert.MixOutOdd.τ).loc Cert.MixOutOdd.main_arg1)
      ∧ r.2.mem ((c.tc : Thread Cert.MixOutOdd.nD Cert.MixOutOdd.τ).loc Cert.MixOutOdd.main_arg2) = m ((c.tc : Thread Cert.MixOutOdd.nD Cert.MixOutOdd.τ).loc Cert.MixOutOdd.main_arg2)
      ∧ r.2.mem ((c.tc : Thread Cert.MixOutOdd.nD Cert.MixOutOdd.τ).loc Cert.MixOutOdd.main_arg3) = m ((c.tc : Thread Cert.MixOutOdd.nD Cert.MixOutOdd.τ).loc Cert.MixOutOdd.main_arg3)
      ∧ r.2.mem ((c.tc : Thread Cert.MixOutOdd.nD Cert.MixOutOdd.τ).loc Cert.MixOutOdd.main_arg4) = m ((c.tc : Thread Cert.MixOutOdd.nD Cert.MixOutOdd.τ).loc Cert.MixOutOdd.main_arg4)
      ∧ r.2.mem ((c.tc : Thread Cert.MixOutOdd.nD Cert.MixOutOdd.τ).loc Cert.MixOutOdd.main_arg5) = m ((c.tc : Thread Cert.MixOutOdd.nD Cert.MixOutOdd.τ).loc Cert.MixOutOdd.main_arg5)
      ∧ r.2.mem ((c.tc : Thread Cert.MixOutOdd.nD Cert.MixOutOdd.τ).loc Cert.MixOutOdd.main_arg6) = m ((c.tc : Thread Cert.MixOutOdd.nD Cert.MixOutOdd.τ).loc Cert.MixOutOdd.main_arg6))
      ∧ r.2.sem = fun _ => 0)

def quiescent_MixOutOddIdeal [hMixOutOddIdeal : Cert.MixOutOddIdeal.Facts] : Prop :=
  ∀ (m : (ℓ : Loc Cert.MixOutOddIdeal.nD Cert.MixOutOddIdeal.τ Cert.MixOutOddIdeal.sig) → Buf (Elt Ideal) ℓ) (g : Dev Cert.MixOutOddIdeal.nD → PrngReg), Pre_MixOutOddIdeal m →
    θ_run (Cert.MixOutOddIdeal.defs (F := Ideal)) (onTc (τ := Cert.MixOutOddIdeal.τ) (Cert.MixOutOddIdeal.main (F := Ideal))) ⟨m, fun _ => 0, g⟩ (fun r => (∀ c : Dev Cert.MixOutOddIdeal.nD,
      r.2.mem ((c.tc : Thread Cert.MixOutOddIdeal.nD Cert.MixOutOddIdeal.τ).loc Cert.MixOutOddIdeal.main_arg0) = m ((c.tc : Thread Cert.MixOutOddIdeal.nD Cert.MixOutOddIdeal.τ).loc Cert.MixOutOddIdeal.main_arg0)
      ∧ r.2.mem ((c.tc : Thread Cert.MixOutOddIdeal.nD Cert.MixOutOddIdeal.τ).loc Cert.MixOutOddIdeal.main_arg1) = m ((c.tc : Thread Cert.MixOutOddIdeal.nD Cert.MixOutOddIdeal.τ).loc Cert.MixOutOddIdeal.main_arg1)
      ∧ r.2.mem ((c.tc : Thread Cert.MixOutOddIdeal.nD Cert.MixOutOddIdeal.τ).loc Cert.MixOutOddIdeal.main_arg2) = m ((c.tc : Thread Cert.MixOutOddIdeal.nD Cert.MixOutOddIdeal.τ).loc Cert.MixOutOddIdeal.main_arg2)
      ∧ r.2.mem ((c.tc : Thread Cert.MixOutOddIdeal.nD Cert.MixOutOddIdeal.τ).loc Cert.MixOutOddIdeal.main_arg3) = m ((c.tc : Thread Cert.MixOutOddIdeal.nD Cert.MixOutOddIdeal.τ).loc Cert.MixOutOddIdeal.main_arg3)
      ∧ r.2.mem ((c.tc : Thread Cert.MixOutOddIdeal.nD Cert.MixOutOddIdeal.τ).loc Cert.MixOutOddIdeal.main_arg4) = m ((c.tc : Thread Cert.MixOutOddIdeal.nD Cert.MixOutOddIdeal.τ).loc Cert.MixOutOddIdeal.main_arg4)
      ∧ r.2.mem ((c.tc : Thread Cert.MixOutOddIdeal.nD Cert.MixOutOddIdeal.τ).loc Cert.MixOutOddIdeal.main_arg5) = m ((c.tc : Thread Cert.MixOutOddIdeal.nD Cert.MixOutOddIdeal.τ).loc Cert.MixOutOddIdeal.main_arg5)
      ∧ r.2.mem ((c.tc : Thread Cert.MixOutOddIdeal.nD Cert.MixOutOddIdeal.τ).loc Cert.MixOutOddIdeal.main_arg6) = m ((c.tc : Thread Cert.MixOutOddIdeal.nD Cert.MixOutOddIdeal.τ).loc Cert.MixOutOddIdeal.main_arg6))
      ∧ r.2.sem = fun _ => 0)

def quiescent_ReferenceMixOutOddIdeal [hReferenceMixOutOddIdeal : Cert.ReferenceMixOutOddIdeal.Facts] : Prop :=
  ∀ (m : (ℓ : Loc Cert.ReferenceMixOutOddIdeal.nD Cert.ReferenceMixOutOddIdeal.τ Cert.ReferenceMixOutOddIdeal.sig) → Buf (Elt Ideal) ℓ) (g : Dev Cert.ReferenceMixOutOddIdeal.nD → PrngReg), Pre_ReferenceMixOutOddIdeal m →
    θ_run (Cert.ReferenceMixOutOddIdeal.defs (F := Ideal)) (onTc (τ := Cert.ReferenceMixOutOddIdeal.τ) (Cert.ReferenceMixOutOddIdeal.main (F := Ideal))) ⟨m, fun _ => 0, g⟩ (fun r => (∀ c : Dev Cert.ReferenceMixOutOddIdeal.nD,
      r.2.mem ((c.tc : Thread Cert.ReferenceMixOutOddIdeal.nD Cert.ReferenceMixOutOddIdeal.τ).loc Cert.ReferenceMixOutOddIdeal.main_arg0) = m ((c.tc : Thread Cert.ReferenceMixOutOddIdeal.nD Cert.ReferenceMixOutOddIdeal.τ).loc Cert.ReferenceMixOutOddIdeal.main_arg0)
      ∧ r.2.mem ((c.tc : Thread Cert.ReferenceMixOutOddIdeal.nD Cert.ReferenceMixOutOddIdeal.τ).loc Cert.ReferenceMixOutOddIdeal.main_arg1) = m ((c.tc : Thread Cert.ReferenceMixOutOddIdeal.nD Cert.ReferenceMixOutOddIdeal.τ).loc Cert.ReferenceMixOutOddIdeal.main_arg1)
      ∧ r.2.mem ((c.tc : Thread Cert.ReferenceMixOutOddIdeal.nD Cert.ReferenceMixOutOddIdeal.τ).loc Cert.ReferenceMixOutOddIdeal.main_arg2) = m ((c.tc : Thread Cert.ReferenceMixOutOddIdeal.nD Cert.ReferenceMixOutOddIdeal.τ).loc Cert.ReferenceMixOutOddIdeal.main_arg2)
      ∧ r.2.mem ((c.tc : Thread Cert.ReferenceMixOutOddIdeal.nD Cert.ReferenceMixOutOddIdeal.τ).loc Cert.ReferenceMixOutOddIdeal.main_arg3) = m ((c.tc : Thread Cert.ReferenceMixOutOddIdeal.nD Cert.ReferenceMixOutOddIdeal.τ).loc Cert.ReferenceMixOutOddIdeal.main_arg3)
      ∧ r.2.mem ((c.tc : Thread Cert.ReferenceMixOutOddIdeal.nD Cert.ReferenceMixOutOddIdeal.τ).loc Cert.ReferenceMixOutOddIdeal.main_arg4) = m ((c.tc : Thread Cert.ReferenceMixOutOddIdeal.nD Cert.ReferenceMixOutOddIdeal.τ).loc Cert.ReferenceMixOutOddIdeal.main_arg4)
      ∧ r.2.mem ((c.tc : Thread Cert.ReferenceMixOutOddIdeal.nD Cert.ReferenceMixOutOddIdeal.τ).loc Cert.ReferenceMixOutOddIdeal.main_arg5) = m ((c.tc : Thread Cert.ReferenceMixOutOddIdeal.nD Cert.ReferenceMixOutOddIdeal.τ).loc Cert.ReferenceMixOutOddIdeal.main_arg5)
      ∧ r.2.mem ((c.tc : Thread Cert.ReferenceMixOutOddIdeal.nD Cert.ReferenceMixOutOddIdeal.τ).loc Cert.ReferenceMixOutOddIdeal.main_arg6) = m ((c.tc : Thread Cert.ReferenceMixOutOddIdeal.nD Cert.ReferenceMixOutOddIdeal.τ).loc Cert.ReferenceMixOutOddIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_v291) = v2 c
          ∧ r.2.mem ((c.tc : Thread Cert.ReferenceIdeal.nD Cert.ReferenceIdeal.τ).loc Cert.ReferenceIdeal.main_v292) = v3 c
          ∧ r.2.mem ((c.tc : Thread Cert.ReferenceIdeal.nD Cert.ReferenceIdeal.τ).loc Cert.ReferenceIdeal.main_v293) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_GradIn_GradInIdeal : Prop :=
  True

def algebraic_GradInIdeal_ReferenceGradInIdeal [hGradInIdeal : Cert.GradInIdeal.Facts] [hReferenceGradInIdeal : Cert.ReferenceGradInIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.ReferenceGradInIdeal.nD Cert.ReferenceGradInIdeal.τ Cert.ReferenceGradInIdeal.sig) → Buf (Elt Ideal) ℓ) (g' : Dev Cert.ReferenceGradInIdeal.nD → PrngReg), Pre_GradInIdeal m →
    (∀ c : Dev Cert.GradInIdeal.nD,
      m' ((c.tc : Thread Cert.ReferenceGradInIdeal.nD Cert.ReferenceGradInIdeal.τ).loc Cert.ReferenceGradInIdeal.main_arg0) = m ((c.tc : Thread Cert.GradInIdeal.nD Cert.GradInIdeal.τ).loc Cert.GradInIdeal.main_arg0)
      ∧ m' ((c.tc : Thread Cert.ReferenceGradInIdeal.nD Cert.ReferenceGradInIdeal.τ).loc Cert.ReferenceGradInIdeal.main_arg1) = m ((c.tc : Thread Cert.GradInIdeal.nD Cert.GradInIdeal.τ).loc Cert.GradInIdeal.main_arg1)
      ∧ m' ((c.tc : Thread Cert.ReferenceGradInIdeal.nD Cert.ReferenceGradInIdeal.τ).loc Cert.ReferenceGradInIdeal.main_arg2) = m ((c.tc : Thread Cert.GradInIdeal.nD Cert.GradInIdeal.τ).loc Cert.GradInIdeal.main_arg2)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
          ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2))
      ∧ θ_run (Cert.ReferenceGradInIdeal.defs (F := Ideal)) (onTc (τ := Cert.ReferenceGradInIdeal.τ) (Cert.ReferenceGradInIdeal.main (F := Ideal))) ⟨m', fun _ => 0, g'⟩ (fun r => ∀ c : Dev Cert.ReferenceGradInIdeal.nD,
          r.2.mem ((c.tc : Thread Cert.ReferenceGradInIdeal.nD Cert.ReferenceGradInIdeal.τ).loc Cert.ReferenceGradInIdeal.main_v9) = v0 c
          ∧ r.2.mem ((c.tc : Thread Cert.ReferenceGradInIdeal.nD Cert.ReferenceGradInIdeal.τ).loc Cert.ReferenceGradInIdeal.main_arg0) = m' ((c.tc : Thread Cert.ReferenceGradInIdeal.nD Cert.ReferenceGradInIdeal.τ).loc Cert.ReferenceGradInIdeal.main_arg0)
          ∧ r.2.mem ((c.tc : Thread Cert.ReferenceGradInIdeal.nD Cert.ReferenceGradInIdeal.τ).loc Cert.ReferenceGradInIdeal.main_arg1) = m' ((c.tc : Thread Cert.ReferenceGradInIdeal.nD Cert.ReferenceGradInIdeal.τ).loc Cert.ReferenceGradInIdeal.main_arg1)
          ∧ r.2.mem ((c.tc : Thread Cert.ReferenceGradInIdeal.nD Cert.ReferenceGradInIdeal.τ).loc Cert.ReferenceGradInIdeal.main_arg2) = m' ((c.tc : Thread Cert.ReferenceGradInIdeal.nD Cert.ReferenceGradInIdeal.τ).loc Cert.ReferenceGradInIdeal.main_arg2))

def preserves_GradOut_GradOutIdeal : Prop :=
  True

def algebraic_GradOutIdeal_ReferenceGradOutIdeal [hGradOutIdeal : Cert.GradOutIdeal.Facts] [hReferenceGradOutIdeal : Cert.ReferenceGradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.ReferenceGradOutIdeal.nD Cert.ReferenceGradOutIdeal.τ Cert.ReferenceGradOutIdeal.sig) → Buf (Elt Ideal) ℓ) (g' : Dev Cert.ReferenceGradOutIdeal.nD → PrngReg), Pre_GradOutIdeal m →
    (∀ c : Dev Cert.GradOutIdeal.nD,
      m' ((c.tc : Thread Cert.ReferenceGradOutIdeal.nD Cert.ReferenceGradOutIdeal.τ).loc Cert.ReferenceGradOutIdeal.main_arg0) = m ((c.tc : Thread Cert.GradOutIdeal.nD Cert.GradOutIdeal.τ).loc Cert.GradOutIdeal.main_arg0)
      ∧ m' ((c.tc : Thread Cert.ReferenceGradOutIdeal.nD Cert.ReferenceGradOutIdeal.τ).loc Cert.ReferenceGradOutIdeal.main_arg1) = m ((c.tc : Thread Cert.GradOutIdeal.nD Cert.GradOutIdeal.τ).loc Cert.GradOutIdeal.main_arg1)
      ∧ m' ((c.tc : Thread Cert.ReferenceGradOutIdeal.nD Cert.ReferenceGradOutIdeal.τ).loc Cert.ReferenceGradOutIdeal.main_arg2) = m ((c.tc : Thread Cert.GradOutIdeal.nD Cert.GradOutIdeal.τ).loc Cert.GradOutIdeal.main_arg2)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
          ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2))
      ∧ θ_run (Cert.ReferenceGradOutIdeal.defs (F := Ideal)) (onTc (τ := Cert.ReferenceGradOutIdeal.τ) (Cert.ReferenceGradOutIdeal.main (F := Ideal))) ⟨m', fun _ => 0, g'⟩ (fun r => ∀ c : Dev Cert.ReferenceGradOutIdeal.nD,
          r.2.mem ((c.tc : Thread Cert.ReferenceGradOutIdeal.nD Cert.ReferenceGradOutIdeal.τ).loc Cert.ReferenceGradOutIdeal.main_v7) = v0 c
          ∧ r.2.mem ((c.tc : Thread Cert.ReferenceGradOutIdeal.nD Cert.ReferenceGradOutIdeal.τ).loc Cert.ReferenceGradOutIdeal.main_arg0) = m' ((c.tc : Thread Cert.ReferenceGradOutIdeal.nD Cert.ReferenceGradOutIdeal.τ).loc Cert.ReferenceGradOutIdeal.main_arg0)
          ∧ r.2.mem ((c.tc : Thread Cert.ReferenceGradOutIdeal.nD Cert.ReferenceGradOutIdeal.τ).loc Cert.ReferenceGradOutIdeal.main_arg1) = m' ((c.tc : Thread Cert.ReferenceGradOutIdeal.nD Cert.ReferenceGradOutIdeal.τ).loc Cert.ReferenceGradOutIdeal.main_arg1)
          ∧ r.2.mem ((c.tc : Thread Cert.ReferenceGradOutIdeal.nD Cert.ReferenceGradOutIdeal.τ).loc Cert.ReferenceGradOutIdeal.main_arg2) = m' ((c.tc : Thread Cert.ReferenceGradOutIdeal.nD Cert.ReferenceGradOutIdeal.τ).loc Cert.ReferenceGradOutIdeal.main_arg2))

def preserves_FfnUp_FfnUpIdeal : Prop :=
  True

def algebraic_FfnUpIdeal_ReferenceFfnUpIdeal [hFfnUpIdeal : Cert.FfnUpIdeal.Facts] [hReferenceFfnUpIdeal : Cert.ReferenceFfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.ReferenceFfnUpIdeal.nD Cert.ReferenceFfnUpIdeal.τ Cert.ReferenceFfnUpIdeal.sig) → Buf (Elt Ideal) ℓ) (g' : Dev Cert.ReferenceFfnUpIdeal.nD → PrngReg), Pre_FfnUpIdeal m →
    (∀ c : Dev Cert.FfnUpIdeal.nD,
      m' ((c.tc : Thread Cert.ReferenceFfnUpIdeal.nD Cert.ReferenceFfnUpIdeal.τ).loc Cert.ReferenceFfnUpIdeal.main_arg0) = m ((c.tc : Thread Cert.FfnUpIdeal.nD Cert.FfnUpIdeal.τ).loc Cert.FfnUpIdeal.main_arg0)
      ∧ m' ((c.tc : Thread Cert.ReferenceFfnUpIdeal.nD Cert.ReferenceFfnUpIdeal.τ).loc Cert.ReferenceFfnUpIdeal.main_arg1) = m ((c.tc : Thread Cert.FfnUpIdeal.nD Cert.FfnUpIdeal.τ).loc Cert.FfnUpIdeal.main_arg1)
      ∧ m' ((c.tc : Thread Cert.ReferenceFfnUpIdeal.nD Cert.ReferenceFfnUpIdeal.τ).loc Cert.ReferenceFfnUpIdeal.main_arg2) = m ((c.tc : Thread Cert.FfnUpIdeal.nD Cert.FfnUpIdeal.τ).loc Cert.FfnUpIdeal.main_arg2)
      ∧ m' ((c.tc : Thread Cert.ReferenceFfnUpIdeal.nD Cert.ReferenceFfnUpIdeal.τ).loc Cert.ReferenceFfnUpIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v2_0)) (v1 : (c : Dev Cert.FfnUpIdeal.nD) → Buf (Elt Ideal) ((c.tc : Thread Cert.FfnUpIdeal.nD Cert.FfnUpIdeal.τ).loc Cert.FfnUpIdeal.main_v2_1)) (v2 : (c : Dev Cert.FfnUpIdeal.nD) → Buf (Elt Ideal) ((c.tc : Thread Cert.FfnUpIdeal.nD Cert.FfnUpIdeal.τ).loc Cert.FfnUpIdeal.main_v2_2)) (v3 : (c : Dev Cert.FfnUpIdeal.nD) → Buf (Elt Ideal) ((c.tc : Thread Cert.FfnUpIdeal.nD Cert.FfnUpIdeal.τ).loc Cert.FfnUpIdeal.main_v2_3)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2_0) = v0 c
          ∧ r.2.mem ((c.tc : Thread Cert.FfnUpIdeal.nD Cert.FfnUpIdeal.τ).loc Cert.FfnUpIdeal.main_v2_1) = v1 c
          ∧ r.2.mem ((c.tc : Thread Cert.FfnUpIdeal.nD Cert.FfnUpIdeal.τ).loc Cert.FfnUpIdeal.main_v2_2) = v2 c
          ∧ r.2.mem ((c.tc : Thread Cert.FfnUpIdeal.nD Cert.FfnUpIdeal.τ).loc Cert.FfnUpIdeal.main_v2_3) = v3 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.ReferenceFfnUpIdeal.defs (F := Ideal)) (onTc (τ := Cert.ReferenceFfnUpIdeal.τ) (Cert.ReferenceFfnUpIdeal.main (F := Ideal))) ⟨m', fun _ => 0, g'⟩ (fun r => ∀ c : Dev Cert.ReferenceFfnUpIdeal.nD,
          r.2.mem ((c.tc : Thread Cert.ReferenceFfnUpIdeal.nD Cert.ReferenceFfnUpIdeal.τ).loc Cert.ReferenceFfnUpIdeal.main_v16) = v0 c
          ∧ r.2.mem ((c.tc : Thread Cert.ReferenceFfnUpIdeal.nD Cert.ReferenceFfnUpIdeal.τ).loc Cert.ReferenceFfnUpIdeal.main_v18) = v1 c
          ∧ r.2.mem ((c.tc : Thread Cert.ReferenceFfnUpIdeal.nD Cert.ReferenceFfnUpIdeal.τ).loc Cert.ReferenceFfnUpIdeal.main_v20) = v2 c
          ∧ r.2.mem ((c.tc : Thread Cert.ReferenceFfnUpIdeal.nD Cert.ReferenceFfnUpIdeal.τ).loc Cert.ReferenceFfnUpIdeal.main_v22) = v3 c
          ∧ r.2.mem ((c.tc : Thread Cert.ReferenceFfnUpIdeal.nD Cert.ReferenceFfnUpIdeal.τ).loc Cert.ReferenceFfnUpIdeal.main_arg0) = m' ((c.tc : Thread Cert.ReferenceFfnUpIdeal.nD Cert.ReferenceFfnUpIdeal.τ).loc Cert.ReferenceFfnUpIdeal.main_arg0)
          ∧ r.2.mem ((c.tc : Thread Cert.ReferenceFfnUpIdeal.nD Cert.ReferenceFfnUpIdeal.τ).loc Cert.ReferenceFfnUpIdeal.main_arg1) = m' ((c.tc : Thread Cert.ReferenceFfnUpIdeal.nD Cert.ReferenceFfnUpIdeal.τ).loc Cert.ReferenceFfnUpIdeal.main_arg1)
          ∧ r.2.mem ((c.tc : Thread Cert.ReferenceFfnUpIdeal.nD Cert.ReferenceFfnUpIdeal.τ).loc Cert.ReferenceFfnUpIdeal.main_arg2) = m' ((c.tc : Thread Cert.ReferenceFfnUpIdeal.nD Cert.ReferenceFfnUpIdeal.τ).loc Cert.ReferenceFfnUpIdeal.main_arg2)
          ∧ r.2.mem ((c.tc : Thread Cert.ReferenceFfnUpIdeal.nD Cert.ReferenceFfnUpIdeal.τ).loc Cert.ReferenceFfnUpIdeal.main_arg3) = m' ((c.tc : Thread Cert.ReferenceFfnUpIdeal.nD Cert.ReferenceFfnUpIdeal.τ).loc Cert.ReferenceFfnUpIdeal.main_arg3))

def preserves_FfnDown_FfnDownIdeal : Prop :=
  True

def algebraic_FfnDownIdeal_ReferenceFfnDownIdeal [hFfnDownIdeal : Cert.FfnDownIdeal.Facts] [hReferenceFfnDownIdeal : Cert.ReferenceFfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.ReferenceFfnDownIdeal.nD Cert.ReferenceFfnDownIdeal.τ Cert.ReferenceFfnDownIdeal.sig) → Buf (Elt Ideal) ℓ) (g' : Dev Cert.ReferenceFfnDownIdeal.nD → PrngReg), Pre_FfnDownIdeal m →
    (∀ c : Dev Cert.FfnDownIdeal.nD,
      m' ((c.tc : Thread Cert.ReferenceFfnDownIdeal.nD Cert.ReferenceFfnDownIdeal.τ).loc Cert.ReferenceFfnDownIdeal.main_arg0) = m ((c.tc : Thread Cert.FfnDownIdeal.nD Cert.FfnDownIdeal.τ).loc Cert.FfnDownIdeal.main_arg0)
      ∧ m' ((c.tc : Thread Cert.ReferenceFfnDownIdeal.nD Cert.ReferenceFfnDownIdeal.τ).loc Cert.ReferenceFfnDownIdeal.main_arg1) = m ((c.tc : Thread Cert.FfnDownIdeal.nD Cert.FfnDownIdeal.τ).loc Cert.FfnDownIdeal.main_arg1)
      ∧ m' ((c.tc : Thread Cert.ReferenceFfnDownIdeal.nD Cert.ReferenceFfnDownIdeal.τ).loc Cert.ReferenceFfnDownIdeal.main_arg2) = m ((c.tc : Thread Cert.FfnDownIdeal.nD Cert.FfnDownIdeal.τ).loc Cert.FfnDownIdeal.main_arg2)
      ∧ m' ((c.tc : Thread Cert.ReferenceFfnDownIdeal.nD Cert.ReferenceFfnDownIdeal.τ).loc Cert.ReferenceFfnDownIdeal.main_arg3) = m ((c.tc : Thread Cert.FfnDownIdeal.nD Cert.FfnDownIdeal.τ).loc Cert.FfnDownIdeal.main_arg3)
      ∧ m' ((c.tc : Thread Cert.ReferenceFfnDownIdeal.nD Cert.ReferenceFfnDownIdeal.τ).loc Cert.ReferenceFfnDownIdeal.main_arg4) = m ((c.tc : Thread Cert.FfnDownIdeal.nD Cert.FfnDownIdeal.τ).loc Cert.FfnDownIdeal.main_arg4)
      ∧ m' ((c.tc : Thread Cert.ReferenceFfnDownIdeal.nD Cert.ReferenceFfnDownIdeal.τ).loc Cert.ReferenceFfnDownIdeal.main_arg5) = m ((c.tc : Thread Cert.FfnDownIdeal.nD Cert.FfnDownIdeal.τ).loc Cert.FfnDownIdeal.main_arg5)) →
    ∃ (v0 : (c : Dev Cert.FfnDownIdeal.nD) → Buf (Elt Ideal) ((c.tc : Thread Cert.FfnDownIdeal.nD Cert.FfnDownIdeal.τ).loc Cert.FfnDownIdeal.main_v3_0)) (v1 : (c : Dev Cert.FfnDownIdeal.nD) → Buf (Elt Ideal) ((c.tc : Thread Cert.FfnDownIdeal.nD Cert.FfnDownIdeal.τ).loc Cert.FfnDownIdeal.main_v3_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v3_0) = v0 c
          ∧ r.2.mem ((c.tc : Thread Cert.FfnDownIdeal.nD Cert.FfnDownIdeal.τ).loc Cert.FfnDownIdeal.main_v3_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
          ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5))
      ∧ θ_run (Cert.ReferenceFfnDownIdeal.defs (F := Ideal)) (onTc (τ := Cert.ReferenceFfnDownIdeal.τ) (Cert.ReferenceFfnDownIdeal.main (F := Ideal))) ⟨m', fun _ => 0, g'⟩ (fun r => ∀ c : Dev Cert.ReferenceFfnDownIdeal.nD,
          r.2.mem ((c.tc : Thread Cert.ReferenceFfnDownIdeal.nD Cert.ReferenceFfnDownIdeal.τ).loc Cert.ReferenceFfnDownIdeal.main_v37) = v0 c
          ∧ r.2.mem ((c.tc : Thread Cert.ReferenceFfnDownIdeal.nD Cert.ReferenceFfnDownIdeal.τ).loc Cert.ReferenceFfnDownIdeal.main_v38) = v1 c
          ∧ r.2.mem ((c.tc : Thread Cert.ReferenceFfnDownIdeal.nD Cert.ReferenceFfnDownIdeal.τ).loc Cert.ReferenceFfnDownIdeal.main_arg0) = m' ((c.tc : Thread Cert.ReferenceFfnDownIdeal.nD Cert.ReferenceFfnDownIdeal.τ).loc Cert.ReferenceFfnDownIdeal.main_arg0)
          ∧ r.2.mem ((c.tc : Thread Cert.ReferenceFfnDownIdeal.nD Cert.ReferenceFfnDownIdeal.τ).loc Cert.ReferenceFfnDownIdeal.main_arg1) = m' ((c.tc : Thread Cert.ReferenceFfnDownIdeal.nD Cert.ReferenceFfnDownIdeal.τ).loc Cert.ReferenceFfnDownIdeal.main_arg1)
          ∧ r.2.mem ((c.tc : Thread Cert.ReferenceFfnDownIdeal.nD Cert.ReferenceFfnDownIdeal.τ).loc Cert.ReferenceFfnDownIdeal.main_arg2) = m' ((c.tc : Thread Cert.ReferenceFfnDownIdeal.nD Cert.ReferenceFfnDownIdeal.τ).loc Cert.ReferenceFfnDownIdeal.main_arg2)
          ∧ r.2.mem ((c.tc : Thread Cert.ReferenceFfnDownIdeal.nD Cert.ReferenceFfnDownIdeal.τ).loc Cert.ReferenceFfnDownIdeal.main_arg3) = m' ((c.tc : Thread Cert.ReferenceFfnDownIdeal.nD Cert.ReferenceFfnDownIdeal.τ).loc Cert.ReferenceFfnDownIdeal.main_arg3)
          ∧ r.2.mem ((c.tc : Thread Cert.ReferenceFfnDownIdeal.nD Cert.ReferenceFfnDownIdeal.τ).loc Cert.ReferenceFfnDownIdeal.main_arg4) = m' ((c.tc : Thread Cert.ReferenceFfnDownIdeal.nD Cert.ReferenceFfnDownIdeal.τ).loc Cert.ReferenceFfnDownIdeal.main_arg4)
          ∧ r.2.mem ((c.tc : Thread Cert.ReferenceFfnDownIdeal.nD Cert.ReferenceFfnDownIdeal.τ).loc Cert.ReferenceFfnDownIdeal.main_arg5) = m' ((c.tc : Thread Cert.ReferenceFfnDownIdeal.nD Cert.ReferenceFfnDownIdeal.τ).loc Cert.ReferenceFfnDownIdeal.main_arg5))

def preserves_GradSq_GradSqIdeal : Prop :=
  True

def algebraic_GradSqIdeal_ReferenceGradSqIdeal [hGradSqIdeal : Cert.GradSqIdeal.Facts] [hReferenceGradSqIdeal : Cert.ReferenceGradSqIdeal.Facts] : Prop :=
  ∀ (m : (ℓ : Loc Cert.GradSqIdeal.nD Cert.GradSqIdeal.τ Cert.GradSqIdeal.sig) → Buf (Elt Ideal) ℓ) (g : Dev Cert.GradSqIdeal.nD → PrngReg)
    (m' : (ℓ : Loc Cert.ReferenceGradSqIdeal.nD Cert.ReferenceGradSqIdeal.τ Cert.ReferenceGradSqIdeal.sig) → Buf (Elt Ideal) ℓ) (g' : Dev Cert.ReferenceGradSqIdeal.nD → PrngReg), Pre_GradSqIdeal m →
    (∀ c : Dev Cert.GradSqIdeal.nD,
      m' ((c.tc : Thread Cert.ReferenceGradSqIdeal.nD Cert.ReferenceGradSqIdeal.τ).loc Cert.ReferenceGradSqIdeal.main_arg0) = m ((c.tc : Thread Cert.GradSqIdeal.nD Cert.GradSqIdeal.τ).loc Cert.GradSqIdeal.main_arg0)
      ∧ m' ((c.tc : Thread Cert.ReferenceGradSqIdeal.nD Cert.ReferenceGradSqIdeal.τ).loc Cert.ReferenceGradSqIdeal.main_arg1) = m ((c.tc : Thread Cert.GradSqIdeal.nD Cert.GradSqIdeal.τ).loc Cert.GradSqIdeal.main_arg1)
      ∧ m' ((c.tc : Thread Cert.ReferenceGradSqIdeal.nD Cert.ReferenceGradSqIdeal.τ).loc Cert.ReferenceGradSqIdeal.main_arg2) = m ((c.tc : Thread Cert.GradSqIdeal.nD Cert.GradSqIdeal.τ).loc Cert.GradSqIdeal.main_arg2)) →
    ∃ (v0 : (c : Dev Cert.GradSqIdeal.nD) → Buf (Elt Ideal) ((c.tc : Thread Cert.GradSqIdeal.nD Cert.GradSqIdeal.τ).loc Cert.GradSqIdeal.main_v0)),
      θ_run (Cert.GradSqIdeal.defs (F := Ideal)) (onTc (τ := Cert.GradSqIdeal.τ) (Cert.GradSqIdeal.main (F := Ideal))) ⟨m, fun _ => 0, g⟩ (fun r => ∀ c : Dev Cert.GradSqIdeal.nD,
          r.2.mem ((c.tc : Thread Cert.GradSqIdeal.nD Cert.GradSqIdeal.τ).loc Cert.GradSqIdeal.main_v0) = v0 c
          ∧ r.2.mem ((c.tc : Thread Cert.GradSqIdeal.nD Cert.GradSqIdeal.τ).loc Cert.GradSqIdeal.main_arg0) = m ((c.tc : Thread Cert.GradSqIdeal.nD Cert.GradSqIdeal.τ).loc Cert.GradSqIdeal.main_arg0)
          ∧ r.2.mem ((c.tc : Thread Cert.GradSqIdeal.nD Cert.GradSqIdeal.τ).loc Cert.GradSqIdeal.main_arg1) = m ((c.tc : Thread Cert.GradSqIdeal.nD Cert.GradSqIdeal.τ).loc Cert.GradSqIdeal.main_arg1)
          ∧ r.2.mem ((c.tc : Thread Cert.GradSqIdeal.nD Cert.GradSqIdeal.τ).loc Cert.GradSqIdeal.main_arg2) = m ((c.tc : Thread Cert.GradSqIdeal.nD Cert.GradSqIdeal.τ).loc Cert.GradSqIdeal.main_arg2))
      ∧ θ_run (Cert.ReferenceGradSqIdeal.defs (F := Ideal)) (onTc (τ := Cert.ReferenceGradSqIdeal.τ) (Cert.ReferenceGradSqIdeal.main (F := Ideal))) ⟨m', fun _ => 0, g'⟩ (fun r => ∀ c : Dev Cert.ReferenceGradSqIdeal.nD,
          r.2.mem ((c.tc : Thread Cert.ReferenceGradSqIdeal.nD Cert.ReferenceGradSqIdeal.τ).loc Cert.ReferenceGradSqIdeal.main_v7) = v0 c
          ∧ r.2.mem ((c.tc : Thread Cert.ReferenceGradSqIdeal.nD Cert.ReferenceGradSqIdeal.τ).loc Cert.ReferenceGradSqIdeal.main_arg0) = m' ((c.tc : Thread Cert.ReferenceGradSqIdeal.nD Cert.ReferenceGradSqIdeal.τ).loc Cert.ReferenceGradSqIdeal.main_arg0)
          ∧ r.2.mem ((c.tc : Thread Cert.ReferenceGradSqIdeal.nD Cert.ReferenceGradSqIdeal.τ).loc Cert.ReferenceGradSqIdeal.main_arg1) = m' ((c.tc : Thread Cert.ReferenceGradSqIdeal.nD Cert.ReferenceGradSqIdeal.τ).loc Cert.ReferenceGradSqIdeal.main_arg1)
          ∧ r.2.mem ((c.tc : Thread Cert.ReferenceGradSqIdeal.nD Cert.ReferenceGradSqIdeal.τ).loc Cert.ReferenceGradSqIdeal.main_arg2) = m' ((c.tc : Thread Cert.ReferenceGradSqIdeal.nD Cert.ReferenceGradSqIdeal.τ).loc Cert.ReferenceGradSqIdeal.main_arg2))

def preserves_OddIn_OddInIdeal : Prop :=
  True

def algebraic_OddInIdeal_ReferenceOddInIdeal [hOddInIdeal : Cert.OddInIdeal.Facts] [hReferenceOddInIdeal : Cert.ReferenceOddInIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.ReferenceOddInIdeal.nD Cert.ReferenceOddInIdeal.τ Cert.ReferenceOddInIdeal.sig) → Buf (Elt Ideal) ℓ) (g' : Dev Cert.ReferenceOddInIdeal.nD → PrngReg), Pre_OddInIdeal m →
    (∀ c : Dev Cert.OddInIdeal.nD,
      m' ((c.tc : Thread Cert.ReferenceOddInIdeal.nD Cert.ReferenceOddInIdeal.τ).loc Cert.ReferenceOddInIdeal.main_arg0) = m ((c.tc : Thread Cert.OddInIdeal.nD Cert.OddInIdeal.τ).loc Cert.OddInIdeal.main_arg0)
      ∧ m' ((c.tc : Thread Cert.ReferenceOddInIdeal.nD Cert.ReferenceOddInIdeal.τ).loc Cert.ReferenceOddInIdeal.main_arg1) = m ((c.tc : Thread Cert.OddInIdeal.nD Cert.OddInIdeal.τ).loc Cert.OddInIdeal.main_arg1)
      ∧ m' ((c.tc : Thread Cert.ReferenceOddInIdeal.nD Cert.ReferenceOddInIdeal.τ).loc Cert.ReferenceOddInIdeal.main_arg2) = m ((c.tc : Thread Cert.OddInIdeal.nD Cert.OddInIdeal.τ).loc Cert.OddInIdeal.main_arg2)
      ∧ m' ((c.tc : Thread Cert.ReferenceOddInIdeal.nD Cert.ReferenceOddInIdeal.τ).loc Cert.ReferenceOddInIdeal.main_arg3) = m ((c.tc : Thread Cert.OddInIdeal.nD Cert.OddInIdeal.τ).loc Cert.OddInIdeal.main_arg3)) →
    ∃ (v0 : (c : Dev Cert.OddInIdeal.nD) → Buf (Elt Ideal) ((c.tc : Thread Cert.OddInIdeal.nD Cert.OddInIdeal.τ).loc Cert.OddInIdeal.main_v2_0)) (v1 : (c : Dev Cert.OddInIdeal.nD) → Buf (Elt Ideal) ((c.tc : Thread Cert.OddInIdeal.nD Cert.OddInIdeal.τ).loc Cert.OddInIdeal.main_v2_1)) (v2 : (c : Dev Cert.OddInIdeal.nD) → Buf (Elt Ideal) ((c.tc : Thread Cert.OddInIdeal.nD Cert.OddInIdeal.τ).loc Cert.OddInIdeal.main_v2_2)) (v3 : (c : Dev Cert.OddInIdeal.nD) → Buf (Elt Ideal) ((c.tc : Thread Cert.OddInIdeal.nD Cert.OddInIdeal.τ).loc Cert.OddInIdeal.main_v2_3)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v2_0) = v0 c
          ∧ r.2.mem ((c.tc : Thread Cert.OddInIdeal.nD Cert.OddInIdeal.τ).loc Cert.OddInIdeal.main_v2_1) = v1 c
          ∧ r.2.mem ((c.tc : Thread Cert.OddInIdeal.nD Cert.OddInIdeal.τ).loc Cert.OddInIdeal.main_v2_2) = v2 c
          ∧ r.2.mem ((c.tc : Thread Cert.OddInIdeal.nD Cert.OddInIdeal.τ).loc Cert.OddInIdeal.main_v2_3) = v3 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3))
      ∧ θ_run (Cert.ReferenceOddInIdeal.defs (F := Ideal)) (onTc (τ := Cert.ReferenceOddInIdeal.τ) (Cert.ReferenceOddInIdeal.main (F := Ideal))) ⟨m', fun _ => 0, g'⟩ (fun r => ∀ c : Dev Cert.ReferenceOddInIdeal.nD,
          r.2.mem ((c.tc : Thread Cert.ReferenceOddInIdeal.nD Cert.ReferenceOddInIdeal.τ).loc Cert.ReferenceOddInIdeal.main_v15) = v0 c
          ∧ r.2.mem ((c.tc : Thread Cert.ReferenceOddInIdeal.nD Cert.ReferenceOddInIdeal.τ).loc Cert.ReferenceOddInIdeal.main_v16) = v1 c
          ∧ r.2.mem ((c.tc : Thread Cert.ReferenceOddInIdeal.nD Cert.ReferenceOddInIdeal.τ).loc Cert.ReferenceOddInIdeal.main_v17) = v2 c
          ∧ r.2.mem ((c.tc : Thread Cert.ReferenceOddInIdeal.nD Cert.ReferenceOddInIdeal.τ).loc Cert.ReferenceOddInIdeal.main_v18) = v3 c
          ∧ r.2.mem ((c.tc : Thread Cert.ReferenceOddInIdeal.nD Cert.ReferenceOddInIdeal.τ).loc Cert.ReferenceOddInIdeal.main_arg0) = m' ((c.tc : Thread Cert.ReferenceOddInIdeal.nD Cert.ReferenceOddInIdeal.τ).loc Cert.ReferenceOddInIdeal.main_arg0)
          ∧ r.2.mem ((c.tc : Thread Cert.ReferenceOddInIdeal.nD Cert.ReferenceOddInIdeal.τ).loc Cert.ReferenceOddInIdeal.main_arg1) = m' ((c.tc : Thread Cert.ReferenceOddInIdeal.nD Cert.ReferenceOddInIdeal.τ).loc Cert.ReferenceOddInIdeal.main_arg1)
          ∧ r.2.mem ((c.tc : Thread Cert.ReferenceOddInIdeal.nD Cert.ReferenceOddInIdeal.τ).loc Cert.ReferenceOddInIdeal.main_arg2) = m' ((c.tc : Thread Cert.ReferenceOddInIdeal.nD Cert.ReferenceOddInIdeal.τ).loc Cert.ReferenceOddInIdeal.main_arg2)
          ∧ r.2.mem ((c.tc : Thread Cert.ReferenceOddInIdeal.nD Cert.ReferenceOddInIdeal.τ).loc Cert.ReferenceOddInIdeal.main_arg3) = m' ((c.tc : Thread Cert.ReferenceOddInIdeal.nD Cert.ReferenceOddInIdeal.τ).loc Cert.ReferenceOddInIdeal.main_arg3))

def preserves_OddInBwd_OddInBwdIdeal : Prop :=
  True

def algebraic_OddInBwdIdeal_ReferenceOddInBwdIdeal [hOddInBwdIdeal : Cert.OddInBwdIdeal.Facts] [hReferenceOddInBwdIdeal : Cert.ReferenceOddInBwdIdeal.Facts] : Prop :=
  ∀ (m : (ℓ : Loc Cert.OddInBwdIdeal.nD Cert.OddInBwdIdeal.τ Cert.OddInBwdIdeal.sig) → Buf (Elt Ideal) ℓ) (g : Dev Cert.OddInBwdIdeal.nD → PrngReg)
    (m' : (ℓ : Loc Cert.ReferenceOddInBwdIdeal.nD Cert.ReferenceOddInBwdIdeal.τ Cert.ReferenceOddInBwdIdeal.sig) → Buf (Elt Ideal) ℓ) (g' : Dev Cert.ReferenceOddInBwdIdeal.nD → PrngReg), Pre_OddInBwdIdeal m →
    (∀ c : Dev Cert.OddInBwdIdeal.nD,
      m' ((c.tc : Thread Cert.ReferenceOddInBwdIdeal.nD Cert.ReferenceOddInBwdIdeal.τ).loc Cert.ReferenceOddInBwdIdeal.main_arg0) = m ((c.tc : Thread Cert.OddInBwdIdeal.nD Cert.OddInBwdIdeal.τ).loc Cert.OddInBwdIdeal.main_arg0)
      ∧ m' ((c.tc : Thread Cert.ReferenceOddInBwdIdeal.nD Cert.ReferenceOddInBwdIdeal.τ).loc Cert.ReferenceOddInBwdIdeal.main_arg1) = m ((c.tc : Thread Cert.OddInBwdIdeal.nD Cert.OddInBwdIdeal.τ).loc Cert.OddInBwdIdeal.main_arg1)
      ∧ m' ((c.tc : Thread Cert.ReferenceOddInBwdIdeal.nD Cert.ReferenceOddInBwdIdeal.τ).loc Cert.ReferenceOddInBwdIdeal.main_arg2) = m ((c.tc : Thread Cert.OddInBwdIdeal.nD Cert.OddInBwdIdeal.τ).loc Cert.OddInBwdIdeal.main_arg2)
      ∧ m' ((c.tc : Thread Cert.ReferenceOddInBwdIdeal.nD Cert.ReferenceOddInBwdIdeal.τ).loc Cert.ReferenceOddInBwdIdeal.main_arg3) = m ((c.tc : Thread Cert.OddInBwdIdeal.nD Cert.OddInBwdIdeal.τ).loc Cert.OddInBwdIdeal.main_arg3)
      ∧ m' ((c.tc : Thread Cert.ReferenceOddInBwdIdeal.nD Cert.ReferenceOddInBwdIdeal.τ).loc Cert.ReferenceOddInBwdIdeal.main_arg4) = m ((c.tc : Thread Cert.OddInBwdIdeal.nD Cert.OddInBwdIdeal.τ).loc Cert.OddInBwdIdeal.main_arg4)
      ∧ m' ((c.tc : Thread Cert.ReferenceOddInBwdIdeal.nD Cert.ReferenceOddInBwdIdeal.τ).loc Cert.ReferenceOddInBwdIdeal.main_arg5) = m ((c.tc : Thread Cert.OddInBwdIdeal.nD Cert.OddInBwdIdeal.τ).loc Cert.OddInBwdIdeal.main_arg5)
      ∧ m' ((c.tc : Thread Cert.ReferenceOddInBwdIdeal.nD Cert.ReferenceOddInBwdIdeal.τ).loc Cert.ReferenceOddInBwdIdeal.main_arg6) = m ((c.tc : Thread Cert.OddInBwdIdeal.nD Cert.OddInBwdIdeal.τ).loc Cert.OddInBwdIdeal.main_arg6)) →
    ∃ (v0 : (c : Dev Cert.OddInBwdIdeal.nD) → Buf (Elt Ideal) ((c.tc : Thread Cert.OddInBwdIdeal.nD Cert.OddInBwdIdeal.τ).loc Cert.OddInBwdIdeal.main_v1_0)) (v1 : (c : Dev Cert.OddInBwdIdeal.nD) → Buf (Elt Ideal) ((c.tc : Thread Cert.OddInBwdIdeal.nD Cert.OddInBwdIdeal.τ).loc Cert.OddInBwdIdeal.main_v1_1)) (v2 : (c : Dev Cert.OddInBwdIdeal.nD) → Buf (Elt Ideal) ((c.tc : Thread Cert.OddInBwdIdeal.nD Cert.OddInBwdIdeal.τ).loc Cert.OddInBwdIdeal.main_v1_2)),
      θ_run (Cert.OddInBwdIdeal.defs (F := Ideal)) (onTc (τ := Cert.OddInBwdIdeal.τ) (Cert.OddInBwdIdeal.main (F := Ideal))) ⟨m, fun _ => 0, g⟩ (fun r => ∀ c : Dev Cert.OddInBwdIdeal.nD,
          r.2.mem ((c.tc : Thread Cert.OddInBwdIdeal.nD Cert.OddInBwdIdeal.τ).loc Cert.OddInBwdIdeal.main_v1_0) = v0 c
          ∧ r.2.mem ((c.tc : Thread Cert.OddInBwdIdeal.nD Cert.OddInBwdIdeal.τ).loc Cert.OddInBwdIdeal.main_v1_1) = v1 c
          ∧ r.2.mem ((c.tc : Thread Cert.OddInBwdIdeal.nD Cert.OddInBwdIdeal.τ).loc Cert.OddInBwdIdeal.main_v1_2) = v2 c
          ∧ r.2.mem ((c.tc : Thread Cert.OddInBwdIdeal.nD Cert.OddInBwdIdeal.τ).loc Cert.OddInBwdIdeal.main_arg0) = m ((c.tc : Thread Cert.OddInBwdIdeal.nD Cert.OddInBwdIdeal.τ).loc Cert.OddInBwdIdeal.main_arg0)
          ∧ r.2.mem ((c.tc : Thread Cert.OddInBwdIdeal.nD Cert.OddInBwdIdeal.τ).loc Cert.OddInBwdIdeal.main_arg1) = m ((c.tc : Thread Cert.OddInBwdIdeal.nD Cert.OddInBwdIdeal.τ).loc Cert.OddInBwdIdeal.main_arg1)
          ∧ r.2.mem ((c.tc : Thread Cert.OddInBwdIdeal.nD Cert.OddInBwdIdeal.τ).loc Cert.OddInBwdIdeal.main_arg2) = m ((c.tc : Thread Cert.OddInBwdIdeal.nD Cert.OddInBwdIdeal.τ).loc Cert.OddInBwdIdeal.main_arg2)
          ∧ r.2.mem ((c.tc : Thread Cert.OddInBwdIdeal.nD Cert.OddInBwdIdeal.τ).loc Cert.OddInBwdIdeal.main_arg3) = m ((c.tc : Thread Cert.OddInBwdIdeal.nD Cert.OddInBwdIdeal.τ).loc Cert.OddInBwdIdeal.main_arg3)
          ∧ r.2.mem ((c.tc : Thread Cert.OddInBwdIdeal.nD Cert.OddInBwdIdeal.τ).loc Cert.OddInBwdIdeal.main_arg4) = m ((c.tc : Thread Cert.OddInBwdIdeal.nD Cert.OddInBwdIdeal.τ).loc Cert.OddInBwdIdeal.main_arg4)
          ∧ r.2.mem ((c.tc : Thread Cert.OddInBwdIdeal.nD Cert.OddInBwdIdeal.τ).loc Cert.OddInBwdIdeal.main_arg5) = m ((c.tc : Thread Cert.OddInBwdIdeal.nD Cert.OddInBwdIdeal.τ).loc Cert.OddInBwdIdeal.main_arg5)
          ∧ r.2.mem ((c.tc : Thread Cert.OddInBwdIdeal.nD Cert.OddInBwdIdeal.τ).loc Cert.OddInBwdIdeal.main_arg6) = m ((c.tc : Thread Cert.OddInBwdIdeal.nD Cert.OddInBwdIdeal.τ).loc Cert.OddInBwdIdeal.main_arg6))
      ∧ θ_run (Cert.ReferenceOddInBwdIdeal.defs (F := Ideal)) (onTc (τ := Cert.ReferenceOddInBwdIdeal.τ) (Cert.ReferenceOddInBwdIdeal.main (F := Ideal))) ⟨m', fun _ => 0, g'⟩ (fun r => ∀ c : Dev Cert.ReferenceOddInBwdIdeal.nD,
          r.2.mem ((c.tc : Thread Cert.ReferenceOddInBwdIdeal.nD Cert.ReferenceOddInBwdIdeal.τ).loc Cert.ReferenceOddInBwdIdeal.main_v30) = v0 c
          ∧ r.2.mem ((c.tc : Thread Cert.ReferenceOddInBwdIdeal.nD Cert.ReferenceOddInBwdIdeal.τ).loc Cert.ReferenceOddInBwdIdeal.main_v31) = v1 c
          ∧ r.2.mem ((c.tc : Thread Cert.ReferenceOddInBwdIdeal.nD Cert.ReferenceOddInBwdIdeal.τ).loc Cert.ReferenceOddInBwdIdeal.main_v32) = v2 c
          ∧ r.2.mem ((c.tc : Thread Cert.ReferenceOddInBwdIdeal.nD Cert.ReferenceOddInBwdIdeal.τ).loc Cert.ReferenceOddInBwdIdeal.main_arg0) = m' ((c.tc : Thread Cert.ReferenceOddInBwdIdeal.nD Cert.ReferenceOddInBwdIdeal.τ).loc Cert.ReferenceOddInBwdIdeal.main_arg0)
          ∧ r.2.mem ((c.tc : Thread Cert.ReferenceOddInBwdIdeal.nD Cert.ReferenceOddInBwdIdeal.τ).loc Cert.ReferenceOddInBwdIdeal.main_arg1) = m' ((c.tc : Thread Cert.ReferenceOddInBwdIdeal.nD Cert.ReferenceOddInBwdIdeal.τ).loc Cert.ReferenceOddInBwdIdeal.main_arg1)
          ∧ r.2.mem ((c.tc : Thread Cert.ReferenceOddInBwdIdeal.nD Cert.ReferenceOddInBwdIdeal.τ).loc Cert.ReferenceOddInBwdIdeal.main_arg2) = m' ((c.tc : Thread Cert.ReferenceOddInBwdIdeal.nD Cert.ReferenceOddInBwdIdeal.τ).loc Cert.ReferenceOddInBwdIdeal.main_arg2)
          ∧ r.2.mem ((c.tc : Thread Cert.ReferenceOddInBwdIdeal.nD Cert.ReferenceOddInBwdIdeal.τ).loc Cert.ReferenceOddInBwdIdeal.main_arg3) = m' ((c.tc : Thread Cert.ReferenceOddInBwdIdeal.nD Cert.ReferenceOddInBwdIdeal.τ).loc Cert.ReferenceOddInBwdIdeal.main_arg3)
          ∧ r.2.mem ((c.tc : Thread Cert.ReferenceOddInBwdIdeal.nD Cert.ReferenceOddInBwdIdeal.τ).loc Cert.ReferenceOddInBwdIdeal.main_arg4) = m' ((c.tc : Thread Cert.ReferenceOddInBwdIdeal.nD Cert.ReferenceOddInBwdIdeal.τ).loc Cert.ReferenceOddInBwdIdeal.main_arg4)
          ∧ r.2.mem ((c.tc : Thread Cert.ReferenceOddInBwdIdeal.nD Cert.ReferenceOddInBwdIdeal.τ).loc Cert.ReferenceOddInBwdIdeal.main_arg5) = m' ((c.tc : Thread Cert.ReferenceOddInBwdIdeal.nD Cert.ReferenceOddInBwdIdeal.τ).loc Cert.ReferenceOddInBwdIdeal.main_arg5)
          ∧ r.2.mem ((c.tc : Thread Cert.ReferenceOddInBwdIdeal.nD Cert.ReferenceOddInBwdIdeal.τ).loc Cert.ReferenceOddInBwdIdeal.main_arg6) = m' ((c.tc : Thread Cert.ReferenceOddInBwdIdeal.nD Cert.ReferenceOddInBwdIdeal.τ).loc Cert.ReferenceOddInBwdIdeal.main_arg6))

def preserves_FfnUpBwd_FfnUpBwdIdeal : Prop :=
  True

def algebraic_FfnUpBwdIdeal_ReferenceFfnUpBwdIdeal_pre_ffn_finite [hFfnUpBwdIdeal : Cert.FfnUpBwdIdeal.Facts] [hReferenceFfnUpBwdIdeal : Cert.ReferenceFfnUpBwdIdeal.Facts] [hPre_ffn_finite : Cert.Pre_ffn_finite.Facts] : Prop :=
  ∀ (m : (ℓ : Loc Cert.FfnUpBwdIdeal.nD Cert.FfnUpBwdIdeal.τ Cert.FfnUpBwdIdeal.sig) → Buf (Elt Ideal) ℓ) (g : Dev Cert.FfnUpBwdIdeal.nD → PrngReg)
    (m' : (ℓ : Loc Cert.ReferenceFfnUpBwdIdeal.nD Cert.ReferenceFfnUpBwdIdeal.τ Cert.ReferenceFfnUpBwdIdeal.sig) → Buf (Elt Ideal) ℓ) (g' : Dev Cert.ReferenceFfnUpBwdIdeal.nD → PrngReg), Pre_FfnUpBwdIdeal_ffn_finite m →
    (∀ c : Dev Cert.FfnUpBwdIdeal.nD,
      m' ((c.tc : Thread Cert.ReferenceFfnUpBwdIdeal.nD Cert.ReferenceFfnUpBwdIdeal.τ).loc Cert.ReferenceFfnUpBwdIdeal.main_arg0) = m ((c.tc : Thread Cert.FfnUpBwdIdeal.nD Cert.FfnUpBwdIdeal.τ).loc Cert.FfnUpBwdIdeal.main_arg0)
      ∧ m' ((c.tc : Thread Cert.ReferenceFfnUpBwdIdeal.nD Cert.ReferenceFfnUpBwdIdeal.τ).loc Cert.ReferenceFfnUpBwdIdeal.main_arg1) = m ((c.tc : Thread Cert.FfnUpBwdIdeal.nD Cert.FfnUpBwdIdeal.τ).loc Cert.FfnUpBwdIdeal.main_arg1)
      ∧ m' ((c.tc : Thread Cert.ReferenceFfnUpBwdIdeal.nD Cert.ReferenceFfnUpBwdIdeal.τ).loc Cert.ReferenceFfnUpBwdIdeal.main_arg2) = m ((c.tc : Thread Cert.FfnUpBwdIdeal.nD Cert.FfnUpBwdIdeal.τ).loc Cert.FfnUpBwdIdeal.main_arg2)
      ∧ m' ((c.tc : Thread Cert.ReferenceFfnUpBwdIdeal.nD Cert.ReferenceFfnUpBwdIdeal.τ).loc Cert.ReferenceFfnUpBwdIdeal.main_arg3) = m ((c.tc : Thread Cert.FfnUpBwdIdeal.nD Cert.FfnUpBwdIdeal.τ).loc Cert.FfnUpBwdIdeal.main_arg3)
      ∧ m' ((c.tc : Thread Cert.ReferenceFfnUpBwdIdeal.nD Cert.ReferenceFfnUpBwdIdeal.τ).loc Cert.ReferenceFfnUpBwdIdeal.main_arg4) = m ((c.tc : Thread Cert.FfnUpBwdIdeal.nD Cert.FfnUpBwdIdeal.τ).loc Cert.FfnUpBwdIdeal.main_arg4)
      ∧ m' ((c.tc : Thread Cert.ReferenceFfnUpBwdIdeal.nD Cert.ReferenceFfnUpBwdIdeal.τ).loc Cert.ReferenceFfnUpBwdIdeal.main_arg5) = m ((c.tc : Thread Cert.FfnUpBwdIdeal.nD Cert.FfnUpBwdIdeal.τ).loc Cert.FfnUpBwdIdeal.main_arg5)) →
    ∃ (v0 : (c : Dev Cert.FfnUpBwdIdeal.nD) → Buf (Elt Ideal) ((c.tc : Thread Cert.FfnUpBwdIdeal.nD Cert.FfnUpBwdIdeal.τ).loc Cert.FfnUpBwdIdeal.main_v18_0)) (v1 : (c : Dev Cert.FfnUpBwdIdeal.nD) → Buf (Elt Ideal) ((c.tc : Thread Cert.FfnUpBwdIdeal.nD Cert.FfnUpBwdIdeal.τ).loc Cert.FfnUpBwdIdeal.main_v18_1)) (v2 : (c : Dev Cert.FfnUpBwdIdeal.nD) → Buf (Elt Ideal) ((c.tc : Thread Cert.FfnUpBwdIdeal.nD Cert.FfnUpBwdIdeal.τ).loc Cert.FfnUpBwdIdeal.main_v18_2)) (v3 : (c : Dev Cert.FfnUpBwdIdeal.nD) → Buf (Elt Ideal) ((c.tc : Thread Cert.FfnUpBwdIdeal.nD Cert.FfnUpBwdIdeal.τ).loc Cert.FfnUpBwdIdeal.main_v18_3)),
      θ_run (Cert.FfnUpBwdIdeal.defs (F := Ideal)) (onTc (τ := Cert.FfnUpBwdIdeal.τ) (Cert.FfnUpBwdIdeal.main (F := Ideal))) ⟨m, fun _ => 0, g⟩ (fun r => ∀ c : Dev Cert.FfnUpBwdIdeal.nD,
          r.2.mem ((c.tc : Thread Cert.FfnUpBwdIdeal.nD Cert.FfnUpBwdIdeal.τ).loc Cert.FfnUpBwdIdeal.main_v18_0) = v0 c
          ∧ r.2.mem ((c.tc : Thread Cert.FfnUpBwdIdeal.nD Cert.FfnUpBwdIdeal.τ).loc Cert.FfnUpBwdIdeal.main_v18_1) = v1 c
          ∧ r.2.mem ((c.tc : Thread Cert.FfnUpBwdIdeal.nD Cert.FfnUpBwdIdeal.τ).loc Cert.FfnUpBwdIdeal.main_v18_2) = v2 c
          ∧ r.2.mem ((c.tc : Thread Cert.FfnUpBwdIdeal.nD Cert.FfnUpBwdIdeal.τ).loc Cert.FfnUpBwdIdeal.main_v18_3) = v3 c
          ∧ r.2.mem ((c.tc : Thread Cert.FfnUpBwdIdeal.nD Cert.FfnUpBwdIdeal.τ).loc Cert.FfnUpBwdIdeal.main_arg0) = m ((c.tc : Thread Cert.FfnUpBwdIdeal.nD Cert.FfnUpBwdIdeal.τ).loc Cert.FfnUpBwdIdeal.main_arg0)
          ∧ r.2.mem ((c.tc : Thread Cert.FfnUpBwdIdeal.nD Cert.FfnUpBwdIdeal.τ).loc Cert.FfnUpBwdIdeal.main_arg1) = m ((c.tc : Thread Cert.FfnUpBwdIdeal.nD Cert.FfnUpBwdIdeal.τ).loc Cert.FfnUpBwdIdeal.main_arg1)
          ∧ r.2.mem ((c.tc : Thread Cert.FfnUpBwdIdeal.nD Cert.FfnUpBwdIdeal.τ).loc Cert.FfnUpBwdIdeal.main_arg2) = m ((c.tc : Thread Cert.FfnUpBwdIdeal.nD Cert.FfnUpBwdIdeal.τ).loc Cert.FfnUpBwdIdeal.main_arg2)
          ∧ r.2.mem ((c.tc : Thread Cert.FfnUpBwdIdeal.nD Cert.FfnUpBwdIdeal.τ).loc Cert.FfnUpBwdIdeal.main_arg3) = m ((c.tc : Thread Cert.FfnUpBwdIdeal.nD Cert.FfnUpBwdIdeal.τ).loc Cert.FfnUpBwdIdeal.main_arg3)
          ∧ r.2.mem ((c.tc : Thread Cert.FfnUpBwdIdeal.nD Cert.FfnUpBwdIdeal.τ).loc Cert.FfnUpBwdIdeal.main_arg4) = m ((c.tc : Thread Cert.FfnUpBwdIdeal.nD Cert.FfnUpBwdIdeal.τ).loc Cert.FfnUpBwdIdeal.main_arg4)
          ∧ r.2.mem ((c.tc : Thread Cert.FfnUpBwdIdeal.nD Cert.FfnUpBwdIdeal.τ).loc Cert.FfnUpBwdIdeal.main_arg5) = m ((c.tc : Thread Cert.FfnUpBwdIdeal.nD Cert.FfnUpBwdIdeal.τ).loc Cert.FfnUpBwdIdeal.main_arg5))
      ∧ θ_run (Cert.ReferenceFfnUpBwdIdeal.defs (F := Ideal)) (onTc (τ := Cert.ReferenceFfnUpBwdIdeal.τ) (Cert.ReferenceFfnUpBwdIdeal.main (F := Ideal))) ⟨m', fun _ => 0, g'⟩ (fun r => ∀ c : Dev Cert.ReferenceFfnUpBwdIdeal.nD,
          r.2.mem ((c.tc : Thread Cert.ReferenceFfnUpBwdIdeal.nD Cert.ReferenceFfnUpBwdIdeal.τ).loc Cert.ReferenceFfnUpBwdIdeal.main_v33) = v0 c
          ∧ r.2.mem ((c.tc : Thread Cert.ReferenceFfnUpBwdIdeal.nD Cert.ReferenceFfnUpBwdIdeal.τ).loc Cert.ReferenceFfnUpBwdIdeal.main_v34) = v1 c
          ∧ r.2.mem ((c.tc : Thread Cert.ReferenceFfnUpBwdIdeal.nD Cert.ReferenceFfnUpBwdIdeal.τ).loc Cert.ReferenceFfnUpBwdIdeal.main_v35) = v2 c
          ∧ r.2.mem ((c.tc : Thread Cert.ReferenceFfnUpBwdIdeal.nD Cert.ReferenceFfnUpBwdIdeal.τ).loc Cert.ReferenceFfnUpBwdIdeal.main_v36) = v3 c
          ∧ r.2.mem ((c.tc : Thread Cert.ReferenceFfnUpBwdIdeal.nD Cert.ReferenceFfnUpBwdIdeal.τ).loc Cert.ReferenceFfnUpBwdIdeal.main_arg0) = m' ((c.tc : Thread Cert.ReferenceFfnUpBwdIdeal.nD Cert.ReferenceFfnUpBwdIdeal.τ).loc Cert.ReferenceFfnUpBwdIdeal.main_arg0)
          ∧ r.2.mem ((c.tc : Thread Cert.ReferenceFfnUpBwdIdeal.nD Cert.ReferenceFfnUpBwdIdeal.τ).loc Cert.ReferenceFfnUpBwdIdeal.main_arg1) = m' ((c.tc : Thread Cert.ReferenceFfnUpBwdIdeal.nD Cert.ReferenceFfnUpBwdIdeal.τ).loc Cert.ReferenceFfnUpBwdIdeal.main_arg1)
          ∧ r.2.mem ((c.tc : Thread Cert.ReferenceFfnUpBwdIdeal.nD Cert.ReferenceFfnUpBwdIdeal.τ).loc Cert.ReferenceFfnUpBwdIdeal.main_arg2) = m' ((c.tc : Thread Cert.ReferenceFfnUpBwdIdeal.nD Cert.ReferenceFfnUpBwdIdeal.τ).loc Cert.ReferenceFfnUpBwdIdeal.main_arg2)
          ∧ r.2.mem ((c.tc : Thread Cert.ReferenceFfnUpBwdIdeal.nD Cert.ReferenceFfnUpBwdIdeal.τ).loc Cert.ReferenceFfnUpBwdIdeal.main_arg3) = m' ((c.tc : Thread Cert.ReferenceFfnUpBwdIdeal.nD Cert.ReferenceFfnUpBwdIdeal.τ).loc Cert.ReferenceFfnUpBwdIdeal.main_arg3)
          ∧ r.2.mem ((c.tc : Thread Cert.ReferenceFfnUpBwdIdeal.nD Cert.ReferenceFfnUpBwdIdeal.τ).loc Cert.ReferenceFfnUpBwdIdeal.main_arg4) = m' ((c.tc : Thread Cert.ReferenceFfnUpBwdIdeal.nD Cert.ReferenceFfnUpBwdIdeal.τ).loc Cert.ReferenceFfnUpBwdIdeal.main_arg4)
          ∧ r.2.mem ((c.tc : Thread Cert.ReferenceFfnUpBwdIdeal.nD Cert.ReferenceFfnUpBwdIdeal.τ).loc Cert.ReferenceFfnUpBwdIdeal.main_arg5) = m' ((c.tc : Thread Cert.ReferenceFfnUpBwdIdeal.nD Cert.ReferenceFfnUpBwdIdeal.τ).loc Cert.ReferenceFfnUpBwdIdeal.main_arg5))

def preserves_FfnDownBwd_FfnDownBwdIdeal : Prop :=
  True

def algebraic_FfnDownBwdIdeal_ReferenceFfnDownBwdIdeal_pre_norm_finite [hFfnDownBwdIdeal : Cert.FfnDownBwdIdeal.Facts] [hReferenceFfnDownBwdIdeal : Cert.ReferenceFfnDownBwdIdeal.Facts] [hPre_norm_finite : Cert.Pre_norm_finite.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg)
    (m' : (ℓ : Loc Cert.ReferenceFfnDownBwdIdeal.nD Cert.ReferenceFfnDownBwdIdeal.τ Cert.ReferenceFfnDownBwdIdeal.sig) → Buf (Elt Ideal) ℓ) (g' : Dev Cert.ReferenceFfnDownBwdIdeal.nD → PrngReg), Pre_FfnDownBwdIdeal_norm_finite m →
    (∀ c : Dev Cert.FfnDownBwdIdeal.nD,
      m' ((c.tc : Thread Cert.ReferenceFfnDownBwdIdeal.nD Cert.ReferenceFfnDownBwdIdeal.τ).loc Cert.ReferenceFfnDownBwdIdeal.main_arg0) = m ((c.tc : Thread Cert.FfnDownBwdIdeal.nD Cert.FfnDownBwdIdeal.τ).loc Cert.FfnDownBwdIdeal.main_arg0)
      ∧ m' ((c.tc : Thread Cert.ReferenceFfnDownBwdIdeal.nD Cert.ReferenceFfnDownBwdIdeal.τ).loc Cert.ReferenceFfnDownBwdIdeal.main_arg1) = m ((c.tc : Thread Cert.FfnDownBwdIdeal.nD Cert.FfnDownBwdIdeal.τ).loc Cert.FfnDownBwdIdeal.main_arg1)
      ∧ m' ((c.tc : Thread Cert.ReferenceFfnDownBwdIdeal.nD Cert.ReferenceFfnDownBwdIdeal.τ).loc Cert.ReferenceFfnDownBwdIdeal.main_arg2) = m ((c.tc : Thread Cert.FfnDownBwdIdeal.nD Cert.FfnDownBwdIdeal.τ).loc Cert.FfnDownBwdIdeal.main_arg2)
      ∧ m' ((c.tc : Thread Cert.ReferenceFfnDownBwdIdeal.nD Cert.ReferenceFfnDownBwdIdeal.τ).loc Cert.ReferenceFfnDownBwdIdeal.main_arg3) = m ((c.tc : Thread Cert.FfnDownBwdIdeal.nD Cert.FfnDownBwdIdeal.τ).loc Cert.FfnDownBwdIdeal.main_arg3)
      ∧ m' ((c.tc : Thread Cert.ReferenceFfnDownBwdIdeal.nD Cert.ReferenceFfnDownBwdIdeal.τ).loc Cert.ReferenceFfnDownBwdIdeal.main_arg4) = m ((c.tc : Thread Cert.FfnDownBwdIdeal.nD Cert.FfnDownBwdIdeal.τ).loc Cert.FfnDownBwdIdeal.main_arg4)
      ∧ m' ((c.tc : Thread Cert.ReferenceFfnDownBwdIdeal.nD Cert.ReferenceFfnDownBwdIdeal.τ).loc Cert.ReferenceFfnDownBwdIdeal.main_arg5) = m ((c.tc : Thread Cert.FfnDownBwdIdeal.nD Cert.FfnDownBwdIdeal.τ).loc Cert.FfnDownBwdIdeal.main_arg5)
      ∧ m' ((c.tc : Thread Cert.ReferenceFfnDownBwdIdeal.nD Cert.ReferenceFfnDownBwdIdeal.τ).loc Cert.ReferenceFfnDownBwdIdeal.main_arg6) = m ((c.tc : Thread Cert.FfnDownBwdIdeal.nD Cert.FfnDownBwdIdeal.τ).loc Cert.FfnDownBwdIdeal.main_arg6)) →
    ∃ (v0 : (c : Dev Cert.FfnDownBwdIdeal.nD) → Buf (Elt Ideal) ((c.tc : Thread Cert.FfnDownBwdIdeal.nD Cert.FfnDownBwdIdeal.τ).loc Cert.FfnDownBwdIdeal.main_v8_0)) (v1 : (c : Dev Cert.FfnDownBwdIdeal.nD) → Buf (Elt Ideal) ((c.tc : Thread Cert.FfnDownBwdIdeal.nD Cert.FfnDownBwdIdeal.τ).loc Cert.FfnDownBwdIdeal.main_v8_1)) (v2 : (c : Dev Cert.FfnDownBwdIdeal.nD) → Buf (Elt Ideal) ((c.tc : Thread Cert.FfnDownBwdIdeal.nD Cert.FfnDownBwdIdeal.τ).loc Cert.FfnDownBwdIdeal.main_v8_2)) (v3 : (c : Dev Cert.FfnDownBwdIdeal.nD) → Buf (Elt Ideal) ((c.tc : Thread Cert.FfnDownBwdIdeal.nD Cert.FfnDownBwdIdeal.τ).loc Cert.FfnDownBwdIdeal.main_v8_3)) (v4 : (c : Dev Cert.FfnDownBwdIdeal.nD) → Buf (Elt Ideal) ((c.tc : Thread Cert.FfnDownBwdIdeal.nD Cert.FfnDownBwdIdeal.τ).loc Cert.FfnDownBwdIdeal.main_v8_4)) (v5 : (c : Dev Cert.FfnDownBwdIdeal.nD) → Buf (Elt Ideal) ((c.tc : Thread Cert.FfnDownBwdIdeal.nD Cert.FfnDownBwdIdeal.τ).loc Cert.FfnDownBwdIdeal.main_v8_5)),
      θ_run (Cert.FfnDownBwdIdeal.defs (F := Ideal)) (onTc (τ := Cert.FfnDownBwdIdeal.τ) (Cert.FfnDownBwdIdeal.main (F := Ideal))) ⟨m, fun _ => 0, g⟩ (fun r => ∀ c : Dev Cert.FfnDownBwdIdeal.nD,
          r.2.mem ((c.tc : Thread Cert.FfnDownBwdIdeal.nD Cert.FfnDownBwdIdeal.τ).loc Cert.FfnDownBwdIdeal.main_v8_0) = v0 c
          ∧ r.2.mem ((c.tc : Thread Cert.FfnDownBwdIdeal.nD Cert.FfnDownBwdIdeal.τ).loc Cert.FfnDownBwdIdeal.main_v8_1) = v1 c
          ∧ r.2.mem ((c.tc : Thread Cert.FfnDownBwdIdeal.nD Cert.FfnDownBwdIdeal.τ).loc Cert.FfnDownBwdIdeal.main_v8_2) = v2 c
          ∧ r.2.mem ((c.tc : Thread Cert.FfnDownBwdIdeal.nD Cert.FfnDownBwdIdeal.τ).loc Cert.FfnDownBwdIdeal.main_v8_3) = v3 c
          ∧ r.2.mem ((c.tc : Thread Cert.FfnDownBwdIdeal.nD Cert.FfnDownBwdIdeal.τ).loc Cert.FfnDownBwdIdeal.main_v8_4) = v4 c
          ∧ r.2.mem ((c.tc : Thread Cert.FfnDownBwdIdeal.nD Cert.FfnDownBwdIdeal.τ).loc Cert.FfnDownBwdIdeal.main_v8_5) = v5 c
          ∧ r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
          ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1)
          ∧ r.2.mem ((c.tc : Thread Cert.FfnDownBwdIdeal.nD Cert.FfnDownBwdIdeal.τ).loc Cert.FfnDownBwdIdeal.main_arg2) = m ((c.tc : Thread Cert.FfnDownBwdIdeal.nD Cert.FfnDownBwdIdeal.τ).loc Cert.FfnDownBwdIdeal.main_arg2)
          ∧ r.2.mem ((c.tc : Thread Cert.FfnDownBwdIdeal.nD Cert.FfnDownBwdIdeal.τ).loc Cert.FfnDownBwdIdeal.main_arg3) = m ((c.tc : Thread Cert.FfnDownBwdIdeal.nD Cert.FfnDownBwdIdeal.τ).loc Cert.FfnDownBwdIdeal.main_arg3)
          ∧ r.2.mem ((c.tc : Thread Cert.FfnDownBwdIdeal.nD Cert.FfnDownBwdIdeal.τ).loc Cert.FfnDownBwdIdeal.main_arg4) = m ((c.tc : Thread Cert.FfnDownBwdIdeal.nD Cert.FfnDownBwdIdeal.τ).loc Cert.FfnDownBwdIdeal.main_arg4)
          ∧ r.2.mem ((c.tc : Thread Cert.FfnDownBwdIdeal.nD Cert.FfnDownBwdIdeal.τ).loc Cert.FfnDownBwdIdeal.main_arg5) = m ((c.tc : Thread Cert.FfnDownBwdIdeal.nD Cert.FfnDownBwdIdeal.τ).loc Cert.FfnDownBwdIdeal.main_arg5)
          ∧ r.2.mem ((c.tc : Thread Cert.FfnDownBwdIdeal.nD Cert.FfnDownBwdIdeal.τ).loc Cert.FfnDownBwdIdeal.main_arg6) = m ((c.tc : Thread Cert.FfnDownBwdIdeal.nD Cert.FfnDownBwdIdeal.τ).loc Cert.FfnDownBwdIdeal.main_arg6))
      ∧ θ_run (Cert.ReferenceFfnDownBwdIdeal.defs (F := Ideal)) (onTc (τ := Cert.ReferenceFfnDownBwdIdeal.τ) (Cert.ReferenceFfnDownBwdIdeal.main (F := Ideal))) ⟨m', fun _ => 0, g'⟩ (fun r => ∀ c : Dev Cert.ReferenceFfnDownBwdIdeal.nD,
          r.2.mem ((c.tc : Thread Cert.ReferenceFfnDownBwdIdeal.nD Cert.ReferenceFfnDownBwdIdeal.τ).loc Cert.ReferenceFfnDownBwdIdeal.main_v83) = v0 c
          ∧ r.2.mem ((c.tc : Thread Cert.ReferenceFfnDownBwdIdeal.nD Cert.ReferenceFfnDownBwdIdeal.τ).loc Cert.ReferenceFfnDownBwdIdeal.main_v85) = v1 c
          ∧ r.2.mem ((c.tc : Thread Cert.ReferenceFfnDownBwdIdeal.nD Cert.ReferenceFfnDownBwdIdeal.τ).loc Cert.ReferenceFfnDownBwdIdeal.main_v87) = v2 c
          ∧ r.2.mem ((c.tc : Thread Cert.ReferenceFfnDownBwdIdeal.nD Cert.ReferenceFfnDownBwdIdeal.τ).loc Cert.ReferenceFfnDownBwdIdeal.main_v88) = v3 c
          ∧ r.2.mem ((c.tc : Thread Cert.ReferenceFfnDownBwdIdeal.nD Cert.ReferenceFfnDownBwdIdeal.τ).loc Cert.ReferenceFfnDownBwdIdeal.main_v89) = v4 c
          ∧ r.2.mem ((c.tc : Thread Cert.ReferenceFfnDownBwdIdeal.nD Cert.ReferenceFfnDownBwdIdeal.τ).loc Cert.ReferenceFfnDownBwdIdeal.main_v90) = v5 c
          ∧ r.2.mem ((c.tc : Thread Cert.ReferenceFfnDownBwdIdeal.nD Cert.ReferenceFfnDownBwdIdeal.τ).loc Cert.ReferenceFfnDownBwdIdeal.main_arg0) = m' ((c.tc : Thread Cert.ReferenceFfnDownBwdIdeal.nD Cert.ReferenceFfnDownBwdIdeal.τ).loc Cert.ReferenceFfnDownBwdIdeal.main_arg0)
          ∧ r.2.mem ((c.tc : Thread Cert.ReferenceFfnDownBwdIdeal.nD Cert.ReferenceFfnDownBwdIdeal.τ).loc Cert.ReferenceFfnDownBwdIdeal.main_arg1) = m' ((c.tc : Thread Cert.ReferenceFfnDownBwdIdeal.nD Cert.ReferenceFfnDownBwdIdeal.τ).loc Cert.ReferenceFfnDownBwdIdeal.main_arg1)
          ∧ r.2.mem ((c.tc : Thread Cert.ReferenceFfnDownBwdIdeal.nD Cert.ReferenceFfnDownBwdIdeal.τ).loc Cert.ReferenceFfnDownBwdIdeal.main_arg2) = m' ((c.tc : Thread Cert.ReferenceFfnDownBwdIdeal.nD Cert.ReferenceFfnDownBwdIdeal.τ).loc Cert.ReferenceFfnDownBwdIdeal.main_arg2)
          ∧ r.2.mem ((c.tc : Thread Cert.ReferenceFfnDownBwdIdeal.nD Cert.ReferenceFfnDownBwdIdeal.τ).loc Cert.ReferenceFfnDownBwdIdeal.main_arg3) = m' ((c.tc : Thread Cert.ReferenceFfnDownBwdIdeal.nD Cert.ReferenceFfnDownBwdIdeal.τ).loc Cert.ReferenceFfnDownBwdIdeal.main_arg3)
          ∧ r.2.mem ((c.tc : Thread Cert.ReferenceFfnDownBwdIdeal.nD Cert.ReferenceFfnDownBwdIdeal.τ).loc Cert.ReferenceFfnDownBwdIdeal.main_arg4) = m' ((c.tc : Thread Cert.ReferenceFfnDownBwdIdeal.nD Cert.ReferenceFfnDownBwdIdeal.τ).loc Cert.ReferenceFfnDownBwdIdeal.main_arg4)
          ∧ r.2.mem ((c.tc : Thread Cert.ReferenceFfnDownBwdIdeal.nD Cert.ReferenceFfnDownBwdIdeal.τ).loc Cert.ReferenceFfnDownBwdIdeal.main_arg5) = m' ((c.tc : Thread Cert.ReferenceFfnDownBwdIdeal.nD Cert.ReferenceFfnDownBwdIdeal.τ).loc Cert.ReferenceFfnDownBwdIdeal.main_arg5)
          ∧ r.2.mem ((c.tc : Thread Cert.ReferenceFfnDownBwdIdeal.nD Cert.ReferenceFfnDownBwdIdeal.τ).loc Cert.ReferenceFfnDownBwdIdeal.main_arg6) = m' ((c.tc : Thread Cert.ReferenceFfnDownBwdIdeal.nD Cert.ReferenceFfnDownBwdIdeal.τ).loc Cert.ReferenceFfnDownBwdIdeal.main_arg6))

def preserves_EvIn_EvInIdeal : Prop :=
  True

def algebraic_EvInIdeal_ReferenceEvInIdeal [hEvInIdeal : Cert.EvInIdeal.Facts] [hReferenceEvInIdeal : Cert.ReferenceEvInIdeal.Facts] : Prop :=
  ∀ (m : (ℓ : Loc Cert.EvInIdeal.nD Cert.EvInIdeal.τ Cert.EvInIdeal.sig) → Buf (Elt Ideal) ℓ) (g : Dev Cert.EvInIdeal.nD → PrngReg)
    (m' : (ℓ : Loc Cert.ReferenceEvInIdeal.nD Cert.ReferenceEvInIdeal.τ Cert.ReferenceEvInIdeal.sig) → Buf (Elt Ideal) ℓ) (g' : Dev Cert.ReferenceEvInIdeal.nD → PrngReg), Pre_EvInIdeal m →
    (∀ c : Dev Cert.EvInIdeal.nD,
      m' ((c.tc : Thread Cert.ReferenceEvInIdeal.nD Cert.ReferenceEvInIdeal.τ).loc Cert.ReferenceEvInIdeal.main_arg0) = m ((c.tc : Thread Cert.EvInIdeal.nD Cert.EvInIdeal.τ).loc Cert.EvInIdeal.main_arg0)
      ∧ m' ((c.tc : Thread Cert.ReferenceEvInIdeal.nD Cert.ReferenceEvInIdeal.τ).loc Cert.ReferenceEvInIdeal.main_arg1) = m ((c.tc : Thread Cert.EvInIdeal.nD Cert.EvInIdeal.τ).loc Cert.EvInIdeal.main_arg1)
      ∧ m' ((c.tc : Thread Cert.ReferenceEvInIdeal.nD Cert.ReferenceEvInIdeal.τ).loc Cert.ReferenceEvInIdeal.main_arg2) = m ((c.tc : Thread Cert.EvInIdeal.nD Cert.EvInIdeal.τ).loc Cert.EvInIdeal.main_arg2)
      ∧ m' ((c.tc : Thread Cert.ReferenceEvInIdeal.nD Cert.ReferenceEvInIdeal.τ).loc Cert.ReferenceEvInIdeal.main_arg3) = m ((c.tc : Thread Cert.EvInIdeal.nD Cert.EvInIdeal.τ).loc Cert.EvInIdeal.main_arg3)) →
    ∃ (v0 : (c : Dev Cert.EvInIdeal.nD) → Buf (Elt Ideal) ((c.tc : Thread Cert.EvInIdeal.nD Cert.EvInIdeal.τ).loc Cert.EvInIdeal.main_v2_0)) (v1 : (c : Dev Cert.EvInIdeal.nD) → Buf (Elt Ideal) ((c.tc : Thread Cert.EvInIdeal.nD Cert.EvInIdeal.τ).loc Cert.EvInIdeal.main_v2_1)) (v2 : (c : Dev Cert.EvInIdeal.nD) → Buf (Elt Ideal) ((c.tc : Thread Cert.EvInIdeal.nD Cert.EvInIdeal.τ).loc Cert.EvInIdeal.main_v2_2)) (v3 : (c : Dev Cert.EvInIdeal.nD) → Buf (Elt Ideal) ((c.tc : Thread Cert.EvInIdeal.nD Cert.EvInIdeal.τ).loc Cert.EvInIdeal.main_v2_3)) (v4 : (c : Dev Cert.EvInIdeal.nD) → Buf (Elt Ideal) ((c.tc : Thread Cert.EvInIdeal.nD Cert.EvInIdeal.τ).loc Cert.EvInIdeal.main_v2_4)),
      θ_run (Cert.EvInIdeal.defs (F := Ideal)) (onTc (τ := Cert.EvInIdeal.τ) (Cert.EvInIdeal.main (F := Ideal))) ⟨m, fun _ => 0, g⟩ (fun r => ∀ c : Dev Cert.EvInIdeal.nD,
          r.2.mem ((c.tc : Thread Cert.EvInIdeal.nD Cert.EvInIdeal.τ).loc Cert.EvInIdeal.main_v2_0) = v0 c
          ∧ r.2.mem ((c.tc : Thread Cert.EvInIdeal.nD Cert.EvInIdeal.τ).loc Cert.EvInIdeal.main_v2_1) = v1 c
          ∧ r.2.mem ((c.tc : Thread Cert.EvInIdeal.nD Cert.EvInIdeal.τ).loc Cert.EvInIdeal.main_v2_2) = v2 c
          ∧ r.2.mem ((c.tc : Thread Cert.EvInIdeal.nD Cert.EvInIdeal.τ).loc Cert.EvInIdeal.main_v2_3) = v3 c
          ∧ r.2.mem ((c.tc : Thread Cert.EvInIdeal.nD Cert.EvInIdeal.τ).loc Cert.EvInIdeal.main_v2_4) = v4 c
          ∧ r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
          ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1)
          ∧ r.2.mem ((c.tc : Thread Cert.EvInIdeal.nD Cert.EvInIdeal.τ).loc Cert.EvInIdeal.main_arg2) = m ((c.tc : Thread Cert.EvInIdeal.nD Cert.EvInIdeal.τ).loc Cert.EvInIdeal.main_arg2)
          ∧ r.2.mem ((c.tc : Thread Cert.EvInIdeal.nD Cert.EvInIdeal.τ).loc Cert.EvInIdeal.main_arg3) = m ((c.tc : Thread Cert.EvInIdeal.nD Cert.EvInIdeal.τ).loc Cert.EvInIdeal.main_arg3))
      ∧ θ_run (Cert.ReferenceEvInIdeal.defs (F := Ideal)) (onTc (τ := Cert.ReferenceEvInIdeal.τ) (Cert.ReferenceEvInIdeal.main (F := Ideal))) ⟨m', fun _ => 0, g'⟩ (fun r => ∀ c : Dev Cert.ReferenceEvInIdeal.nD,
          r.2.mem ((c.tc : Thread Cert.ReferenceEvInIdeal.nD Cert.ReferenceEvInIdeal.τ).loc Cert.ReferenceEvInIdeal.main_v16) = v0 c
          ∧ r.2.mem ((c.tc : Thread Cert.ReferenceEvInIdeal.nD Cert.ReferenceEvInIdeal.τ).loc Cert.ReferenceEvInIdeal.main_v17) = v1 c
          ∧ r.2.mem ((c.tc : Thread Cert.ReferenceEvInIdeal.nD Cert.ReferenceEvInIdeal.τ).loc Cert.ReferenceEvInIdeal.main_v18) = v2 c
          ∧ r.2.mem ((c.tc : Thread Cert.ReferenceEvInIdeal.nD Cert.ReferenceEvInIdeal.τ).loc Cert.ReferenceEvInIdeal.main_v19) = v3 c
          ∧ r.2.mem ((c.tc : Thread Cert.ReferenceEvInIdeal.nD Cert.ReferenceEvInIdeal.τ).loc Cert.ReferenceEvInIdeal.main_v20) = v4 c
          ∧ r.2.mem ((c.tc : Thread Cert.ReferenceEvInIdeal.nD Cert.ReferenceEvInIdeal.τ).loc Cert.ReferenceEvInIdeal.main_arg0) = m' ((c.tc : Thread Cert.ReferenceEvInIdeal.nD Cert.ReferenceEvInIdeal.τ).loc Cert.ReferenceEvInIdeal.main_arg0)
          ∧ r.2.mem ((c.tc : Thread Cert.ReferenceEvInIdeal.nD Cert.ReferenceEvInIdeal.τ).loc Cert.ReferenceEvInIdeal.main_arg1) = m' ((c.tc : Thread Cert.ReferenceEvInIdeal.nD Cert.ReferenceEvInIdeal.τ).loc Cert.ReferenceEvInIdeal.main_arg1)
          ∧ r.2.mem ((c.tc : Thread Cert.ReferenceEvInIdeal.nD Cert.ReferenceEvInIdeal.τ).loc Cert.ReferenceEvInIdeal.main_arg2) = m' ((c.tc : Thread Cert.ReferenceEvInIdeal.nD Cert.ReferenceEvInIdeal.τ).loc Cert.ReferenceEvInIdeal.main_arg2)
          ∧ r.2.mem ((c.tc : Thread Cert.ReferenceEvInIdeal.nD Cert.ReferenceEvInIdeal.τ).loc Cert.ReferenceEvInIdeal.main_arg3) = m' ((c.tc : Thread Cert.ReferenceEvInIdeal.nD Cert.ReferenceEvInIdeal.τ).loc Cert.ReferenceEvInIdeal.main_arg3))

def preserves_EvInBwd_EvInBwdIdeal : Prop :=
  True

def algebraic_EvInBwdIdeal_ReferenceEvInBwdIdeal [hEvInBwdIdeal : Cert.EvInBwdIdeal.Facts] [hReferenceEvInBwdIdeal : Cert.ReferenceEvInBwdIdeal.Facts] : Prop :=
  ∀ (m : (ℓ : Loc Cert.EvInBwdIdeal.nD Cert.EvInBwdIdeal.τ Cert.EvInBwdIdeal.sig) → Buf (Elt Ideal) ℓ) (g : Dev Cert.EvInBwdIdeal.nD → PrngReg)
    (m' : (ℓ : Loc Cert.ReferenceEvInBwdIdeal.nD Cert.ReferenceEvInBwdIdeal.τ Cert.ReferenceEvInBwdIdeal.sig) → Buf (Elt Ideal) ℓ) (g' : Dev Cert.ReferenceEvInBwdIdeal.nD → PrngReg), Pre_EvInBwdIdeal m →
    (∀ c : Dev Cert.EvInBwdIdeal.nD,
      m' ((c.tc : Thread Cert.ReferenceEvInBwdIdeal.nD Cert.ReferenceEvInBwdIdeal.τ).loc Cert.ReferenceEvInBwdIdeal.main_arg0) = m ((c.tc : Thread Cert.EvInBwdIdeal.nD Cert.EvInBwdIdeal.τ).loc Cert.EvInBwdIdeal.main_arg0)
      ∧ m' ((c.tc : Thread Cert.ReferenceEvInBwdIdeal.nD Cert.ReferenceEvInBwdIdeal.τ).loc Cert.ReferenceEvInBwdIdeal.main_arg1) = m ((c.tc : Thread Cert.EvInBwdIdeal.nD Cert.EvInBwdIdeal.τ).loc Cert.EvInBwdIdeal.main_arg1)
      ∧ m' ((c.tc : Thread Cert.ReferenceEvInBwdIdeal.nD Cert.ReferenceEvInBwdIdeal.τ).loc Cert.ReferenceEvInBwdIdeal.main_arg2) = m ((c.tc : Thread Cert.EvInBwdIdeal.nD Cert.EvInBwdIdeal.τ).loc Cert.EvInBwdIdeal.main_arg2)
      ∧ m' ((c.tc : Thread Cert.ReferenceEvInBwdIdeal.nD Cert.ReferenceEvInBwdIdeal.τ).loc Cert.ReferenceEvInBwdIdeal.main_arg3) = m ((c.tc : Thread Cert.EvInBwdIdeal.nD Cert.EvInBwdIdeal.τ).loc Cert.EvInBwdIdeal.main_arg3)
      ∧ m' ((c.tc : Thread Cert.ReferenceEvInBwdIdeal.nD Cert.ReferenceEvInBwdIdeal.τ).loc Cert.ReferenceEvInBwdIdeal.main_arg4) = m ((c.tc : Thread Cert.EvInBwdIdeal.nD Cert.EvInBwdIdeal.τ).loc Cert.EvInBwdIdeal.main_arg4)
      ∧ m' ((c.tc : Thread Cert.ReferenceEvInBwdIdeal.nD Cert.ReferenceEvInBwdIdeal.τ).loc Cert.ReferenceEvInBwdIdeal.main_arg5) = m ((c.tc : Thread Cert.EvInBwdIdeal.nD Cert.EvInBwdIdeal.τ).loc Cert.EvInBwdIdeal.main_arg5)
      ∧ m' ((c.tc : Thread Cert.ReferenceEvInBwdIdeal.nD Cert.ReferenceEvInBwdIdeal.τ).loc Cert.ReferenceEvInBwdIdeal.main_arg6) = m ((c.tc : Thread Cert.EvInBwdIdeal.nD Cert.EvInBwdIdeal.τ).loc Cert.EvInBwdIdeal.main_arg6)
      ∧ m' ((c.tc : Thread Cert.ReferenceEvInBwdIdeal.nD Cert.ReferenceEvInBwdIdeal.τ).loc Cert.ReferenceEvInBwdIdeal.main_arg7) = m ((c.tc : Thread Cert.EvInBwdIdeal.nD Cert.EvInBwdIdeal.τ).loc Cert.EvInBwdIdeal.main_arg7)) →
    ∃ (v0 : (c : Dev Cert.EvInBwdIdeal.nD) → Buf (Elt Ideal) ((c.tc : Thread Cert.EvInBwdIdeal.nD Cert.EvInBwdIdeal.τ).loc Cert.EvInBwdIdeal.main_v1_0)) (v1 : (c : Dev Cert.EvInBwdIdeal.nD) → Buf (Elt Ideal) ((c.tc : Thread Cert.EvInBwdIdeal.nD Cert.EvInBwdIdeal.τ).loc Cert.EvInBwdIdeal.main_v1_1)) (v2 : (c : Dev Cert.EvInBwdIdeal.nD) → Buf (Elt Ideal) ((c.tc : Thread Cert.EvInBwdIdeal.nD Cert.EvInBwdIdeal.τ).loc Cert.EvInBwdIdeal.main_v1_2)),
      θ_run (Cert.EvInBwdIdeal.defs (F := Ideal)) (onTc (τ := Cert.EvInBwdIdeal.τ) (Cert.EvInBwdIdeal.main (F := Ideal))) ⟨m, fun _ => 0, g⟩ (fun r => ∀ c : Dev Cert.EvInBwdIdeal.nD,
          r.2.mem ((c.tc : Thread Cert.EvInBwdIdeal.nD Cert.EvInBwdIdeal.τ).loc Cert.EvInBwdIdeal.main_v1_0) = v0 c
          ∧ r.2.mem ((c.tc : Thread Cert.EvInBwdIdeal.nD Cert.EvInBwdIdeal.τ).loc Cert.EvInBwdIdeal.main_v1_1) = v1 c
          ∧ r.2.mem ((c.tc : Thread Cert.EvInBwdIdeal.nD Cert.EvInBwdIdeal.τ).loc Cert.EvInBwdIdeal.main_v1_2) = v2 c
          ∧ r.2.mem ((c.tc : Thread Cert.EvInBwdIdeal.nD Cert.EvInBwdIdeal.τ).loc Cert.EvInBwdIdeal.main_arg0) = m ((c.tc : Thread Cert.EvInBwdIdeal.nD Cert.EvInBwdIdeal.τ).loc Cert.EvInBwdIdeal.main_arg0)
          ∧ r.2.mem ((c.tc : Thread Cert.EvInBwdIdeal.nD Cert.EvInBwdIdeal.τ).loc Cert.EvInBwdIdeal.main_arg1) = m ((c.tc : Thread Cert.EvInBwdIdeal.nD Cert.EvInBwdIdeal.τ).loc Cert.EvInBwdIdeal.main_arg1)
          ∧ r.2.mem ((c.tc : Thread Cert.EvInBwdIdeal.nD Cert.EvInBwdIdeal.τ).loc Cert.EvInBwdIdeal.main_arg2) = m ((c.tc : Thread Cert.EvInBwdIdeal.nD Cert.EvInBwdIdeal.τ).loc Cert.EvInBwdIdeal.main_arg2)
          ∧ r.2.mem ((c.tc : Thread Cert.EvInBwdIdeal.nD Cert.EvInBwdIdeal.τ).loc Cert.EvInBwdIdeal.main_arg3) = m ((c.tc : Thread Cert.EvInBwdIdeal.nD Cert.EvInBwdIdeal.τ).loc Cert.EvInBwdIdeal.main_arg3)
          ∧ r.2.mem ((c.tc : Thread Cert.EvInBwdIdeal.nD Cert.EvInBwdIdeal.τ).loc Cert.EvInBwdIdeal.main_arg4) = m ((c.tc : Thread Cert.EvInBwdIdeal.nD Cert.EvInBwdIdeal.τ).loc Cert.EvInBwdIdeal.main_arg4)
          ∧ r.2.mem ((c.tc : Thread Cert.EvInBwdIdeal.nD Cert.EvInBwdIdeal.τ).loc Cert.EvInBwdIdeal.main_arg5) = m ((c.tc : Thread Cert.EvInBwdIdeal.nD Cert.EvInBwdIdeal.τ).loc Cert.EvInBwdIdeal.main_arg5)
          ∧ r.2.mem ((c.tc : Thread Cert.EvInBwdIdeal.nD Cert.EvInBwdIdeal.τ).loc Cert.EvInBwdIdeal.main_arg6) = m ((c.tc : Thread Cert.EvInBwdIdeal.nD Cert.EvInBwdIdeal.τ).loc Cert.EvInBwdIdeal.main_arg6)
          ∧ r.2.mem ((c.tc : Thread Cert.EvInBwdIdeal.nD Cert.EvInBwdIdeal.τ).loc Cert.EvInBwdIdeal.main_arg7) = m ((c.tc : Thread Cert.EvInBwdIdeal.nD Cert.EvInBwdIdeal.τ).loc Cert.EvInBwdIdeal.main_arg7))
      ∧ θ_run (Cert.ReferenceEvInBwdIdeal.defs (F := Ideal)) (onTc (τ := Cert.ReferenceEvInBwdIdeal.τ) (Cert.ReferenceEvInBwdIdeal.main (F := Ideal))) ⟨m', fun _ => 0, g'⟩ (fun r => ∀ c : Dev Cert.ReferenceEvInBwdIdeal.nD,
          r.2.mem ((c.tc : Thread Cert.ReferenceEvInBwdIdeal.nD Cert.ReferenceEvInBwdIdeal.τ).loc Cert.ReferenceEvInBwdIdeal.main_v32) = v0 c
          ∧ r.2.mem ((c.tc : Thread Cert.ReferenceEvInBwdIdeal.nD Cert.ReferenceEvInBwdIdeal.τ).loc Cert.ReferenceEvInBwdIdeal.main_v33) = v1 c
          ∧ r.2.mem ((c.tc : Thread Cert.ReferenceEvInBwdIdeal.nD Cert.ReferenceEvInBwdIdeal.τ).loc Cert.ReferenceEvInBwdIdeal.main_v34) = v2 c
          ∧ r.2.mem ((c.tc : Thread Cert.ReferenceEvInBwdIdeal.nD Cert.ReferenceEvInBwdIdeal.τ).loc Cert.ReferenceEvInBwdIdeal.main_arg0) = m' ((c.tc : Thread Cert.ReferenceEvInBwdIdeal.nD Cert.ReferenceEvInBwdIdeal.τ).loc Cert.ReferenceEvInBwdIdeal.main_arg0)
          ∧ r.2.mem ((c.tc : Thread Cert.ReferenceEvInBwdIdeal.nD Cert.ReferenceEvInBwdIdeal.τ).loc Cert.ReferenceEvInBwdIdeal.main_arg1) = m' ((c.tc : Thread Cert.ReferenceEvInBwdIdeal.nD Cert.ReferenceEvInBwdIdeal.τ).loc Cert.ReferenceEvInBwdIdeal.main_arg1)
          ∧ r.2.mem ((c.tc : Thread Cert.ReferenceEvInBwdIdeal.nD Cert.ReferenceEvInBwdIdeal.τ).loc Cert.ReferenceEvInBwdIdeal.main_arg2) = m' ((c.tc : Thread Cert.ReferenceEvInBwdIdeal.nD Cert.ReferenceEvInBwdIdeal.τ).loc Cert.ReferenceEvInBwdIdeal.main_arg2)
          ∧ r.2.mem ((c.tc : Thread Cert.ReferenceEvInBwdIdeal.nD Cert.ReferenceEvInBwdIdeal.τ).loc Cert.ReferenceEvInBwdIdeal.main_arg3) = m' ((c.tc : Thread Cert.ReferenceEvInBwdIdeal.nD Cert.ReferenceEvInBwdIdeal.τ).loc Cert.ReferenceEvInBwdIdeal.main_arg3)
          ∧ r.2.mem ((c.tc : Thread Cert.ReferenceEvInBwdIdeal.nD Cert.ReferenceEvInBwdIdeal.τ).loc Cert.ReferenceEvInBwdIdeal.main_arg4) = m' ((c.tc : Thread Cert.ReferenceEvInBwdIdeal.nD Cert.ReferenceEvInBwdIdeal.τ).loc Cert.ReferenceEvInBwdIdeal.main_arg4)
          ∧ r.2.mem ((c.tc : Thread Cert.ReferenceEvInBwdIdeal.nD Cert.ReferenceEvInBwdIdeal.τ).loc Cert.ReferenceEvInBwdIdeal.main_arg5) = m' ((c.tc : Thread Cert.ReferenceEvInBwdIdeal.nD Cert.ReferenceEvInBwdIdeal.τ).loc Cert.ReferenceEvInBwdIdeal.main_arg5)
          ∧ r.2.mem ((c.tc : Thread Cert.ReferenceEvInBwdIdeal.nD Cert.ReferenceEvInBwdIdeal.τ).loc Cert.ReferenceEvInBwdIdeal.main_arg6) = m' ((c.tc : Thread Cert.ReferenceEvInBwdIdeal.nD Cert.ReferenceEvInBwdIdeal.τ).loc Cert.ReferenceEvInBwdIdeal.main_arg6)
          ∧ r.2.mem ((c.tc : Thread Cert.ReferenceEvInBwdIdeal.nD Cert.ReferenceEvInBwdIdeal.τ).loc Cert.ReferenceEvInBwdIdeal.main_arg7) = m' ((c.tc : Thread Cert.ReferenceEvInBwdIdeal.nD Cert.ReferenceEvInBwdIdeal.τ).loc Cert.ReferenceEvInBwdIdeal.main_arg7))

def preserves_GradXbc_GradXbcIdeal : Prop :=
  True

def algebraic_GradXbcIdeal_ReferenceGradXbcIdeal [hGradXbcIdeal : Cert.GradXbcIdeal.Facts] [hReferenceGradXbcIdeal : Cert.ReferenceGradXbcIdeal.Facts] : Prop :=
  ∀ (m : (ℓ : Loc Cert.GradXbcIdeal.nD Cert.GradXbcIdeal.τ Cert.GradXbcIdeal.sig) → Buf (Elt Ideal) ℓ) (g : Dev Cert.GradXbcIdeal.nD → PrngReg)
    (m' : (ℓ : Loc Cert.ReferenceGradXbcIdeal.nD Cert.ReferenceGradXbcIdeal.τ Cert.ReferenceGradXbcIdeal.sig) → Buf (Elt Ideal) ℓ) (g' : Dev Cert.ReferenceGradXbcIdeal.nD → PrngReg), Pre_GradXbcIdeal m →
    (∀ c : Dev Cert.GradXbcIdeal.nD,
      m' ((c.tc : Thread Cert.ReferenceGradXbcIdeal.nD Cert.ReferenceGradXbcIdeal.τ).loc Cert.ReferenceGradXbcIdeal.main_arg0) = m ((c.tc : Thread Cert.GradXbcIdeal.nD Cert.GradXbcIdeal.τ).loc Cert.GradXbcIdeal.main_arg0)
      ∧ m' ((c.tc : Thread Cert.ReferenceGradXbcIdeal.nD Cert.ReferenceGradXbcIdeal.τ).loc Cert.ReferenceGradXbcIdeal.main_arg1) = m ((c.tc : Thread Cert.GradXbcIdeal.nD Cert.GradXbcIdeal.τ).loc Cert.GradXbcIdeal.main_arg1)
      ∧ m' ((c.tc : Thread Cert.ReferenceGradXbcIdeal.nD Cert.ReferenceGradXbcIdeal.τ).loc Cert.ReferenceGradXbcIdeal.main_arg2) = m ((c.tc : Thread Cert.GradXbcIdeal.nD Cert.GradXbcIdeal.τ).loc Cert.GradXbcIdeal.main_arg2)) →
    ∃ (v0 : (c : Dev Cert.GradXbcIdeal.nD) → Buf (Elt Ideal) ((c.tc : Thread Cert.GradXbcIdeal.nD Cert.GradXbcIdeal.τ).loc Cert.GradXbcIdeal.main_v0)),
      θ_run (Cert.GradXbcIdeal.defs (F := Ideal)) (onTc (τ := Cert.GradXbcIdeal.τ) (Cert.GradXbcIdeal.main (F := Ideal))) ⟨m, fun _ => 0, g⟩ (fun r => ∀ c : Dev Cert.GradXbcIdeal.nD,
          r.2.mem ((c.tc : Thread Cert.GradXbcIdeal.nD Cert.GradXbcIdeal.τ).loc Cert.GradXbcIdeal.main_v0) = v0 c
          ∧ r.2.mem ((c.tc : Thread Cert.GradXbcIdeal.nD Cert.GradXbcIdeal.τ).loc Cert.GradXbcIdeal.main_arg0) = m ((c.tc : Thread Cert.GradXbcIdeal.nD Cert.GradXbcIdeal.τ).loc Cert.GradXbcIdeal.main_arg0)
          ∧ r.2.mem ((c.tc : Thread Cert.GradXbcIdeal.nD Cert.GradXbcIdeal.τ).loc Cert.GradXbcIdeal.main_arg1) = m ((c.tc : Thread Cert.GradXbcIdeal.nD Cert.GradXbcIdeal.τ).loc Cert.GradXbcIdeal.main_arg1)
          ∧ r.2.mem ((c.tc : Thread Cert.GradXbcIdeal.nD Cert.GradXbcIdeal.τ).loc Cert.GradXbcIdeal.main_arg2) = m ((c.tc : Thread Cert.GradXbcIdeal.nD Cert.GradXbcIdeal.τ).loc Cert.GradXbcIdeal.main_arg2))
      ∧ θ_run (Cert.ReferenceGradXbcIdeal.defs (F := Ideal)) (onTc (τ := Cert.ReferenceGradXbcIdeal.τ) (Cert.ReferenceGradXbcIdeal.main (F := Ideal))) ⟨m', fun _ => 0, g'⟩ (fun r => ∀ c : Dev Cert.ReferenceGradXbcIdeal.nD,
          r.2.mem ((c.tc : Thread Cert.ReferenceGradXbcIdeal.nD Cert.ReferenceGradXbcIdeal.τ).loc Cert.ReferenceGradXbcIdeal.main_v7) = v0 c
          ∧ r.2.mem ((c.tc : Thread Cert.ReferenceGradXbcIdeal.nD Cert.ReferenceGradXbcIdeal.τ).loc Cert.ReferenceGradXbcIdeal.main_arg0) = m' ((c.tc : Thread Cert.ReferenceGradXbcIdeal.nD Cert.ReferenceGradXbcIdeal.τ).loc Cert.ReferenceGradXbcIdeal.main_arg0)
          ∧ r.2.mem ((c.tc : Thread Cert.ReferenceGradXbcIdeal.nD Cert.ReferenceGradXbcIdeal.τ).loc Cert.ReferenceGradXbcIdeal.main_arg1) = m' ((c.tc : Thread Cert.ReferenceGradXbcIdeal.nD Cert.ReferenceGradXbcIdeal.τ).loc Cert.ReferenceGradXbcIdeal.main_arg1)
          ∧ r.2.mem ((c.tc : Thread Cert.ReferenceGradXbcIdeal.nD Cert.ReferenceGradXbcIdeal.τ).loc Cert.ReferenceGradXbcIdeal.main_arg2) = m' ((c.tc : Thread Cert.ReferenceGradXbcIdeal.nD Cert.ReferenceGradXbcIdeal.τ).loc Cert.ReferenceGradXbcIdeal.main_arg2))

def preserves_GradPool_GradPoolIdeal : Prop :=
  True

def algebraic_GradPoolIdeal_ReferenceGradPoolIdeal [hGradPoolIdeal : Cert.GradPoolIdeal.Facts] [hReferenceGradPoolIdeal : Cert.ReferenceGradPoolIdeal.Facts] : Prop :=
  ∀ (m : (ℓ : Loc Cert.GradPoolIdeal.nD Cert.GradPoolIdeal.τ Cert.GradPoolIdeal.sig) → Buf (Elt Ideal) ℓ) (g : Dev Cert.GradPoolIdeal.nD → PrngReg)
    (m' : (ℓ : Loc Cert.ReferenceGradPoolIdeal.nD Cert.ReferenceGradPoolIdeal.τ Cert.ReferenceGradPoolIdeal.sig) → Buf (Elt Ideal) ℓ) (g' : Dev Cert.ReferenceGradPoolIdeal.nD → PrngReg), Pre_GradPoolIdeal m →
    (∀ c : Dev Cert.GradPoolIdeal.nD,
      m' ((c.tc : Thread Cert.ReferenceGradPoolIdeal.nD Cert.ReferenceGradPoolIdeal.τ).loc Cert.ReferenceGradPoolIdeal.main_arg0) = m ((c.tc : Thread Cert.GradPoolIdeal.nD Cert.GradPoolIdeal.τ).loc Cert.GradPoolIdeal.main_arg0)
      ∧ m' ((c.tc : Thread Cert.ReferenceGradPoolIdeal.nD Cert.ReferenceGradPoolIdeal.τ).loc Cert.ReferenceGradPoolIdeal.main_arg1) = m ((c.tc : Thread Cert.GradPoolIdeal.nD Cert.GradPoolIdeal.τ).loc Cert.GradPoolIdeal.main_arg1)
      ∧ m' ((c.tc : Thread Cert.ReferenceGradPoolIdeal.nD Cert.ReferenceGradPoolIdeal.τ).loc Cert.ReferenceGradPoolIdeal.main_arg2) = m ((c.tc : Thread Cert.GradPoolIdeal.nD Cert.GradPoolIdeal.τ).loc Cert.GradPoolIdeal.main_arg2)) →
    ∃ (v0 : (c : Dev Cert.GradPoolIdeal.nD) → Buf (Elt Ideal) ((c.tc : Thread Cert.GradPoolIdeal.nD Cert.GradPoolIdeal.τ).loc Cert.GradPoolIdeal.main_v0)),
      θ_run (Cert.GradPoolIdeal.defs (F := Ideal)) (onTc (τ := Cert.GradPoolIdeal.τ) (Cert.GradPoolIdeal.main (F := Ideal))) ⟨m, fun _ => 0, g⟩ (fun r => ∀ c : Dev Cert.GradPoolIdeal.nD,
          r.2.mem ((c.tc : Thread Cert.GradPoolIdeal.nD Cert.GradPoolIdeal.τ).loc Cert.GradPoolIdeal.main_v0) = v0 c
          ∧ r.2.mem ((c.tc : Thread Cert.GradPoolIdeal.nD Cert.GradPoolIdeal.τ).loc Cert.GradPoolIdeal.main_arg0) = m ((c.tc : Thread Cert.GradPoolIdeal.nD Cert.GradPoolIdeal.τ).loc Cert.GradPoolIdeal.main_arg0)
          ∧ r.2.mem ((c.tc : Thread Cert.GradPoolIdeal.nD Cert.GradPoolIdeal.τ).loc Cert.GradPoolIdeal.main_arg1) = m ((c.tc : Thread Cert.GradPoolIdeal.nD Cert.GradPoolIdeal.τ).loc Cert.GradPoolIdeal.main_arg1)
          ∧ r.2.mem ((c.tc : Thread Cert.GradPoolIdeal.nD Cert.GradPoolIdeal.τ).loc Cert.GradPoolIdeal.main_arg2) = m ((c.tc : Thread Cert.GradPoolIdeal.nD Cert.GradPoolIdeal.τ).loc Cert.GradPoolIdeal.main_arg2))
      ∧ θ_run (Cert.ReferenceGradPoolIdeal.defs (F := Ideal)) (onTc (τ := Cert.ReferenceGradPoolIdeal.τ) (Cert.ReferenceGradPoolIdeal.main (F := Ideal))) ⟨m', fun _ => 0, g'⟩ (fun r => ∀ c : Dev Cert.ReferenceGradPoolIdeal.nD,
          r.2.mem ((c.tc : Thread Cert.ReferenceGradPoolIdeal.nD Cert.ReferenceGradPoolIdeal.τ).loc Cert.ReferenceGradPoolIdeal.main_v7) = v0 c
          ∧ r.2.mem ((c.tc : Thread Cert.ReferenceGradPoolIdeal.nD Cert.ReferenceGradPoolIdeal.τ).loc Cert.ReferenceGradPoolIdeal.main_arg0) = m' ((c.tc : Thread Cert.ReferenceGradPoolIdeal.nD Cert.ReferenceGradPoolIdeal.τ).loc Cert.ReferenceGradPoolIdeal.main_arg0)
          ∧ r.2.mem ((c.tc : Thread Cert.ReferenceGradPoolIdeal.nD Cert.ReferenceGradPoolIdeal.τ).loc Cert.ReferenceGradPoolIdeal.main_arg1) = m' ((c.tc : Thread Cert.ReferenceGradPoolIdeal.nD Cert.ReferenceGradPoolIdeal.τ).loc Cert.ReferenceGradPoolIdeal.main_arg1)
          ∧ r.2.mem ((c.tc : Thread Cert.ReferenceGradPoolIdeal.nD Cert.ReferenceGradPoolIdeal.τ).loc Cert.ReferenceGradPoolIdeal.main_arg2) = m' ((c.tc : Thread Cert.ReferenceGradPoolIdeal.nD Cert.ReferenceGradPoolIdeal.τ).loc Cert.ReferenceGradPoolIdeal.main_arg2))

def preserves_GradDt_GradDtIdeal : Prop :=
  True

def algebraic_GradDtIdeal_ReferenceGradDtIdeal [hGradDtIdeal : Cert.GradDtIdeal.Facts] [hReferenceGradDtIdeal : Cert.ReferenceGradDtIdeal.Facts] : Prop :=
  ∀ (m : (ℓ : Loc Cert.GradDtIdeal.nD Cert.GradDtIdeal.τ Cert.GradDtIdeal.sig) → Buf (Elt Ideal) ℓ) (g : Dev Cert.GradDtIdeal.nD → PrngReg)
    (m' : (ℓ : Loc Cert.ReferenceGradDtIdeal.nD Cert.ReferenceGradDtIdeal.τ Cert.ReferenceGradDtIdeal.sig) → Buf (Elt Ideal) ℓ) (g' : Dev Cert.ReferenceGradDtIdeal.nD → PrngReg), Pre_GradDtIdeal m →
    (∀ c : Dev Cert.GradDtIdeal.nD,
      m' ((c.tc : Thread Cert.ReferenceGradDtIdeal.nD Cert.ReferenceGradDtIdeal.τ).loc Cert.ReferenceGradDtIdeal.main_arg0) = m ((c.tc : Thread Cert.GradDtIdeal.nD Cert.GradDtIdeal.τ).loc Cert.GradDtIdeal.main_arg0)
      ∧ m' ((c.tc : Thread Cert.ReferenceGradDtIdeal.nD Cert.ReferenceGradDtIdeal.τ).loc Cert.ReferenceGradDtIdeal.main_arg1) = m ((c.tc : Thread Cert.GradDtIdeal.nD Cert.GradDtIdeal.τ).loc Cert.GradDtIdeal.main_arg1)
      ∧ m' ((c.tc : Thread Cert.ReferenceGradDtIdeal.nD Cert.ReferenceGradDtIdeal.τ).loc Cert.ReferenceGradDtIdeal.main_arg2) = m ((c.tc : Thread Cert.GradDtIdeal.nD Cert.GradDtIdeal.τ).loc Cert.GradDtIdeal.main_arg2)) →
    ∃ (v0 : (c : Dev Cert.GradDtIdeal.nD) → Buf (Elt Ideal) ((c.tc : Thread Cert.GradDtIdeal.nD Cert.GradDtIdeal.τ).loc Cert.GradDtIdeal.main_v0)),
      θ_run (Cert.GradDtIdeal.defs (F := Ideal)) (onTc (τ := Cert.GradDtIdeal.τ) (Cert.GradDtIdeal.main (F := Ideal))) ⟨m, fun _ => 0, g⟩ (fun r => ∀ c : Dev Cert.GradDtIdeal.nD,
          r.2.mem ((c.tc : Thread Cert.GradDtIdeal.nD Cert.GradDtIdeal.τ).loc Cert.GradDtIdeal.main_v0) = v0 c
          ∧ r.2.mem ((c.tc : Thread Cert.GradDtIdeal.nD Cert.GradDtIdeal.τ).loc Cert.GradDtIdeal.main_arg0) = m ((c.tc : Thread Cert.GradDtIdeal.nD Cert.GradDtIdeal.τ).loc Cert.GradDtIdeal.main_arg0)
          ∧ r.2.mem ((c.tc : Thread Cert.GradDtIdeal.nD Cert.GradDtIdeal.τ).loc Cert.GradDtIdeal.main_arg1) = m ((c.tc : Thread Cert.GradDtIdeal.nD Cert.GradDtIdeal.τ).loc Cert.GradDtIdeal.main_arg1)
          ∧ r.2.mem ((c.tc : Thread Cert.GradDtIdeal.nD Cert.GradDtIdeal.τ).loc Cert.GradDtIdeal.main_arg2) = m ((c.tc : Thread Cert.GradDtIdeal.nD Cert.GradDtIdeal.τ).loc Cert.GradDtIdeal.main_arg2))
      ∧ θ_run (Cert.ReferenceGradDtIdeal.defs (F := Ideal)) (onTc (τ := Cert.ReferenceGradDtIdeal.τ) (Cert.ReferenceGradDtIdeal.main (F := Ideal))) ⟨m', fun _ => 0, g'⟩ (fun r => ∀ c : Dev Cert.ReferenceGradDtIdeal.nD,
          r.2.mem ((c.tc : Thread Cert.ReferenceGradDtIdeal.nD Cert.ReferenceGradDtIdeal.τ).loc Cert.ReferenceGradDtIdeal.main_v7) = v0 c
          ∧ r.2.mem ((c.tc : Thread Cert.ReferenceGradDtIdeal.nD Cert.ReferenceGradDtIdeal.τ).loc Cert.ReferenceGradDtIdeal.main_arg0) = m' ((c.tc : Thread Cert.ReferenceGradDtIdeal.nD Cert.ReferenceGradDtIdeal.τ).loc Cert.ReferenceGradDtIdeal.main_arg0)
          ∧ r.2.mem ((c.tc : Thread Cert.ReferenceGradDtIdeal.nD Cert.ReferenceGradDtIdeal.τ).loc Cert.ReferenceGradDtIdeal.main_arg1) = m' ((c.tc : Thread Cert.ReferenceGradDtIdeal.nD Cert.ReferenceGradDtIdeal.τ).loc Cert.ReferenceGradDtIdeal.main_arg1)
          ∧ r.2.mem ((c.tc : Thread Cert.ReferenceGradDtIdeal.nD Cert.ReferenceGradDtIdeal.τ).loc Cert.ReferenceGradDtIdeal.main_arg2) = m' ((c.tc : Thread Cert.ReferenceGradDtIdeal.nD Cert.ReferenceGradDtIdeal.τ).loc Cert.ReferenceGradDtIdeal.main_arg2))

def preserves_GradMix_GradMixIdeal : Prop :=
  True

def algebraic_GradMixIdeal_ReferenceGradMixIdeal [hGradMixIdeal : Cert.GradMixIdeal.Facts] [hReferenceGradMixIdeal : Cert.ReferenceGradMixIdeal.Facts] : Prop :=
  ∀ (m : (ℓ : Loc Cert.GradMixIdeal.nD Cert.GradMixIdeal.τ Cert.GradMixIdeal.sig) → Buf (Elt Ideal) ℓ) (g : Dev Cert.GradMixIdeal.nD → PrngReg)
    (m' : (ℓ : Loc Cert.ReferenceGradMixIdeal.nD Cert.ReferenceGradMixIdeal.τ Cert.ReferenceGradMixIdeal.sig) → Buf (Elt Ideal) ℓ) (g' : Dev Cert.ReferenceGradMixIdeal.nD → PrngReg), Pre_GradMixIdeal m →
    (∀ c : Dev Cert.GradMixIdeal.nD,
      m' ((c.tc : Thread Cert.ReferenceGradMixIdeal.nD Cert.ReferenceGradMixIdeal.τ).loc Cert.ReferenceGradMixIdeal.main_arg0) = m ((c.tc : Thread Cert.GradMixIdeal.nD Cert.GradMixIdeal.τ).loc Cert.GradMixIdeal.main_arg0)
      ∧ m' ((c.tc : Thread Cert.ReferenceGradMixIdeal.nD Cert.ReferenceGradMixIdeal.τ).loc Cert.ReferenceGradMixIdeal.main_arg1) = m ((c.tc : Thread Cert.GradMixIdeal.nD Cert.GradMixIdeal.τ).loc Cert.GradMixIdeal.main_arg1)
      ∧ m' ((c.tc : Thread Cert.ReferenceGradMixIdeal.nD Cert.ReferenceGradMixIdeal.τ).loc Cert.ReferenceGradMixIdeal.main_arg2) = m ((c.tc : Thread Cert.GradMixIdeal.nD Cert.GradMixIdeal.τ).loc Cert.GradMixIdeal.main_arg2)) →
    ∃ (v0 : (c : Dev Cert.GradMixIdeal.nD) → Buf (Elt Ideal) ((c.tc : Thread Cert.GradMixIdeal.nD Cert.GradMixIdeal.τ).loc Cert.GradMixIdeal.main_v0)),
      θ_run (Cert.GradMixIdeal.defs (F := Ideal)) (onTc (τ := Cert.GradMixIdeal.τ) (Cert.GradMixIdeal.main (F := Ideal))) ⟨m, fun _ => 0, g⟩ (fun r => ∀ c : Dev Cert.GradMixIdeal.nD,
          r.2.mem ((c.tc : Thread Cert.GradMixIdeal.nD Cert.GradMixIdeal.τ).loc Cert.GradMixIdeal.main_v0) = v0 c
          ∧ r.2.mem ((c.tc : Thread Cert.GradMixIdeal.nD Cert.GradMixIdeal.τ).loc Cert.GradMixIdeal.main_arg0) = m ((c.tc : Thread Cert.GradMixIdeal.nD Cert.GradMixIdeal.τ).loc Cert.GradMixIdeal.main_arg0)
          ∧ r.2.mem ((c.tc : Thread Cert.GradMixIdeal.nD Cert.GradMixIdeal.τ).loc Cert.GradMixIdeal.main_arg1) = m ((c.tc : Thread Cert.GradMixIdeal.nD Cert.GradMixIdeal.τ).loc Cert.GradMixIdeal.main_arg1)
          ∧ r.2.mem ((c.tc : Thread Cert.GradMixIdeal.nD Cert.GradMixIdeal.τ).loc Cert.GradMixIdeal.main_arg2) = m ((c.tc : Thread Cert.GradMixIdeal.nD Cert.GradMixIdeal.τ).loc Cert.GradMixIdeal.main_arg2))
      ∧ θ_run (Cert.ReferenceGradMixIdeal.defs (F := Ideal)) (onTc (τ := Cert.ReferenceGradMixIdeal.τ) (Cert.ReferenceGradMixIdeal.main (F := Ideal))) ⟨m', fun _ => 0, g'⟩ (fun r => ∀ c : Dev Cert.ReferenceGradMixIdeal.nD,
          r.2.mem ((c.tc : Thread Cert.ReferenceGradMixIdeal.nD Cert.ReferenceGradMixIdeal.τ).loc Cert.ReferenceGradMixIdeal.main_v7) = v0 c
          ∧ r.2.mem ((c.tc : Thread Cert.ReferenceGradMixIdeal.nD Cert.ReferenceGradMixIdeal.τ).loc Cert.ReferenceGradMixIdeal.main_arg0) = m' ((c.tc : Thread Cert.ReferenceGradMixIdeal.nD Cert.ReferenceGradMixIdeal.τ).loc Cert.ReferenceGradMixIdeal.main_arg0)
          ∧ r.2.mem ((c.tc : Thread Cert.ReferenceGradMixIdeal.nD Cert.ReferenceGradMixIdeal.τ).loc Cert.ReferenceGradMixIdeal.main_arg1) = m' ((c.tc : Thread Cert.ReferenceGradMixIdeal.nD Cert.ReferenceGradMixIdeal.τ).loc Cert.ReferenceGradMixIdeal.main_arg1)
          ∧ r.2.mem ((c.tc : Thread Cert.ReferenceGradMixIdeal.nD Cert.ReferenceGradMixIdeal.τ).loc Cert.ReferenceGradMixIdeal.main_arg2) = m' ((c.tc : Thread Cert.ReferenceGradMixIdeal.nD Cert.ReferenceGradMixIdeal.τ).loc Cert.ReferenceGradMixIdeal.main_arg2))

def preserves_MixOut_MixOutIdeal : Prop :=
  True

def algebraic_MixOutIdeal_ReferenceMixOutIdeal [hMixOutIdeal : Cert.MixOutIdeal.Facts] [hReferenceMixOutIdeal : Cert.ReferenceMixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.ReferenceMixOutIdeal.nD Cert.ReferenceMixOutIdeal.τ Cert.ReferenceMixOutIdeal.sig) → Buf (Elt Ideal) ℓ) (g' : Dev Cert.ReferenceMixOutIdeal.nD → PrngReg), Pre_MixOutIdeal m →
    (∀ c : Dev Cert.MixOutIdeal.nD,
      m' ((c.tc : Thread Cert.ReferenceMixOutIdeal.nD Cert.ReferenceMixOutIdeal.τ).loc Cert.ReferenceMixOutIdeal.main_arg0) = m ((c.tc : Thread Cert.MixOutIdeal.nD Cert.MixOutIdeal.τ).loc Cert.MixOutIdeal.main_arg0)
      ∧ m' ((c.tc : Thread Cert.ReferenceMixOutIdeal.nD Cert.ReferenceMixOutIdeal.τ).loc Cert.ReferenceMixOutIdeal.main_arg1) = m ((c.tc : Thread Cert.MixOutIdeal.nD Cert.MixOutIdeal.τ).loc Cert.MixOutIdeal.main_arg1)
      ∧ m' ((c.tc : Thread Cert.ReferenceMixOutIdeal.nD Cert.ReferenceMixOutIdeal.τ).loc Cert.ReferenceMixOutIdeal.main_arg2) = m ((c.tc : Thread Cert.MixOutIdeal.nD Cert.MixOutIdeal.τ).loc Cert.MixOutIdeal.main_arg2)
      ∧ m' ((c.tc : Thread Cert.ReferenceMixOutIdeal.nD Cert.ReferenceMixOutIdeal.τ).loc Cert.ReferenceMixOutIdeal.main_arg3) = m ((c.tc : Thread Cert.MixOutIdeal.nD Cert.MixOutIdeal.τ).loc Cert.MixOutIdeal.main_arg3)
      ∧ m' ((c.tc : Thread Cert.ReferenceMixOutIdeal.nD Cert.ReferenceMixOutIdeal.τ).loc Cert.ReferenceMixOutIdeal.main_arg4) = m ((c.tc : Thread Cert.MixOutIdeal.nD Cert.MixOutIdeal.τ).loc Cert.MixOutIdeal.main_arg4)
      ∧ m' ((c.tc : Thread Cert.ReferenceMixOutIdeal.nD Cert.ReferenceMixOutIdeal.τ).loc Cert.ReferenceMixOutIdeal.main_arg5) = m ((c.tc : Thread Cert.MixOutIdeal.nD Cert.MixOutIdeal.τ).loc Cert.MixOutIdeal.main_arg5)
      ∧ m' ((c.tc : Thread Cert.ReferenceMixOutIdeal.nD Cert.ReferenceMixOutIdeal.τ).loc Cert.ReferenceMixOutIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v3_0)) (v1 : (c : Dev Cert.MixOutIdeal.nD) → Buf (Elt Ideal) ((c.tc : Thread Cert.MixOutIdeal.nD Cert.MixOutIdeal.τ).loc Cert.MixOutIdeal.main_v3_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3_0) = v0 c
          ∧ r.2.mem ((c.tc : Thread Cert.MixOutIdeal.nD Cert.MixOutIdeal.τ).loc Cert.MixOutIdeal.main_v3_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.ReferenceMixOutIdeal.defs (F := Ideal)) (onTc (τ := Cert.ReferenceMixOutIdeal.τ) (Cert.ReferenceMixOutIdeal.main (F := Ideal))) ⟨m', fun _ => 0, g'⟩ (fun r => ∀ c : Dev Cert.ReferenceMixOutIdeal.nD,
          r.2.mem ((c.tc : Thread Cert.ReferenceMixOutIdeal.nD Cert.ReferenceMixOutIdeal.τ).loc Cert.ReferenceMixOutIdeal.main_v36) = v0 c
          ∧ r.2.mem ((c.tc : Thread Cert.ReferenceMixOutIdeal.nD Cert.ReferenceMixOutIdeal.τ).loc Cert.ReferenceMixOutIdeal.main_v37) = v1 c
          ∧ r.2.mem ((c.tc : Thread Cert.ReferenceMixOutIdeal.nD Cert.ReferenceMixOutIdeal.τ).loc Cert.ReferenceMixOutIdeal.main_arg0) = m' ((c.tc : Thread Cert.ReferenceMixOutIdeal.nD Cert.ReferenceMixOutIdeal.τ).loc Cert.ReferenceMixOutIdeal.main_arg0)
          ∧ r.2.mem ((c.tc : Thread Cert.ReferenceMixOutIdeal.nD Cert.ReferenceMixOutIdeal.τ).loc Cert.ReferenceMixOutIdeal.main_arg1) = m' ((c.tc : Thread Cert.ReferenceMixOutIdeal.nD Cert.ReferenceMixOutIdeal.τ).loc Cert.ReferenceMixOutIdeal.main_arg1)
          ∧ r.2.mem ((c.tc : Thread Cert.ReferenceMixOutIdeal.nD Cert.ReferenceMixOutIdeal.τ).loc Cert.ReferenceMixOutIdeal.main_arg2) = m' ((c.tc : Thread Cert.ReferenceMixOutIdeal.nD Cert.ReferenceMixOutIdeal.τ).loc Cert.ReferenceMixOutIdeal.main_arg2)
          ∧ r.2.mem ((c.tc : Thread Cert.ReferenceMixOutIdeal.nD Cert.ReferenceMixOutIdeal.τ).loc Cert.ReferenceMixOutIdeal.main_arg3) = m' ((c.tc : Thread Cert.ReferenceMixOutIdeal.nD Cert.ReferenceMixOutIdeal.τ).loc Cert.ReferenceMixOutIdeal.main_arg3)
          ∧ r.2.mem ((c.tc : Thread Cert.ReferenceMixOutIdeal.nD Cert.ReferenceMixOutIdeal.τ).loc Cert.ReferenceMixOutIdeal.main_arg4) = m' ((c.tc : Thread Cert.ReferenceMixOutIdeal.nD Cert.ReferenceMixOutIdeal.τ).loc Cert.ReferenceMixOutIdeal.main_arg4)
          ∧ r.2.mem ((c.tc : Thread Cert.ReferenceMixOutIdeal.nD Cert.ReferenceMixOutIdeal.τ).loc Cert.ReferenceMixOutIdeal.main_arg5) = m' ((c.tc : Thread Cert.ReferenceMixOutIdeal.nD Cert.ReferenceMixOutIdeal.τ).loc Cert.ReferenceMixOutIdeal.main_arg5)
          ∧ r.2.mem ((c.tc : Thread Cert.ReferenceMixOutIdeal.nD Cert.ReferenceMixOutIdeal.τ).loc Cert.ReferenceMixOutIdeal.main_arg6) = m' ((c.tc : Thread Cert.ReferenceMixOutIdeal.nD Cert.ReferenceMixOutIdeal.τ).loc Cert.ReferenceMixOutIdeal.main_arg6))

def preserves_MixOutOdd_MixOutOddIdeal : Prop :=
  True

def algebraic_MixOutOddIdeal_ReferenceMixOutOddIdeal [hMixOutOddIdeal : Cert.MixOutOddIdeal.Facts] [hReferenceMixOutOddIdeal : Cert.ReferenceMixOutOddIdeal.Facts] : Prop :=
  ∀ (m : (ℓ : Loc Cert.MixOutOddIdeal.nD Cert.MixOutOddIdeal.τ Cert.MixOutOddIdeal.sig) → Buf (Elt Ideal) ℓ) (g : Dev Cert.MixOutOddIdeal.nD → PrngReg)
    (m' : (ℓ : Loc Cert.ReferenceMixOutOddIdeal.nD Cert.ReferenceMixOutOddIdeal.τ Cert.ReferenceMixOutOddIdeal.sig) → Buf (Elt Ideal) ℓ) (g' : Dev Cert.ReferenceMixOutOddIdeal.nD → PrngReg), Pre_MixOutOddIdeal m →
    (∀ c : Dev Cert.MixOutOddIdeal.nD,
      m' ((c.tc : Thread Cert.ReferenceMixOutOddIdeal.nD Cert.ReferenceMixOutOddIdeal.τ).loc Cert.ReferenceMixOutOddIdeal.main_arg0) = m ((c.tc : Thread Cert.MixOutOddIdeal.nD Cert.MixOutOddIdeal.τ).loc Cert.MixOutOddIdeal.main_arg0)
      ∧ m' ((c.tc : Thread Cert.ReferenceMixOutOddIdeal.nD Cert.ReferenceMixOutOddIdeal.τ).loc Cert.ReferenceMixOutOddIdeal.main_arg1) = m ((c.tc : Thread Cert.MixOutOddIdeal.nD Cert.MixOutOddIdeal.τ).loc Cert.MixOutOddIdeal.main_arg1)
      ∧ m' ((c.tc : Thread Cert.ReferenceMixOutOddIdeal.nD Cert.ReferenceMixOutOddIdeal.τ).loc Cert.ReferenceMixOutOddIdeal.main_arg2) = m ((c.tc : Thread Cert.MixOutOddIdeal.nD Cert.MixOutOddIdeal.τ).loc Cert.MixOutOddIdeal.main_arg2)
      ∧ m' ((c.tc : Thread Cert.ReferenceMixOutOddIdeal.nD Cert.ReferenceMixOutOddIdeal.τ).loc Cert.ReferenceMixOutOddIdeal.main_arg3) = m ((c.tc : Thread Cert.MixOutOddIdeal.nD Cert.MixOutOddIdeal.τ).loc Cert.MixOutOddIdeal.main_arg3)
      ∧ m' ((c.tc : Thread Cert.ReferenceMixOutOddIdeal.nD Cert.ReferenceMixOutOddIdeal.τ).loc Cert.ReferenceMixOutOddIdeal.main_arg4) = m ((c.tc : Thread Cert.MixOutOddIdeal.nD Cert.MixOutOddIdeal.τ).loc Cert.MixOutOddIdeal.main_arg4)
      ∧ m' ((c.tc : Thread Cert.ReferenceMixOutOddIdeal.nD Cert.ReferenceMixOutOddIdeal.τ).loc Cert.ReferenceMixOutOddIdeal.main_arg5) = m ((c.tc : Thread Cert.MixOutOddIdeal.nD Cert.MixOutOddIdeal.τ).loc Cert.MixOutOddIdeal.main_arg5)
      ∧ m' ((c.tc : Thread Cert.ReferenceMixOutOddIdeal.nD Cert.ReferenceMixOutOddIdeal.τ).loc Cert.ReferenceMixOutOddIdeal.main_arg6) = m ((c.tc : Thread Cert.MixOutOddIdeal.nD Cert.MixOutOddIdeal.τ).loc Cert.MixOutOddIdeal.main_arg6)) →
    ∃ (v0 : (c : Dev Cert.MixOutOddIdeal.nD) → Buf (Elt Ideal) ((c.tc : Thread Cert.MixOutOddIdeal.nD Cert.MixOutOddIdeal.τ).loc Cert.MixOutOddIdeal.main_v3_0)) (v1 : (c : Dev Cert.MixOutOddIdeal.nD) → Buf (Elt Ideal) ((c.tc : Thread Cert.MixOutOddIdeal.nD Cert.MixOutOddIdeal.τ).loc Cert.MixOutOddIdeal.main_v3_1)),
      θ_run (Cert.MixOutOddIdeal.defs (F := Ideal)) (onTc (τ := Cert.MixOutOddIdeal.τ) (Cert.MixOutOddIdeal.main (F := Ideal))) ⟨m, fun _ => 0, g⟩ (fun r => ∀ c : Dev Cert.MixOutOddIdeal.nD,
          r.2.mem ((c.tc : Thread Cert.MixOutOddIdeal.nD Cert.MixOutOddIdeal.τ).loc Cert.MixOutOddIdeal.main_v3_0) = v0 c
          ∧ r.2.mem ((c.tc : Thread Cert.MixOutOddIdeal.nD Cert.MixOutOddIdeal.τ).loc Cert.MixOutOddIdeal.main_v3_1) = v1 c
          ∧ r.2.mem ((c.tc : Thread Cert.MixOutOddIdeal.nD Cert.MixOutOddIdeal.τ).loc Cert.MixOutOddIdeal.main_arg0) = m ((c.tc : Thread Cert.MixOutOddIdeal.nD Cert.MixOutOddIdeal.τ).loc Cert.MixOutOddIdeal.main_arg0)
          ∧ r.2.mem ((c.tc : Thread Cert.MixOutOddIdeal.nD Cert.MixOutOddIdeal.τ).loc Cert.MixOutOddIdeal.main_arg1) = m ((c.tc : Thread Cert.MixOutOddIdeal.nD Cert.MixOutOddIdeal.τ).loc Cert.MixOutOddIdeal.main_arg1)
          ∧ r.2.mem ((c.tc : Thread Cert.MixOutOddIdeal.nD Cert.MixOutOddIdeal.τ).loc Cert.MixOutOddIdeal.main_arg2) = m ((c.tc : Thread Cert.MixOutOddIdeal.nD Cert.MixOutOddIdeal.τ).loc Cert.MixOutOddIdeal.main_arg2)
          ∧ r.2.mem ((c.tc : Thread Cert.MixOutOddIdeal.nD Cert.MixOutOddIdeal.τ).loc Cert.MixOutOddIdeal.main_arg3) = m ((c.tc : Thread Cert.MixOutOddIdeal.nD Cert.MixOutOddIdeal.τ).loc Cert.MixOutOddIdeal.main_arg3)
          ∧ r.2.mem ((c.tc : Thread Cert.MixOutOddIdeal.nD Cert.MixOutOddIdeal.τ).loc Cert.MixOutOddIdeal.main_arg4) = m ((c.tc : Thread Cert.MixOutOddIdeal.nD Cert.MixOutOddIdeal.τ).loc Cert.MixOutOddIdeal.main_arg4)
          ∧ r.2.mem ((c.tc : Thread Cert.MixOutOddIdeal.nD Cert.MixOutOddIdeal.τ).loc Cert.MixOutOddIdeal.main_arg5) = m ((c.tc : Thread Cert.MixOutOddIdeal.nD Cert.MixOutOddIdeal.τ).loc Cert.MixOutOddIdeal.main_arg5)
          ∧ r.2.mem ((c.tc : Thread Cert.MixOutOddIdeal.nD Cert.MixOutOddIdeal.τ).loc Cert.MixOutOddIdeal.main_arg6) = m ((c.tc : Thread Cert.MixOutOddIdeal.nD Cert.MixOutOddIdeal.τ).loc Cert.MixOutOddIdeal.main_arg6))
      ∧ θ_run (Cert.ReferenceMixOutOddIdeal.defs (F := Ideal)) (onTc (τ := Cert.ReferenceMixOutOddIdeal.τ) (Cert.ReferenceMixOutOddIdeal.main (F := Ideal))) ⟨m', fun _ => 0, g'⟩ (fun r => ∀ c : Dev Cert.ReferenceMixOutOddIdeal.nD,
          r.2.mem ((c.tc : Thread Cert.ReferenceMixOutOddIdeal.nD Cert.ReferenceMixOutOddIdeal.τ).loc Cert.ReferenceMixOutOddIdeal.main_v36) = v0 c
          ∧ r.2.mem ((c.tc : Thread Cert.ReferenceMixOutOddIdeal.nD Cert.ReferenceMixOutOddIdeal.τ).loc Cert.ReferenceMixOutOddIdeal.main_v37) = v1 c
          ∧ r.2.mem ((c.tc : Thread Cert.ReferenceMixOutOddIdeal.nD Cert.ReferenceMixOutOddIdeal.τ).loc Cert.ReferenceMixOutOddIdeal.main_arg0) = m' ((c.tc : Thread Cert.ReferenceMixOutOddIdeal.nD Cert.ReferenceMixOutOddIdeal.τ).loc Cert.ReferenceMixOutOddIdeal.main_arg0)
          ∧ r.2.mem ((c.tc : Thread Cert.ReferenceMixOutOddIdeal.nD Cert.ReferenceMixOutOddIdeal.τ).loc Cert.ReferenceMixOutOddIdeal.main_arg1) = m' ((c.tc : Thread Cert.ReferenceMixOutOddIdeal.nD Cert.ReferenceMixOutOddIdeal.τ).loc Cert.ReferenceMixOutOddIdeal.main_arg1)
          ∧ r.2.mem ((c.tc : Thread Cert.ReferenceMixOutOddIdeal.nD Cert.ReferenceMixOutOddIdeal.τ).loc Cert.ReferenceMixOutOddIdeal.main_arg2) = m' ((c.tc : Thread Cert.ReferenceMixOutOddIdeal.nD Cert.ReferenceMixOutOddIdeal.τ).loc Cert.ReferenceMixOutOddIdeal.main_arg2)
          ∧ r.2.mem ((c.tc : Thread Cert.ReferenceMixOutOddIdeal.nD Cert.ReferenceMixOutOddIdeal.τ).loc Cert.ReferenceMixOutOddIdeal.main_arg3) = m' ((c.tc : Thread Cert.ReferenceMixOutOddIdeal.nD Cert.ReferenceMixOutOddIdeal.τ).loc Cert.ReferenceMixOutOddIdeal.main_arg3)
          ∧ r.2.mem ((c.tc : Thread Cert.ReferenceMixOutOddIdeal.nD Cert.ReferenceMixOutOddIdeal.τ).loc Cert.ReferenceMixOutOddIdeal.main_arg4) = m' ((c.tc : Thread Cert.ReferenceMixOutOddIdeal.nD Cert.ReferenceMixOutOddIdeal.τ).loc Cert.ReferenceMixOutOddIdeal.main_arg4)
          ∧ r.2.mem ((c.tc : Thread Cert.ReferenceMixOutOddIdeal.nD Cert.ReferenceMixOutOddIdeal.τ).loc Cert.ReferenceMixOutOddIdeal.main_arg5) = m' ((c.tc : Thread Cert.ReferenceMixOutOddIdeal.nD Cert.ReferenceMixOutOddIdeal.τ).loc Cert.ReferenceMixOutOddIdeal.main_arg5)
          ∧ r.2.mem ((c.tc : Thread Cert.ReferenceMixOutOddIdeal.nD Cert.ReferenceMixOutOddIdeal.τ).loc Cert.ReferenceMixOutOddIdeal.main_arg6) = m' ((c.tc : Thread Cert.ReferenceMixOutOddIdeal.nD Cert.ReferenceMixOutOddIdeal.τ).loc Cert.ReferenceMixOutOddIdeal.main_arg6))

def Claim : Prop :=
  ∃ (hKernel : Cert.Kernel.Facts) (hKernelIdeal : Cert.KernelIdeal.Facts) (hReferenceIdeal : Cert.ReferenceIdeal.Facts) (hGradIn : Cert.GradIn.Facts) (hGradInIdeal : Cert.GradInIdeal.Facts) (hReferenceGradInIdeal : Cert.ReferenceGradInIdeal.Facts) (hGradOut : Cert.GradOut.Facts) (hGradOutIdeal : Cert.GradOutIdeal.Facts) (hReferenceGradOutIdeal : Cert.ReferenceGradOutIdeal.Facts) (hFfnUp : Cert.FfnUp.Facts) (hFfnUpIdeal : Cert.FfnUpIdeal.Facts) (hReferenceFfnUpIdeal : Cert.ReferenceFfnUpIdeal.Facts) (hFfnDown : Cert.FfnDown.Facts) (hFfnDownIdeal : Cert.FfnDownIdeal.Facts) (hReferenceFfnDownIdeal : Cert.ReferenceFfnDownIdeal.Facts) (hGradSq : Cert.GradSq.Facts) (hGradSqIdeal : Cert.GradSqIdeal.Facts) (hReferenceGradSqIdeal : Cert.ReferenceGradSqIdeal.Facts) (hOddIn : Cert.OddIn.Facts) (hOddInIdeal : Cert.OddInIdeal.Facts) (hReferenceOddInIdeal : Cert.ReferenceOddInIdeal.Facts) (hOddInBwd : Cert.OddInBwd.Facts) (hOddInBwdIdeal : Cert.OddInBwdIdeal.Facts) (hReferenceOddInBwdIdeal : Cert.ReferenceOddInBwdIdeal.Facts) (hFfnUpBwd : Cert.FfnUpBwd.Facts) (hFfnUpBwdIdeal : Cert.FfnUpBwdIdeal.Facts) (hReferenceFfnUpBwdIdeal : Cert.ReferenceFfnUpBwdIdeal.Facts) (hFfnDownBwd : Cert.FfnDownBwd.Facts) (hFfnDownBwdIdeal : Cert.FfnDownBwdIdeal.Facts) (hReferenceFfnDownBwdIdeal : Cert.ReferenceFfnDownBwdIdeal.Facts) (hEvIn : Cert.EvIn.Facts) (hEvInIdeal : Cert.EvInIdeal.Facts) (hReferenceEvInIdeal : Cert.ReferenceEvInIdeal.Facts) (hEvInBwd : Cert.EvInBwd.Facts) (hEvInBwdIdeal : Cert.EvInBwdIdeal.Facts) (hReferenceEvInBwdIdeal : Cert.ReferenceEvInBwdIdeal.Facts) (hGradXbc : Cert.GradXbc.Facts) (hGradXbcIdeal : Cert.GradXbcIdeal.Facts) (hReferenceGradXbcIdeal : Cert.ReferenceGradXbcIdeal.Facts) (hGradPool : Cert.GradPool.Facts) (hGradPoolIdeal : Cert.GradPoolIdeal.Facts) (hReferenceGradPoolIdeal : Cert.ReferenceGradPoolIdeal.Facts) (hGradDt : Cert.GradDt.Facts) (hGradDtIdeal : Cert.GradDtIdeal.Facts) (hReferenceGradDtIdeal : Cert.ReferenceGradDtIdeal.Facts) (hGradMix : Cert.GradMix.Facts) (hGradMixIdeal : Cert.GradMixIdeal.Facts) (hReferenceGradMixIdeal : Cert.ReferenceGradMixIdeal.Facts) (hMixOut : Cert.MixOut.Facts) (hMixOutIdeal : Cert.MixOutIdeal.Facts) (hReferenceMixOutIdeal : Cert.ReferenceMixOutIdeal.Facts) (hMixOutOdd : Cert.MixOutOdd.Facts) (hMixOutOddIdeal : Cert.MixOutOddIdeal.Facts) (hReferenceMixOutOddIdeal : Cert.ReferenceMixOutOddIdeal.Facts) (hPre_ffn_finite : Cert.Pre_ffn_finite.Facts) (hPre_norm_finite : Cert.Pre_norm_finite.Facts),
    quiescent_Kernel (hKernel := hKernel)
    ∧ quiescent_KernelIdeal (hKernelIdeal := hKernelIdeal)
    ∧ quiescent_ReferenceIdeal (hReferenceIdeal := hReferenceIdeal)
    ∧ quiescent_GradIn (hGradIn := hGradIn)
    ∧ quiescent_GradInIdeal (hGradInIdeal := hGradInIdeal)
    ∧ quiescent_ReferenceGradInIdeal (hReferenceGradInIdeal := hReferenceGradInIdeal)
    ∧ quiescent_GradOut (hGradOut := hGradOut)
    ∧ quiescent_GradOutIdeal (hGradOutIdeal := hGradOutIdeal)
    ∧ quiescent_ReferenceGradOutIdeal (hReferenceGradOutIdeal := hReferenceGradOutIdeal)
    ∧ quiescent_FfnUp (hFfnUp := hFfnUp)
    ∧ quiescent_FfnUpIdeal (hFfnUpIdeal := hFfnUpIdeal)
    ∧ quiescent_ReferenceFfnUpIdeal (hReferenceFfnUpIdeal := hReferenceFfnUpIdeal)
    ∧ quiescent_FfnDown (hFfnDown := hFfnDown)
    ∧ quiescent_FfnDownIdeal (hFfnDownIdeal := hFfnDownIdeal)
    ∧ quiescent_ReferenceFfnDownIdeal (hReferenceFfnDownIdeal := hReferenceFfnDownIdeal)
    ∧ quiescent_GradSq (hGradSq := hGradSq)
    ∧ quiescent_GradSqIdeal (hGradSqIdeal := hGradSqIdeal)
    ∧ quiescent_ReferenceGradSqIdeal (hReferenceGradSqIdeal := hReferenceGradSqIdeal)
    ∧ quiescent_OddIn (hOddIn := hOddIn)
    ∧ quiescent_OddInIdeal (hOddInIdeal := hOddInIdeal)
    ∧ quiescent_ReferenceOddInIdeal (hReferenceOddInIdeal := hReferenceOddInIdeal)
    ∧ quiescent_OddInBwd (hOddInBwd := hOddInBwd)
    ∧ quiescent_OddInBwdIdeal (hOddInBwdIdeal := hOddInBwdIdeal)
    ∧ quiescent_ReferenceOddInBwdIdeal (hReferenceOddInBwdIdeal := hReferenceOddInBwdIdeal)
    ∧ quiescent_FfnUpBwd (hFfnUpBwd := hFfnUpBwd)
    ∧ quiescent_FfnUpBwdIdeal (hFfnUpBwdIdeal := hFfnUpBwdIdeal)
    ∧ quiescent_FfnUpBwdIdeal_pre_ffn_finite (hFfnUpBwdIdeal := hFfnUpBwdIdeal) (hPre_ffn_finite := hPre_ffn_finite)
    ∧ quiescent_ReferenceFfnUpBwdIdeal (hReferenceFfnUpBwdIdeal := hReferenceFfnUpBwdIdeal)
    ∧ quiescent_ReferenceFfnUpBwdIdeal_pre_ffn_finite (hReferenceFfnUpBwdIdeal := hReferenceFfnUpBwdIdeal) (hPre_ffn_finite := hPre_ffn_finite)
    ∧ quiescent_FfnDownBwd (hFfnDownBwd := hFfnDownBwd)
    ∧ quiescent_FfnDownBwdIdeal (hFfnDownBwdIdeal := hFfnDownBwdIdeal)
    ∧ quiescent_FfnDownBwdIdeal_pre_norm_finite (hFfnDownBwdIdeal := hFfnDownBwdIdeal) (hPre_norm_finite := hPre_norm_finite)
    ∧ quiescent_ReferenceFfnDownBwdIdeal (hReferenceFfnDownBwdIdeal := hReferenceFfnDownBwdIdeal)
    ∧ quiescent_ReferenceFfnDownBwdIdeal_pre_norm_finite (hReferenceFfnDownBwdIdeal := hReferenceFfnDownBwdIdeal) (hPre_norm_finite := hPre_norm_finite)
    ∧ quiescent_EvIn (hEvIn := hEvIn)
    ∧ quiescent_EvInIdeal (hEvInIdeal := hEvInIdeal)
    ∧ quiescent_ReferenceEvInIdeal (hReferenceEvInIdeal := hReferenceEvInIdeal)
    ∧ quiescent_EvInBwd (hEvInBwd := hEvInBwd)
    ∧ quiescent_EvInBwdIdeal (hEvInBwdIdeal := hEvInBwdIdeal)
    ∧ quiescent_ReferenceEvInBwdIdeal (hReferenceEvInBwdIdeal := hReferenceEvInBwdIdeal)
    ∧ quiescent_GradXbc (hGradXbc := hGradXbc)
    ∧ quiescent_GradXbcIdeal (hGradXbcIdeal := hGradXbcIdeal)
    ∧ quiescent_ReferenceGradXbcIdeal (hReferenceGradXbcIdeal := hReferenceGradXbcIdeal)
    ∧ quiescent_GradPool (hGradPool := hGradPool)
    ∧ quiescent_GradPoolIdeal (hGradPoolIdeal := hGradPoolIdeal)
    ∧ quiescent_ReferenceGradPoolIdeal (hReferenceGradPoolIdeal := hReferenceGradPoolIdeal)
    ∧ quiescent_GradDt (hGradDt := hGradDt)
    ∧ quiescent_GradDtIdeal (hGradDtIdeal := hGradDtIdeal)
    ∧ quiescent_ReferenceGradDtIdeal (hReferenceGradDtIdeal := hReferenceGradDtIdeal)
    ∧ quiescent_GradMix (hGradMix := hGradMix)
    ∧ quiescent_GradMixIdeal (hGradMixIdeal := hGradMixIdeal)
    ∧ quiescent_ReferenceGradMixIdeal (hReferenceGradMixIdeal := hReferenceGradMixIdeal)
    ∧ quiescent_MixOut (hMixOut := hMixOut)
    ∧ quiescent_MixOutIdeal (hMixOutIdeal := hMixOutIdeal)
    ∧ quiescent_ReferenceMixOutIdeal (hReferenceMixOutIdeal := hReferenceMixOutIdeal)
    ∧ quiescent_MixOutOdd (hMixOutOdd := hMixOutOdd)
    ∧ quiescent_MixOutOddIdeal (hMixOutOddIdeal := hMixOutOddIdeal)
    ∧ quiescent_ReferenceMixOutOddIdeal (hReferenceMixOutOddIdeal := hReferenceMixOutOddIdeal)
    ∧ preserves_Kernel_KernelIdeal
    ∧ algebraic_KernelIdeal_ReferenceIdeal (hKernelIdeal := hKernelIdeal) (hReferenceIdeal := hReferenceIdeal)
    ∧ preserves_GradIn_GradInIdeal
    ∧ algebraic_GradInIdeal_ReferenceGradInIdeal (hGradInIdeal := hGradInIdeal) (hReferenceGradInIdeal := hReferenceGradInIdeal)
    ∧ preserves_GradOut_GradOutIdeal
    ∧ algebraic_GradOutIdeal_ReferenceGradOutIdeal (hGradOutIdeal := hGradOutIdeal) (hReferenceGradOutIdeal := hReferenceGradOutIdeal)
    ∧ preserves_FfnUp_FfnUpIdeal
    ∧ algebraic_FfnUpIdeal_ReferenceFfnUpIdeal (hFfnUpIdeal := hFfnUpIdeal) (hReferenceFfnUpIdeal := hReferenceFfnUpIdeal)
    ∧ preserves_FfnDown_FfnDownIdeal
    ∧ algebraic_FfnDownIdeal_ReferenceFfnDownIdeal (hFfnDownIdeal := hFfnDownIdeal) (hReferenceFfnDownIdeal := hReferenceFfnDownIdeal)
    ∧ preserves_GradSq_GradSqIdeal
    ∧ algebraic_GradSqIdeal_ReferenceGradSqIdeal (hGradSqIdeal := hGradSqIdeal) (hReferenceGradSqIdeal := hReferenceGradSqIdeal)
    ∧ preserves_OddIn_OddInIdeal
    ∧ algebraic_OddInIdeal_ReferenceOddInIdeal (hOddInIdeal := hOddInIdeal) (hReferenceOddInIdeal := hReferenceOddInIdeal)
    ∧ preserves_OddInBwd_OddInBwdIdeal
    ∧ algebraic_OddInBwdIdeal_ReferenceOddInBwdIdeal (hOddInBwdIdeal := hOddInBwdIdeal) (hReferenceOddInBwdIdeal := hReferenceOddInBwdIdeal)
    ∧ preserves_FfnUpBwd_FfnUpBwdIdeal
    ∧ algebraic_FfnUpBwdIdeal_ReferenceFfnUpBwdIdeal_pre_ffn_finite (hFfnUpBwdIdeal := hFfnUpBwdIdeal) (hReferenceFfnUpBwdIdeal := hReferenceFfnUpBwdIdeal) (hPre_ffn_finite := hPre_ffn_finite)
    ∧ preserves_FfnDownBwd_FfnDownBwdIdeal
    ∧ algebraic_FfnDownBwdIdeal_ReferenceFfnDownBwdIdeal_pre_norm_finite (hFfnDownBwdIdeal := hFfnDownBwdIdeal) (hReferenceFfnDownBwdIdeal := hReferenceFfnDownBwdIdeal) (hPre_norm_finite := hPre_norm_finite)
    ∧ preserves_EvIn_EvInIdeal
    ∧ algebraic_EvInIdeal_ReferenceEvInIdeal (hEvInIdeal := hEvInIdeal) (hReferenceEvInIdeal := hReferenceEvInIdeal)
    ∧ preserves_EvInBwd_EvInBwdIdeal
    ∧ algebraic_EvInBwdIdeal_ReferenceEvInBwdIdeal (hEvInBwdIdeal := hEvInBwdIdeal) (hReferenceEvInBwdIdeal := hReferenceEvInBwdIdeal)
    ∧ preserves_GradXbc_GradXbcIdeal
    ∧ algebraic_GradXbcIdeal_ReferenceGradXbcIdeal (hGradXbcIdeal := hGradXbcIdeal) (hReferenceGradXbcIdeal := hReferenceGradXbcIdeal)
    ∧ preserves_GradPool_GradPoolIdeal
    ∧ algebraic_GradPoolIdeal_ReferenceGradPoolIdeal (hGradPoolIdeal := hGradPoolIdeal) (hReferenceGradPoolIdeal := hReferenceGradPoolIdeal)
    ∧ preserves_GradDt_GradDtIdeal
    ∧ algebraic_GradDtIdeal_ReferenceGradDtIdeal (hGradDtIdeal := hGradDtIdeal) (hReferenceGradDtIdeal := hReferenceGradDtIdeal)
    ∧ preserves_GradMix_GradMixIdeal
    ∧ algebraic_GradMixIdeal_ReferenceGradMixIdeal (hGradMixIdeal := hGradMixIdeal) (hReferenceGradMixIdeal := hReferenceGradMixIdeal)
    ∧ preserves_MixOut_MixOutIdeal
    ∧ algebraic_MixOutIdeal_ReferenceMixOutIdeal (hMixOutIdeal := hMixOutIdeal) (hReferenceMixOutIdeal := hReferenceMixOutIdeal)
    ∧ preserves_MixOutOdd_MixOutOddIdeal
    ∧ algebraic_MixOutOddIdeal_ReferenceMixOutOddIdeal (hMixOutOddIdeal := hMixOutOddIdeal) (hReferenceMixOutOddIdeal := hReferenceMixOutOddIdeal)
-- ==== Pre_ffn_finite.lean ====
abbrev S8192x1024 : Shape := ⟨2, ![8192, 1024]⟩
abbrev S2x1024 : Shape := ⟨2, ![2, 1024]⟩
abbrev S1024x5632 : Shape := ⟨2, ![1024, 5632]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg4 : FVec F S8192x2816 .bf16) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S8192x2816 .bf16 := Host.absf main_arg4
  let main_cst_6 : FVec F S_ .bf16 := constant S_ .bf16 0x7F80#16
  let main_v20 : FVec F S8192x2816 .bf16 := broadcastInDim S8192x2816 ![] bcast_S_S8192x2816 main_cst_6
  let main_v21 : IVec S8192x2816 1 := cmpf .olt main_v19 main_v20
  let main_c_7 : IVec S_ 1 := constantI S_ 1 1#1
  let main_v22 : IVec S_ 1 := (fun x v => Host.reduce IntOp.andi x v reducesTo_S8192x2816_S_d0_1 h_S_) main_v21 main_c_7
  let main_v23 : IVec S_ 1 := andi main_v18 main_v22
  main_v23

def fn {F : FTy → Type} [FloatOps F] (main_arg0 : FVec F S8192x1024 .f32) (main_arg1 : FVec F S2x1024 .f32) (main_arg2 : FVec F S2x1024 .f32) (main_arg3 : FVec F S1024x5632 .bf16) (main_arg4 : FVec F S8192x2816 .bf16) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2x1024 .f32 := Host.absf main_arg1
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S1024x5632 .bf16 := Host.absf main_arg3
  let main_cst_4 : FVec F S_ .bf16 := constant S_ .bf16 0x7F80#16
  let main_v15 : FVec F S1024x5632 .bf16 := broadcastInDim S1024x5632 ![] bcast_S_S1024x5632 main_cst_4
  let main_v16 : IVec S1024x5632 1 := cmpf .olt main_v14 main_v15
  fn_part1 (F := F) main_arg4 main_v13 main_v16
-- ==== Pre_norm_finite.lean ====
abbrev S8192x1024 : Shape := ⟨2, ![8192, 1024]⟩
abbrev S8192x2816 : Shape := ⟨2, ![8192, 2816]⟩
abbrev S2816x1024 : Shape := ⟨2, ![2816, 1024]⟩
abbrev S2x1024 : Shape := ⟨2, ![2, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg6 : FVec F S8192x1024 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S8192x1024 .f32 := Host.absf main_arg6
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S8192x2816 .bf16) (main_arg2 : FVec F S2816x1024 .bf16) (main_arg3 : FVec F S2x1024 .f32) (main_arg4 : FVec F S1024 .f32) (main_arg5 : FVec F S1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2816 .bf16 := Host.absf main_arg1
  let main_cst_0 : FVec F S_ .bf16 := constant S_ .bf16 0x7F80#16
  let main_v5 : FVec F S8192x2816 .bf16 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S2816x1024 .bf16 := Host.absf main_arg2
  let main_cst_2 : FVec F S_ .bf16 := constant S_ .bf16 0x7F80#16
  let main_v10 : FVec F S2816x1024 .bf16 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2x1024 .f32 := Host.absf main_arg3
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg4 main_arg6 main_v13 main_v16
-- ==== Kernel.lean ====
abbrev S8192x1024 : Shape := ⟨2, ![8192, 1024]⟩
abbrev S31x512 : Shape := ⟨2, ![31, 512]⟩
abbrev S512 : Shape := ⟨1, ![512]⟩
abbrev S8192x512 : Shape := ⟨2, ![8192, 512]⟩
abbrev S1x512 : Shape := ⟨2, ![1, 512]⟩
abbrev S256x1024 : Shape := ⟨2, ![256, 1024]⟩
abbrev S32x1024 : Shape := ⟨2, ![32, 1024]⟩
abbrev S256x512 : Shape := ⟨2, ![256, 512]⟩
abbrev S288x512 : Shape := ⟨2, ![288, 512]⟩
abbrev S32x512 : Shape := ⟨2, ![32, 512]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S32 : Shape := ⟨1, ![32]⟩
abbrev S32x1 : Shape := ⟨2, ![32, 1]⟩
abbrev S128 : Shape := ⟨1, ![128]⟩

abbrev nBuf : Space → Nat
  | .hbm => 18
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S8192x512, .bf16⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S8192x512, .bf16⟩
  | .hbm, ⟨10, _⟩ => ⟨S8192x512, .f32⟩
  | .hbm, ⟨11, _⟩ => ⟨S1x512, .f32⟩
  | .hbm, ⟨12, _⟩ => ⟨S1x512, .f32⟩
  | .hbm, ⟨13, _⟩ => ⟨S8192x1024, .bf16⟩
  | .hbm, ⟨14, _⟩ => ⟨S31x512, .f32⟩
  | .hbm, ⟨15, _⟩ => ⟨S1x512, .f32⟩
  | .hbm, ⟨16, _⟩ => ⟨S1x512, .f32⟩
  | .hbm, ⟨17, _⟩ => ⟨S1x512, .f32⟩
  | .local _ .vmem, ⟨0, _⟩ => ⟨S256x1024, .f32⟩
  | .local _ .vmem, ⟨1, _⟩ => ⟨S256x1024, .f32⟩
  | .local _ .vmem, ⟨2, _⟩ => ⟨S32x1024, .f32⟩
  | .local _ .vmem, ⟨3, _⟩ => ⟨S32x1024, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S288x512, .f32⟩
  | .local _ .vmem, ⟨13, _⟩ => ⟨S256x512, .bf16⟩
  | .local _ .vmem, ⟨14, _⟩ => ⟨S256x512, .bf16⟩
  | .local _ .vmem, ⟨15, _⟩ => ⟨S32x512, .bf16⟩
  | .local _ .vmem, ⟨16, _⟩ => ⟨S32x512, .bf16⟩
  | .local _ .vmem, ⟨17, _⟩ => ⟨S256x512, .f32⟩
  | .local _ .vmem, ⟨18, _⟩ => ⟨S256x512, .f32⟩
  | .local _ .vmem, ⟨19, _⟩ => ⟨S32x512, .f32⟩
  | .local _ .vmem, ⟨20, _⟩ => ⟨S32x512, .f32⟩
  | .local _ .vmem, ⟨21, _⟩ => ⟨S256x1024, .f32⟩
  | .local _ .vmem, ⟨22, _⟩ => ⟨S256x1024, .f32⟩
  | .local _ .vmem, ⟨23, _⟩ => ⟨S32x1024, .f32⟩
  | .local _ .vmem, ⟨24, _⟩ => ⟨S32x1024, .f32⟩
  | .local _ .vmem, ⟨25, _⟩ => ⟨S31x512, .f32⟩
  | .local _ .vmem, ⟨26, _⟩ => ⟨S1x512, .f32⟩
  | .local _ .vmem, ⟨27, _⟩ => ⟨S1x512, .f32⟩
  | .local _ .vmem, ⟨28, _⟩ => ⟨S256x1024, .bf16⟩
  | .local _ .vmem, ⟨29, _⟩ => ⟨S256x1024, .bf16⟩
  | .local _ .vmem, ⟨30, _⟩ => ⟨S31x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S288x512, .f32⟩
  | .local _ .vmem, ⟨35, _⟩ => ⟨S288x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_scratch0 : Ref sig .tc := ⟨.vmem, 34, rfl⟩
abbrev cc1_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem9_1 : DmaSem sig := 28
abbrev cc1_sem10_0 : DmaSem sig := 29
abbrev cc1_sem11_0 : DmaSem sig := 30
abbrev cc1_sem12_0 : DmaSem sig := 31
abbrev cc1_sem13_0 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S32x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S31x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S31x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]
-- ==== ReferenceIdeal.lean ====
abbrev S8192x1024 : Shape := ⟨2, ![8192, 1024]⟩
abbrev S31x512 : Shape := ⟨2, ![31, 512]⟩
abbrev S512 : Shape := ⟨1, ![512]⟩
abbrev S8192x512 : Shape := ⟨2, ![8192, 512]⟩
abbrev S2x4096x1024 : Shape := ⟨3, ![2, 4096, 1024]⟩
abbrev S2x4096x512 : Shape := ⟨3, ![2, 4096, 512]⟩
abbrev S_ : Shape := ⟨0, ![]⟩
abbrev S2x30x512 : Shape := ⟨3, ![2, 30, 512]⟩
abbrev S2x4126x512 : Shape := ⟨3, ![2, 4126, 512]⟩
abbrev S2x4096x1x512 : Shape := ⟨4, ![2, 4096, 1, 512]⟩
abbrev S2x4096x16x512 : Shape := ⟨4, ![2, 4096, 16, 512]⟩
abbrev S2x4096x15x512 : Shape := ⟨4, ![2, 4096, 15, 512]⟩
abbrev S2x4096x31x512 : Shape := ⟨4, ![2, 4096, 31, 512]⟩
abbrev S1x1x31x512 : Shape := ⟨4, ![1, 1, 31, 512]⟩
abbrev S1x1x512 : Shape := ⟨3, ![1, 1, 512]⟩
abbrev S2x4096 : Shape := ⟨2, ![2, 4096]⟩
abbrev S2x4096x1 : Shape := ⟨3, ![2, 4096, 1]⟩
abbrev S1x512 : Shape := ⟨2, ![1, 512]⟩

abbrev nBuf : Space → Nat
  | .hbm => 374
  | .vmem => 0
  | .smem => 0
  | _ => 0

abbrev hbmTy0_0 (i : Nat) : BufTy := match i % 128 with
  | 0 => ⟨S8192x1024, .f32⟩
  | 1 => ⟨S31x512, .f32⟩
  | 2 => ⟨S512, .f32⟩
  | 3 => ⟨S512, .f32⟩
  | 4 => ⟨S512, .f32⟩
  | 5 => ⟨S8192x512, .bf16⟩
  | 6 => ⟨S2x4096x1024, .f32⟩
  | 7 => ⟨S2x4096x512, .f32⟩
  | 8 => ⟨S2x4096x512, .f32⟩
  | 9 => ⟨S2x4096x512, .f32⟩
  | 10 => ⟨S2x4096x512, .f32⟩
  | 11 => ⟨S_, .f32⟩
  | 12 => ⟨S2x4096x512, .f32⟩
  | 13 => ⟨S2x4096x512, .f32⟩
  | 14 => ⟨S_, .f32⟩
  | 15 => ⟨S2x4096x512, .f32⟩
  | 16 => ⟨S2x4096x512, .f32⟩
  | 17 => ⟨S_, .f32⟩
  | 18 => ⟨S2x4096x512, .f32⟩
  | 19 => ⟨S2x4096x512, .f32⟩
  | 20 => ⟨S2x4096x512, .f32⟩
  | 21 => ⟨S2x4096x512, .f32⟩
  | 22 => ⟨S_, .f32⟩
  | 23 => ⟨S2x30x512, .f32⟩
  | 24 => ⟨S2x4126x512, .f32⟩
  | 25 => ⟨S_, .f32⟩
  | 26 => ⟨S2x30x512, .f32⟩
  | 27 => ⟨S2x4096x512, .f32⟩
  | 28 => ⟨S2x4096x512, .f32⟩
  | 29 => ⟨S2x4096x512, .f32⟩
  | 30 => ⟨S2x4096x512, .f32⟩
  | 31 => ⟨S2x4096x512, .f32⟩
  | 32 => ⟨S2x4096x512, .f32⟩
  | 33 => ⟨S2x4096x512, .f32⟩
  | 34 => ⟨S2x4096x512, .f32⟩
  | 35 => ⟨S2x4096x512, .f32⟩
  | 36 => ⟨S2x4096x512, .f32⟩
  | 37 => ⟨S2x4096x512, .f32⟩
  | 38 => ⟨S2x4096x512, .f32⟩
  | 39 => ⟨S2x4096x512, .f32⟩
  | 40 => ⟨S2x4096x512, .f32⟩
  | 41 => ⟨S2x4096x512, .f32⟩
  | 42 => ⟨S2x4096x512, .f32⟩
  | 43 => ⟨S2x4096x512, .f32⟩
  | 44 => ⟨S2x4096x512, .f32⟩
  | 45 => ⟨S2x4096x512, .f32⟩
  | 46 => ⟨S2x4096x512, .f32⟩
  | 47 => ⟨S2x4096x512, .f32⟩
  | 48 => ⟨S2x4096x512, .f32⟩
  | 49 => ⟨S2x4096x512, .f32⟩
  | 50 => ⟨S2x4096x512, .f32⟩
  | 51 => ⟨S2x4096x512, .f32⟩
  | 52 => ⟨S2x4096x512, .f32⟩
  | 53 => ⟨S2x4096x512, .f32⟩
  | 54 => ⟨S2x4096x512, .f32⟩
  | 55 => ⟨S2x4096x512, .f32⟩
  | 56 => ⟨S2x4096x512, .f32⟩
  | 57 => ⟨S2x4096x512, .f32⟩
  | 58 => ⟨S2x4096x1x512, .f32⟩
  | 59 => ⟨S2x4096x1x512, .f32⟩
  | 60 => ⟨S2x4096x1x512, .f32⟩
  | 61 => ⟨S2x4096x1x512, .f32⟩
  | 62 => ⟨S2x4096x1x512, .f32⟩
  | 63 => ⟨S2x4096x1x512, .f32⟩
  | 64 => ⟨S2x4096x1x512, .f32⟩
  | 65 => ⟨S2x4096x1x512, .f32⟩
  | 66 => ⟨S2x4096x1x512, .f32⟩
  | 67 => ⟨S2x4096x1x512, .f32⟩
  | 68 => ⟨S2x4096x1x512, .f32⟩
  | 69 => ⟨S2x4096x1x512, .f32⟩
  | 70 => ⟨S2x4096x1x512, .f32⟩
  | 71 => ⟨S2x4096x1x512, .f32⟩
  | 72 => ⟨S2x4096x1x512, .f32⟩
  | 73 => ⟨S2x4096x1x512, .f32⟩
  | 74 => ⟨S2x4096x1x512, .f32⟩
  | 75 => ⟨S2x4096x1x512, .f32⟩
  | 76 => ⟨S2x4096x1x512, .f32⟩
  | 77 => ⟨S2x4096x1x512, .f32⟩
  | 78 => ⟨S2x4096x1x512, .f32⟩
  | 79 => ⟨S2x4096x1x512, .f32⟩
  | 80 => ⟨S2x4096x1x512, .f32⟩
  | 81 => ⟨S2x4096x1x512, .f32⟩
  | 82 => ⟨S2x4096x1x512, .f32⟩
  | 83 => ⟨S2x4096x1x512, .f32⟩
  | 84 => ⟨S2x4096x1x512, .f32⟩
  | 85 => ⟨S2x4096x1x512, .f32⟩
  | 86 => ⟨S2x4096x1x512, .f32⟩
  | 87 => ⟨S2x4096x1x512, .f32⟩
  | 88 => ⟨S2x4096x1x512, .f32⟩
  | 89 => ⟨S2x4096x16x512, .f32⟩
  | 90 => ⟨S2x4096x15x512, .f32⟩
  | 91 => ⟨S2x4096x31x512, .f32⟩
  | 92 => ⟨S1x1x31x512, .f32⟩
  | 93 => ⟨S2x4096x31x512, .f32⟩
  | 94 => ⟨S2x4096x31x512, .f32⟩
  | 95 => ⟨S_, .f32⟩
  | 96 => ⟨S2x4096x512, .f32⟩
  | 97 => ⟨S1x1x512, .f32⟩
  | 98 => ⟨S2x4096x512, .f32⟩
  | 99 => ⟨S2x4096x512, .f32⟩
  | 100 => ⟨S_, .f32⟩
  | 101 => ⟨S2x4096, .f32⟩
  | 102 => ⟨S2x4096x1, .f32⟩
  | 103 => ⟨S_, .f32⟩
  | 104 => ⟨S2x4096x1, .f32⟩
  | 105 => ⟨S2x4096x1, .f32⟩
  | 106 => ⟨S2x4096x512, .f32⟩
  | 107 => ⟨S2x4096x512, .f32⟩
  | 108 => ⟨S2x4096x512, .f32⟩
  | 109 => ⟨S_, .f32⟩
  | 110 => ⟨S2x4096, .f32⟩
  | 111 => ⟨S2x4096x1, .f32⟩
  | 112 => ⟨S_, .f32⟩
  | 113 => ⟨S2x4096x1, .f32⟩
  | 114 => ⟨S2x4096x1, .f32⟩
  | 115 => ⟨S_, .f32⟩
  | 116 => ⟨S2x4096x1, .f32⟩
  | 117 => ⟨S2x4096x1, .f32⟩
  | 118 => ⟨S2x4096x1, .f32⟩
  | 119 => ⟨S2x4096x1, .f32⟩
  | 120 => ⟨S_, .f32⟩
  | 121 => ⟨S2x4096x1, .f32⟩
  | 122 => ⟨S2x4096x1, .f32⟩
  | 123 => ⟨S2x4096x512, .f32⟩
  | 124 => ⟨S2x4096x512, .f32⟩
  | 125 => ⟨S1x1x512, .f32⟩
  | 126 => ⟨S2x4096x512, .f32⟩
  | 127 => ⟨S2x4096x512, .f32⟩
  | _ => ⟨S8192x1024, .f32⟩

abbrev hbmTy0_1 (i : Nat) : BufTy := match i % 128 with
  | 0 => ⟨S1x1x512, .f32⟩
  | 1 => ⟨S2x4096x512, .f32⟩
  | 2 => ⟨S2x4096x512, .f32⟩
  | 3 => ⟨S2x4096x512, .f32⟩
  | 4 => ⟨S2x4096x512, .f32⟩
  | 5 => ⟨S_, .f32⟩
  | 6 => ⟨S2x4096x512, .f32⟩
  | 7 => ⟨S2x4096x512, .f32⟩
  | 8 => ⟨S_, .f32⟩
  | 9 => ⟨S2x4096x512, .f32⟩
  | 10 => ⟨S2x4096x512, .f32⟩
  | 11 => ⟨S_, .f32⟩
  | 12 => ⟨S2x4096x512, .f32⟩
  | 13 => ⟨S2x4096x512, .f32⟩
  | 14 => ⟨S2x4096x512, .f32⟩
  | 15 => ⟨S2x4096x512, .f32⟩
  | 16 => ⟨S8192x512, .f32⟩
  | 17 => ⟨S2x4096x512, .f32⟩
  | 18 => ⟨S2x4096x512, .f32⟩
  | 19 => ⟨S2x4096x512, .f32⟩
  | 20 => ⟨S2x4096x512, .f32⟩
  | 21 => ⟨S2x4096x512, .f32⟩
  | 22 => ⟨S_, .f32⟩
  | 23 => ⟨S512, .f32⟩
  | 24 => ⟨S1x1x512, .f32⟩
  | 25 => ⟨S_, .f32⟩
  | 26 => ⟨S512, .f32⟩
  | 27 => ⟨S2x4096x512, .f32⟩
  | 28 => ⟨S_, .f32⟩
  | 29 => ⟨S512, .f32⟩
  | 30 => ⟨S1x1x512, .f32⟩
  | 31 => ⟨S2x4096x512, .f32⟩
  | 32 => ⟨S2x4096x512, .f32⟩
  | 33 => ⟨S_, .f32⟩
  | 34 => ⟨S512, .f32⟩
  | 35 => ⟨S2x4096x512, .f32⟩
  | 36 => ⟨S_, .f32⟩
  | 37 => ⟨S2x4096, .f32⟩
  | 38 => ⟨S2x4096x1, .f32⟩
  | 39 => ⟨S2x4096x512, .f32⟩
  | 40 => ⟨S2x4096x512, .f32⟩
  | 41 => ⟨S2x4096x1, .f32⟩
  | 42 => ⟨S_, .f32⟩
  | 43 => ⟨S2x4096x1, .f32⟩
  | 44 => ⟨S2x4096x1, .f32⟩
  | 45 => ⟨S_, .f32⟩
  | 46 => ⟨S2x4096, .f32⟩
  | 47 => ⟨S2x4096x512, .f32⟩
  | 48 => ⟨S2x4096x512, .f32⟩
  | 49 => ⟨S2x4096x512, .f32⟩
  | 50 => ⟨S2x4096x512, .f32⟩
  | 51 => ⟨S2x4096x512, .f32⟩
  | 52 => ⟨S2x4096x512, .f32⟩
  | 53 => ⟨S_, .f32⟩
  | 54 => ⟨S2x4096, .f32⟩
  | 55 => ⟨S2x4096x1, .f32⟩
  | 56 => ⟨S_, .f32⟩
  | 57 => ⟨S2x4096x1, .f32⟩
  | 58 => ⟨S2x4096x1, .f32⟩
  | 59 => ⟨S_, .f32⟩
  | 60 => ⟨S2x4096, .f32⟩
  | 61 => ⟨S2x4096x512, .f32⟩
  | 62 => ⟨S2x4096x512, .f32⟩
  | 63 => ⟨S_, .f32⟩
  | 64 => ⟨S512, .f32⟩
  | 65 => ⟨S1x1x512, .f32⟩
  | 66 => ⟨S_, .f32⟩
  | 67 => ⟨S512, .f32⟩
  | 68 => ⟨S2x4096x31x512, .f32⟩
  | 69 => ⟨S2x4096x31x512, .f32⟩
  | 70 => ⟨S_, .f32⟩
  | 71 => ⟨S31x512, .f32⟩
  | 72 => ⟨S1x1x31x512, .f32⟩
  | 73 => ⟨S2x4096x31x512, .f32⟩
  | 74 => ⟨S2x4096x31x512, .f32⟩
  | 75 => ⟨S_, .f32⟩
  | 76 => ⟨S31x512, .f32⟩
  | 77 => ⟨S2x4096x1x512, .f32⟩
  | 78 => ⟨S2x4096x512, .f32⟩
  | 79 => ⟨S2x4096x1x512, .f32⟩
  | 80 => ⟨S2x4096x512, .f32⟩
  | 81 => ⟨S2x4096x1x512, .f32⟩
  | 82 => ⟨S2x4096x512, .f32⟩
  | 83 => ⟨S2x4096x1x512, .f32⟩
  | 84 => ⟨S2x4096x512, .f32⟩
  | 85 => ⟨S2x4096x1x512, .f32⟩
  | 86 => ⟨S2x4096x512, .f32⟩
  | 87 => ⟨S2x4096x1x512, .f32⟩
  | 88 => ⟨S2x4096x512, .f32⟩
  | 89 => ⟨S2x4096x1x512, .f32⟩
  | 90 => ⟨S2x4096x512, .f32⟩
  | 91 => ⟨S2x4096x1x512, .f32⟩
  | 92 => ⟨S2x4096x512, .f32⟩
  | 93 => ⟨S2x4096x1x512, .f32⟩
  | 94 => ⟨S2x4096x512, .f32⟩
  | 95 => ⟨S2x4096x1x512, .f32⟩
  | 96 => ⟨S2x4096x512, .f32⟩
  | 97 => ⟨S2x4096x1x512, .f32⟩
  | 98 => ⟨S2x4096x512, .f32⟩
  | 99 => ⟨S2x4096x1x512, .f32⟩
  | 100 => ⟨S2x4096x512, .f32⟩
  | 101 => ⟨S2x4096x1x512, .f32⟩
  | 102 => ⟨S2x4096x512, .f32⟩
  | 103 => ⟨S2x4096x1x512, .f32⟩
  | 104 => ⟨S2x4096x512, .f32⟩
  | 105 => ⟨S2x4096x1x512, .f32⟩
  | 106 => ⟨S2x4096x512, .f32⟩
  | 107 => ⟨S2x4096x1x512, .f32⟩
  | 108 => ⟨S2x4096x512, .f32⟩
  | 109 => ⟨S2x4096x1x512, .f32⟩
  | 110 => ⟨S2x4096x512, .f32⟩
  | 111 => ⟨S2x4096x1x512, .f32⟩
  | 112 => ⟨S2x4096x512, .f32⟩
  | 113 => ⟨S2x4096x1x512, .f32⟩
  | 114 => ⟨S2x4096x512, .f32⟩
  | 115 => ⟨S2x4096x1x512, .f32⟩
  | 116 => ⟨S2x4096x512, .f32⟩
  | 117 => ⟨S2x4096x1x512, .f32⟩
  | 118 => ⟨S2x4096x512, .f32⟩
  | 119 => ⟨S2x4096x1x512, .f32⟩
  | 120 => ⟨S2x4096x512, .f32⟩
  | 121 => ⟨S2x4096x1x512, .f32⟩
  | 122 => ⟨S2x4096x512, .f32⟩
  | 123 => ⟨S2x4096x1x512, .f32⟩
  | 124 => ⟨S2x4096x512, .f32⟩
  | 125 => ⟨S2x4096x1x512, .f32⟩
  | 126 => ⟨S2x4096x512, .f32⟩
  | 127 => ⟨S2x4096x1x512, .f32⟩
  | _ => ⟨S8192x1024, .f32⟩

abbrev hbmTy0_2 (i : Nat) : BufTy := match i % 128 with
  | 0 => ⟨S2x4096x512, .f32⟩
  | 1 => ⟨S2x4096x1x512, .f32⟩
  | 2 => ⟨S2x4096x512, .f32⟩
  | 3 => ⟨S2x4096x1x512, .f32⟩
  | 4 => ⟨S2x4096x512, .f32⟩
  | 5 => ⟨S2x4096x1x512, .f32⟩
  | 6 => ⟨S2x4096x512, .f32⟩
  | 7 => ⟨S2x4096x1x512, .f32⟩
  | 8 => ⟨S2x4096x512, .f32⟩
  | 9 => ⟨S2x4096x1x512, .f32⟩
  | 10 => ⟨S2x4096x512, .f32⟩
  | 11 => ⟨S_, .f32⟩
  | 12 => ⟨S2x4126x512, .f32⟩
  | 13 => ⟨S_, .f32⟩
  | 14 => ⟨S2x4126x512, .f32⟩
  | 15 => ⟨S2x4126x512, .f32⟩
  | 16 => ⟨S_, .f32⟩
  | 17 => ⟨S2x4126x512, .f32⟩
  | 18 => ⟨S2x4126x512, .f32⟩
  | 19 => ⟨S_, .f32⟩
  | 20 => ⟨S2x4126x512, .f32⟩
  | 21 => ⟨S2x4126x512, .f32⟩
  | 22 => ⟨S_, .f32⟩
  | 23 => ⟨S2x4126x512, .f32⟩
  | 24 => ⟨S2x4126x512, .f32⟩
  | 25 => ⟨S_, .f32⟩
  | 26 => ⟨S2x4126x512, .f32⟩
  | 27 => ⟨S2x4126x512, .f32⟩
  | 28 => ⟨S_, .f32⟩
  | 29 => ⟨S2x4126x512, .f32⟩
  | 30 => ⟨S2x4126x512, .f32⟩
  | 31 => ⟨S_, .f32⟩
  | 32 => ⟨S2x4126x512, .f32⟩
  | 33 => ⟨S2x4126x512, .f32⟩
  | 34 => ⟨S_, .f32⟩
  | 35 => ⟨S2x4126x512, .f32⟩
  | 36 => ⟨S2x4126x512, .f32⟩
  | 37 => ⟨S_, .f32⟩
  | 38 => ⟨S2x4126x512, .f32⟩
  | 39 => ⟨S2x4126x512, .f32⟩
  | 40 => ⟨S_, .f32⟩
  | 41 => ⟨S2x4126x512, .f32⟩
  | 42 => ⟨S2x4126x512, .f32⟩
  | 43 => ⟨S_, .f32⟩
  | 44 => ⟨S2x4126x512, .f32⟩
  | 45 => ⟨S2x4126x512, .f32⟩
  | 46 => ⟨S_, .f32⟩
  | 47 => ⟨S2x4126x512, .f32⟩
  | 48 => ⟨S2x4126x512, .f32⟩
  | 49 => ⟨S_, .f32⟩
  | 50 => ⟨S2x4126x512, .f32⟩
  | 51 => ⟨S2x4126x512, .f32⟩
  | 52 => ⟨S_, .f32⟩
  | 53 => ⟨S2x4126x512, .f32⟩
  | 54 => ⟨S2x4126x512, .f32⟩
  | 55 => ⟨S_, .f32⟩
  | 56 => ⟨S2x4126x512, .f32⟩
  | 57 => ⟨S2x4126x512, .f32⟩
  | 58 => ⟨S_, .f32⟩
  | 59 => ⟨S2x4126x512, .f32⟩
  | 60 => ⟨S2x4126x512, .f32⟩
  | 61 => ⟨S_, .f32⟩
  | 62 => ⟨S2x4126x512, .f32⟩
  | 63 => ⟨S2x4126x512, .f32⟩
  | 64 => ⟨S_, .f32⟩
  | 65 => ⟨S2x4126x512, .f32⟩
  | 66 => ⟨S2x4126x512, .f32⟩
  | 67 => ⟨S_, .f32⟩
  | 68 => ⟨S2x4126x512, .f32⟩
  | 69 => ⟨S2x4126x512, .f32⟩
  | 70 => ⟨S_, .f32⟩
  | 71 => ⟨S2x4126x512, .f32⟩
  | 72 => ⟨S2x4126x512, .f32⟩
  | 73 => ⟨S_, .f32⟩
  | 74 => ⟨S2x4126x512, .f32⟩
  | 75 => ⟨S2x4126x512, .f32⟩
  | 76 => ⟨S_, .f32⟩
  | 77 => ⟨S2x4126x512, .f32⟩
  | 78 => ⟨S2x4126x512, .f32⟩
  | 79 => ⟨S_, .f32⟩
  | 80 => ⟨S2x4126x512, .f32⟩
  | 81 => ⟨S2x4126x512, .f32⟩
  | 82 => ⟨S_, .f32⟩
  | 83 => ⟨S2x4126x512, .f32⟩
  | 84 => ⟨S2x4126x512, .f32⟩
  | 85 => ⟨S_, .f32⟩
  | 86 => ⟨S2x4126x512, .f32⟩
  | 87 => ⟨S2x4126x512, .f32⟩
  | 88 => ⟨S_, .f32⟩
  | 89 => ⟨S2x4126x512, .f32⟩
  | 90 => ⟨S2x4126x512, .f32⟩
  | 91 => ⟨S_, .f32⟩
  | 92 => ⟨S2x4126x512, .f32⟩
  | 93 => ⟨S2x4126x512, .f32⟩
  | 94 => ⟨S_, .f32⟩
  | 95 => ⟨S2x4126x512, .f32⟩
  | 96 => ⟨S2x4126x512, .f32⟩
  | 97 => ⟨S_, .f32⟩
  | 98 => ⟨S2x4126x512, .f32⟩
  | 99 => ⟨S2x4126x512, .f32⟩
  | 100 => ⟨S_, .f32⟩
  | 101 => ⟨S2x4126x512, .f32⟩
  | 102 => ⟨S2x4126x512, .f32⟩
  | 103 => ⟨S2x30x512, .f32⟩
  | 104 => ⟨S2x4096x512, .f32⟩
  | 105 => ⟨S2x4096x512, .f32⟩
  | 106 => ⟨S2x4096x512, .f32⟩
  | 107 => ⟨S2x4096x512, .f32⟩
  | 108 => ⟨S_, .f32⟩
  | 109 => ⟨S2x4096x1024, .f32⟩
  | 110 => ⟨S_, .f32⟩
  | 111 => ⟨S2x4096x1024, .f32⟩
  | 112 => ⟨S2x4096x1024, .f32⟩
  | 113 => ⟨S8192x1024, .f32⟩
  | 114 => ⟨S8192x1024, .bf16⟩
  | 115 => ⟨S1x512, .f32⟩
  | 116 => ⟨S1x512, .f32⟩
  | 117 => ⟨S1x512, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_cst_4 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_5 : Ref sig .tc := ⟨.hbm, 100, rfl⟩
abbrev main_v88 : Ref sig .tc := ⟨.hbm, 101, rfl⟩
abbrev main_v89 : Ref sig .tc := ⟨.hbm, 102, rfl⟩
abbrev main_cst_6 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_7 : Ref sig .tc := ⟨.hbm, 109, rfl⟩
abbrev main_v95 : Ref sig .tc := ⟨.hbm, 110, rfl⟩
abbrev main_v96 : Ref sig .tc := ⟨.hbm, 111, rfl⟩
abbrev main_cst_8 : Ref sig .tc := ⟨.hbm, 112, rfl⟩
abbrev main_v97 : Ref sig .tc := ⟨.hbm, 113, rfl⟩
abbrev main_v98 : Ref sig .tc := ⟨.hbm, 114, rfl⟩
abbrev main_cst_9 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_cst_10 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_call0_v0 : Ref sig .tc := ⟨.hbm, 131, rfl⟩
abbrev main_call0_v1 : Ref sig .tc := ⟨.hbm, 132, rfl⟩
abbrev main_call0_cst : Ref sig .tc := ⟨.hbm, 133, rfl⟩
abbrev main_call0_v2 : Ref sig .tc := ⟨.hbm, 134, rfl⟩
abbrev main_call0_v3 : Ref sig .tc := ⟨.hbm, 135, rfl⟩
abbrev main_call0_cst_0 : Ref sig .tc := ⟨.hbm, 136, rfl⟩
abbrev main_call0_v4 : Ref sig .tc := ⟨.hbm, 137, rfl⟩
abbrev main_v113_2 : Ref sig .tc := ⟨.hbm, 138, rfl⟩
abbrev main_call0_cst_1 : Ref sig .tc := ⟨.hbm, 139, rfl⟩
abbrev main_call0_v6 : Ref sig .tc := ⟨.hbm, 140, rfl⟩
abbrev main_call0_v7 : Ref sig .tc := ⟨.hbm, 141, rfl⟩
abbrev main_v113_1 : Ref sig .tc := ⟨.hbm, 142, rfl⟩
abbrev main_v113_0 : Ref sig .tc := ⟨.hbm, 143, rfl⟩
abbrev main_v114 : Ref sig .tc := ⟨.hbm, 144, rfl⟩
abbrev main_v115 : Ref sig .tc := ⟨.hbm, 145, rfl⟩
abbrev main_call1_v0 : Ref sig .tc := ⟨.hbm, 146, rfl⟩
abbrev main_call1_v1 : Ref sig .tc := ⟨.hbm, 147, rfl⟩
abbrev main_call1_v2 : Ref sig .tc := ⟨.hbm, 148, rfl⟩
abbrev main_v116 : Ref sig .tc := ⟨.hbm, 149, rfl⟩
abbrev main_cst_11 : Ref sig .tc := ⟨.hbm, 150, rfl⟩
abbrev main_v117 : Ref sig .tc := ⟨.hbm, 151, rfl⟩
abbrev main_v118 : Ref sig .tc := ⟨.hbm, 152, rfl⟩
abbrev main_cst_12 : Ref sig .tc := ⟨.hbm, 153, rfl⟩
abbrev main_v119 : Ref sig .tc := ⟨.hbm, 154, rfl⟩
abbrev main_v120 : Ref sig .tc := ⟨.hbm, 155, rfl⟩
abbrev main_cst_13 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_14 : Ref sig .tc := ⟨.hbm, 161, rfl⟩
abbrev main_v125 : Ref sig .tc := ⟨.hbm, 162, rfl⟩
abbrev main_v126 : Ref sig .tc := ⟨.hbm, 163, rfl⟩
abbrev main_cst_15 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_16 : Ref sig .tc := ⟨.hbm, 170, rfl⟩
abbrev main_v132 : Ref sig .tc := ⟨.hbm, 171, rfl⟩
abbrev main_v133 : Ref sig .tc := ⟨.hbm, 172, rfl⟩
abbrev main_cst_17 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_18 : Ref sig .tc := ⟨.hbm, 181, rfl⟩
abbrev main_v141 : Ref sig .tc := ⟨.hbm, 182, rfl⟩
abbrev main_v142 : Ref sig .tc := ⟨.hbm, 183, rfl⟩
abbrev main_cst_19 : Ref sig .tc := ⟨.hbm, 184, rfl⟩
abbrev main_v143 : Ref sig .tc := ⟨.hbm, 185, rfl⟩
abbrev main_v144 : Ref sig .tc := ⟨.hbm, 186, rfl⟩
abbrev main_cst_20 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_cst_21 : Ref sig .tc := ⟨.hbm, 191, rfl⟩
abbrev main_v148 : Ref sig .tc := ⟨.hbm, 192, rfl⟩
abbrev main_v149 : Ref sig .tc := ⟨.hbm, 193, rfl⟩
abbrev main_cst_22 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_cst_23 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_cst_24 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_cst_25 : Ref sig .tc := ⟨.hbm, 267, rfl⟩
abbrev main_v220 : Ref sig .tc := ⟨.hbm, 268, rfl⟩
abbrev main_cst_26 : Ref sig .tc := ⟨.hbm, 269, rfl⟩
abbrev main_v221 : Ref sig .tc := ⟨.hbm, 270, rfl⟩
abbrev main_v222 : Ref sig .tc := ⟨.hbm, 271, rfl⟩
abbrev main_cst_27 : Ref sig .tc := ⟨.hbm, 272, rfl⟩
abbrev main_v223 : Ref sig .tc := ⟨.hbm, 273, rfl⟩
abbrev main_v224 : Ref sig .tc := ⟨.hbm, 274, rfl⟩
abbrev main_cst_28 : Ref sig .tc := ⟨.hbm, 275, rfl⟩
abbrev main_v225 : Ref sig .tc := ⟨.hbm, 276, rfl⟩
abbrev main_v226 : Ref sig .tc := ⟨.hbm, 277, rfl⟩
abbrev main_cst_29 : Ref sig .tc := ⟨.hbm, 278, rfl⟩
abbrev main_v227 : Ref sig .tc := ⟨.hbm, 279, rfl⟩
abbrev main_v228 : Ref sig .tc := ⟨.hbm, 280, rfl⟩
abbrev main_cst_30 : Ref sig .tc := ⟨.hbm, 281, rfl⟩
abbrev main_v229 : Ref sig .tc := ⟨.hbm, 282, rfl⟩
abbrev main_v230 : Ref sig .tc := ⟨.hbm, 283, rfl⟩
abbrev main_cst_31 : Ref sig .tc := ⟨.hbm, 284, rfl⟩
abbrev main_v231 : Ref sig .tc := ⟨.hbm, 285, rfl⟩
abbrev main_v232 : Ref sig .tc := ⟨.hbm, 286, rfl⟩
abbrev main_cst_32 : Ref sig .tc := ⟨.hbm, 287, rfl⟩
abbrev main_v233 : Ref sig .tc := ⟨.hbm, 288, rfl⟩
abbrev main_v234 : Ref sig .tc := ⟨.hbm, 289, rfl⟩
abbrev main_cst_33 : Ref sig .tc := ⟨.hbm, 290, rfl⟩
abbrev main_v235 : Ref sig .tc := ⟨.hbm, 291, rfl⟩
abbrev main_v236 : Ref sig .tc := ⟨.hbm, 292, rfl⟩
abbrev main_cst_34 : Ref sig .tc := ⟨.hbm, 293, rfl⟩
abbrev main_v237 : Ref sig .tc := ⟨.hbm, 294, rfl⟩
abbrev main_v238 : Ref sig .tc := ⟨.hbm, 295, rfl⟩
abbrev main_cst_35 : Ref sig .tc := ⟨.hbm, 296, rfl⟩
abbrev main_v239 : Ref sig .tc := ⟨.hbm, 297, rfl⟩
abbrev main_v240 : Ref sig .tc := ⟨.hbm, 298, rfl⟩
abbrev main_cst_36 : Ref sig .tc := ⟨.hbm, 299, rfl⟩
abbrev main_v241 : Ref sig .tc := ⟨.hbm, 300, rfl⟩
abbrev main_v242 : Ref sig .tc := ⟨.hbm, 301, rfl⟩
abbrev main_cst_37 : Ref sig .tc := ⟨.hbm, 302, rfl⟩
abbrev main_v243 : Ref sig .tc := ⟨.hbm, 303, rfl⟩
abbrev main_v244 : Ref sig .tc := ⟨.hbm, 304, rfl⟩
abbrev main_cst_38 : Ref sig .tc := ⟨.hbm, 305, rfl⟩
abbrev main_v245 : Ref sig .tc := ⟨.hbm, 306, rfl⟩
abbrev main_v246 : Ref sig .tc := ⟨.hbm, 307, rfl⟩
abbrev main_cst_39 : Ref sig .tc := ⟨.hbm, 308, rfl⟩
abbrev main_v247 : Ref sig .tc := ⟨.hbm, 309, rfl⟩
abbrev main_v248 : Ref sig .tc := ⟨.hbm, 310, rfl⟩
abbrev main_cst_40 : Ref sig .tc := ⟨.hbm, 311, rfl⟩
abbrev main_v249 : Ref sig .tc := ⟨.hbm, 312, rfl⟩
abbrev main_v250 : Ref sig .tc := ⟨.hbm, 313, rfl⟩
abbrev main_cst_41 : Ref sig .tc := ⟨.hbm, 314, rfl⟩
abbrev main_v251 : Ref sig .tc := ⟨.hbm, 315, rfl⟩
abbrev main_v252 : Ref sig .tc := ⟨.hbm, 316, rfl⟩
abbrev main_cst_42 : Ref sig .tc := ⟨.hbm, 317, rfl⟩
abbrev main_v253 : Ref sig .tc := ⟨.hbm, 318, rfl⟩
abbrev main_v254 : Ref sig .tc := ⟨.hbm, 319, rfl⟩
abbrev main_cst_43 : Ref sig .tc := ⟨.hbm, 320, rfl⟩
abbrev main_v255 : Ref sig .tc := ⟨.hbm, 321, rfl⟩
abbrev main_v256 : Ref sig .tc := ⟨.hbm, 322, rfl⟩
abbrev main_cst_44 : Ref sig .tc := ⟨.hbm, 323, rfl⟩
abbrev main_v257 : Ref sig .tc := ⟨.hbm, 324, rfl⟩
abbrev main_v258 : Ref sig .tc := ⟨.hbm, 325, rfl⟩
abbrev main_cst_45 : Ref sig .tc := ⟨.hbm, 326, rfl⟩
abbrev main_v259 : Ref sig .tc := ⟨.hbm, 327, rfl⟩
abbrev main_v260 : Ref sig .tc := ⟨.hbm, 328, rfl⟩
abbrev main_cst_46 : Ref sig .tc := ⟨.hbm, 329, rfl⟩
abbrev main_v261 : Ref sig .tc := ⟨.hbm, 330, rfl⟩
abbrev main_v262 : Ref sig .tc := ⟨.hbm, 331, rfl⟩
abbrev main_cst_47 : Ref sig .tc := ⟨.hbm, 332, rfl⟩
abbrev main_v263 : Ref sig .tc := ⟨.hbm, 333, rfl⟩
abbrev main_v264 : Ref sig .tc := ⟨.hbm, 334, rfl⟩
abbrev main_cst_48 : Ref sig .tc := ⟨.hbm, 335, rfl⟩
abbrev main_v265 : Ref sig .tc := ⟨.hbm, 336, rfl⟩
abbrev main_v266 : Ref sig .tc := ⟨.hbm, 337, rfl⟩
abbrev main_cst_49 : Ref sig .tc := ⟨.hbm, 338, rfl⟩
abbrev main_v267 : Ref sig .tc := ⟨.hbm, 339, rfl⟩
abbrev main_v268 : Ref sig .tc := ⟨.hbm, 340, rfl⟩
abbrev main_cst_50 : Ref sig .tc := ⟨.hbm, 341, rfl⟩
abbrev main_v269 : Ref sig .tc := ⟨.hbm, 342, rfl⟩
abbrev main_v270 : Ref sig .tc := ⟨.hbm, 343, rfl⟩
abbrev main_cst_51 : Ref sig .tc := ⟨.hbm, 344, rfl⟩
abbrev main_v271 : Ref sig .tc := ⟨.hbm, 345, rfl⟩
abbrev main_v272 : Ref sig .tc := ⟨.hbm, 346, rfl⟩
abbrev main_cst_52 : Ref sig .tc := ⟨.hbm, 347, rfl⟩
abbrev main_v273 : Ref sig .tc := ⟨.hbm, 348, rfl⟩
abbrev main_v274 : Ref sig .tc := ⟨.hbm, 349, rfl⟩
abbrev main_cst_53 : Ref sig .tc := ⟨.hbm, 350, rfl⟩
abbrev main_v275 : Ref sig .tc := ⟨.hbm, 351, rfl⟩
abbrev main_v276 : Ref sig .tc := ⟨.hbm, 352, rfl⟩
abbrev main_cst_54 : Ref sig .tc := ⟨.hbm, 353, rfl⟩
abbrev main_v277 : Ref sig .tc := ⟨.hbm, 354, rfl⟩
abbrev main_v278 : Ref sig .tc := ⟨.hbm, 355, rfl⟩
abbrev main_cst_55 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_v285 : Ref sig .tc := ⟨.hbm, 363, rfl⟩
abbrev main_cst_56 : Ref sig .tc := ⟨.hbm, 364, rfl⟩
abbrev main_v286 : Ref sig .tc := ⟨.hbm, 365, rfl⟩
abbrev main_cst_57 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩

abbrev nD : Nat := 1
abbrev τ : Topo := Topo.v7x

variable {F : FTy → Type} [FloatOps F]
-- ==== GradIn.lean ====
abbrev S8192x1024 : Shape := ⟨2, ![8192, 1024]⟩
abbrev S1024x5632 : Shape := ⟨2, ![1024, 5632]⟩
abbrev S8192x5632 : Shape := ⟨2, ![8192, 5632]⟩
abbrev S8x1024x704 : Shape := ⟨3, ![8, 1024, 704]⟩
abbrev S2048x1024 : Shape := ⟨2, ![2048, 1024]⟩
abbrev S2048x1408 : Shape := ⟨2, ![2048, 1408]⟩
abbrev S2x1024x704 : Shape := ⟨3, ![2, 1024, 704]⟩
abbrev S1024x1408 : Shape := ⟨2, ![1024, 1408]⟩
abbrev S1024x704 : Shape := ⟨2, ![1024, 704]⟩
abbrev S1x1024x704 : Shape := ⟨3, ![1, 1024, 704]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S8192x5632, .bf16⟩
  | .hbm, ⟨3, _⟩ => ⟨S8x1024x704, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2x1024x704, .bf16⟩
  | .local _ .vmem, ⟨5, _⟩ => ⟨S2x1024x704, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ReferenceGradInIdeal.lean ====
abbrev S8192x1024 : Shape := ⟨2, ![8192, 1024]⟩
abbrev S1024x5632 : Shape := ⟨2, ![1024, 5632]⟩
abbrev S8192x5632 : Shape := ⟨2, ![8192, 5632]⟩
abbrev S2x4096x1024 : Shape := ⟨3, ![2, 4096, 1024]⟩
abbrev S2x4096x5632 : Shape := ⟨3, ![2, 4096, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S8192x5632, .bf16⟩
  | .hbm, ⟨3, _⟩ => ⟨S8192x1024, .f32⟩
  | .hbm, ⟨4, _⟩ => ⟨S2x4096x1024, .f32⟩
  | .hbm, ⟨5, _⟩ => ⟨S2x4096x5632, .f32⟩
  | .hbm, ⟨6, _⟩ => ⟨S8192x5632, .f32⟩
  | .hbm, ⟨7, _⟩ => ⟨S2x4096x5632, .f32⟩
  | .hbm, ⟨8, _⟩ => ⟨S5632x1024, .f32⟩
  | .hbm, ⟨9, _⟩ => ⟨S1024x5632, .f32⟩
  | .hbm, ⟨10, _⟩ => ⟨S1024x8x704, .f32⟩
  | .hbm, ⟨11, _⟩ => ⟨S8x1024x704, .f32⟩
  | .hbm, ⟨12, _⟩ => ⟨S8x1024x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GradOut.lean ====
abbrev S8192x2816 : Shape := ⟨2, ![8192, 2816]⟩
abbrev S2816x1024 : Shape := ⟨2, ![2816, 1024]⟩
abbrev S8192x1024 : Shape := ⟨2, ![8192, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGradOutIdeal.lean ====
abbrev S8192x2816 : Shape := ⟨2, ![8192, 2816]⟩
abbrev S2816x1024 : Shape := ⟨2, ![2816, 1024]⟩
abbrev S8192x1024 : Shape := ⟨2, ![8192, 1024]⟩
abbrev S2x4096x2816 : Shape := ⟨3, ![2, 4096, 2816]⟩
abbrev S2x4096x1024 : Shape := ⟨3, ![2, 4096, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .bf16⟩
  | .hbm, ⟨3, _⟩ => ⟨S8192x2816, .f32⟩
  | .hbm, ⟨4, _⟩ => ⟨S2x4096x2816, .f32⟩
  | .hbm, ⟨5, _⟩ => ⟨S2x4096x1024, .f32⟩
  | .hbm, ⟨6, _⟩ => ⟨S8192x1024, .f32⟩
  | .hbm, ⟨7, _⟩ => ⟨S2x4096x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnUp.lean ====
abbrev S8192x1024 : Shape := ⟨2, ![8192, 1024]⟩
abbrev S2x1024 : Shape := ⟨2, ![2, 1024]⟩
abbrev S1024x5632 : Shape := ⟨2, ![1024, 5632]⟩
abbrev S2x1x1024 : Shape := ⟨3, ![2, 1, 1024]⟩
abbrev S8192x2816 : Shape := ⟨2, ![8192, 2816]⟩
abbrev S512x1024 : Shape := ⟨2, ![512, 1024]⟩
abbrev S1x1x1024 : Shape := ⟨3, ![1, 1, 1024]⟩
abbrev S512x2816 : Shape := ⟨2, ![512, 2816]⟩
abbrev S_ : Shape := ⟨0, ![]⟩
abbrev S1x1024 : Shape := ⟨2, ![1, 1024]⟩
abbrev S1024x1408 : Shape := ⟨2, ![1024, 1408]⟩
abbrev S512x1408 : Shape := ⟨2, ![512, 1408]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S2x1024, .f32⟩
  | .hbm, ⟨3, _⟩ => ⟨S1024x5632, .bf16⟩
  | .hbm, ⟨4, _⟩ => ⟨S2x1x1024, .f32⟩
  | .hbm, ⟨5, _⟩ => ⟨S2x1x1024, .f32⟩
  | .hbm, ⟨6, _⟩ => ⟨S8192x1024, .bf16⟩
  | .hbm, ⟨7, _⟩ => ⟨S8192x2816, .bf16⟩
  | .hbm, ⟨8, _⟩ => ⟨S8192x2816, .bf16⟩
  | .hbm, ⟨9, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S1024x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceFfnUpIdeal.lean ====
abbrev S8192x1024 : Shape := ⟨2, ![8192, 1024]⟩
abbrev S2x1024 : Shape := ⟨2, ![2, 1024]⟩
abbrev S1024x5632 : Shape := ⟨2, ![1024, 5632]⟩
abbrev S2x4096x1024 : Shape := ⟨3, ![2, 4096, 1024]⟩
abbrev S2x1x1024 : Shape := ⟨3, ![2, 1, 1024]⟩
abbrev S_ : Shape := ⟨0, ![]⟩
abbrev S2x4096x5632 : Shape := ⟨3, ![2, 4096, 5632]⟩
abbrev S2x4096x2816 : Shape := ⟨3, ![2, 4096, 2816]⟩
abbrev S8192x2816 : Shape := ⟨2, ![8192, 2816]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S2x1024, .f32⟩
  | .hbm, ⟨3, _⟩ => ⟨S1024x5632, .bf16⟩
  | .hbm, ⟨4, _⟩ => ⟨S2x4096x1024, .f32⟩
  | .hbm, ⟨5, _⟩ => ⟨S2x1x1024, .f32⟩
  | .hbm, ⟨6, _⟩ => ⟨S_, .f32⟩
  | .hbm, ⟨7, _⟩ => ⟨S2x1x1024, .f32⟩
  | .hbm, ⟨8, _⟩ => ⟨S2x1x1024, .f32⟩
  | .hbm, ⟨9, _⟩ => ⟨S2x4096x1024, .f32⟩
  | .hbm, ⟨10, _⟩ => ⟨S2x4096x1024, .f32⟩
  | .hbm, ⟨11, _⟩ => ⟨S2x1x1024, .f32⟩
  | .hbm, ⟨12, _⟩ => ⟨S2x4096x1024, .f32⟩
  | .hbm, ⟨13, _⟩ => ⟨S2x4096x1024, .f32⟩
  | .hbm, ⟨14, _⟩ => ⟨S1024x5632, .f32⟩
  | .hbm, ⟨15, _⟩ => ⟨S2x4096x5632, .f32⟩
  | .hbm, ⟨16, _⟩ => ⟨S2x4096x2816, .f32⟩
  | .hbm, ⟨17, _⟩ => ⟨S2x4096x2816, .f32⟩
  | .hbm, ⟨18, _⟩ => ⟨S2x4096x2816, .f32⟩
  | .hbm, ⟨19, _⟩ => ⟨S2x4096x2816, .f32⟩
  | .hbm, ⟨20, _⟩ => ⟨S_, .f32⟩
  | .hbm, ⟨21, _⟩ => ⟨S2x4096x2816, .f32⟩
  | .hbm, ⟨22, _⟩ => ⟨S2x4096x2816, .f32⟩
  | .hbm, ⟨23, _⟩ => ⟨S_, .f32⟩
  | .hbm, ⟨24, _⟩ => ⟨S2x4096x2816, .f32⟩
  | .hbm, ⟨25, _⟩ => ⟨S2x4096x2816, .f32⟩
  | .hbm, ⟨26, _⟩ => ⟨S2x4096x2816, .f32⟩
  | .hbm, ⟨27, _⟩ => ⟨S2x4096x2816, .f32⟩
  | .hbm, ⟨28, _⟩ => ⟨S8192x1024, .f32⟩
  | .hbm, ⟨29, _⟩ => ⟨S8192x1024, .bf16⟩
  | .hbm, ⟨30, _⟩ => ⟨S8192x2816, .f32⟩
  | .hbm, ⟨31, _⟩ => ⟨S8192x2816, .bf16⟩
  | .hbm, ⟨32, _⟩ => ⟨S8192x2816, .f32⟩
  | .hbm, ⟨33, _⟩ => ⟨S8192x2816, .bf16⟩
  | .hbm, ⟨34, _⟩ => ⟨S8192x2816, .f32⟩
  | .hbm, ⟨35, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x1024 : Shape := ⟨2, ![8192, 1024]⟩
abbrev S2x1024 : Shape := ⟨2, ![2, 1024]⟩
abbrev S1024 : Shape := ⟨1, ![1024]⟩
abbrev S2x1x1024 : Shape := ⟨3, ![2, 1, 1024]⟩
abbrev S1x1024 : Shape := ⟨2, ![1, 1024]⟩
abbrev S512x2816 : Shape := ⟨2, ![512, 2816]⟩
abbrev S512x1024 : Shape := ⟨2, ![512, 1024]⟩
abbrev S1x1x1024 : Shape := ⟨3, ![1, 1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S2x1x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceFfnDownIdeal.lean ====
abbrev S8192x2816 : Shape := ⟨2, ![8192, 2816]⟩
abbrev S2816x1024 : Shape := ⟨2, ![2816, 1024]⟩
abbrev S8192x1024 : Shape := ⟨2, ![8192, 1024]⟩
abbrev S2x1024 : Shape := ⟨2, ![2, 1024]⟩
abbrev S1024 : Shape := ⟨1, ![1024]⟩
abbrev S2x4096x2816 : Shape := ⟨3, ![2, 4096, 2816]⟩
abbrev S2x4096x1024 : Shape := ⟨3, ![2, 4096, 1024]⟩
abbrev S_ : Shape := ⟨0, ![]⟩
abbrev S2x1x1024 : Shape := ⟨3, ![2, 1, 1024]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S8192x2816, .f32⟩
  | .hbm, ⟨7, _⟩ => ⟨S2x4096x2816, .f32⟩
  | .hbm, ⟨8, _⟩ => ⟨S2816x1024, .f32⟩
  | .hbm, ⟨9, _⟩ => ⟨S2x4096x1024, .f32⟩
  | .hbm, ⟨10, _⟩ => ⟨S2x4096x1024, .f32⟩
  | .hbm, ⟨11, _⟩ => ⟨S_, .f32⟩
  | .hbm, ⟨12, _⟩ => ⟨S2x4096x1024, .f32⟩
  | .hbm, ⟨13, _⟩ => ⟨S2x4096x1024, .f32⟩
  | .hbm, ⟨14, _⟩ => ⟨S2x1x1024, .f32⟩
  | .hbm, ⟨15, _⟩ => ⟨S_, .f32⟩
  | .hbm, ⟨16, _⟩ => ⟨S2x1x1024, .f32⟩
  | .hbm, ⟨17, _⟩ => ⟨S2x1x1024, .f32⟩
  | .hbm, ⟨18, _⟩ => ⟨S_, .f32⟩
  | .hbm, ⟨19, _⟩ => ⟨S2x1x1024, .f32⟩
  | .hbm, ⟨20, _⟩ => ⟨S2x1x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S_, .f32⟩
  | .hbm, ⟨25, _⟩ => ⟨S2x4096, .f32⟩
  | .hbm, ⟨26, _⟩ => ⟨S2x4096x1, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S_, .f32⟩
  | .hbm, ⟨34, _⟩ => ⟨S2x4096, .f32⟩
  | .hbm, ⟨35, _⟩ => ⟨S2x4096x1, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S_, .f32⟩
  | .hbm, ⟨40, _⟩ => ⟨S2x4096x1, .f32⟩
  | .hbm, ⟨41, _⟩ => ⟨S2x4096x1, .f32⟩
  | .hbm, ⟨42, _⟩ => ⟨S2x4096x1, .f32⟩
  | .hbm, ⟨43, _⟩ => ⟨S2x4096x1024, .f32⟩
  | .hbm, ⟨44, _⟩ => ⟨S2x4096x1024, .f32⟩
  | .hbm, ⟨45, _⟩ => ⟨S1x1x1024, .f32⟩
  | .hbm, ⟨46, _⟩ => ⟨S2x4096x1024, .f32⟩
  | .hbm, ⟨47, _⟩ => ⟨S2x4096x1024, .f32⟩
  | .hbm, ⟨48, _⟩ => ⟨S1x1x1024, .f32⟩
  | .hbm, ⟨49, _⟩ => ⟨S2x4096x1024, .f32⟩
  | .hbm, ⟨50, _⟩ => ⟨S2x4096x1024, .f32⟩
  | .hbm, ⟨51, _⟩ => ⟨S8192x1024, .f32⟩
  | .hbm, ⟨52, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== GradSq.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGradSqIdeal.lean ====
abbrev S8192x1024 : Shape := ⟨2, ![8192, 1024]⟩
abbrev S1024x1024 : Shape := ⟨2, ![1024, 1024]⟩
abbrev S2x4096x1024 : Shape := ⟨3, ![2, 4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .bf16⟩
  | .hbm, ⟨3, _⟩ => ⟨S8192x1024, .f32⟩
  | .hbm, ⟨4, _⟩ => ⟨S2x4096x1024, .f32⟩
  | .hbm, ⟨5, _⟩ => ⟨S2x4096x1024, .f32⟩
  | .hbm, ⟨6, _⟩ => ⟨S8192x1024, .f32⟩
  | .hbm, ⟨7, _⟩ => ⟨S2x4096x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OddIn.lean ====
abbrev S8192x1024 : Shape := ⟨2, ![8192, 1024]⟩
abbrev S2x1024 : Shape := ⟨2, ![2, 1024]⟩
abbrev S1024x3072 : Shape := ⟨2, ![1024, 3072]⟩
abbrev S2x1x1024 : Shape := ⟨3, ![2, 1, 1024]⟩
abbrev S512x1024 : Shape := ⟨2, ![512, 1024]⟩
abbrev S1x1x1024 : Shape := ⟨3, ![1, 1, 1024]⟩
abbrev S1x1024 : Shape := ⟨2, ![1, 1024]⟩
abbrev S1024x1024 : Shape := ⟨2, ![1024, 1024]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S2x1024, .f32⟩
  | .hbm, ⟨3, _⟩ => ⟨S1024x3072, .bf16⟩
  | .hbm, ⟨4, _⟩ => ⟨S2x1x1024, .f32⟩
  | .hbm, ⟨5, _⟩ => ⟨S2x1x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceOddInIdeal.lean ====
abbrev S8192x1024 : Shape := ⟨2, ![8192, 1024]⟩
abbrev S2x1024 : Shape := ⟨2, ![2, 1024]⟩
abbrev S1024x3072 : Shape := ⟨2, ![1024, 3072]⟩
abbrev S2x4096x1024 : Shape := ⟨3, ![2, 4096, 1024]⟩
abbrev S2x1x1024 : Shape := ⟨3, ![2, 1, 1024]⟩
abbrev S_ : Shape := ⟨0, ![]⟩
abbrev S2x4096x3072 : Shape := ⟨3, ![2, 4096, 3072]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S2x1024, .f32⟩
  | .hbm, ⟨3, _⟩ => ⟨S1024x3072, .bf16⟩
  | .hbm, ⟨4, _⟩ => ⟨S2x4096x1024, .f32⟩
  | .hbm, ⟨5, _⟩ => ⟨S2x1x1024, .f32⟩
  | .hbm, ⟨6, _⟩ => ⟨S_, .f32⟩
  | .hbm, ⟨7, _⟩ => ⟨S2x1x1024, .f32⟩
  | .hbm, ⟨8, _⟩ => ⟨S2x1x1024, .f32⟩
  | .hbm, ⟨9, _⟩ => ⟨S2x4096x1024, .f32⟩
  | .hbm, ⟨10, _⟩ => ⟨S2x4096x1024, .f32⟩
  | .hbm, ⟨11, _⟩ => ⟨S2x1x1024, .f32⟩
  | .hbm, ⟨12, _⟩ => ⟨S2x4096x1024, .f32⟩
  | .hbm, ⟨13, _⟩ => ⟨S2x4096x1024, .f32⟩
  | .hbm, ⟨14, _⟩ => ⟨S1024x3072, .f32⟩
  | .hbm, ⟨15, _⟩ => ⟨S2x4096x3072, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S8192x1024, .f32⟩
  | .hbm, ⟨23, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== OddInBwd.lean ====
abbrev S8192x1024 : Shape := ⟨2, ![8192, 1024]⟩
abbrev S1024x3072 : Shape := ⟨2, ![1024, 3072]⟩
abbrev S2x1024 : Shape := ⟨2, ![2, 1024]⟩
abbrev S2x1x1024 : Shape := ⟨3, ![2, 1, 1024]⟩
abbrev S512x1024 : Shape := ⟨2, ![512, 1024]⟩
abbrev S1x1x1024 : Shape := ⟨3, ![1, 1, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S1024x3072, .bf16⟩
  | .hbm, ⟨4, _⟩ => ⟨S8192x1024, .f32⟩
  | .hbm, ⟨5, _⟩ => ⟨S2x1024, .f32⟩
  | .hbm, ⟨6, _⟩ => ⟨S8192x1024, .f32⟩
  | .hbm, ⟨7, _⟩ => ⟨S2x1x1024, .f32⟩
  | .hbm, ⟨8, _⟩ => ⟨S8192x1024, .f32⟩
  | .hbm, ⟨9, _⟩ => ⟨S2x1x1024, .f32⟩
  | .hbm, ⟨10, _⟩ => ⟨S2x1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x3072, .bf16⟩
  | .local _ .vmem, ⟨7, _⟩ => ⟨S512x1024, .f32⟩
  | .local _ .vmem, ⟨8, _⟩ => ⟨S512x1024, .f32⟩
  | .local _ .vmem, ⟨9, _⟩ => ⟨S1x1x1024, .f32⟩
  | .local _ .vmem, ⟨10, _⟩ => ⟨S1x1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceOddInBwdIdeal.lean ====
abbrev S8192x1024 : Shape := ⟨2, ![8192, 1024]⟩
abbrev S1024x3072 : Shape := ⟨2, ![1024, 3072]⟩
abbrev S2x1024 : Shape := ⟨2, ![2, 1024]⟩
abbrev S_ : Shape := ⟨0, ![]⟩
abbrev S2x4096x1024 : Shape := ⟨3, ![2, 4096, 1024]⟩
abbrev S2x1x1024 : Shape := ⟨3, ![2, 1, 1024]⟩
abbrev S2x4096x3072 : Shape := ⟨3, ![2, 4096, 3072]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S1024x3072, .bf16⟩
  | .hbm, ⟨4, _⟩ => ⟨S8192x1024, .f32⟩
  | .hbm, ⟨5, _⟩ => ⟨S2x1024, .f32⟩
  | .hbm, ⟨6, _⟩ => ⟨S8192x1024, .f32⟩
  | .hbm, ⟨7, _⟩ => ⟨S_, .f32⟩
  | .hbm, ⟨8, _⟩ => ⟨S2x1024, .f32⟩
  | .hbm, ⟨9, _⟩ => ⟨S2x4096x1024, .f32⟩
  | .hbm, ⟨10, _⟩ => ⟨S2x1x1024, .f32⟩
  | .hbm, ⟨11, _⟩ => ⟨S_, .f32⟩
  | .hbm, ⟨12, _⟩ => ⟨S2x1x1024, .f32⟩
  | .hbm, ⟨13, _⟩ => ⟨S2x1x1024, .f32⟩
  | .hbm, ⟨14, _⟩ => ⟨S2x4096x1024, .f32⟩
  | .hbm, ⟨15, _⟩ => ⟨S2x4096x1024, .f32⟩
  | .hbm, ⟨16, _⟩ => ⟨S2x1x1024, .f32⟩
  | .hbm, ⟨17, _⟩ => ⟨S2x4096x1024, .f32⟩
  | .hbm, ⟨18, _⟩ => ⟨S2x4096x1024, .f32⟩
  | .hbm, ⟨19, _⟩ => ⟨S1024x3072, .f32⟩
  | .hbm, ⟨20, _⟩ => ⟨S2x4096x3072, .f32⟩
  | .hbm, ⟨21, _⟩ => ⟨S8192x1024, .f32⟩
  | .hbm, ⟨22, _⟩ => ⟨S2x4096x1024, .f32⟩
  | .hbm, ⟨23, _⟩ => ⟨S8192x1024, .f32⟩
  | .hbm, ⟨24, _⟩ => ⟨S2x4096x1024, .f32⟩
  | .hbm, ⟨25, _⟩ => ⟨S8192x1024, .f32⟩
  | .hbm, ⟨26, _⟩ => ⟨S2x4096x1024, .f32⟩
  | .hbm, ⟨27, _⟩ => ⟨S2x4096x3072, .f32⟩
  | .hbm, ⟨28, _⟩ => ⟨S2x4096x1024, .f32⟩
  | .hbm, ⟨29, _⟩ => ⟨S_, .f32⟩
  | .hbm, ⟨30, _⟩ => ⟨S2x1024, .f32⟩
  | .hbm, ⟨31, _⟩ => ⟨S2x1x1024, .f32⟩
  | .hbm, ⟨32, _⟩ => ⟨S_, .f32⟩
  | .hbm, ⟨33, _⟩ => ⟨S2x1024, .f32⟩
  | .hbm, ⟨34, _⟩ => ⟨S2x4096x1024, .f32⟩
  | .hbm, ⟨35, _⟩ => ⟨S_, .f32⟩
  | .hbm, ⟨36, _⟩ => ⟨S2x1024, .f32⟩
  | .hbm, ⟨37, _⟩ => ⟨S2x1x1024, .f32⟩
  | .hbm, ⟨38, _⟩ => ⟨S2x4096x1024, .f32⟩
  | .hbm, ⟨39, _⟩ => ⟨S2x4096x1024, .f32⟩
  | .hbm, ⟨40, _⟩ => ⟨S_, .f32⟩
  | .hbm, ⟨41, _⟩ => ⟨S2x1024, .f32⟩
  | .hbm, ⟨42, _⟩ => ⟨S8192x1024, .f32⟩
  | .hbm, ⟨43, _⟩ => ⟨S8192x1024, .f32⟩
  | .hbm, ⟨44, _⟩ => ⟨S2x1x1024, .f32⟩
  | .hbm, ⟨45, _⟩ => ⟨S2x1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== FfnUpBwd.lean ====
abbrev S8192x1024 : Shape := ⟨2, ![8192, 1024]⟩
abbrev S2x1024 : Shape := ⟨2, ![2, 1024]⟩
abbrev S1024x5632 : Shape := ⟨2, ![1024, 5632]⟩
abbrev S8192x2816 : Shape := ⟨2, ![8192, 2816]⟩
abbrev S2x4096x1024 : Shape := ⟨3, ![2, 4096, 1024]⟩
abbrev S2x1x1024 : Shape := ⟨3, ![2, 1, 1024]⟩
abbrev S_ : Shape := ⟨0, ![]⟩
abbrev S2x4096x5632 : Shape := ⟨3, ![2, 4096, 5632]⟩
abbrev S2x4096x2816 : Shape := ⟨3, ![2, 4096, 2816]⟩
abbrev S8192x5632 : Shape := ⟨2, ![8192, 5632]⟩
abbrev S256x2816 : Shape := ⟨2, ![256, 2816]⟩
abbrev S256x1024 : Shape := ⟨2, ![256, 1024]⟩
abbrev S1x1x1024 : Shape := ⟨3, ![1, 1, 1024]⟩
abbrev S256x5632 : Shape := ⟨2, ![256, 5632]⟩
abbrev S256x1408 : Shape := ⟨2, ![256, 1408]⟩
abbrev S1024x1408 : Shape := ⟨2, ![1024, 1408]⟩
abbrev S1x1024 : Shape := ⟨2, ![1, 1024]⟩
abbrev S1024 : Shape := ⟨1, ![1024]⟩

abbrev nBuf : Space → Nat
  | .hbm => 29
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S2x1024, .f32⟩
  | .hbm, ⟨3, _⟩ => ⟨S1024x5632, .bf16⟩
  | .hbm, ⟨4, _⟩ => ⟨S8192x2816, .bf16⟩
  | .hbm, ⟨5, _⟩ => ⟨S8192x1024, .f32⟩
  | .hbm, ⟨6, _⟩ => ⟨S2x4096x1024, .f32⟩
  | .hbm, ⟨7, _⟩ => ⟨S2x1x1024, .f32⟩
  | .hbm, ⟨8, _⟩ => ⟨S_, .f32⟩
  | .hbm, ⟨9, _⟩ => ⟨S2x1x1024, .f32⟩
  | .hbm, ⟨10, _⟩ => ⟨S2x1x1024, .f32⟩
  | .hbm, ⟨11, _⟩ => ⟨S2x4096x1024, .f32⟩
  | .hbm, ⟨12, _⟩ => ⟨S2x4096x1024, .f32⟩
  | .hbm, ⟨13, _⟩ => ⟨S2x1x1024, .f32⟩
  | .hbm, ⟨14, _⟩ => ⟨S2x4096x1024, .f32⟩
  | .hbm, ⟨15, _⟩ => ⟨S2x4096x1024, .f32⟩
  | .hbm, ⟨16, _⟩ => ⟨S1024x5632, .f32⟩
  | .hbm, ⟨17, _⟩ => ⟨S2x4096x5632, .f32⟩
  | .hbm, ⟨18, _⟩ => ⟨S2x4096x2816, .f32⟩
  | .hbm, ⟨19, _⟩ => ⟨S2x4096x2816, .f32⟩
  | .hbm, ⟨20, _⟩ => ⟨S8192x2816, .f32⟩
  | .hbm, ⟨21, _⟩ => ⟨S8192x2816, .bf16⟩
  | .hbm, ⟨22, _⟩ => ⟨S8192x2816, .f32⟩
  | .hbm, ⟨23, _⟩ => ⟨S8192x2816, .bf16⟩
  | .hbm, ⟨24, _⟩ => ⟨S2x1x1024, .f32⟩
  | .hbm, ⟨25, _⟩ => ⟨S8192x5632, .bf16⟩
  | .hbm, ⟨26, _⟩ => ⟨S8192x1024, .f32⟩
  | .hbm, ⟨27, _⟩ => ⟨S2x1x1024, .f32⟩
  | .hbm, ⟨28, _⟩ => ⟨S2x1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .f32⟩
  | .local _ .vmem, ⟨7, _⟩ => ⟨S256x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S256x5632, .bf16⟩
  | .local _ .vmem, ⟨13, _⟩ => ⟨S256x5632, .bf16⟩
  | .local _ .vmem, ⟨14, _⟩ => ⟨S256x1024, .f32⟩
  | .local _ .vmem, ⟨15, _⟩ => ⟨S256x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1024x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFfnUpBwdIdeal.lean ====
abbrev S8192x1024 : Shape := ⟨2, ![8192, 1024]⟩
abbrev S2x1024 : Shape := ⟨2, ![2, 1024]⟩
abbrev S1024x5632 : Shape := ⟨2, ![1024, 5632]⟩
abbrev S8192x2816 : Shape := ⟨2, ![8192, 2816]⟩
abbrev S2x4096x1024 : Shape := ⟨3, ![2, 4096, 1024]⟩
abbrev S2x1x1024 : Shape := ⟨3, ![2, 1, 1024]⟩
abbrev S_ : Shape := ⟨0, ![]⟩
abbrev S2x4096x5632 : Shape := ⟨3, ![2, 4096, 5632]⟩
abbrev S2x4096x2816 : Shape := ⟨3, ![2, 4096, 2816]⟩
abbrev S8192x5632 : Shape := ⟨2, ![8192, 5632]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S2x1024, .f32⟩
  | .hbm, ⟨3, _⟩ => ⟨S1024x5632, .bf16⟩
  | .hbm, ⟨4, _⟩ => ⟨S8192x2816, .bf16⟩
  | .hbm, ⟨5, _⟩ => ⟨S8192x1024, .f32⟩
  | .hbm, ⟨6, _⟩ => ⟨S2x4096x1024, .f32⟩
  | .hbm, ⟨7, _⟩ => ⟨S2x1x1024, .f32⟩
  | .hbm, ⟨8, _⟩ => ⟨S_, .f32⟩
  | .hbm, ⟨9, _⟩ => ⟨S2x1x1024, .f32⟩
  | .hbm, ⟨10, _⟩ => ⟨S2x1x1024, .f32⟩
  | .hbm, ⟨11, _⟩ => ⟨S2x4096x1024, .f32⟩
  | .hbm, ⟨12, _⟩ => ⟨S2x4096x1024, .f32⟩
  | .hbm, ⟨13, _⟩ => ⟨S2x1x1024, .f32⟩
  | .hbm, ⟨14, _⟩ => ⟨S2x4096x1024, .f32⟩
  | .hbm, ⟨15, _⟩ => ⟨S2x4096x1024, .f32⟩
  | .hbm, ⟨16, _⟩ => ⟨S1024x5632, .f32⟩
  | .hbm, ⟨17, _⟩ => ⟨S2x4096x5632, .f32⟩
  | .hbm, ⟨18, _⟩ => ⟨S2x4096x2816, .f32⟩
  | .hbm, ⟨19, _⟩ => ⟨S2x4096x2816, .f32⟩
  | .hbm, ⟨20, _⟩ => ⟨S2x4096x2816, .f32⟩
  | .hbm, ⟨21, _⟩ => ⟨S2x4096x2816, .f32⟩
  | .hbm, ⟨22, _⟩ => ⟨S_, .f32⟩
  | .hbm, ⟨23, _⟩ => ⟨S2x4096x2816, .f32⟩
  | .hbm, ⟨24, _⟩ => ⟨S2x4096x2816, .f32⟩
  | .hbm, ⟨25, _⟩ => ⟨S_, .f32⟩
  | .hbm, ⟨26, _⟩ => ⟨S2x4096x2816, .f32⟩
  | .hbm, ⟨27, _⟩ => ⟨S2x4096x2816, .f32⟩
  | .hbm, ⟨28, _⟩ => ⟨S_, .f32⟩
  | .hbm, ⟨29, _⟩ => ⟨S2x4096x2816, .f32⟩
  | .hbm, ⟨30, _⟩ => ⟨S2x4096x2816, .f32⟩
  | .hbm, ⟨31, _⟩ => ⟨S2x4096x2816, .f32⟩
  | .hbm, ⟨32, _⟩ => ⟨S2x4096x2816, .f32⟩
  | .hbm, ⟨33, _⟩ => ⟨S2x4096x2816, .f32⟩
  | .hbm, ⟨34, _⟩ => ⟨S8192x2816, .f32⟩
  | .hbm, ⟨35, _⟩ => ⟨S2x4096x2816, .f32⟩
  | .hbm, ⟨36, _⟩ => ⟨S2x4096x2816, .f32⟩
  | .hbm, ⟨37, _⟩ => ⟨S2x4096x2816, .f32⟩
  | .hbm, ⟨38, _⟩ => ⟨S2x4096x2816, .f32⟩
  | .hbm, ⟨39, _⟩ => ⟨S2x4096x2816, .f32⟩
  | .hbm, ⟨40, _⟩ => ⟨S2x4096x2816, .f32⟩
  | .hbm, ⟨41, _⟩ => ⟨S2x4096x2816, .f32⟩
  | .hbm, ⟨42, _⟩ => ⟨S2x4096x5632, .f32⟩
  | .hbm, ⟨43, _⟩ => ⟨S2x4096x1024, .f32⟩
  | .hbm, ⟨44, _⟩ => ⟨S_, .f32⟩
  | .hbm, ⟨45, _⟩ => ⟨S2x1024, .f32⟩
  | .hbm, ⟨46, _⟩ => ⟨S2x1x1024, .f32⟩
  | .hbm, ⟨47, _⟩ => ⟨S_, .f32⟩
  | .hbm, ⟨48, _⟩ => ⟨S2x1024, .f32⟩
  | .hbm, ⟨49, _⟩ => ⟨S2x4096x1024, .f32⟩
  | .hbm, ⟨50, _⟩ => ⟨S_, .f32⟩
  | .hbm, ⟨51, _⟩ => ⟨S2x1024, .f32⟩
  | .hbm, ⟨52, _⟩ => ⟨S2x1x1024, .f32⟩
  | .hbm, ⟨53, _⟩ => ⟨S2x4096x1024, .f32⟩
  | .hbm, ⟨54, _⟩ => ⟨S2x4096x1024, .f32⟩
  | .hbm, ⟨55, _⟩ => ⟨S_, .f32⟩
  | .hbm, ⟨56, _⟩ => ⟨S2x1024, .f32⟩
  | .hbm, ⟨57, _⟩ => ⟨S8192x1024, .f32⟩
  | .hbm, ⟨58, _⟩ => ⟨S8192x5632, .f32⟩
  | .hbm, ⟨59, _⟩ => ⟨S8192x5632, .bf16⟩
  | .hbm, ⟨60, _⟩ => ⟨S8192x1024, .f32⟩
  | .hbm, ⟨61, _⟩ => ⟨S2x1x1024, .f32⟩
  | .hbm, ⟨62, _⟩ => ⟨S2x1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v13_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v13_1 : Ref sig .tc := ⟨.hbm, 31, rfl⟩
abbrev main_v13_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_0 : Ref sig .tc := ⟨.hbm, 44, rfl⟩
abbrev main_v22 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩

abbrev nD : Nat := 1
abbrev τ : Topo := Topo.v7x

variable {F : FTy → Type} [FloatOps F]
-- ==== FfnDownBwd.lean ====
abbrev S8192x1024 : Shape := ⟨2, ![8192, 1024]⟩
abbrev S8192x2816 : Shape := ⟨2, ![8192, 2816]⟩
abbrev S2816x1024 : Shape := ⟨2, ![2816, 1024]⟩
abbrev S2x1024 : Shape := ⟨2, ![2, 1024]⟩
abbrev S1024 : Shape := ⟨1, ![1024]⟩
abbrev S2x4096x2816 : Shape := ⟨3, ![2, 4096, 2816]⟩
abbrev S2x4096x1024 : Shape := ⟨3, ![2, 4096, 1024]⟩
abbrev S2x1x1024 : Shape := ⟨3, ![2, 1, 1024]⟩
abbrev S1x1024 : Shape := ⟨2, ![1, 1024]⟩
abbrev S512x1024 : Shape := ⟨2, ![512, 1024]⟩
abbrev S1x1x1024 : Shape := ⟨3, ![1, 1, 1024]⟩
abbrev S512x2816 : Shape := ⟨2, ![512, 2816]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 21
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .bf16⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S8192x2816, .f32⟩
  | .hbm, ⟨8, _⟩ => ⟨S2x4096x2816, .f32⟩
  | .hbm, ⟨9, _⟩ => ⟨S2816x1024, .f32⟩
  | .hbm, ⟨10, _⟩ => ⟨S2x4096x1024, .f32⟩
  | .hbm, ⟨11, _⟩ => ⟨S8192x1024, .f32⟩
  | .hbm, ⟨12, _⟩ => ⟨S2x1x1024, .f32⟩
  | .hbm, ⟨13, _⟩ => ⟨S1x1024, .f32⟩
  | .hbm, ⟨14, _⟩ => ⟨S1x1024, .f32⟩
  | .hbm, ⟨15, _⟩ => ⟨S8192x1024, .f32⟩
  | .hbm, ⟨16, _⟩ => ⟨S8192x1024, .bf16⟩
  | .hbm, ⟨17, _⟩ => ⟨S8192x2816, .bf16⟩
  | .hbm, ⟨18, _⟩ => ⟨S2x1x1024, .f32⟩
  | .hbm, ⟨19, _⟩ => ⟨S1x1024, .f32⟩
  | .hbm, ⟨20, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x2816, .bf16⟩
  | .local _ .vmem, ⟨16, _⟩ => ⟨S512x2816, .bf16⟩
  | .local _ .vmem, ⟨17, _⟩ => ⟨S1x1x1024, .f32⟩
  | .local _ .vmem, ⟨18, _⟩ => ⟨S1x1x1024, .f32⟩
  | .local _ .vmem, ⟨19, _⟩ => ⟨S1x1024, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceFfnDownBwdIdeal.lean ====
abbrev S8192x1024 : Shape := ⟨2, ![8192, 1024]⟩
abbrev S8192x2816 : Shape := ⟨2, ![8192, 2816]⟩
abbrev S2816x1024 : Shape := ⟨2, ![2816, 1024]⟩
abbrev S2x1024 : Shape := ⟨2, ![2, 1024]⟩
abbrev S1024 : Shape := ⟨1, ![1024]⟩
abbrev S2x4096x2816 : Shape := ⟨3, ![2, 4096, 2816]⟩
abbrev S2x4096x1024 : Shape := ⟨3, ![2, 4096, 1024]⟩
abbrev S_ : Shape := ⟨0, ![]⟩
abbrev S2x1x1024 : Shape := ⟨3, ![2, 1, 1024]⟩
abbrev S2x4096 : Shape := ⟨2, ![2, 4096]⟩
abbrev S2x4096x1 : Shape := ⟨3, ![2, 4096, 1]⟩
abbrev S1x1x1024 : Shape := ⟨3, ![1, 1, 1024]⟩
abbrev S1x1024 : Shape := ⟨2, ![1, 1024]⟩

abbrev nBuf : Space → Nat
  | .hbm => 121
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .bf16⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S8192x2816, .f32⟩
  | .hbm, ⟨8, _⟩ => ⟨S2x4096x2816, .f32⟩
  | .hbm, ⟨9, _⟩ => ⟨S2816x1024, .f32⟩
  | .hbm, ⟨10, _⟩ => ⟨S2x4096x1024, .f32⟩
  | .hbm, ⟨11, _⟩ => ⟨S2x4096x1024, .f32⟩
  | .hbm, ⟨12, _⟩ => ⟨S_, .f32⟩
  | .hbm, ⟨13, _⟩ => ⟨S2x4096x1024, .f32⟩
  | .hbm, ⟨14, _⟩ => ⟨S2x4096x1024, .f32⟩
  | .hbm, ⟨15, _⟩ => ⟨S2x1x1024, .f32⟩
  | .hbm, ⟨16, _⟩ => ⟨S_, .f32⟩
  | .hbm, ⟨17, _⟩ => ⟨S2x1x1024, .f32⟩
  | .hbm, ⟨18, _⟩ => ⟨S2x1x1024, .f32⟩
  | .hbm, ⟨19, _⟩ => ⟨S_, .f32⟩
  | .hbm, ⟨20, _⟩ => ⟨S2x1x1024, .f32⟩
  | .hbm, ⟨21, _⟩ => ⟨S2x1x1024, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S_, .f32⟩
  | .hbm, ⟨26, _⟩ => ⟨S2x4096, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S_, .f32⟩
  | .hbm, ⟨35, _⟩ => ⟨S2x4096, .f32⟩
  | .hbm, ⟨36, _⟩ => ⟨S2x4096x1, .f32⟩
  | .hbm, ⟨37, _⟩ => ⟨S_, .f32⟩
  | .hbm, ⟨38, _⟩ => ⟨S2x4096x1, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S2x4096x1, .f32⟩
  | .hbm, ⟨44, _⟩ => ⟨S2x4096x1, .f32⟩
  | .hbm, ⟨45, _⟩ => ⟨S_, .f32⟩
  | .hbm, ⟨46, _⟩ => ⟨S2x4096x1, .f32⟩
  | .hbm, ⟨47, _⟩ => ⟨S2x4096x1, .f32⟩
  | .hbm, ⟨48, _⟩ => ⟨S2x4096x1024, .f32⟩
  | .hbm, ⟨49, _⟩ => ⟨S2x4096x1024, .f32⟩
  | .hbm, ⟨50, _⟩ => ⟨S1x1x1024, .f32⟩
  | .hbm, ⟨51, _⟩ => ⟨S2x4096x1024, .f32⟩
  | .hbm, ⟨52, _⟩ => ⟨S2x4096x1024, .f32⟩
  | .hbm, ⟨53, _⟩ => ⟨S1x1x1024, .f32⟩
  | .hbm, ⟨54, _⟩ => ⟨S2x4096x1024, .f32⟩
  | .hbm, ⟨55, _⟩ => ⟨S2x4096x1024, .f32⟩
  | .hbm, ⟨56, _⟩ => ⟨S2x4096x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S_, .f32⟩
  | .hbm, ⟨61, _⟩ => ⟨S1024, .f32⟩
  | .hbm, ⟨62, _⟩ => ⟨S2x4096x1024, .f32⟩
  | .hbm, ⟨63, _⟩ => ⟨S_, .f32⟩
  | .hbm, ⟨64, _⟩ => ⟨S1024, .f32⟩
  | .hbm, ⟨65, _⟩ => ⟨S1x1x1024, .f32⟩
  | .hbm, ⟨66, _⟩ => ⟨S2x4096x1024, .f32⟩
  | .hbm, ⟨67, _⟩ => ⟨S2x4096x1024, .f32⟩
  | .hbm, ⟨68, _⟩ => ⟨S_, .f32⟩
  | .hbm, ⟨69, _⟩ => ⟨S1024, .f32⟩
  | .hbm, ⟨70, _⟩ => ⟨S2x4096x1024, .f32⟩
  | .hbm, ⟨71, _⟩ => ⟨S_, .f32⟩
  | .hbm, ⟨72, _⟩ => ⟨S2x4096, .f32⟩
  | .hbm, ⟨73, _⟩ => ⟨S2x4096x1, .f32⟩
  | .hbm, ⟨74, _⟩ => ⟨S2x4096x1024, .f32⟩
  | .hbm, ⟨75, _⟩ => ⟨S2x4096x1024, .f32⟩
  | .hbm, ⟨76, _⟩ => ⟨S2x4096x1, .f32⟩
  | .hbm, ⟨77, _⟩ => ⟨S_, .f32⟩
  | .hbm, ⟨78, _⟩ => ⟨S2x4096x1, .f32⟩
  | .hbm, ⟨79, _⟩ => ⟨S2x4096x1, .f32⟩
  | .hbm, ⟨80, _⟩ => ⟨S_, .f32⟩
  | .hbm, ⟨81, _⟩ => ⟨S2x4096, .f32⟩
  | .hbm, ⟨82, _⟩ => ⟨S2x4096x1024, .f32⟩
  | .hbm, ⟨83, _⟩ => ⟨S2x4096x1024, .f32⟩
  | .hbm, ⟨84, _⟩ => ⟨S2x4096x1024, .f32⟩
  | .hbm, ⟨85, _⟩ => ⟨S2x4096x1024, .f32⟩
  | .hbm, ⟨86, _⟩ => ⟨S2x4096x1024, .f32⟩
  | .hbm, ⟨87, _⟩ => ⟨S2x4096x1024, .f32⟩
  | .hbm, ⟨88, _⟩ => ⟨S_, .f32⟩
  | .hbm, ⟨89, _⟩ => ⟨S2x4096, .f32⟩
  | .hbm, ⟨90, _⟩ => ⟨S2x4096x1, .f32⟩
  | .hbm, ⟨91, _⟩ => ⟨S_, .f32⟩
  | .hbm, ⟨92, _⟩ => ⟨S2x4096x1, .f32⟩
  | .hbm, ⟨93, _⟩ => ⟨S2x4096x1, .f32⟩
  | .hbm, ⟨94, _⟩ => ⟨S_, .f32⟩
  | .hbm, ⟨95, _⟩ => ⟨S2x4096, .f32⟩
  | .hbm, ⟨96, _⟩ => ⟨S2x4096x1024, .f32⟩
  | .hbm, ⟨97, _⟩ => ⟨S2x4096x1024, .f32⟩
  | .hbm, ⟨98, _⟩ => ⟨S2x4096x1024, .f32⟩
  | .hbm, ⟨99, _⟩ => ⟨S2x4096x1024, .f32⟩
  | .hbm, ⟨100, _⟩ => ⟨S2x4096x1024, .f32⟩
  | .hbm, ⟨101, _⟩ => ⟨S_, .f32⟩
  | .hbm, ⟨102, _⟩ => ⟨S2x1024, .f32⟩
  | .hbm, ⟨103, _⟩ => ⟨S2x1x1024, .f32⟩
  | .hbm, ⟨104, _⟩ => ⟨S_, .f32⟩
  | .hbm, ⟨105, _⟩ => ⟨S2x1x1024, .f32⟩
  | .hbm, ⟨106, _⟩ => ⟨S2x1x1024, .f32⟩
  | .hbm, ⟨107, _⟩ => ⟨S_, .f32⟩
  | .hbm, ⟨108, _⟩ => ⟨S2x1024, .f32⟩
  | .hbm, ⟨109, _⟩ => ⟨S_, .f32⟩
  | .hbm, ⟨110, _⟩ => ⟨S2x4096x1024, .f32⟩
  | .hbm, ⟨111, _⟩ => ⟨S2x4096x1024, .f32⟩
  | .hbm, ⟨112, _⟩ => ⟨S2x4096x2816, .f32⟩
  | .hbm, ⟨113, _⟩ => ⟨S8192x1024, .f32⟩
  | .hbm, ⟨114, _⟩ => ⟨S8192x1024, .f32⟩
  | .hbm, ⟨115, _⟩ => ⟨S8192x1024, .bf16⟩
  | .hbm, ⟨116, _⟩ => ⟨S8192x2816, .f32⟩
  | .hbm, ⟨117, _⟩ => ⟨S8192x2816, .bf16⟩
  | .hbm, ⟨118, _⟩ => ⟨S2x1x1024, .f32⟩
  | .hbm, ⟨119, _⟩ => ⟨S1x1024, .f32⟩
  | .hbm, ⟨120, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_cst_16 : Ref sig .tc := ⟨.hbm, 91, rfl⟩
abbrev main_v67 : Ref sig .tc := ⟨.hbm, 92, rfl⟩
abbrev main_v68 : Ref sig .tc := ⟨.hbm, 93, rfl⟩
abbrev main_cst_17 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_18 : Ref sig .tc := ⟨.hbm, 101, rfl⟩
abbrev main_v75 : Ref sig .tc := ⟨.hbm, 102, rfl⟩
abbrev main_v76 : Ref sig .tc := ⟨.hbm, 103, rfl⟩
abbrev main_cst_19 : Ref sig .tc := ⟨.hbm, 104, rfl⟩
abbrev main_v77 : Ref sig .tc := ⟨.hbm, 105, rfl⟩
abbrev main_v78 : Ref sig .tc := ⟨.hbm, 106, rfl⟩
abbrev main_cst_20 : Ref sig .tc := ⟨.hbm, 107, rfl⟩
abbrev main_v79 : Ref sig .tc := ⟨.hbm, 108, rfl⟩
abbrev main_cst_21 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]
-- ==== EvIn.lean ====
abbrev S8192x1024 : Shape := ⟨2, ![8192, 1024]⟩
abbrev S2x1024 : Shape := ⟨2, ![2, 1024]⟩
abbrev S1024x3200 : Shape := ⟨2, ![1024, 3200]⟩
abbrev S2x1x1024 : Shape := ⟨3, ![2, 1, 1024]⟩
abbrev S8192x1536 : Shape := ⟨2, ![8192, 1536]⟩
abbrev S8192x512 : Shape := ⟨2, ![8192, 512]⟩
abbrev S8192x128 : Shape := ⟨2, ![8192, 128]⟩
abbrev S512x1024 : Shape := ⟨2, ![512, 1024]⟩
abbrev S1x1x1024 : Shape := ⟨3, ![1, 1, 1024]⟩
abbrev S512x1536 : Shape := ⟨2, ![512, 1536]⟩
abbrev S512x512 : Shape := ⟨2, ![512, 512]⟩
abbrev S512x128 : Shape := ⟨2, ![512, 128]⟩
abbrev S1x1024 : Shape := ⟨2, ![1, 1024]⟩
abbrev S1024x1024 : Shape := ⟨2, ![1024, 1024]⟩
abbrev S1024x1536 : Shape := ⟨2, ![1024, 1536]⟩
abbrev S1024x512 : Shape := ⟨2, ![1024, 512]⟩
abbrev S1024x128 : Shape := ⟨2, ![1024, 128]⟩

abbrev nBuf : Space → Nat
  | .hbm => 11
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S2x1024, .f32⟩
  | .hbm, ⟨3, _⟩ => ⟨S1024x3200, .bf16⟩
  | .hbm, ⟨4, _⟩ => ⟨S2x1x1024, .f32⟩
  | .hbm, ⟨5, _⟩ => ⟨S2x1x1024, .f32⟩
  | .hbm, ⟨6, _⟩ => ⟨S8192x1024, .bf16⟩
  | .hbm, ⟨7, _⟩ => ⟨S8192x1024, .f32⟩
  | .hbm, ⟨8, _⟩ => ⟨S8192x1536, .f32⟩
  | .hbm, ⟨9, _⟩ => ⟨S8192x512, .f32⟩
  | .hbm, ⟨10, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3200, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1536, .f32⟩
  | .local _ .vmem, ⟨12, _⟩ => ⟨S512x1536, .f32⟩
  | .local _ .vmem, ⟨13, _⟩ => ⟨S512x512, .f32⟩
  | .local _ .vmem, ⟨14, _⟩ => ⟨S512x512, .f32⟩
  | .local _ .vmem, ⟨15, _⟩ => ⟨S512x128, .f32⟩
  | .local _ .vmem, ⟨16, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceEvInIdeal.lean ====
abbrev S8192x1024 : Shape := ⟨2, ![8192, 1024]⟩
abbrev S2x1024 : Shape := ⟨2, ![2, 1024]⟩
abbrev S1024x3200 : Shape := ⟨2, ![1024, 3200]⟩
abbrev S2x4096x1024 : Shape := ⟨3, ![2, 4096, 1024]⟩
abbrev S2x1x1024 : Shape := ⟨3, ![2, 1, 1024]⟩
abbrev S_ : Shape := ⟨0, ![]⟩
abbrev S2x4096x3200 : Shape := ⟨3, ![2, 4096, 3200]⟩
abbrev S2x4096x1536 : Shape := ⟨3, ![2, 4096, 1536]⟩
abbrev S2x4096x512 : Shape := ⟨3, ![2, 4096, 512]⟩
abbrev S2x4096x128 : Shape := ⟨3, ![2, 4096, 128]⟩
abbrev S8192x1536 : Shape := ⟨2, ![8192, 1536]⟩
abbrev S8192x512 : Shape := ⟨2, ![8192, 512]⟩
abbrev S8192x128 : Shape := ⟨2, ![8192, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S2x1024, .f32⟩
  | .hbm, ⟨3, _⟩ => ⟨S1024x3200, .bf16⟩
  | .hbm, ⟨4, _⟩ => ⟨S2x4096x1024, .f32⟩
  | .hbm, ⟨5, _⟩ => ⟨S2x1x1024, .f32⟩
  | .hbm, ⟨6, _⟩ => ⟨S_, .f32⟩
  | .hbm, ⟨7, _⟩ => ⟨S2x1x1024, .f32⟩
  | .hbm, ⟨8, _⟩ => ⟨S2x1x1024, .f32⟩
  | .hbm, ⟨9, _⟩ => ⟨S2x4096x1024, .f32⟩
  | .hbm, ⟨10, _⟩ => ⟨S2x4096x1024, .f32⟩
  | .hbm, ⟨11, _⟩ => ⟨S2x1x1024, .f32⟩
  | .hbm, ⟨12, _⟩ => ⟨S2x4096x1024, .f32⟩
  | .hbm, ⟨13, _⟩ => ⟨S2x4096x1024, .f32⟩
  | .hbm, ⟨14, _⟩ => ⟨S1024x3200, .f32⟩
  | .hbm, ⟨15, _⟩ => ⟨S2x4096x3200, .f32⟩
  | .hbm, ⟨16, _⟩ => ⟨S2x4096x1024, .f32⟩
  | .hbm, ⟨17, _⟩ => ⟨S2x4096x1536, .f32⟩
  | .hbm, ⟨18, _⟩ => ⟨S2x4096x512, .f32⟩
  | .hbm, ⟨19, _⟩ => ⟨S2x4096x128, .f32⟩
  | .hbm, ⟨20, _⟩ => ⟨S8192x1024, .f32⟩
  | .hbm, ⟨21, _⟩ => ⟨S8192x1024, .bf16⟩
  | .hbm, ⟨22, _⟩ => ⟨S8192x1024, .f32⟩
  | .hbm, ⟨23, _⟩ => ⟨S8192x1536, .f32⟩
  | .hbm, ⟨24, _⟩ => ⟨S8192x512, .f32⟩
  | .hbm, ⟨25, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== EvInBwd.lean ====
abbrev S8192x1024 : Shape := ⟨2, ![8192, 1024]⟩
abbrev S8192x1536 : Shape := ⟨2, ![8192, 1536]⟩
abbrev S8192x512 : Shape := ⟨2, ![8192, 512]⟩
abbrev S8192x128 : Shape := ⟨2, ![8192, 128]⟩
abbrev S1024x3200 : Shape := ⟨2, ![1024, 3200]⟩
abbrev S2x1024 : Shape := ⟨2, ![2, 1024]⟩
abbrev S2x1x1024 : Shape := ⟨3, ![2, 1, 1024]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S1x1x1024 : Shape := ⟨3, ![1, 1, 1024]⟩
abbrev S1024x1024 : Shape := ⟨2, ![1024, 1024]⟩
abbrev S1024x1536 : Shape := ⟨2, ![1024, 1536]⟩
abbrev S1024x512 : Shape := ⟨2, ![1024, 512]⟩
abbrev S1024x128 : Shape := ⟨2, ![1024, 128]⟩
abbrev S1x1024 : Shape := ⟨2, ![1, 1024]⟩
abbrev S1024 : Shape := ⟨1, ![1024]⟩

abbrev nBuf : Space → Nat
  | .hbm => 12
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x512, .bf16⟩
  | .hbm, ⟨3, _⟩ => ⟨S8192x128, .bf16⟩
  | .hbm, ⟨4, _⟩ => ⟨S1024x3200, .bf16⟩
  | .hbm, ⟨5, _⟩ => ⟨S8192x1024, .f32⟩
  | .hbm, ⟨6, _⟩ => ⟨S2x1024, .f32⟩
  | .hbm, ⟨7, _⟩ => ⟨S8192x1024, .f32⟩
  | .hbm, ⟨8, _⟩ => ⟨S2x1x1024, .f32⟩
  | .hbm, ⟨9, _⟩ => ⟨S8192x1024, .f32⟩
  | .hbm, ⟨10, _⟩ => ⟨S2x1x1024, .f32⟩
  | .hbm, ⟨11, _⟩ => ⟨S2x1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S512x512, .bf16⟩
  | .local _ .vmem, ⟨6, _⟩ => ⟨S512x128, .bf16⟩
  | .local _ .vmem, ⟨7, _⟩ => ⟨S512x128, .bf16⟩
  | .local _ .vmem, ⟨8, _⟩ => ⟨S1024x3200, .bf16⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceEvInBwdIdeal.lean ====
abbrev S8192x1024 : Shape := ⟨2, ![8192, 1024]⟩
abbrev S8192x1536 : Shape := ⟨2, ![8192, 1536]⟩
abbrev S8192x512 : Shape := ⟨2, ![8192, 512]⟩
abbrev S8192x128 : Shape := ⟨2, ![8192, 128]⟩
abbrev S1024x3200 : Shape := ⟨2, ![1024, 3200]⟩
abbrev S2x1024 : Shape := ⟨2, ![2, 1024]⟩
abbrev S_ : Shape := ⟨0, ![]⟩
abbrev S2x4096x1024 : Shape := ⟨3, ![2, 4096, 1024]⟩
abbrev S2x1x1024 : Shape := ⟨3, ![2, 1, 1024]⟩
abbrev S2x4096x3200 : Shape := ⟨3, ![2, 4096, 3200]⟩
abbrev S2x4096x1536 : Shape := ⟨3, ![2, 4096, 1536]⟩
abbrev S2x4096x512 : Shape := ⟨3, ![2, 4096, 512]⟩
abbrev S2x4096x128 : Shape := ⟨3, ![2, 4096, 128]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x512, .bf16⟩
  | .hbm, ⟨3, _⟩ => ⟨S8192x128, .bf16⟩
  | .hbm, ⟨4, _⟩ => ⟨S1024x3200, .bf16⟩
  | .hbm, ⟨5, _⟩ => ⟨S8192x1024, .f32⟩
  | .hbm, ⟨6, _⟩ => ⟨S2x1024, .f32⟩
  | .hbm, ⟨7, _⟩ => ⟨S8192x1024, .f32⟩
  | .hbm, ⟨8, _⟩ => ⟨S_, .f32⟩
  | .hbm, ⟨9, _⟩ => ⟨S2x1024, .f32⟩
  | .hbm, ⟨10, _⟩ => ⟨S2x4096x1024, .f32⟩
  | .hbm, ⟨11, _⟩ => ⟨S2x1x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S2x4096x1024, .f32⟩
  | .hbm, ⟨16, _⟩ => ⟨S2x4096x1024, .f32⟩
  | .hbm, ⟨17, _⟩ => ⟨S2x1x1024, .f32⟩
  | .hbm, ⟨18, _⟩ => ⟨S2x4096x1024, .f32⟩
  | .hbm, ⟨19, _⟩ => ⟨S2x4096x1024, .f32⟩
  | .hbm, ⟨20, _⟩ => ⟨S1024x3200, .f32⟩
  | .hbm, ⟨21, _⟩ => ⟨S2x4096x3200, .f32⟩
  | .hbm, ⟨22, _⟩ => ⟨S8192x1024, .f32⟩
  | .hbm, ⟨23, _⟩ => ⟨S2x4096x1024, .f32⟩
  | .hbm, ⟨24, _⟩ => ⟨S8192x1536, .f32⟩
  | .hbm, ⟨25, _⟩ => ⟨S2x4096x1536, .f32⟩
  | .hbm, ⟨26, _⟩ => ⟨S8192x512, .f32⟩
  | .hbm, ⟨27, _⟩ => ⟨S2x4096x512, .f32⟩
  | .hbm, ⟨28, _⟩ => ⟨S8192x128, .f32⟩
  | .hbm, ⟨29, _⟩ => ⟨S2x4096x128, .f32⟩
  | .hbm, ⟨30, _⟩ => ⟨S2x4096x3200, .f32⟩
  | .hbm, ⟨31, _⟩ => ⟨S2x4096x1024, .f32⟩
  | .hbm, ⟨32, _⟩ => ⟨S_, .f32⟩
  | .hbm, ⟨33, _⟩ => ⟨S2x1024, .f32⟩
  | .hbm, ⟨34, _⟩ => ⟨S2x1x1024, .f32⟩
  | .hbm, ⟨35, _⟩ => ⟨S_, .f32⟩
  | .hbm, ⟨36, _⟩ => ⟨S2x1024, .f32⟩
  | .hbm, ⟨37, _⟩ => ⟨S2x4096x1024, .f32⟩
  | .hbm, ⟨38, _⟩ => ⟨S_, .f32⟩
  | .hbm, ⟨39, _⟩ => ⟨S2x1024, .f32⟩
  | .hbm, ⟨40, _⟩ => ⟨S2x1x1024, .f32⟩
  | .hbm, ⟨41, _⟩ => ⟨S2x4096x1024, .f32⟩
  | .hbm, ⟨42, _⟩ => ⟨S2x4096x1024, .f32⟩
  | .hbm, ⟨43, _⟩ => ⟨S_, .f32⟩
  | .hbm, ⟨44, _⟩ => ⟨S2x1024, .f32⟩
  | .hbm, ⟨45, _⟩ => ⟨S8192x1024, .f32⟩
  | .hbm, ⟨46, _⟩ => ⟨S8192x1024, .f32⟩
  | .hbm, ⟨47, _⟩ => ⟨S2x1x1024, .f32⟩
  | .hbm, ⟨48, _⟩ => ⟨S2x1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== GradXbc.lean ====
abbrev S8192x1024 : Shape := ⟨2, ![8192, 1024]⟩
abbrev S1024x1536 : Shape := ⟨2, ![1024, 1536]⟩
abbrev S8192x1536 : Shape := ⟨2, ![8192, 1536]⟩
abbrev S2048x1024 : Shape := ⟨2, ![2048, 1024]⟩
abbrev S2048x1536 : Shape := ⟨2, ![2048, 1536]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .f32⟩
  | .hbm, ⟨2, _⟩ => ⟨S8192x1536, .bf16⟩
  | .hbm, ⟨3, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGradXbcIdeal.lean ====
abbrev S8192x1024 : Shape := ⟨2, ![8192, 1024]⟩
abbrev S1024x1536 : Shape := ⟨2, ![1024, 1536]⟩
abbrev S8192x1536 : Shape := ⟨2, ![8192, 1536]⟩
abbrev S2x4096x1024 : Shape := ⟨3, ![2, 4096, 1024]⟩
abbrev S2x4096x1536 : Shape := ⟨3, ![2, 4096, 1536]⟩
abbrev S1536x1024 : Shape := ⟨2, ![1536, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .f32⟩
  | .hbm, ⟨2, _⟩ => ⟨S8192x1536, .bf16⟩
  | .hbm, ⟨3, _⟩ => ⟨S8192x1024, .f32⟩
  | .hbm, ⟨4, _⟩ => ⟨S2x4096x1024, .f32⟩
  | .hbm, ⟨5, _⟩ => ⟨S2x4096x1536, .f32⟩
  | .hbm, ⟨6, _⟩ => ⟨S8192x1536, .f32⟩
  | .hbm, ⟨7, _⟩ => ⟨S2x4096x1536, .f32⟩
  | .hbm, ⟨8, _⟩ => ⟨S1536x1024, .f32⟩
  | .hbm, ⟨9, _⟩ => ⟨S1024x1536, .f32⟩
  | .hbm, ⟨10, _⟩ => ⟨S1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradPool.lean ====
abbrev S8192x1024 : Shape := ⟨2, ![8192, 1024]⟩
abbrev S1024x512 : Shape := ⟨2, ![1024, 512]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x512, .f32⟩
  | .hbm, ⟨2, _⟩ => ⟨S8192x512, .bf16⟩
  | .hbm, ⟨3, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGradPoolIdeal.lean ====
abbrev S8192x1024 : Shape := ⟨2, ![8192, 1024]⟩
abbrev S1024x512 : Shape := ⟨2, ![1024, 512]⟩
abbrev S8192x512 : Shape := ⟨2, ![8192, 512]⟩
abbrev S2x4096x1024 : Shape := ⟨3, ![2, 4096, 1024]⟩
abbrev S2x4096x512 : Shape := ⟨3, ![2, 4096, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .f32⟩
  | .hbm, ⟨2, _⟩ => ⟨S8192x512, .bf16⟩
  | .hbm, ⟨3, _⟩ => ⟨S8192x1024, .f32⟩
  | .hbm, ⟨4, _⟩ => ⟨S2x4096x1024, .f32⟩
  | .hbm, ⟨5, _⟩ => ⟨S2x4096x512, .f32⟩
  | .hbm, ⟨6, _⟩ => ⟨S8192x512, .f32⟩
  | .hbm, ⟨7, _⟩ => ⟨S2x4096x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradDt.lean ====
abbrev S8192x1024 : Shape := ⟨2, ![8192, 1024]⟩
abbrev S1024x128 : Shape := ⟨2, ![1024, 128]⟩
abbrev S8192x128 : Shape := ⟨2, ![8192, 128]⟩
abbrev S2048x1024 : Shape := ⟨2, ![2048, 1024]⟩
abbrev S2048x128 : Shape := ⟨2, ![2048, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x128, .f32⟩
  | .hbm, ⟨2, _⟩ => ⟨S8192x128, .bf16⟩
  | .hbm, ⟨3, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGradDtIdeal.lean ====
abbrev S8192x1024 : Shape := ⟨2, ![8192, 1024]⟩
abbrev S1024x128 : Shape := ⟨2, ![1024, 128]⟩
abbrev S8192x128 : Shape := ⟨2, ![8192, 128]⟩
abbrev S2x4096x1024 : Shape := ⟨3, ![2, 4096, 1024]⟩
abbrev S2x4096x128 : Shape := ⟨3, ![2, 4096, 128]⟩
abbrev S128x1024 : Shape := ⟨2, ![128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .f32⟩
  | .hbm, ⟨2, _⟩ => ⟨S8192x128, .bf16⟩
  | .hbm, ⟨3, _⟩ => ⟨S8192x1024, .f32⟩
  | .hbm, ⟨4, _⟩ => ⟨S2x4096x1024, .f32⟩
  | .hbm, ⟨5, _⟩ => ⟨S2x4096x128, .f32⟩
  | .hbm, ⟨6, _⟩ => ⟨S8192x128, .f32⟩
  | .hbm, ⟨7, _⟩ => ⟨S2x4096x128, .f32⟩
  | .hbm, ⟨8, _⟩ => ⟨S128x1024, .f32⟩
  | .hbm, ⟨9, _⟩ => ⟨S1024x128, .f32⟩
  | .hbm, ⟨10, _⟩ => ⟨S1024x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradMix.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .f32⟩
  | .hbm, ⟨2, _⟩ => ⟨S8192x1024, .bf16⟩
  | .hbm, ⟨3, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGradMixIdeal.lean ====
abbrev S8192x512 : Shape := ⟨2, ![8192, 512]⟩
abbrev S512x1024 : Shape := ⟨2, ![512, 1024]⟩
abbrev S8192x1024 : Shape := ⟨2, ![8192, 1024]⟩
abbrev S2x4096x512 : Shape := ⟨3, ![2, 4096, 512]⟩
abbrev S2x4096x1024 : Shape := ⟨3, ![2, 4096, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .f32⟩
  | .hbm, ⟨2, _⟩ => ⟨S8192x1024, .bf16⟩
  | .hbm, ⟨3, _⟩ => ⟨S8192x512, .f32⟩
  | .hbm, ⟨4, _⟩ => ⟨S2x4096x512, .f32⟩
  | .hbm, ⟨5, _⟩ => ⟨S2x4096x1024, .f32⟩
  | .hbm, ⟨6, _⟩ => ⟨S8192x1024, .f32⟩
  | .hbm, ⟨7, _⟩ => ⟨S2x4096x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixOut.lean ====
abbrev S8192x1024 : Shape := ⟨2, ![8192, 1024]⟩
abbrev S8192x512 : Shape := ⟨2, ![8192, 512]⟩
abbrev S1536x1024 : Shape := ⟨2, ![1536, 1024]⟩
abbrev S2x1024 : Shape := ⟨2, ![2, 1024]⟩
abbrev S1024 : Shape := ⟨1, ![1024]⟩
abbrev S2x1x1024 : Shape := ⟨3, ![2, 1, 1024]⟩
abbrev S1x1024 : Shape := ⟨2, ![1, 1024]⟩
abbrev S512x1024 : Shape := ⟨2, ![512, 1024]⟩
abbrev S512x512 : Shape := ⟨2, ![512, 512]⟩
abbrev S1x1x1024 : Shape := ⟨3, ![1, 1, 1024]⟩
abbrev S256x1024 : Shape := ⟨2, ![256, 1024]⟩
abbrev S1024x1024 : Shape := ⟨2, ![1024, 1024]⟩
abbrev S256x512 : Shape := ⟨2, ![256, 512]⟩
abbrev S256 : Shape := ⟨1, ![256]⟩
abbrev S256x1 : Shape := ⟨2, ![256, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1536x1024, .bf16⟩
  | .hbm, ⟨3, _⟩ => ⟨S8192x1024, .f32⟩
  | .hbm, ⟨4, _⟩ => ⟨S2x1024, .f32⟩
  | .hbm, ⟨5, _⟩ => ⟨S1024, .f32⟩
  | .hbm, ⟨6, _⟩ => ⟨S1024, .f32⟩
  | .hbm, ⟨7, _⟩ => ⟨S2x1x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1536x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMixOutIdeal.lean ====
abbrev S8192x1024 : Shape := ⟨2, ![8192, 1024]⟩
abbrev S8192x512 : Shape := ⟨2, ![8192, 512]⟩
abbrev S1536x1024 : Shape := ⟨2, ![1536, 1024]⟩
abbrev S2x1024 : Shape := ⟨2, ![2, 1024]⟩
abbrev S1024 : Shape := ⟨1, ![1024]⟩
abbrev S8192x1536 : Shape := ⟨2, ![8192, 1536]⟩
abbrev S2x4096x1536 : Shape := ⟨3, ![2, 4096, 1536]⟩
abbrev S2x4096x1024 : Shape := ⟨3, ![2, 4096, 1024]⟩
abbrev S_ : Shape := ⟨0, ![]⟩
abbrev S2x1x1024 : Shape := ⟨3, ![2, 1, 1024]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1536x1024, .bf16⟩
  | .hbm, ⟨3, _⟩ => ⟨S8192x1024, .f32⟩
  | .hbm, ⟨4, _⟩ => ⟨S2x1024, .f32⟩
  | .hbm, ⟨5, _⟩ => ⟨S1024, .f32⟩
  | .hbm, ⟨6, _⟩ => ⟨S1024, .f32⟩
  | .hbm, ⟨7, _⟩ => ⟨S8192x1536, .bf16⟩
  | .hbm, ⟨8, _⟩ => ⟨S8192x1536, .f32⟩
  | .hbm, ⟨9, _⟩ => ⟨S2x4096x1536, .f32⟩
  | .hbm, ⟨10, _⟩ => ⟨S1536x1024, .f32⟩
  | .hbm, ⟨11, _⟩ => ⟨S2x4096x1024, .f32⟩
  | .hbm, ⟨12, _⟩ => ⟨S2x4096x1024, .f32⟩
  | .hbm, ⟨13, _⟩ => ⟨S_, .f32⟩
  | .hbm, ⟨14, _⟩ => ⟨S2x4096x1024, .f32⟩
  | .hbm, ⟨15, _⟩ => ⟨S2x4096x1024, .f32⟩
  | .hbm, ⟨16, _⟩ => ⟨S2x1x1024, .f32⟩
  | .hbm, ⟨17, _⟩ => ⟨S_, .f32⟩
  | .hbm, ⟨18, _⟩ => ⟨S2x1x1024, .f32⟩
  | .hbm, ⟨19, _⟩ => ⟨S2x1x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S_, .f32⟩
  | .hbm, ⟨33, _⟩ => ⟨S2x4096, .f32⟩
  | .hbm, ⟨34, _⟩ => ⟨S2x4096x1, .f32⟩
  | .hbm, ⟨35, _⟩ => ⟨S_, .f32⟩
  | .hbm, ⟨36, _⟩ => ⟨S2x4096x1, .f32⟩
  | .hbm, ⟨37, _⟩ => ⟨S2x4096x1, .f32⟩
  | .hbm, ⟨38, _⟩ => ⟨S_, .f32⟩
  | .hbm, ⟨39, _⟩ => ⟨S2x4096x1, .f32⟩
  | .hbm, ⟨40, _⟩ => ⟨S2x4096x1, .f32⟩
  | .hbm, ⟨41, _⟩ => ⟨S2x4096x1, .f32⟩
  | .hbm, ⟨42, _⟩ => ⟨S2x4096x1024, .f32⟩
  | .hbm, ⟨43, _⟩ => ⟨S2x4096x1024, .f32⟩
  | .hbm, ⟨44, _⟩ => ⟨S1x1x1024, .f32⟩
  | .hbm, ⟨45, _⟩ => ⟨S2x4096x1024, .f32⟩
  | .hbm, ⟨46, _⟩ => ⟨S2x4096x1024, .f32⟩
  | .hbm, ⟨47, _⟩ => ⟨S1x1x1024, .f32⟩
  | .hbm, ⟨48, _⟩ => ⟨S2x4096x1024, .f32⟩
  | .hbm, ⟨49, _⟩ => ⟨S2x4096x1024, .f32⟩
  | .hbm, ⟨50, _⟩ => ⟨S8192x1024, .f32⟩
  | .hbm, ⟨51, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== MixOutOdd.lean ====
abbrev S8192x512 : Shape := ⟨2, ![8192, 512]⟩
abbrev S8192x1024 : Shape := ⟨2, ![8192, 1024]⟩
abbrev S1536x1024 : Shape := ⟨2, ![1536, 1024]⟩
abbrev S2x1024 : Shape := ⟨2, ![2, 1024]⟩
abbrev S1024 : Shape := ⟨1, ![1024]⟩
abbrev S2x1x1024 : Shape := ⟨3, ![2, 1, 1024]⟩
abbrev S1x1024 : Shape := ⟨2, ![1, 1024]⟩
abbrev S512x512 : Shape := ⟨2, ![512, 512]⟩
abbrev S512x1024 : Shape := ⟨2, ![512, 1024]⟩
abbrev S1x1x1024 : Shape := ⟨3, ![1, 1, 1024]⟩
abbrev S256x512 : Shape := ⟨2, ![256, 512]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S1536x1024, .bf16⟩
  | .hbm, ⟨3, _⟩ => ⟨S8192x1024, .f32⟩
  | .hbm, ⟨4, _⟩ => ⟨S2x1024, .f32⟩
  | .hbm, ⟨5, _⟩ => ⟨S1024, .f32⟩
  | .hbm, ⟨6, _⟩ => ⟨S1024, .f32⟩
  | .hbm, ⟨7, _⟩ => ⟨S2x1x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S1536x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMixOutOddIdeal.lean ====
abbrev S8192x512 : Shape := ⟨2, ![8192, 512]⟩
abbrev S8192x1024 : Shape := ⟨2, ![8192, 1024]⟩
abbrev S1536x1024 : Shape := ⟨2, ![1536, 1024]⟩
abbrev S2x1024 : Shape := ⟨2, ![2, 1024]⟩
abbrev S1024 : Shape := ⟨1, ![1024]⟩
abbrev S8192x1536 : Shape := ⟨2, ![8192, 1536]⟩
abbrev S2x4096x1536 : Shape := ⟨3, ![2, 4096, 1536]⟩
abbrev S2x4096x1024 : Shape := ⟨3, ![2, 4096, 1024]⟩
abbrev S_ : Shape := ⟨0, ![]⟩
abbrev S2x1x1024 : Shape := ⟨3, ![2, 1, 1024]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S1536x1024, .bf16⟩
  | .hbm, ⟨3, _⟩ => ⟨S8192x1024, .f32⟩
  | .hbm, ⟨4, _⟩ => ⟨S2x1024, .f32⟩
  | .hbm, ⟨5, _⟩ => ⟨S1024, .f32⟩
  | .hbm, ⟨6, _⟩ => ⟨S1024, .f32⟩
  | .hbm, ⟨7, _⟩ => ⟨S8192x1536, .bf16⟩
  | .hbm, ⟨8, _⟩ => ⟨S8192x1536, .f32⟩
  | .hbm, ⟨9, _⟩ => ⟨S2x4096x1536, .f32⟩
  | .hbm, ⟨10, _⟩ => ⟨S1536x1024, .f32⟩
  | .hbm, ⟨11, _⟩ => ⟨S2x4096x1024, .f32⟩
  | .hbm, ⟨12, _⟩ => ⟨S2x4096x1024, .f32⟩
  | .hbm, ⟨13, _⟩ => ⟨S_, .f32⟩
  | .hbm, ⟨14, _⟩ => ⟨S2x4096x1024, .f32⟩
  | .hbm, ⟨15, _⟩ => ⟨S2x4096x1024, .f32⟩
  | .hbm, ⟨16, _⟩ => ⟨S2x1x1024, .f32⟩
  | .hbm, ⟨17, _⟩ => ⟨S_, .f32⟩
  | .hbm, ⟨18, _⟩ => ⟨S2x1x1024, .f32⟩
  | .hbm, ⟨19, _⟩ => ⟨S2x1x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S_, .f32⟩
  | .hbm, ⟨33, _⟩ => ⟨S2x4096, .f32⟩
  | .hbm, ⟨34, _⟩ => ⟨S2x4096x1, .f32⟩
  | .hbm, ⟨35, _⟩ => ⟨S_, .f32⟩
  | .hbm, ⟨36, _⟩ => ⟨S2x4096x1, .f32⟩
  | .hbm, ⟨37, _⟩ => ⟨S2x4096x1, .f32⟩
  | .hbm, ⟨38, _⟩ => ⟨S_, .f32⟩
  | .hbm, ⟨39, _⟩ => ⟨S2x4096x1, .f32⟩
  | .hbm, ⟨40, _⟩ => ⟨S2x4096x1, .f32⟩
  | .hbm, ⟨41, _⟩ => ⟨S2x4096x1, .f32⟩
  | .hbm, ⟨42, _⟩ => ⟨S2x4096x1024, .f32⟩
  | .hbm, ⟨43, _⟩ => ⟨S2x4096x1024, .f32⟩
  | .hbm, ⟨44, _⟩ => ⟨S1x1x1024, .f32⟩
  | .hbm, ⟨45, _⟩ => ⟨S2x4096x1024, .f32⟩
  | .hbm, ⟨46, _⟩ => ⟨S2x4096x1024, .f32⟩
  | .hbm, ⟨47, _⟩ => ⟨S1x1x1024, .f32⟩
  | .hbm, ⟨48, _⟩ => ⟨S2x4096x1024, .f32⟩
  | .hbm, ⟨49, _⟩ => ⟨S2x4096x1024, .f32⟩
  | .hbm, ⟨50, _⟩ => ⟨S8192x1024, .f32⟩
  | .hbm, ⟨51, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Proof.Run.lean ====
/-  The two regions' launch, with everything the program's arrays end holding.  -/
module
public import proofs.«01_k».proof.Proof.Gen.KernelIdeal.Frame
@[expose] public section
set_option maxRecDepth 16384
noncomputable section
namespace Cert.Conf
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the program ends, every array of the main memory at what the last segment leaves (`W4`) and every counter at zero. -/
theorem run_main : θ_run defs (onTc (τ := τ) (main (F := F))) ⟨m, fun _ => 0, ρ⟩ (fun r =>
    (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The arguments end unchanged and the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c)⟩, h.2⟩) (run_main m ρ)

end Cert.Conf
-- ==== Proof.Taps.lean ====
/-  Arrays of two axes read at natural numbers, and the pieces a tap of the depthwise convolution is made of.  -/
module

public import proofs.«01_k».proof.KernelIdeal
public import Idealize.ShloMosaic.Lib.Pointwise
public import Idealize.ShloMosaic.Lib.ValueIdx
public import Idealize.ShloMosaic.Lib.Pipeline.ValueKit
public import Idealize.ShloMosaic.Lib.Pipeline.ReadBack

@[expose] public section

noncomputable section

namespace Cert.Conf

open Idealize.ShloMosaic
open Cert.KernelIdeal (S31x512 S288x512 S256x512 S256x128 S1x128 S1x512 S128)

/-- The entry of row `m`, column `n`, of an array of two axes; `0` outside the array. -/
def rd {a b : ℕ} (X : (⟨2, ![a, b]⟩ : Shape).Idx → EReal) (m n : ℕ) : EReal :=
  if h : m < a ∧ n < b then X (ix2 ⟨m, h.1⟩ ⟨n, h.2⟩) else 0

theorem rd_val {a b : ℕ} (X : (⟨2, ![a, b]⟩ : Shape).Idx → EReal) (m : Fin a) (n : Fin b) : rd X m n = X (ix2 m n) := by
  rw [rd, dif_pos ⟨m.isLt, n.isLt⟩]

theorem rd_lt {a b : ℕ} (X : (⟨2, ![a, b]⟩ : Shape).Idx → EReal) {m n : ℕ} (hm : m < a) (hn : n < b) :
    rd X m n = X (ix2 ⟨m, hm⟩ ⟨n, hn⟩) := by
  rw [rd, dif_pos ⟨hm, hn⟩]

theorem rd_of {a b : ℕ} (X : (⟨2, ![a, b]⟩ : Shape).Idx → EReal) {m n : ℕ} (x : (⟨2, ![a, b]⟩ : Shape).Idx)
    (h0 : (x 0).val = m) (h1 : (x 1).val = n) : X x = rd X m n := by
  subst h0 h1
  rw [eq_ix2 x]
  exact (rd_val X (x 0) (x 1)).symm

/-- A load of a rectangle of unit stride, at an index. -/
theorem ld_rd {a b p q : ℕ} (X : (⟨2, ![a, b]⟩ : Shape).Idx → EReal) (o0 o1 : ℕ)
    (inb : ∀ i, (![o0, o1] : Fin 2 → ℕ) i + (![p, q] : Fin 2 → ℕ) i ≤ (⟨2, ![a, b]⟩ : Shape).size i)
    (x : (⟨2, ![p, q]⟩ : Shape).Idx) :
    X ((Rect.unit (s := (⟨2, ![a, b]⟩ : Shape)) ![o0, o1] ![p, q] inb).idx x) = rd X (o0 + (x 0).val) (o1 + (x 1).val) :=

  rd_of X _ (Rect.idx_unit_val (s := (⟨2, ![a, b]⟩ : Shape)) ![o0, o1] ![p, q] inb x 0) (Rect.idx_unit_val (s := (⟨2, ![a, b]⟩ : Shape)) ![o0, o1] ![p, q] inb x 1)

/-- One row of the weights against a shifted window of the rows of `E`. -/
theorem tap (W : Vec Ideal S31x512 .f32) (E : Vec Ideal S288x512 .f32) (k l o : ℕ)
    (inb : ∀ i, (![k, l] : Fin 2 → ℕ) i + (![1, 128] : Fin 2 → ℕ) i ≤ S31x512.size i)
    (inb' : ∀ i, (![o, l] : Fin 2 → ℕ) i + (![256, 128] : Fin 2 → ℕ) i ≤ S288x512.size i)
    (hb : S1x128.Broadcasts S256x128) (x : S256x128.Idx) :
    (mulf (broadcastTo S256x128 (View.ld (Val := Elt Ideal) (e' := .f32) W (Rect.unit (s := S31x512) ![k, l] ![1, 128] inb)) hb : FVec Ideal S256x128 .f32)
      (fun j => E ((Rect.unit (s := S288x512) ![o, l] ![256, 128] inb').idx j)) x : EReal)
      = rd W k (l + (x 1).val) * rd E (o + (x 0).val) (l + (x 1).val) := by
  have h2 : E ((Rect.unit (s := S288x512) ![o, l] ![256, 128] inb').idx x) = _ := ld_rd E o l inb' x
  show (_ : EReal) * E ((Rect.unit (s := S288x512) ![o, l] ![256, 128] inb').idx x) = _
  rw [h2]
  congr 1
  refine (broadcastTo_apply _ hb x (ix2 0 (x 1)) ?_).trans ?_
  · intro a; fin_cases a <;> rfl
  · exact rd_of W _ (by simp [Rect.idx_unit_val]) (by simp [Rect.idx_unit_val])

/-- Four arrays of 128 columns side by side, of one array `g`. -/
theorem cat4 (f0 f1 f2 f3 : FVec Ideal S256x128 .f32) (g : ℕ → ℕ → EReal) (hc) (j : S256x512.Idx)
    (h0 : ∀ x, f0 x = g (x 0).val (0 + (x 1).val)) (h1 : ∀ x, f1 x = g (x 0).val (128 + (x 1).val))
    (h2 : ∀ x, f2 x = g (x 0).val (256 + (x 1).val)) (h3 : ∀ x, f3 x = g (x 0).val (384 + (x 1).val)) :
    concatenate S256x512 1 [⟨S256x128, f0⟩, ⟨S256x128, f1⟩, ⟨S256x128, f2⟩, ⟨S256x128, f3⟩] hc j = g (j 0).val (j 1).val := by
  pointwise
  have e : ∀ {n m : ℕ}, n = m → g (j 0).val n = g (j 0).val m := fun h => congrArg _ h
  split_ifs
  all_goals first
    | exact (h0 _).trans (e (Nat.zero_add _))
    | exact (h1 _).trans (e (by change 128 + ((j 1).val - 128) = _; omega))
    | exact (h2 _).trans (e (by change 256 + ((j 1).val - 128 - 128) = _; omega))
    | exact (h3 _).trans (e (by change 384 + ((j 1).val - 128 - 128 - 128) = _; omega))

/-! ## Two stores side by side -/

/-- Rows `0 … a` stored, then rows `a … a + b`: what the buffer holds. -/
theorem canon_rows {a b n w : ℕ} (hn : a + b = n) (H : (⟨2, ![a, w]⟩ : Shape).Idx → EReal) (P : (⟨2, ![b, w]⟩ : Shape).Idx → EReal)
    (inb : ∀ i, (![a, 0] : Fin 2 → ℕ) i + (![b, w] : Fin 2 → ℕ) i ≤ (⟨2, ![n, w]⟩ : Shape).size i)
    (inb' : ∀ i, (![0, 0] : Fin 2 → ℕ) i + (![a, w] : Fin 2 → ℕ) i ≤ (⟨2, ![n, w]⟩ : Shape).size i) (m : Fin n) (q : Fin w) :
    View.canon (Val := Elt Ideal) (e := .f32) (s := (⟨2, ![n, w]⟩ : Shape)) [⟨Rect.unit (s := (⟨2, ![n, w]⟩ : Shape)) ![a, 0] ![b, w] inb, P⟩, ⟨Rect.unit (s := (⟨2, ![n, w]⟩ : Shape)) ![0, 0] ![a, w] inb', H⟩] (ix2 m q)
      = if m.val < a then rd H m q else rd P (m - a) q := by
  let G : (⟨2, ![n, w]⟩ : Shape).Idx → EReal := fun j => if (j 0).val < a then rd H (j 0).val (j 1).val else rd P ((j 0).val - a) (j 1).val
  refine View.canon_apply_of_pieces (Val := Elt Ideal) (e := .f32) (S := (⟨2, ![n, w]⟩ : Shape)) G _ ?_ (ix2 m q) ?_
  · intro p hp x
    simp only [List.mem_cons, List.not_mem_nil, or_false] at hp
    rcases hp with rfl | rfl
    · have h0 : ((Rect.unit (s := (⟨2, ![n, w]⟩ : Shape)) ![a, 0] ![b, w] inb).idx x 0).val = a + (x 0).val :=
        Rect.idx_unit_val (s := (⟨2, ![n, w]⟩ : Shape)) ![a, 0] ![b, w] inb x 0
      have h1 : ((Rect.unit (s := (⟨2, ![n, w]⟩ : Shape)) ![a, 0] ![b, w] inb).idx x 1).val = 0 + (x 1).val :=
        Rect.idx_unit_val (s := (⟨2, ![n, w]⟩ : Shape)) ![a, 0] ![b, w] inb x 1
      show P x = if ((Rect.unit (s := (⟨2, ![n, w]⟩ : Shape)) ![a, 0] ![b, w] inb).idx x 0).val < a then _ else
        rd P (((Rect.unit (s := (⟨2, ![n, w]⟩ : Shape)) ![a, 0] ![b, w] inb).idx x 0).val - a) ((Rect.unit (s := (⟨2, ![n, w]⟩ : Shape)) ![a, 0] ![b, w] inb).idx x 1).val
      rw [h0, h1, if_neg (by omega)]
      exact rd_of P x (by omega) (by omega)
    · have h0 : ((Rect.unit (s := (⟨2, ![n, w]⟩ : Shape)) ![0, 0] ![a, w] inb').idx x 0).val = 0 + (x 0).val :=
        Rect.idx_unit_val (s := (⟨2, ![n, w]⟩ : Shape)) ![0, 0] ![a, w] inb' x 0
      have h1 : ((Rect.unit (s := (⟨2, ![n, w]⟩ : Shape)) ![0, 0] ![a, w] inb').idx x 1).val = 0 + (x 1).val :=
        Rect.idx_unit_val (s := (⟨2, ![n, w]⟩ : Shape)) ![0, 0] ![a, w] inb' x 1
      have hx : (x 0).val < a := (x 0).isLt
      show H x = if ((Rect.unit (s := (⟨2, ![n, w]⟩ : Shape)) ![0, 0] ![a, w] inb').idx x 0).val < a then
        rd H ((Rect.unit (s := (⟨2, ![n, w]⟩ : Shape)) ![0, 0] ![a, w] inb').idx x 0).val ((Rect.unit (s := (⟨2, ![n, w]⟩ : Shape)) ![0, 0] ![a, w] inb').idx x 1).val else _
      rw [h0, h1, if_pos (by omega)]
      exact rd_of H x (by omega) (by omega)
  · by_cases h : m.val < a
    · refine ⟨_, List.mem_cons_of_mem _ List.mem_cons_self, ?_⟩
      rw [Rect.mem_set_unit]
      intro i
      fin_cases i
      · exact ⟨Nat.zero_le _, by show m.val < 0 + a; omega⟩
      · exact ⟨Nat.zero_le _, by show q.val < 0 + w; omega⟩
    · refine ⟨_, List.mem_cons_self, ?_⟩
      rw [Rect.mem_set_unit]
      intro i
      fin_cases i
      · exact ⟨by show a ≤ m.val; omega, by show m.val < a + b; omega⟩
      · exact ⟨Nat.zero_le _, by show q.val < 0 + w; omega⟩

/-- Two stores that split an array's columns, at an index. -/
theorem canon_cols {a b n w : ℕ} {e : EltTy} (hn : a + b = n) (H : (⟨2, ![w, a]⟩ : Shape).Idx → Elt Ideal e) (P : (⟨2, ![w, b]⟩ : Shape).Idx → Elt Ideal e)
    (h p : ℕ → ℕ → Elt Ideal e) (hH : ∀ x, H x = h (x 0).val (x 1).val) (hP : ∀ x, P x = p (x 0).val (x 1).val)
    (inb : ∀ i, (![0, a] : Fin 2 → ℕ) i + (![w, b] : Fin 2 → ℕ) i ≤ (⟨2, ![w, n]⟩ : Shape).size i)
    (inb' : ∀ i, (![0, 0] : Fin 2 → ℕ) i + (![w, a] : Fin 2 → ℕ) i ≤ (⟨2, ![w, n]⟩ : Shape).size i) (m : Fin w) (q : Fin n) :
    View.canon (Val := Elt Ideal) (e := e) (s := (⟨2, ![w, n]⟩ : Shape)) [⟨Rect.unit (s := (⟨2, ![w, n]⟩ : Shape)) ![0, a] ![w, b] inb, P⟩, ⟨Rect.unit (s := (⟨2, ![w, n]⟩ : Shape)) ![0, 0] ![w, a] inb', H⟩] (ix2 m q)
      = if q.val < a then h m q else p m (q - a) := by
  let G : (⟨2, ![w, n]⟩ : Shape).Idx → Elt Ideal e := fun j => if (j 1).val < a then h (j 0).val (j 1).val else p (j 0).val ((j 1).val - a)
  refine View.canon_apply_of_pieces (Val := Elt Ideal) (e := e) (S := (⟨2, ![w, n]⟩ : Shape)) G _ ?_ (ix2 m q) ?_
  · intro k hk x
    simp only [List.mem_cons, List.not_mem_nil, or_false] at hk
    rcases hk with rfl | rfl
    · have h0 : ((Rect.unit (s := (⟨2, ![w, n]⟩ : Shape)) ![0, a] ![w, b] inb).idx x 0).val = 0 + (x 0).val :=
        Rect.idx_unit_val (s := (⟨2, ![w, n]⟩ : Shape)) ![0, a] ![w, b] inb x 0
      have h1 : ((Rect.unit (s := (⟨2, ![w, n]⟩ : Shape)) ![0, a] ![w, b] inb).idx x 1).val = a + (x 1).val :=
        Rect.idx_unit_val (s := (⟨2, ![w, n]⟩ : Shape)) ![0, a] ![w, b] inb x 1
      show P x = if ((Rect.unit (s := (⟨2, ![w, n]⟩ : Shape)) ![0, a] ![w, b] inb).idx x 1).val < a then _ else
        p ((Rect.unit (s := (⟨2, ![w, n]⟩ : Shape)) ![0, a] ![w, b] inb).idx x 0).val (((Rect.unit (s := (⟨2, ![w, n]⟩ : Shape)) ![0, a] ![w, b] inb).idx x 1).val - a)
      rw [h0, h1, if_neg (by omega), Nat.zero_add, Nat.add_sub_cancel_left]
      exact hP x
    · have h0 : ((Rect.unit (s := (⟨2, ![w, n]⟩ : Shape)) ![0, 0] ![w, a] inb').idx x 0).val = 0 + (x 0).val :=
        Rect.idx_unit_val (s := (⟨2, ![w, n]⟩ : Shape)) ![0, 0] ![w, a] inb' x 0
      have h1 : ((Rect.unit (s := (⟨2, ![w, n]⟩ : Shape)) ![0, 0] ![w, a] inb').idx x 1).val = 0 + (x 1).val :=
        Rect.idx_unit_val (s := (⟨2, ![w, n]⟩ : Shape)) ![0, 0] ![w, a] inb' x 1
      have hx : (x 1).val < a := (x 1).isLt
      show H x = if ((Rect.unit (s := (⟨2, ![w, n]⟩ : Shape)) ![0, 0] ![w, a] inb').idx x 1).val < a then
        h ((Rect.unit (s := (⟨2, ![w, n]⟩ : Shape)) ![0, 0] ![w, a] inb').idx x 0).val ((Rect.unit (s := (⟨2, ![w, n]⟩ : Shape)) ![0, 0] ![w, a] inb').idx x 1).val else _
      rw [h0, h1, Nat.zero_add, Nat.zero_add, if_pos hx]
      exact hH x
  · by_cases h : q.val < a
    · refine ⟨_, List.mem_cons_of_mem _ List.mem_cons_self, ?_⟩
      rw [Rect.mem_set_unit]
      intro i
      fin_cases i
      · exact ⟨Nat.zero_le _, by show m.val < 0 + w; omega⟩
      · exact ⟨Nat.zero_le _, by show q.val < 0 + a; omega⟩
    · refine ⟨_, List.mem_cons_self, ?_⟩
      rw [Rect.mem_set_unit]
      intro i
      fin_cases i
      · exact ⟨Nat.zero_le _, by show m.val < 0 + w; omega⟩
      · exact ⟨by show a ≤ q.val; omega, by show q.val < a + b; omega⟩

/-- The sum over a block's 256 rows of one window against another, added to a stored row: what the gradient of one row of the weights gains. -/
theorem gain (u : Vec Ideal S1x128 .f32) (D E : Vec Ideal S288x512 .f32) (k l o : ℕ) (ho : o = 2 + k)
    (inb : ∀ i, (![k, l] : Fin 2 → ℕ) i + (![1, 128] : Fin 2 → ℕ) i ≤ S31x512.size i)
    (inbD : ∀ i, (![0, l] : Fin 2 → ℕ) i + (![256, 128] : Fin 2 → ℕ) i ≤ S288x512.size i)
    (inbE : ∀ i, (![o, l] : Fin 2 → ℕ) i + (![256, 128] : Fin 2 → ℕ) i ≤ S288x512.size i)
    (h1) (h2) (h3) (h4) (h5) (x : S1x128.Idx) :
    (addf (shapeCast S1x128 u h1 : FVec Ideal S1x128 .f32)
      (shapeCast S1x128 (multiReduction .add [0] S128 (mulf (φ := .f32) (s := S256x128) (F := Ideal)
          (fun j => D ((Rect.unit (s := S288x512) ![0, l] ![256, 128] inbD).idx j))
          (fun j => E ((Rect.unit (s := S288x512) ![o, l] ![256, 128] inbE).idx j))) 0x00000000#32 h2 h3 h4) h5) x : EReal)
      = u x
        + ∑ r ∈ Finset.range 256, rd D r ((Rect.unit (s := S31x512) ![k, l] ![1, 128] inb).emb x 1).val
          * rd E (2 + ((Rect.unit (s := S31x512) ![k, l] ![1, 128] inb).emb x 0).val + r) ((Rect.unit (s := S31x512) ![k, l] ![1, 128] inb).emb x 1).val := by
  have e0 : ((Rect.unit (s := S31x512) ![k, l] ![1, 128] inb).emb x 0).val = k + (x 0).val := Rect.idx_unit_val (s := S31x512) ![k, l] ![1, 128] inb x 0
  have e1 : ((Rect.unit (s := S31x512) ![k, l] ![1, 128] inb).emb x 1).val = l + (x 1).val := Rect.idx_unit_val (s := S31x512) ![k, l] ![1, 128] inb x 1
  have hx : (x 0).val = 0 := by have : (x 0).val < 1 := (x 0).isLt; omega
  rw [e0, e1, hx, Finset.sum_range]
  subst ho
  have hD : ∀ j : S256x128.Idx, D ((Rect.unit (s := S288x512) ![0, l] ![256, 128] inbD).idx j) = rd D (0 + (j 0).val) (l + (j 1).val) := fun j => ld_rd D 0 l inbD j
  have hE : ∀ j : S256x128.Idx, E ((Rect.unit (s := S288x512) ![2 + k, l] ![256, 128] inbE).idx j) = rd E (2 + k + (j 0).val) (l + (j 1).val) := fun j => ld_rd E (2 + k) l inbE j
  simp only [hD, hE, shapeCast_self]
  rw [ValueIdx.addf_apply]
  congr 1
  rw [shapeCast_apply _ h5 x (ix1 (n0 := 128) ⟨(x 1).val, (x 1).isLt⟩) (by simp [Shape.rowMajor_val_one, Shape.rowMajor_val_two, hx])]
  pointwise

/-- Stores that are all blocks of one array, and cover it, leave it. -/
theorem canon_of_pieces {s : Shape} {e : EltTy} (G : s.Idx → Elt Ideal e) (L : List (View.Piece (Elt Ideal) s e)) (h : View.PiecesOf G L) (y : s.Idx)
    (hc : ∃ p ∈ L, y ∈ p.1.set) : View.canon L y = G y :=
  View.canon_apply_of_pieces G L h.mem y hc

end Cert.Conf
-- ==== Proof.Rows.lean ====
/-  What a row of the convolution gives: the layer norm, the gate after it, and the gradient of the two at the row's cotangent. A row is a function of its column.  -/
module

public import proofs.«01_k».proof.Proof.Taps
public import proofs.«01_k».proof.Proof.Gen.KernelIdeal.Skeleton

@[expose] public section

noncomputable section

namespace Cert.Conf

open Idealize.ShloMosaic Cert.KernelIdeal Cert.KernelIdeal.Gen

/-- The number of columns, the layer norm's small constant, and −1/2, as the programs write them. -/
def width : EReal := Scalar.ofBits (F := Ideal) .f32 0x44000000#32
def small : EReal := Scalar.ofBits (F := Ideal) .f32 0x3727C5AC#32
def negHalf : EReal := Scalar.ofBits (F := Ideal) .f32 0xBF000000#32

/-- The sum over a row. -/
def sumRow (f : ℕ → EReal) : EReal := ∑ q ∈ Finset.range 512, f q

/-- The mean of a row. -/
def mean (f : ℕ → EReal) : EReal := Ideal.div (sumRow f) width

/-- The row less its mean. -/
def cent (c : ℕ → EReal) (q : ℕ) : EReal := c q - mean c
/-- The variance with the small constant added. -/
def vare (c : ℕ → EReal) : EReal := mean (fun q => cent c q * cent c q) + small
/-- One over its root. -/
def rs (c : ℕ → EReal) : EReal := Ideal.rsqrt (vare c)
/-- The normalized row. -/
def norm (c : ℕ → EReal) (q : ℕ) : EReal := cent c q * rs c
/-- The layer norm's result. -/
def lnRow (c g b : ℕ → EReal) (q : ℕ) : EReal := norm c q * g q + b q
/-- The gradient at the layer norm's result: that of `x · σ(x)`. -/
def dln (c g b t : ℕ → EReal) (q : ℕ) : EReal :=
  t q * Ideal.logistic (lnRow c g b q)
    + lnRow c g b q * t q * (Ideal.logistic (lnRow c g b q) * (1 - Ideal.logistic (lnRow c g b q)))
/-- The gradient at the normalized row. -/
def dnorm (c g b t : ℕ → EReal) (q : ℕ) : EReal := dln c g b t q * g q
/-- The gradient at the variance, divided by the width. -/
def dvar (c g b t : ℕ → EReal) : EReal :=
  Ideal.div (sumRow (fun q => cent c q * dnorm c g b t q) * (negHalf * Ideal.div (rs c) (vare c))) width
/-- The gradient at the centred row. -/
def dcent (c g b t : ℕ → EReal) (q : ℕ) : EReal :=
  dnorm c g b t q * rs c + cent c q * dvar c g b t + dvar c g b t * cent c q
/-- The gradient at the row. -/
def dconv (c g b t : ℕ → EReal) (q : ℕ) : EReal :=
  dcent c g b t q + mean (fun q => 0 - dcent c g b t q)

/-- A selection on a comparison of two words. -/
theorem sel_eq {α : Type} (v w : BitVec 32) (a b : α) : Scalar.select (Scalar.cmpi .eq v w) a b = if v = w then a else b := by
  by_cases h : v = w
  · simp [Scalar.select, Scalar.cmpi, IntOp.cmpi, h]
  · have h' : (v == w) = false := by simpa using h
    simp [Scalar.select, Scalar.cmpi, IntOp.cmpi, h, h']

theorem rd_zero {b : ℕ} (X : (⟨2, ![1, b]⟩ : Shape).Idx → EReal) (n : Fin b) : rd X 0 n = X (ix2 0 n) := rd_val X 0 n

theorem sumRow_eq (f : ℕ → EReal) : sumRow f = ∑ q : Fin 512, f q := Finset.sum_range f

variable (x2 : Vec Ideal S256x512 .f32) (x7 x8 : Vec Ideal S1x512 .f32) (x0 : Vec Ideal S256x512 .bf16)

theorem pay12 (r : Fin 256) (q : Fin 512) : k1_pay12 x2 (ix2 r q) = cent (rd x2 r) q := by
  unfold k1_pay12
  pointwise
  simp only [cent, mean, sumRow_eq, rd_val]
  rfl

theorem pay13 (r : Fin 256) (q : Fin 1) : k1_pay13 x2 (ix2 r q) = vare (rd x2 r) := by
  unfold k1_pay13
  pointwise
  simp only [pay12, vare, mean, sumRow_eq]
  rfl

theorem pay14 (r : Fin 256) (q : Fin 1) : k1_pay14 x2 (ix2 r q) = rs (rd x2 r) := by
  unfold k1_pay14
  pointwise
  rw [pay13]
  rfl

theorem pay15 (r : Fin 256) (q : Fin 1) :
    k1_pay15 x2 (ix2 r q) = negHalf * Ideal.div (rs (rd x2 r)) (vare (rd x2 r)) := by
  unfold k1_pay15
  pointwise
  rw [pay13, pay14]
  rfl

theorem pay16 (r : Fin 256) (q : Fin 512) : k1_pay16 x2 (ix2 r q) = norm (rd x2 r) q := by
  unfold k1_pay16
  pointwise
  rw [pay12, pay14]
  rfl

theorem pay17 (r : Fin 256) (q : Fin 512) :
    k1_pay17 (k1_pay10 x7) (k1_pay11 x8) (k1_pay16 x2) x0 (ix2 r q) = dln (rd x2 r) (rd x7 0) (rd x8 0) (rd x0 r) q := by
  unfold k1_pay17 k1_pay10 k1_pay11
  pointwise
  simp only [pay16, dln, lnRow, rd_val, rd_zero]

theorem pay18 (q : Fin 512) :
    k1_pay18 (k1_pay10 x7) (k1_pay11 x8) (k1_pay16 x2) x0 (ix2 0 q) = ∑ r ∈ Finset.range 256, dln (rd x2 r) (rd x7 0) (rd x8 0) (rd x0 r) q := by
  unfold k1_pay18
  pointwise
  simp only [pay17, Finset.sum_range]

theorem pay19 (q : Fin 512) :
    k1_pay19 (k1_pay10 x7) (k1_pay11 x8) (k1_pay16 x2) x0 (ix2 0 q)
      = ∑ r ∈ Finset.range 256, norm (rd x2 r) q * dln (rd x2 r) (rd x7 0) (rd x8 0) (rd x0 r) q := by
  unfold k1_pay19
  pointwise
  simp only [pay16, pay17, Finset.sum_range]

theorem pay10 (q : Fin 512) : k1_pay10 x7 (ix2 0 q) = x7 (ix2 0 q) := by
  unfold k1_pay10
  pointwise

theorem pay20 (r : Fin 256) (q : Fin 512) :
    k1_pay20 (k1_pay10 x7) (k1_pay11 x8) (k1_pay12 x2) (k1_pay14 x2) (k1_pay15 x2) (k1_pay16 x2) x0 (ix2 r q)
      = dconv (rd x2 r) (rd x7 0) (rd x8 0) (rd x0 r) q := by
  unfold k1_pay20
  pointwise
  simp only [Fin.sum_univ_one, pay10, pay12, pay14, pay15, pay17, dconv, dcent, dvar, dnorm, mean, sumRow_eq, rd_zero]
  rfl

/-! The same for the 32 rows after the block's. -/

variable (x3 : Vec Ideal S32x512 .f32) (x1 : Vec Ideal S32x512 .bf16)

theorem pay21 (r : Fin 32) (q : Fin 512) : k1_pay21 x3 (ix2 r q) = cent (rd x3 r) q := by
  unfold k1_pay21
  pointwise
  simp only [cent, mean, sumRow_eq, rd_val]
  rfl

theorem pay22 (r : Fin 32) (q : Fin 1) : k1_pay22 x3 (ix2 r q) = vare (rd x3 r) := by
  unfold k1_pay22
  pointwise
  simp only [pay21, vare, mean, sumRow_eq]
  rfl

theorem pay23 (r : Fin 32) (q : Fin 1) : k1_pay23 x3 (ix2 r q) = rs (rd x3 r) := by
  unfold k1_pay23
  pointwise
  rw [pay22]
  rfl

theorem pay24 (r : Fin 32) (q : Fin 1) :
    k1_pay24 x3 (ix2 r q) = negHalf * Ideal.div (rs (rd x3 r)) (vare (rd x3 r)) := by
  unfold k1_pay24
  pointwise
  rw [pay22, pay23]
  rfl

theorem pay25 (r : Fin 32) (q : Fin 512) :
    k1_pay25 x3 x7 x8 x1 (ix2 r q) = dnorm (rd x3 r) (rd x7 0) (rd x8 0) (rd x1 r) q := by
  unfold k1_pay25
  pointwise
  simp only [pay21, pay23, dnorm, dln, lnRow, norm, rd_val, rd_zero]

theorem pay26 (r : Fin 32) (q : Fin 1) :
    k1_pay26 x3 x7 x8 x1 (ix2 r q) = sumRow fun n => cent (rd x3 r) n * dnorm (rd x3 r) (rd x7 0) (rd x8 0) (rd x1 r) n := by
  unfold k1_pay26
  pointwise
  simp only [pay21, pay25, sumRow_eq]

theorem pay27 (r : Fin 32) (q : Fin 512) :
    k1_pay27 x3 x7 x8 x1 (ix2 r q) = dnorm (rd x3 r) (rd x7 0) (rd x8 0) (rd x1 r) q * rs (rd x3 r) := by
  unfold k1_pay27
  pointwise
  rw [pay23, pay25]

theorem pay29 (v : BitVec 32) (r : Fin 32) (q : Fin 512) :
    k1_pay29 v (k1_pay21 x3) (k1_pay24 x3) (k1_pay26 x3 x7 x8 x1) (k1_pay27 x3 x7 x8 x1) (ix2 r q)
      = if v = 15#32 then 0 else dconv (rd x3 r) (rd x7 0) (rd x8 0) (rd x1 r) q := by
  unfold k1_pay29
  pointwise
  simp only [Fin.sum_univ_one, pay21, pay24, pay26, pay27, dconv, dcent, dvar, mean, sumRow_eq]
  rw [sel_eq]
  rfl

/-! ## The gated rows -/

/-- Row `m` of the gated halves: `v · σ(gate)`. -/
def gated {n : ℕ} (X : (⟨2, ![n, 1024]⟩ : Shape).Idx → EReal) (m q : ℕ) : EReal := rd X m q * Ideal.logistic (rd X m (512 + q))

theorem pay55 (v : BitVec 32) (x5 : Vec Ideal S32x1024 .f32) (r : Fin 32) (q : Fin 512) :
    k1_pay55 v x5 (ix2 r q) = if v = 0#32 then 0 else gated x5 r q := by
  unfold k1_pay55
  pointwise
  rw [sel_eq]
  rw [gated, rd_lt x5 r.isLt (show q.val < 1024 by omega), rd_lt x5 r.isLt (show 512 + q.val < 1024 by omega)]

/-- The word that holds a grid point's number, taken modulo 16 as the programs take it. -/
def tileWord (n : ℕ) : BitVec 32 :=
  let v1 := Scalar.select (Scalar.cmpi .eq 16#32 0#32) 1#32 16#32
  let v2 := Scalar.remsi (BitVec.ofNat 32 n) v1
  Scalar.select (Scalar.andi (Scalar.xori (Scalar.cmpi .slt v2 0#32) (Scalar.cmpi .slt v1 0#32)) (Scalar.cmpi .ne v2 0#32)) (Scalar.addi v2 v1) v2

theorem tileWord_eq (n : Fin 32) : tileWord n = BitVec.ofNat 32 (n % 16) := by
  revert n
  decide +kernel

theorem tileWord_zero {n : ℕ} (h : n < 32) : tileWord n = 0#32 ↔ n % 16 = 0 := by
  have := tileWord_eq ⟨n, h⟩
  simp only at this
  rw [this, ← BitVec.toNat_inj]
  simp only [BitVec.toNat_ofNat]
  omega

theorem tileWord_last {n : ℕ} (h : n < 32) : tileWord n = 15#32 ↔ n % 16 = 15 := by
  have := tileWord_eq ⟨n, h⟩
  simp only at this
  rw [this, ← BitVec.toNat_inj]
  simp only [BitVec.toNat_ofNat]
  omega

theorem k0pay2 (i : grid0.Coords) (x5 : Vec Ideal S32x1024 .f32) (r : Fin 32) (q : Fin 512) :
    k0_pay2 i x5 (ix2 r q) = if (i 0).val % 16 = 0 then 0 else gated x5 r q := by
  unfold k0_pay2
  pointwise
  rw [sel_eq, gated, rd_lt x5 r.isLt (show q.val < 1024 by omega), rd_lt x5 r.isLt (show 512 + q.val < 1024 by omega)]
  exact if_congr (tileWord_zero (i 0).isLt) rfl rfl

theorem k0pay3 (x4 : Vec Ideal S256x1024 .f32) (inb inb') (r : Fin 256) (q : Fin 512) :
    k0_pay3 (View.ld (Val := Elt Ideal) (e' := .f32) x4 (Rect.unit (s := S256x1024) ![0, 0] S256x512.size inb))
      (View.ld (Val := Elt Ideal) (e' := .f32) x4 (Rect.unit (s := S256x1024) ![0, 512] S256x512.size inb')) (ix2 r q) = gated x4 r q := by
  unfold k0_pay3
  pointwise
  rw [gated, rd_lt x4 r.isLt (show q.val < 1024 by omega), rd_lt x4 r.isLt (show 512 + q.val < 1024 by omega)]

theorem pay57 (x4 : Vec Ideal S256x1024 .f32) (inb inb') (r : Fin 256) (q : Fin 512) :
    k1_pay57 (View.ld (Val := Elt Ideal) (e' := .f32) x4 (Rect.unit (s := S256x1024) ![0, 0] S256x512.size inb))
      (View.ld (Val := Elt Ideal) (e' := .f32) x4 (Rect.unit (s := S256x1024) ![0, 512] S256x512.size inb')) (ix2 r q) = gated x4 r q := by
  unfold k1_pay57 k1_pay56
  pointwise
  rw [gated, rd_lt x4 r.isLt (show q.val < 1024 by omega), rd_lt x4 r.isLt (show 512 + q.val < 1024 by omega)]

/-! ## The two row buffers a block's taps read -/

/-- The gated rows of a block, after the 32 rows before it (zero where the sequence starts at the block). -/
def ext (z : Prop) [Decidable z] (x4 : Vec Ideal S256x1024 .f32) (x5 : Vec Ideal S32x1024 .f32) (m q : ℕ) : EReal :=
  if m < 32 then (if z then 0 else gated x5 m q) else gated x4 (m - 32) q

/-- The gradients at a block's convolution rows, before the next 32 (zero where the sequence ends with the block). -/
def ext2 (z : Prop) [Decidable z] (x0 : Vec Ideal S256x512 .bf16) (x1 : Vec Ideal S32x512 .bf16) (x2 : Vec Ideal S256x512 .f32)
    (x3 : Vec Ideal S32x512 .f32) (x7 x8 : Vec Ideal S1x512 .f32) (m q : ℕ) : EReal :=
  if m < 256 then dconv (rd x2 m) (rd x7 0) (rd x8 0) (rd x0 m) q
  else if z then 0 else dconv (rd x3 (m - 256)) (rd x7 0) (rd x8 0) (rd x1 (m - 256)) q

end Cert.Conf
-- ==== Proof.Block0.lean ====
/-  The forward kernel's block: the convolution at an index of the block, over the two blocks of rows it reads.  -/
module
public import proofs.«01_k».proof.Proof.Gen.KernelIdeal.Frame
public import proofs.«01_k».proof.Proof.Rows
public import Idealize.ShloMosaic.Lib.Pointwise
public import Idealize.ShloMosaic.Lib.Pipeline.ReadBack
public import Idealize.ShloMosaic.Lib.Pipeline.ValueKit
@[expose] public section
noncomputable section
namespace Cert.Conf
open Idealize.ShloMosaic Cert.KernelIdeal Cert.KernelIdeal.Gen

variable (c : Dev nD) (i : grid0.Coords) (arg1 : Memref sig Kind.tc Space.vmem S256x1024 .f32) (harg1 : arg1.IsWhole) (arg2 : Memref sig Kind.tc Space.vmem S32x1024 .f32) (harg2 :
    arg2.IsWhole) (arg3 : Memref sig Kind.tc Space.vmem S31x512 .f32) (harg3 : arg3.IsWhole) (arg4 : Memref sig Kind.tc Space.vmem S1x512 .f32) (harg4 : arg4.IsWhole) (arg5 :
    Memref sig Kind.tc Space.vmem S1x512 .f32) (harg5 : arg5.IsWhole) (arg6 : Memref sig Kind.tc Space.vmem S1x512 .f32) (harg6 : arg6.IsWhole) (arg7 : Memref sig Kind.tc
    Space.vmem S256x512 .bf16) (harg7 : arg7.IsWhole) (arg8 : Memref sig Kind.tc Space.vmem S256x512 .f32) (harg8 : arg8.IsWhole) (arg9 : Memref sig Kind.tc Space.vmem
    S288x512 .f32) (harg9 : arg9.IsWhole)
    (x0 : Vec Ideal S256x1024 .f32) (x1 : Vec Ideal S32x1024 .f32) (x2 : Vec Ideal S31x512 .f32) (x3 : Vec Ideal S1x512 .f32) (x4 : Vec Ideal S1x512 .f32) (x5 : Vec Ideal S1x512 .f32)

/-- The row buffer after the block's two stores. -/
theorem ext_fwd (m : Fin 288) (q : Fin 512) :
    View.canon (kernelRun0_A.sl.HS0_2 (F := Ideal) c i arg1 harg1 arg2 harg2 x0 x1) (ix2 m q) = ext ((i 0).val % 16 = 0) x0 x1 m q := by
  unfold kernelRun0_A.sl.HS0_2
  simp (disch := decide) only [View.readAt_eq_ld, Memref.IsWhole.read_unread, View.ld_unit_lit']
  refine (canon_rows (a := 32) (b := 256) (n := 288) (w := 512) rfl _ _ _ _ m q).trans ?_
  rw [ext]
  split_ifs with h hz
  · rw [rd_lt _ h q.isLt, k0pay2, if_pos hz]
  · rw [rd_lt _ h q.isLt, k0pay2, if_neg hz]
  · rw [rd_lt _ (show m.val - 32 < 256 by omega) q.isLt, k0pay3]

/-- The convolution the block stores. -/
theorem conv_fwd (r : Fin 256) (q : Fin 512) :
    out0_A_7 c i arg1 harg1 arg2 harg2 arg3 harg3 arg4 harg4 arg5 harg5 arg6 harg6 arg7 harg7 arg8 harg8 arg9 harg9 x0 x1 x2 x3 x4 x5 (ix2 r q)
      = ∑ k ∈ Finset.range 31, rd x2 k q * ext ((i 0).val % 16 = 0) x0 x1 (2 + k + r) q + rd x3 0 q := by
  have he : ∀ k ∈ Finset.range 31, rd x2 k q * ext ((i 0).val % 16 = 0) x0 x1 (2 + k + r) q
      = rd x2 k q * rd (View.canon (kernelRun0_A.sl.HS0_2 (F := Ideal) c i arg1 harg1 arg2 harg2 x0 x1)) (2 + k + r) q := by
    intro k hk
    have hk := Finset.mem_range.mp hk
    rw [rd_lt _ (show 2 + k + r.val < 288 by omega) q.isLt, ext_fwd]
  rw [Finset.sum_congr rfl he]
  unfold out0_A_7
  rw [View.read_writes_junk_eq_canon]
  unfold kernelRun0_A
  dsimp only
  rw [View.canon_cons_unit_lit' (h := by decide)]
  simp (disch := decide) only [
    kernelRun0_A.sl.r, kernelRun0_A.sl.r_1, kernelRun0_A.sl.r_10, kernelRun0_A.sl.r_11, kernelRun0_A.sl.r_12, kernelRun0_A.sl.r_13,
    kernelRun0_A.sl.r_14, kernelRun0_A.sl.r_15, kernelRun0_A.sl.r_16, kernelRun0_A.sl.r_17, kernelRun0_A.sl.r_18, kernelRun0_A.sl.r_19,
    kernelRun0_A.sl.r_2, kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29, kernelRun0_A.sl.r_3,
    kernelRun0_A.sl.r_30, kernelRun0_A.sl.r_31, kernelRun0_A.sl.r_32, kernelRun0_A.sl.r_33, kernelRun0_A.sl.r_34, kernelRun0_A.sl.r_35,
    kernelRun0_A.sl.r_36, kernelRun0_A.sl.r_37, kernelRun0_A.sl.r_4, kernelRun0_A.sl.r_5, kernelRun0_A.sl.r_6, kernelRun0_A.sl.r_7,
    kernelRun0_A.sl.r_8, kernelRun0_A.sl.r_9, kernelRun0_A.sl.v103, kernelRun0_A.sl.v108, kernelRun0_A.sl.v113, kernelRun0_A.sl.v118,
    kernelRun0_A.sl.v123, kernelRun0_A.sl.v128, kernelRun0_A.sl.v133, kernelRun0_A.sl.v138, kernelRun0_A.sl.v143, kernelRun0_A.sl.v148,
    kernelRun0_A.sl.v153, kernelRun0_A.sl.v158, kernelRun0_A.sl.v163, kernelRun0_A.sl.v168, kernelRun0_A.sl.v173, kernelRun0_A.sl.v178,
    kernelRun0_A.sl.v183, kernelRun0_A.sl.v187, kernelRun0_A.sl.v192, kernelRun0_A.sl.v197, kernelRun0_A.sl.v202, kernelRun0_A.sl.v207,
    kernelRun0_A.sl.v212, kernelRun0_A.sl.v217, kernelRun0_A.sl.v222, kernelRun0_A.sl.v227, kernelRun0_A.sl.v232, kernelRun0_A.sl.v237,
    kernelRun0_A.sl.v242, kernelRun0_A.sl.v247, kernelRun0_A.sl.v252, kernelRun0_A.sl.v257, kernelRun0_A.sl.v262, kernelRun0_A.sl.v267,
    kernelRun0_A.sl.v272, kernelRun0_A.sl.v277, kernelRun0_A.sl.v282, kernelRun0_A.sl.v287, kernelRun0_A.sl.v29, kernelRun0_A.sl.v292,
    kernelRun0_A.sl.v297, kernelRun0_A.sl.v302, kernelRun0_A.sl.v307, kernelRun0_A.sl.v312, kernelRun0_A.sl.v317, kernelRun0_A.sl.v322,
    kernelRun0_A.sl.v327, kernelRun0_A.sl.v33, kernelRun0_A.sl.v332, kernelRun0_A.sl.v337, kernelRun0_A.sl.v341, kernelRun0_A.sl.v346,
    kernelRun0_A.sl.v351, kernelRun0_A.sl.v356, kernelRun0_A.sl.v361, kernelRun0_A.sl.v366, kernelRun0_A.sl.v371, kernelRun0_A.sl.v376,
    kernelRun0_A.sl.v38, kernelRun0_A.sl.v381, kernelRun0_A.sl.v386, kernelRun0_A.sl.v391, kernelRun0_A.sl.v396, kernelRun0_A.sl.v401,
    kernelRun0_A.sl.v406, kernelRun0_A.sl.v411, kernelRun0_A.sl.v416, kernelRun0_A.sl.v421, kernelRun0_A.sl.v426, kernelRun0_A.sl.v43,
    kernelRun0_A.sl.v431, kernelRun0_A.sl.v436, kernelRun0_A.sl.v441, kernelRun0_A.sl.v446, kernelRun0_A.sl.v451, kernelRun0_A.sl.v456,
    kernelRun0_A.sl.v461, kernelRun0_A.sl.v466, kernelRun0_A.sl.v471, kernelRun0_A.sl.v476, kernelRun0_A.sl.v48, kernelRun0_A.sl.v481,
    kernelRun0_A.sl.v486, kernelRun0_A.sl.v491, kernelRun0_A.sl.v495, kernelRun0_A.sl.v500, kernelRun0_A.sl.v505, kernelRun0_A.sl.v510,
    kernelRun0_A.sl.v515, kernelRun0_A.sl.v520, kernelRun0_A.sl.v525, kernelRun0_A.sl.v53, kernelRun0_A.sl.v530, kernelRun0_A.sl.v535,
    kernelRun0_A.sl.v540, kernelRun0_A.sl.v545, kernelRun0_A.sl.v550, kernelRun0_A.sl.v555, kernelRun0_A.sl.v560, kernelRun0_A.sl.v565,
    kernelRun0_A.sl.v570, kernelRun0_A.sl.v575, kernelRun0_A.sl.v58, kernelRun0_A.sl.v580, kernelRun0_A.sl.v585, kernelRun0_A.sl.v590,
    kernelRun0_A.sl.v595, kernelRun0_A.sl.v600, kernelRun0_A.sl.v605, kernelRun0_A.sl.v610, kernelRun0_A.sl.v615, kernelRun0_A.sl.v620,
    kernelRun0_A.sl.v625, kernelRun0_A.sl.v63, kernelRun0_A.sl.v630, kernelRun0_A.sl.v635, kernelRun0_A.sl.v640, kernelRun0_A.sl.v68,
    kernelRun0_A.sl.v73, kernelRun0_A.sl.v78, kernelRun0_A.sl.v83, kernelRun0_A.sl.v88, kernelRun0_A.sl.v93, kernelRun0_A.sl.v98,
    View.readAt_eq_ld, Memref.IsWhole.read_unread, View.ld_unit_lit', View.readCov_eq_canon']
  generalize View.canon (kernelRun0_A.sl.HS0_2 (F := Ideal) c i arg1 harg1 arg2 harg2 x0 x1) = E
  unfold k0_pay29
  rw [ValueIdx.addf_apply]
  congr 1
  · have z : ∀ a : EReal, 0 + a = a := zero_add
    refine cat4 _ _ _ _ (fun m n => ∑ k ∈ Finset.range 31, rd x2 k n * rd E (2 + k + m) n) _ _ ?_ ?_ ?_ ?_
    all_goals intro x
    all_goals simp only [
      k0_pay4, k0_pay5, k0_pay6, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28,
      ValueIdx.addf_apply, Finset.sum_range_succ, Finset.sum_range_zero, z]
    all_goals iterate 30 refine congrArg₂ HAdd.hAdd ?_ (tap _ _ _ _ _ _ _ _ _)
    all_goals exact tap _ _ _ _ _ _ _ _ _
  · pointwise
    exact (rd_zero x3 q).symm

end Cert.Conf
-- ==== Proof.Block1.lean ====
/-  The backward kernel's block: the two row buffers its taps read, at an index.  -/
module
public import proofs.«01_k».proof.Proof.Gen.KernelIdeal.Frame
public import proofs.«01_k».proof.Proof.Rows
public import Idealize.ShloMosaic.Lib.Pointwise
public import Idealize.ShloMosaic.Lib.Pipeline.ReadBack
public import Idealize.ShloMosaic.Lib.Pipeline.ValueKit
@[expose] public section
noncomputable section
namespace Cert.Conf
open Idealize.ShloMosaic Cert.KernelIdeal Cert.KernelIdeal.Gen

/-- The transposed convolution of a block's rows. -/
def dhTile (z : Prop) [Decidable z] (x0 : Vec Ideal S256x512 .bf16) (x1 : Vec Ideal S32x512 .bf16) (x2 : Vec Ideal S256x512 .f32)
    (x3 : Vec Ideal S32x512 .f32) (x6 : Vec Ideal S31x512 .f32) (x7 x8 : Vec Ideal S1x512 .f32) (m n : ℕ) : EReal :=
  ∑ k ∈ Finset.range 31, rd x6 k n * ext2 z x0 x1 x2 x3 x7 x8 (30 - k + m) n

/-- The gradient at the two halves of a block: at the value the gate's logistic, at the gate that logistic's derivative. -/
def dvgTile (z : Prop) [Decidable z] (x0 : Vec Ideal S256x512 .bf16) (x1 : Vec Ideal S32x512 .bf16) (x2 : Vec Ideal S256x512 .f32)
    (x3 : Vec Ideal S32x512 .f32) (x4 : Vec Ideal S256x1024 .f32) (x6 : Vec Ideal S31x512 .f32) (x7 x8 : Vec Ideal S1x512 .f32) (m n : ℕ) : EReal :=
  if n < 512 then dhTile z x0 x1 x2 x3 x6 x7 x8 m n * Ideal.logistic (rd x4 m (512 + n))
  else dhTile z x0 x1 x2 x3 x6 x7 x8 m (n - 512) * rd x4 m (n - 512) * Ideal.logistic (rd x4 m (512 + (n - 512)))
    * (1 - Ideal.logistic (rd x4 m (512 + (n - 512))))

/-- The two column stores of the block of the gradient at the halves. -/
theorem halves (D S V : FVec Ideal S256x512 .f32) (d s v : ℕ → ℕ → EReal) (hD : ∀ (m : Fin 256) (n : Fin 512), D (ix2 m n) = d m n)
    (hS : ∀ (m : Fin 256) (n : Fin 512), S (ix2 m n) = s m n) (hV : ∀ (m : Fin 256) (n : Fin 512), V (ix2 m n) = v m n) (inb inb') (r : Fin 256) (q : Fin 1024) :
    View.canon (Val := Elt Ideal) (s := S256x1024) (e := .bf16)
      [⟨Rect.unit (s := S256x1024) ![0, 512] S256x512.size inb, k1_pay5 D V S⟩, ⟨Rect.unit (s := S256x1024) ![0, 0] S256x512.size inb', k1_pay4 D S⟩] (ix2 r q)
      = if q.val < 512 then d r q * s r q
        else d r (q - 512) * v r (q - 512) * s r (q - 512) * (1 - s r (q - 512)) := by
  refine canon_cols (a := 512) (b := 512) (n := 1024) (w := 256) (e := .bf16) rfl _ _ (fun m n => d m n * s m n)
    (fun m n => d m n * v m n * s m n * (1 - s m n)) ?_ ?_ _ _ r q
  · intro x
    rw [eq_ix2 x]
    refine Eq.trans ?_ (congrArg₂ (· * ·) (hD (x 0) (x 1)) (hS (x 0) (x 1)))
    unfold k1_pay4
    pointwise
  · intro x
    rw [eq_ix2 x]
    refine Eq.trans ?_ (congrArg₂ (· * ·) (congrArg₂ (· * ·) (congrArg₂ (· * ·) (hD (x 0) (x 1)) (hV (x 0) (x 1))) (hS (x 0) (x 1)))
      (congrArg (fun t => 1 - t) (hS (x 0) (x 1))))
    unfold k1_pay5
    pointwise

/-- A row of sums less its start: what a block adds to a row. -/
theorem accRow (v : FVec Ideal S256x512 .f32) (u : Vec Ideal S1x512 .f32) (f : ℕ → ℕ → EReal) (h : ∀ (r : Fin 256) (q : Fin 512), v (ix2 r q) = f r q) (q : Fin 512) :
    k1_pay1 v u (ix2 0 q) = u (ix2 0 q) + ∑ r ∈ Finset.range 256, f r q := by
  unfold k1_pay1
  pointwise
  simp only [h, Finset.sum_range]

/-- The stores made so far hold the array's first `N` pieces, counted down a block of 128 columns and then over the blocks; the rest is zero. -/
def Upto (G : S31x512.Idx → EReal) (L : List (View.Piece (Elt Ideal) S31x512 .f32)) (N : ℕ) : Prop :=
  ∀ y, View.canon L y = if (y 1).val / 128 * 31 + (y 0).val < N then G y else (0 : EReal)

theorem Upto.add {G : S31x512.Idx → EReal} {L : List (View.Piece (Elt Ideal) S31x512 .f32)} {N : ℕ} (h : Upto G L N) (R : Rect S31x512) (W : R.shape.Idx → EReal)
    (key : ∀ y : S31x512.Idx, y ∈ R.set ↔ (y 1).val / 128 * 31 + (y 0).val = N) (hW : ∀ x, W x = G (R.emb x)) : Upto G (⟨R, W⟩ :: L) (N + 1) := by
  intro y
  by_cases hy : y ∈ R.set
  · rw [if_pos (by have := (key y).mp hy; omega)]
    obtain ⟨x, rfl⟩ := R.exists_idx_of_mem hy
    exact (View.canon_cons_emb R W L x).trans (hW x)
  · have : ¬((y 1).val / 128 * 31 + (y 0).val = N) := fun h => hy ((key y).mpr h)
    refine (View.canon_cons_of_not_mem ⟨R, W⟩ L hy).trans ((h y).trans ?_)
    split_ifs <;> first | rfl | omega

theorem Upto.step {G : S31x512.Idx → EReal} {L : List (View.Piece (Elt Ideal) S31x512 .f32)} {N k l : ℕ} (hl : l = 128 * (N / 31)) (hk : k = N % 31)
    (inb : ∀ i, (![k, l] : Fin 2 → ℕ) i + (![1, 128] : Fin 2 → ℕ) i ≤ S31x512.size i) (W : S1x128.Idx → EReal)
    (hW : ∀ x, View.canon L ((Rect.unit (s := S31x512) ![k, l] ![1, 128] inb).emb x) = (0 : EReal) → W x = G ((Rect.unit (s := S31x512) ![k, l] ![1, 128] inb).emb x))
    (h : Upto G L N) :
    Upto G (⟨Rect.unit (s := S31x512) ![k, l] ![1, 128] inb, W⟩ :: L) (N + 1) := by
  have h0 : ∀ y, (y 1).val / 128 * 31 + (y 0).val = N → View.canon L y = (0 : EReal) := fun y hy => by rw [h y, if_neg (by omega)]
  have key : ∀ y : S31x512.Idx, y ∈ (Rect.unit (s := S31x512) ![k, l] ![1, 128] inb).set ↔ (y 1).val / 128 * 31 + (y 0).val = N := by
    intro y
    have hy0 : (y 0).val < 31 := (y 0).isLt
    rw [Rect.mem_set_unit]
    constructor
    · intro h
      have a0 : k ≤ (y 0).val ∧ (y 0).val < k + 1 := h 0
      have a1 : l ≤ (y 1).val ∧ (y 1).val < l + 128 := h 1
      have : (y 1).val / 128 = N / 31 := by omega
      omega
    · intro h i
      have hb : (y 1).val / 128 = N / 31 := by omega
      fin_cases i
      · exact ⟨by show k ≤ (y 0).val; omega, by show (y 0).val < k + 1; omega⟩
      · exact ⟨by show l ≤ (y 1).val; omega, by show (y 1).val < l + 128; omega⟩
  refine h.add _ _ key fun x => hW x (h0 _ ?_)
  have e0 : ((Rect.unit (s := S31x512) ![k, l] ![1, 128] inb).emb x 0).val = k + (x 0).val := Rect.idx_unit_val (s := S31x512) ![k, l] ![1, 128] inb x 0
  have e1 : ((Rect.unit (s := S31x512) ![k, l] ![1, 128] inb).emb x 1).val = l + (x 1).val := Rect.idx_unit_val (s := S31x512) ![k, l] ![1, 128] inb x 1
  have hx0 : (x 0).val < 1 := (x 0).isLt
  have hx1 : (x 1).val < 128 := (x 1).isLt
  rw [e0, e1]
  omega

theorem Upto.all {G : S31x512.Idx → EReal} {L : List (View.Piece (Elt Ideal) S31x512 .f32)} (h : Upto G L 124) (k : Fin 31) (q : Fin 512) :
    View.canon L (ix2 k q) = G (ix2 k q) := by
  refine (h (ix2 k q)).trans (if_pos ?_)
  show q.val / 128 * 31 + k.val < 124
  omega

section

variable (c : Dev nD) (i : grid1.Coords) (arg1 : Memref sig Kind.tc Space.vmem S256x512 .bf16) (harg1 : arg1.IsWhole) (arg2 : Memref sig Kind.tc Space.vmem S32x512 .bf16) (harg2 :
    arg2.IsWhole) (arg3 : Memref sig Kind.tc Space.vmem S256x512 .f32) (harg3 : arg3.IsWhole) (arg4 : Memref sig Kind.tc Space.vmem S32x512 .f32) (harg4 : arg4.IsWhole) (arg5
    : Memref sig Kind.tc Space.vmem S256x1024 .f32) (harg5 : arg5.IsWhole) (arg6 : Memref sig Kind.tc Space.vmem S32x1024 .f32) (harg6 : arg6.IsWhole) (arg7 : Memref sig
    Kind.tc Space.vmem S31x512 .f32) (harg7 : arg7.IsWhole) (arg8 : Memref sig Kind.tc Space.vmem S1x512 .f32) (harg8 : arg8.IsWhole) (arg9 : Memref sig Kind.tc Space.vmem
    S1x512 .f32) (harg9 : arg9.IsWhole) (arg10 : Memref sig Kind.tc Space.vmem S256x1024 .bf16) (harg10 : arg10.IsWhole) (arg11 : Memref sig Kind.tc Space.vmem S31x512
    .f32) (harg11 : arg11.IsWhole) (arg12 : Memref sig Kind.tc Space.vmem S1x512 .f32) (harg12 : arg12.IsWhole) (arg13 : Memref sig Kind.tc Space.vmem S1x512 .f32) (harg13 :
    arg13.IsWhole) (arg14 : Memref sig Kind.tc Space.vmem S1x512 .f32) (harg14 : arg14.IsWhole) (arg15 : Memref sig Kind.tc Space.vmem S288x512 .f32) (harg15 :
    arg15.IsWhole) (arg16 : Memref sig Kind.tc Space.vmem S288x512 .f32) (harg16 : arg16.IsWhole) (hc0 : cond1_0 i)
    (x0 : Vec Ideal S256x512 .bf16) (x1 : Vec Ideal S32x512 .bf16) (x2 : Vec Ideal S256x512 .f32) (x3 : Vec Ideal S32x512 .f32) (x4 : Vec Ideal S256x1024 .f32) (x5 : Vec Ideal S32x1024 .f32) (x6 : Vec Ideal S31x512 .f32) (x7 : Vec Ideal S1x512 .f32) (x8 : Vec Ideal S1x512 .f32)

/-- The buffer of gated rows after its two stores (case A). -/
theorem ext_A (m : Fin 288) (q : Fin 512) :
    View.canon (kernelRun1_A.sl.HS0_2 (F := Ideal) c i arg5 harg5 arg6 harg6 x4 x5) (ix2 m q) = ext ((i 0).val % 16 = 0) x4 x5 m q := by
  unfold kernelRun1_A.sl.HS0_2
  simp (disch := decide) only [View.readAt_eq_ld, Memref.IsWhole.read_unread, View.ld_unit_lit']
  refine (canon_rows (a := 32) (b := 256) (n := 288) (w := 512) rfl _ _ _ _ m q).trans ?_
  rw [ext]
  split_ifs with h hz
  · rw [rd_lt _ h q.isLt, pay55]
    exact if_pos ((tileWord_zero (i 0).isLt).mpr hz)
  · rw [rd_lt _ h q.isLt, pay55]
    exact if_neg (fun h' => hz ((tileWord_zero (i 0).isLt).mp h'))
  · rw [rd_lt _ (show m.val - 32 < 256 by omega) q.isLt, pay57]

/-- The buffer of the gradients at the convolution after its two stores (case A). -/
theorem ext2_A (m : Fin 288) (q : Fin 512) :
    View.canon (kernelRun1_A.sl.HS1_2 (F := Ideal) c i arg1 harg1 arg2 harg2 arg3 harg3 arg4 harg4 arg8 harg8 arg9 harg9 x0 x1 x2 x3 x7 x8) (ix2 m q)
      = ext2 ((i 0).val % 16 = 15) x0 x1 x2 x3 x7 x8 m q := by
  unfold kernelRun1_A.sl.HS1_2
  simp (disch := decide) only [kernelRun1_A.sl.v9, kernelRun1_A.sl.v7, kernelRun1_A.sl.v6, kernelRun1_A.sl.v4,
    kernelRun1_A.sl.v2, kernelRun1_A.sl.v3, kernelRun1_A.sl.v8, kernelRun1_A.sl.r_9, View.readAt_eq_ld,
    Memref.IsWhole.read_unread, View.ld_unit_lit', kernelRun1_A.sl.r_10, kernelRun1_A.sl.r_11, kernelRun1_A.sl.r_12,
    k1_pay28, kernelRun1_A.sl.r_8, kernelRun1_A.sl.r, kernelRun1_A.sl.r_1, kernelRun1_A.sl.r_2, kernelRun1_A.sl.r_3,
    kernelRun1_A.sl.r_4, kernelRun1_A.sl.r_5, shapeCast_self]
  refine (canon_rows (a := 256) (b := 32) (n := 288) (w := 512) rfl _ _ _ _ m q).trans ?_
  rw [ext2]
  split_ifs with h hz
  · rw [rd_lt _ h q.isLt, pay20]
  · rw [rd_lt _ (show m.val - 256 < 32 by omega) q.isLt, pay29]
    exact if_pos ((tileWord_last (i 0).isLt).mpr hz)
  · rw [rd_lt _ (show m.val - 256 < 32 by omega) q.isLt, pay29]
    exact if_neg (fun h' => hz ((tileWord_last (i 0).isLt).mp h'))

/-- The block of the gradient at the two halves (case A). -/
theorem dvg_A (r : Fin 256) (q : Fin 1024) :
    out1_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 r q) = dvgTile ((i 0).val % 16 = 15) x0 x1 x2 x3 x4 x6 x7 x8 r q := by
  have hE : ∀ m n : ℕ, n < 512 → rd (View.canon (kernelRun1_A.sl.HS1_2 (F := Ideal) c i arg1 harg1 arg2 harg2 arg3 harg3 arg4 harg4 arg8 harg8 arg9 harg9 x0 x1 x2 x3 x7 x8)) m n
      = if m < 288 then ext2 ((i 0).val % 16 = 15) x0 x1 x2 x3 x7 x8 m n else 0 := by
    intro m n hn
    split_ifs with hm
    · rw [rd_lt _ hm hn, ext2_A]
    · rw [rd, dif_neg (fun h => hm h.1)]
  unfold out1_A_9
  rw [View.read_writes_junk_eq_canon]
  unfold kernelRun1_A
  dsimp only
  simp (disch := decide) only [kernelRun1_A.sl.r_47, kernelRun1_A.sl.r_21, kernelRun1_A.sl.r_19,
    kernelRun1_A.sl.r_18, kernelRun1_A.sl.r_16, kernelRun1_A.sl.r_14, kernelRun1_A.sl.r_13, View.readAt_eq_ld,
    Memref.IsWhole.read_unread, kernelRun1_A.sl.v160, View.readCov_eq_canon', kernelRun1_A.sl.v164,
    kernelRun1_A.sl.v169, kernelRun1_A.sl.v174, kernelRun1_A.sl.v179, kernelRun1_A.sl.v184, kernelRun1_A.sl.v189,
    kernelRun1_A.sl.v194, kernelRun1_A.sl.r_15, kernelRun1_A.sl.v199, kernelRun1_A.sl.v204, kernelRun1_A.sl.v209,
    kernelRun1_A.sl.v214, kernelRun1_A.sl.v219, kernelRun1_A.sl.v224, kernelRun1_A.sl.v229, kernelRun1_A.sl.r_17,
    kernelRun1_A.sl.v234, kernelRun1_A.sl.v239, kernelRun1_A.sl.v244, kernelRun1_A.sl.v249, kernelRun1_A.sl.v254,
    kernelRun1_A.sl.v259, kernelRun1_A.sl.v264, kernelRun1_A.sl.v269, kernelRun1_A.sl.v274, kernelRun1_A.sl.v279,
    kernelRun1_A.sl.v284, kernelRun1_A.sl.v289, kernelRun1_A.sl.v294, kernelRun1_A.sl.r_20, kernelRun1_A.sl.v299,
    kernelRun1_A.sl.v304, kernelRun1_A.sl.v309, kernelRun1_A.sl.r_29, kernelRun1_A.sl.r_27, kernelRun1_A.sl.r_25,
    kernelRun1_A.sl.r_24, kernelRun1_A.sl.r_22, kernelRun1_A.sl.v314, kernelRun1_A.sl.v318, kernelRun1_A.sl.v323,
    kernelRun1_A.sl.v328, kernelRun1_A.sl.r_23, kernelRun1_A.sl.v333, kernelRun1_A.sl.v338, kernelRun1_A.sl.v343,
    kernelRun1_A.sl.v348, kernelRun1_A.sl.v353, kernelRun1_A.sl.v358, kernelRun1_A.sl.v363, kernelRun1_A.sl.v368,
    kernelRun1_A.sl.v373, kernelRun1_A.sl.v378, kernelRun1_A.sl.v383, kernelRun1_A.sl.v388, kernelRun1_A.sl.v393,
    kernelRun1_A.sl.v398, kernelRun1_A.sl.r_26, kernelRun1_A.sl.v403, kernelRun1_A.sl.v408, kernelRun1_A.sl.v413,
    kernelRun1_A.sl.v418, kernelRun1_A.sl.v423, kernelRun1_A.sl.v428, kernelRun1_A.sl.r_28, kernelRun1_A.sl.v433,
    kernelRun1_A.sl.v438, kernelRun1_A.sl.v443, kernelRun1_A.sl.v448, kernelRun1_A.sl.v453, kernelRun1_A.sl.v458,
    kernelRun1_A.sl.v463, kernelRun1_A.sl.r_37, kernelRun1_A.sl.r_35, kernelRun1_A.sl.r_34, kernelRun1_A.sl.r_32,
    kernelRun1_A.sl.r_30, kernelRun1_A.sl.v468, kernelRun1_A.sl.v472, kernelRun1_A.sl.v477, kernelRun1_A.sl.v482,
    kernelRun1_A.sl.v487, kernelRun1_A.sl.v492, kernelRun1_A.sl.r_31, kernelRun1_A.sl.v497, kernelRun1_A.sl.v502,
    kernelRun1_A.sl.v507, kernelRun1_A.sl.v512, kernelRun1_A.sl.v517, kernelRun1_A.sl.v522, kernelRun1_A.sl.v527,
    kernelRun1_A.sl.r_33, kernelRun1_A.sl.v532, kernelRun1_A.sl.v537, kernelRun1_A.sl.v542, kernelRun1_A.sl.v547,
    kernelRun1_A.sl.v552, kernelRun1_A.sl.v557, kernelRun1_A.sl.v562, kernelRun1_A.sl.v567, kernelRun1_A.sl.v572,
    kernelRun1_A.sl.v577, kernelRun1_A.sl.v582, kernelRun1_A.sl.v587, kernelRun1_A.sl.v592, kernelRun1_A.sl.r_36,
    kernelRun1_A.sl.v597, kernelRun1_A.sl.v602, kernelRun1_A.sl.v607, kernelRun1_A.sl.v612, kernelRun1_A.sl.v617,
    kernelRun1_A.sl.r_45, kernelRun1_A.sl.r_43, kernelRun1_A.sl.r_42, kernelRun1_A.sl.r_40, kernelRun1_A.sl.r_38,
    kernelRun1_A.sl.v622, kernelRun1_A.sl.v626, kernelRun1_A.sl.r_39, kernelRun1_A.sl.v631, kernelRun1_A.sl.v636,
    kernelRun1_A.sl.v641, kernelRun1_A.sl.v646, kernelRun1_A.sl.v651, kernelRun1_A.sl.v656, kernelRun1_A.sl.v661,
    kernelRun1_A.sl.r_41, kernelRun1_A.sl.v666, kernelRun1_A.sl.v671, kernelRun1_A.sl.v676, kernelRun1_A.sl.v681,
    kernelRun1_A.sl.v686, kernelRun1_A.sl.v691, kernelRun1_A.sl.v696, kernelRun1_A.sl.v701, kernelRun1_A.sl.v706,
    kernelRun1_A.sl.v711, kernelRun1_A.sl.v716, kernelRun1_A.sl.v721, kernelRun1_A.sl.v726, kernelRun1_A.sl.r_44,
    kernelRun1_A.sl.v731, kernelRun1_A.sl.v736, kernelRun1_A.sl.v741, kernelRun1_A.sl.v746, kernelRun1_A.sl.v751,
    kernelRun1_A.sl.v756, kernelRun1_A.sl.v761, kernelRun1_A.sl.r_46, kernelRun1_A.sl.v766, kernelRun1_A.sl.v771,
    kernelRun1_A.sl.r_48, kernelRun1_A.sl.r_49]
  generalize View.canon (kernelRun1_A.sl.HS1_2 (F := Ideal) c i arg1 harg1 arg2 harg2 arg3 harg3 arg4 harg4 arg8 harg8 arg9 harg9 x0 x1 x2 x3 x7 x8) = E at hE ⊢
  refine (halves _ _ _ (fun m n => ∑ k ∈ Finset.range 31, rd x6 k n * rd E (30 - k + m) n) (fun m n => Ideal.logistic (rd x4 m (512 + n))) (rd x4)
    ?_ ?_ ?_ _ _ r q).trans ?_
  · intro m n
    have z : ∀ a : EReal, 0 + a = a := zero_add
    unfold k1_pay54
    refine cat4 _ _ _ _ (fun m n => ∑ k ∈ Finset.range 31, rd x6 k n * rd E (30 - k + m) n) _ _ ?_ ?_ ?_ ?_
    all_goals intro x
    all_goals simp only [
      k1_pay30, k1_pay31, k1_pay32, k1_pay33, k1_pay34, k1_pay35, k1_pay36, k1_pay37, k1_pay38, k1_pay39, k1_pay40, k1_pay41, k1_pay42, k1_pay43,
      k1_pay44, k1_pay45, k1_pay46, k1_pay47, k1_pay48, k1_pay49, k1_pay50, k1_pay51, k1_pay52, k1_pay53,
      ValueIdx.addf_apply, Finset.sum_range_succ, Finset.sum_range_zero, z]
    all_goals iterate 30 refine congrArg₂ HAdd.hAdd ?_ (tap _ _ _ _ _ _ _ _ _)
    all_goals exact tap _ _ _ _ _ _ _ _ _
  · intro m n
    unfold k1_pay56
    pointwise
    rw [rd_lt x4 m.isLt (show 512 + n.val < 1024 by omega)]
  · intro m n
    rw [rd_lt x4 m.isLt (show n.val < 1024 by omega)]
    pointwise
  · have e : ∀ n : ℕ, n < 512 → (∑ k ∈ Finset.range 31, rd x6 k n * rd E (30 - k + r) n) = dhTile ((i 0).val % 16 = 15) x0 x1 x2 x3 x6 x7 x8 r n := by
      intro n hn
      refine Finset.sum_congr rfl fun k hk => ?_
      rw [hE _ _ hn, if_pos (by omega)]
    rw [dvgTile]
    split_ifs with h
    · rw [e _ h]
    · rw [e _ (by omega)]

/-- The block of `db` (case A). -/
theorem db_A (q : Fin 512) :
    out1_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 0 q)
      = 0 + ∑ r ∈ Finset.range 256, dconv (rd x2 r) (rd x7 0) (rd x8 0) (rd x0 r) q := by
  unfold out1_A_11
  rw [View.read_writes_junk_eq_canon]
  unfold kernelRun1_A
  dsimp only
  rw [View.canon_cons_unit_lit' (h := by decide)]
  simp (disch := decide) only [kernelRun1_A.sl.r_8, kernelRun1_A.sl.r, View.readAt_eq_ld, Memref.IsWhole.read_unread,
    View.ld_unit_lit', kernelRun1_A.sl.r_1, kernelRun1_A.sl.r_2, kernelRun1_A.sl.r_3, kernelRun1_A.sl.r_4,
    kernelRun1_A.sl.r_5, kernelRun1_A.sl.v1790, kernelRun1_A.sl.H11_1, k1_pay7, View.readCov_cons_toLoadRect]
  refine (accRow _ _ (fun r q => dconv (rd x2 r) (rd x7 0) (rd x8 0) (rd x0 r) q) (fun r q => pay20 x2 x7 x8 x0 r q) q).trans ?_
  refine congrArg₂ HAdd.hAdd ?_ rfl
  pointwise

/-- The block of `dlng` (case A). -/
theorem dlng_A (q : Fin 512) :
    out1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 0 q)
      = 0 + ∑ r ∈ Finset.range 256, norm (rd x2 r) q * dln (rd x2 r) (rd x7 0) (rd x8 0) (rd x0 r) q := by
  unfold out1_A_12
  rw [View.read_writes_junk_eq_canon]
  unfold kernelRun1_A
  dsimp only
  rw [View.canon_cons_unit_lit' (h := by decide)]
  simp (disch := decide) only [kernelRun1_A.sl.r_7, kernelRun1_A.sl.r, View.readAt_eq_ld, Memref.IsWhole.read_unread,
    View.ld_unit_lit', kernelRun1_A.sl.r_1, kernelRun1_A.sl.r_5, kernelRun1_A.sl.v1796, kernelRun1_A.sl.H12_1,
    k1_pay8, View.readCov_cons_toLoadRect]
  unfold k1_pay2
  rw [ValueIdx.addf_apply, shapeCast_self, pay19]
  refine congrArg₂ HAdd.hAdd ?_ rfl
  pointwise

/-- The block of `dlnb` (case A). -/
theorem dlnb_A (q : Fin 512) :
    out1_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 0 q)
      = 0 + ∑ r ∈ Finset.range 256, dln (rd x2 r) (rd x7 0) (rd x8 0) (rd x0 r) q := by
  unfold out1_A_13
  rw [View.read_writes_junk_eq_canon]
  unfold kernelRun1_A
  dsimp only
  rw [View.canon_cons_unit_lit' (h := by decide)]
  simp (disch := decide) only [kernelRun1_A.sl.r_6, kernelRun1_A.sl.r, View.readAt_eq_ld, Memref.IsWhole.read_unread,
    View.ld_unit_lit', kernelRun1_A.sl.r_1, kernelRun1_A.sl.r_5, kernelRun1_A.sl.v1800, kernelRun1_A.sl.H13_1,
    k1_pay9, View.readCov_cons_toLoadRect]
  unfold k1_pay3
  rw [ValueIdx.addf_apply, shapeCast_self, pay18]
  refine congrArg₂ HAdd.hAdd ?_ rfl
  pointwise

end

section

variable (c : Dev nD) (i : grid1.Coords) (arg1 : Memref sig Kind.tc Space.vmem S256x512 .bf16) (harg1 : arg1.IsWhole) (arg2 : Memref sig Kind.tc Space.vmem S32x512 .bf16) (harg2 :
    arg2.IsWhole) (arg3 : Memref sig Kind.tc Space.vmem S256x512 .f32) (harg3 : arg3.IsWhole) (arg4 : Memref sig Kind.tc Space.vmem S32x512 .f32) (harg4 : arg4.IsWhole) (arg5
    : Memref sig Kind.tc Space.vmem S256x1024 .f32) (harg5 : arg5.IsWhole) (arg6 : Memref sig Kind.tc Space.vmem S32x1024 .f32) (harg6 : arg6.IsWhole) (arg7 : Memref sig
    Kind.tc Space.vmem S31x512 .f32) (harg7 : arg7.IsWhole) (arg8 : Memref sig Kind.tc Space.vmem S1x512 .f32) (harg8 : arg8.IsWhole) (arg9 : Memref sig Kind.tc Space.vmem
    S1x512 .f32) (harg9 : arg9.IsWhole) (arg10 : Memref sig Kind.tc Space.vmem S256x1024 .bf16) (harg10 : arg10.IsWhole) (arg11 : Memref sig Kind.tc Space.vmem S31x512
    .f32) (harg11 : arg11.IsWhole) (arg12 : Memref sig Kind.tc Space.vmem S1x512 .f32) (harg12 : arg12.IsWhole) (arg13 : Memref sig Kind.tc Space.vmem S1x512 .f32) (harg13 :
    arg13.IsWhole) (arg14 : Memref sig Kind.tc Space.vmem S1x512 .f32) (harg14 : arg14.IsWhole) (arg15 : Memref sig Kind.tc Space.vmem S288x512 .f32) (harg15 :
    arg15.IsWhole) (arg16 : Memref sig Kind.tc Space.vmem S288x512 .f32) (harg16 : arg16.IsWhole) (hc0 : ¬cond1_0 i)
    (x0 : Vec Ideal S256x512 .bf16) (x1 : Vec Ideal S32x512 .bf16) (x2 : Vec Ideal S256x512 .f32) (x3 : Vec Ideal S32x512 .f32) (x4 : Vec Ideal S256x1024 .f32) (x5 : Vec Ideal S32x1024 .f32) (x6 : Vec Ideal S31x512 .f32) (x7 : Vec Ideal S1x512 .f32) (x8 : Vec Ideal S1x512 .f32) (xo10 : Vec Ideal S31x512 .f32) (xo11 : Vec Ideal S1x512 .f32) (xo12 : Vec Ideal S1x512 .f32) (xo13 : Vec Ideal S1x512 .f32)

/-- The buffer of gated rows after its two stores (case B). -/
theorem ext_B (m : Fin 288) (q : Fin 512) :
    View.canon (kernelRun1_B.sl.HS0_2 (F := Ideal) c i arg5 harg5 arg6 harg6 x4 x5) (ix2 m q) = ext ((i 0).val % 16 = 0) x4 x5 m q := by
  unfold kernelRun1_B.sl.HS0_2
  simp (disch := decide) only [View.readAt_eq_ld, Memref.IsWhole.read_unread, View.ld_unit_lit']
  refine (canon_rows (a := 32) (b := 256) (n := 288) (w := 512) rfl _ _ _ _ m q).trans ?_
  rw [ext]
  split_ifs with h hz
  · rw [rd_lt _ h q.isLt, pay55]
    exact if_pos ((tileWord_zero (i 0).isLt).mpr hz)
  · rw [rd_lt _ h q.isLt, pay55]
    exact if_neg (fun h' => hz ((tileWord_zero (i 0).isLt).mp h'))
  · rw [rd_lt _ (show m.val - 32 < 256 by omega) q.isLt, pay57]

/-- The buffer of the gradients at the convolution after its two stores (case B). -/
theorem ext2_B (m : Fin 288) (q : Fin 512) :
    View.canon (kernelRun1_B.sl.HS1_2 (F := Ideal) c i arg1 harg1 arg2 harg2 arg3 harg3 arg4 harg4 arg8 harg8 arg9 harg9 x0 x1 x2 x3 x7 x8) (ix2 m q)
      = ext2 ((i 0).val % 16 = 15) x0 x1 x2 x3 x7 x8 m q := by
  unfold kernelRun1_B.sl.HS1_2
  simp (disch := decide) only [kernelRun1_B.sl.v9, kernelRun1_B.sl.v7, kernelRun1_B.sl.v6, kernelRun1_B.sl.v4,
    kernelRun1_B.sl.v2, kernelRun1_B.sl.v3, kernelRun1_B.sl.v8, kernelRun1_B.sl.r_9, View.readAt_eq_ld,
    Memref.IsWhole.read_unread, View.ld_unit_lit', kernelRun1_B.sl.r_10, kernelRun1_B.sl.r_11, kernelRun1_B.sl.r_12,
    k1_pay28, kernelRun1_B.sl.r_8, kernelRun1_B.sl.r, kernelRun1_B.sl.r_1, kernelRun1_B.sl.r_2, kernelRun1_B.sl.r_3,
    kernelRun1_B.sl.r_4, kernelRun1_B.sl.r_5, shapeCast_self]
  refine (canon_rows (a := 256) (b := 32) (n := 288) (w := 512) rfl _ _ _ _ m q).trans ?_
  rw [ext2]
  split_ifs with h hz
  · rw [rd_lt _ h q.isLt, pay20]
  · rw [rd_lt _ (show m.val - 256 < 32 by omega) q.isLt, pay29]
    exact if_pos ((tileWord_last (i 0).isLt).mpr hz)
  · rw [rd_lt _ (show m.val - 256 < 32 by omega) q.isLt, pay29]
    exact if_neg (fun h' => hz ((tileWord_last (i 0).isLt).mp h'))

/-- The block of the gradient at the two halves (case B). -/
theorem dvg_B (r : Fin 256) (q : Fin 1024) :
    out1_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 (ix2 r q) = dvgTile ((i 0).val % 16 = 15) x0 x1 x2 x3 x4 x6 x7 x8 r q := by
  have hE : ∀ m n : ℕ, n < 512 → rd (View.canon (kernelRun1_B.sl.HS1_2 (F := Ideal) c i arg1 harg1 arg2 harg2 arg3 harg3 arg4 harg4 arg8 harg8 arg9 harg9 x0 x1 x2 x3 x7 x8)) m n
      = if m < 288 then ext2 ((i 0).val % 16 = 15) x0 x1 x2 x3 x7 x8 m n else 0 := by
    intro m n hn
    split_ifs with hm
    · rw [rd_lt _ hm hn, ext2_B]
    · rw [rd, dif_neg (fun h => hm h.1)]
  unfold out1_B_9
  rw [View.read_writes_junk_eq_canon]
  unfold kernelRun1_B
  dsimp only
  simp (disch := decide) only [kernelRun1_B.sl.r_47, kernelRun1_B.sl.r_21, kernelRun1_B.sl.r_19,
    kernelRun1_B.sl.r_18, kernelRun1_B.sl.r_16, kernelRun1_B.sl.r_14, kernelRun1_B.sl.r_13, View.readAt_eq_ld,
    Memref.IsWhole.read_unread, kernelRun1_B.sl.v160, View.readCov_eq_canon', kernelRun1_B.sl.v164,
    kernelRun1_B.sl.v169, kernelRun1_B.sl.v174, kernelRun1_B.sl.v179, kernelRun1_B.sl.v184, kernelRun1_B.sl.v189,
    kernelRun1_B.sl.v194, kernelRun1_B.sl.r_15, kernelRun1_B.sl.v199, kernelRun1_B.sl.v204, kernelRun1_B.sl.v209,
    kernelRun1_B.sl.v214, kernelRun1_B.sl.v219, kernelRun1_B.sl.v224, kernelRun1_B.sl.v229, kernelRun1_B.sl.r_17,
    kernelRun1_B.sl.v234, kernelRun1_B.sl.v239, kernelRun1_B.sl.v244, kernelRun1_B.sl.v249, kernelRun1_B.sl.v254,
    kernelRun1_B.sl.v259, kernelRun1_B.sl.v264, kernelRun1_B.sl.v269, kernelRun1_B.sl.v274, kernelRun1_B.sl.v279,
    kernelRun1_B.sl.v284, kernelRun1_B.sl.v289, kernelRun1_B.sl.v294, kernelRun1_B.sl.r_20, kernelRun1_B.sl.v299,
    kernelRun1_B.sl.v304, kernelRun1_B.sl.v309, kernelRun1_B.sl.r_29, kernelRun1_B.sl.r_27, kernelRun1_B.sl.r_25,
    kernelRun1_B.sl.r_24, kernelRun1_B.sl.r_22, kernelRun1_B.sl.v314, kernelRun1_B.sl.v318, kernelRun1_B.sl.v323,
    kernelRun1_B.sl.v328, kernelRun1_B.sl.r_23, kernelRun1_B.sl.v333, kernelRun1_B.sl.v338, kernelRun1_B.sl.v343,
    kernelRun1_B.sl.v348, kernelRun1_B.sl.v353, kernelRun1_B.sl.v358, kernelRun1_B.sl.v363, kernelRun1_B.sl.v368,
    kernelRun1_B.sl.v373, kernelRun1_B.sl.v378, kernelRun1_B.sl.v383, kernelRun1_B.sl.v388, kernelRun1_B.sl.v393,
    kernelRun1_B.sl.v398, kernelRun1_B.sl.r_26, kernelRun1_B.sl.v403, kernelRun1_B.sl.v408, kernelRun1_B.sl.v413,
    kernelRun1_B.sl.v418, kernelRun1_B.sl.v423, kernelRun1_B.sl.v428, kernelRun1_B.sl.r_28, kernelRun1_B.sl.v433,
    kernelRun1_B.sl.v438, kernelRun1_B.sl.v443, kernelRun1_B.sl.v448, kernelRun1_B.sl.v453, kernelRun1_B.sl.v458,
    kernelRun1_B.sl.v463, kernelRun1_B.sl.r_37, kernelRun1_B.sl.r_35, kernelRun1_B.sl.r_34, kernelRun1_B.sl.r_32,
    kernelRun1_B.sl.r_30, kernelRun1_B.sl.v468, kernelRun1_B.sl.v472, kernelRun1_B.sl.v477, kernelRun1_B.sl.v482,
    kernelRun1_B.sl.v487, kernelRun1_B.sl.v492, kernelRun1_B.sl.r_31, kernelRun1_B.sl.v497, kernelRun1_B.sl.v502,
    kernelRun1_B.sl.v507, kernelRun1_B.sl.v512, kernelRun1_B.sl.v517, kernelRun1_B.sl.v522, kernelRun1_B.sl.v527,
    kernelRun1_B.sl.r_33, kernelRun1_B.sl.v532, kernelRun1_B.sl.v537, kernelRun1_B.sl.v542, kernelRun1_B.sl.v547,
    kernelRun1_B.sl.v552, kernelRun1_B.sl.v557, kernelRun1_B.sl.v562, kernelRun1_B.sl.v567, kernelRun1_B.sl.v572,
    kernelRun1_B.sl.v577, kernelRun1_B.sl.v582, kernelRun1_B.sl.v587, kernelRun1_B.sl.v592, kernelRun1_B.sl.r_36,
    kernelRun1_B.sl.v597, kernelRun1_B.sl.v602, kernelRun1_B.sl.v607, kernelRun1_B.sl.v612, kernelRun1_B.sl.v617,
    kernelRun1_B.sl.r_45, kernelRun1_B.sl.r_43, kernelRun1_B.sl.r_42, kernelRun1_B.sl.r_40, kernelRun1_B.sl.r_38,
    kernelRun1_B.sl.v622, kernelRun1_B.sl.v626, kernelRun1_B.sl.r_39, kernelRun1_B.sl.v631, kernelRun1_B.sl.v636,
    kernelRun1_B.sl.v641, kernelRun1_B.sl.v646, kernelRun1_B.sl.v651, kernelRun1_B.sl.v656, kernelRun1_B.sl.v661,
    kernelRun1_B.sl.r_41, kernelRun1_B.sl.v666, kernelRun1_B.sl.v671, kernelRun1_B.sl.v676, kernelRun1_B.sl.v681,
    kernelRun1_B.sl.v686, kernelRun1_B.sl.v691, kernelRun1_B.sl.v696, kernelRun1_B.sl.v701, kernelRun1_B.sl.v706,
    kernelRun1_B.sl.v711, kernelRun1_B.sl.v716, kernelRun1_B.sl.v721, kernelRun1_B.sl.v726, kernelRun1_B.sl.r_44,
    kernelRun1_B.sl.v731, kernelRun1_B.sl.v736, kernelRun1_B.sl.v741, kernelRun1_B.sl.v746, kernelRun1_B.sl.v751,
    kernelRun1_B.sl.v756, kernelRun1_B.sl.v761, kernelRun1_B.sl.r_46, kernelRun1_B.sl.v766, kernelRun1_B.sl.v771,
    kernelRun1_B.sl.r_48, kernelRun1_B.sl.r_49]
  generalize View.canon (kernelRun1_B.sl.HS1_2 (F := Ideal) c i arg1 harg1 arg2 harg2 arg3 harg3 arg4 harg4 arg8 harg8 arg9 harg9 x0 x1 x2 x3 x7 x8) = E at hE ⊢
  refine (halves _ _ _ (fun m n => ∑ k ∈ Finset.range 31, rd x6 k n * rd E (30 - k + m) n) (fun m n => Ideal.logistic (rd x4 m (512 + n))) (rd x4)
    ?_ ?_ ?_ _ _ r q).trans ?_
  · intro m n
    have z : ∀ a : EReal, 0 + a = a := zero_add
    unfold k1_pay54
    refine cat4 _ _ _ _ (fun m n => ∑ k ∈ Finset.range 31, rd x6 k n * rd E (30 - k + m) n) _ _ ?_ ?_ ?_ ?_
    all_goals intro x
    all_goals simp only [
      k1_pay30, k1_pay31, k1_pay32, k1_pay33, k1_pay34, k1_pay35, k1_pay36, k1_pay37, k1_pay38, k1_pay39, k1_pay40, k1_pay41, k1_pay42, k1_pay43,
      k1_pay44, k1_pay45, k1_pay46, k1_pay47, k1_pay48, k1_pay49, k1_pay50, k1_pay51, k1_pay52, k1_pay53,
      ValueIdx.addf_apply, Finset.sum_range_succ, Finset.sum_range_zero, z]
    all_goals iterate 30 refine congrArg₂ HAdd.hAdd ?_ (tap _ _ _ _ _ _ _ _ _)
    all_goals exact tap _ _ _ _ _ _ _ _ _
  · intro m n
    unfold k1_pay56
    pointwise
    rw [rd_lt x4 m.isLt (show 512 + n.val < 1024 by omega)]
  · intro m n
    rw [rd_lt x4 m.isLt (show n.val < 1024 by omega)]
    pointwise
  · have e : ∀ n : ℕ, n < 512 → (∑ k ∈ Finset.range 31, rd x6 k n * rd E (30 - k + r) n) = dhTile ((i 0).val % 16 = 15) x0 x1 x2 x3 x6 x7 x8 r n := by
      intro n hn
      refine Finset.sum_congr rfl fun k hk => ?_
      rw [hE _ _ hn, if_pos (by omega)]
    rw [dvgTile]
    split_ifs with h
    · rw [e _ h]
    · rw [e _ (by omega)]

/-- The block of `db` (case B). -/
theorem db_B (q : Fin 512) :
    out1_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 (ix2 0 q)
      = xo11 (ix2 0 q) + ∑ r ∈ Finset.range 256, dconv (rd x2 r) (rd x7 0) (rd x8 0) (rd x0 r) q := by
  unfold out1_B_11
  rw [View.read_writes_junk_eq_canon]
  unfold kernelRun1_B
  dsimp only
  rw [View.canon_cons_unit_lit' (h := by decide)]
  simp (disch := decide) only [kernelRun1_B.sl.r_8, kernelRun1_B.sl.r, View.readAt_eq_ld, Memref.IsWhole.read_unread,
    View.ld_unit_lit', kernelRun1_B.sl.r_1, kernelRun1_B.sl.r_2, kernelRun1_B.sl.r_3, kernelRun1_B.sl.r_4,
    kernelRun1_B.sl.r_5]
  refine (accRow _ _ (fun r q => dconv (rd x2 r) (rd x7 0) (rd x8 0) (rd x0 r) q) (fun r q => pay20 x2 x7 x8 x0 r q) q).trans ?_
  rfl

/-- The block of `dlng` (case B). -/
theorem dlng_B (q : Fin 512) :
    out1_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 (ix2 0 q)
      = xo12 (ix2 0 q) + ∑ r ∈ Finset.range 256, norm (rd x2 r) q * dln (rd x2 r) (rd x7 0) (rd x8 0) (rd x0 r) q := by
  unfold out1_B_12
  rw [View.read_writes_junk_eq_canon]
  unfold kernelRun1_B
  dsimp only
  rw [View.canon_cons_unit_lit' (h := by decide)]
  simp (disch := decide) only [kernelRun1_B.sl.r_7, kernelRun1_B.sl.r, View.readAt_eq_ld, Memref.IsWhole.read_unread,
    View.ld_unit_lit', kernelRun1_B.sl.r_1, kernelRun1_B.sl.r_5]
  unfold k1_pay2
  rw [ValueIdx.addf_apply, shapeCast_self, pay19]

/-- The block of `dlnb` (case B). -/
theorem dlnb_B (q : Fin 512) :
    out1_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 (ix2 0 q)
      = xo13 (ix2 0 q) + ∑ r ∈ Finset.range 256, dln (rd x2 r) (rd x7 0) (rd x8 0) (rd x0 r) q := by
  unfold out1_B_13
  rw [View.read_writes_junk_eq_canon]
  unfold kernelRun1_B
  dsimp only
  rw [View.canon_cons_unit_lit' (h := by decide)]
  simp (disch := decide) only [kernelRun1_B.sl.r_6, kernelRun1_B.sl.r, View.readAt_eq_ld, Memref.IsWhole.read_unread,
    View.ld_unit_lit', kernelRun1_B.sl.r_1, kernelRun1_B.sl.r_5]
  unfold k1_pay3
  rw [ValueIdx.addf_apply, shapeCast_self, pay18]

end

end Cert.Conf
-- ==== Proof.Block2.lean ====
/-  The backward kernel's block: the gradient at the weights, at an index.  -/
module
public import proofs.«01_k».proof.Proof.Gen.KernelIdeal.Frame
public import proofs.«01_k».proof.Proof.Block1
public import Idealize.ShloMosaic.Lib.Pointwise
public import Idealize.ShloMosaic.Lib.Pipeline.ReadBack
public import Idealize.ShloMosaic.Lib.Pipeline.ValueKit
@[expose] public section
noncomputable section
namespace Cert.Conf
open Idealize.ShloMosaic Cert.KernelIdeal Cert.KernelIdeal.Gen

/-- What a block's rows add to the gradient at the weights. -/
def dwTile (z z' : Prop) [Decidable z] [Decidable z'] (x0 : Vec Ideal S256x512 .bf16) (x1 : Vec Ideal S32x512 .bf16) (x2 : Vec Ideal S256x512 .f32)
    (x3 : Vec Ideal S32x512 .f32) (x4 : Vec Ideal S256x1024 .f32) (x5 : Vec Ideal S32x1024 .f32) (x7 x8 : Vec Ideal S1x512 .f32) (k q : ℕ) : EReal :=
  ∑ r ∈ Finset.range 256, ext2 z x0 x1 x2 x3 x7 x8 r q * ext z' x4 x5 (2 + k + r) q

section

variable (c : Dev nD) (i : grid1.Coords) (arg1 : Memref sig Kind.tc Space.vmem S256x512 .bf16) (harg1 : arg1.IsWhole) (arg2 : Memref sig Kind.tc Space.vmem S32x512 .bf16) (harg2 :
    arg2.IsWhole) (arg3 : Memref sig Kind.tc Space.vmem S256x512 .f32) (harg3 : arg3.IsWhole) (arg4 : Memref sig Kind.tc Space.vmem S32x512 .f32) (harg4 : arg4.IsWhole) (arg5
    : Memref sig Kind.tc Space.vmem S256x1024 .f32) (harg5 : arg5.IsWhole) (arg6 : Memref sig Kind.tc Space.vmem S32x1024 .f32) (harg6 : arg6.IsWhole) (arg7 : Memref sig
    Kind.tc Space.vmem S31x512 .f32) (harg7 : arg7.IsWhole) (arg8 : Memref sig Kind.tc Space.vmem S1x512 .f32) (harg8 : arg8.IsWhole) (arg9 : Memref sig Kind.tc Space.vmem
    S1x512 .f32) (harg9 : arg9.IsWhole) (arg10 : Memref sig Kind.tc Space.vmem S256x1024 .bf16) (harg10 : arg10.IsWhole) (arg11 : Memref sig Kind.tc Space.vmem S31x512
    .f32) (harg11 : arg11.IsWhole) (arg12 : Memref sig Kind.tc Space.vmem S1x512 .f32) (harg12 : arg12.IsWhole) (arg13 : Memref sig Kind.tc Space.vmem S1x512 .f32) (harg13 :
    arg13.IsWhole) (arg14 : Memref sig Kind.tc Space.vmem S1x512 .f32) (harg14 : arg14.IsWhole) (arg15 : Memref sig Kind.tc Space.vmem S288x512 .f32) (harg15 :
    arg15.IsWhole) (arg16 : Memref sig Kind.tc Space.vmem S288x512 .f32) (harg16 : arg16.IsWhole) (hc0 : cond1_0 i)
    (x0 : Vec Ideal S256x512 .bf16) (x1 : Vec Ideal S32x512 .bf16) (x2 : Vec Ideal S256x512 .f32) (x3 : Vec Ideal S32x512 .f32) (x4 : Vec Ideal S256x1024 .f32) (x5 : Vec Ideal S32x1024 .f32) (x6 : Vec Ideal S31x512 .f32) (x7 : Vec Ideal S1x512 .f32) (x8 : Vec Ideal S1x512 .f32)

/-- What the block's rows add to the gradient at the weights (case A). -/
theorem gainTile_A (k : Fin 31) (q : Fin 512) :
    ∑ r ∈ Finset.range 256, rd (View.canon (kernelRun1_A.sl.HS1_2 (F := Ideal) c i arg1 harg1 arg2 harg2 arg3 harg3 arg4 harg4 arg8 harg8 arg9 harg9 x0 x1 x2 x3 x7 x8)) r q * rd (View.canon (kernelRun1_A.sl.HS0_2 (F := Ideal) c i arg5 harg5 arg6 harg6 x4 x5)) (2 + k + r) q = dwTile ((i 0).val % 16 = 15) ((i 0).val % 16 = 0) x0 x1 x2 x3 x4 x5 x7 x8 k q := by
  refine Finset.sum_congr rfl fun r hr => ?_
  have hr := Finset.mem_range.mp hr
  rw [rd_lt _ (show r < 288 by omega) q.isLt, rd_lt _ (show 2 + k.val + r < 288 by omega) q.isLt, ext2_A, ext_A]

set_option maxHeartbeats 4000000 in
/-- The block of the gradient at the weights (case A). -/
theorem dw_A (k : Fin 31) (q : Fin 512) :
    out1_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 k q) = 0 + dwTile ((i 0).val % 16 = 15) ((i 0).val % 16 = 0) x0 x1 x2 x3 x4 x5 x7 x8 k q := by
  rw [← gainTile_A]
  unfold out1_A_10
  rw [View.read_writes_junk_eq_canon]
  refine Upto.all (G := fun j => (0 : EReal)
      + ∑ r ∈ Finset.range 256, rd (View.canon (kernelRun1_A.sl.HS1_2 (F := Ideal) c i arg1 harg1 arg2 harg2 arg3 harg3 arg4 harg4 arg8 harg8 arg9 harg9 x0 x1 x2 x3 x7 x8)) r (j 1).val * rd (View.canon (kernelRun1_A.sl.HS0_2 (F := Ideal) c i arg5 harg5 arg6 harg6 x4 x5)) (2 + (j 0).val + r) (j 1).val) ?_ k q
  unfold kernelRun1_A
  dsimp only
  refine Upto.step (by decide) (by decide) _ _ ?_ ?_
  rotate_left
  unfold kernelRun1_A.sl.H10_124
  refine Upto.step (by decide) (by decide) _ _ ?_ ?_
  rotate_left
  unfold kernelRun1_A.sl.H10_123
  refine Upto.step (by decide) (by decide) _ _ ?_ ?_
  rotate_left
  unfold kernelRun1_A.sl.H10_122
  refine Upto.step (by decide) (by decide) _ _ ?_ ?_
  rotate_left
  unfold kernelRun1_A.sl.H10_121
  refine Upto.step (by decide) (by decide) _ _ ?_ ?_
  rotate_left
  unfold kernelRun1_A.sl.H10_120
  refine Upto.step (by decide) (by decide) _ _ ?_ ?_
  rotate_left
  unfold kernelRun1_A.sl.H10_119
  refine Upto.step (by decide) (by decide) _ _ ?_ ?_
  rotate_left
  unfold kernelRun1_A.sl.H10_118
  refine Upto.step (by decide) (by decide) _ _ ?_ ?_
  rotate_left
  unfold kernelRun1_A.sl.H10_117
  refine Upto.step (by decide) (by decide) _ _ ?_ ?_
  rotate_left
  unfold kernelRun1_A.sl.H10_116
  refine Upto.step (by decide) (by decide) _ _ ?_ ?_
  rotate_left
  unfold kernelRun1_A.sl.H10_115
  refine Upto.step (by decide) (by decide) _ _ ?_ ?_
  rotate_left
  unfold kernelRun1_A.sl.H10_114
  refine Upto.step (by decide) (by decide) _ _ ?_ ?_
  rotate_left
  unfold kernelRun1_A.sl.H10_113
  refine Upto.step (by decide) (by decide) _ _ ?_ ?_
  rotate_left
  unfold kernelRun1_A.sl.H10_112
  refine Upto.step (by decide) (by decide) _ _ ?_ ?_
  rotate_left
  unfold kernelRun1_A.sl.H10_111
  refine Upto.step (by decide) (by decide) _ _ ?_ ?_
  rotate_left
  unfold kernelRun1_A.sl.H10_110
  refine Upto.step (by decide) (by decide) _ _ ?_ ?_
  rotate_left
  unfold kernelRun1_A.sl.H10_109
  refine Upto.step (by decide) (by decide) _ _ ?_ ?_
  rotate_left
  unfold kernelRun1_A.sl.H10_108
  refine Upto.step (by decide) (by decide) _ _ ?_ ?_
  rotate_left
  unfold kernelRun1_A.sl.H10_107
  refine Upto.step (by decide) (by decide) _ _ ?_ ?_
  rotate_left
  unfold kernelRun1_A.sl.H10_106
  refine Upto.step (by decide) (by decide) _ _ ?_ ?_
  rotate_left
  unfold kernelRun1_A.sl.H10_105
  refine Upto.step (by decide) (by decide) _ _ ?_ ?_
  rotate_left
  unfold kernelRun1_A.sl.H10_104
  refine Upto.step (by decide) (by decide) _ _ ?_ ?_
  rotate_left
  unfold kernelRun1_A.sl.H10_103
  refine Upto.step (by decide) (by decide) _ _ ?_ ?_
  rotate_left
  unfold kernelRun1_A.sl.H10_102
  refine Upto.step (by decide) (by decide) _ _ ?_ ?_
  rotate_left
  unfold kernelRun1_A.sl.H10_101
  refine Upto.step (by decide) (by decide) _ _ ?_ ?_
  rotate_left
  unfold kernelRun1_A.sl.H10_100
  refine Upto.step (by decide) (by decide) _ _ ?_ ?_
  rotate_left
  unfold kernelRun1_A.sl.H10_99
  refine Upto.step (by decide) (by decide) _ _ ?_ ?_
  rotate_left
  unfold kernelRun1_A.sl.H10_98
  refine Upto.step (by decide) (by decide) _ _ ?_ ?_
  rotate_left
  unfold kernelRun1_A.sl.H10_97
  refine Upto.step (by decide) (by decide) _ _ ?_ ?_
  rotate_left
  unfold kernelRun1_A.sl.H10_96
  refine Upto.step (by decide) (by decide) _ _ ?_ ?_
  rotate_left
  unfold kernelRun1_A.sl.H10_95
  refine Upto.step (by decide) (by decide) _ _ ?_ ?_
  rotate_left
  unfold kernelRun1_A.sl.H10_94
  refine Upto.step (by decide) (by decide) _ _ ?_ ?_
  rotate_left
  unfold kernelRun1_A.sl.H10_93
  refine Upto.step (by decide) (by decide) _ _ ?_ ?_
  rotate_left
  unfold kernelRun1_A.sl.H10_92
  refine Upto.step (by decide) (by decide) _ _ ?_ ?_
  rotate_left
  unfold kernelRun1_A.sl.H10_91
  refine Upto.step (by decide) (by decide) _ _ ?_ ?_
  rotate_left
  unfold kernelRun1_A.sl.H10_90
  refine Upto.step (by decide) (by decide) _ _ ?_ ?_
  rotate_left
  unfold kernelRun1_A.sl.H10_89
  refine Upto.step (by decide) (by decide) _ _ ?_ ?_
  rotate_left
  unfold kernelRun1_A.sl.H10_88
  refine Upto.step (by decide) (by decide) _ _ ?_ ?_
  rotate_left
  unfold kernelRun1_A.sl.H10_87
  refine Upto.step (by decide) (by decide) _ _ ?_ ?_
  rotate_left
  unfold kernelRun1_A.sl.H10_86
  refine Upto.step (by decide) (by decide) _ _ ?_ ?_
  rotate_left
  unfold kernelRun1_A.sl.H10_85
  refine Upto.step (by decide) (by decide) _ _ ?_ ?_
  rotate_left
  unfold kernelRun1_A.sl.H10_84
  refine Upto.step (by decide) (by decide) _ _ ?_ ?_
  rotate_left
  unfold kernelRun1_A.sl.H10_83
  refine Upto.step (by decide) (by decide) _ _ ?_ ?_
  rotate_left
  unfold kernelRun1_A.sl.H10_82
  refine Upto.step (by decide) (by decide) _ _ ?_ ?_
  rotate_left
  unfold kernelRun1_A.sl.H10_81
  refine Upto.step (by decide) (by decide) _ _ ?_ ?_
  rotate_left
  unfold kernelRun1_A.sl.H10_80
  refine Upto.step (by decide) (by decide) _ _ ?_ ?_
  rotate_left
  unfold kernelRun1_A.sl.H10_79
  refine Upto.step (by decide) (by decide) _ _ ?_ ?_
  rotate_left
  unfold kernelRun1_A.sl.H10_78
  refine Upto.step (by decide) (by decide) _ _ ?_ ?_
  rotate_left
  unfold kernelRun1_A.sl.H10_77
  refine Upto.step (by decide) (by decide) _ _ ?_ ?_
  rotate_left
  unfold kernelRun1_A.sl.H10_76
  refine Upto.step (by decide) (by decide) _ _ ?_ ?_
  rotate_left
  unfold kernelRun1_A.sl.H10_75
  refine Upto.step (by decide) (by decide) _ _ ?_ ?_
  rotate_left
  unfold kernelRun1_A.sl.H10_74
  refine Upto.step (by decide) (by decide) _ _ ?_ ?_
  rotate_left
  unfold kernelRun1_A.sl.H10_73
  refine Upto.step (by decide) (by decide) _ _ ?_ ?_
  rotate_left
  unfold kernelRun1_A.sl.H10_72
  refine Upto.step (by decide) (by decide) _ _ ?_ ?_
  rotate_left
  unfold kernelRun1_A.sl.H10_71
  refine Upto.step (by decide) (by decide) _ _ ?_ ?_
  rotate_left
  unfold kernelRun1_A.sl.H10_70
  refine Upto.step (by decide) (by decide) _ _ ?_ ?_
  rotate_left
  unfold kernelRun1_A.sl.H10_69
  refine Upto.step (by decide) (by decide) _ _ ?_ ?_
  rotate_left
  unfold kernelRun1_A.sl.H10_68
  refine Upto.step (by decide) (by decide) _ _ ?_ ?_
  rotate_left
  unfold kernelRun1_A.sl.H10_67
  refine Upto.step (by decide) (by decide) _ _ ?_ ?_
  rotate_left
  unfold kernelRun1_A.sl.H10_66
  refine Upto.step (by decide) (by decide) _ _ ?_ ?_
  rotate_left
  unfold kernelRun1_A.sl.H10_65
  refine Upto.step (by decide) (by decide) _ _ ?_ ?_
  rotate_left
  unfold kernelRun1_A.sl.H10_64
  refine Upto.step (by decide) (by decide) _ _ ?_ ?_
  rotate_left
  unfold kernelRun1_A.sl.H10_63
  refine Upto.step (by decide) (by decide) _ _ ?_ ?_
  rotate_left
  unfold kernelRun1_A.sl.H10_62
  refine Upto.step (by decide) (by decide) _ _ ?_ ?_
  rotate_left
  unfold kernelRun1_A.sl.H10_61
  refine Upto.step (by decide) (by decide) _ _ ?_ ?_
  rotate_left
  unfold kernelRun1_A.sl.H10_60
  refine Upto.step (by decide) (by decide) _ _ ?_ ?_
  rotate_left
  unfold kernelRun1_A.sl.H10_59
  refine Upto.step (by decide) (by decide) _ _ ?_ ?_
  rotate_left
  unfold kernelRun1_A.sl.H10_58
  refine Upto.step (by decide) (by decide) _ _ ?_ ?_
  rotate_left
  unfold kernelRun1_A.sl.H10_57
  refine Upto.step (by decide) (by decide) _ _ ?_ ?_
  rotate_left
  unfold kernelRun1_A.sl.H10_56
  refine Upto.step (by decide) (by decide) _ _ ?_ ?_
  rotate_left
  unfold kernelRun1_A.sl.H10_55
  refine Upto.step (by decide) (by decide) _ _ ?_ ?_
  rotate_left
  unfold kernelRun1_A.sl.H10_54
  refine Upto.step (by decide) (by decide) _ _ ?_ ?_
  rotate_left
  unfold kernelRun1_A.sl.H10_53
  refine Upto.step (by decide) (by decide) _ _ ?_ ?_
  rotate_left
  unfold kernelRun1_A.sl.H10_52
  refine Upto.step (by decide) (by decide) _ _ ?_ ?_
  rotate_left
  unfold kernelRun1_A.sl.H10_51
  refine Upto.step (by decide) (by decide) _ _ ?_ ?_
  rotate_left
  unfold kernelRun1_A.sl.H10_50
  refine Upto.step (by decide) (by decide) _ _ ?_ ?_
  rotate_left
  unfold kernelRun1_A.sl.H10_49
  refine Upto.step (by decide) (by decide) _ _ ?_ ?_
  rotate_left
  unfold kernelRun1_A.sl.H10_48
  refine Upto.step (by decide) (by decide) _ _ ?_ ?_
  rotate_left
  unfold kernelRun1_A.sl.H10_47
  refine Upto.step (by decide) (by decide) _ _ ?_ ?_
  rotate_left
  unfold kernelRun1_A.sl.H10_46
  refine Upto.step (by decide) (by decide) _ _ ?_ ?_
  rotate_left
  unfold kernelRun1_A.sl.H10_45
  refine Upto.step (by decide) (by decide) _ _ ?_ ?_
  rotate_left
  unfold kernelRun1_A.sl.H10_44
  refine Upto.step (by decide) (by decide) _ _ ?_ ?_
  rotate_left
  unfold kernelRun1_A.sl.H10_43
  refine Upto.step (by decide) (by decide) _ _ ?_ ?_
  rotate_left
  unfold kernelRun1_A.sl.H10_42
  refine Upto.step (by decide) (by decide) _ _ ?_ ?_
  rotate_left
  unfold kernelRun1_A.sl.H10_41
  refine Upto.step (by decide) (by decide) _ _ ?_ ?_
  rotate_left
  unfold kernelRun1_A.sl.H10_40
  refine Upto.step (by decide) (by decide) _ _ ?_ ?_
  rotate_left
  unfold kernelRun1_A.sl.H10_39
  refine Upto.step (by decide) (by decide) _ _ ?_ ?_
  rotate_left
  unfold kernelRun1_A.sl.H10_38
  refine Upto.step (by decide) (by decide) _ _ ?_ ?_
  rotate_left
  unfold kernelRun1_A.sl.H10_37
  refine Upto.step (by decide) (by decide) _ _ ?_ ?_
  rotate_left
  unfold kernelRun1_A.sl.H10_36
  refine Upto.step (by decide) (by decide) _ _ ?_ ?_
  rotate_left
  unfold kernelRun1_A.sl.H10_35
  refine Upto.step (by decide) (by decide) _ _ ?_ ?_
  rotate_left
  unfold kernelRun1_A.sl.H10_34
  refine Upto.step (by decide) (by decide) _ _ ?_ ?_
  rotate_left
  unfold kernelRun1_A.sl.H10_33
  refine Upto.step (by decide) (by decide) _ _ ?_ ?_
  rotate_left
  unfold kernelRun1_A.sl.H10_32
  refine Upto.step (by decide) (by decide) _ _ ?_ ?_
  rotate_left
  unfold kernelRun1_A.sl.H10_31
  refine Upto.step (by decide) (by decide) _ _ ?_ ?_
  rotate_left
  unfold kernelRun1_A.sl.H10_30
  refine Upto.step (by decide) (by decide) _ _ ?_ ?_
  rotate_left
  unfold kernelRun1_A.sl.H10_29
  refine Upto.step (by decide) (by decide) _ _ ?_ ?_
  rotate_left
  unfold kernelRun1_A.sl.H10_28
  refine Upto.step (by decide) (by decide) _ _ ?_ ?_
  rotate_left
  unfold kernelRun1_A.sl.H10_27
  refine Upto.step (by decide) (by decide) _ _ ?_ ?_
  rotate_left
  unfold kernelRun1_A.sl.H10_26
  refine Upto.step (by decide) (by decide) _ _ ?_ ?_
  rotate_left
  unfold kernelRun1_A.sl.H10_25
  refine Upto.step (by decide) (by decide) _ _ ?_ ?_
  rotate_left
  unfold kernelRun1_A.sl.H10_24
  refine Upto.step (by decide) (by decide) _ _ ?_ ?_
  rotate_left
  unfold kernelRun1_A.sl.H10_23
  refine Upto.step (by decide) (by decide) _ _ ?_ ?_
  rotate_left
  unfold kernelRun1_A.sl.H10_22
  refine Upto.step (by decide) (by decide) _ _ ?_ ?_
  rotate_left
  unfold kernelRun1_A.sl.H10_21
  refine Upto.step (by decide) (by decide) _ _ ?_ ?_
  rotate_left
  unfold kernelRun1_A.sl.H10_20
  refine Upto.step (by decide) (by decide) _ _ ?_ ?_
  rotate_left
  unfold kernelRun1_A.sl.H10_19
  refine Upto.step (by decide) (by decide) _ _ ?_ ?_
  rotate_left
  unfold kernelRun1_A.sl.H10_18
  refine Upto.step (by decide) (by decide) _ _ ?_ ?_
  rotate_left
  unfold kernelRun1_A.sl.H10_17
  refine Upto.step (by decide) (by decide) _ _ ?_ ?_
  rotate_left
  unfold kernelRun1_A.sl.H10_16
  refine Upto.step (by decide) (by decide) _ _ ?_ ?_
  rotate_left
  unfold kernelRun1_A.sl.H10_15
  refine Upto.step (by decide) (by decide) _ _ ?_ ?_
  rotate_left
  unfold kernelRun1_A.sl.H10_14
  refine Upto.step (by decide) (by decide) _ _ ?_ ?_
  rotate_left
  unfold kernelRun1_A.sl.H10_13
  refine Upto.step (by decide) (by decide) _ _ ?_ ?_
  rotate_left
  unfold kernelRun1_A.sl.H10_12
  refine Upto.step (by decide) (by decide) _ _ ?_ ?_
  rotate_left
  unfold kernelRun1_A.sl.H10_11
  refine Upto.step (by decide) (by decide) _ _ ?_ ?_
  rotate_left
  unfold kernelRun1_A.sl.H10_10
  refine Upto.step (by decide) (by decide) _ _ ?_ ?_
  rotate_left
  unfold kernelRun1_A.sl.H10_9
  refine Upto.step (by decide) (by decide) _ _ ?_ ?_
  rotate_left
  unfold kernelRun1_A.sl.H10_8
  refine Upto.step (by decide) (by decide) _ _ ?_ ?_
  rotate_left
  unfold kernelRun1_A.sl.H10_7
  refine Upto.step (by decide) (by decide) _ _ ?_ ?_
  rotate_left
  unfold kernelRun1_A.sl.H10_6
  refine Upto.step (by decide) (by decide) _ _ ?_ ?_
  rotate_left
  unfold kernelRun1_A.sl.H10_5
  refine Upto.step (by decide) (by decide) _ _ ?_ ?_
  rotate_left
  unfold kernelRun1_A.sl.H10_4
  refine Upto.step (by decide) (by decide) _ _ ?_ ?_
  rotate_left
  unfold kernelRun1_A.sl.H10_3
  refine Upto.step (by decide) (by decide) _ _ ?_ ?_
  rotate_left
  unfold kernelRun1_A.sl.H10_2
  refine Upto.step (by decide) (by decide) _ _ ?_ ?_
  rotate_left
  · unfold kernelRun1_A.sl.H10_1
    intro y
    rw [View.canon_cons_unit_lit' (h := by decide), if_neg (by omega)]
    unfold k1_pay6
    pointwise
  all_goals intro x h0
  all_goals simp only [
    kernelRun1_A.sl.r, kernelRun1_A.sl.r_1, kernelRun1_A.sl.r_10, kernelRun1_A.sl.r_11, kernelRun1_A.sl.r_12, kernelRun1_A.sl.r_13,
    kernelRun1_A.sl.r_14, kernelRun1_A.sl.r_15, kernelRun1_A.sl.r_16, kernelRun1_A.sl.r_17, kernelRun1_A.sl.r_18, kernelRun1_A.sl.r_19,
    kernelRun1_A.sl.r_2, kernelRun1_A.sl.r_20, kernelRun1_A.sl.r_21, kernelRun1_A.sl.r_22, kernelRun1_A.sl.r_23, kernelRun1_A.sl.r_24,
    kernelRun1_A.sl.r_25, kernelRun1_A.sl.r_26, kernelRun1_A.sl.r_27, kernelRun1_A.sl.r_28, kernelRun1_A.sl.r_29, kernelRun1_A.sl.r_3,
    kernelRun1_A.sl.r_30, kernelRun1_A.sl.r_31, kernelRun1_A.sl.r_32, kernelRun1_A.sl.r_33, kernelRun1_A.sl.r_34, kernelRun1_A.sl.r_35,
    kernelRun1_A.sl.r_36, kernelRun1_A.sl.r_37, kernelRun1_A.sl.r_38, kernelRun1_A.sl.r_39, kernelRun1_A.sl.r_4, kernelRun1_A.sl.r_40,
    kernelRun1_A.sl.r_41, kernelRun1_A.sl.r_42, kernelRun1_A.sl.r_43, kernelRun1_A.sl.r_44, kernelRun1_A.sl.r_45, kernelRun1_A.sl.r_46,
    kernelRun1_A.sl.r_47, kernelRun1_A.sl.r_48, kernelRun1_A.sl.r_49, kernelRun1_A.sl.r_5, kernelRun1_A.sl.r_50, kernelRun1_A.sl.r_51,
    kernelRun1_A.sl.r_52, kernelRun1_A.sl.r_53, kernelRun1_A.sl.r_54, kernelRun1_A.sl.r_55, kernelRun1_A.sl.r_56, kernelRun1_A.sl.r_57,
    kernelRun1_A.sl.r_58, kernelRun1_A.sl.r_59, kernelRun1_A.sl.r_6, kernelRun1_A.sl.r_60, kernelRun1_A.sl.r_61, kernelRun1_A.sl.r_62,
    kernelRun1_A.sl.r_63, kernelRun1_A.sl.r_64, kernelRun1_A.sl.r_65, kernelRun1_A.sl.r_66, kernelRun1_A.sl.r_67, kernelRun1_A.sl.r_68,
    kernelRun1_A.sl.r_69, kernelRun1_A.sl.r_7, kernelRun1_A.sl.r_70, kernelRun1_A.sl.r_71, kernelRun1_A.sl.r_72, kernelRun1_A.sl.r_73,
    kernelRun1_A.sl.r_74, kernelRun1_A.sl.r_75, kernelRun1_A.sl.r_76, kernelRun1_A.sl.r_77, kernelRun1_A.sl.r_78, kernelRun1_A.sl.r_79,
    kernelRun1_A.sl.r_8, kernelRun1_A.sl.r_80, kernelRun1_A.sl.r_81, kernelRun1_A.sl.r_82, kernelRun1_A.sl.r_83, kernelRun1_A.sl.r_84,
    kernelRun1_A.sl.r_9, kernelRun1_A.sl.v, kernelRun1_A.sl.v10, kernelRun1_A.sl.v1003, kernelRun1_A.sl.v1005, kernelRun1_A.sl.v1011,
    kernelRun1_A.sl.v1013, kernelRun1_A.sl.v1019, kernelRun1_A.sl.v1021, kernelRun1_A.sl.v1027, kernelRun1_A.sl.v1029, kernelRun1_A.sl.v1035,
    kernelRun1_A.sl.v1037, kernelRun1_A.sl.v1044, kernelRun1_A.sl.v1046, kernelRun1_A.sl.v1052, kernelRun1_A.sl.v1054, kernelRun1_A.sl.v1060,
    kernelRun1_A.sl.v1062, kernelRun1_A.sl.v1068, kernelRun1_A.sl.v1070, kernelRun1_A.sl.v1076, kernelRun1_A.sl.v1078, kernelRun1_A.sl.v1084,
    kernelRun1_A.sl.v1086, kernelRun1_A.sl.v1092, kernelRun1_A.sl.v1094, kernelRun1_A.sl.v11, kernelRun1_A.sl.v1100, kernelRun1_A.sl.v1102,
    kernelRun1_A.sl.v1108, kernelRun1_A.sl.v1110, kernelRun1_A.sl.v1116, kernelRun1_A.sl.v1118, kernelRun1_A.sl.v1124, kernelRun1_A.sl.v1126,
    kernelRun1_A.sl.v1132, kernelRun1_A.sl.v1134, kernelRun1_A.sl.v1140, kernelRun1_A.sl.v1142, kernelRun1_A.sl.v1148, kernelRun1_A.sl.v1150,
    kernelRun1_A.sl.v1156, kernelRun1_A.sl.v1158, kernelRun1_A.sl.v1164, kernelRun1_A.sl.v1166, kernelRun1_A.sl.v1172, kernelRun1_A.sl.v1174,
    kernelRun1_A.sl.v1180, kernelRun1_A.sl.v1182, kernelRun1_A.sl.v1188, kernelRun1_A.sl.v1190, kernelRun1_A.sl.v1196, kernelRun1_A.sl.v1198,
    kernelRun1_A.sl.v12, kernelRun1_A.sl.v1204, kernelRun1_A.sl.v1206, kernelRun1_A.sl.v1212, kernelRun1_A.sl.v1214, kernelRun1_A.sl.v1220,
    kernelRun1_A.sl.v1222, kernelRun1_A.sl.v1228, kernelRun1_A.sl.v1230, kernelRun1_A.sl.v1236, kernelRun1_A.sl.v1238, kernelRun1_A.sl.v1244,
    kernelRun1_A.sl.v1246, kernelRun1_A.sl.v1252, kernelRun1_A.sl.v1254, kernelRun1_A.sl.v1260, kernelRun1_A.sl.v1262, kernelRun1_A.sl.v1268,
    kernelRun1_A.sl.v1270, kernelRun1_A.sl.v1276, kernelRun1_A.sl.v1278, kernelRun1_A.sl.v1284, kernelRun1_A.sl.v1286, kernelRun1_A.sl.v1293,
    kernelRun1_A.sl.v1295, kernelRun1_A.sl.v1301, kernelRun1_A.sl.v1303, kernelRun1_A.sl.v1309, kernelRun1_A.sl.v1311, kernelRun1_A.sl.v1317,
    kernelRun1_A.sl.v1319, kernelRun1_A.sl.v1325, kernelRun1_A.sl.v1327, kernelRun1_A.sl.v1333, kernelRun1_A.sl.v1335, kernelRun1_A.sl.v1341,
    kernelRun1_A.sl.v1343, kernelRun1_A.sl.v1349, kernelRun1_A.sl.v1351, kernelRun1_A.sl.v1357, kernelRun1_A.sl.v1359, kernelRun1_A.sl.v1365,
    kernelRun1_A.sl.v1367, kernelRun1_A.sl.v1373, kernelRun1_A.sl.v1375, kernelRun1_A.sl.v1381, kernelRun1_A.sl.v1383, kernelRun1_A.sl.v1389,
    kernelRun1_A.sl.v1391, kernelRun1_A.sl.v1399, kernelRun1_A.sl.v1405, kernelRun1_A.sl.v1407, kernelRun1_A.sl.v1413, kernelRun1_A.sl.v1415,
    kernelRun1_A.sl.v1421, kernelRun1_A.sl.v1423, kernelRun1_A.sl.v1429, kernelRun1_A.sl.v1431, kernelRun1_A.sl.v1437, kernelRun1_A.sl.v1439,
    kernelRun1_A.sl.v1445, kernelRun1_A.sl.v1447, kernelRun1_A.sl.v1453, kernelRun1_A.sl.v1455, kernelRun1_A.sl.v1461, kernelRun1_A.sl.v1463,
    kernelRun1_A.sl.v1469, kernelRun1_A.sl.v1471, kernelRun1_A.sl.v1477, kernelRun1_A.sl.v1479, kernelRun1_A.sl.v1485, kernelRun1_A.sl.v1487,
    kernelRun1_A.sl.v1493, kernelRun1_A.sl.v1495, kernelRun1_A.sl.v1501, kernelRun1_A.sl.v1503, kernelRun1_A.sl.v1509, kernelRun1_A.sl.v1511,
    kernelRun1_A.sl.v1519, kernelRun1_A.sl.v1525, kernelRun1_A.sl.v1527, kernelRun1_A.sl.v1533, kernelRun1_A.sl.v1535, kernelRun1_A.sl.v1542,
    kernelRun1_A.sl.v1544, kernelRun1_A.sl.v1550, kernelRun1_A.sl.v1552, kernelRun1_A.sl.v1558, kernelRun1_A.sl.v1560, kernelRun1_A.sl.v1566,
    kernelRun1_A.sl.v1568, kernelRun1_A.sl.v1574, kernelRun1_A.sl.v1576, kernelRun1_A.sl.v1582, kernelRun1_A.sl.v1584, kernelRun1_A.sl.v1590,
    kernelRun1_A.sl.v1592, kernelRun1_A.sl.v1598, kernelRun1_A.sl.v160, kernelRun1_A.sl.v1600, kernelRun1_A.sl.v1606, kernelRun1_A.sl.v1608,
    kernelRun1_A.sl.v1614, kernelRun1_A.sl.v1616, kernelRun1_A.sl.v1622, kernelRun1_A.sl.v1624, kernelRun1_A.sl.v1630, kernelRun1_A.sl.v1632,
    kernelRun1_A.sl.v1638, kernelRun1_A.sl.v164, kernelRun1_A.sl.v1640, kernelRun1_A.sl.v1646, kernelRun1_A.sl.v1648, kernelRun1_A.sl.v1654,
    kernelRun1_A.sl.v1656, kernelRun1_A.sl.v1662, kernelRun1_A.sl.v1664, kernelRun1_A.sl.v1670, kernelRun1_A.sl.v1672, kernelRun1_A.sl.v1678,
    kernelRun1_A.sl.v1680, kernelRun1_A.sl.v1686, kernelRun1_A.sl.v1688, kernelRun1_A.sl.v169, kernelRun1_A.sl.v1694, kernelRun1_A.sl.v1696,
    kernelRun1_A.sl.v1702, kernelRun1_A.sl.v1704, kernelRun1_A.sl.v1710, kernelRun1_A.sl.v1712, kernelRun1_A.sl.v1718, kernelRun1_A.sl.v1720,
    kernelRun1_A.sl.v1726, kernelRun1_A.sl.v1728, kernelRun1_A.sl.v1734, kernelRun1_A.sl.v1736, kernelRun1_A.sl.v174, kernelRun1_A.sl.v1742,
    kernelRun1_A.sl.v1744, kernelRun1_A.sl.v1750, kernelRun1_A.sl.v1752, kernelRun1_A.sl.v1758, kernelRun1_A.sl.v1760, kernelRun1_A.sl.v1766,
    kernelRun1_A.sl.v1768, kernelRun1_A.sl.v1774, kernelRun1_A.sl.v1776, kernelRun1_A.sl.v1782, kernelRun1_A.sl.v1784, kernelRun1_A.sl.v179,
    kernelRun1_A.sl.v1790, kernelRun1_A.sl.v1796, kernelRun1_A.sl.v1800, kernelRun1_A.sl.v184, kernelRun1_A.sl.v189, kernelRun1_A.sl.v194,
    kernelRun1_A.sl.v199, kernelRun1_A.sl.v2, kernelRun1_A.sl.v204, kernelRun1_A.sl.v209, kernelRun1_A.sl.v214, kernelRun1_A.sl.v219,
    kernelRun1_A.sl.v224, kernelRun1_A.sl.v229, kernelRun1_A.sl.v234, kernelRun1_A.sl.v239, kernelRun1_A.sl.v244, kernelRun1_A.sl.v249,
    kernelRun1_A.sl.v254, kernelRun1_A.sl.v259, kernelRun1_A.sl.v264, kernelRun1_A.sl.v269, kernelRun1_A.sl.v274, kernelRun1_A.sl.v279,
    kernelRun1_A.sl.v284, kernelRun1_A.sl.v289, kernelRun1_A.sl.v294, kernelRun1_A.sl.v299, kernelRun1_A.sl.v3, kernelRun1_A.sl.v304,
    kernelRun1_A.sl.v309, kernelRun1_A.sl.v314, kernelRun1_A.sl.v318, kernelRun1_A.sl.v323, kernelRun1_A.sl.v328, kernelRun1_A.sl.v333,
    kernelRun1_A.sl.v338, kernelRun1_A.sl.v343, kernelRun1_A.sl.v348, kernelRun1_A.sl.v353, kernelRun1_A.sl.v358, kernelRun1_A.sl.v363,
    kernelRun1_A.sl.v368, kernelRun1_A.sl.v373, kernelRun1_A.sl.v378, kernelRun1_A.sl.v383, kernelRun1_A.sl.v388, kernelRun1_A.sl.v393,
    kernelRun1_A.sl.v398, kernelRun1_A.sl.v4, kernelRun1_A.sl.v403, kernelRun1_A.sl.v408, kernelRun1_A.sl.v413, kernelRun1_A.sl.v418,
    kernelRun1_A.sl.v423, kernelRun1_A.sl.v428, kernelRun1_A.sl.v433, kernelRun1_A.sl.v438, kernelRun1_A.sl.v443, kernelRun1_A.sl.v448,
    kernelRun1_A.sl.v453, kernelRun1_A.sl.v458, kernelRun1_A.sl.v463, kernelRun1_A.sl.v468, kernelRun1_A.sl.v472, kernelRun1_A.sl.v477,
    kernelRun1_A.sl.v482, kernelRun1_A.sl.v487, kernelRun1_A.sl.v492, kernelRun1_A.sl.v497, kernelRun1_A.sl.v502, kernelRun1_A.sl.v507,
    kernelRun1_A.sl.v512, kernelRun1_A.sl.v517, kernelRun1_A.sl.v522, kernelRun1_A.sl.v527, kernelRun1_A.sl.v532, kernelRun1_A.sl.v537,
    kernelRun1_A.sl.v542, kernelRun1_A.sl.v547, kernelRun1_A.sl.v552, kernelRun1_A.sl.v557, kernelRun1_A.sl.v562, kernelRun1_A.sl.v567,
    kernelRun1_A.sl.v572, kernelRun1_A.sl.v577, kernelRun1_A.sl.v582, kernelRun1_A.sl.v587, kernelRun1_A.sl.v592, kernelRun1_A.sl.v597,
    kernelRun1_A.sl.v6, kernelRun1_A.sl.v602, kernelRun1_A.sl.v607, kernelRun1_A.sl.v612, kernelRun1_A.sl.v617, kernelRun1_A.sl.v622,
    kernelRun1_A.sl.v626, kernelRun1_A.sl.v631, kernelRun1_A.sl.v636, kernelRun1_A.sl.v641, kernelRun1_A.sl.v646, kernelRun1_A.sl.v651,
    kernelRun1_A.sl.v656, kernelRun1_A.sl.v661, kernelRun1_A.sl.v666, kernelRun1_A.sl.v671, kernelRun1_A.sl.v676, kernelRun1_A.sl.v681,
    kernelRun1_A.sl.v686, kernelRun1_A.sl.v691, kernelRun1_A.sl.v696, kernelRun1_A.sl.v7, kernelRun1_A.sl.v701, kernelRun1_A.sl.v706,
    kernelRun1_A.sl.v711, kernelRun1_A.sl.v716, kernelRun1_A.sl.v721, kernelRun1_A.sl.v726, kernelRun1_A.sl.v731, kernelRun1_A.sl.v736,
    kernelRun1_A.sl.v741, kernelRun1_A.sl.v746, kernelRun1_A.sl.v751, kernelRun1_A.sl.v756, kernelRun1_A.sl.v761, kernelRun1_A.sl.v766,
    kernelRun1_A.sl.v771, kernelRun1_A.sl.v795, kernelRun1_A.sl.v797, kernelRun1_A.sl.v8, kernelRun1_A.sl.v803, kernelRun1_A.sl.v805,
    kernelRun1_A.sl.v811, kernelRun1_A.sl.v813, kernelRun1_A.sl.v819, kernelRun1_A.sl.v821, kernelRun1_A.sl.v827, kernelRun1_A.sl.v829,
    kernelRun1_A.sl.v835, kernelRun1_A.sl.v837, kernelRun1_A.sl.v843, kernelRun1_A.sl.v845, kernelRun1_A.sl.v851, kernelRun1_A.sl.v853,
    kernelRun1_A.sl.v859, kernelRun1_A.sl.v861, kernelRun1_A.sl.v867, kernelRun1_A.sl.v869, kernelRun1_A.sl.v875, kernelRun1_A.sl.v877,
    kernelRun1_A.sl.v883, kernelRun1_A.sl.v885, kernelRun1_A.sl.v891, kernelRun1_A.sl.v893, kernelRun1_A.sl.v899, kernelRun1_A.sl.v9,
    kernelRun1_A.sl.v901, kernelRun1_A.sl.v907, kernelRun1_A.sl.v909, kernelRun1_A.sl.v915, kernelRun1_A.sl.v917, kernelRun1_A.sl.v923,
    kernelRun1_A.sl.v925, kernelRun1_A.sl.v931, kernelRun1_A.sl.v933, kernelRun1_A.sl.v939, kernelRun1_A.sl.v941, kernelRun1_A.sl.v947,
    kernelRun1_A.sl.v949, kernelRun1_A.sl.v955, kernelRun1_A.sl.v957, kernelRun1_A.sl.v963, kernelRun1_A.sl.v965, kernelRun1_A.sl.v971,
    kernelRun1_A.sl.v973, kernelRun1_A.sl.v979, kernelRun1_A.sl.v981, kernelRun1_A.sl.v987, kernelRun1_A.sl.v989, kernelRun1_A.sl.v995,
    kernelRun1_A.sl.v997, kernelRun1_A.sl.v_1,
    k1_pay58, k1_pay59, k1_pay60, k1_pay61, k1_pay62, k1_pay63, k1_pay64, k1_pay65, k1_pay66, k1_pay67, k1_pay68, k1_pay69, k1_pay70, k1_pay71,
    k1_pay72, k1_pay73, k1_pay74, k1_pay75, k1_pay76, k1_pay77, k1_pay78, k1_pay79, k1_pay80, k1_pay81, k1_pay82, k1_pay83, k1_pay84, k1_pay85,
    k1_pay86, k1_pay87, k1_pay88, k1_pay89, k1_pay90, k1_pay91, k1_pay92, k1_pay93, k1_pay94, k1_pay95, k1_pay96, k1_pay97, k1_pay98, k1_pay99,
    k1_pay100, k1_pay101, k1_pay102, k1_pay103, k1_pay104, k1_pay105, k1_pay106, k1_pay107, k1_pay108, k1_pay109, k1_pay110, k1_pay111, k1_pay112,
    k1_pay113, k1_pay114, k1_pay115, k1_pay116, k1_pay117, k1_pay118, k1_pay119, k1_pay120, k1_pay121, k1_pay122, k1_pay123, k1_pay124, k1_pay125,
    k1_pay126, k1_pay127, k1_pay128, k1_pay129, k1_pay130, k1_pay131, k1_pay132, k1_pay133, k1_pay134, k1_pay135, k1_pay136, k1_pay137, k1_pay138,
    k1_pay139, k1_pay140, k1_pay141, k1_pay142, k1_pay143, k1_pay144, k1_pay145, k1_pay146, k1_pay147, k1_pay148, k1_pay149, k1_pay150, k1_pay151,
    k1_pay152, k1_pay153, k1_pay154, k1_pay155, k1_pay156, k1_pay157, k1_pay158, k1_pay159, k1_pay160, k1_pay161, k1_pay162, k1_pay163, k1_pay164,
    k1_pay165, k1_pay166, k1_pay167, k1_pay168, k1_pay169, k1_pay170, k1_pay171, k1_pay172, k1_pay173, k1_pay174, k1_pay175, k1_pay176, k1_pay177,
    k1_pay178, k1_pay179, k1_pay180, k1_pay181, k1_pay182, k1_pay183, k1_pay184, k1_pay185, k1_pay186, k1_pay187, k1_pay188, k1_pay189, k1_pay190,
    k1_pay191, k1_pay192, k1_pay193, k1_pay194, k1_pay195, k1_pay196, k1_pay197, k1_pay198, k1_pay199, k1_pay200, k1_pay201, k1_pay202, k1_pay203,
    k1_pay204, k1_pay205, k1_pay206, k1_pay207,
    View.readAt_eq_ld, Memref.IsWhole.read_unread, View.readCov_eq_canon']
  all_goals generalize View.canon (kernelRun1_A.sl.HS0_2 (F := Ideal) c i arg5 harg5 arg6 harg6 x4 x5) = E
  all_goals generalize View.canon (kernelRun1_A.sl.HS1_2 (F := Ideal) c i arg1 harg1 arg2 harg2 arg3 harg3 arg4 harg4 arg8 harg8 arg9 harg9 x0 x1 x2 x3 x7 x8) = D
  all_goals refine (gain _ D E _ _ _ (by rfl) _ _ _ _ _ _ _ _ x).trans (congrArg₂ HAdd.hAdd h0 rfl)

end

section

variable (c : Dev nD) (i : grid1.Coords) (arg1 : Memref sig Kind.tc Space.vmem S256x512 .bf16) (harg1 : arg1.IsWhole) (arg2 : Memref sig Kind.tc Space.vmem S32x512 .bf16) (harg2 :
    arg2.IsWhole) (arg3 : Memref sig Kind.tc Space.vmem S256x512 .f32) (harg3 : arg3.IsWhole) (arg4 : Memref sig Kind.tc Space.vmem S32x512 .f32) (harg4 : arg4.IsWhole) (arg5
    : Memref sig Kind.tc Space.vmem S256x1024 .f32) (harg5 : arg5.IsWhole) (arg6 : Memref sig Kind.tc Space.vmem S32x1024 .f32) (harg6 : arg6.IsWhole) (arg7 : Memref sig
    Kind.tc Space.vmem S31x512 .f32) (harg7 : arg7.IsWhole) (arg8 : Memref sig Kind.tc Space.vmem S1x512 .f32) (harg8 : arg8.IsWhole) (arg9 : Memref sig Kind.tc Space.vmem
    S1x512 .f32) (harg9 : arg9.IsWhole) (arg10 : Memref sig Kind.tc Space.vmem S256x1024 .bf16) (harg10 : arg10.IsWhole) (arg11 : Memref sig Kind.tc Space.vmem S31x512
    .f32) (harg11 : arg11.IsWhole) (arg12 : Memref sig Kind.tc Space.vmem S1x512 .f32) (harg12 : arg12.IsWhole) (arg13 : Memref sig Kind.tc Space.vmem S1x512 .f32) (harg13 :
    arg13.IsWhole) (arg14 : Memref sig Kind.tc Space.vmem S1x512 .f32) (harg14 : arg14.IsWhole) (arg15 : Memref sig Kind.tc Space.vmem S288x512 .f32) (harg15 :
    arg15.IsWhole) (arg16 : Memref sig Kind.tc Space.vmem S288x512 .f32) (harg16 : arg16.IsWhole) (hc0 : ¬cond1_0 i)
    (x0 : Vec Ideal S256x512 .bf16) (x1 : Vec Ideal S32x512 .bf16) (x2 : Vec Ideal S256x512 .f32) (x3 : Vec Ideal S32x512 .f32) (x4 : Vec Ideal S256x1024 .f32) (x5 : Vec Ideal S32x1024 .f32) (x6 : Vec Ideal S31x512 .f32) (x7 : Vec Ideal S1x512 .f32) (x8 : Vec Ideal S1x512 .f32) (xo10 : Vec Ideal S31x512 .f32) (xo11 : Vec Ideal S1x512 .f32) (xo12 : Vec Ideal S1x512 .f32) (xo13 : Vec Ideal S1x512 .f32)

/-- What the block's rows add to the gradient at the weights (case B). -/
theorem gainTile_B (k : Fin 31) (q : Fin 512) :
    ∑ r ∈ Finset.range 256, rd (View.canon (kernelRun1_B.sl.HS1_2 (F := Ideal) c i arg1 harg1 arg2 harg2 arg3 harg3 arg4 harg4 arg8 harg8 arg9 harg9 x0 x1 x2 x3 x7 x8)) r q * rd (View.canon (kernelRun1_B.sl.HS0_2 (F := Ideal) c i arg5 harg5 arg6 harg6 x4 x5)) (2 + k + r) q = dwTile ((i 0).val % 16 = 15) ((i 0).val % 16 = 0) x0 x1 x2 x3 x4 x5 x7 x8 k q := by
  refine Finset.sum_congr rfl fun r hr => ?_
  have hr := Finset.mem_range.mp hr
  rw [rd_lt _ (show r < 288 by omega) q.isLt, rd_lt _ (show 2 + k.val + r < 288 by omega) q.isLt, ext2_B, ext_B]

set_option maxHeartbeats 4000000 in
/-- The block of the gradient at the weights (case B). -/
theorem dw_B (k : Fin 31) (q : Fin 512) :
    out1_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 (ix2 k q) = xo10 (ix2 k q) + dwTile ((i 0).val % 16 = 15) ((i 0).val % 16 = 0) x0 x1 x2 x3 x4 x5 x7 x8 k q := by
  rw [← gainTile_B]
  unfold out1_B_10
  rw [View.read_writes_junk_eq_canon]
  refine canon_of_pieces (fun j => (xo10 j : EReal)
      + ∑ r ∈ Finset.range 256, rd (View.canon (kernelRun1_B.sl.HS1_2 (F := Ideal) c i arg1 harg1 arg2 harg2 arg3 harg3 arg4 harg4 arg8 harg8 arg9 harg9 x0 x1 x2 x3 x7 x8)) r (j 1).val * rd (View.canon (kernelRun1_B.sl.HS0_2 (F := Ideal) c i arg5 harg5 arg6 harg6 x4 x5)) (2 + (j 0).val + r) (j 1).val) _ ?_ _ (cover1_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 _)
  unfold kernelRun1_B
  dsimp only [View.PiecesOf]
  repeat' apply And.intro
  rotate_right
  · trivial
  all_goals intro x
  all_goals simp only [
    kernelRun1_B.sl.r, kernelRun1_B.sl.r_1, kernelRun1_B.sl.r_10, kernelRun1_B.sl.r_11, kernelRun1_B.sl.r_12, kernelRun1_B.sl.r_13,
    kernelRun1_B.sl.r_14, kernelRun1_B.sl.r_15, kernelRun1_B.sl.r_16, kernelRun1_B.sl.r_17, kernelRun1_B.sl.r_18, kernelRun1_B.sl.r_19,
    kernelRun1_B.sl.r_2, kernelRun1_B.sl.r_20, kernelRun1_B.sl.r_21, kernelRun1_B.sl.r_22, kernelRun1_B.sl.r_23, kernelRun1_B.sl.r_24,
    kernelRun1_B.sl.r_25, kernelRun1_B.sl.r_26, kernelRun1_B.sl.r_27, kernelRun1_B.sl.r_28, kernelRun1_B.sl.r_29, kernelRun1_B.sl.r_3,
    kernelRun1_B.sl.r_30, kernelRun1_B.sl.r_31, kernelRun1_B.sl.r_32, kernelRun1_B.sl.r_33, kernelRun1_B.sl.r_34, kernelRun1_B.sl.r_35,
    kernelRun1_B.sl.r_36, kernelRun1_B.sl.r_37, kernelRun1_B.sl.r_38, kernelRun1_B.sl.r_39, kernelRun1_B.sl.r_4, kernelRun1_B.sl.r_40,
    kernelRun1_B.sl.r_41, kernelRun1_B.sl.r_42, kernelRun1_B.sl.r_43, kernelRun1_B.sl.r_44, kernelRun1_B.sl.r_45, kernelRun1_B.sl.r_46,
    kernelRun1_B.sl.r_47, kernelRun1_B.sl.r_48, kernelRun1_B.sl.r_49, kernelRun1_B.sl.r_5, kernelRun1_B.sl.r_50, kernelRun1_B.sl.r_51,
    kernelRun1_B.sl.r_52, kernelRun1_B.sl.r_53, kernelRun1_B.sl.r_54, kernelRun1_B.sl.r_55, kernelRun1_B.sl.r_56, kernelRun1_B.sl.r_57,
    kernelRun1_B.sl.r_58, kernelRun1_B.sl.r_59, kernelRun1_B.sl.r_6, kernelRun1_B.sl.r_60, kernelRun1_B.sl.r_61, kernelRun1_B.sl.r_62,
    kernelRun1_B.sl.r_63, kernelRun1_B.sl.r_64, kernelRun1_B.sl.r_65, kernelRun1_B.sl.r_66, kernelRun1_B.sl.r_67, kernelRun1_B.sl.r_68,
    kernelRun1_B.sl.r_69, kernelRun1_B.sl.r_7, kernelRun1_B.sl.r_70, kernelRun1_B.sl.r_71, kernelRun1_B.sl.r_72, kernelRun1_B.sl.r_73,
    kernelRun1_B.sl.r_74, kernelRun1_B.sl.r_75, kernelRun1_B.sl.r_76, kernelRun1_B.sl.r_77, kernelRun1_B.sl.r_78, kernelRun1_B.sl.r_79,
    kernelRun1_B.sl.r_8, kernelRun1_B.sl.r_80, kernelRun1_B.sl.r_81, kernelRun1_B.sl.r_82, kernelRun1_B.sl.r_83, kernelRun1_B.sl.r_84,
    kernelRun1_B.sl.r_9, kernelRun1_B.sl.v, kernelRun1_B.sl.v10, kernelRun1_B.sl.v1003, kernelRun1_B.sl.v1005, kernelRun1_B.sl.v1011,
    kernelRun1_B.sl.v1013, kernelRun1_B.sl.v1019, kernelRun1_B.sl.v1021, kernelRun1_B.sl.v1027, kernelRun1_B.sl.v1029, kernelRun1_B.sl.v1035,
    kernelRun1_B.sl.v1037, kernelRun1_B.sl.v1044, kernelRun1_B.sl.v1046, kernelRun1_B.sl.v1052, kernelRun1_B.sl.v1054, kernelRun1_B.sl.v1060,
    kernelRun1_B.sl.v1062, kernelRun1_B.sl.v1068, kernelRun1_B.sl.v1070, kernelRun1_B.sl.v1076, kernelRun1_B.sl.v1078, kernelRun1_B.sl.v1084,
    kernelRun1_B.sl.v1086, kernelRun1_B.sl.v1092, kernelRun1_B.sl.v1094, kernelRun1_B.sl.v11, kernelRun1_B.sl.v1100, kernelRun1_B.sl.v1102,
    kernelRun1_B.sl.v1108, kernelRun1_B.sl.v1110, kernelRun1_B.sl.v1116, kernelRun1_B.sl.v1118, kernelRun1_B.sl.v1124, kernelRun1_B.sl.v1126,
    kernelRun1_B.sl.v1132, kernelRun1_B.sl.v1134, kernelRun1_B.sl.v1140, kernelRun1_B.sl.v1142, kernelRun1_B.sl.v1148, kernelRun1_B.sl.v1150,
    kernelRun1_B.sl.v1156, kernelRun1_B.sl.v1158, kernelRun1_B.sl.v1164, kernelRun1_B.sl.v1166, kernelRun1_B.sl.v1172, kernelRun1_B.sl.v1174,
    kernelRun1_B.sl.v1180, kernelRun1_B.sl.v1182, kernelRun1_B.sl.v1188, kernelRun1_B.sl.v1190, kernelRun1_B.sl.v1196, kernelRun1_B.sl.v1198,
    kernelRun1_B.sl.v12, kernelRun1_B.sl.v1204, kernelRun1_B.sl.v1206, kernelRun1_B.sl.v1212, kernelRun1_B.sl.v1214, kernelRun1_B.sl.v1220,
    kernelRun1_B.sl.v1222, kernelRun1_B.sl.v1228, kernelRun1_B.sl.v1230, kernelRun1_B.sl.v1236, kernelRun1_B.sl.v1238, kernelRun1_B.sl.v1244,
    kernelRun1_B.sl.v1246, kernelRun1_B.sl.v1252, kernelRun1_B.sl.v1254, kernelRun1_B.sl.v1260, kernelRun1_B.sl.v1262, kernelRun1_B.sl.v1268,
    kernelRun1_B.sl.v1270, kernelRun1_B.sl.v1276, kernelRun1_B.sl.v1278, kernelRun1_B.sl.v1284, kernelRun1_B.sl.v1286, kernelRun1_B.sl.v1293,
    kernelRun1_B.sl.v1295, kernelRun1_B.sl.v1301, kernelRun1_B.sl.v1303, kernelRun1_B.sl.v1309, kernelRun1_B.sl.v1311, kernelRun1_B.sl.v1317,
    kernelRun1_B.sl.v1319, kernelRun1_B.sl.v1325, kernelRun1_B.sl.v1327, kernelRun1_B.sl.v1333, kernelRun1_B.sl.v1335, kernelRun1_B.sl.v1341,
    kernelRun1_B.sl.v1343, kernelRun1_B.sl.v1349, kernelRun1_B.sl.v1351, kernelRun1_B.sl.v1357, kernelRun1_B.sl.v1359, kernelRun1_B.sl.v1365,
    kernelRun1_B.sl.v1367, kernelRun1_B.sl.v1373, kernelRun1_B.sl.v1375, kernelRun1_B.sl.v1381, kernelRun1_B.sl.v1383, kernelRun1_B.sl.v1389,
    kernelRun1_B.sl.v1391, kernelRun1_B.sl.v1399, kernelRun1_B.sl.v1405, kernelRun1_B.sl.v1407, kernelRun1_B.sl.v1413, kernelRun1_B.sl.v1415,
    kernelRun1_B.sl.v1421, kernelRun1_B.sl.v1423, kernelRun1_B.sl.v1429, kernelRun1_B.sl.v1431, kernelRun1_B.sl.v1437, kernelRun1_B.sl.v1439,
    kernelRun1_B.sl.v1445, kernelRun1_B.sl.v1447, kernelRun1_B.sl.v1453, kernelRun1_B.sl.v1455, kernelRun1_B.sl.v1461, kernelRun1_B.sl.v1463,
    kernelRun1_B.sl.v1469, kernelRun1_B.sl.v1471, kernelRun1_B.sl.v1477, kernelRun1_B.sl.v1479, kernelRun1_B.sl.v1485, kernelRun1_B.sl.v1487,
    kernelRun1_B.sl.v1493, kernelRun1_B.sl.v1495, kernelRun1_B.sl.v1501, kernelRun1_B.sl.v1503, kernelRun1_B.sl.v1509, kernelRun1_B.sl.v1511,
    kernelRun1_B.sl.v1519, kernelRun1_B.sl.v1525, kernelRun1_B.sl.v1527, kernelRun1_B.sl.v1533, kernelRun1_B.sl.v1535, kernelRun1_B.sl.v1542,
    kernelRun1_B.sl.v1544, kernelRun1_B.sl.v1550, kernelRun1_B.sl.v1552, kernelRun1_B.sl.v1558, kernelRun1_B.sl.v1560, kernelRun1_B.sl.v1566,
    kernelRun1_B.sl.v1568, kernelRun1_B.sl.v1574, kernelRun1_B.sl.v1576, kernelRun1_B.sl.v1582, kernelRun1_B.sl.v1584, kernelRun1_B.sl.v1590,
    kernelRun1_B.sl.v1592, kernelRun1_B.sl.v1598, kernelRun1_B.sl.v160, kernelRun1_B.sl.v1600, kernelRun1_B.sl.v1606, kernelRun1_B.sl.v1608,
    kernelRun1_B.sl.v1614, kernelRun1_B.sl.v1616, kernelRun1_B.sl.v1622, kernelRun1_B.sl.v1624, kernelRun1_B.sl.v1630, kernelRun1_B.sl.v1632,
    kernelRun1_B.sl.v1638, kernelRun1_B.sl.v164, kernelRun1_B.sl.v1640, kernelRun1_B.sl.v1646, kernelRun1_B.sl.v1648, kernelRun1_B.sl.v1654,
    kernelRun1_B.sl.v1656, kernelRun1_B.sl.v1662, kernelRun1_B.sl.v1664, kernelRun1_B.sl.v1670, kernelRun1_B.sl.v1672, kernelRun1_B.sl.v1678,
    kernelRun1_B.sl.v1680, kernelRun1_B.sl.v1686, kernelRun1_B.sl.v1688, kernelRun1_B.sl.v169, kernelRun1_B.sl.v1694, kernelRun1_B.sl.v1696,
    kernelRun1_B.sl.v1702, kernelRun1_B.sl.v1704, kernelRun1_B.sl.v1710, kernelRun1_B.sl.v1712, kernelRun1_B.sl.v1718, kernelRun1_B.sl.v1720,
    kernelRun1_B.sl.v1726, kernelRun1_B.sl.v1728, kernelRun1_B.sl.v1734, kernelRun1_B.sl.v1736, kernelRun1_B.sl.v174, kernelRun1_B.sl.v1742,
    kernelRun1_B.sl.v1744, kernelRun1_B.sl.v1750, kernelRun1_B.sl.v1752, kernelRun1_B.sl.v1758, kernelRun1_B.sl.v1760, kernelRun1_B.sl.v1766,
    kernelRun1_B.sl.v1768, kernelRun1_B.sl.v1774, kernelRun1_B.sl.v1776, kernelRun1_B.sl.v1782, kernelRun1_B.sl.v1784, kernelRun1_B.sl.v179,
    kernelRun1_B.sl.v184, kernelRun1_B.sl.v189, kernelRun1_B.sl.v194, kernelRun1_B.sl.v199, kernelRun1_B.sl.v2, kernelRun1_B.sl.v204,
    kernelRun1_B.sl.v209, kernelRun1_B.sl.v214, kernelRun1_B.sl.v219, kernelRun1_B.sl.v224, kernelRun1_B.sl.v229, kernelRun1_B.sl.v234,
    kernelRun1_B.sl.v239, kernelRun1_B.sl.v244, kernelRun1_B.sl.v249, kernelRun1_B.sl.v254, kernelRun1_B.sl.v259, kernelRun1_B.sl.v264,
    kernelRun1_B.sl.v269, kernelRun1_B.sl.v274, kernelRun1_B.sl.v279, kernelRun1_B.sl.v284, kernelRun1_B.sl.v289, kernelRun1_B.sl.v294,
    kernelRun1_B.sl.v299, kernelRun1_B.sl.v3, kernelRun1_B.sl.v304, kernelRun1_B.sl.v309, kernelRun1_B.sl.v314, kernelRun1_B.sl.v318,
    kernelRun1_B.sl.v323, kernelRun1_B.sl.v328, kernelRun1_B.sl.v333, kernelRun1_B.sl.v338, kernelRun1_B.sl.v343, kernelRun1_B.sl.v348,
    kernelRun1_B.sl.v353, kernelRun1_B.sl.v358, kernelRun1_B.sl.v363, kernelRun1_B.sl.v368, kernelRun1_B.sl.v373, kernelRun1_B.sl.v378,
    kernelRun1_B.sl.v383, kernelRun1_B.sl.v388, kernelRun1_B.sl.v393, kernelRun1_B.sl.v398, kernelRun1_B.sl.v4, kernelRun1_B.sl.v403,
    kernelRun1_B.sl.v408, kernelRun1_B.sl.v413, kernelRun1_B.sl.v418, kernelRun1_B.sl.v423, kernelRun1_B.sl.v428, kernelRun1_B.sl.v433,
    kernelRun1_B.sl.v438, kernelRun1_B.sl.v443, kernelRun1_B.sl.v448, kernelRun1_B.sl.v453, kernelRun1_B.sl.v458, kernelRun1_B.sl.v463,
    kernelRun1_B.sl.v468, kernelRun1_B.sl.v472, kernelRun1_B.sl.v477, kernelRun1_B.sl.v482, kernelRun1_B.sl.v487, kernelRun1_B.sl.v492,
    kernelRun1_B.sl.v497, kernelRun1_B.sl.v502, kernelRun1_B.sl.v507, kernelRun1_B.sl.v512, kernelRun1_B.sl.v517, kernelRun1_B.sl.v522,
    kernelRun1_B.sl.v527, kernelRun1_B.sl.v532, kernelRun1_B.sl.v537, kernelRun1_B.sl.v542, kernelRun1_B.sl.v547, kernelRun1_B.sl.v552,
    kernelRun1_B.sl.v557, kernelRun1_B.sl.v562, kernelRun1_B.sl.v567, kernelRun1_B.sl.v572, kernelRun1_B.sl.v577, kernelRun1_B.sl.v582,
    kernelRun1_B.sl.v587, kernelRun1_B.sl.v592, kernelRun1_B.sl.v597, kernelRun1_B.sl.v6, kernelRun1_B.sl.v602, kernelRun1_B.sl.v607,
    kernelRun1_B.sl.v612, kernelRun1_B.sl.v617, kernelRun1_B.sl.v622, kernelRun1_B.sl.v626, kernelRun1_B.sl.v631, kernelRun1_B.sl.v636,
    kernelRun1_B.sl.v641, kernelRun1_B.sl.v646, kernelRun1_B.sl.v651, kernelRun1_B.sl.v656, kernelRun1_B.sl.v661, kernelRun1_B.sl.v666,
    kernelRun1_B.sl.v671, kernelRun1_B.sl.v676, kernelRun1_B.sl.v681, kernelRun1_B.sl.v686, kernelRun1_B.sl.v691, kernelRun1_B.sl.v696,
    kernelRun1_B.sl.v7, kernelRun1_B.sl.v701, kernelRun1_B.sl.v706, kernelRun1_B.sl.v711, kernelRun1_B.sl.v716, kernelRun1_B.sl.v721,
    kernelRun1_B.sl.v726, kernelRun1_B.sl.v731, kernelRun1_B.sl.v736, kernelRun1_B.sl.v741, kernelRun1_B.sl.v746, kernelRun1_B.sl.v751,
    kernelRun1_B.sl.v756, kernelRun1_B.sl.v761, kernelRun1_B.sl.v766, kernelRun1_B.sl.v771, kernelRun1_B.sl.v797, kernelRun1_B.sl.v8,
    kernelRun1_B.sl.v803, kernelRun1_B.sl.v805, kernelRun1_B.sl.v811, kernelRun1_B.sl.v813, kernelRun1_B.sl.v819, kernelRun1_B.sl.v821,
    kernelRun1_B.sl.v827, kernelRun1_B.sl.v829, kernelRun1_B.sl.v835, kernelRun1_B.sl.v837, kernelRun1_B.sl.v843, kernelRun1_B.sl.v845,
    kernelRun1_B.sl.v851, kernelRun1_B.sl.v853, kernelRun1_B.sl.v859, kernelRun1_B.sl.v861, kernelRun1_B.sl.v867, kernelRun1_B.sl.v869,
    kernelRun1_B.sl.v875, kernelRun1_B.sl.v877, kernelRun1_B.sl.v883, kernelRun1_B.sl.v885, kernelRun1_B.sl.v891, kernelRun1_B.sl.v893,
    kernelRun1_B.sl.v899, kernelRun1_B.sl.v9, kernelRun1_B.sl.v901, kernelRun1_B.sl.v907, kernelRun1_B.sl.v909, kernelRun1_B.sl.v915,
    kernelRun1_B.sl.v917, kernelRun1_B.sl.v923, kernelRun1_B.sl.v925, kernelRun1_B.sl.v931, kernelRun1_B.sl.v933, kernelRun1_B.sl.v939,
    kernelRun1_B.sl.v941, kernelRun1_B.sl.v947, kernelRun1_B.sl.v949, kernelRun1_B.sl.v955, kernelRun1_B.sl.v957, kernelRun1_B.sl.v963,
    kernelRun1_B.sl.v965, kernelRun1_B.sl.v971, kernelRun1_B.sl.v973, kernelRun1_B.sl.v979, kernelRun1_B.sl.v981, kernelRun1_B.sl.v987,
    kernelRun1_B.sl.v989, kernelRun1_B.sl.v995, kernelRun1_B.sl.v997, kernelRun1_B.sl.v_1,
    k1_pay58, k1_pay59, k1_pay60, k1_pay61, k1_pay62, k1_pay63, k1_pay64, k1_pay65, k1_pay66, k1_pay67, k1_pay68, k1_pay69, k1_pay70, k1_pay71,
    k1_pay72, k1_pay73, k1_pay74, k1_pay75, k1_pay76, k1_pay77, k1_pay78, k1_pay79, k1_pay80, k1_pay81, k1_pay82, k1_pay83, k1_pay84, k1_pay85,
    k1_pay86, k1_pay87, k1_pay88, k1_pay89, k1_pay90, k1_pay91, k1_pay92, k1_pay93, k1_pay94, k1_pay95, k1_pay96, k1_pay97, k1_pay98, k1_pay99,
    k1_pay100, k1_pay101, k1_pay102, k1_pay103, k1_pay104, k1_pay105, k1_pay106, k1_pay107, k1_pay108, k1_pay109, k1_pay110, k1_pay111, k1_pay112,
    k1_pay113, k1_pay114, k1_pay115, k1_pay116, k1_pay117, k1_pay118, k1_pay119, k1_pay120, k1_pay121, k1_pay122, k1_pay123, k1_pay124, k1_pay125,
    k1_pay126, k1_pay127, k1_pay128, k1_pay129, k1_pay130, k1_pay131, k1_pay132, k1_pay133, k1_pay134, k1_pay135, k1_pay136, k1_pay137, k1_pay138,
    k1_pay139, k1_pay140, k1_pay141, k1_pay142, k1_pay143, k1_pay144, k1_pay145, k1_pay146, k1_pay147, k1_pay148, k1_pay149, k1_pay150, k1_pay151,
    k1_pay152, k1_pay153, k1_pay154, k1_pay155, k1_pay156, k1_pay157, k1_pay158, k1_pay159, k1_pay160, k1_pay161, k1_pay162, k1_pay163, k1_pay164,
    k1_pay165, k1_pay166, k1_pay167, k1_pay168, k1_pay169, k1_pay170, k1_pay171, k1_pay172, k1_pay173, k1_pay174, k1_pay175, k1_pay176, k1_pay177,
    k1_pay178, k1_pay179, k1_pay180, k1_pay181, k1_pay182, k1_pay183, k1_pay184, k1_pay185, k1_pay186, k1_pay187, k1_pay188, k1_pay189, k1_pay190,
    k1_pay191, k1_pay192, k1_pay193, k1_pay194, k1_pay195, k1_pay196, k1_pay197, k1_pay198, k1_pay199, k1_pay200, k1_pay201, k1_pay202, k1_pay203,
    k1_pay204, k1_pay205, k1_pay206, k1_pay207,
    View.readAt_eq_ld, Memref.IsWhole.read_unread, View.readCov_eq_canon']
  all_goals generalize View.canon (kernelRun1_B.sl.HS0_2 (F := Ideal) c i arg5 harg5 arg6 harg6 x4 x5) = E
  all_goals generalize View.canon (kernelRun1_B.sl.HS1_2 (F := Ideal) c i arg1 harg1 arg2 harg2 arg3 harg3 arg4 harg4 arg8 harg8 arg9 harg9 x0 x1 x2 x3 x7 x8) = D
  all_goals exact gain _ D E _ _ _ (by rfl) _ _ _ _ _ _ _ _ x

end

end Cert.Conf
-- ==== Proof.Tiles.lean ====
/-  The blocks the two kernels read, as rows of the whole arrays.  -/
module
public import proofs.«01_k».proof.Proof.Block0
public import proofs.«01_k».proof.Proof.Block2
public import Idealize.ShloMosaic.Lib.Pipeline.ValueKit
@[expose] public section
noncomputable section
namespace Cert.Conf
open Idealize.ShloMosaic Idealize.ShloMosaic.TcCoe Cert.KernelIdeal Cert.KernelIdeal.Gen

theorem rd_eq {a b a' b' : ℕ} (X : (⟨2, ![a, b]⟩ : Shape).Idx → EReal) (Y : (⟨2, ![a', b']⟩ : Shape).Idx → EReal) {m n m' n' : ℕ}
    (hm : m < a) (hn : n < b) (h : X (ix2 ⟨m, hm⟩ ⟨n, hn⟩) = rd Y m' n') : rd X m n = rd Y m' n' := by
  rw [rd_lt X hm hn, h]

/-! ## Where each window's block lies -/

theorem at0_0 : ∀ t : Fin cfg0.N, win0_0.index t = ![t.val, 0] := (by decide +kernel : ∀ t : Fin grid0.N, _)
theorem at0_1 : ∀ t : Fin cfg0.N, win0_1.index t = ![8 * t.val - 1, 0] := (by decide +kernel : ∀ t : Fin grid0.N, _)
theorem at0_2 : ∀ t : Fin cfg0.N, win0_2.index t = ![0, 0] := (by decide +kernel : ∀ t : Fin grid0.N, _)
theorem at0_3 : ∀ t : Fin cfg0.N, win0_3.index t = ![0, 0] := (by decide +kernel : ∀ t : Fin grid0.N, _)
theorem at1_0 : ∀ t : Fin cfg1.N, win1_0.index t = ![t.val, 0] := (by decide +kernel : ∀ t : Fin grid1.N, _)
theorem at1_1 : ∀ t : Fin cfg1.N, win1_1.index t = ![min (8 * (t.val + 1)) 255, 0] := (by decide +kernel : ∀ t : Fin grid1.N, _)
theorem at1_2 : ∀ t : Fin cfg1.N, win1_2.index t = ![t.val, 0] := (by decide +kernel : ∀ t : Fin grid1.N, _)
theorem at1_3 : ∀ t : Fin cfg1.N, win1_3.index t = ![min (8 * (t.val + 1)) 255, 0] := (by decide +kernel : ∀ t : Fin grid1.N, _)
theorem at1_4 : ∀ t : Fin cfg1.N, win1_4.index t = ![t.val, 0] := (by decide +kernel : ∀ t : Fin grid1.N, _)
theorem at1_5 : ∀ t : Fin cfg1.N, win1_5.index t = ![8 * t.val - 1, 0] := (by decide +kernel : ∀ t : Fin grid1.N, _)
theorem at1_6 : ∀ t : Fin cfg1.N, win1_6.index t = ![0, 0] := (by decide +kernel : ∀ t : Fin grid1.N, _)
theorem at1_7 : ∀ t : Fin cfg1.N, win1_7.index t = ![0, 0] := (by decide +kernel : ∀ t : Fin grid1.N, _)
theorem at1_8 : ∀ t : Fin cfg1.N, win1_8.index t = ![0, 0] := (by decide +kernel : ∀ t : Fin grid1.N, _)
theorem at0_7 : ∀ t : Fin cfg0.N, win0_7.index t = ![t.val, 0] := (by decide +kernel : ∀ t : Fin grid0.N, _)
theorem at1_9 : ∀ t : Fin cfg1.N, win1_9.index t = ![t.val, 0] := (by decide +kernel : ∀ t : Fin grid1.N, _)
theorem at1_10 : ∀ t : Fin cfg1.N, win1_10.index t = ![0, 0] := (by decide +kernel : ∀ t : Fin grid1.N, _)
theorem at1_11 : ∀ t : Fin cfg1.N, win1_11.index t = ![0, 0] := (by decide +kernel : ∀ t : Fin grid1.N, _)
theorem at1_12 : ∀ t : Fin cfg1.N, win1_12.index t = ![0, 0] := (by decide +kernel : ∀ t : Fin grid1.N, _)
theorem at1_13 : ∀ t : Fin cfg1.N, win1_13.index t = ![0, 0] := (by decide +kernel : ∀ t : Fin grid1.N, _)

variable (V : (c : Dev nD) → (b : Ref sig .tc) → Buf (Elt Ideal) ((c : Thread nD τ).loc b)) (c : Dev nD)

theorem blk0_0 (t : Fin cfg0.N) {m n : ℕ} (hm : m < 256) (hn : n < 1024) :
    rd (a := 256) (b := 1024) (iblk0 V c 0 t) m n = rd (a := 8192) (b := 1024) (V c main_arg0) (256 * t.val + m) n := by
  rw [rd_lt (a := 256) (b := 1024) _ hm hn]
  blk_simp [iblk0]
  exact rd_of (a := 8192) (b := 1024) _ _ (by blk_simp [at0_0]; show _ + m = _; omega) (by blk_simp [at0_0])

theorem blk0_1 (t : Fin cfg0.N) {m n : ℕ} (hm : m < 32) (hn : n < 1024) :
    rd (a := 32) (b := 1024) (iblk0 V c 1 t) m n = rd (a := 8192) (b := 1024) (V c main_arg0) (32 * (8 * t.val - 1) + m) n := by
  rw [rd_lt (a := 32) (b := 1024) _ hm hn]
  blk_simp [iblk0]
  exact rd_of (a := 8192) (b := 1024) _ _ (by blk_simp [at0_1]; show _ + m = _; omega) (by blk_simp [at0_1])

theorem blk0_2 (t : Fin cfg0.N) {m n : ℕ} (hm : m < 31) (hn : n < 512) :
    rd (a := 31) (b := 512) (iblk0 V c 2 t) m n = rd (a := 31) (b := 512) (V c main_arg1) (m) n := by
  rw [rd_lt (a := 31) (b := 512) _ hm hn]
  blk_simp [iblk0]
  exact rd_of (a := 31) (b := 512) _ _ (by blk_simp [at0_2]) (by blk_simp [at0_2])

theorem blk0_3 (t : Fin cfg0.N) {m n : ℕ} (hm : m < 1) (hn : n < 512) :
    rd (a := 1) (b := 512) (iblk0 V c 3 t) m n = rd (a := 1) (b := 512) (V c main_v0) (m) n := by
  rw [rd_lt (a := 1) (b := 512) _ hm hn]
  blk_simp [iblk0]
  exact rd_of (a := 1) (b := 512) _ _ (by blk_simp [at0_3]) (by blk_simp [at0_3])

theorem blk1_0 (t : Fin cfg1.N) {m n : ℕ} (hm : m < 256) (hn : n < 512) :
    rd (a := 256) (b := 512) (iblk1 V c 0 t) m n = rd (a := 8192) (b := 512) (V c main_arg5) (256 * t.val + m) n := by
  rw [rd_lt (a := 256) (b := 512) _ hm hn]
  blk_simp [iblk1]
  exact rd_of (a := 8192) (b := 512) _ _ (by blk_simp [at1_0]; show _ + m = _; omega) (by blk_simp [at1_0])

theorem blk1_1 (t : Fin cfg1.N) {m n : ℕ} (hm : m < 32) (hn : n < 512) :
    rd (a := 32) (b := 512) (iblk1 V c 1 t) m n = rd (a := 8192) (b := 512) (V c main_arg5) (32 * (min (8 * (t.val + 1)) 255) + m) n := by
  rw [rd_lt (a := 32) (b := 512) _ hm hn]
  blk_simp [iblk1]
  exact rd_of (a := 8192) (b := 512) _ _ (by blk_simp [at1_1]; show _ + m = _; omega) (by blk_simp [at1_1])

theorem blk1_2 (t : Fin cfg1.N) {m n : ℕ} (hm : m < 256) (hn : n < 512) :
    rd (a := 256) (b := 512) (iblk1 V c 2 t) m n = rd (a := 8192) (b := 512) (V c main_v3_1) (256 * t.val + m) n := by
  rw [rd_lt (a := 256) (b := 512) _ hm hn]
  blk_simp [iblk1]
  exact rd_of (a := 8192) (b := 512) _ _ (by blk_simp [at1_2]; show _ + m = _; omega) (by blk_simp [at1_2])

theorem blk1_3 (t : Fin cfg1.N) {m n : ℕ} (hm : m < 32) (hn : n < 512) :
    rd (a := 32) (b := 512) (iblk1 V c 3 t) m n = rd (a := 8192) (b := 512) (V c main_v3_1) (32 * (min (8 * (t.val + 1)) 255) + m) n := by
  rw [rd_lt (a := 32) (b := 512) _ hm hn]
  blk_simp [iblk1]
  exact rd_of (a := 8192) (b := 512) _ _ (by blk_simp [at1_3]; show _ + m = _; omega) (by blk_simp [at1_3])

theorem blk1_4 (t : Fin cfg1.N) {m n : ℕ} (hm : m < 256) (hn : n < 1024) :
    rd (a := 256) (b := 1024) (iblk1 V c 4 t) m n = rd (a := 8192) (b := 1024) (V c main_arg0) (256 * t.val + m) n := by
  rw [rd_lt (a := 256) (b := 1024) _ hm hn]
  blk_simp [iblk1]
  exact rd_of (a := 8192) (b := 1024) _ _ (by blk_simp [at1_4]; show _ + m = _; omega) (by blk_simp [at1_4])

theorem blk1_5 (t : Fin cfg1.N) {m n : ℕ} (hm : m < 32) (hn : n < 1024) :
    rd (a := 32) (b := 1024) (iblk1 V c 5 t) m n = rd (a := 8192) (b := 1024) (V c main_arg0) (32 * (8 * t.val - 1) + m) n := by
  rw [rd_lt (a := 32) (b := 1024) _ hm hn]
  blk_simp [iblk1]
  exact rd_of (a := 8192) (b := 1024) _ _ (by blk_simp [at1_5]; show _ + m = _; omega) (by blk_simp [at1_5])

theorem blk1_6 (t : Fin cfg1.N) {m n : ℕ} (hm : m < 31) (hn : n < 512) :
    rd (a := 31) (b := 512) (iblk1 V c 6 t) m n = rd (a := 31) (b := 512) (V c main_arg1) (m) n := by
  rw [rd_lt (a := 31) (b := 512) _ hm hn]
  blk_simp [iblk1]
  exact rd_of (a := 31) (b := 512) _ _ (by blk_simp [at1_6]) (by blk_simp [at1_6])

theorem blk1_7 (t : Fin cfg1.N) {m n : ℕ} (hm : m < 1) (hn : n < 512) :
    rd (a := 1) (b := 512) (iblk1 V c 7 t) m n = rd (a := 1) (b := 512) (V c main_v4) (m) n := by
  rw [rd_lt (a := 1) (b := 512) _ hm hn]
  blk_simp [iblk1]
  exact rd_of (a := 1) (b := 512) _ _ (by blk_simp [at1_7]) (by blk_simp [at1_7])

theorem blk1_8 (t : Fin cfg1.N) {m n : ℕ} (hm : m < 1) (hn : n < 512) :
    rd (a := 1) (b := 512) (iblk1 V c 8 t) m n = rd (a := 1) (b := 512) (V c main_v5) (m) n := by
  rw [rd_lt (a := 1) (b := 512) _ hm hn]
  blk_simp [iblk1]
  exact rd_of (a := 1) (b := 512) _ _ (by blk_simp [at1_8]) (by blk_simp [at1_8])

end Cert.Conf
-- ==== Proof.Whole.lean ====
/-  What the two kernels leave, row by row of the whole arrays.  -/
module
public import proofs.«01_k».proof.Proof.Tiles
@[expose] public section
noncomputable section
namespace Cert.Conf
open Idealize.ShloMosaic Idealize.ShloMosaic.TcCoe Cert.KernelIdeal Cert.KernelIdeal.Gen

variable (vg : Vec Ideal S8192x1024 .f32) (w : Vec Ideal S31x512 .f32) (b g be : Vec Ideal S1x512 .f32)
  (ct : Vec Ideal S8192x512 .bf16) (cv : Vec Ideal S8192x512 .f32)

/-- The gated row that tap `k` of the convolution reads at row `R`: zero before its sequence's first row. -/
def back (k R q : ℕ) : EReal := if 30 ≤ R % 4096 + k then gated vg (R + k - 30) q else 0

/-- The convolution. -/
def conv (R q : ℕ) : EReal := ∑ k ∈ Finset.range 31, rd w k q * back vg k R q + rd b 0 q

/-- The gradient at the convolution. -/
def dc (R q : ℕ) : EReal := dconv (rd cv R) (rd g 0) (rd be 0) (rd ct R) q

/-- The gradient at the row that reads row `R` with tap `k`: zero past its sequence's last row. -/
def ahead (k R q : ℕ) : EReal := if R % 4096 + (30 - k) < 4096 then dc g be ct cv (R + (30 - k)) q else 0

/-- The gradient at the gated rows. -/
def dh (R q : ℕ) : EReal := ∑ k ∈ Finset.range 31, rd w k q * ahead g be ct cv k R q

/-- The gradient at the two halves. -/
def dvg (R n : ℕ) : EReal :=
  if n < 512 then dh w g be ct cv R n * Ideal.logistic (rd vg R (512 + n))
  else dh w g be ct cv R (n - 512) * rd vg R (n - 512) * Ideal.logistic (rd vg R (512 + (n - 512)))
    * (1 - Ideal.logistic (rd vg R (512 + (n - 512))))

/-- The gradient at the weights. -/
def dw (k q : ℕ) : EReal := ∑ R ∈ Finset.range 8192, dc g be ct cv R q * back vg k R q
/-- The gradient at the bias. -/
def db (q : ℕ) : EReal := ∑ R ∈ Finset.range 8192, dc g be ct cv R q
/-- The gradient at the layer norm's scale. -/
def dg (q : ℕ) : EReal := ∑ R ∈ Finset.range 8192, norm (rd cv R) q * dln (rd cv R) (rd g 0) (rd be 0) (rd ct R) q
/-- The gradient at its bias. -/
def dbe (q : ℕ) : EReal := ∑ R ∈ Finset.range 8192, dln (rd cv R) (rd g 0) (rd be 0) (rd ct R) q

/-- A sum over rows, block by block. -/
theorem sum_blocks (f : ℕ → EReal) (T : ℕ) : ∑ t ∈ Finset.range T, ∑ r ∈ Finset.range 256, f (256 * t + r) = ∑ R ∈ Finset.range (256 * T), f R := by
  induction T with
  | zero => rfl
  | succ T ih => rw [Finset.sum_range_succ, ih, Nat.mul_succ, Finset.sum_range_add]

theorem fold_all (f : ℕ → EReal) :
    0 + ∑ s ∈ Finset.range (31 % 32 + 1), ∑ r ∈ Finset.range 256, f (256 * (32 * (31 / 32) + s) + r) = ∑ R ∈ Finset.range 8192, f R := by
  have e : ∀ s r, 256 * (32 * (31 / 32) + s) + r = 256 * s + r := fun s r => by omega
  simp only [zero_add, e]
  exact sum_blocks f 32

section
variable (V : (c : Dev nD) → (b : Ref sig .tc) → Buf (Elt Ideal) ((c : Thread nD τ).loc b)) (c : Dev nD)

theorem gated0 (t : Fin cfg0.N) {m q : ℕ} (hm : m < 256) (hq : q < 512) :
    gated (n := 256) (iblk0 V c 0 t) m q = gated (n := 8192) (V c main_arg0) (256 * t.val + m) q := by
  rw [gated, blk0_0 V c t hm (by omega), blk0_0 V c t hm (by omega), gated]

theorem halo0 (t : Fin cfg0.N) {m q : ℕ} (hm : m < 32) (hq : q < 512) :
    gated (n := 32) (iblk0 V c 1 t) m q = gated (n := 8192) (V c main_arg0) (32 * (8 * t.val - 1) + m) q := by
  rw [gated, blk0_1 V c t hm (by omega), blk0_1 V c t hm (by omega), gated]

theorem gated1 (t : Fin cfg1.N) {m q : ℕ} (hm : m < 256) (hq : q < 512) :
    gated (n := 256) (iblk1 V c 4 t) m q = gated (n := 8192) (V c main_arg0) (256 * t.val + m) q := by
  rw [gated, blk1_4 V c t hm (by omega), blk1_4 V c t hm (by omega), gated]

theorem halo1 (t : Fin cfg1.N) {m q : ℕ} (hm : m < 32) (hq : q < 512) :
    gated (n := 32) (iblk1 V c 5 t) m q = gated (n := 8192) (V c main_arg0) (32 * (8 * t.val - 1) + m) q := by
  rw [gated, blk1_5 V c t hm (by omega), blk1_5 V c t hm (by omega), gated]

/-- The buffer of gated rows holds what the taps of the block's rows read. -/
theorem ext_back (z : Prop) [Decidable z] (X : Vec Ideal S256x1024 .f32) (H : Vec Ideal S32x1024 .f32) (t : ℕ) (hz : z ↔ t % 16 = 0)
    {k r q : ℕ} (hk : k < 31) (hr : r < 256)
    (hX : ∀ m < 256, gated X m q = gated vg (256 * t + m) q) (hH : ∀ m < 32, gated H m q = gated vg (32 * (8 * t - 1) + m) q) :
    ext z X H (2 + k + r) q = back vg k (256 * t + r) q := by
  have e : 30 ≤ (256 * t + r) % 4096 + k ↔ ¬(t % 16 = 0 ∧ r + k < 30) := by omega
  unfold ext back
  by_cases h : 2 + k + r < 32
  · rw [if_pos h]
    by_cases hz' : t % 16 = 0
    · rw [if_pos (hz.mpr hz'), if_neg (by omega)]
    · rw [if_neg (fun h => hz' (hz.mp h)), if_pos (by omega), hH _ h]
      congr 1
      omega
  · rw [if_neg h, if_pos (by omega), hX _ (by omega)]
    congr 1
    omega

/-- The buffer of gradients holds what the transposed taps of the block's rows read. -/
theorem ext2_ahead (z : Prop) [Decidable z] (x0 : Vec Ideal S256x512 .bf16) (x1 : Vec Ideal S32x512 .bf16) (x2 : Vec Ideal S256x512 .f32)
    (x3 : Vec Ideal S32x512 .f32) (x7 x8 : Vec Ideal S1x512 .f32) (t : ℕ) (ht : t < 32) (hz : z ↔ t % 16 = 15) {k r q : ℕ} (hk : k < 31) (hr : r < 256)
    (hX : ∀ m < 256, dconv (rd x2 m) (rd x7 0) (rd x8 0) (rd x0 m) q = dc g be ct cv (256 * t + m) q)
    (hH : ∀ m < 32, dconv (rd x3 m) (rd x7 0) (rd x8 0) (rd x1 m) q = dc g be ct cv (32 * (min (8 * (t + 1)) 255) + m) q) :
    ext2 z x0 x1 x2 x3 x7 x8 (30 - k + r) q = ahead g be ct cv k (256 * t + r) q := by
  unfold ext2 ahead
  by_cases h : 30 - k + r < 256
  · rw [if_pos h, if_pos (by omega), hX _ h]
    congr 1
    omega
  · rw [if_neg h]
    by_cases hz' : t % 16 = 15
    · rw [if_pos (hz.mpr hz'), if_neg (by omega)]
    · rw [if_neg (fun h => hz' (hz.mp h)), if_pos (by omega), hH _ (by omega)]
      congr 1
      omega

theorem at0 : ∀ t : Fin cfg0.N, (grid0.coords t 0).val = t.val := (by decide +kernel : ∀ t : Fin grid0.N, _)
theorem at1 : ∀ t : Fin cfg1.N, (grid1.coords t 0).val = t.val := (by decide +kernel : ∀ t : Fin grid1.N, _)

/-- The forward kernel leaves the convolution. -/
theorem conv_final : (dat0 V c).arrAt 7 cfg0.N
    = fun j : S8192x512.Idx => conv (V c main_arg0) (V c main_arg1) (V c main_v0) (j 0).val (j 1).val := by
  refine (dat0 V c).arrAt_eq_of_covers 7 _ (by decide +kernel) fun t hf y => ?_
  blk_simp [at0_7]
  rw [after0_7]
  unfold outsAt0
  dsimp only
  obtain ⟨r, q, rfl⟩ : ∃ (r : Fin 256) (q : Fin 512), y = ix2 r q := ⟨y 0, y 1, eq_ix2 y⟩
  rw [conv_fwd]
  show _ = conv _ _ _ (t.val * 256 + r.val) q.val
  rw [Nat.mul_comm t.val 256]
  have hc : (grid0.coords t 0).val = t.val := at0 t
  rw [conv]
  congr 1
  · refine Finset.sum_congr rfl fun k hk => ?_
    have hk := Finset.mem_range.mp hk
    rw [ext_back (V c main_arg0) _ _ _ t.val (by rw [hc]) hk r.isLt (fun m hm => gated0 V c t hm q.isLt) (fun m hm => halo0 V c t hm q.isLt), blk0_2 V c t hk q.isLt]
  · rw [blk0_3 V c t Nat.one_pos q.isLt]

theorem rd_row {a b a' : ℕ} (X : (⟨2, ![a, b]⟩ : Shape).Idx → EReal) (Y : (⟨2, ![a', b]⟩ : Shape).Idx → EReal) {m m' : ℕ}
    (h : ∀ n < b, rd X m n = rd Y m' n) : rd X m = rd Y m' := by
  funext n
  by_cases hn : n < b
  · exact h n hn
  · rw [rd, rd, dif_neg (fun h => hn h.2), dif_neg (fun h => hn h.2)]

theorem row0 (t : Fin cfg1.N) {m : ℕ} (hm : m < 256) : rd (a := 256) (b := 512) (iblk1 V c 0 t) m = rd (a := 8192) (b := 512) (V c main_arg5) (256 * t.val + m) :=
  rd_row _ _ fun _ hn => blk1_0 V c t hm hn
theorem row1 (t : Fin cfg1.N) {m : ℕ} (hm : m < 32) : rd (a := 32) (b := 512) (iblk1 V c 1 t) m = rd (a := 8192) (b := 512) (V c main_arg5) (32 * (min (8 * (t.val + 1)) 255) + m) :=
  rd_row _ _ fun _ hn => blk1_1 V c t hm hn
theorem row2 (t : Fin cfg1.N) {m : ℕ} (hm : m < 256) : rd (a := 256) (b := 512) (iblk1 V c 2 t) m = rd (a := 8192) (b := 512) (V c main_v3_1) (256 * t.val + m) :=
  rd_row _ _ fun _ hn => blk1_2 V c t hm hn
theorem row3 (t : Fin cfg1.N) {m : ℕ} (hm : m < 32) : rd (a := 32) (b := 512) (iblk1 V c 3 t) m = rd (a := 8192) (b := 512) (V c main_v3_1) (32 * (min (8 * (t.val + 1)) 255) + m) :=
  rd_row _ _ fun _ hn => blk1_3 V c t hm hn
theorem row7 (t : Fin cfg1.N) : rd (a := 1) (b := 512) (iblk1 V c 7 t) 0 = rd (a := 1) (b := 512) (V c main_v4) 0 :=
  rd_row _ _ fun _ hn => blk1_7 V c t Nat.one_pos hn
theorem row8 (t : Fin cfg1.N) : rd (a := 1) (b := 512) (iblk1 V c 8 t) 0 = rd (a := 1) (b := 512) (V c main_v5) 0 :=
  rd_row _ _ fun _ hn => blk1_8 V c t Nat.one_pos hn

/-- The two row buffers' rows, at the whole arrays. -/
theorem tile_ahead (t : Fin cfg1.N) {k r q : ℕ} (hk : k < 31) (hr : r < 256) :
    ext2 ((grid1.coords t 0).val % 16 = 15) (iblk1 V c 0 t) (iblk1 V c 1 t) (iblk1 V c 2 t) (iblk1 V c 3 t) (iblk1 V c 7 t) (iblk1 V c 8 t) (30 - k + r) q
      = ahead (V c main_v4) (V c main_v5) (V c main_arg5) (V c main_v3_1) k (256 * t.val + r) q := by
  have hc : (grid1.coords t 0).val = t.val := at1 t
  refine ext2_ahead (V c main_v4) (V c main_v5) (V c main_arg5) (V c main_v3_1) _ _ _ _ _ _ _ t.val t.isLt (by rw [hc]) hk hr ?_ ?_
  · intro m hm
    rw [row0 V c t hm, row2 V c t hm, row7, row8, dc]
  · intro m hm
    rw [row1 V c t hm, row3 V c t hm, row7, row8, dc]

theorem tile_back (t : Fin cfg1.N) {k r q : ℕ} (hk : k < 31) (hr : r < 256) (hq : q < 512) :
    ext ((grid1.coords t 0).val % 16 = 0) (iblk1 V c 4 t) (iblk1 V c 5 t) (2 + k + r) q = back (V c main_arg0) k (256 * t.val + r) q := by
  have hc : (grid1.coords t 0).val = t.val := at1 t
  exact ext_back (V c main_arg0) _ _ _ t.val (by rw [hc]) hk hr (fun m hm => gated1 V c t hm hq) (fun m hm => halo1 V c t hm hq)

theorem tile_dc (t : Fin cfg1.N) {r q : ℕ} (hr : r < 256) :
    dconv (rd (a := 256) (b := 512) (iblk1 V c 2 t) r) (rd (a := 1) (b := 512) (iblk1 V c 7 t) 0) (rd (a := 1) (b := 512) (iblk1 V c 8 t) 0)
      (rd (a := 256) (b := 512) (iblk1 V c 0 t) r) q = dc (V c main_v4) (V c main_v5) (V c main_arg5) (V c main_v3_1) (256 * t.val + r) q := by
  rw [row0 V c t hr, row2 V c t hr, row7, row8, dc]

theorem tile_dvg (t : Fin cfg1.N) (r : Fin 256) (q : Fin 1024) :
    dvgTile ((grid1.coords t 0).val % 16 = 15) (iblk1 V c 0 t) (iblk1 V c 1 t) (iblk1 V c 2 t) (iblk1 V c 3 t) (iblk1 V c 4 t) (iblk1 V c 6 t) (iblk1 V c 7 t) (iblk1 V c 8 t) r q
      = dvg (V c main_arg0) (V c main_arg1) (V c main_v4) (V c main_v5) (V c main_arg5) (V c main_v3_1) (256 * t.val + r) q := by
  have h : ∀ n : ℕ, n < 512 → dhTile ((grid1.coords t 0).val % 16 = 15) (iblk1 V c 0 t) (iblk1 V c 1 t) (iblk1 V c 2 t) (iblk1 V c 3 t) (iblk1 V c 6 t) (iblk1 V c 7 t) (iblk1 V c 8 t) r n
      = dh (V c main_arg1) (V c main_v4) (V c main_v5) (V c main_arg5) (V c main_v3_1) (256 * t.val + r) n := by
    intro n hn
    refine Finset.sum_congr rfl fun k hk => ?_
    have hk := Finset.mem_range.mp hk
    rw [tile_ahead V c t hk r.isLt, blk1_6 V c t hk hn]
  have h' : ∀ n : ℕ, n < 1024 → rd (a := 256) (b := 1024) (iblk1 V c 4 t) r n = rd (a := 8192) (b := 1024) (V c main_arg0) (256 * t.val + r) n :=
    fun n hn => blk1_4 V c t r.isLt hn
  unfold dvgTile dvg
  split_ifs with hq
  · rw [h _ hq, h' _ (by omega)]
  · rw [h _ (by omega), h' _ (by omega), h' _ (by omega)]

theorem tile_dw (t : Fin cfg1.N) (k : Fin 31) (q : Fin 512) :
    dwTile ((grid1.coords t 0).val % 16 = 15) ((grid1.coords t 0).val % 16 = 0) (iblk1 V c 0 t) (iblk1 V c 1 t) (iblk1 V c 2 t) (iblk1 V c 3 t) (iblk1 V c 4 t) (iblk1 V c 5 t) (iblk1 V c 7 t) (iblk1 V c 8 t) k q
      = ∑ r ∈ Finset.range 256, dc (V c main_v4) (V c main_v5) (V c main_arg5) (V c main_v3_1) (256 * t.val + r) q * back (V c main_arg0) k (256 * t.val + r) q := by
  refine Finset.sum_congr rfl fun r hr => ?_
  have hr := Finset.mem_range.mp hr
  rw [tile_back V c t k.isLt hr q.isLt, ext2, if_pos hr, tile_dc V c t hr]

/-- The backward kernel leaves the gradient at the halves. -/
theorem dvg_final : (dat1 V c).arrAt 9 cfg1.N
    = fun j : S8192x1024.Idx => dvg (V c main_arg0) (V c main_arg1) (V c main_v4) (V c main_v5) (V c main_arg5) (V c main_v3_1) (j 0).val (j 1).val := by
  refine (dat1 V c).arrAt_eq_of_covers 9 _ (by decide +kernel) fun t hf y => ?_
  blk_simp [at1_9]
  rw [after1_9]
  obtain ⟨r, q, rfl⟩ : ∃ (r : Fin 256) (q : Fin 1024), y = ix2 r q := ⟨y 0, y 1, eq_ix2 y⟩
  show _ = dvg _ _ _ _ _ _ (t.val * 256 + r.val) q.val
  rw [Nat.mul_comm t.val 256, ← tile_dvg]
  by_cases h0 : t.val % 32 = 0
  · rw [outsAt1_A V c t h0]
    dsimp only
    exact dvg_A ..
  · rw [outsAt1_B V c t h0]
    dsimp only
    exact dvg_B ..

/-- The block of the gradient at the weights after a point: the sum over the rows so far. -/
theorem dw_acc (t : Fin cfg1.N) (k : Fin 31) (q : Fin 512) : ((outsAt1 V c t.val t.isLt).2.1 (ix2 k q) : EReal)
    = 0 + ∑ s ∈ Finset.range (t.val % 32 + 1), ∑ r ∈ Finset.range 256,
        dc (V c main_v4) (V c main_v5) (V c main_arg5) (V c main_v3_1) (256 * (32 * (t.val / 32) + s) + r) q * back (V c main_arg0) k (256 * (32 * (t.val / 32) + s) + r) q := by
  refine Pipeline.eq_sum_of_reset_step_apply (M := EReal) (fun n h (i : Fin 31 × Fin 512) => (outsAt1 V c n h).2.1 (ix2 i.1 i.2)) 32 (fun _ => 0)
    (fun t i => ∑ r ∈ Finset.range 256, dc (V c main_v4) (V c main_v5) (V c main_arg5) (V c main_v3_1) (256 * t + r) i.2 * back (V c main_arg0) i.1 (256 * t + r) i.2) ?_ ?_ t (k, q)
  · rintro t h0 ⟨k, q⟩
    rw [outsAt1_A V c t h0]
    dsimp only
    rw [← tile_dw]
    exact dw_A ..
  · rintro t h0 ⟨k, q⟩
    rw [outsAt1_B V c t h0]
    dsimp only
    rw [← tile_dw]
    exact dw_B ..

theorem dw_final_at (t : Fin cfg1.N) (ht : t.val = 31) (h : (cfg1.win 10).WholeAt t) : (dat1 V c).arrAt 10 cfg1.N = fun j : S31x512.Idx => dw (V c main_arg0) (V c main_v4) (V c main_v5) (V c main_arg5) (V c main_v3_1) (j 0).val (j 1).val := by
  refine (dat1 V c).arrAt_eq_of_after_last 10 t h _ fun j => ?_
  blk_simp [at1_10]
  rw [after1_10]
  obtain ⟨k, q, rfl⟩ : ∃ (k : Fin 31) (q : Fin 512), j = ix2 k q := ⟨j 0, j 1, eq_ix2 j⟩
  refine (dw_acc V c t k q).trans ?_
  rw [ht]
  exact fold_all (fun R => dc (V c main_v4) (V c main_v5) (V c main_arg5) (V c main_v3_1) R q * back (V c main_arg0) k R q)

/-- The backward kernel leaves the gradient at the weights. -/
theorem dw_final : (dat1 V c).arrAt 10 cfg1.N = fun j : S31x512.Idx => dw (V c main_arg0) (V c main_v4) (V c main_v5) (V c main_arg5) (V c main_v3_1) (j 0).val (j 1).val :=
  dw_final_at V c ⟨31, by decide⟩ rfl (by decide +kernel)

/-- The block of the gradient at the bias after a point: the sum over the rows so far. -/
theorem db_acc (t : Fin cfg1.N) (q : Fin 512) : ((outsAt1 V c t.val t.isLt).2.2.1 (ix2 0 q) : EReal)
    = 0 + ∑ s ∈ Finset.range (t.val % 32 + 1), ∑ r ∈ Finset.range 256,
        dc (V c main_v4) (V c main_v5) (V c main_arg5) (V c main_v3_1) (256 * (32 * (t.val / 32) + s) + r) q := by
  refine Pipeline.eq_sum_of_reset_step_apply (M := EReal) (fun n h (i : Fin 512) => (outsAt1 V c n h).2.2.1 (ix2 0 i)) 32 (fun _ => 0)
    (fun t i => ∑ r ∈ Finset.range 256, dc (V c main_v4) (V c main_v5) (V c main_arg5) (V c main_v3_1) (256 * t + r) i) ?_ ?_ t q
  · rintro t h0 q
    rw [outsAt1_A V c t h0]
    dsimp only
    refine (db_A ..).trans (congrArg₂ HAdd.hAdd rfl (Finset.sum_congr rfl fun r hr => ?_))
    have hr := Finset.mem_range.mp hr
    rw [tile_dc V c t hr]
  · rintro t h0 q
    rw [outsAt1_B V c t h0]
    dsimp only
    refine (db_B ..).trans (congrArg₂ HAdd.hAdd rfl (Finset.sum_congr rfl fun r hr => ?_))
    have hr := Finset.mem_range.mp hr
    rw [tile_dc V c t hr]

theorem db_final_at (t : Fin cfg1.N) (ht : t.val = 31) (h : (cfg1.win 11).WholeAt t) : (dat1 V c).arrAt 11 cfg1.N = fun j : S1x512.Idx => db (V c main_v4) (V c main_v5) (V c main_arg5) (V c main_v3_1) (j 1).val := by
  refine (dat1 V c).arrAt_eq_of_after_last 11 t h _ fun j => ?_
  blk_simp [at1_11]
  rw [after1_11]
  obtain ⟨q, rfl⟩ : ∃ q : Fin 512, j = ix2 0 q := ⟨j 1, (eq_ix2 j).trans (congrArg (fun a : Fin 1 => ix2 a (j 1)) (Subsingleton.elim _ _))⟩
  refine (db_acc V c t q).trans ?_
  rw [ht]
  exact fold_all (fun R => dc (V c main_v4) (V c main_v5) (V c main_arg5) (V c main_v3_1) R q)

/-- The backward kernel leaves the gradient at the bias. -/
theorem db_final : (dat1 V c).arrAt 11 cfg1.N = fun j : S1x512.Idx => db (V c main_v4) (V c main_v5) (V c main_arg5) (V c main_v3_1) (j 1).val :=
  db_final_at V c ⟨31, by decide⟩ rfl (by decide +kernel)

/-- The block of the gradient at the scale after a point: the sum over the rows so far. -/
theorem dlng_acc (t : Fin cfg1.N) (q : Fin 512) : ((outsAt1 V c t.val t.isLt).2.2.2.1 (ix2 0 q) : EReal)
    = 0 + ∑ s ∈ Finset.range (t.val % 32 + 1), ∑ r ∈ Finset.range 256,
        norm (rd (a := 8192) (b := 512) (V c main_v3_1) (256 * (32 * (t.val / 32) + s) + r)) q * dln (rd (a := 8192) (b := 512) (V c main_v3_1) (256 * (32 * (t.val / 32) + s) + r)) (rd (a := 1) (b := 512) (V c main_v4) 0) (rd (a := 1) (b := 512) (V c main_v5) 0) (rd (a := 8192) (b := 512) (V c main_arg5) (256 * (32 * (t.val / 32) + s) + r)) q := by
  refine Pipeline.eq_sum_of_reset_step_apply (M := EReal) (fun n h (i : Fin 512) => (outsAt1 V c n h).2.2.2.1 (ix2 0 i)) 32 (fun _ => 0)
    (fun t i => ∑ r ∈ Finset.range 256, norm (rd (a := 8192) (b := 512) (V c main_v3_1) (256 * t + r)) i * dln (rd (a := 8192) (b := 512) (V c main_v3_1) (256 * t + r)) (rd (a := 1) (b := 512) (V c main_v4) 0) (rd (a := 1) (b := 512) (V c main_v5) 0) (rd (a := 8192) (b := 512) (V c main_arg5) (256 * t + r)) i) ?_ ?_ t q
  · rintro t h0 q
    rw [outsAt1_A V c t h0]
    dsimp only
    refine (dlng_A ..).trans (congrArg₂ HAdd.hAdd rfl (Finset.sum_congr rfl fun r hr => ?_))
    have hr := Finset.mem_range.mp hr
    rw [row0 V c t hr, row2 V c t hr, row7, row8]
  · rintro t h0 q
    rw [outsAt1_B V c t h0]
    dsimp only
    refine (dlng_B ..).trans (congrArg₂ HAdd.hAdd rfl (Finset.sum_congr rfl fun r hr => ?_))
    have hr := Finset.mem_range.mp hr
    rw [row0 V c t hr, row2 V c t hr, row7, row8]

theorem dlng_final_at (t : Fin cfg1.N) (ht : t.val = 31) (h : (cfg1.win 12).WholeAt t) : (dat1 V c).arrAt 12 cfg1.N = fun j : S1x512.Idx => dg (V c main_v4) (V c main_v5) (V c main_arg5) (V c main_v3_1) (j 1).val := by
  refine (dat1 V c).arrAt_eq_of_after_last 12 t h _ fun j => ?_
  blk_simp [at1_12]
  rw [after1_12]
  obtain ⟨q, rfl⟩ : ∃ q : Fin 512, j = ix2 0 q := ⟨j 1, (eq_ix2 j).trans (congrArg (fun a : Fin 1 => ix2 a (j 1)) (Subsingleton.elim _ _))⟩
  refine (dlng_acc V c t q).trans ?_
  rw [ht]
  exact fold_all (fun R => norm (rd (a := 8192) (b := 512) (V c main_v3_1) R) q * dln (rd (a := 8192) (b := 512) (V c main_v3_1) R) (rd (a := 1) (b := 512) (V c main_v4) 0) (rd (a := 1) (b := 512) (V c main_v5) 0) (rd (a := 8192) (b := 512) (V c main_arg5) R) q)

/-- The backward kernel leaves the gradient at the scale. -/
theorem dlng_final : (dat1 V c).arrAt 12 cfg1.N = fun j : S1x512.Idx => dg (V c main_v4) (V c main_v5) (V c main_arg5) (V c main_v3_1) (j 1).val :=
  dlng_final_at V c ⟨31, by decide⟩ rfl (by decide +kernel)

/-- The block of the gradient at the shift after a point: the sum over the rows so far. -/
theorem dlnb_acc (t : Fin cfg1.N) (q : Fin 512) : ((outsAt1 V c t.val t.isLt).2.2.2.2 (ix2 0 q) : EReal)
    = 0 + ∑ s ∈ Finset.range (t.val % 32 + 1), ∑ r ∈ Finset.range 256,
        dln (rd (a := 8192) (b := 512) (V c main_v3_1) (256 * (32 * (t.val / 32) + s) + r)) (rd (a := 1) (b := 512) (V c main_v4) 0) (rd (a := 1) (b := 512) (V c main_v5) 0) (rd (a := 8192) (b := 512) (V c main_arg5) (256 * (32 * (t.val / 32) + s) + r)) q := by
  refine Pipeline.eq_sum_of_reset_step_apply (M := EReal) (fun n h (i : Fin 512) => (outsAt1 V c n h).2.2.2.2 (ix2 0 i)) 32 (fun _ => 0)
    (fun t i => ∑ r ∈ Finset.range 256, dln (rd (a := 8192) (b := 512) (V c main_v3_1) (256 * t + r)) (rd (a := 1) (b := 512) (V c main_v4) 0) (rd (a := 1) (b := 512) (V c main_v5) 0) (rd (a := 8192) (b := 512) (V c main_arg5) (256 * t + r)) i) ?_ ?_ t q
  · rintro t h0 q
    rw [outsAt1_A V c t h0]
    dsimp only
    refine (dlnb_A ..).trans (congrArg₂ HAdd.hAdd rfl (Finset.sum_congr rfl fun r hr => ?_))
    have hr := Finset.mem_range.mp hr
    rw [row0 V c t hr, row2 V c t hr, row7, row8]
  · rintro t h0 q
    rw [outsAt1_B V c t h0]
    dsimp only
    refine (dlnb_B ..).trans (congrArg₂ HAdd.hAdd rfl (Finset.sum_congr rfl fun r hr => ?_))
    have hr := Finset.mem_range.mp hr
    rw [row0 V c t hr, row2 V c t hr, row7, row8]

theorem dlnb_final_at (t : Fin cfg1.N) (ht : t.val = 31) (h : (cfg1.win 13).WholeAt t) : (dat1 V c).arrAt 13 cfg1.N = fun j : S1x512.Idx => dbe (V c main_v4) (V c main_v5) (V c main_arg5) (V c main_v3_1) (j 1).val := by
  refine (dat1 V c).arrAt_eq_of_after_last 13 t h _ fun j => ?_
  blk_simp [at1_13]
  rw [after1_13]
  obtain ⟨q, rfl⟩ : ∃ q : Fin 512, j = ix2 0 q := ⟨j 1, (eq_ix2 j).trans (congrArg (fun a : Fin 1 => ix2 a (j 1)) (Subsingleton.elim _ _))⟩
  refine (dlnb_acc V c t q).trans ?_
  rw [ht]
  exact fold_all (fun R => dln (rd (a := 8192) (b := 512) (V c main_v3_1) R) (rd (a := 1) (b := 512) (V c main_v4) 0) (rd (a := 1) (b := 512) (V c main_v5) 0) (rd (a := 8192) (b := 512) (V c main_arg5) R) q)
/-- The backward kernel leaves the gradient at the shift. -/
theorem dlnb_final : (dat1 V c).arrAt 13 cfg1.N = fun j : S1x512.Idx => dbe (V c main_v4) (V c main_v5) (V c main_arg5) (V c main_v3_1) (j 1).val :=
  dlnb_final_at V c ⟨31, by decide⟩ rfl (by decide +kernel)

end
end Cert.Conf
-- ==== Proof.Ref1.lean ====
/-  The reference up to the gradient at the convolution, entry by entry.  -/
module
public import proofs.«01_k».proof.Proof.Whole
public import proofs.«01_k».proof.Proof.Gen.ReferenceIdeal.Read
@[expose] public section
noncomputable section
namespace Cert.Conf
open Idealize.ShloMosaic Idealize.ShloMosaic.TcCoe Cert.ReferenceIdeal Cert.ReferenceIdeal.Gen Cert.ReferenceIdeal.Read

variable (x0 : Vec Ideal S8192x1024 .f32) (x1 : Vec Ideal S31x512 .f32) (x2 x3 x4 : Vec Ideal S512 .f32) (x5 : Vec Ideal S8192x512 .bf16)
  (s : Fin 2) (p : Fin 4096) (q : Fin 512)

/-- The row of the whole array at row `p` of sequence `s`. -/
abbrev at_ (s : Fin 2) (p : Fin 4096) : ℕ := 4096 * s.val + p.val

theorem one_word : (FloatOps.ofBits (F := Ideal) .f32 0x3F800000#32 : EReal) = 1 := by
  show Ideal.ofBits .f32 0x3F800000#32 = 1
  simp

theorem zero_word : (FloatOps.ofBits (F := Ideal) .f32 0x00000000#32 : EReal) = 0 := by
  show Ideal.ofBits .f32 0x00000000#32 = 0
  simp

theorem r0 (n : Fin 1024) : val_main_v0 (F := Ideal) x0 (ix3 s p n) = rd x0 (at_ s p) n := by
  rw [val_main_v0_apply]
  exact rd_of x0 _ (show ((s.val * 4096 + p.val) * 1024 + n.val) / 1024 = 4096 * s.val + p.val by omega) (show ((s.val * 4096 + p.val) * 1024 + n.val) % 1024 = n.val by omega)

theorem r1 : val_main_v1 (F := Ideal) x0 (ix3 s p q) = rd x0 (at_ s p) q := by
  rw [val_main_v1_apply]
  exact r0 x0 s p ⟨q.val, by omega⟩

theorem r2 : val_main_v2 (F := Ideal) x0 (ix3 s p q) = rd x0 (at_ s p) (512 + q) := by
  rw [val_main_v2_apply]
  exact r0 x0 s p ⟨512 + q.val, by omega⟩

theorem r8 : val_main_v8 (F := Ideal) x0 (ix3 s p q) = Ideal.logistic (rd x0 (at_ s p) (512 + q)) := by
  rw [val_main_v8_apply, val_main_v7_apply, val_main_v6_apply, val_main_v5_apply, val_main_v4_apply, val_main_v3_apply, r2]
  rw [val_main_cst_0_apply, val_main_cst_apply, one_word]
  rfl

theorem r11 : val_main_v11 (F := Ideal) x0 (ix3 s p q)
    = Ideal.logistic (rd x0 (at_ s p) (512 + q)) * (1 - Ideal.logistic (rd x0 (at_ s p) (512 + q))) := by
  rw [val_main_v11_apply, val_main_v10_apply, val_main_v9_apply, val_main_cst_1_apply, r8, one_word]
  rfl

theorem r12 : val_main_v12 (F := Ideal) x0 (ix3 s p q) = gated x0 (at_ s p) q := by
  rw [val_main_v12_apply, r1, r8]
  rfl

theorem r14 (m : Fin 4126) : val_main_v14 (F := Ideal) x0 (ix3 s m q) = if 30 ≤ m.val then gated x0 (4096 * s.val + (m.val - 30)) q else 0 := by
  unfold val_main_v14
  by_cases h : 30 ≤ m.val
  · rw [if_pos h]
    have hm : m.val - 30 < 4096 := by omega
    refine Eq.trans ?_ (r12 x0 s ⟨m.val - 30, hm⟩ q)
    refine concatenate_pair_apply_right (t := S2x4126x512) (s₁ := S2x30x512) (s₂ := S2x4096x512) (1 : Fin 3) _ _ _ _ rfl rfl (ix3 s ⟨m.val - 30, hm⟩ q) ?_ ?_
    · intro a ha
      match a with
      | ⟨0, _⟩ => rfl
      | ⟨1, _⟩ => exact absurd rfl ha
      | ⟨2, _⟩ => rfl
    · show m.val - 30 + 30 = m.val
      omega
  · rw [if_neg h]
    have hm : m.val < 30 := by omega
    refine (concatenate_pair_apply_left (t := S2x4126x512) (s₁ := S2x30x512) (1 : Fin 3) _ _ _ _ rfl (ix3 s ⟨m.val, hm⟩ q) ?_).trans ?_
    · intro a
      match a with
      | ⟨0, _⟩ => rfl
      | ⟨1, _⟩ => rfl
      | ⟨2, _⟩ => rfl
    · rw [val_main_v13_apply, val_main_cst_2_apply, zero_word]

/-- A window of the padded rows. -/
theorem window (k : ℕ) (hk : k < 31) (i : S2x4126x512.Idx) (h0 : (i 0).val = s.val) (h1 : (i 1).val = k + p.val) (h2 : (i 2).val = q.val) :
    val_main_v14 (F := Ideal) x0 i = back x0 k (at_ s p) q := by
  have hp : k + p.val < 4126 := by omega
  have hi : i = ix3 s ⟨k + p.val, hp⟩ q := funext fun a => Fin.ext (match a with
    | ⟨0, _⟩ => h0
    | ⟨1, _⟩ => h1
    | ⟨2, _⟩ => h2)
  rw [hi, r14, back]
  have e : 30 ≤ (at_ s p) % 4096 + k ↔ 30 ≤ k + p.val := by unfold at_; omega
  simp only [e]
  split_ifs with h
  · congr 1
    unfold at_
    show 4096 * s.val + (k + p.val - 30) = _
    omega
  · rfl

theorem window0 : val_main_v47 (F := Ideal) x0 (ix4 s p (0 : Fin 1) q) = back x0 0 (at_ s p) q := by
  rw [val_main_v47_apply, val_main_v16_apply]
  exact window x0 s p q 0 (by decide) _ rfl (Nat.zero_add _).symm rfl

theorem window1 : val_main_v48 (F := Ideal) x0 (ix4 s p (0 : Fin 1) q) = back x0 1 (at_ s p) q := by
  rw [val_main_v48_apply, val_main_v17_apply]
  exact window x0 s p q 1 (by decide) _ rfl rfl rfl

theorem window2 : val_main_v49 (F := Ideal) x0 (ix4 s p (0 : Fin 1) q) = back x0 2 (at_ s p) q := by
  rw [val_main_v49_apply, val_main_v18_apply]
  exact window x0 s p q 2 (by decide) _ rfl rfl rfl

theorem window3 : val_main_v50 (F := Ideal) x0 (ix4 s p (0 : Fin 1) q) = back x0 3 (at_ s p) q := by
  rw [val_main_v50_apply, val_main_v19_apply]
  exact window x0 s p q 3 (by decide) _ rfl rfl rfl

theorem window4 : val_main_v51 (F := Ideal) x0 (ix4 s p (0 : Fin 1) q) = back x0 4 (at_ s p) q := by
  rw [val_main_v51_apply, val_main_v20_apply]
  exact window x0 s p q 4 (by decide) _ rfl rfl rfl

theorem window5 : val_main_v52 (F := Ideal) x0 (ix4 s p (0 : Fin 1) q) = back x0 5 (at_ s p) q := by
  rw [val_main_v52_apply, val_main_v21_apply]
  exact window x0 s p q 5 (by decide) _ rfl rfl rfl

theorem window6 : val_main_v53 (F := Ideal) x0 (ix4 s p (0 : Fin 1) q) = back x0 6 (at_ s p) q := by
  rw [val_main_v53_apply, val_main_v22_apply]
  exact window x0 s p q 6 (by decide) _ rfl rfl rfl

theorem window7 : val_main_v54 (F := Ideal) x0 (ix4 s p (0 : Fin 1) q) = back x0 7 (at_ s p) q := by
  rw [val_main_v54_apply, val_main_v23_apply]
  exact window x0 s p q 7 (by decide) _ rfl rfl rfl

theorem window8 : val_main_v55 (F := Ideal) x0 (ix4 s p (0 : Fin 1) q) = back x0 8 (at_ s p) q := by
  rw [val_main_v55_apply, val_main_v24_apply]
  exact window x0 s p q 8 (by decide) _ rfl rfl rfl

theorem window9 : val_main_v56 (F := Ideal) x0 (ix4 s p (0 : Fin 1) q) = back x0 9 (at_ s p) q := by
  rw [val_main_v56_apply, val_main_v25_apply]
  exact window x0 s p q 9 (by decide) _ rfl rfl rfl

theorem window10 : val_main_v57 (F := Ideal) x0 (ix4 s p (0 : Fin 1) q) = back x0 10 (at_ s p) q := by
  rw [val_main_v57_apply, val_main_v26_apply]
  exact window x0 s p q 10 (by decide) _ rfl rfl rfl

theorem window11 : val_main_v58 (F := Ideal) x0 (ix4 s p (0 : Fin 1) q) = back x0 11 (at_ s p) q := by
  rw [val_main_v58_apply, val_main_v27_apply]
  exact window x0 s p q 11 (by decide) _ rfl rfl rfl

theorem window12 : val_main_v59 (F := Ideal) x0 (ix4 s p (0 : Fin 1) q) = back x0 12 (at_ s p) q := by
  rw [val_main_v59_apply, val_main_v28_apply]
  exact window x0 s p q 12 (by decide) _ rfl rfl rfl

theorem window13 : val_main_v60 (F := Ideal) x0 (ix4 s p (0 : Fin 1) q) = back x0 13 (at_ s p) q := by
  rw [val_main_v60_apply, val_main_v29_apply]
  exact window x0 s p q 13 (by decide) _ rfl rfl rfl

theorem window14 : val_main_v61 (F := Ideal) x0 (ix4 s p (0 : Fin 1) q) = back x0 14 (at_ s p) q := by
  rw [val_main_v61_apply, val_main_v30_apply]
  exact window x0 s p q 14 (by decide) _ rfl rfl rfl

theorem window15 : val_main_v62 (F := Ideal) x0 (ix4 s p (0 : Fin 1) q) = back x0 15 (at_ s p) q := by
  rw [val_main_v62_apply, val_main_v31_apply]
  exact window x0 s p q 15 (by decide) _ rfl rfl rfl

theorem window16 : val_main_v63 (F := Ideal) x0 (ix4 s p (0 : Fin 1) q) = back x0 16 (at_ s p) q := by
  rw [val_main_v63_apply, val_main_v32_apply]
  exact window x0 s p q 16 (by decide) _ rfl rfl rfl

theorem window17 : val_main_v64 (F := Ideal) x0 (ix4 s p (0 : Fin 1) q) = back x0 17 (at_ s p) q := by
  rw [val_main_v64_apply, val_main_v33_apply]
  exact window x0 s p q 17 (by decide) _ rfl rfl rfl

theorem window18 : val_main_v65 (F := Ideal) x0 (ix4 s p (0 : Fin 1) q) = back x0 18 (at_ s p) q := by
  rw [val_main_v65_apply, val_main_v34_apply]
  exact window x0 s p q 18 (by decide) _ rfl rfl rfl

theorem window19 : val_main_v66 (F := Ideal) x0 (ix4 s p (0 : Fin 1) q) = back x0 19 (at_ s p) q := by
  rw [val_main_v66_apply, val_main_v35_apply]
  exact window x0 s p q 19 (by decide) _ rfl rfl rfl

theorem window20 : val_main_v67 (F := Ideal) x0 (ix4 s p (0 : Fin 1) q) = back x0 20 (at_ s p) q := by
  rw [val_main_v67_apply, val_main_v36_apply]
  exact window x0 s p q 20 (by decide) _ rfl rfl rfl

theorem window21 : val_main_v68 (F := Ideal) x0 (ix4 s p (0 : Fin 1) q) = back x0 21 (at_ s p) q := by
  rw [val_main_v68_apply, val_main_v37_apply]
  exact window x0 s p q 21 (by decide) _ rfl rfl rfl

theorem window22 : val_main_v69 (F := Ideal) x0 (ix4 s p (0 : Fin 1) q) = back x0 22 (at_ s p) q := by
  rw [val_main_v69_apply, val_main_v38_apply]
  exact window x0 s p q 22 (by decide) _ rfl rfl rfl

theorem window23 : val_main_v70 (F := Ideal) x0 (ix4 s p (0 : Fin 1) q) = back x0 23 (at_ s p) q := by
  rw [val_main_v70_apply, val_main_v39_apply]
  exact window x0 s p q 23 (by decide) _ rfl rfl rfl

theorem window24 : val_main_v71 (F := Ideal) x0 (ix4 s p (0 : Fin 1) q) = back x0 24 (at_ s p) q := by
  rw [val_main_v71_apply, val_main_v40_apply]
  exact window x0 s p q 24 (by decide) _ rfl rfl rfl

theorem window25 : val_main_v72 (F := Ideal) x0 (ix4 s p (0 : Fin 1) q) = back x0 25 (at_ s p) q := by
  rw [val_main_v72_apply, val_main_v41_apply]
  exact window x0 s p q 25 (by decide) _ rfl rfl rfl

theorem window26 : val_main_v73 (F := Ideal) x0 (ix4 s p (0 : Fin 1) q) = back x0 26 (at_ s p) q := by
  rw [val_main_v73_apply, val_main_v42_apply]
  exact window x0 s p q 26 (by decide) _ rfl rfl rfl

theorem window27 : val_main_v74 (F := Ideal) x0 (ix4 s p (0 : Fin 1) q) = back x0 27 (at_ s p) q := by
  rw [val_main_v74_apply, val_main_v43_apply]
  exact window x0 s p q 27 (by decide) _ rfl rfl rfl

theorem window28 : val_main_v75 (F := Ideal) x0 (ix4 s p (0 : Fin 1) q) = back x0 28 (at_ s p) q := by
  rw [val_main_v75_apply, val_main_v44_apply]
  exact window x0 s p q 28 (by decide) _ rfl rfl rfl

theorem window29 : val_main_v76 (F := Ideal) x0 (ix4 s p (0 : Fin 1) q) = back x0 29 (at_ s p) q := by
  rw [val_main_v76_apply, val_main_v45_apply]
  exact window x0 s p q 29 (by decide) _ rfl rfl rfl

theorem window30 : val_main_v77 (F := Ideal) x0 (ix4 s p (0 : Fin 1) q) = back x0 30 (at_ s p) q := by
  rw [val_main_v77_apply, val_main_v46_apply]
  exact window x0 s p q 30 (by decide) _ rfl rfl rfl

/-- A piece of a stack of pieces of one entry along axis 2. -/
theorem piece {N : ℕ} (lo n : ℕ) (k : Fin N) (y : (⟨4, ![2, 4096, 1, 512]⟩ : Shape).Idx → EReal) (hy : y (ix4 s p (0 : Fin 1) q) = back x0 (lo + n) (at_ s p) q) :
    PieceAt (t := ⟨4, ![2, 4096, N, 512]⟩) 2 (ix4 s p k q) (back x0 (lo + k.val) (at_ s p) q) ⟨4, ![2, 4096, 1, 512]⟩ y n := by
  intro hn hr i h0 hb
  have e : k.val = n := hn
  rw [e, ← hy]
  refine congrArg y (funext fun a => Fin.ext ?_)
  match a with
  | ⟨0, _⟩ => exact hb 0 fun h => absurd (congrArg Fin.val h) (by decide : (0 : ℕ) ≠ 2)
  | ⟨1, _⟩ => exact hb 1 fun h => absurd (congrArg Fin.val h) (by decide : (1 : ℕ) ≠ 2)
  | ⟨2, _⟩ => exact h0
  | ⟨3, _⟩ => exact hb 3 fun h => absurd (congrArg Fin.val h) (by decide : (3 : ℕ) ≠ 2)

theorem stack78 (k : Fin 16) : val_main_v78 (F := Ideal) x0 (ix4 s p k q) = back x0 (0 + k.val) (at_ s p) q := by
  unfold val_main_v78
  refine concatenate_unit_eq _ _ _ _ _ ?_ ?_
  · rfl
  exact ⟨piece x0 s p q 0 0 k _ (window0 x0 s p q), piece x0 s p q 0 1 k _ (window1 x0 s p q), piece x0 s p q 0 2 k _ (window2 x0 s p q), piece x0 s p q 0 3 k _ (window3 x0 s p q), piece x0 s p q 0 4 k _ (window4 x0 s p q), piece x0 s p q 0 5 k _ (window5 x0 s p q), piece x0 s p q 0 6 k _ (window6 x0 s p q), piece x0 s p q 0 7 k _ (window7 x0 s p q), piece x0 s p q 0 8 k _ (window8 x0 s p q), piece x0 s p q 0 9 k _ (window9 x0 s p q), piece x0 s p q 0 10 k _ (window10 x0 s p q), piece x0 s p q 0 11 k _ (window11 x0 s p q), piece x0 s p q 0 12 k _ (window12 x0 s p q), piece x0 s p q 0 13 k _ (window13 x0 s p q), piece x0 s p q 0 14 k _ (window14 x0 s p q), piece x0 s p q 0 15 k _ (window15 x0 s p q), trivial⟩

theorem stack79 (k : Fin 15) : val_main_v79 (F := Ideal) x0 (ix4 s p k q) = back x0 (16 + k.val) (at_ s p) q := by
  unfold val_main_v79
  refine concatenate_unit_eq _ _ _ _ _ ?_ ?_
  · rfl
  exact ⟨piece x0 s p q 16 0 k _ (window16 x0 s p q), piece x0 s p q 16 1 k _ (window17 x0 s p q), piece x0 s p q 16 2 k _ (window18 x0 s p q), piece x0 s p q 16 3 k _ (window19 x0 s p q), piece x0 s p q 16 4 k _ (window20 x0 s p q), piece x0 s p q 16 5 k _ (window21 x0 s p q), piece x0 s p q 16 6 k _ (window22 x0 s p q), piece x0 s p q 16 7 k _ (window23 x0 s p q), piece x0 s p q 16 8 k _ (window24 x0 s p q), piece x0 s p q 16 9 k _ (window25 x0 s p q), piece x0 s p q 16 10 k _ (window26 x0 s p q), piece x0 s p q 16 11 k _ (window27 x0 s p q), piece x0 s p q 16 12 k _ (window28 x0 s p q), piece x0 s p q 16 13 k _ (window29 x0 s p q), piece x0 s p q 16 14 k _ (window30 x0 s p q), trivial⟩

/-- The stacked windows. -/
theorem r80 (k : Fin 31) : val_main_v80 (F := Ideal) x0 (ix4 s p k q) = back x0 k.val (at_ s p) q := by
  unfold val_main_v80
  by_cases h : k.val < 16
  · refine (concatenate_pair_apply_left (t := S2x4096x31x512) (s₁ := S2x4096x16x512) (2 : Fin 4) _ _ _ _ rfl (ix4 s p ⟨k.val, h⟩ q) ?_).trans ?_
    · intro a
      match a with
      | ⟨0, _⟩ => rfl
      | ⟨1, _⟩ => rfl
      | ⟨2, _⟩ => rfl
      | ⟨3, _⟩ => rfl
    · rw [stack78]
      exact congrArg (fun k => back x0 k (at_ s p) q) (Nat.zero_add _)
  · refine (concatenate_pair_apply_right (t := S2x4096x31x512) (s₁ := S2x4096x16x512) (s₂ := S2x4096x15x512) (2 : Fin 4) _ _ _ _ rfl rfl (ix4 s p ⟨k.val - 16, by omega⟩ q) ?_ ?_).trans ?_
    · intro a ha
      match a with
      | ⟨0, _⟩ => rfl
      | ⟨1, _⟩ => rfl
      | ⟨2, _⟩ => exact absurd rfl ha
      | ⟨3, _⟩ => rfl
    · show k.val - 16 + 16 = k.val
      omega
    · rw [stack79]
      exact congrArg (fun k => back x0 k (at_ s p) q) (show 16 + (k.val - 16) = k.val by omega)

variable (B G E : Vec Ideal S1x512 .f32) (cv : Vec Ideal S8192x512 .f32)

theorem r82 (k : Fin 31) : val_main_v82 (F := Ideal) x1 (ix4 s p k q) = rd x1 k q := by
  rw [val_main_v82_apply, val_main_v81_apply]
  exact rd_of x1 _ rfl rfl

theorem i84 (k : Fin 31) : idx_main_v84 (ix3 s p q) k = ix4 s p k q := funext fun a => match a with | ⟨0, _⟩ => rfl | ⟨1, _⟩ => rfl | ⟨2, _⟩ => rfl | ⟨3, _⟩ => rfl
theorem i88 (z : Fin 1) (k : Fin 512) : idx_main_v88 (idx_main_v89 (ix3 s p z)) k = ix3 s p k := funext fun a => match a with | ⟨0, _⟩ => rfl | ⟨1, _⟩ => rfl | ⟨2, _⟩ => rfl
theorem i95 (z : Fin 1) (k : Fin 512) : idx_main_v95 (idx_main_v96 (ix3 s p z)) k = ix3 s p k := funext fun a => match a with | ⟨0, _⟩ => rfl | ⟨1, _⟩ => rfl | ⟨2, _⟩ => rfl
theorem i92 : idx_main_v92 (ix3 s p q) = ix3 s p (0 : Fin 1) := funext fun a => match a with | ⟨0, _⟩ => rfl | ⟨1, _⟩ => rfl | ⟨2, _⟩ => rfl
theorem i105 : idx_main_v105 (ix3 s p q) = ix3 s p (0 : Fin 1) := funext fun a => match a with | ⟨0, _⟩ => rfl | ⟨1, _⟩ => rfl | ⟨2, _⟩ => rfl
theorem i129 : idx_main_v129 (ix3 s p q) = ix3 s p (0 : Fin 1) := funext fun a => match a with | ⟨0, _⟩ => rfl | ⟨1, _⟩ => rfl | ⟨2, _⟩ => rfl
theorem i127 (k : Fin 512) : idx_main_v127 (ix2 s p) k = ix3 s p k := funext fun a => match a with | ⟨0, _⟩ => rfl | ⟨1, _⟩ => rfl | ⟨2, _⟩ => rfl
theorem i141 (k : Fin 512) : idx_main_v141 (ix2 s p) k = ix3 s p k := funext fun a => match a with | ⟨0, _⟩ => rfl | ⟨1, _⟩ => rfl | ⟨2, _⟩ => rfl
theorem i134 (k : Fin 1) : idx_main_v134 (idx_main_v135 (ix3 s p q)) k = ix3 s p k := funext fun a => match a with | ⟨0, _⟩ => rfl | ⟨1, _⟩ => rfl | ⟨2, _⟩ => rfl
theorem i145 (k : Fin 1) : idx_main_v145 (idx_main_v146 (ix3 s p q)) k = ix3 s p k := funext fun a => match a with | ⟨0, _⟩ => rfl | ⟨1, _⟩ => rfl | ⟨2, _⟩ => rfl

/-- The convolution. -/
theorem r87 (hB : ∀ q : Fin 512, x2 (ix1 q) = rd B 0 q) : val_main_v87 (F := Ideal) x0 x1 x2 (ix3 s p q) = conv x0 x1 B (at_ s p) q := by
  rw [val_main_v87_apply, val_main_v84_apply, val_main_cst_4_apply, zero_word, val_main_v86_apply, val_main_v85_apply]
  simp only [i84]
  show (0 : EReal) + ∑ k : Fin 31, val_main_v83 (F := Ideal) x0 x1 (ix4 s p k q) + x2 _ = _
  rw [zero_add, conv, Finset.sum_range]
  congr 1
  · refine Finset.sum_congr rfl fun k _ => ?_
    rw [val_main_v83_apply, r80, r82]
    exact mul_comm _ _
  · exact (congrArg x2 (eq_ix1 _)).trans (hB q)

section
variable (hv : ∀ (s : Fin 2) (p : Fin 4096) (q : Fin 512), val_main_v87 (F := Ideal) x0 x1 x2 (ix3 s p q) = rd cv (at_ s p) q)
include hv

theorem r91 (z : Fin 1) : val_main_v91 (F := Ideal) x0 x1 x2 (ix3 s p z) = mean (rd cv (at_ s p)) := by
  rw [val_main_v91_apply, val_main_v89_apply, val_main_v88_apply, val_main_cst_5_apply, zero_word, val_main_v90_apply, val_main_cst_6_apply]
  simp only [i88]
  show Ideal.div ((0 : EReal) + ∑ k : Fin 512, val_main_v87 (F := Ideal) x0 x1 x2 (ix3 s p k)) _ = _
  simp only [hv, zero_add, mean, sumRow_eq]
  rfl

theorem r93 : val_main_v93 (F := Ideal) x0 x1 x2 (ix3 s p q) = cent (rd cv (at_ s p)) q := by
  rw [val_main_v93_apply, val_main_v92_apply, hv, i92, r91 x0 x1 x2 s p cv hv]
  rfl

theorem r100 (z : Fin 1) : val_main_v100 (F := Ideal) x0 x1 x2 (ix3 s p z) = vare (rd cv (at_ s p)) := by
  rw [val_main_v100_apply, val_main_v98_apply, val_main_v96_apply, val_main_v95_apply, val_main_cst_7_apply, zero_word, val_main_v97_apply,
    val_main_cst_8_apply, val_main_v99_apply, val_main_cst_9_apply]
  simp only [i95]
  show Ideal.div ((0 : EReal) + ∑ k : Fin 512, val_main_v94 (F := Ideal) x0 x1 x2 (ix3 s p k)) _ + _ = _
  simp only [val_main_v94_apply, r93 x0 x1 x2 s p _ cv hv, zero_add, vare, mean, sumRow_eq]
  rfl

theorem r101 (z : Fin 1) : val_main_v101 (F := Ideal) x0 x1 x2 (ix3 s p z) = rs (rd cv (at_ s p)) := by
  rw [val_main_v101_apply, r100 x0 x1 x2 s p cv hv]
  rfl

theorem r104 (z : Fin 1) : val_main_v104 (F := Ideal) x0 x1 x2 (ix3 s p z) = negHalf * Ideal.div (rs (rd cv (at_ s p))) (vare (rd cv (at_ s p))) := by
  rw [val_main_v104_apply, val_main_v103_apply, val_main_v102_apply, val_main_cst_10_apply, r100 x0 x1 x2 s p cv hv, r101 x0 x1 x2 s p cv hv]
  rfl

theorem r106 : val_main_v106 (F := Ideal) x0 x1 x2 (ix3 s p q) = norm (rd cv (at_ s p)) q := by
  rw [val_main_v106_apply, r93 x0 x1 x2 s p q cv hv, val_main_v105_apply, i105, r101 x0 x1 x2 s p cv hv]
  rfl

omit hv in
theorem r108 (hG : ∀ q : Fin 512, x3 (ix1 q) = rd G 0 q) : val_main_v108 (F := Ideal) x3 (ix3 s p q) = rd G 0 q := by
  rw [val_main_v108_apply, val_main_v107_apply]
  exact (congrArg x3 (eq_ix1 _)).trans (hG q)

omit hv in
theorem r123 (hG : ∀ q : Fin 512, x3 (ix1 q) = rd G 0 q) : val_main_v123 (F := Ideal) x3 (ix3 s p q) = rd G 0 q := by
  rw [val_main_v123_apply, val_main_v107_apply]
  exact (congrArg x3 (eq_ix1 _)).trans (hG q)

omit hv in
theorem r111 (hE : ∀ q : Fin 512, x4 (ix1 q) = rd E 0 q) : val_main_v111 (F := Ideal) x4 (ix3 s p q) = rd E 0 q := by
  rw [val_main_v111_apply, val_main_v110_apply]
  exact (congrArg x4 (eq_ix1 _)).trans (hE q)

omit hv in
theorem r115 : val_main_v115 (F := Ideal) x5 (ix3 s p q) = rd x5 (at_ s p) q := by
  rw [val_main_v115_apply, val_main_v114_apply]
  exact rd_of x5 _ (show ((s.val * 4096 + p.val) * 512 + q.val) / 512 = 4096 * s.val + p.val by omega) (show ((s.val * 4096 + p.val) * 512 + q.val) % 512 = q.val by omega)

variable (hG : ∀ q : Fin 512, x3 (ix1 q) = rd G 0 q) (hE : ∀ q : Fin 512, x4 (ix1 q) = rd E 0 q)
include hG hE

theorem r112 : val_main_v112 (F := Ideal) x0 x1 x2 x3 x4 (ix3 s p q) = lnRow (rd cv (at_ s p)) (rd G 0) (rd E 0) q := by
  rw [val_main_v112_apply, val_main_v109_apply, r106 x0 x1 x2 s p q cv hv, r108 x3 s p q G hG, r111 x4 s p q E hE]
  rfl

theorem r113 : val_main_v113_2 (F := Ideal) x0 x1 x2 x3 x4 (ix3 s p q) = Ideal.logistic (lnRow (rd cv (at_ s p)) (rd G 0) (rd E 0) q) := by
  rw [val_main_v113_2_apply, val_main_call0_v4_apply, val_main_call0_v3_apply, val_main_call0_v2_apply, val_main_call0_v1_apply, val_main_call0_v0_apply,
    r112 x0 x1 x2 x3 x4 s p q G E cv hv hG hE, val_main_call0_cst_0_apply, val_main_call0_cst_apply, one_word]
  rfl

/-- The gradient at the layer norm's result. -/
theorem r116 : val_main_v116 (F := Ideal) x0 x1 x2 x3 x4 x5 (ix3 s p q) = dln (rd cv (at_ s p)) (rd G 0) (rd E 0) (rd x5 (at_ s p)) q := by
  rw [val_main_v116_apply, val_main_call1_v1_apply, val_main_call1_v2_apply, val_main_call1_v0_apply, val_main_v113_1_apply, val_main_call0_v7_apply,
    val_main_call0_v6_apply, val_main_call0_cst_1_apply, one_word, r113 x0 x1 x2 x3 x4 s p q G E cv hv hG hE, r112 x0 x1 x2 x3 x4 s p q G E cv hv hG hE, r115]
  rfl

theorem r120 : val_main_v120 (F := Ideal) x0 x1 x2 x3 x4 x5 (ix3 s p q)
    = norm (rd cv (at_ s p)) q * dln (rd cv (at_ s p)) (rd G 0) (rd E 0) (rd x5 (at_ s p)) q := by
  rw [val_main_v120_apply, r106 x0 x1 x2 s p q cv hv, r116 x0 x1 x2 x3 x4 x5 s p q G E cv hv hG hE]
  rfl

theorem r124 : val_main_v124 (F := Ideal) x0 x1 x2 x3 x4 x5 (ix3 s p q) = dnorm (rd cv (at_ s p)) (rd G 0) (rd E 0) (rd x5 (at_ s p)) q := by
  rw [val_main_v124_apply, r116 x0 x1 x2 x3 x4 x5 s p q G E cv hv hG hE, r123 x3 s p q G hG]
  rfl

theorem r133 (z : Fin 1) : val_main_v133 (F := Ideal) x0 x1 x2 x3 x4 x5 (ix3 s p z) = dvar (rd cv (at_ s p)) (rd G 0) (rd E 0) (rd x5 (at_ s p)) := by
  rw [val_main_v133_apply, val_main_v131_apply, val_main_v132_apply, val_main_cst_16_apply, val_main_v128_apply, val_main_v127_apply, val_main_cst_15_apply,
    zero_word, r104 x0 x1 x2 s p cv hv]
  have e : idx_main_v128 (ix3 s p z) = ix2 s p := funext fun a => Fin.ext (match a with
    | ⟨0, _⟩ => (by have := z.isLt; show ((s.val * 4096 + p.val) * 1 + z.val) / 4096 = s.val; omega)
    | ⟨1, _⟩ => (by have := z.isLt; show ((s.val * 4096 + p.val) * 1 + z.val) % 4096 = p.val; omega))
  simp only [e, i127]
  show Ideal.div (((0 : EReal) + ∑ k : Fin 512, val_main_v126 (F := Ideal) x0 x1 x2 x3 x4 x5 (ix3 s p k)) * _) _ = _
  simp only [val_main_v126_apply, r93 x0 x1 x2 s p _ cv hv, r124 x0 x1 x2 x3 x4 x5 s p _ G E cv hv hG hE, zero_add, dvar, sumRow_eq]
  rfl

theorem r135 : val_main_v135 (F := Ideal) x0 x1 x2 x3 x4 x5 (ix3 s p q) = dvar (rd cv (at_ s p)) (rd G 0) (rd E 0) (rd x5 (at_ s p)) := by
  rw [val_main_v135_apply, val_main_v134_apply, val_main_cst_17_apply, zero_word]
  simp only [i134]
  show (0 : EReal) + ∑ k : Fin 1, val_main_v133 (F := Ideal) x0 x1 x2 x3 x4 x5 (ix3 s p k) = _
  simp only [r133 x0 x1 x2 x3 x4 x5 s p G E cv hv hG hE, zero_add, Finset.univ_unique, Finset.sum_singleton]

theorem r139 : val_main_v139 (F := Ideal) x0 x1 x2 x3 x4 x5 (ix3 s p q) = dcent (rd cv (at_ s p)) (rd G 0) (rd E 0) (rd x5 (at_ s p)) q := by
  rw [val_main_v139_apply, val_main_v137_apply, val_main_v138_apply, val_main_v136_apply, val_main_v130_apply, val_main_v129_apply,
    r135 x0 x1 x2 x3 x4 x5 s p q G E cv hv hG hE, r93 x0 x1 x2 s p _ cv hv, r124 x0 x1 x2 x3 x4 x5 s p _ G E cv hv hG hE]
  rw [i129, r101 x0 x1 x2 s p cv hv]
  rfl

theorem r144 (z : Fin 1) : val_main_v144 (F := Ideal) x0 x1 x2 x3 x4 x5 (ix3 s p z)
    = mean (fun q => 0 - dcent (rd cv (at_ s p)) (rd G 0) (rd E 0) (rd x5 (at_ s p)) q) := by
  rw [val_main_v144_apply, val_main_v143_apply, val_main_cst_19_apply, val_main_v142_apply, val_main_v141_apply, val_main_cst_18_apply, zero_word]
  have e : idx_main_v142 (ix3 s p z) = ix2 s p := funext fun a => Fin.ext (match a with
    | ⟨0, _⟩ => (by have := z.isLt; show ((s.val * 4096 + p.val) * 1 + z.val) / 4096 = s.val; omega)
    | ⟨1, _⟩ => (by have := z.isLt; show ((s.val * 4096 + p.val) * 1 + z.val) % 4096 = p.val; omega))
  simp only [e, i141]
  show Ideal.div ((0 : EReal) + ∑ k : Fin 512, val_main_v140 (F := Ideal) x0 x1 x2 x3 x4 x5 (ix3 s p k)) _ = _
  have h : ∀ k : Fin 512, val_main_v140 (F := Ideal) x0 x1 x2 x3 x4 x5 (ix3 s p k) = 0 - dcent (rd cv (at_ s p)) (rd G 0) (rd E 0) (rd x5 (at_ s p)) k := fun k => by
    rw [val_main_v140_apply, r139 x0 x1 x2 x3 x4 x5 s p _ G E cv hv hG hE, zero_sub]
    rfl
  simp only [h, zero_add, mean, sumRow_eq]
  rfl

/-- The gradient at the convolution. -/
theorem r147 : val_main_v147 (F := Ideal) x0 x1 x2 x3 x4 x5 (ix3 s p q) = dc G E x5 cv (at_ s p) q := by
  rw [val_main_v147_apply, r139 x0 x1 x2 x3 x4 x5 s p _ G E cv hv hG hE, val_main_v146_apply, val_main_v145_apply, val_main_cst_20_apply, zero_word, dc, dconv]
  simp only [i145]
  refine congrArg (dcent (rd cv (at_ s p)) (rd G 0) (rd E 0) (rd x5 (at_ s p)) q + ·) ?_
  show (0 : EReal) + ∑ k : Fin 1, val_main_v144 (F := Ideal) x0 x1 x2 x3 x4 x5 (ix3 s p k) = _
  simp only [r144 x0 x1 x2 x3 x4 x5 s p G E cv hv hG hE, zero_add, Finset.univ_unique, Finset.sum_singleton]

end

end Cert.Conf
-- ==== Proof.Ref2.lean ====
/-  The reference's results, entry by entry.  -/
module
public import proofs.«01_k».proof.Proof.Ref1
public import Idealize.ShloMosaic.Lib.KernelVsHost
@[expose] public section
noncomputable section
namespace Cert.Conf
open Idealize.ShloMosaic Idealize.ShloMosaic.TcCoe Cert.ReferenceIdeal Cert.ReferenceIdeal.Gen Cert.ReferenceIdeal.Read

/-- Reducing the two leading axes of three. -/
theorem fiber3 {n0 n1 n2 : ℕ} (h : (⟨3, ![n0, n1, n2]⟩ : Shape).ReducesTo [0, 1] ⟨1, ![n2]⟩) (q : Fin n2) (i : (⟨3, ![n0, n1, n2]⟩ : Shape).Idx) :
    h.drop i = ix1 q ↔ ∃ k : Fin n0 × Fin n1, ix3 k.1 k.2 q = i := by
  constructor
  · intro e
    refine ⟨(i 0, i 1), funext fun a => Fin.ext ?_⟩
    match a with
    | ⟨0, _⟩ => rfl
    | ⟨1, _⟩ => rfl
    | ⟨2, _⟩ => exact (congrArg Fin.val (congrFun e 0)).symm
  · rintro ⟨k, rfl⟩
    funext b
    match b with
    | ⟨0, _⟩ => rfl

/-- Reducing the two leading axes of four. -/
theorem fiber4 {n0 n1 n2 n3 : ℕ} (h : (⟨4, ![n0, n1, n2, n3]⟩ : Shape).ReducesTo [0, 1] ⟨2, ![n2, n3]⟩) (m : Fin n2) (q : Fin n3) (i : (⟨4, ![n0, n1, n2, n3]⟩ : Shape).Idx) :
    h.drop i = ix2 m q ↔ ∃ k : Fin n0 × Fin n1, ix4 k.1 k.2 m q = i := by
  constructor
  · intro e
    refine ⟨(i 0, i 1), funext fun a => Fin.ext ?_⟩
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext b
    match b with
    | ⟨0, _⟩ => rfl
    | ⟨1, _⟩ => rfl

theorem sum3 {n0 n1 n2 : ℕ} {u : Shape} (v : Vec Ideal ⟨3, ![n0, n1, n2]⟩ .f32) (z : Vec Ideal u .f32) (h : (⟨3, ![n0, n1, n2]⟩ : Shape).ReducesTo [0, 1] ⟨1, ![n2]⟩)
    (hu : 0 < u.numel) (hz : z (Shape.Idx.first hu) = (0 : EReal)) (q : Fin n2) :
    (Host.reduceAdd (F := Ideal) (φ := .f32) v z h hu (ix1 q) : EReal) = ∑ a : Fin n0, ∑ b : Fin n1, v (ix3 a b q) := by
  simp only [Host.reduceAdd, Ideal.hostReduceAdd_def]
  show z (Shape.Idx.first hu) + ∑ i ∈ Finset.univ.filter (fun i => h.drop i = ix1 q), v i = _
  rw [hz, zero_add]
  refine (Finset.sum_filter_eq_sum_of_fiber _ (fun k : Fin n0 × Fin n1 => ix3 k.1 k.2 q) (fun _ _ e => Prod.ext (congrFun e 0) (congrFun e 1)) (fiber3 h q) v).trans ?_
  simp only [Fintype.sum_prod_type]

theorem sum4 {n0 n1 n2 n3 : ℕ} {u : Shape} (v : Vec Ideal ⟨4, ![n0, n1, n2, n3]⟩ .f32) (z : Vec Ideal u .f32) (h : (⟨4, ![n0, n1, n2, n3]⟩ : Shape).ReducesTo [0, 1] ⟨2, ![n2, n3]⟩)
    (hu : 0 < u.numel) (hz : z (Shape.Idx.first hu) = (0 : EReal)) (m : Fin n2) (q : Fin n3) :
    (Host.reduceAdd (F := Ideal) (φ := .f32) v z h hu (ix2 m q) : EReal) = ∑ a : Fin n0, ∑ b : Fin n1, v (ix4 a b m q) := by
  simp only [Host.reduceAdd, Ideal.hostReduceAdd_def]
  show z (Shape.Idx.first hu) + ∑ i ∈ Finset.univ.filter (fun i => h.drop i = ix2 m q), v i = _
  rw [hz, zero_add]
  refine (Finset.sum_filter_eq_sum_of_fiber _ (fun k : Fin n0 × Fin n1 => ix4 k.1 k.2 m q) (fun _ _ e => Prod.ext (congrFun e 0) (congrFun e 1)) (fiber4 h m q) v).trans ?_
  simp only [Fintype.sum_prod_type]

/-- The sum over the rows of the two sequences. -/
theorem sum_rows (f : ℕ → EReal) : ∑ s : Fin 2, ∑ p : Fin 4096, f (at_ s p) = ∑ R ∈ Finset.range 8192, f R := by
  rw [Fin.sum_univ_two, show (8192 : ℕ) = 4096 + 4096 from rfl, Finset.sum_range_add, Finset.sum_range, Finset.sum_range]
  exact congrArg₂ (fun a b : EReal => a + b) (Finset.sum_congr rfl fun p _ => congrArg f (show 4096 * 0 + p.val = p.val by omega))
    (Finset.sum_congr rfl fun p _ => congrArg f (show 4096 * 1 + p.val = 4096 + p.val by omega))

/-- An array padded with zeros along its middle axis, at a row inside or past the array. -/
theorem pad_mid (k : ℕ) (hk : k < 31) (x : Vec Ideal S2x4096x512 .f32) (z : Vec Ideal S_ .f32) (h : S2x4096x512.Pads ![0, k, 0] ![0, 30 - k, 0] ![0, 0, 0] S2x4126x512)
    (hu : 0 < S_.numel) (hz : z (Shape.Idx.first hu) = (0 : EReal)) (s : Fin 2) (m : Fin 4126) (q : Fin 512) (hm : 30 ≤ m.val) :
    (pad S2x4126x512 ![0, k, 0] ![0, 30 - k, 0] ![0, 0, 0] x z h hu (ix3 s m q) : EReal)
      = if hl : m.val - k < 4096 then x (ix3 s ⟨m.val - k, hl⟩ q) else 0 := by
  split_ifs with hl
  · refine pad_apply_of_inside _ _ _ x z h hu _ (ix3 s ⟨m.val - k, hl⟩ q) fun a => ?_
    match a with
    | ⟨0, _⟩ => show s.val = 0 + s.val * (0 + 1); omega
    | ⟨1, _⟩ => show m.val = k + (m.val - k) * (0 + 1); omega
    | ⟨2, _⟩ => show q.val = 0 + q.val * (0 + 1); omega
  · refine (pad_apply_of_not_inside _ _ _ x z h hu _ (1 : Fin 3) fun hi => hl ?_).trans hz
    have h3 : (m.val - k) / (0 + 1) < 4096 := hi.2.2
    omega

/-- One tap's slice of the stacked gradients, as an index. -/
theorem sq (s : Fin 2) (p : Fin 4096) (q : Fin 512) (k : ℕ) (hk : k < 31) (i : S2x4096x31x512.Idx)
    (h0 : (i 0).val = ((s.val * 4096 + p.val) * 512 + q.val) / 2097152) (h1 : (i 1).val = ((s.val * 4096 + p.val) * 512 + q.val) / 512 % 4096)
    (h2 : (i 2).val = k) (h3 : (i 3).val = ((s.val * 4096 + p.val) * 512 + q.val) % 512) : i = ix4 s p (⟨k, hk⟩ : Fin 31) q :=
  funext fun a => Fin.ext (match a with
    | ⟨0, _⟩ => h0.trans (by show _ = s.val; omega)
    | ⟨1, _⟩ => h1.trans (by show _ = p.val; omega)
    | ⟨2, _⟩ => h2
    | ⟨3, _⟩ => h3.trans (by show _ = q.val; omega))

theorem sum31 (f : ℕ → EReal) : (((((((((((((((((((((((((((((f 30 + f 29) + f 28) + f 27) + f 26) + f 25) + f 24) + f 23) + f 22) + f 21) + f 20) + f 19) + f 18) + f 17) + f 16) + f 15) + f 14) + f 13) + f 12) + f 11) + f 10) + f 9) + f 8) + f 7) + f 6) + f 5) + f 4) + f 3) + f 2) + f 1) + f 0 = ∑ k ∈ Finset.range 31, f k := by
  simp only [Finset.sum_range_succ', Finset.sum_range_zero, zero_add, Nat.reduceAdd]

variable (x0 : Vec Ideal S8192x1024 .f32) (x1 : Vec Ideal S31x512 .f32) (x2 x3 x4 : Vec Ideal S512 .f32) (x5 : Vec Ideal S8192x512 .bf16)
  (s : Fin 2) (p : Fin 4096) (q : Fin 512) (B G E : Vec Ideal S1x512 .f32) (cv : Vec Ideal S8192x512 .f32)

section
variable (hv : ∀ (s : Fin 2) (p : Fin 4096) (q : Fin 512), val_main_v87 (F := Ideal) x0 x1 x2 (ix3 s p q) = rd cv (at_ s p) q)
  (hG : ∀ q : Fin 512, x3 (ix1 q) = rd G 0 q) (hE : ∀ q : Fin 512, x4 (ix1 q) = rd E 0 q)
include hv hG hE

theorem r151 (k : Fin 31) : val_main_v151 (F := Ideal) x0 x1 x2 x3 x4 x5 (ix4 s p k q) = dc G E x5 cv (at_ s p) q := by
  rw [val_main_v151_apply]
  have e : idx_main_v151 (ix4 s p k q) = ix3 s p q := funext fun a => match a with | ⟨0, _⟩ => rfl | ⟨1, _⟩ => rfl | ⟨2, _⟩ => rfl
  rw [e, r147 x0 x1 x2 x3 x4 x5 s p q G E cv hv hG hE]

theorem r156 (k : Fin 31) : val_main_v156 (F := Ideal) x0 x1 x2 x3 x4 x5 (ix4 s p k q) = rd x1 k q * dc G E x5 cv (at_ s p) q := by
  rw [val_main_v156_apply, r151 x0 x1 x2 x3 x4 x5 s p q G E cv hv hG hE, val_main_v155_apply, val_main_v81_apply]
  have e : ∀ i, (i 0).val = k.val → (i 1).val = q.val → x1 i = rd x1 k q := fun i => rd_of x1 i
  rw [e _ rfl rfl]
  exact mul_comm _ _

/-- What tap `k` gives at row `p`, from the padded array. -/
theorem tap_back (k : ℕ) (hk : k < 31) (x : Vec Ideal S2x4096x512 .f32) (z : Vec Ideal S_ .f32) (h : S2x4096x512.Pads ![0, k, 0] ![0, 30 - k, 0] ![0, 0, 0] S2x4126x512)
    (hu : 0 < S_.numel) (hz : z (Shape.Idx.first hu) = (0 : EReal))
    (hx : ∀ p : Fin 4096, x (ix3 s p q) = val_main_v156 (F := Ideal) x0 x1 x2 x3 x4 x5 (ix4 s p (⟨k, hk⟩ : Fin 31) q)) (hm : 30 + p.val < 4126) :
    (pad S2x4126x512 ![0, k, 0] ![0, 30 - k, 0] ![0, 0, 0] x z h hu (ix3 s ⟨30 + p.val, hm⟩ q) : EReal)
      = rd x1 k q * ahead G E x5 cv k (at_ s p) q := by
  rw [pad_mid k hk x z h hu hz s ⟨30 + p.val, hm⟩ q (Nat.le_add_right _ _), ahead]
  have e : (at_ s p) % 4096 + (30 - k) < 4096 ↔ 30 + p.val - k < 4096 := by unfold at_; omega
  simp only [e]
  split_ifs with hl
  · rw [hx, r156 x0 x1 x2 x3 x4 x5 s _ q G E cv hv hG hE]
    congr 2
    unfold at_
    show 4096 * s.val + (30 + p.val - k) = _
    omega
  · rw [mul_zero]

theorem taps0 (hm : 30 + p.val < 4126) : val_main_v279 (F := Ideal) x0 x1 x2 x3 x4 x5 (ix3 s ⟨30 + p.val, hm⟩ q) = rd x1 0 q * ahead G E x5 cv 0 (at_ s p) q := by
  unfold val_main_v279
  refine tap_back x0 x1 x2 x3 x4 x5 s p q G E cv hv hG hE 0 (by decide) _ _ _ _ zero_word (fun p => ?_) hm
  rw [val_main_v159_apply, val_main_v158_apply]
  exact congrArg (val_main_v156 (F := Ideal) x0 x1 x2 x3 x4 x5) (sq s p q 0 (by decide) _ (by rfl) (by rfl) (by rfl) (by rfl))

theorem taps1 (hm : 30 + p.val < 4126) : val_main_v277 (F := Ideal) x0 x1 x2 x3 x4 x5 (ix3 s ⟨30 + p.val, hm⟩ q) = rd x1 1 q * ahead G E x5 cv 1 (at_ s p) q := by
  unfold val_main_v277
  refine tap_back x0 x1 x2 x3 x4 x5 s p q G E cv hv hG hE 1 (by decide) _ _ _ _ zero_word (fun p => ?_) hm
  rw [val_main_v161_apply, val_main_v160_apply]
  exact congrArg (val_main_v156 (F := Ideal) x0 x1 x2 x3 x4 x5) (sq s p q 1 (by decide) _ (by rfl) (by rfl) (by rfl) (by rfl))

theorem taps2 (hm : 30 + p.val < 4126) : val_main_v275 (F := Ideal) x0 x1 x2 x3 x4 x5 (ix3 s ⟨30 + p.val, hm⟩ q) = rd x1 2 q * ahead G E x5 cv 2 (at_ s p) q := by
  unfold val_main_v275
  refine tap_back x0 x1 x2 x3 x4 x5 s p q G E cv hv hG hE 2 (by decide) _ _ _ _ zero_word (fun p => ?_) hm
  rw [val_main_v163_apply, val_main_v162_apply]
  exact congrArg (val_main_v156 (F := Ideal) x0 x1 x2 x3 x4 x5) (sq s p q 2 (by decide) _ (by rfl) (by rfl) (by rfl) (by rfl))

theorem taps3 (hm : 30 + p.val < 4126) : val_main_v273 (F := Ideal) x0 x1 x2 x3 x4 x5 (ix3 s ⟨30 + p.val, hm⟩ q) = rd x1 3 q * ahead G E x5 cv 3 (at_ s p) q := by
  unfold val_main_v273
  refine tap_back x0 x1 x2 x3 x4 x5 s p q G E cv hv hG hE 3 (by decide) _ _ _ _ zero_word (fun p => ?_) hm
  rw [val_main_v165_apply, val_main_v164_apply]
  exact congrArg (val_main_v156 (F := Ideal) x0 x1 x2 x3 x4 x5) (sq s p q 3 (by decide) _ (by rfl) (by rfl) (by rfl) (by rfl))

theorem taps4 (hm : 30 + p.val < 4126) : val_main_v271 (F := Ideal) x0 x1 x2 x3 x4 x5 (ix3 s ⟨30 + p.val, hm⟩ q) = rd x1 4 q * ahead G E x5 cv 4 (at_ s p) q := by
  unfold val_main_v271
  refine tap_back x0 x1 x2 x3 x4 x5 s p q G E cv hv hG hE 4 (by decide) _ _ _ _ zero_word (fun p => ?_) hm
  rw [val_main_v167_apply, val_main_v166_apply]
  exact congrArg (val_main_v156 (F := Ideal) x0 x1 x2 x3 x4 x5) (sq s p q 4 (by decide) _ (by rfl) (by rfl) (by rfl) (by rfl))

theorem taps5 (hm : 30 + p.val < 4126) : val_main_v269 (F := Ideal) x0 x1 x2 x3 x4 x5 (ix3 s ⟨30 + p.val, hm⟩ q) = rd x1 5 q * ahead G E x5 cv 5 (at_ s p) q := by
  unfold val_main_v269
  refine tap_back x0 x1 x2 x3 x4 x5 s p q G E cv hv hG hE 5 (by decide) _ _ _ _ zero_word (fun p => ?_) hm
  rw [val_main_v169_apply, val_main_v168_apply]
  exact congrArg (val_main_v156 (F := Ideal) x0 x1 x2 x3 x4 x5) (sq s p q 5 (by decide) _ (by rfl) (by rfl) (by rfl) (by rfl))

theorem taps6 (hm : 30 + p.val < 4126) : val_main_v267 (F := Ideal) x0 x1 x2 x3 x4 x5 (ix3 s ⟨30 + p.val, hm⟩ q) = rd x1 6 q * ahead G E x5 cv 6 (at_ s p) q := by
  unfold val_main_v267
  refine tap_back x0 x1 x2 x3 x4 x5 s p q G E cv hv hG hE 6 (by decide) _ _ _ _ zero_word (fun p => ?_) hm
  rw [val_main_v171_apply, val_main_v170_apply]
  exact congrArg (val_main_v156 (F := Ideal) x0 x1 x2 x3 x4 x5) (sq s p q 6 (by decide) _ (by rfl) (by rfl) (by rfl) (by rfl))

theorem taps7 (hm : 30 + p.val < 4126) : val_main_v265 (F := Ideal) x0 x1 x2 x3 x4 x5 (ix3 s ⟨30 + p.val, hm⟩ q) = rd x1 7 q * ahead G E x5 cv 7 (at_ s p) q := by
  unfold val_main_v265
  refine tap_back x0 x1 x2 x3 x4 x5 s p q G E cv hv hG hE 7 (by decide) _ _ _ _ zero_word (fun p => ?_) hm
  rw [val_main_v173_apply, val_main_v172_apply]
  exact congrArg (val_main_v156 (F := Ideal) x0 x1 x2 x3 x4 x5) (sq s p q 7 (by decide) _ (by rfl) (by rfl) (by rfl) (by rfl))

theorem taps8 (hm : 30 + p.val < 4126) : val_main_v263 (F := Ideal) x0 x1 x2 x3 x4 x5 (ix3 s ⟨30 + p.val, hm⟩ q) = rd x1 8 q * ahead G E x5 cv 8 (at_ s p) q := by
  unfold val_main_v263
  refine tap_back x0 x1 x2 x3 x4 x5 s p q G E cv hv hG hE 8 (by decide) _ _ _ _ zero_word (fun p => ?_) hm
  rw [val_main_v175_apply, val_main_v174_apply]
  exact congrArg (val_main_v156 (F := Ideal) x0 x1 x2 x3 x4 x5) (sq s p q 8 (by decide) _ (by rfl) (by rfl) (by rfl) (by rfl))

theorem taps9 (hm : 30 + p.val < 4126) : val_main_v261 (F := Ideal) x0 x1 x2 x3 x4 x5 (ix3 s ⟨30 + p.val, hm⟩ q) = rd x1 9 q * ahead G E x5 cv 9 (at_ s p) q := by
  unfold val_main_v261
  refine tap_back x0 x1 x2 x3 x4 x5 s p q G E cv hv hG hE 9 (by decide) _ _ _ _ zero_word (fun p => ?_) hm
  rw [val_main_v177_apply, val_main_v176_apply]
  exact congrArg (val_main_v156 (F := Ideal) x0 x1 x2 x3 x4 x5) (sq s p q 9 (by decide) _ (by rfl) (by rfl) (by rfl) (by rfl))

theorem taps10 (hm : 30 + p.val < 4126) : val_main_v259 (F := Ideal) x0 x1 x2 x3 x4 x5 (ix3 s ⟨30 + p.val, hm⟩ q) = rd x1 10 q * ahead G E x5 cv 10 (at_ s p) q := by
  unfold val_main_v259
  refine tap_back x0 x1 x2 x3 x4 x5 s p q G E cv hv hG hE 10 (by decide) _ _ _ _ zero_word (fun p => ?_) hm
  rw [val_main_v179_apply, val_main_v178_apply]
  exact congrArg (val_main_v156 (F := Ideal) x0 x1 x2 x3 x4 x5) (sq s p q 10 (by decide) _ (by rfl) (by rfl) (by rfl) (by rfl))

theorem taps11 (hm : 30 + p.val < 4126) : val_main_v257 (F := Ideal) x0 x1 x2 x3 x4 x5 (ix3 s ⟨30 + p.val, hm⟩ q) = rd x1 11 q * ahead G E x5 cv 11 (at_ s p) q := by
  unfold val_main_v257
  refine tap_back x0 x1 x2 x3 x4 x5 s p q G E cv hv hG hE 11 (by decide) _ _ _ _ zero_word (fun p => ?_) hm
  rw [val_main_v181_apply, val_main_v180_apply]
  exact congrArg (val_main_v156 (F := Ideal) x0 x1 x2 x3 x4 x5) (sq s p q 11 (by decide) _ (by rfl) (by rfl) (by rfl) (by rfl))

theorem taps12 (hm : 30 + p.val < 4126) : val_main_v255 (F := Ideal) x0 x1 x2 x3 x4 x5 (ix3 s ⟨30 + p.val, hm⟩ q) = rd x1 12 q * ahead G E x5 cv 12 (at_ s p) q := by
  unfold val_main_v255
  refine tap_back x0 x1 x2 x3 x4 x5 s p q G E cv hv hG hE 12 (by decide) _ _ _ _ zero_word (fun p => ?_) hm
  rw [val_main_v183_apply, val_main_v182_apply]
  exact congrArg (val_main_v156 (F := Ideal) x0 x1 x2 x3 x4 x5) (sq s p q 12 (by decide) _ (by rfl) (by rfl) (by rfl) (by rfl))

theorem taps13 (hm : 30 + p.val < 4126) : val_main_v253 (F := Ideal) x0 x1 x2 x3 x4 x5 (ix3 s ⟨30 + p.val, hm⟩ q) = rd x1 13 q * ahead G E x5 cv 13 (at_ s p) q := by
  unfold val_main_v253
  refine tap_back x0 x1 x2 x3 x4 x5 s p q G E cv hv hG hE 13 (by decide) _ _ _ _ zero_word (fun p => ?_) hm
  rw [val_main_v185_apply, val_main_v184_apply]
  exact congrArg (val_main_v156 (F := Ideal) x0 x1 x2 x3 x4 x5) (sq s p q 13 (by decide) _ (by rfl) (by rfl) (by rfl) (by rfl))

theorem taps14 (hm : 30 + p.val < 4126) : val_main_v251 (F := Ideal) x0 x1 x2 x3 x4 x5 (ix3 s ⟨30 + p.val, hm⟩ q) = rd x1 14 q * ahead G E x5 cv 14 (at_ s p) q := by
  unfold val_main_v251
  refine tap_back x0 x1 x2 x3 x4 x5 s p q G E cv hv hG hE 14 (by decide) _ _ _ _ zero_word (fun p => ?_) hm
  rw [val_main_v187_apply, val_main_v186_apply]
  exact congrArg (val_main_v156 (F := Ideal) x0 x1 x2 x3 x4 x5) (sq s p q 14 (by decide) _ (by rfl) (by rfl) (by rfl) (by rfl))

theorem taps15 (hm : 30 + p.val < 4126) : val_main_v249 (F := Ideal) x0 x1 x2 x3 x4 x5 (ix3 s ⟨30 + p.val, hm⟩ q) = rd x1 15 q * ahead G E x5 cv 15 (at_ s p) q := by
  unfold val_main_v249
  refine tap_back x0 x1 x2 x3 x4 x5 s p q G E cv hv hG hE 15 (by decide) _ _ _ _ zero_word (fun p => ?_) hm
  rw [val_main_v189_apply, val_main_v188_apply]
  exact congrArg (val_main_v156 (F := Ideal) x0 x1 x2 x3 x4 x5) (sq s p q 15 (by decide) _ (by rfl) (by rfl) (by rfl) (by rfl))

theorem taps16 (hm : 30 + p.val < 4126) : val_main_v247 (F := Ideal) x0 x1 x2 x3 x4 x5 (ix3 s ⟨30 + p.val, hm⟩ q) = rd x1 16 q * ahead G E x5 cv 16 (at_ s p) q := by
  unfold val_main_v247
  refine tap_back x0 x1 x2 x3 x4 x5 s p q G E cv hv hG hE 16 (by decide) _ _ _ _ zero_word (fun p => ?_) hm
  rw [val_main_v191_apply, val_main_v190_apply]
  exact congrArg (val_main_v156 (F := Ideal) x0 x1 x2 x3 x4 x5) (sq s p q 16 (by decide) _ (by rfl) (by rfl) (by rfl) (by rfl))

theorem taps17 (hm : 30 + p.val < 4126) : val_main_v245 (F := Ideal) x0 x1 x2 x3 x4 x5 (ix3 s ⟨30 + p.val, hm⟩ q) = rd x1 17 q * ahead G E x5 cv 17 (at_ s p) q := by
  unfold val_main_v245
  refine tap_back x0 x1 x2 x3 x4 x5 s p q G E cv hv hG hE 17 (by decide) _ _ _ _ zero_word (fun p => ?_) hm
  rw [val_main_v193_apply, val_main_v192_apply]
  exact congrArg (val_main_v156 (F := Ideal) x0 x1 x2 x3 x4 x5) (sq s p q 17 (by decide) _ (by rfl) (by rfl) (by rfl) (by rfl))

theorem taps18 (hm : 30 + p.val < 4126) : val_main_v243 (F := Ideal) x0 x1 x2 x3 x4 x5 (ix3 s ⟨30 + p.val, hm⟩ q) = rd x1 18 q * ahead G E x5 cv 18 (at_ s p) q := by
  unfold val_main_v243
  refine tap_back x0 x1 x2 x3 x4 x5 s p q G E cv hv hG hE 18 (by decide) _ _ _ _ zero_word (fun p => ?_) hm
  rw [val_main_v195_apply, val_main_v194_apply]
  exact congrArg (val_main_v156 (F := Ideal) x0 x1 x2 x3 x4 x5) (sq s p q 18 (by decide) _ (by rfl) (by rfl) (by rfl) (by rfl))

theorem taps19 (hm : 30 + p.val < 4126) : val_main_v241 (F := Ideal) x0 x1 x2 x3 x4 x5 (ix3 s ⟨30 + p.val, hm⟩ q) = rd x1 19 q * ahead G E x5 cv 19 (at_ s p) q := by
  unfold val_main_v241
  refine tap_back x0 x1 x2 x3 x4 x5 s p q G E cv hv hG hE 19 (by decide) _ _ _ _ zero_word (fun p => ?_) hm
  rw [val_main_v197_apply, val_main_v196_apply]
  exact congrArg (val_main_v156 (F := Ideal) x0 x1 x2 x3 x4 x5) (sq s p q 19 (by decide) _ (by rfl) (by rfl) (by rfl) (by rfl))

theorem taps20 (hm : 30 + p.val < 4126) : val_main_v239 (F := Ideal) x0 x1 x2 x3 x4 x5 (ix3 s ⟨30 + p.val, hm⟩ q) = rd x1 20 q * ahead G E x5 cv 20 (at_ s p) q := by
  unfold val_main_v239
  refine tap_back x0 x1 x2 x3 x4 x5 s p q G E cv hv hG hE 20 (by decide) _ _ _ _ zero_word (fun p => ?_) hm
  rw [val_main_v199_apply, val_main_v198_apply]
  exact congrArg (val_main_v156 (F := Ideal) x0 x1 x2 x3 x4 x5) (sq s p q 20 (by decide) _ (by rfl) (by rfl) (by rfl) (by rfl))

theorem taps21 (hm : 30 + p.val < 4126) : val_main_v237 (F := Ideal) x0 x1 x2 x3 x4 x5 (ix3 s ⟨30 + p.val, hm⟩ q) = rd x1 21 q * ahead G E x5 cv 21 (at_ s p) q := by
  unfold val_main_v237
  refine tap_back x0 x1 x2 x3 x4 x5 s p q G E cv hv hG hE 21 (by decide) _ _ _ _ zero_word (fun p => ?_) hm
  rw [val_main_v201_apply, val_main_v200_apply]
  exact congrArg (val_main_v156 (F := Ideal) x0 x1 x2 x3 x4 x5) (sq s p q 21 (by decide) _ (by rfl) (by rfl) (by rfl) (by rfl))

theorem taps22 (hm : 30 + p.val < 4126) : val_main_v235 (F := Ideal) x0 x1 x2 x3 x4 x5 (ix3 s ⟨30 + p.val, hm⟩ q) = rd x1 22 q * ahead G E x5 cv 22 (at_ s p) q := by
  unfold val_main_v235
  refine tap_back x0 x1 x2 x3 x4 x5 s p q G E cv hv hG hE 22 (by decide) _ _ _ _ zero_word (fun p => ?_) hm
  rw [val_main_v203_apply, val_main_v202_apply]
  exact congrArg (val_main_v156 (F := Ideal) x0 x1 x2 x3 x4 x5) (sq s p q 22 (by decide) _ (by rfl) (by rfl) (by rfl) (by rfl))

theorem taps23 (hm : 30 + p.val < 4126) : val_main_v233 (F := Ideal) x0 x1 x2 x3 x4 x5 (ix3 s ⟨30 + p.val, hm⟩ q) = rd x1 23 q * ahead G E x5 cv 23 (at_ s p) q := by
  unfold val_main_v233
  refine tap_back x0 x1 x2 x3 x4 x5 s p q G E cv hv hG hE 23 (by decide) _ _ _ _ zero_word (fun p => ?_) hm
  rw [val_main_v205_apply, val_main_v204_apply]
  exact congrArg (val_main_v156 (F := Ideal) x0 x1 x2 x3 x4 x5) (sq s p q 23 (by decide) _ (by rfl) (by rfl) (by rfl) (by rfl))

theorem taps24 (hm : 30 + p.val < 4126) : val_main_v231 (F := Ideal) x0 x1 x2 x3 x4 x5 (ix3 s ⟨30 + p.val, hm⟩ q) = rd x1 24 q * ahead G E x5 cv 24 (at_ s p) q := by
  unfold val_main_v231
  refine tap_back x0 x1 x2 x3 x4 x5 s p q G E cv hv hG hE 24 (by decide) _ _ _ _ zero_word (fun p => ?_) hm
  rw [val_main_v207_apply, val_main_v206_apply]
  exact congrArg (val_main_v156 (F := Ideal) x0 x1 x2 x3 x4 x5) (sq s p q 24 (by decide) _ (by rfl) (by rfl) (by rfl) (by rfl))

theorem taps25 (hm : 30 + p.val < 4126) : val_main_v229 (F := Ideal) x0 x1 x2 x3 x4 x5 (ix3 s ⟨30 + p.val, hm⟩ q) = rd x1 25 q * ahead G E x5 cv 25 (at_ s p) q := by
  unfold val_main_v229
  refine tap_back x0 x1 x2 x3 x4 x5 s p q G E cv hv hG hE 25 (by decide) _ _ _ _ zero_word (fun p => ?_) hm
  rw [val_main_v209_apply, val_main_v208_apply]
  exact congrArg (val_main_v156 (F := Ideal) x0 x1 x2 x3 x4 x5) (sq s p q 25 (by decide) _ (by rfl) (by rfl) (by rfl) (by rfl))

theorem taps26 (hm : 30 + p.val < 4126) : val_main_v227 (F := Ideal) x0 x1 x2 x3 x4 x5 (ix3 s ⟨30 + p.val, hm⟩ q) = rd x1 26 q * ahead G E x5 cv 26 (at_ s p) q := by
  unfold val_main_v227
  refine tap_back x0 x1 x2 x3 x4 x5 s p q G E cv hv hG hE 26 (by decide) _ _ _ _ zero_word (fun p => ?_) hm
  rw [val_main_v211_apply, val_main_v210_apply]
  exact congrArg (val_main_v156 (F := Ideal) x0 x1 x2 x3 x4 x5) (sq s p q 26 (by decide) _ (by rfl) (by rfl) (by rfl) (by rfl))

theorem taps27 (hm : 30 + p.val < 4126) : val_main_v225 (F := Ideal) x0 x1 x2 x3 x4 x5 (ix3 s ⟨30 + p.val, hm⟩ q) = rd x1 27 q * ahead G E x5 cv 27 (at_ s p) q := by
  unfold val_main_v225
  refine tap_back x0 x1 x2 x3 x4 x5 s p q G E cv hv hG hE 27 (by decide) _ _ _ _ zero_word (fun p => ?_) hm
  rw [val_main_v213_apply, val_main_v212_apply]
  exact congrArg (val_main_v156 (F := Ideal) x0 x1 x2 x3 x4 x5) (sq s p q 27 (by decide) _ (by rfl) (by rfl) (by rfl) (by rfl))

theorem taps28 (hm : 30 + p.val < 4126) : val_main_v223 (F := Ideal) x0 x1 x2 x3 x4 x5 (ix3 s ⟨30 + p.val, hm⟩ q) = rd x1 28 q * ahead G E x5 cv 28 (at_ s p) q := by
  unfold val_main_v223
  refine tap_back x0 x1 x2 x3 x4 x5 s p q G E cv hv hG hE 28 (by decide) _ _ _ _ zero_word (fun p => ?_) hm
  rw [val_main_v215_apply, val_main_v214_apply]
  exact congrArg (val_main_v156 (F := Ideal) x0 x1 x2 x3 x4 x5) (sq s p q 28 (by decide) _ (by rfl) (by rfl) (by rfl) (by rfl))

theorem taps29 (hm : 30 + p.val < 4126) : val_main_v221 (F := Ideal) x0 x1 x2 x3 x4 x5 (ix3 s ⟨30 + p.val, hm⟩ q) = rd x1 29 q * ahead G E x5 cv 29 (at_ s p) q := by
  unfold val_main_v221
  refine tap_back x0 x1 x2 x3 x4 x5 s p q G E cv hv hG hE 29 (by decide) _ _ _ _ zero_word (fun p => ?_) hm
  rw [val_main_v217_apply, val_main_v216_apply]
  exact congrArg (val_main_v156 (F := Ideal) x0 x1 x2 x3 x4 x5) (sq s p q 29 (by decide) _ (by rfl) (by rfl) (by rfl) (by rfl))

theorem taps30 (hm : 30 + p.val < 4126) : val_main_v220 (F := Ideal) x0 x1 x2 x3 x4 x5 (ix3 s ⟨30 + p.val, hm⟩ q) = rd x1 30 q * ahead G E x5 cv 30 (at_ s p) q := by
  unfold val_main_v220
  refine tap_back x0 x1 x2 x3 x4 x5 s p q G E cv hv hG hE 30 (by decide) _ _ _ _ zero_word (fun p => ?_) hm
  rw [val_main_v219_apply, val_main_v218_apply]
  exact congrArg (val_main_v156 (F := Ideal) x0 x1 x2 x3 x4 x5) (sq s p q 30 (by decide) _ (by rfl) (by rfl) (by rfl) (by rfl))

/-- The gradient at the gated rows. -/
theorem r282 : val_main_v282 (F := Ideal) x0 x1 x2 x3 x4 x5 (ix3 s p q) = dh x1 G E x5 cv (at_ s p) q := by
  have hm : 30 + p.val < 4126 := by omega
  have e : idx_main_v282 (ix3 s p q) = ix3 s ⟨30 + p.val, hm⟩ q := funext fun a => match a with | ⟨0, _⟩ => rfl | ⟨1, _⟩ => rfl | ⟨2, _⟩ => rfl
  rw [val_main_v282_apply, e]
  rw [val_main_v280_apply, val_main_v278_apply, val_main_v276_apply, val_main_v274_apply, val_main_v272_apply, val_main_v270_apply, val_main_v268_apply, val_main_v266_apply, val_main_v264_apply, val_main_v262_apply, val_main_v260_apply, val_main_v258_apply, val_main_v256_apply, val_main_v254_apply, val_main_v252_apply, val_main_v250_apply, val_main_v248_apply, val_main_v246_apply, val_main_v244_apply, val_main_v242_apply, val_main_v240_apply, val_main_v238_apply, val_main_v236_apply, val_main_v234_apply, val_main_v232_apply, val_main_v230_apply, val_main_v228_apply, val_main_v226_apply, val_main_v224_apply, val_main_v222_apply]
  rw [taps0 x0 x1 x2 x3 x4 x5 s p q G E cv hv hG hE, taps1 x0 x1 x2 x3 x4 x5 s p q G E cv hv hG hE, taps2 x0 x1 x2 x3 x4 x5 s p q G E cv hv hG hE, taps3 x0 x1 x2 x3 x4 x5 s p q G E cv hv hG hE, taps4 x0 x1 x2 x3 x4 x5 s p q G E cv hv hG hE, taps5 x0 x1 x2 x3 x4 x5 s p q G E cv hv hG hE, taps6 x0 x1 x2 x3 x4 x5 s p q G E cv hv hG hE, taps7 x0 x1 x2 x3 x4 x5 s p q G E cv hv hG hE, taps8 x0 x1 x2 x3 x4 x5 s p q G E cv hv hG hE, taps9 x0 x1 x2 x3 x4 x5 s p q G E cv hv hG hE, taps10 x0 x1 x2 x3 x4 x5 s p q G E cv hv hG hE, taps11 x0 x1 x2 x3 x4 x5 s p q G E cv hv hG hE, taps12 x0 x1 x2 x3 x4 x5 s p q G E cv hv hG hE, taps13 x0 x1 x2 x3 x4 x5 s p q G E cv hv hG hE, taps14 x0 x1 x2 x3 x4 x5 s p q G E cv hv hG hE, taps15 x0 x1 x2 x3 x4 x5 s p q G E cv hv hG hE, taps16 x0 x1 x2 x3 x4 x5 s p q G E cv hv hG hE, taps17 x0 x1 x2 x3 x4 x5 s p q G E cv hv hG hE, taps18 x0 x1 x2 x3 x4 x5 s p q G E cv hv hG hE, taps19 x0 x1 x2 x3 x4 x5 s p q G E cv hv hG hE, taps20 x0 x1 x2 x3 x4 x5 s p q G E cv hv hG hE, taps21 x0 x1 x2 x3 x4 x5 s p q G E cv hv hG hE, taps22 x0 x1 x2 x3 x4 x5 s p q G E cv hv hG hE, taps23 x0 x1 x2 x3 x4 x5 s p q G E cv hv hG hE, taps24 x0 x1 x2 x3 x4 x5 s p q G E cv hv hG hE, taps25 x0 x1 x2 x3 x4 x5 s p q G E cv hv hG hE, taps26 x0 x1 x2 x3 x4 x5 s p q G E cv hv hG hE, taps27 x0 x1 x2 x3 x4 x5 s p q G E cv hv hG hE, taps28 x0 x1 x2 x3 x4 x5 s p q G E cv hv hG hE, taps29 x0 x1 x2 x3 x4 x5 s p q G E cv hv hG hE, taps30 x0 x1 x2 x3 x4 x5 s p q G E cv hv hG hE]
  exact sum31 fun k => rd x1 k q * ahead G E x5 cv k (at_ s p) q

theorem r284 : val_main_v284 (F := Ideal) x0 x1 x2 x3 x4 x5 (ix3 s p q) = dh x1 G E x5 cv (at_ s p) q * Ideal.logistic (rd x0 (at_ s p) (512 + q)) := by
  rw [val_main_v284_apply, r282 x0 x1 x2 x3 x4 x5 s p q G E cv hv hG hE, r8]
  rfl

theorem r285 : val_main_v285 (F := Ideal) x0 x1 x2 x3 x4 x5 (ix3 s p q)
    = dh x1 G E x5 cv (at_ s p) q * rd x0 (at_ s p) q * Ideal.logistic (rd x0 (at_ s p) (512 + q)) * (1 - Ideal.logistic (rd x0 (at_ s p) (512 + q))) := by
  rw [val_main_v285_apply, val_main_v283_apply, r282 x0 x1 x2 x3 x4 x5 s p q G E cv hv hG hE, r1, r11]
  show (_ * _) * (_ * _ : EReal) = _
  rw [mul_comm (rd x0 _ _), mul_assoc (dh x1 G E x5 cv (at_ s p) q * rd x0 (at_ s p) q)]

/-- The gradient at the halves. -/
theorem r288 (n : Fin 1024) : val_main_v288 (F := Ideal) x0 x1 x2 x3 x4 x5 (ix3 s p n) = dvg x0 x1 G E x5 cv (at_ s p) n := by
  rw [val_main_v288_apply, dvg]
  unfold val_main_v286 val_main_v287
  by_cases hn : n.val < 512
  · rw [if_pos hn, ← r284 x0 x1 x2 x3 x4 x5 s p ⟨n.val, hn⟩ G E cv hv hG hE]
    have e1 : (pad S2x4096x1024 ![0, 0, 512] ![0, 0, 0] ![0, 0, 0] (val_main_v285 (F := Ideal) x0 x1 x2 x3 x4 x5) (val_main_cst_56 (F := Ideal)) pads_S2x4096x512_S2x4096x1024_000_000_51200 h_S_ (ix3 s p n) : EReal) = 0 :=
      (pad_apply_of_not_inside _ _ _ _ _ _ _ _ (2 : Fin 3) fun hi => absurd (show 512 ≤ n.val from hi.1) (by omega)).trans zero_word
    have e2 := pad_apply_of_inside ![0, 0, 0] ![0, 0, 512] ![0, 0, 0] (val_main_v284 (F := Ideal) x0 x1 x2 x3 x4 x5) (val_main_cst_57 (F := Ideal)) pads_S2x4096x512_S2x4096x1024_000_000_05120 h_S_ (ix3 s p n) (ix3 s p ⟨n.val, hn⟩) (fun a => match a with
      | ⟨0, _⟩ => (by show s.val = 0 + s.val * (0 + 1); omega)
      | ⟨1, _⟩ => (by show p.val = 0 + p.val * (0 + 1); omega)
      | ⟨2, _⟩ => (by show n.val = 0 + n.val * (0 + 1); omega))
    rw [e1, e2]
    exact zero_add _
  · have hn' : n.val - 512 < 512 := by omega
    rw [if_neg hn, ← r285 x0 x1 x2 x3 x4 x5 s p ⟨n.val - 512, hn'⟩ G E cv hv hG hE]
    have e1 : (pad S2x4096x1024 ![0, 0, 0] ![0, 0, 512] ![0, 0, 0] (val_main_v284 (F := Ideal) x0 x1 x2 x3 x4 x5) (val_main_cst_57 (F := Ideal)) pads_S2x4096x512_S2x4096x1024_000_000_05120 h_S_ (ix3 s p n) : EReal) = 0 :=
      (pad_apply_of_not_inside _ _ _ _ _ _ _ _ (2 : Fin 3) fun hi => by
        have h3 : (n.val - 0) / (0 + 1) < 512 := hi.2.2
        omega).trans zero_word
    have e2 := pad_apply_of_inside ![0, 0, 512] ![0, 0, 0] ![0, 0, 0] (val_main_v285 (F := Ideal) x0 x1 x2 x3 x4 x5) (val_main_cst_56 (F := Ideal)) pads_S2x4096x512_S2x4096x1024_000_000_51200 h_S_ (ix3 s p n) (ix3 s p ⟨n.val - 512, hn'⟩) (fun a => match a with
      | ⟨0, _⟩ => (by show s.val = 0 + s.val * (0 + 1); omega)
      | ⟨1, _⟩ => (by show p.val = 0 + p.val * (0 + 1); omega)
      | ⟨2, _⟩ => (by show n.val = 512 + (n.val - 512) * (0 + 1); omega))
    rw [e1, e2]
    exact add_zero _

theorem r290 (j : S8192x1024.Idx) : val_main_v290 (F := Ideal) x0 x1 x2 x3 x4 x5 j = dvg x0 x1 G E x5 cv (j 0).val (j 1).val := by
  have h0 : (j 0).val < 8192 := (j 0).isLt
  have h1 : (j 1).val < 1024 := (j 1).isLt
  have hs : (j 0).val / 4096 < 2 := by omega
  have hp : (j 0).val % 4096 < 4096 := by omega
  rw [val_main_v290_apply, val_main_v289_apply]
  have e : idx_main_v289 j = ix3 ⟨(j 0).val / 4096, hs⟩ ⟨(j 0).val % 4096, hp⟩ ⟨(j 1).val, h1⟩ := funext fun a => Fin.ext (match a with
    | ⟨0, _⟩ => (by show ((j 0).val * 1024 + (j 1).val) / 4194304 = (j 0).val / 4096; omega)
    | ⟨1, _⟩ => (by show ((j 0).val * 1024 + (j 1).val) / 1024 % 4096 = (j 0).val % 4096; omega)
    | ⟨2, _⟩ => (by show ((j 0).val * 1024 + (j 1).val) % 1024 = (j 1).val; omega))
  rw [e]
  refine (r288 x0 x1 x2 x3 x4 x5 ⟨(j 0).val / 4096, hs⟩ ⟨(j 0).val % 4096, hp⟩ G E cv hv hG hE ⟨(j 1).val, h1⟩).trans ?_
  refine congrArg (fun R => dvg x0 x1 G E x5 cv R (j 1).val) ?_
  show 4096 * ((j 0).val / 4096) + (j 0).val % 4096 = _
  omega

/-- The gradient at the bias. -/
theorem r291 (j : S1x512.Idx) : val_main_v291 (F := Ideal) x0 x1 x2 x3 x4 x5 j = db G E x5 cv (j 1).val := by
  obtain ⟨u, q, rfl⟩ : ∃ (u : Fin 1) (q : Fin 512), j = ix2 u q := ⟨j 0, j 1, eq_ix2 j⟩
  rw [val_main_v291_apply]
  have e : idx_main_v291 (ix2 u q) = ix1 q := funext fun a => match a with | ⟨0, _⟩ => rfl
  rw [e]
  unfold val_main_v150
  rw [sum3 _ _ _ _ zero_word]
  simp only [Finset.univ_unique, Finset.sum_singleton]
  rw [val_main_v149_apply]
  have e : ∀ i : S512.Idx, (i 0).val = q.val → i = ix1 q := fun i h => funext fun a => match a with | ⟨0, _⟩ => Fin.ext h
  refine (congrArg (val_main_v148 (F := Ideal) x0 x1 x2 x3 x4 x5) (e _ (by show ((_ * 1 + _) * 512 + q.val) = _; simp))).trans ?_
  unfold val_main_v148
  rw [sum3 _ _ _ _ zero_word]
  simp only [r147 x0 x1 x2 x3 x4 x5 _ _ _ G E cv hv hG hE]
  exact sum_rows fun R => dc G E x5 cv R q.val

theorem r292 (j : S1x512.Idx) : val_main_v292 (F := Ideal) x0 x1 x2 x3 x4 x5 j = dg G E x5 cv (j 1).val := by
  obtain ⟨u, q, rfl⟩ : ∃ (u : Fin 1) (q : Fin 512), j = ix2 u q := ⟨j 0, j 1, eq_ix2 j⟩
  rw [val_main_v292_apply]
  have e : idx_main_v292 (ix2 u q) = ix1 q := funext fun a => match a with | ⟨0, _⟩ => rfl
  rw [e]
  unfold val_main_v125
  rw [sum3 _ _ _ _ zero_word]
  simp only [Finset.univ_unique, Finset.sum_singleton]
  rw [val_main_v122_apply]
  have e : ∀ i : S512.Idx, (i 0).val = q.val → i = ix1 q := fun i h => funext fun a => match a with | ⟨0, _⟩ => Fin.ext h
  refine (congrArg (val_main_v121 (F := Ideal) x0 x1 x2 x3 x4 x5) (e _ (by show ((_ * 1 + _) * 512 + q.val) = _; simp))).trans ?_
  unfold val_main_v121
  rw [sum3 _ _ _ _ zero_word]
  simp only [r120 x0 x1 x2 x3 x4 x5 _ _ _ G E cv hv hG hE]
  exact sum_rows fun R => norm (rd cv R) q.val * dln (rd cv R) (rd G 0) (rd E 0) (rd x5 R) q.val

theorem r293 (j : S1x512.Idx) : val_main_v293 (F := Ideal) x0 x1 x2 x3 x4 x5 j = dbe G E x5 cv (j 1).val := by
  obtain ⟨u, q, rfl⟩ : ∃ (u : Fin 1) (q : Fin 512), j = ix2 u q := ⟨j 0, j 1, eq_ix2 j⟩
  rw [val_main_v293_apply]
  have e : idx_main_v293 (ix2 u q) = ix1 q := funext fun a => match a with | ⟨0, _⟩ => rfl
  rw [e]
  unfold val_main_v119
  rw [sum3 _ _ _ _ zero_word]
  simp only [Finset.univ_unique, Finset.sum_singleton]
  rw [val_main_v118_apply]
  have e : ∀ i : S512.Idx, (i 0).val = q.val → i = ix1 q := fun i h => funext fun a => match a with | ⟨0, _⟩ => Fin.ext h
  refine (congrArg (val_main_v117 (F := Ideal) x0 x1 x2 x3 x4 x5) (e _ (by show ((_ * 1 + _) * 512 + q.val) = _; simp))).trans ?_
  unfold val_main_v117
  rw [sum3 _ _ _ _ zero_word]
  simp only [r116 x0 x1 x2 x3 x4 x5 _ _ _ G E cv hv hG hE]
  exact sum_rows fun R => dln (rd cv R) (rd G 0) (rd E 0) (rd x5 R) q.val

/-- The gradient at the weights. -/
theorem r157 (j : S31x512.Idx) : val_main_v157 (F := Ideal) x0 x1 x2 x3 x4 x5 j = dw x0 G E x5 cv (j 0).val (j 1).val := by
  obtain ⟨k, q, rfl⟩ : ∃ (k : Fin 31) (q : Fin 512), j = ix2 k q := ⟨j 0, j 1, eq_ix2 j⟩
  unfold val_main_v157
  rw [sum4 _ _ _ _ zero_word]
  simp only [Finset.univ_unique, Finset.sum_singleton]
  rw [val_main_v154_apply]
  have e : ∀ i : S31x512.Idx, (i 0).val = k.val → (i 1).val = q.val → i = ix2 k q := fun i h h' => funext fun a => match a with | ⟨0, _⟩ => Fin.ext h | ⟨1, _⟩ => Fin.ext h'
  refine (congrArg (val_main_v153 (F := Ideal) x0 x1 x2 x3 x4 x5) (e _ (by show (((_ * 1 + _) * 31 + k.val) * 512 + q.val) / 512 = _; simp; omega) (by show (((_ * 1 + _) * 31 + k.val) * 512 + q.val) % 512 = _; simp))).trans ?_
  unfold val_main_v153
  rw [sum4 _ _ _ _ zero_word]
  refine Eq.trans ?_ (sum_rows fun R => dc G E x5 cv R q * back x0 k R q)
  refine Finset.sum_congr rfl fun s _ => Finset.sum_congr rfl fun p _ => ?_
  rw [val_main_v152_apply, r80, r151 x0 x1 x2 x3 x4 x5 s p q G E cv hv hG hE]
  exact mul_comm _ _

end
end Cert.Conf
-- ==== Proof.Value.lean ====
/-  The kernel's five results are the reference's.  -/
module
public import proofs.«01_k».proof.Proof.Run
public import proofs.«01_k».proof.Proof.Whole
public import proofs.«01_k».proof.Proof.Ref2
@[expose] public section
noncomputable section
namespace Cert.Conf
open Idealize.ShloMosaic Idealize.ShloMosaic.TcCoe Idealize.ShloMosaic.Tactic Idealize.SL.Sem Idealize.ShloMosaic.StableHlo
open Cert.KernelIdeal Cert.KernelIdeal.Gen

/-- A vector broadcast to one row. -/
theorem row (x : Vec Ideal S512 .f32) (h : S512.BroadcastsInDim S1x512 ![1]) (q : Fin 512) :
    x (ix1 q) = rd (a := 1) (b := 512) (broadcastInDim S1x512 ![1] h x) 0 q := by
  refine Eq.trans ?_ (rd_val (a := 1) (b := 512) _ (0 : Fin 1) q).symm
  refine congrArg x ?_
  funext a
  match a with
  | ⟨0, _⟩ => rfl

variable (m : (ℓ : Loc nD τ sig) → Buf (Elt Ideal) ℓ) (ρ : Dev nD → PrngReg) (c : Dev nD)

theorem w1_v0 : W1 m ρ c (Proc.devRef .tc main_v0) = broadcastInDim S1x512 ![1] bcast_S512_S1x512_1 (m ((c : Thread nD τ).loc main_arg2)) := by
  unfold W1 hostOps0
  after_results

theorem w3_v4 : W3 m ρ c (Proc.devRef .tc main_v4) = broadcastInDim S1x512 ![1] bcast_S512_S1x512_1 (m ((c : Thread nD τ).loc main_arg3)) := by
  rw [← W2_args m ρ c main_arg3 (by decide)]
  unfold W3 hostOps1
  after_results

theorem w3_v5 : W3 m ρ c (Proc.devRef .tc main_v5) = broadcastInDim S1x512 ![1] bcast_S512_S1x512_1 (m ((c : Thread nD τ).loc main_arg4)) := by
  rw [← W2_args m ρ c main_arg4 (by decide)]
  unfold W3 hostOps1
  after_results

/-- The convolved rows as the second call finds them. -/
theorem w3_conv : W3 m ρ c (Proc.devRef .tc main_v3_1) = fun j : S8192x512.Idx =>
    conv (m ((c : Thread nD τ).loc main_arg0)) (m ((c : Thread nD τ).loc main_arg1)) (W1 m ρ c (Proc.devRef .tc main_v0)) (j 0).val (j 1).val := by
  rw [W3_of m ρ c main_v3_1 (by decide)]
  refine (W2_arr m ρ c 7).trans ((conv_final (V1 m ρ) c).trans ?_)
  rw [show V1 m ρ c main_arg0 = _ from W1_args m ρ c main_arg0 (by decide), show V1 m ρ c main_arg1 = _ from W1_args m ρ c main_arg1 (by decide)]

section
variable (x0 : Vec Ideal S8192x1024 .f32) (x1 : Vec Ideal S31x512 .f32) (x2 x3 x4 : Vec Ideal S512 .f32) (x5 : Vec Ideal S8192x512 .bf16)
  (h0 : x0 = m ((c : Thread nD τ).loc main_arg0)) (h1 : x1 = m ((c : Thread nD τ).loc main_arg1)) (h2 : x2 = m ((c : Thread nD τ).loc main_arg2))
  (h3 : x3 = m ((c : Thread nD τ).loc main_arg3)) (h4 : x4 = m ((c : Thread nD τ).loc main_arg4)) (h5 : x5 = m ((c : Thread nD τ).loc main_arg5))
include h0 h1 h2

theorem conv_ref (s : Fin 2) (p : Fin 4096) (q : Fin 512) : Cert.ReferenceIdeal.Read.val_main_v87 (F := Ideal) x0 x1 x2 (ix3 s p q)
    = rd (a := 8192) (b := 512) (W3 m ρ c (Proc.devRef .tc main_v3_1)) (at_ s p) q := by
  have hR : at_ s p < 8192 := by show 4096 * s.val + p.val < 8192; omega
  rw [w3_conv, rd_lt (a := 8192) (b := 512) _ hR q.isLt, ← h0, ← h1]
  refine r87 x0 x1 x2 s p q _ fun q => ?_
  rw [h2, w1_v0]
  exact row _ _ q

include h3 h4 h5

theorem out0 : W4 m ρ c (Proc.devRef .tc main_v6_0) = Cert.ReferenceIdeal.Read.val_main_v290 (F := Ideal) x0 x1 x2 x3 x4 x5 := by
  refine (W4_arr m ρ c 9).trans ((dvg_final (V3 m ρ) c).trans (funext fun j => ?_))
  rw [show V3 m ρ c main_arg0 = _ from W3_args m ρ c main_arg0 (by decide), show V3 m ρ c main_arg1 = _ from W3_args m ρ c main_arg1 (by decide),
    show V3 m ρ c main_arg5 = _ from W3_args m ρ c main_arg5 (by decide), ← h0, ← h1, ← h5]
  exact (r290 x0 x1 x2 x3 x4 x5 _ _ _ (conv_ref m ρ c x0 x1 x2 h0 h1 h2)
    (fun q => by rw [h3, show V3 m ρ c main_v4 = _ from w3_v4 m ρ c]; exact row _ _ q) (fun q => by rw [h4, show V3 m ρ c main_v5 = _ from w3_v5 m ρ c]; exact row _ _ q) j).symm

theorem out1 : W4 m ρ c (Proc.devRef .tc main_v6_1) = Cert.ReferenceIdeal.Read.val_main_v157 (F := Ideal) x0 x1 x2 x3 x4 x5 := by
  refine (W4_arr m ρ c 10).trans ((dw_final (V3 m ρ) c).trans (funext fun j => ?_))
  rw [show V3 m ρ c main_arg0 = _ from W3_args m ρ c main_arg0 (by decide),
    show V3 m ρ c main_arg5 = _ from W3_args m ρ c main_arg5 (by decide), ← h0, ← h5]
  exact (r157 x0 x1 x2 x3 x4 x5 _ _ _ (conv_ref m ρ c x0 x1 x2 h0 h1 h2)
    (fun q => by rw [h3, show V3 m ρ c main_v4 = _ from w3_v4 m ρ c]; exact row _ _ q) (fun q => by rw [h4, show V3 m ρ c main_v5 = _ from w3_v5 m ρ c]; exact row _ _ q) j).symm

theorem out2 : W4 m ρ c (Proc.devRef .tc main_v6_2) = Cert.ReferenceIdeal.Read.val_main_v291 (F := Ideal) x0 x1 x2 x3 x4 x5 := by
  refine (W4_arr m ρ c 11).trans ((db_final (V3 m ρ) c).trans (funext fun j => ?_))
  rw [show V3 m ρ c main_arg5 = _ from W3_args m ρ c main_arg5 (by decide), ← h5]
  exact (r291 x0 x1 x2 x3 x4 x5 _ _ _ (conv_ref m ρ c x0 x1 x2 h0 h1 h2)
    (fun q => by rw [h3, show V3 m ρ c main_v4 = _ from w3_v4 m ρ c]; exact row _ _ q) (fun q => by rw [h4, show V3 m ρ c main_v5 = _ from w3_v5 m ρ c]; exact row _ _ q) j).symm

theorem out3 : W4 m ρ c (Proc.devRef .tc main_v6_3) = Cert.ReferenceIdeal.Read.val_main_v292 (F := Ideal) x0 x1 x2 x3 x4 x5 := by
  refine (W4_arr m ρ c 12).trans ((dlng_final (V3 m ρ) c).trans (funext fun j => ?_))
  rw [show V3 m ρ c main_arg5 = _ from W3_args m ρ c main_arg5 (by decide), ← h5]
  exact (r292 x0 x1 x2 x3 x4 x5 _ _ _ (conv_ref m ρ c x0 x1 x2 h0 h1 h2)
    (fun q => by rw [h3, show V3 m ρ c main_v4 = _ from w3_v4 m ρ c]; exact row _ _ q) (fun q => by rw [h4, show V3 m ρ c main_v5 = _ from w3_v5 m ρ c]; exact row _ _ q) j).symm

theorem out4 : W4 m ρ c (Proc.devRef .tc main_v6_4) = Cert.ReferenceIdeal.Read.val_main_v293 (F := Ideal) x0 x1 x2 x3 x4 x5 := by
  refine (W4_arr m ρ c 13).trans ((dlnb_final (V3 m ρ) c).trans (funext fun j => ?_))
  rw [show V3 m ρ c main_arg5 = _ from W3_args m ρ c main_arg5 (by decide), ← h5]
  exact (r293 x0 x1 x2 x3 x4 x5 _ _ _ (conv_ref m ρ c x0 x1 x2 h0 h1 h2)
    (fun q => by rw [h3, show V3 m ρ c main_v4 = _ from w3_v4 m ρ c]; exact row _ _ q) (fun q => by rw [h4, show V3 m ρ c main_v5 = _ from w3_v5 m ρ c]; exact row _ _ q) j).symm

end
end Cert.Conf
-- ==== Proof.GradInValue.lean ====
/-  The gradient at the feed-forward input weights: what the kernel leaves, and that the reference leaves it.  -/
module
public import proofs.«01_k».proof.Defs
public import proofs.«01_k».proof.Proof.Gen.GradInIdeal.Frame
public import proofs.«01_k».proof.Proof.Gen.ReferenceGradInIdeal.Read
public import proofs.«01_k».proof.Proof.Taps
public import Idealize.ShloMosaic.Lib.Pointwise
public import Idealize.ShloMosaic.Lib.Pipeline.ReadBack
public import Idealize.ShloMosaic.Lib.Pipeline.ValueKit
@[expose] public section
noncomputable section
namespace Cert.FfnGradIn
open Idealize.ShloMosaic Idealize.ShloMosaic.TcCoe Cert.GradInIdeal Cert.GradInIdeal.Gen Cert.Conf

variable (m : (ℓ : Loc nD τ sig) → Buf (Elt Ideal) ℓ) (c : Dev nD)

/-- The product of a tile of rows of the two operands, transposed on the left. -/
theorem pay1 (x0 : Vec Ideal S2048x1024 .bf16) (x1 : Vec Ideal S2048x1408 .bf16) (p : Fin 1024) (q : Fin 1408) :
    k0_pay1 x0 x1 (ix2 p q) = ∑ r ∈ Finset.range 2048, rd (a := 2048) (b := 1024) x0 r p * rd (a := 2048) (b := 1408) x1 r q := by
  unfold k0_pay1
  pointwise
  rw [Finset.sum_range]
  simp only [rd_val]

theorem pay2 (x0 : Vec Ideal S2048x1024 .bf16) (x1 : Vec Ideal S2048x1408 .bf16) (p : Fin 1024) (q : Fin 1408) :
    k0_pay2 x0 x1 (ix2 p q) = 0 + ∑ r ∈ Finset.range 2048, rd (a := 2048) (b := 1024) x0 r p * rd (a := 2048) (b := 1408) x1 r q := by
  rw [← pay1]
  unfold k0_pay2
  pointwise

theorem pay3 (x0 : Vec Ideal S2048x1024 .bf16) (x1 : Vec Ideal S2048x1408 .bf16) (x2 : Vec Ideal S1024x1408 .f32) (p : Fin 1024) (q : Fin 1408) :
    k0_pay3 x0 x1 x2 (ix2 p q) = x2 (ix2 p q) + ∑ r ∈ Finset.range 2048, rd (a := 2048) (b := 1024) x0 r p * rd (a := 2048) (b := 1408) x1 r q := by
  rw [← pay1]
  unfold k0_pay3
  pointwise

theorem at_0 : ∀ t : Fin cfg0.N, win0_0.index t = ![t.val % 4, 0] := (by decide +kernel : ∀ t : Fin grid0.N, _)
theorem at_1 : ∀ t : Fin cfg0.N, win0_1.index t = ![t.val % 4, t.val / 4] := (by decide +kernel : ∀ t : Fin grid0.N, _)
theorem at_2 : ∀ t : Fin cfg0.N, win0_2.index t = ![t.val / 4, 0, 0] := (by decide +kernel : ∀ t : Fin grid0.N, _)

theorem blk_0 (t : Fin cfg0.N) {p q : ℕ} (hp : p < 2048) (hq : q < 1024) :
    rd (a := 2048) (b := 1024) (iblk m c 0 t) p q = rd (a := 8192) (b := 1024) (m ((c : Thread nD τ).loc main_arg0)) (2048 * (t.val % 4) + p) q := by
  rw [rd_lt (a := 2048) (b := 1024) _ hp hq]
  blk_simp [iblk]
  exact rd_of (a := 8192) (b := 1024) _ _ (by blk_simp [at_0]; show _ + p = _; omega) (by blk_simp [at_0])

theorem blk_1 (t : Fin cfg0.N) {p q : ℕ} (hp : p < 2048) (hq : q < 1408) :
    rd (a := 2048) (b := 1408) (iblk m c 1 t) p q = rd (a := 8192) (b := 5632) (m ((c : Thread nD τ).loc main_arg2)) (2048 * (t.val % 4) + p) (1408 * (t.val / 4) + q) := by
  rw [rd_lt (a := 2048) (b := 1408) _ hp hq]
  blk_simp [iblk]
  exact rd_of (a := 8192) (b := 5632) _ _ (by blk_simp [at_1]; show _ + p = _; omega) (by blk_simp [at_1]; show _ + q = _; omega)

/-- What a tile of rows adds to the gradient. -/
def term (n : ℕ) (i : Fin 1024 × Fin 1408) : EReal :=
  ∑ r ∈ Finset.range 2048, rd (a := 8192) (b := 1024) (m ((c : Thread nD τ).loc main_arg0)) (2048 * (n % 4) + r) i.1
    * rd (a := 8192) (b := 5632) (m ((c : Thread nD τ).loc main_arg2)) (2048 * (n % 4) + r) (1408 * (n / 4) + i.2)

theorem term_eq (t : Fin cfg0.N) (p : Fin 1024) (q : Fin 1408) :
    ∑ r ∈ Finset.range 2048, rd (a := 2048) (b := 1024) (iblk m c 0 t) r p * rd (a := 2048) (b := 1408) (iblk m c 1 t) r q = term m c t.val (p, q) := by
  refine Finset.sum_congr rfl fun r hr => ?_
  have hr := Finset.mem_range.mp hr
  rw [blk_0 m c t hr p.isLt, blk_1 m c t hr q.isLt]

/-- The accumulator after a point: the sum over the tiles of rows so far. -/
theorem acc (t : Fin cfg0.N) (p : Fin 1024) (q : Fin 1408) :
    ((outsAt0 m c t.val t.isLt).2 (ix2 p q) : EReal) = 0 + ∑ s ∈ Finset.range (t.val % 4 + 1), term m c (4 * (t.val / 4) + s) (p, q) := by
  refine Pipeline.eq_sum_of_reset_step_apply (M := EReal) (fun n h (i : Fin 1024 × Fin 1408) => (outsAt0 m c n h).2 (ix2 i.1 i.2)) 4 (fun _ => 0)
    (fun t i => term m c t i) ?_ ?_ t (p, q)
  · rintro t h0 ⟨p, q⟩
    rw [outsAt0_A m c t h0 (by omega) (by omega)]
    frame_out
    rw [pay2, term_eq]
  · rintro t h0 ⟨p, q⟩
    by_cases h3 : t.val % 4 = 3
    · rw [outsAt0_C m c t h0 (by omega) h3]
      frame_out
      rw [pay3, term_eq, read_unread_whole]
    · rw [outsAt0_B m c t h0 (by omega) h3]
      frame_out
      rw [pay3, term_eq, read_unread_whole]

/-- The gradient: the sum over all the rows. -/
def dw (p q : ℕ) : EReal :=
  ∑ r ∈ Finset.range 8192, rd (a := 8192) (b := 1024) (m ((c : Thread nD τ).loc main_arg0)) r p
    * rd (a := 8192) (b := 5632) (m ((c : Thread nD τ).loc main_arg2)) r q

/-- The four tiles of rows together. -/
theorem acc_last (t : Fin cfg0.N) (ht : t.val % 4 = 3) (p : Fin 1024) (q : Fin 1408) :
    ((outsAt0 m c t.val t.isLt).2 (ix2 p q) : EReal) = dw m c p (1408 * (t.val / 4) + q) := by
  rw [acc, ht, zero_add]
  refine Eq.trans ?_ (Finset.sum_range_range_mul_add 4 2048 fun r => rd (a := 8192) (b := 1024) (m ((c : Thread nD τ).loc main_arg0)) r p
    * rd (a := 8192) (b := 5632) (m ((c : Thread nD τ).loc main_arg2)) r (1408 * (t.val / 4) + q))
  refine Finset.sum_congr rfl fun s hs => ?_
  have hs := Finset.mem_range.mp hs
  rw [term, show (4 * (t.val / 4) + s) % 4 = s by omega, show (4 * (t.val / 4) + s) / 4 = t.val / 4 by omega, Nat.mul_comm 2048 s]

theorem out_last (t : Fin cfg0.N) (ht : t.val % 4 = 3) (s : Fin 2) (p : Fin 1024) (q : Fin 704) :
    ((outsAt0 m c t.val t.isLt).1 (ix3 s p q) : EReal) = dw m c p (1408 * (t.val / 4) + (704 * s + q)) := by
  have h : ∀ q : Fin 1408, k0_pay3 (iblk m c 0 t) (iblk m c 1 t) (outsAt0 m c (t.val - 1) (by omega)).2 (ix2 p q) = dw m c p (1408 * (t.val / 4) + q) := by
    intro q
    rw [← acc_last m c t ht, outsAt0_C m c t (by omega) (by omega) ht]
    frame_out
    rw [read_unread_whole]
  rw [outsAt0_C m c t (by omega) (by omega) ht]
  frame_out
  simp (disch := decide) only [read_unread_whole, View.readCov_eq_canon', View.canon_cons_unit_lit']
  generalize k0_pay3 (iblk m c 0 t) (iblk m c 1 t) (outsAt0 m c (t.val - 1) _).2 = X at h ⊢
  canon_tiles x hx
  · unfold k0_pay5
    pointwise
    refine (congrArg (fun z => X (ix2 z ⟨704 + (x 2).val, by omega⟩)) (Fin.ext hx1.symm : x 1 = p)).trans ((h _).trans ?_)
    have e0 : s.val = 1 + (x 0).val := hx0
    have e2 : q.val = (x 2).val := hx2
    congr 1
    show 1408 * (t.val / 4) + (704 + (x 2).val) = _
    omega
  · unfold k0_pay4
    pointwise
    refine (congrArg (fun z => X (ix2 z ⟨(x 2).val, by omega⟩)) (Fin.ext hx1.symm : x 1 = p)).trans ((h _).trans ?_)
    have e0 : s.val = (x 0).val := hx0
    have e2 : q.val = (x 2).val := hx2
    congr 1
    show 1408 * (t.val / 4) + (x 2).val = _
    omega

/-- What the kernel leaves. -/
theorem final : (dats m 0 c).arrAt 2 cfg0.N = fun j : S8x1024x704.Idx => dw m c (j 1).val (704 * (j 0).val + (j 2).val) := by
  refine (dats m 0 c).arrAt_eq_of_covers 2 _ (by decide +kernel) fun t hf y => ?_
  blk_simp [at_2]
  rw [after0_2]
  obtain ⟨s, p, q, rfl⟩ : ∃ (s : Fin 2) (p : Fin 1024) (q : Fin 704), y = ix3 s p q := ⟨y 0, y 1, y 2, eq_ix3 y⟩
  refine (out_last m c t ((flush0_2 t).mp hf) s p q).trans ?_
  show dw m c p _ = dw m c p (704 * (t.val / 4 * 2 + s.val) + q.val)
  congr 1
  omega

open Cert.ReferenceGradInIdeal.Read in
/-- The reference's product at an index. -/
theorem ref (x0 : S8192x1024.Idx → EReal) (x2 : S8192x5632.Idx → EReal) (s : Fin 8) (p : Fin 1024) (q : Fin 704) :
    val_main_v9 (F := Ideal) x0 x2 (ix3 s p q) = ∑ r ∈ Finset.range 8192, rd (a := 8192) (b := 1024) x0 r p * rd (a := 8192) (b := 5632) x2 r (704 * s + q) := by
  have e : idx_main_v6 (idx_main_v7 (idx_main_v8 (ix3 s p q))) = ix2 (n0 := 5632) (n1 := 1024) ⟨704 * s.val + q.val, by omega⟩ p := by
    funext a
    match a with
    | ⟨0, _⟩ => exact Fin.ext (show ((p.val * 8 + s.val) * 704 + q.val) % 5632 = 704 * s.val + q.val by omega)
    | ⟨1, _⟩ => exact Fin.ext (show ((p.val * 8 + s.val) * 704 + q.val) / 5632 = p.val by omega)
  rw [val_main_v9_apply, val_main_v8_apply, val_main_v7_apply, val_main_v6_apply, e]
  unfold val_main_v5
  pointwise
  rw [Finset.sum_range_mul_split 2 4096, Finset.sum_range]
  refine Finset.sum_congr rfl fun b _ => ?_
  rw [Finset.sum_range]
  refine Finset.sum_congr rfl fun r _ => ?_
  rw [val_main_v1_apply, val_main_v4_apply]
  refine (mul_comm _ _).trans (congrArg₂ HMul.hMul ?_ ?_)
  · exact rd_of (a := 8192) (b := 1024) x0 _ (show ((b.val * 4096 + r.val) * 1024 + p.val) / 1024 = b.val * 4096 + r.val by omega)
      (show ((b.val * 4096 + r.val) * 1024 + p.val) % 1024 = p.val by omega)
  · exact rd_of (a := 8192) (b := 5632) x2 _ (show ((b.val * 4096 + r.val) * 5632 + (704 * s.val + q.val)) / 5632 = b.val * 4096 + r.val by omega)
      (show ((b.val * 4096 + r.val) * 5632 + (704 * s.val + q.val)) % 5632 = 704 * s.val + q.val by omega)

open Cert.ReferenceGradInIdeal.Read in
/-- The kernel leaves what the reference leaves. -/
theorem out (x0 : S8192x1024.Idx → EReal) (x2 : S8192x5632.Idx → EReal) (h0 : m ((c : Thread nD τ).loc main_arg0) = x0) (h2 : m ((c : Thread nD τ).loc main_arg2) = x2) :
    (dats m 0 c).arrAt 2 cfg0.N = val_main_v9 (F := Ideal) x0 x2 := by
  subst h0 h2
  rw [final]
  funext j
  obtain ⟨s, p, q, rfl⟩ : ∃ (s : Fin 8) (p : Fin 1024) (q : Fin 704), j = ix3 s p q := ⟨j 0, j 1, j 2, eq_ix3 j⟩
  exact (ref _ _ s p q).symm

/-- The kernel and the reference leave the same. -/
theorem value : Cert.algebraic_GradInIdeal_ReferenceGradInIdeal := by
  intro m g m' g' _ he
  refine ⟨fun c => (dats m 0 c).arrAt 2 cfg0.N, ?_, ?_⟩
  · exact (θ_run defs _ _).mono (fun r h c => ⟨(h c).1 2,
      ((h c).1 0).trans (((dats m 0 c).arrAt_in 0 rfl _).trans ((rfl).trans (V_main_arg0 m c))),
      ((h c).2 main_arg1 (Pipeline.mem_restRefs_of main_arg1 (by decide) (by decide))).trans (V_main_arg1 m c),
      ((h c).1 1).trans (((dats m 0 c).arrAt_in 1 rfl _).trans ((rfl).trans (V_main_arg2 m c)))⟩) (run_main (F := Ideal) m g)
  · refine (θ_run Cert.ReferenceGradInIdeal.defs _ _).mono (fun r h c => ?_) (Cert.ReferenceGradInIdeal.Value.run (F := Ideal) m' g')
    obtain ⟨h0, ha⟩ := h c
    obtain ⟨e0, e1, e2⟩ := he c
    exact ⟨h0.trans ((Cert.ReferenceGradInIdeal.Read.val_main_v9_eq _ _).trans (Cert.FfnGradIn.out m c _ _ e0.symm e2.symm).symm), ha⟩

end Cert.FfnGradIn
-- ==== Proof.GradOutValue.lean ====
/-  The gradient at the feed-forward output weights: what the kernel leaves, and that the reference leaves it.  -/
module
public import proofs.«01_k».proof.Defs
public import proofs.«01_k».proof.Proof.Gen.GradOutIdeal.Frame
public import proofs.«01_k».proof.Proof.Gen.ReferenceGradOutIdeal.Read
public import proofs.«01_k».proof.Proof.Taps
public import Idealize.ShloMosaic.Lib.Pointwise
public import Idealize.ShloMosaic.Lib.Pipeline.ReadBack
public import Idealize.ShloMosaic.Lib.Pipeline.ValueKit
@[expose] public section
noncomputable section
namespace Cert.FfnGradOut
open Idealize.ShloMosaic Idealize.ShloMosaic.TcCoe Cert.GradOutIdeal Cert.GradOutIdeal.Gen Cert.Conf

variable (m : (ℓ : Loc nD τ sig) → Buf (Elt Ideal) ℓ) (c : Dev nD)

/-- The product of a tile of rows of the two operands, transposed on the left. -/
theorem pay1 (x0 : Vec Ideal S2048x1408 .bf16) (x1 : Vec Ideal S2048x1024 .bf16) (p : Fin 1408) (q : Fin 1024) :
    k0_pay1 x0 x1 (ix2 p q) = ∑ r ∈ Finset.range 2048, rd (a := 2048) (b := 1408) x0 r p * rd (a := 2048) (b := 1024) x1 r q := by
  unfold k0_pay1
  pointwise
  rw [Finset.sum_range]
  simp only [rd_val]

theorem pay2 (x0 : Vec Ideal S2048x1408 .bf16) (x1 : Vec Ideal S2048x1024 .bf16) (p : Fin 1408) (q : Fin 1024) :
    k0_pay2 x0 x1 (ix2 p q) = 0 + ∑ r ∈ Finset.range 2048, rd (a := 2048) (b := 1408) x0 r p * rd (a := 2048) (b := 1024) x1 r q := by
  rw [← pay1]
  unfold k0_pay2
  pointwise

theorem pay3 (x0 : Vec Ideal S2048x1408 .bf16) (x1 : Vec Ideal S2048x1024 .bf16) (x2 : Vec Ideal S1408x1024 .f32) (p : Fin 1408) (q : Fin 1024) :
    k0_pay3 x0 x1 x2 (ix2 p q) = x2 (ix2 p q) + ∑ r ∈ Finset.range 2048, rd (a := 2048) (b := 1408) x0 r p * rd (a := 2048) (b := 1024) x1 r q := by
  rw [← pay1]
  unfold k0_pay3
  pointwise

theorem at_0 : ∀ t : Fin cfg0.N, win0_0.index t = ![t.val % 4, t.val / 4] := (by decide +kernel : ∀ t : Fin grid0.N, _)
theorem at_1 : ∀ t : Fin cfg0.N, win0_1.index t = ![t.val % 4, 0] := (by decide +kernel : ∀ t : Fin grid0.N, _)
theorem at_2 : ∀ t : Fin cfg0.N, win0_2.index t = ![t.val / 4, 0] := (by decide +kernel : ∀ t : Fin grid0.N, _)

theorem blk_0 (t : Fin cfg0.N) {p q : ℕ} (hp : p < 2048) (hq : q < 1408) :
    rd (a := 2048) (b := 1408) (iblk m c 0 t) p q = rd (a := 8192) (b := 2816) (m ((c : Thread nD τ).loc main_arg0)) (2048 * (t.val % 4) + p) (1408 * (t.val / 4) + q) := by
  rw [rd_lt (a := 2048) (b := 1408) _ hp hq]
  blk_simp [iblk]
  exact rd_of (a := 8192) (b := 2816) _ _ (by blk_simp [at_0]; show _ + p = _; omega) (by blk_simp [at_0]; show _ + q = _; omega)

theorem blk_1 (t : Fin cfg0.N) {p q : ℕ} (hp : p < 2048) (hq : q < 1024) :
    rd (a := 2048) (b := 1024) (iblk m c 1 t) p q = rd (a := 8192) (b := 1024) (m ((c : Thread nD τ).loc main_arg2)) (2048 * (t.val % 4) + p) q := by
  rw [rd_lt (a := 2048) (b := 1024) _ hp hq]
  blk_simp [iblk]
  exact rd_of (a := 8192) (b := 1024) _ _ (by blk_simp [at_1]; show _ + p = _; omega) (by blk_simp [at_1])

/-- What a tile of rows adds to the gradient. -/
def term (n : ℕ) (i : Fin 1408 × Fin 1024) : EReal :=
  ∑ r ∈ Finset.range 2048, rd (a := 8192) (b := 2816) (m ((c : Thread nD τ).loc main_arg0)) (2048 * (n % 4) + r) (1408 * (n / 4) + i.1)
    * rd (a := 8192) (b := 1024) (m ((c : Thread nD τ).loc main_arg2)) (2048 * (n % 4) + r) i.2

theorem term_eq (t : Fin cfg0.N) (p : Fin 1408) (q : Fin 1024) :
    ∑ r ∈ Finset.range 2048, rd (a := 2048) (b := 1408) (iblk m c 0 t) r p * rd (a := 2048) (b := 1024) (iblk m c 1 t) r q = term m c t.val (p, q) := by
  refine Finset.sum_congr rfl fun r hr => ?_
  have hr := Finset.mem_range.mp hr
  rw [blk_0 m c t hr p.isLt, blk_1 m c t hr q.isLt]

/-- The accumulator after a point: the sum over the tiles of rows so far. -/
theorem acc (t : Fin cfg0.N) (p : Fin 1408) (q : Fin 1024) :
    ((outsAt0 m c t.val t.isLt).2 (ix2 p q) : EReal) = 0 + ∑ s ∈ Finset.range (t.val % 4 + 1), term m c (4 * (t.val / 4) + s) (p, q) := by
  refine Pipeline.eq_sum_of_reset_step_apply (M := EReal) (fun n h (i : Fin 1408 × Fin 1024) => (outsAt0 m c n h).2 (ix2 i.1 i.2)) 4 (fun _ => 0)
    (fun t i => term m c t i) ?_ ?_ t (p, q)
  · rintro t h0 ⟨p, q⟩
    rw [outsAt0_A m c t h0 (by omega) (by omega)]
    frame_out
    rw [pay2, term_eq]
  · rintro t h0 ⟨p, q⟩
    by_cases h3 : t.val % 4 = 3
    · rw [outsAt0_C m c t h0 (by omega) h3]
      frame_out
      rw [pay3, term_eq, read_unread_whole]
    · rw [outsAt0_B m c t h0 (by omega) h3]
      frame_out
      rw [pay3, term_eq, read_unread_whole]

/-- The gradient: the sum over all the rows. -/
def dw (p q : ℕ) : EReal :=
  ∑ r ∈ Finset.range 8192, rd (a := 8192) (b := 2816) (m ((c : Thread nD τ).loc main_arg0)) r p
    * rd (a := 8192) (b := 1024) (m ((c : Thread nD τ).loc main_arg2)) r q

/-- The four tiles of rows together. -/
theorem acc_last (t : Fin cfg0.N) (ht : t.val % 4 = 3) (p : Fin 1408) (q : Fin 1024) :
    ((outsAt0 m c t.val t.isLt).2 (ix2 p q) : EReal) = dw m c (1408 * (t.val / 4) + p) q := by
  rw [acc, ht, zero_add]
  refine Eq.trans ?_ (Finset.sum_range_range_mul_add 4 2048 fun r => rd (a := 8192) (b := 2816) (m ((c : Thread nD τ).loc main_arg0)) r (1408 * (t.val / 4) + p)
    * rd (a := 8192) (b := 1024) (m ((c : Thread nD τ).loc main_arg2)) r q)
  refine Finset.sum_congr rfl fun s hs => ?_
  have hs := Finset.mem_range.mp hs
  rw [term, show (4 * (t.val / 4) + s) % 4 = s by omega, show (4 * (t.val / 4) + s) / 4 = t.val / 4 by omega, Nat.mul_comm 2048 s]

/-- What is written back: the accumulator after the last tile of rows. -/
theorem out_last (t : Fin cfg0.N) (ht : t.val % 4 = 3) (p : Fin 1408) (q : Fin 1024) :
    ((outsAt0 m c t.val t.isLt).1 (ix2 p q) : EReal) = dw m c (1408 * (t.val / 4) + p) q := by
  have h := acc_last m c t ht p q
  rw [outsAt0_C m c t (by omega) (by omega) ht] at h ⊢
  frame_out at h
  frame_out
  unfold k0_pay4
  pointwise
  exact h

/-- What the kernel leaves. -/
theorem final : (dats m 0 c).arrAt 2 cfg0.N = fun j : S2816x1024.Idx => dw m c (j 0).val (j 1).val := by
  refine (dats m 0 c).arrAt_eq_of_covers 2 _ (by decide +kernel) fun t hf y => ?_
  blk_simp [at_2]
  rw [after0_2]
  obtain ⟨p, q, rfl⟩ : ∃ (p : Fin 1408) (q : Fin 1024), y = ix2 p q := ⟨y 0, y 1, eq_ix2 y⟩
  refine (out_last m c t ((flush0_2 t).mp hf) p q).trans ?_
  show dw m c _ _ = dw m c (t.val / 4 * 1408 + p.val) q.val
  congr 1
  omega

open Cert.ReferenceGradOutIdeal.Read in
/-- The reference's product at an index. -/
theorem ref (x0 : S8192x2816.Idx → EReal) (x2 : S8192x1024.Idx → EReal) (p : Fin 2816) (q : Fin 1024) :
    val_main_v7 (F := Ideal) x0 x2 (ix2 p q) = ∑ r ∈ Finset.range 8192, rd (a := 8192) (b := 2816) x0 r p * rd (a := 8192) (b := 1024) x2 r q := by
  have e : idx_main_v6 (ix2 p q) = ix2 (n0 := 1024) (n1 := 2816) q p := by
    funext a
    match a with
    | ⟨0, _⟩ => rfl
    | ⟨1, _⟩ => rfl
  rw [val_main_v7_apply, val_main_v6_apply, e]
  unfold val_main_v5
  pointwise
  rw [Finset.sum_range_mul_split 2 4096, Finset.sum_range]
  refine Finset.sum_congr rfl fun b _ => ?_
  rw [Finset.sum_range]
  refine Finset.sum_congr rfl fun r _ => ?_
  rw [val_main_v1_apply, val_main_v4_apply]
  refine (mul_comm _ _).trans (congrArg₂ HMul.hMul ?_ ?_)
  · exact rd_of (a := 8192) (b := 2816) x0 _ (show ((b.val * 4096 + r.val) * 2816 + p.val) / 2816 = b.val * 4096 + r.val by omega)
      (show ((b.val * 4096 + r.val) * 2816 + p.val) % 2816 = p.val by omega)
  · exact rd_of (a := 8192) (b := 1024) x2 _ (show ((b.val * 4096 + r.val) * 1024 + q.val) / 1024 = b.val * 4096 + r.val by omega)
      (show ((b.val * 4096 + r.val) * 1024 + q.val) % 1024 = q.val by omega)

open Cert.ReferenceGradOutIdeal.Read in
/-- The kernel leaves what the reference leaves. -/
theorem out (x0 : S8192x2816.Idx → EReal) (x2 : S8192x1024.Idx → EReal) (h0 : m ((c : Thread nD τ).loc main_arg0) = x0) (h2 : m ((c : Thread nD τ).loc main_arg2) = x2) :
    (dats m 0 c).arrAt 2 cfg0.N = val_main_v7 (F := Ideal) x0 x2 := by
  subst h0 h2
  rw [final]
  funext j
  obtain ⟨p, q, rfl⟩ : ∃ (p : Fin 2816) (q : Fin 1024), j = ix2 p q := ⟨j 0, j 1, eq_ix2 j⟩
  exact (ref _ _ p q).symm

/-- The kernel and the reference leave the same. -/
theorem value : Cert.algebraic_GradOutIdeal_ReferenceGradOutIdeal := by
  intro m g m' g' _ he
  refine ⟨fun c => (dats m 0 c).arrAt 2 cfg0.N, ?_, ?_⟩
  · exact (θ_run defs _ _).mono (fun r h c => ⟨(h c).1 2,
      ((h c).1 0).trans (((dats m 0 c).arrAt_in 0 rfl _).trans ((rfl).trans (V_main_arg0 m c))),
      ((h c).2 main_arg1 (Pipeline.mem_restRefs_of main_arg1 (by decide) (by decide))).trans (V_main_arg1 m c),
      ((h c).1 1).trans (((dats m 0 c).arrAt_in 1 rfl _).trans ((rfl).trans (V_main_arg2 m c)))⟩) (run_main (F := Ideal) m g)
  · refine (θ_run Cert.ReferenceGradOutIdeal.defs _ _).mono (fun r h c => ?_) (Cert.ReferenceGradOutIdeal.Value.run (F := Ideal) m' g')
    obtain ⟨h0, ha⟩ := h c
    obtain ⟨e0, e1, e2⟩ := he c
    exact ⟨h0.trans ((Cert.ReferenceGradOutIdeal.Read.val_main_v7_eq _ _).trans (Cert.FfnGradOut.out m c _ _ e0.symm e2.symm).symm), ha⟩

end Cert.FfnGradOut
-- ==== Proof.FfnUpValue.lean ====
/-  The feed-forward input product with its modulation and gate: what the kernel leaves, and that the reference leaves it.  -/
module
public import proofs.«01_k».proof.Defs
public import proofs.«01_k».proof.Proof.Gen.FfnUpIdeal.Frame
public import proofs.«01_k».proof.Proof.Gen.ReferenceFfnUpIdeal.Read
public import proofs.«01_k».proof.Proof.Taps
public import Idealize.ShloMosaic.Lib.Pointwise
public import Idealize.ShloMosaic.Lib.Pipeline.ReadBack
public import Idealize.ShloMosaic.Lib.Pipeline.ValueKit
@[expose] public section
noncomputable section
namespace Cert.FfnUpV
open Idealize.ShloMosaic Idealize.ShloMosaic.TcCoe Idealize.ShloMosaic.StableHlo Idealize.ShloMosaic.Tactic Cert.FfnUpIdeal Cert.FfnUpIdeal.Gen Cert.Conf

/-! ## The mathematics, by row -/

section Rows
variable (X : S8192x1024.Idx → EReal) (S C : S2x1024.Idx → EReal) (W : S1024x5632.Idx → EReal)

/-- The row scaled and shifted by its sequence's modulation. -/
def h (r q : ℕ) : EReal := rd (a := 8192) (b := 1024) X r q * (1 + rd (a := 2) (b := 1024) C (r / 4096) q) + rd (a := 2) (b := 1024) S (r / 4096) q

/-- The product with the weights: the gate in the first 2816 columns, the value in the rest. -/
def z (r q : ℕ) : EReal := ∑ k : Fin 1024, h X S C r k * rd (a := 1024) (b := 5632) W k q

/-- The gated value. -/
def act (r q : ℕ) : EReal := z X S C W r q * Ideal.logistic (z X S C W r q) * z X S C W r (2816 + q)

/-! ## The stored values -/

theorem pay6 (x0 : Vec Ideal S512x1024 .f32) (x1 x2 : Vec Ideal S1x1x1024 .f32) (p : Fin 512) (r : ℕ)
    (hx : ∀ q : Fin 1024, x0 (ix2 p q) = rd (a := 8192) (b := 1024) X r q)
    (hs : ∀ q : Fin 1024, x1 (ix3 0 0 q) = rd (a := 2) (b := 1024) S (r / 4096) q)
    (hc : ∀ q : Fin 1024, x2 (ix3 0 0 q) = rd (a := 2) (b := 1024) C (r / 4096) q) (q : Fin 1024) :
    k0_pay6 x0 x1 x2 (ix2 p q) = h X S C r q := by
  unfold k0_pay6
  pointwise
  simp only [hx, hs, hc]
  rfl

theorem pay1 (y : FVec Ideal S512x1024 .bf16) (w : Vec Ideal S1024x1408 .bf16) (p : Fin 512) (r o : ℕ) (q : Fin 1408)
    (hy : ∀ k : Fin 1024, y (ix2 p k) = h X S C r k) (hw : ∀ k : Fin 1024, w (ix2 k q) = rd (a := 1024) (b := 5632) W k (o + q)) :
    k0_pay1 y w (ix2 p q) = z X S C W r (o + q) := by
  unfold k0_pay1
  pointwise
  simp only [hy, hw]
  rfl

theorem pay5 (y : FVec Ideal S512x1024 .bf16) (w w' : Vec Ideal S1024x1408 .bf16) (p : Fin 512) (r o : ℕ) (q : Fin 1408)
    (hy : ∀ k : Fin 1024, y (ix2 p k) = h X S C r k) (hw : ∀ k : Fin 1024, w (ix2 k q) = rd (a := 1024) (b := 5632) W k (o + q))
    (hw' : ∀ k : Fin 1024, w' (ix2 k q) = rd (a := 1024) (b := 5632) W k (2816 + o + q)) :
    k0_pay5 y w w' (ix2 p q) = act X S C W r (o + q) := by
  have e : k0_pay5 y w w' (ix2 p q) = k0_pay1 y w (ix2 p q) * Ideal.logistic (k0_pay1 y w (ix2 p q)) * k0_pay1 y w' (ix2 p q) := by
    unfold k0_pay5
    pointwise
    rfl
  rw [e, pay1 X S C W y w p r o q hy hw, pay1 X S C W y w' p r (2816 + o) q hy hw', act, Nat.add_assoc 2816]

end Rows

variable (m : (ℓ : Loc nD τ sig) → Buf (Elt Ideal) ℓ) (c : Dev nD)

theorem at_0 : ∀ t : Fin cfg0.N, win0_0.index t = ![t.val, 0] := (by decide +kernel : ∀ t : Fin grid0.N, _)
theorem at_1 : ∀ t : Fin cfg0.N, win0_1.index t = ![t.val / 8, 0, 0] := (by decide +kernel : ∀ t : Fin grid0.N, _)
theorem at_2 : ∀ t : Fin cfg0.N, win0_2.index t = ![t.val / 8, 0, 0] := (by decide +kernel : ∀ t : Fin grid0.N, _)
theorem at_3 : ∀ t : Fin cfg0.N, win0_3.index t = ![t.val, 0] := (by decide +kernel : ∀ t : Fin grid0.N, _)
theorem at_4 : ∀ t : Fin cfg0.N, win0_4.index t = ![t.val, 0] := (by decide +kernel : ∀ t : Fin grid0.N, _)
theorem at_5 : ∀ t : Fin cfg0.N, win0_5.index t = ![t.val, 0] := (by decide +kernel : ∀ t : Fin grid0.N, _)
theorem at_6 : ∀ t : Fin cfg0.N, win0_6.index t = ![t.val, 0] := (by decide +kernel : ∀ t : Fin grid0.N, _)

/-- The arguments. -/
abbrev aX : S8192x1024.Idx → EReal := m ((c : Thread nD τ).loc main_arg0)
abbrev aS : S2x1024.Idx → EReal := m ((c : Thread nD τ).loc main_arg1)
abbrev aC : S2x1024.Idx → EReal := m ((c : Thread nD τ).loc main_arg2)
abbrev aW : S1024x5632.Idx → EReal := m ((c : Thread nD τ).loc main_arg3)

theorem blk_0 (t : Fin cfg0.N) (p : Fin 512) (q : Fin 1024) :
    (iblk m c 0 t : Vec Ideal S512x1024 .f32) (ix2 p q) = rd (a := 8192) (b := 1024) (aX m c) (512 * t.val + p) q := by
  blk_simp [iblk]
  rw [aX, ← V_main_arg0 m c]
  exact rd_of (a := 8192) (b := 1024) _ _ (by blk_simp [at_0]; show _ + p.val = _; omega) (by blk_simp [at_0])

theorem blk_1 (t : Fin cfg0.N) (r : ℕ) (hr : r < 512) (q : Fin 1024) :
    (iblk m c 1 t : Vec Ideal S1x1x1024 .f32) (ix3 0 0 q) = rd (a := 2) (b := 1024) (aS m c) ((512 * t.val + r) / 4096) q := by
  have e : V m c main_v0 = broadcastInDim S2x1x1024 ![0, 2] bcast_S2x1024_S2x1x1024_0_2 (m ((c : Thread nD τ).loc main_arg1)) := by
    unfold V hostOps0
    after_results
  rw [show (512 * t.val + r) / 4096 = t.val / 8 by omega]
  blk_simp [iblk]
  show V m c main_v0 _ = _
  rw [e]
  pointwise
  exact rd_of (a := 2) (b := 1024) _ _ (by blk_simp [at_1]; exact Nat.add_zero _) (by blk_simp [at_1])

theorem blk_2 (t : Fin cfg0.N) (r : ℕ) (hr : r < 512) (q : Fin 1024) :
    (iblk m c 2 t : Vec Ideal S1x1x1024 .f32) (ix3 0 0 q) = rd (a := 2) (b := 1024) (aC m c) ((512 * t.val + r) / 4096) q := by
  have e : V m c main_v1 = broadcastInDim S2x1x1024 ![0, 2] bcast_S2x1024_S2x1x1024_0_2 (m ((c : Thread nD τ).loc main_arg2)) := by
    unfold V hostOps0
    after_results
  rw [show (512 * t.val + r) / 4096 = t.val / 8 by omega]
  blk_simp [iblk]
  show V m c main_v1 _ = _
  rw [e]
  pointwise
  exact rd_of (a := 2) (b := 1024) _ _ (by blk_simp [at_2]; exact Nat.add_zero _) (by blk_simp [at_2])

/-! ## The weights the kernel keeps -/

theorem canon_whole (w : S1024x5632.Idx → EReal) : View.canon (Val := Elt Ideal) (e := .bf16) [⟨Rect.whole S1024x5632, w⟩] = w := by
  funext j
  have e : (Rect.whole S1024x5632).emb j = j := funext fun a => Fin.ext (by simp)
  exact (congrArg _ e).symm.trans (View.canon_cons_emb (Val := Elt Ideal) (e := .bf16) (Rect.whole S1024x5632) w [] j)

/-- After every point the scratch holds the weights. -/
theorem kept (n : ℕ) (hn : n < cfg0.N) : (outsAt0 m c n hn).2.2.2.2 = aW m c := by
  have hA : ∀ t : Fin cfg0.N, t.val % 16 = 0 → (outsAt0 m c t.val t.isLt).2.2.2.2 = aW m c := fun t h => by
    rw [outsAt0_A m c t h]
    frame_out
    exact (canon_whole _).trans (V_main_arg3 m c)
  induction n with
  | zero => exact hA ⟨0, hn⟩ rfl
  | succ n ih =>
    by_cases h : (n + 1) % 16 = 0
    · exact hA ⟨n + 1, hn⟩ h
    · rw [outsAt0_B m c ⟨n + 1, hn⟩ h]
      unfold sout0_B_0
      simp only [Nat.add_sub_cancel]
      exact ih _

/-- A tile of the weights read at the point that has just fetched them. -/
theorem fresh (o : ℕ) (inb : ∀ a, (![0, o] : Fin 2 → ℕ) a + (![1024, 1408] : Fin 2 → ℕ) a ≤ S1024x5632.size a) (k : Fin 1024) (q : Fin 1408) :
    (View.whole cc0_scratch0).readCov
      [⟨Rect.whole S1024x5632, ReadAs.same.apply (View.read (Elt Ideal) (View.whole main_arg3) (V m c main_arg3))⟩]
      (Rect.unit (s := S1024x5632) ![0, o] ![1024, 1408] inb).toLoadRect (ix2 k q) = rd (a := 1024) (b := 5632) (aW m c) k (o + q) := by
  rw [View.readCov_eq_canon']
  refine (congrFun ((canon_whole _).trans (V_main_arg3 m c)) _).trans ?_
  refine (ld_rd (a := 1024) (b := 5632) (aW m c) 0 o inb (ix2 k q)).trans ?_
  show rd _ (0 + k.val) (o + q.val) = _
  rw [Nat.zero_add]

/-- A tile of the weights read at a later point. -/
theorem later (n : ℕ) (hn : n < cfg0.N) (hw : (Memref.whole cc0_scratch0).IsWhole) (o : ℕ)
    (inb : ∀ a, (![0, o] : Fin 2 → ℕ) a + (![1024, 1408] : Fin 2 → ℕ) a ≤ S1024x5632.size a) (k : Fin 1024) (q : Fin 1408) :
    View.ld (View.read (Elt Ideal) (View.whole cc0_scratch0) (hw.unread (outsAt0 m c n hn).2.2.2.2))
      (Rect.unit (s := S1024x5632) ![0, o] ![1024, 1408] inb) (ix2 k q) = rd (a := 1024) (b := 5632) (aW m c) k (o + q) := by
  rw [kept m c n hn]
  refine (congrFun (read_unread_whole cc0_scratch0 hw (m ((c : Thread nD τ).loc main_arg3))) _).trans ?_
  refine (ld_rd (a := 1024) (b := 5632) (aW m c) 0 o inb (ix2 k q)).trans ?_
  show rd _ (0 + k.val) (o + q.val) = _
  rw [Nat.zero_add]

/-! ## A tile of 512 rows -/

theorem mod_blk (t : Fin cfg0.N) (p : Fin 512) (q : Fin 1024) :
    k0_pay6 (iblk m c 0 t) (iblk m c 1 t) (iblk m c 2 t) (ix2 p q) = h (aX m c) (aS m c) (aC m c) (512 * t.val + p) q :=
  pay6 _ _ _ _ _ _ p _ (blk_0 m c t p) (blk_1 m c t p p.isLt) (blk_2 m c t p p.isLt) q

/-- What a point leaves of the modulated rows. -/
theorem tile_3 (t : Fin cfg0.N) (p : Fin 512) (q : Fin 1024) :
    ((dats m 0 c).after 3 t : Vec Ideal S512x1024 .bf16) (ix2 p q) = h (aX m c) (aS m c) (aC m c) (512 * t.val + p) q := by
  rw [after0_3]
  by_cases h0 : t.val % 16 = 0
  · rw [outsAt0_A m c t h0]
    frame_out
    exact mod_blk m c t p q
  · rw [outsAt0_B m c t h0]
    frame_out
    exact mod_blk m c t p q

/-- A tile of the product. -/
theorem prod (t : Fin cfg0.N) (w : Vec Ideal S1024x1408 .bf16) (o : ℕ) (hw : ∀ (k : Fin 1024) (q : Fin 1408), w (ix2 k q) = rd (a := 1024) (b := 5632) (aW m c) k (o + q))
    (x : S512x1408.Idx) (R Q : ℕ) (hR : R = (x 0).val) (hQ : Q = o + (x 1).val) :
    k0_pay1 (k0_pay6 (iblk m c 0 t) (iblk m c 1 t) (iblk m c 2 t)) w x = z (aX m c) (aS m c) (aC m c) (aW m c) (512 * t.val + R) Q := by
  subst hR hQ
  rw [show x = ix2 (x 0) (x 1) from eq_ix2 x]
  exact pay1 _ _ _ _ _ _ _ _ _ _ (mod_blk m c t (x 0)) (fun k => hw k (x 1))

/-- A tile of the gated value. -/
theorem gated (t : Fin cfg0.N) (w w' : Vec Ideal S1024x1408 .bf16) (o : ℕ) (hw : ∀ (k : Fin 1024) (q : Fin 1408), w (ix2 k q) = rd (a := 1024) (b := 5632) (aW m c) k (o + q))
    (hw' : ∀ (k : Fin 1024) (q : Fin 1408), w' (ix2 k q) = rd (a := 1024) (b := 5632) (aW m c) k (2816 + o + q))
    (x : S512x1408.Idx) (R Q : ℕ) (hR : R = (x 0).val) (hQ : Q = o + (x 1).val) :
    k0_pay5 (k0_pay6 (iblk m c 0 t) (iblk m c 1 t) (iblk m c 2 t)) w w' x = act (aX m c) (aS m c) (aC m c) (aW m c) (512 * t.val + R) Q := by
  subst hR hQ
  rw [show x = ix2 (x 0) (x 1) from eq_ix2 x]
  exact pay5 _ _ _ _ _ _ _ _ _ _ _ (mod_blk m c t (x 0)) (fun k => hw k (x 1)) (fun k => hw' k (x 1))

/-- What a point leaves of the gate. -/
theorem tile_4 (t : Fin cfg0.N) (p : Fin 512) (q : Fin 2816) :
    ((dats m 0 c).after 4 t : Vec Ideal S512x2816 .bf16) (ix2 p q) = z (aX m c) (aS m c) (aC m c) (aW m c) (512 * t.val + p) q := by
  rw [after0_4]
  by_cases h0 : t.val % 16 = 0
  · rw [outsAt0_A m c t h0]
    frame_out
    canon_tiles x hx
    · have e1 : q.val = 1408 + (x 1).val := hx1
      exact prod m c t _ 1408 (fresh m c 1408 _) x _ _ hx0 (by omega)
    · have e1 : q.val = (x 1).val := hx1
      exact prod m c t _ 0 (fresh m c 0 _) x _ _ hx0 (by omega)
  · rw [outsAt0_B m c t h0]
    frame_out
    canon_tiles x hx
    · have e1 : q.val = 1408 + (x 1).val := hx1
      exact prod m c t _ 1408 (later m c _ _ _ 1408 _) x _ _ hx0 (by omega)
    · have e1 : q.val = (x 1).val := hx1
      exact prod m c t _ 0 (later m c _ _ _ 0 _) x _ _ hx0 (by omega)

/-- What a point leaves of the value. -/
theorem tile_5 (t : Fin cfg0.N) (p : Fin 512) (q : Fin 2816) :
    ((dats m 0 c).after 5 t : Vec Ideal S512x2816 .bf16) (ix2 p q) = z (aX m c) (aS m c) (aC m c) (aW m c) (512 * t.val + p) (2816 + q) := by
  rw [after0_5]
  by_cases h0 : t.val % 16 = 0
  · rw [outsAt0_A m c t h0]
    frame_out
    canon_tiles x hx
    · have e1 : q.val = 1408 + (x 1).val := hx1
      exact prod m c t _ 4224 (fresh m c 4224 _) x _ _ hx0 (by omega)
    · have e1 : q.val = (x 1).val := hx1
      exact prod m c t _ 2816 (fresh m c 2816 _) x _ _ hx0 (by omega)
  · rw [outsAt0_B m c t h0]
    frame_out
    canon_tiles x hx
    · have e1 : q.val = 1408 + (x 1).val := hx1
      exact prod m c t _ 4224 (later m c _ _ _ 4224 _) x _ _ hx0 (by omega)
    · have e1 : q.val = (x 1).val := hx1
      exact prod m c t _ 2816 (later m c _ _ _ 2816 _) x _ _ hx0 (by omega)

/-- What a point leaves of the gated value. -/
theorem tile_6 (t : Fin cfg0.N) (p : Fin 512) (q : Fin 2816) :
    ((dats m 0 c).after 6 t : Vec Ideal S512x2816 .bf16) (ix2 p q) = act (aX m c) (aS m c) (aC m c) (aW m c) (512 * t.val + p) q := by
  rw [after0_6]
  by_cases h0 : t.val % 16 = 0
  · rw [outsAt0_A m c t h0]
    frame_out
    canon_tiles x hx
    · have e1 : q.val = 1408 + (x 1).val := hx1
      exact gated m c t _ _ 1408 (fresh m c 1408 _) (fresh m c 4224 _) x _ _ hx0 (by omega)
    · have e1 : q.val = (x 1).val := hx1
      exact gated m c t _ _ 0 (fresh m c 0 _) (fresh m c 2816 _) x _ _ hx0 (by omega)
  · rw [outsAt0_B m c t h0]
    frame_out
    canon_tiles x hx
    · have e1 : q.val = 1408 + (x 1).val := hx1
      exact gated m c t _ _ 1408 (later m c _ _ _ 1408 _) (later m c _ _ _ 4224 _) x _ _ hx0 (by omega)
    · have e1 : q.val = (x 1).val := hx1
      exact gated m c t _ _ 0 (later m c _ _ _ 0 _) (later m c _ _ _ 2816 _) x _ _ hx0 (by omega)

/-- What the kernel leaves: the modulated rows. -/
theorem final_3 : (dats m 0 c).arrAt 3 cfg0.N = fun j : S8192x1024.Idx => h (aX m c) (aS m c) (aC m c) (j 0).val ((j 1).val) := by
  refine (dats m 0 c).arrAt_eq_of_covers 3 _ (by decide +kernel) fun t hf y => ?_
  blk_simp [at_3]
  obtain ⟨p, q, rfl⟩ : ∃ (p : Fin 512) (q : Fin 1024), y = ix2 p q := ⟨y 0, y 1, eq_ix2 y⟩
  refine (tile_3 m c t p q).trans ?_
  show h _ _ _ _ (q.val) = h _ _ _ (t.val * 512 + p.val) _
  rw [Nat.mul_comm]
  simp

/-- What the kernel leaves: the gate. -/
theorem final_4 : (dats m 0 c).arrAt 4 cfg0.N = fun j : S8192x2816.Idx => z (aX m c) (aS m c) (aC m c) (aW m c) (j 0).val ((j 1).val) := by
  refine (dats m 0 c).arrAt_eq_of_covers 4 _ (by decide +kernel) fun t hf y => ?_
  blk_simp [at_4]
  obtain ⟨p, q, rfl⟩ : ∃ (p : Fin 512) (q : Fin 2816), y = ix2 p q := ⟨y 0, y 1, eq_ix2 y⟩
  refine (tile_4 m c t p q).trans ?_
  show z _ _ _ _ _ (q.val) = z _ _ _ _ (t.val * 512 + p.val) _
  rw [Nat.mul_comm]
  simp

/-- What the kernel leaves: the value. -/
theorem final_5 : (dats m 0 c).arrAt 5 cfg0.N = fun j : S8192x2816.Idx => z (aX m c) (aS m c) (aC m c) (aW m c) (j 0).val (2816 + (j 1).val) := by
  refine (dats m 0 c).arrAt_eq_of_covers 5 _ (by decide +kernel) fun t hf y => ?_
  blk_simp [at_5]
  obtain ⟨p, q, rfl⟩ : ∃ (p : Fin 512) (q : Fin 2816), y = ix2 p q := ⟨y 0, y 1, eq_ix2 y⟩
  refine (tile_5 m c t p q).trans ?_
  show z _ _ _ _ _ (2816 + q.val) = z _ _ _ _ (t.val * 512 + p.val) _
  rw [Nat.mul_comm]
  simp

/-- What the kernel leaves: the gated value. -/
theorem final_6 : (dats m 0 c).arrAt 6 cfg0.N = fun j : S8192x2816.Idx => act (aX m c) (aS m c) (aC m c) (aW m c) (j 0).val ((j 1).val) := by
  refine (dats m 0 c).arrAt_eq_of_covers 6 _ (by decide +kernel) fun t hf y => ?_
  blk_simp [at_6]
  obtain ⟨p, q, rfl⟩ : ∃ (p : Fin 512) (q : Fin 2816), y = ix2 p q := ⟨y 0, y 1, eq_ix2 y⟩
  refine (tile_6 m c t p q).trans ?_
  show act _ _ _ _ _ (q.val) = act _ _ _ _ (t.val * 512 + p.val) _
  rw [Nat.mul_comm]
  simp

/-! ## The reference -/

section Ref
open Cert.ReferenceFfnUpIdeal.Read

variable (X : S8192x1024.Idx → EReal) (S C : S2x1024.Idx → EReal) (W : S1024x5632.Idx → EReal)

theorem one_word : (FloatOps.ofBits (F := Ideal) .f32 0x3F800000#32 : EReal) = 1 := by pointwise

theorem ref_h (s : Fin 2) (p : Fin 4096) (q : Fin 1024) : val_main_v8 (F := Ideal) X S C (ix3 s p q) = h X S C (4096 * s + p) q := by
  rw [val_main_v8_apply, val_main_v5_apply, val_main_v0_apply, val_main_v4_apply, val_main_v3_apply, val_main_v2_apply, val_main_cst_apply, val_main_v1_apply,
    val_main_v7_apply, val_main_v6_apply, one_word]
  have h1 : X (idx_main_v0 (ix3 s p q)) = rd (a := 8192) (b := 1024) X (4096 * s + p) q :=
    rd_of (a := 8192) (b := 1024) X _ (show ((s.val * 4096 + p.val) * 1024 + q.val) / 1024 = 4096 * s.val + p.val by omega)
      (show ((s.val * 4096 + p.val) * 1024 + q.val) % 1024 = q.val by omega)
  have h2 : C (idx_main_v1 (idx_main_v4 (ix3 s p q))) = rd (a := 2) (b := 1024) C ((4096 * s + p) / 4096) q :=
    rd_of (a := 2) (b := 1024) C _ (show s.val = (4096 * s.val + p.val) / 4096 by omega) rfl
  have h3 : S (idx_main_v6 (idx_main_v7 (ix3 s p q))) = rd (a := 2) (b := 1024) S ((4096 * s + p) / 4096) q :=
    rd_of (a := 2) (b := 1024) S _ (show s.val = (4096 * s.val + p.val) / 4096 by omega) rfl
  rw [h1, h2, h3, h]
  rfl

theorem ref_z (s : Fin 2) (p : Fin 4096) (q : Fin 5632) : val_main_v10 (F := Ideal) X S C W (ix3 s p q) = z X S C W (4096 * s + p) q := by
  rw [val_main_v10_apply, z]
  refine Finset.sum_congr rfl fun k _ => ?_
  refine congrArg₂ HMul.hMul ?_ ?_
  · exact (congrArg (val_main_v8 (F := Ideal) X S C) (eq_ix3 _)).trans (ref_h X S C s p k)
  · exact rd_of (a := 1024) (b := 5632) W _ rfl rfl

theorem ref_gate (s : Fin 2) (p : Fin 4096) (q : Fin 2816) : val_main_v11 (F := Ideal) X S C W (ix3 s p q) = z X S C W (4096 * s + p) q := by
  rw [val_main_v11_apply]
  refine Eq.trans (congrArg (val_main_v10 (F := Ideal) X S C W) (eq_ix3 _)) ((ref_z X S C W s p ⟨q.val, by omega⟩))

theorem ref_up (s : Fin 2) (p : Fin 4096) (q : Fin 2816) : val_main_v12 (F := Ideal) X S C W (ix3 s p q) = z X S C W (4096 * s + p) (2816 + q) := by
  rw [val_main_v12_apply]
  refine Eq.trans (congrArg (val_main_v10 (F := Ideal) X S C W) (eq_ix3 _)) ((ref_z X S C W s p ⟨2816 + q.val, by omega⟩))

theorem ref_act (s : Fin 2) (p : Fin 4096) (q : Fin 2816) : val_main_v14 (F := Ideal) X S C W (ix3 s p q) = act X S C W (4096 * s + p) q := by
  rw [val_main_v14_apply, val_main_v13_apply, val_main_call0_v5_apply, val_main_call0_v4_apply, val_main_call0_v3_apply, val_main_call0_v2_apply, val_main_call0_v1_apply,
    val_main_call0_v0_apply, val_main_call0_cst_apply, val_main_call0_cst_0_apply, one_word, ref_gate, ref_up]
  rfl

end Ref

variable {X : S8192x1024.Idx → EReal} {S C : S2x1024.Idx → EReal} {W : S1024x5632.Idx → EReal}

open Cert.ReferenceFfnUpIdeal.Read in
/-- The kernel leaves the reference's modulated rows. -/
theorem out0 (h0 : m ((c : Thread nD τ).loc main_arg0) = X) (h1 : m ((c : Thread nD τ).loc main_arg1) = S) (h2 : m ((c : Thread nD τ).loc main_arg2) = C) :
    (dats m 0 c).arrAt 3 cfg0.N = val_main_v16 (F := Ideal) X S C := by
  subst h0 h1 h2
  rw [final_3]
  funext j
  have hr : (j 0).val < 8192 := (j 0).isLt
  have hq : (j 1).val < 1024 := (j 1).isLt
  have e : idx_main_v15 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v16_apply, val_main_v15_apply, e]
  refine Eq.trans ?_ (ref_h _ _ _ _ _ _).symm
  show h _ _ _ (j 0).val _ = h _ _ _ (4096 * ((j 0).val / 4096) + (j 0).val % 4096) _
  rw [Nat.div_add_mod]

open Cert.ReferenceFfnUpIdeal.Read in
/-- The reference's gate by row. -/
theorem rows_gate (X : S8192x1024.Idx → EReal) (S C : S2x1024.Idx → EReal) (W : S1024x5632.Idx → EReal) :
    val_main_v18 (F := Ideal) X S C W = fun j : S8192x2816.Idx => z X S C W (j 0).val (j 1).val := by
  funext j
  have hr : (j 0).val < 8192 := (j 0).isLt
  have hq : (j 1).val < 2816 := (j 1).isLt
  have e : idx_main_v17 j = ix3 (n0 := 2) (n1 := 4096) (n2 := 2816) ⟨(j 0).val / 4096, by omega⟩ ⟨(j 0).val % 4096, by omega⟩ (j 1) := by
    funext a
    match a with
    | ⟨0, _⟩ => exact Fin.ext (show ((j 0).val * 2816 + (j 1).val) / 11534336 = (j 0).val / 4096 by omega)
    | ⟨1, _⟩ => exact Fin.ext (show ((j 0).val * 2816 + (j 1).val) / 2816 % 4096 = (j 0).val % 4096 by omega)
    | ⟨2, _⟩ => exact Fin.ext (show ((j 0).val * 2816 + (j 1).val) % 2816 = (j 1).val by omega)
  rw [val_main_v18_apply, val_main_v17_apply, e]
  refine (ref_gate _ _ _ _ _ _ _).trans ?_
  show z _ _ _ _ (4096 * ((j 0).val / 4096) + (j 0).val % 4096) _ = z _ _ _ _ (j 0).val _
  rw [Nat.div_add_mod]

open Cert.ReferenceFfnUpIdeal.Read in
/-- The kernel leaves the reference's gate. -/
theorem out1 (h0 : m ((c : Thread nD τ).loc main_arg0) = X) (h1 : m ((c : Thread nD τ).loc main_arg1) = S) (h2 : m ((c : Thread nD τ).loc main_arg2) = C) (h3 : m ((c : Thread nD τ).loc main_arg3) = W) :
    (dats m 0 c).arrAt 4 cfg0.N = val_main_v18 (F := Ideal) X S C W := by
  subst h0 h1 h2 h3
  rw [final_4, rows_gate]

open Cert.ReferenceFfnUpIdeal.Read in
/-- The reference's value by row. -/
theorem rows_value (X : S8192x1024.Idx → EReal) (S C : S2x1024.Idx → EReal) (W : S1024x5632.Idx → EReal) :
    val_main_v20 (F := Ideal) X S C W = fun j : S8192x2816.Idx => z X S C W (j 0).val (2816 + (j 1).val) := by
  funext j
  have hr : (j 0).val < 8192 := (j 0).isLt
  have hq : (j 1).val < 2816 := (j 1).isLt
  have e : idx_main_v19 j = ix3 (n0 := 2) (n1 := 4096) (n2 := 2816) ⟨(j 0).val / 4096, by omega⟩ ⟨(j 0).val % 4096, by omega⟩ (j 1) := by
    funext a
    match a with
    | ⟨0, _⟩ => exact Fin.ext (show ((j 0).val * 2816 + (j 1).val) / 11534336 = (j 0).val / 4096 by omega)
    | ⟨1, _⟩ => exact Fin.ext (show ((j 0).val * 2816 + (j 1).val) / 2816 % 4096 = (j 0).val % 4096 by omega)
    | ⟨2, _⟩ => exact Fin.ext (show ((j 0).val * 2816 + (j 1).val) % 2816 = (j 1).val by omega)
  rw [val_main_v20_apply, val_main_v19_apply, e]
  refine (ref_up _ _ _ _ _ _ _).trans ?_
  show z _ _ _ _ (4096 * ((j 0).val / 4096) + (j 0).val % 4096) _ = z _ _ _ _ (j 0).val _
  rw [Nat.div_add_mod]

open Cert.ReferenceFfnUpIdeal.Read in
/-- The kernel leaves the reference's value. -/
theorem out2 (h0 : m ((c : Thread nD τ).loc main_arg0) = X) (h1 : m ((c : Thread nD τ).loc main_arg1) = S) (h2 : m ((c : Thread nD τ).loc main_arg2) = C) (h3 : m ((c : Thread nD τ).loc main_arg3) = W) :
    (dats m 0 c).arrAt 5 cfg0.N = val_main_v20 (F := Ideal) X S C W := by
  subst h0 h1 h2 h3
  rw [final_5, rows_value]

open Cert.ReferenceFfnUpIdeal.Read in
/-- The kernel leaves the reference's gated value. -/
theorem out3 (h0 : m ((c : Thread nD τ).loc main_arg0) = X) (h1 : m ((c : Thread nD τ).loc main_arg1) = S) (h2 : m ((c : Thread nD τ).loc main_arg2) = C) (h3 : m ((c : Thread nD τ).loc main_arg3) = W) :
    (dats m 0 c).arrAt 6 cfg0.N = val_main_v22 (F := Ideal) X S C W := by
  subst h0 h1 h2 h3
  rw [final_6]
  funext j
  have hr : (j 0).val < 8192 := (j 0).isLt
  have hq : (j 1).val < 2816 := (j 1).isLt
  have e : idx_main_v21 j = ix3 (n0 := 2) (n1 := 4096) (n2 := 2816) ⟨(j 0).val / 4096, by omega⟩ ⟨(j 0).val % 4096, by omega⟩ (j 1) := by
    funext a
    match a with
    | ⟨0, _⟩ => exact Fin.ext (show ((j 0).val * 2816 + (j 1).val) / 11534336 = (j 0).val / 4096 by omega)
    | ⟨1, _⟩ => exact Fin.ext (show ((j 0).val * 2816 + (j 1).val) / 2816 % 4096 = (j 0).val % 4096 by omega)
    | ⟨2, _⟩ => exact Fin.ext (show ((j 0).val * 2816 + (j 1).val) % 2816 = (j 1).val by omega)
  rw [val_main_v22_apply, val_main_v21_apply, e]
  refine Eq.trans ?_ (ref_act _ _ _ _ _ _ _).symm
  show act _ _ _ _ (j 0).val _ = act _ _ _ _ (4096 * ((j 0).val / 4096) + (j 0).val % 4096) _
  rw [Nat.div_add_mod]

/-- The kernel and the reference leave the same. -/
theorem value : Cert.algebraic_FfnUpIdeal_ReferenceFfnUpIdeal := by
  intro m g m' g' _ he
  refine ⟨fun c => (dats m 0 c).arrAt 3 cfg0.N, fun c => (dats m 0 c).arrAt 4 cfg0.N, fun c => (dats m 0 c).arrAt 5 cfg0.N, fun c => (dats m 0 c).arrAt 6 cfg0.N, ?_, ?_⟩
  · exact (θ_run defs _ _).mono (fun r h c => ⟨(h c).1 3, (h c).1 4, (h c).1 5, (h c).1 6,
      ((h c).1 0).trans (((dats m 0 c).arrAt_in 0 rfl _).trans ((rfl).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main (F := Ideal) m g)
  · refine (θ_run Cert.ReferenceFfnUpIdeal.defs _ _).mono (fun r h c => ?_) (Cert.ReferenceFfnUpIdeal.Value.run (F := Ideal) m' g')
    obtain ⟨h0, h1, h2, h3, ha⟩ := h c
    obtain ⟨e0, e1, e2, e3⟩ := he c
    exact ⟨h0.trans ((Cert.ReferenceFfnUpIdeal.Read.val_main_v16_eq _ _ _).trans (Cert.FfnUpV.out0 m c e0.symm e1.symm e2.symm).symm),
      h1.trans ((Cert.ReferenceFfnUpIdeal.Read.val_main_v18_eq _ _ _ _).trans (Cert.FfnUpV.out1 m c e0.symm e1.symm e2.symm e3.symm).symm),
      h2.trans ((Cert.ReferenceFfnUpIdeal.Read.val_main_v20_eq _ _ _ _).trans (Cert.FfnUpV.out2 m c e0.symm e1.symm e2.symm e3.symm).symm),
      h3.trans ((Cert.ReferenceFfnUpIdeal.Read.val_main_v22_eq _ _ _ _).trans (Cert.FfnUpV.out3 m c e0.symm e1.symm e2.symm e3.symm).symm), ha⟩

end Cert.FfnUpV
-- ==== Proof.FfnDownValue.lean ====
/-  The feed-forward output product with its residual and layer norm: what the kernel leaves, and that the reference leaves it.  -/
module
public import proofs.«01_k».proof.Defs
public import proofs.«01_k».proof.Proof.Gen.FfnDownIdeal.Frame
public import proofs.«01_k».proof.Proof.Gen.ReferenceFfnDownIdeal.Read
public import proofs.«01_k».proof.Proof.Taps
public import Idealize.ShloMosaic.Lib.Pointwise
public import Idealize.ShloMosaic.Lib.Pipeline.ReadBack
public import Idealize.ShloMosaic.Lib.Pipeline.ValueKit
@[expose] public section
noncomputable section
namespace Cert.FfnDownV
open Idealize.ShloMosaic Idealize.ShloMosaic.TcCoe Idealize.ShloMosaic.StableHlo Idealize.ShloMosaic.Tactic Cert.FfnDownIdeal Cert.FfnDownIdeal.Gen Cert.Conf

/-! ## The mathematics, by row -/

section Rows
variable (A : S8192x2816.Idx → EReal) (W : S2816x1024.Idx → EReal) (X : S8192x1024.Idx → EReal) (G : S2x1024.Idx → EReal) (L B : S1024.Idx → EReal)

/-- The product. -/
def y (r q : ℕ) : EReal := ∑ k ∈ Finset.range 2816, rd (a := 8192) (b := 2816) A r k * rd (a := 2816) (b := 1024) W k q

/-- The residual with the gated product added. -/
def v (r q : ℕ) : EReal :=
  Ideal.ofBits .f32 0x3FD744FD#32 * rd (a := 8192) (b := 1024) X r q + Ideal.ofBits .f32 0x3F000000#32 * (1 + rd (a := 2) (b := 1024) G (r / 4096) q) * y A W r q

/-- A row less its mean. -/
def d (r q : ℕ) : EReal := v A W X G r q - Ideal.div (∑ x : Fin 1024, v A W X G r x) (Ideal.ofBits .f32 0x44800000#32)

/-- One over a row's deviation. -/
def rs (r : ℕ) : EReal :=
  Ideal.rsqrt (Ideal.div (∑ x : Fin 1024, d A W X G r x * d A W X G r x) (Ideal.ofBits .f32 0x44800000#32) + Ideal.ofBits .f32 0x3727C5AC#32)

/-- The row normed. -/
def xn (r : ℕ) (q : Fin 1024) : EReal := d A W X G r q * rs A W X G r * L (ix1 q) + B (ix1 q)

/-! ## The stored values -/

theorem pay2 (x0 : Vec Ideal S256x2816 .bf16) (x1 : Vec Ideal S2816x1024 .bf16) (p : Fin 256) (q : Fin 1024) :
    k0_pay2 x0 x1 (ix2 p q) = ∑ r ∈ Finset.range 2816, rd (a := 256) (b := 2816) x0 p r * rd (a := 2816) (b := 1024) x1 r q := by
  unfold k0_pay2
  pointwise
  rw [Finset.sum_range]
  simp only [rd_val]

variable (x0 : Vec Ideal S256x2816 .bf16) (x1 : Vec Ideal S2816x1024 .bf16) (x4 : Vec Ideal S256x1024 .f32) (x5 : Vec Ideal S1x1x1024 .f32) (p : Fin 256) (r : ℕ)
  (hy : ∀ q : Fin 1024, k0_pay2 x0 x1 (ix2 p q) = y A W r q) (hx : ∀ q : Fin 1024, x4 (ix2 p q) = rd (a := 8192) (b := 1024) X r q)
  (hg : ∀ q : Fin 1024, x5 (ix3 0 0 q) = rd (a := 2) (b := 1024) G (r / 4096) q)

include hy hx hg in
theorem pay5 (q : Fin 1024) : k0_pay5 x0 x1 x4 x5 (ix2 p q) = d A W X G r q := by
  unfold k0_pay5
  pointwise
  simp only [hy, hx, hg]
  rfl

include hy hx hg in
theorem pay6 (q : Fin 1) : k0_pay6 x0 x1 x4 x5 (ix2 p q) = rs A W X G r := by
  unfold k0_pay6
  pointwise
  simp only [pay5 A W X G x0 x1 x4 x5 p r hy hx hg]
  rfl

include hy hx hg in
theorem pay7 (g b : Vec Ideal S1x1024 .f32) (hL : ∀ q : Fin 1024, g (ix2 0 q) = L (ix1 q)) (hB : ∀ q : Fin 1024, b (ix2 0 q) = B (ix1 q)) (q : Fin 1024) :
    k0_pay7 (k0_pay3 g) (k0_pay4 b) (k0_pay5 x0 x1 x4 x5) (k0_pay6 x0 x1 x4 x5) (ix2 p q) = xn A W X G L B r q := by
  unfold k0_pay7 k0_pay3 k0_pay4
  pointwise
  simp only [pay5 A W X G x0 x1 x4 x5 p r hy hx hg, pay6 A W X G x0 x1 x4 x5 p r hy hx hg, hL, hB]
  rfl

include hy hx hg in
theorem pay1 (g b : Vec Ideal S1x1024 .f32) (hL : ∀ q : Fin 1024, g (ix2 0 q) = L (ix1 q)) (hB : ∀ q : Fin 1024, b (ix2 0 q) = B (ix1 q)) (q : Fin 1024) :
    k0_pay1 (k0_pay9 g) (k0_pay10 b) (k0_pay11 x0 x1 x4 x5) (k0_pay12 x0 x1 x4 x5) (ix2 p q) = xn A W X G L B r q :=
  pay7 A W X G L B x0 x1 x4 x5 p r hy hx hg g b hL hB q

end Rows

variable (m : (ℓ : Loc nD τ sig) → Buf (Elt Ideal) ℓ) (c : Dev nD)

theorem at_0 : ∀ t : Fin cfg0.N, win0_0.index t = ![t.val, 0] := (by decide +kernel : ∀ t : Fin grid0.N, _)
theorem at_1 : ∀ t : Fin cfg0.N, win0_1.index t = ![0, 0] := (by decide +kernel : ∀ t : Fin grid0.N, _)
theorem at_2 : ∀ t : Fin cfg0.N, win0_2.index t = ![t.val, 0] := (by decide +kernel : ∀ t : Fin grid0.N, _)
theorem at_3 : ∀ t : Fin cfg0.N, win0_3.index t = ![t.val / 8, 0, 0] := (by decide +kernel : ∀ t : Fin grid0.N, _)
theorem at_4 : ∀ t : Fin cfg0.N, win0_4.index t = ![0, 0] := (by decide +kernel : ∀ t : Fin grid0.N, _)
theorem at_5 : ∀ t : Fin cfg0.N, win0_5.index t = ![0, 0] := (by decide +kernel : ∀ t : Fin grid0.N, _)
theorem at_6 : ∀ t : Fin cfg0.N, win0_6.index t = ![t.val, 0] := (by decide +kernel : ∀ t : Fin grid0.N, _)
theorem at_7 : ∀ t : Fin cfg0.N, win0_7.index t = ![t.val, 0] := (by decide +kernel : ∀ t : Fin grid0.N, _)

theorem blk_0 (t : Fin cfg0.N) {p q : ℕ} (hp : p < 512) (hq : q < 2816) :
    rd (a := 512) (b := 2816) (iblk m c 0 t) p q = rd (a := 8192) (b := 2816) (m ((c : Thread nD τ).loc main_arg0)) (512 * t.val + p) q := by
  rw [rd_lt (a := 512) (b := 2816) _ hp hq]
  blk_simp [iblk]
  rw [← V_main_arg0 m c]
  exact rd_of (a := 8192) (b := 2816) _ _ (by blk_simp [at_0]; show _ + p = _; omega) (by blk_simp [at_0])

theorem blk_1 (t : Fin cfg0.N) {p q : ℕ} (hp : p < 2816) (hq : q < 1024) :
    rd (a := 2816) (b := 1024) (iblk m c 1 t) p q = rd (a := 2816) (b := 1024) (m ((c : Thread nD τ).loc main_arg1)) p q := by
  rw [rd_lt (a := 2816) (b := 1024) _ hp hq]
  blk_simp [iblk]
  rw [← V_main_arg1 m c]
  exact rd_of (a := 2816) (b := 1024) _ _ (by blk_simp [at_1]) (by blk_simp [at_1])

theorem blk_2 (t : Fin cfg0.N) {p q : ℕ} (hp : p < 512) (hq : q < 1024) :
    rd (a := 512) (b := 1024) (iblk m c 2 t) p q = rd (a := 8192) (b := 1024) (m ((c : Thread nD τ).loc main_arg2)) (512 * t.val + p) q := by
  rw [rd_lt (a := 512) (b := 1024) _ hp hq]
  blk_simp [iblk]
  rw [← V_main_arg2 m c]
  exact rd_of (a := 8192) (b := 1024) _ _ (by blk_simp [at_2]; show _ + p = _; omega) (by blk_simp [at_2])

theorem blk_3 (t : Fin cfg0.N) (q : Fin 1024) :
    (iblk m c 3 t : Vec Ideal S1x1x1024 .f32) (ix3 0 0 q) = rd (a := 2) (b := 1024) (m ((c : Thread nD τ).loc main_arg3)) (t.val / 8) q := by
  have e : V m c main_v0 = broadcastInDim S2x1x1024 ![0, 2] bcast_S2x1024_S2x1x1024_0_2 (m ((c : Thread nD τ).loc main_arg3)) := by
    unfold V hostOps0
    after_results
  blk_simp [iblk]
  show V m c main_v0 _ = _
  rw [e]
  pointwise
  exact rd_of (a := 2) (b := 1024) _ _ (by blk_simp [at_3]; exact Nat.add_zero _) (by blk_simp [at_3])

theorem blk_4 (t : Fin cfg0.N) (q : Fin 1024) : (iblk m c 4 t : Vec Ideal S1x1024 .f32) (ix2 0 q) = (m ((c : Thread nD τ).loc main_arg4) : S1024.Idx → EReal) (ix1 q) := by
  have e : V m c main_v1 = broadcastInDim S1x1024 ![1] bcast_S1024_S1x1024_1 (m ((c : Thread nD τ).loc main_arg4)) := by
    unfold V hostOps0
    after_results
  blk_simp [iblk]
  show V m c main_v1 _ = _
  rw [e]
  pointwise
  exact congrArg (fun z => (m ((c : Thread nD τ).loc main_arg4) : S1024.Idx → EReal) (ix1 z)) (Fin.ext (by blk_simp [at_4]))

theorem blk_5 (t : Fin cfg0.N) (q : Fin 1024) : (iblk m c 5 t : Vec Ideal S1x1024 .f32) (ix2 0 q) = (m ((c : Thread nD τ).loc main_arg5) : S1024.Idx → EReal) (ix1 q) := by
  have e : V m c main_v2 = broadcastInDim S1x1024 ![1] bcast_S1024_S1x1024_1 (m ((c : Thread nD τ).loc main_arg5)) := by
    unfold V hostOps0
    after_results
  blk_simp [iblk]
  show V m c main_v2 _ = _
  rw [e]
  pointwise
  exact congrArg (fun z => (m ((c : Thread nD τ).loc main_arg5) : S1024.Idx → EReal) (ix1 z)) (Fin.ext (by blk_simp [at_5]))

/-! ## A tile of 512 rows -/

/-- The arguments. -/
abbrev aA : S8192x2816.Idx → EReal := m ((c : Thread nD τ).loc main_arg0)
abbrev aW : S2816x1024.Idx → EReal := m ((c : Thread nD τ).loc main_arg1)
abbrev aX : S8192x1024.Idx → EReal := m ((c : Thread nD τ).loc main_arg2)
abbrev aG : S2x1024.Idx → EReal := m ((c : Thread nD τ).loc main_arg3)
abbrev aL : S1024.Idx → EReal := m ((c : Thread nD τ).loc main_arg4)
abbrev aB : S1024.Idx → EReal := m ((c : Thread nD τ).loc main_arg5)

/-- The product of the lower rows of a tile. -/
theorem lo (t : Fin cfg0.N) (p : Fin 256) (q : Fin 1024) :
    k0_pay2 (View.ld (iblk m c 0 t) r0_0) (View.ld (iblk m c 1 t) r0_1) (ix2 p q) = y (aA m c) (aW m c) (512 * t.val + p) q := by
  rw [pay2]
  refine Finset.sum_congr rfl fun k hk => ?_
  have hk := Finset.mem_range.mp hk
  refine congrArg₂ HMul.hMul ?_ ?_
  · rw [rd_lt (a := 256) (b := 2816) _ p.isLt hk]
    refine (ld_rd (a := 512) (b := 2816) (iblk m c 0 t) 0 0 _ _).trans ?_
    refine (blk_0 m c t (by show 0 + p.val < 512; omega) (by show 0 + k < 2816; omega)).trans ?_
    show rd _ (512 * t.val + (0 + p.val)) (0 + k) = _
    rw [Nat.zero_add, Nat.zero_add]
  · rw [rd_lt (a := 2816) (b := 1024) _ hk q.isLt]
    refine (ld_rd (a := 2816) (b := 1024) (iblk m c 1 t) 0 0 _ _).trans ?_
    refine (blk_1 m c t (by show 0 + k < 2816; omega) (by show 0 + q.val < 1024; omega)).trans ?_
    show rd _ (0 + k) (0 + q.val) = _
    rw [Nat.zero_add, Nat.zero_add]

/-- The product of the upper rows of a tile. -/
theorem hi (t : Fin cfg0.N) (p : Fin 256) (q : Fin 1024) :
    k0_pay2 (View.ld (iblk m c 0 t) r0_5) (View.ld (iblk m c 1 t) r0_1) (ix2 p q) = y (aA m c) (aW m c) (512 * t.val + (256 + p)) q := by
  rw [pay2]
  refine Finset.sum_congr rfl fun k hk => ?_
  have hk := Finset.mem_range.mp hk
  refine congrArg₂ HMul.hMul ?_ ?_
  · rw [rd_lt (a := 256) (b := 2816) _ p.isLt hk]
    refine (ld_rd (a := 512) (b := 2816) (iblk m c 0 t) 256 0 _ _).trans ?_
    refine (blk_0 m c t (by show 256 + p.val < 512; omega) (by show 0 + k < 2816; omega)).trans ?_
    show rd _ (512 * t.val + (256 + p.val)) (0 + k) = _
    rw [Nat.zero_add]
  · rw [rd_lt (a := 2816) (b := 1024) _ hk q.isLt]
    refine (ld_rd (a := 2816) (b := 1024) (iblk m c 1 t) 0 0 _ _).trans ?_
    refine (blk_1 m c t (by show 0 + k < 2816; omega) (by show 0 + q.val < 1024; omega)).trans ?_
    show rd _ (0 + k) (0 + q.val) = _
    rw [Nat.zero_add, Nat.zero_add]

theorem xlo (t : Fin cfg0.N) (p : Fin 256) (q : Fin 1024) :
    View.ld (iblk m c 2 t) r0_2 (ix2 p q) = rd (a := 8192) (b := 1024) (aX m c) (512 * t.val + p) q := by
  refine (ld_rd (a := 512) (b := 1024) (iblk m c 2 t) 0 0 _ _).trans ?_
  refine (blk_2 m c t (by show 0 + p.val < 512; omega) (by show 0 + q.val < 1024; omega)).trans ?_
  show rd _ (512 * t.val + (0 + p.val)) (0 + q.val) = _
  rw [Nat.zero_add, Nat.zero_add]

theorem xhi (t : Fin cfg0.N) (p : Fin 256) (q : Fin 1024) :
    View.ld (iblk m c 2 t) r0_6 (ix2 p q) = rd (a := 8192) (b := 1024) (aX m c) (512 * t.val + (256 + p)) q := by
  refine (ld_rd (a := 512) (b := 1024) (iblk m c 2 t) 256 0 _ _).trans ?_
  refine (blk_2 m c t (by show 256 + p.val < 512; omega) (by show 0 + q.val < 1024; omega)).trans ?_
  show rd _ (512 * t.val + (256 + p.val)) (0 + q.val) = _
  rw [Nat.zero_add]

theorem gate (t : Fin cfg0.N) (r : ℕ) (hr : r < 512) (q : Fin 1024) :
    View.ld (iblk m c 3 t) r0_3 (ix3 0 0 q) = rd (a := 2) (b := 1024) (aG m c) ((512 * t.val + r) / 4096) q := by
  rw [show (512 * t.val + r) / 4096 = t.val / 8 by omega, ← blk_3 m c t q]
  exact congrArg (iblk m c 3 t) (funext fun a => Fin.ext ((Rect.idx_unit_val (s := S1x1x1024) _ _ _ _ a).trans (by fin_cases a <;> simp)))

theorem scale (t : Fin cfg0.N) (q : Fin 1024) : View.ld (iblk m c 4 t) r0_4 (ix2 0 q) = aL m c (ix1 q) := by
  refine Eq.trans ?_ (blk_4 m c t q)
  exact congrArg (iblk m c 4 t) (funext fun a => Fin.ext ((Rect.idx_unit_val (s := S1x1024) _ _ _ _ a).trans (by fin_cases a <;> simp)))

theorem bias (t : Fin cfg0.N) (q : Fin 1024) : View.ld (iblk m c 5 t) r0_4 (ix2 0 q) = aB m c (ix1 q) := by
  refine Eq.trans ?_ (blk_5 m c t q)
  exact congrArg (iblk m c 5 t) (funext fun a => Fin.ext ((Rect.idx_unit_val (s := S1x1024) _ _ _ _ a).trans (by fin_cases a <;> simp)))

/-- What a point leaves of the normed rows. -/
theorem tile_6 (t : Fin cfg0.N) (p : Fin 512) (q : Fin 1024) :
    ((dats m 0 c).after 6 t : Vec Ideal S512x1024 .f32) (ix2 p q) = xn (aA m c) (aW m c) (aX m c) (aG m c) (aL m c) (aB m c) (512 * t.val + p) q := by
  rw [after0_6]
  unfold out0_6
  canon_tiles x hx
  · rw [show x = ix2 (x 0) (x 1) from eq_ix2 x]
    refine (pay1 _ _ _ _ _ _ _ _ _ _ _ (512 * t.val + (256 + (x 0).val)) (hi m c t _) (xhi m c t _) (gate m c t _ (by omega)) _ _ (scale m c t) (bias m c t) _).trans ?_
    have e0 : p.val = 256 + (x 0).val := hx0
    rw [← e0]
    exact congrArg _ (Fin.ext hx1.symm)
  · rw [show x = ix2 (x 0) (x 1) from eq_ix2 x]
    refine (pay7 _ _ _ _ _ _ _ _ _ _ _ (512 * t.val + (x 0).val) (lo m c t _) (xlo m c t _) (gate m c t _ (by omega)) _ _ (scale m c t) (bias m c t) _).trans ?_
    have e0 : p.val = (x 0).val := hx0
    rw [← e0]
    exact congrArg _ (Fin.ext hx1.symm)

/-- What a point leaves of the product. -/
theorem tile_7 (t : Fin cfg0.N) (p : Fin 512) (q : Fin 1024) :
    ((dats m 0 c).after 7 t : Vec Ideal S512x1024 .f32) (ix2 p q) = y (aA m c) (aW m c) (512 * t.val + p) q := by
  rw [after0_7]
  unfold out0_7
  canon_tiles x hx
  · rw [show x = ix2 (x 0) (x 1) from eq_ix2 x]
    refine (hi m c t _ _).trans ?_
    have e0 : p.val = 256 + (x 0).val := hx0
    have e1 : q.val = (x 1).val := hx1
    rw [← e0, ← e1]
  · rw [show x = ix2 (x 0) (x 1) from eq_ix2 x]
    refine (lo m c t _ _).trans ?_
    have e0 : p.val = (x 0).val := hx0
    have e1 : q.val = (x 1).val := hx1
    rw [← e0, ← e1]

/-- What the kernel leaves: the normed rows. -/
theorem final_6 : (dats m 0 c).arrAt 6 cfg0.N = fun j : S8192x1024.Idx => xn (aA m c) (aW m c) (aX m c) (aG m c) (aL m c) (aB m c) (j 0).val (j 1) := by
  refine (dats m 0 c).arrAt_eq_of_covers 6 _ (by decide +kernel) fun t hf y => ?_
  blk_simp [at_6]
  obtain ⟨p, q, rfl⟩ : ∃ (p : Fin 512) (q : Fin 1024), y = ix2 p q := ⟨y 0, y 1, eq_ix2 y⟩
  refine (tile_6 m c t p q).trans ?_
  show xn _ _ _ _ _ _ _ q = xn _ _ _ _ _ _ (t.val * 512 + p.val) _
  rw [Nat.mul_comm]
  exact congrArg _ (Fin.ext (by blk_simp [at_6]))

/-- What the kernel leaves: the product. -/
theorem final_7 : (dats m 0 c).arrAt 7 cfg0.N = fun j : S8192x1024.Idx => y (aA m c) (aW m c) (j 0).val (j 1).val := by
  refine (dats m 0 c).arrAt_eq_of_covers 7 _ (by decide +kernel) fun t hf z => ?_
  blk_simp [at_7]
  obtain ⟨p, q, rfl⟩ : ∃ (p : Fin 512) (q : Fin 1024), z = ix2 p q := ⟨z 0, z 1, eq_ix2 z⟩
  refine (tile_7 m c t p q).trans ?_
  show y _ _ _ q.val = y _ _ (t.val * 512 + p.val) _
  rw [Nat.mul_comm]
  simp

/-! ## The reference -/

section Ref
open Cert.ReferenceFfnDownIdeal.Read

variable (A : S8192x2816.Idx → EReal) (W : S2816x1024.Idx → EReal) (X : S8192x1024.Idx → EReal) (G : S2x1024.Idx → EReal) (L B : S1024.Idx → EReal)

theorem ref_y (s : Fin 2) (p : Fin 4096) (q : Fin 1024) : val_main_v3 (F := Ideal) A W (ix3 s p q) = y A W (4096 * s + p) q := by
  rw [val_main_v3_apply, y, Finset.sum_range]
  refine Finset.sum_congr rfl fun k _ => ?_
  rw [val_main_v1_apply]
  refine congrArg₂ HMul.hMul ?_ ?_
  · exact rd_of (a := 8192) (b := 2816) A _ (show ((s.val * 4096 + p.val) * 2816 + k.val) / 2816 = 4096 * s.val + p.val by omega)
      (show ((s.val * 4096 + p.val) * 2816 + k.val) % 2816 = k.val by omega)
  · exact rd_of (a := 2816) (b := 1024) W _ rfl rfl

theorem ref_v (s : Fin 2) (p : Fin 4096) (q : Fin 1024) : val_main_v14 (F := Ideal) A W X G (ix3 s p q) = v A W X G (4096 * s + p) q := by
  rw [val_main_v14_apply, val_main_v6_apply, val_main_v13_apply, val_main_v12_apply, val_main_v11_apply, val_main_v9_apply, val_main_v7_apply, val_main_v4_apply, ref_y,
    val_main_v5_apply, val_main_v8_apply, val_main_v10_apply, val_main_cst_apply, val_main_cst_0_apply, val_main_cst_1_apply]
  have h1 : X (idx_main_v4 (ix3 s p q)) = rd (a := 8192) (b := 1024) X (4096 * s + p) q :=
    rd_of (a := 8192) (b := 1024) X _ (show ((s.val * 4096 + p.val) * 1024 + q.val) / 1024 = 4096 * s.val + p.val by omega)
      (show ((s.val * 4096 + p.val) * 1024 + q.val) % 1024 = q.val by omega)
  have h2 : G (idx_main_v7 (idx_main_v12 (ix3 s p q))) = rd (a := 2) (b := 1024) G ((4096 * s + p) / 4096) q :=
    rd_of (a := 2) (b := 1024) G _ (show s.val = (4096 * s.val + p.val) / 4096 by omega) rfl
  rw [h1, h2, v]
  have h3 : Ideal.ofBits .f32 0x3F800000#32 = 1 := by pointwise
  rw [← h3]
  rfl

theorem ref_d (s : Fin 2) (p : Fin 4096) (q : Fin 1024) : val_main_v20 (F := Ideal) A W X G (ix3 s p q) = d A W X G (4096 * s + p) q := by
  have hm : val_main_v15 (F := Ideal) A W X G (idx_main_v16 (idx_main_v19 (ix3 s p q))) = ∑ x : Fin 1024, v A W X G (4096 * s + p) x := by
    rw [val_main_v15_apply, val_main_cst_2_apply]
    refine Eq.trans ?_ (zero_add _)
    refine congrArg₂ HAdd.hAdd (by pointwise) (Finset.sum_congr rfl fun k _ => ?_)
    exact (congrArg (val_main_v14 (F := Ideal) A W X G) (eq_ix3 _)).trans (ref_v A W X G s p k)
  rw [val_main_v20_apply, val_main_v19_apply, val_main_v18_apply, val_main_v16_apply, hm, val_main_v17_apply, val_main_cst_3_apply, ref_v, d]
  rfl

theorem ref_rs (s : Fin 2) (p : Fin 4096) : val_main_v28 (F := Ideal) A W X G (ix3 s p 0) = rs A W X G (4096 * s + p) := by
  have hm : val_main_v22 (F := Ideal) A W X G (idx_main_v23 (ix3 s p 0)) = ∑ x : Fin 1024, d A W X G (4096 * s + p) x * d A W X G (4096 * s + p) x := by
    rw [val_main_v22_apply, val_main_cst_4_apply]
    refine Eq.trans ?_ (zero_add _)
    refine congrArg₂ HAdd.hAdd (by pointwise) (Finset.sum_congr rfl fun k _ => ?_)
    have hk : val_main_v20 (F := Ideal) A W X G (idx_main_v22 (idx_main_v23 (ix3 s p 0)) k) = d A W X G (4096 * s + p) k :=
      (congrArg (val_main_v20 (F := Ideal) A W X G) (eq_ix3 _)).trans (ref_d A W X G s p k)
    rw [val_main_v21_apply, hk]
    rfl
  rw [val_main_v28_apply, val_main_v27_apply, val_main_v25_apply, val_main_v23_apply, hm, val_main_v24_apply, val_main_v26_apply, val_main_cst_5_apply, val_main_cst_6_apply, rs]
  rfl

theorem ref_xn (s : Fin 2) (p : Fin 4096) (q : Fin 1024) : val_main_v36 (F := Ideal) A W X G L B (ix3 s p q) = xn A W X G L B (4096 * s + p) q := by
  have h1 : val_main_v28 (F := Ideal) A W X G (idx_main_v29 (ix3 s p q)) = rs A W X G (4096 * s + p) :=
    (congrArg (val_main_v28 (F := Ideal) A W X G) (eq_ix3 _)).trans (ref_rs A W X G s p)
  rw [val_main_v36_apply, val_main_v33_apply, val_main_v30_apply, val_main_v29_apply, val_main_v32_apply, val_main_v31_apply, val_main_v35_apply, val_main_v34_apply, h1, ref_d, xn]
  refine congrArg₂ HAdd.hAdd (congrArg₂ HMul.hMul rfl (congrArg L ?_)) (congrArg B ?_)
  · exact eq_ix1 _
  · exact eq_ix1 _

end Ref

variable {A : S8192x2816.Idx → EReal} {W : S2816x1024.Idx → EReal} {X : S8192x1024.Idx → EReal} {G : S2x1024.Idx → EReal} {L B : S1024.Idx → EReal}

open Cert.ReferenceFfnDownIdeal.Read in
/-- The kernel leaves the reference's normed rows. -/
theorem out0 (h0 : m ((c : Thread nD τ).loc main_arg0) = A) (h1 : m ((c : Thread nD τ).loc main_arg1) = W) (h2 : m ((c : Thread nD τ).loc main_arg2) = X)
    (h3 : m ((c : Thread nD τ).loc main_arg3) = G) (h4 : m ((c : Thread nD τ).loc main_arg4) = L) (h5 : m ((c : Thread nD τ).loc main_arg5) = B) :
    (dats m 0 c).arrAt 6 cfg0.N = val_main_v37 (F := Ideal) A W X G L B := by
  subst h0 h1 h2 h3 h4 h5
  rw [final_6]
  funext j
  have hr : (j 0).val < 8192 := (j 0).isLt
  have hq : (j 1).val < 1024 := (j 1).isLt
  have e : idx_main_v37 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v37_apply, e]
  refine Eq.trans ?_ (ref_xn _ _ _ _ _ _ _ _ _).symm
  show xn _ _ _ _ _ _ (j 0).val _ = xn _ _ _ _ _ _ (4096 * ((j 0).val / 4096) + (j 0).val % 4096) _
  rw [Nat.div_add_mod]

open Cert.ReferenceFfnDownIdeal.Read in
/-- The kernel leaves the reference's product. -/
theorem out1 (h0 : m ((c : Thread nD τ).loc main_arg0) = A) (h1 : m ((c : Thread nD τ).loc main_arg1) = W) :
    (dats m 0 c).arrAt 7 cfg0.N = val_main_v38 (F := Ideal) A W := by
  subst h0 h1
  rw [final_7]
  funext j
  have hr : (j 0).val < 8192 := (j 0).isLt
  have hq : (j 1).val < 1024 := (j 1).isLt
  have e : idx_main_v38 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v38_apply, e]
  refine Eq.trans ?_ (ref_y _ _ _ _ _).symm
  show y _ _ (j 0).val _ = y _ _ (4096 * ((j 0).val / 4096) + (j 0).val % 4096) _
  rw [Nat.div_add_mod]

/-- The kernel and the reference leave the same. -/
theorem value : Cert.algebraic_FfnDownIdeal_ReferenceFfnDownIdeal := by
  intro m g m' g' _ he
  refine ⟨fun c => (dats m 0 c).arrAt 6 cfg0.N, fun c => (dats m 0 c).arrAt 7 cfg0.N, ?_, ?_⟩
  · exact (θ_run defs _ _).mono (fun r h c => ⟨(h c).1 6, (h c).1 7,
      ((h c).1 0).trans (((dats m 0 c).arrAt_in 0 rfl _).trans ((rfl).trans (V_main_arg0 m c))),
      ((h c).1 1).trans (((dats m 0 c).arrAt_in 1 rfl _).trans ((rfl).trans (V_main_arg1 m c))),
      ((h c).1 2).trans (((dats m 0 c).arrAt_in 2 rfl _).trans ((rfl).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main (F := Ideal) m g)
  · refine (θ_run Cert.ReferenceFfnDownIdeal.defs _ _).mono (fun r h c => ?_) (Cert.ReferenceFfnDownIdeal.Value.run (F := Ideal) m' g')
    obtain ⟨h0, h1, ha⟩ := h c
    obtain ⟨e0, e1, e2, e3, e4, e5⟩ := he c
    exact ⟨h0.trans ((Cert.ReferenceFfnDownIdeal.Read.val_main_v37_eq m' c).trans (Cert.FfnDownV.out0 m c e0.symm e1.symm e2.symm e3.symm e4.symm e5.symm).symm), h1.trans ((Cert.ReferenceFfnDownIdeal.Read.val_main_v38_eq _ _).trans (Cert.FfnDownV.out1 m c e0.symm e1.symm).symm), ha⟩

end Cert.FfnDownV
-- ==== Proof.GradSqValue.lean ====
/-  The gradient at a square mixer weight: what the kernel leaves, and that the reference leaves it.  -/
module
public import proofs.«01_k».proof.Defs
public import proofs.«01_k».proof.Proof.Gen.GradSqIdeal.Frame
public import proofs.«01_k».proof.Proof.Gen.ReferenceGradSqIdeal.Read
public import proofs.«01_k».proof.Proof.Taps
public import Idealize.ShloMosaic.Lib.Pointwise
public import Idealize.ShloMosaic.Lib.Pipeline.ReadBack
public import Idealize.ShloMosaic.Lib.Pipeline.ValueKit
@[expose] public section
noncomputable section
namespace Cert.GradSqV
open Idealize.ShloMosaic Idealize.ShloMosaic.TcCoe Cert.GradSqIdeal Cert.GradSqIdeal.Gen Cert.Conf

variable (m : (ℓ : Loc nD τ sig) → Buf (Elt Ideal) ℓ) (c : Dev nD)

/-- The product of a tile of rows of the two operands, transposed on the left. -/
theorem pay1 (x0 : Vec Ideal S2048x1024 .bf16) (x1 : Vec Ideal S2048x1024 .bf16) (p : Fin 1024) (q : Fin 1024) :
    k0_pay1 x0 x1 (ix2 p q) = ∑ r ∈ Finset.range 2048, rd (a := 2048) (b := 1024) x0 r p * rd (a := 2048) (b := 1024) x1 r q := by
  unfold k0_pay1
  pointwise
  rw [Finset.sum_range]
  simp only [rd_val]

theorem pay2 (x0 : Vec Ideal S2048x1024 .bf16) (x1 : Vec Ideal S2048x1024 .bf16) (p : Fin 1024) (q : Fin 1024) :
    k0_pay2 x0 x1 (ix2 p q) = 0 + ∑ r ∈ Finset.range 2048, rd (a := 2048) (b := 1024) x0 r p * rd (a := 2048) (b := 1024) x1 r q := by
  rw [← pay1]
  unfold k0_pay2
  pointwise

theorem pay3 (x0 : Vec Ideal S2048x1024 .bf16) (x1 : Vec Ideal S2048x1024 .bf16) (x2 : Vec Ideal S1024x1024 .f32) (p : Fin 1024) (q : Fin 1024) :
    k0_pay3 x0 x1 x2 (ix2 p q) = x2 (ix2 p q) + ∑ r ∈ Finset.range 2048, rd (a := 2048) (b := 1024) x0 r p * rd (a := 2048) (b := 1024) x1 r q := by
  rw [← pay1]
  unfold k0_pay3
  pointwise

theorem at_0 : ∀ t : Fin cfg0.N, win0_0.index t = ![t.val % 4, t.val / 4] := (by decide +kernel : ∀ t : Fin grid0.N, _)
theorem at_1 : ∀ t : Fin cfg0.N, win0_1.index t = ![t.val % 4, 0] := (by decide +kernel : ∀ t : Fin grid0.N, _)
theorem at_2 : ∀ t : Fin cfg0.N, win0_2.index t = ![t.val / 4, 0] := (by decide +kernel : ∀ t : Fin grid0.N, _)

theorem blk_0 (t : Fin cfg0.N) {p q : ℕ} (hp : p < 2048) (hq : q < 1024) :
    rd (a := 2048) (b := 1024) (iblk m c 0 t) p q = rd (a := 8192) (b := 1024) (m ((c : Thread nD τ).loc main_arg0)) (2048 * (t.val % 4) + p) (1024 * (t.val / 4) + q) := by
  rw [rd_lt (a := 2048) (b := 1024) _ hp hq]
  blk_simp [iblk]
  exact rd_of (a := 8192) (b := 1024) _ _ (by blk_simp [at_0]; show _ + p = _; omega) (by blk_simp [at_0]; show _ + q = _; omega)

theorem blk_1 (t : Fin cfg0.N) {p q : ℕ} (hp : p < 2048) (hq : q < 1024) :
    rd (a := 2048) (b := 1024) (iblk m c 1 t) p q = rd (a := 8192) (b := 1024) (m ((c : Thread nD τ).loc main_arg2)) (2048 * (t.val % 4) + p) q := by
  rw [rd_lt (a := 2048) (b := 1024) _ hp hq]
  blk_simp [iblk]
  exact rd_of (a := 8192) (b := 1024) _ _ (by blk_simp [at_1]; show _ + p = _; omega) (by blk_simp [at_1])

/-- What a tile of rows adds to the gradient. -/
def term (n : ℕ) (i : Fin 1024 × Fin 1024) : EReal :=
  ∑ r ∈ Finset.range 2048, rd (a := 8192) (b := 1024) (m ((c : Thread nD τ).loc main_arg0)) (2048 * (n % 4) + r) (1024 * (n / 4) + i.1)
    * rd (a := 8192) (b := 1024) (m ((c : Thread nD τ).loc main_arg2)) (2048 * (n % 4) + r) i.2

theorem term_eq (t : Fin cfg0.N) (p : Fin 1024) (q : Fin 1024) :
    ∑ r ∈ Finset.range 2048, rd (a := 2048) (b := 1024) (iblk m c 0 t) r p * rd (a := 2048) (b := 1024) (iblk m c 1 t) r q = term m c t.val (p, q) := by
  refine Finset.sum_congr rfl fun r hr => ?_
  have hr := Finset.mem_range.mp hr
  rw [blk_0 m c t hr p.isLt, blk_1 m c t hr q.isLt]

/-- The accumulator after a point: the sum over the tiles of rows so far. -/
theorem acc (t : Fin cfg0.N) (p : Fin 1024) (q : Fin 1024) :
    ((outsAt0 m c t.val t.isLt).2 (ix2 p q) : EReal) = 0 + ∑ s ∈ Finset.range (t.val % 4 + 1), term m c (4 * (t.val / 4) + s) (p, q) := by
  refine Pipeline.eq_sum_of_reset_step_apply (M := EReal) (fun n h (i : Fin 1024 × Fin 1024) => (outsAt0 m c n h).2 (ix2 i.1 i.2)) 4 (fun _ => 0)
    (fun t i => term m c t i) ?_ ?_ t (p, q)
  · rintro t h0 ⟨p, q⟩
    have ht : t.val < 4 := t.isLt
    rw [outsAt0_A m c t h0 (by omega) (by omega)]
    frame_out
    rw [pay2, term_eq]
  · rintro t h0 ⟨p, q⟩
    by_cases h3 : t.val % 4 = 3
    · rw [outsAt0_C m c t h0 (by omega) h3]
      frame_out
      rw [pay3, term_eq, read_unread_whole]
    · rw [outsAt0_B m c t h0 (by omega) h3]
      frame_out
      rw [pay3, term_eq, read_unread_whole]

/-- The gradient: the sum over all the rows. -/
def dw (p q : ℕ) : EReal :=
  ∑ r ∈ Finset.range 8192, rd (a := 8192) (b := 1024) (m ((c : Thread nD τ).loc main_arg0)) r p
    * rd (a := 8192) (b := 1024) (m ((c : Thread nD τ).loc main_arg2)) r q

/-- The four tiles of rows together. -/
theorem acc_last (t : Fin cfg0.N) (ht : t.val % 4 = 3) (p : Fin 1024) (q : Fin 1024) :
    ((outsAt0 m c t.val t.isLt).2 (ix2 p q) : EReal) = dw m c (1024 * (t.val / 4) + p) q := by
  rw [acc, ht, zero_add]
  refine Eq.trans ?_ (Finset.sum_range_range_mul_add 4 2048 fun r => rd (a := 8192) (b := 1024) (m ((c : Thread nD τ).loc main_arg0)) r (1024 * (t.val / 4) + p)
    * rd (a := 8192) (b := 1024) (m ((c : Thread nD τ).loc main_arg2)) r q)
  refine Finset.sum_congr rfl fun s hs => ?_
  have hs := Finset.mem_range.mp hs
  rw [term, show (4 * (t.val / 4) + s) % 4 = s by omega, show (4 * (t.val / 4) + s) / 4 = t.val / 4 by omega, Nat.mul_comm 2048 s]

/-- What is written back: the accumulator after the last tile of rows. -/
theorem out_last (t : Fin cfg0.N) (ht : t.val % 4 = 3) (p : Fin 1024) (q : Fin 1024) :
    ((outsAt0 m c t.val t.isLt).1 (ix2 p q) : EReal) = dw m c (1024 * (t.val / 4) + p) q := by
  have h := acc_last m c t ht p q
  rw [outsAt0_C m c t (by omega) (by omega) ht] at h ⊢
  frame_out at h
  frame_out
  unfold k0_pay4
  pointwise
  exact h

/-- What the kernel leaves. -/
theorem final : (dats m 0 c).arrAt 2 cfg0.N = fun j : S1024x1024.Idx => dw m c (j 0).val (j 1).val := by
  refine (dats m 0 c).arrAt_eq_of_covers 2 _ (by decide +kernel) fun t hf y => ?_
  blk_simp [at_2]
  rw [after0_2]
  obtain ⟨p, q, rfl⟩ : ∃ (p : Fin 1024) (q : Fin 1024), y = ix2 p q := ⟨y 0, y 1, eq_ix2 y⟩
  refine (out_last m c t ((flush0_2 t).mp hf) p q).trans ?_
  show dw m c _ _ = dw m c (t.val / 4 * 1024 + p.val) q.val
  congr 1
  omega

open Cert.ReferenceGradSqIdeal.Read in
/-- The reference's product at an index. -/
theorem ref (x0 : S8192x1024.Idx → EReal) (x2 : S8192x1024.Idx → EReal) (p : Fin 1024) (q : Fin 1024) :
    val_main_v7 (F := Ideal) x0 x2 (ix2 p q) = ∑ r ∈ Finset.range 8192, rd (a := 8192) (b := 1024) x0 r p * rd (a := 8192) (b := 1024) x2 r q := by
  have e : idx_main_v6 (ix2 p q) = ix2 (n0 := 1024) (n1 := 1024) q p := by
    funext a
    match a with
    | ⟨0, _⟩ => rfl
    | ⟨1, _⟩ => rfl
  rw [val_main_v7_apply, val_main_v6_apply, e]
  unfold val_main_v5
  pointwise
  rw [Finset.sum_range_mul_split 2 4096, Finset.sum_range]
  refine Finset.sum_congr rfl fun b _ => ?_
  rw [Finset.sum_range]
  refine Finset.sum_congr rfl fun r _ => ?_
  rw [val_main_v1_apply, val_main_v4_apply]
  refine (mul_comm _ _).trans (congrArg₂ HMul.hMul ?_ ?_)
  · exact rd_of (a := 8192) (b := 1024) x0 _ (show ((b.val * 4096 + r.val) * 1024 + p.val) / 1024 = b.val * 4096 + r.val by omega)
      (show ((b.val * 4096 + r.val) * 1024 + p.val) % 1024 = p.val by omega)
  · exact rd_of (a := 8192) (b := 1024) x2 _ (show ((b.val * 4096 + r.val) * 1024 + q.val) / 1024 = b.val * 4096 + r.val by omega)
      (show ((b.val * 4096 + r.val) * 1024 + q.val) % 1024 = q.val by omega)

open Cert.ReferenceGradSqIdeal.Read in
/-- The kernel leaves what the reference leaves. -/
theorem out (x0 : S8192x1024.Idx → EReal) (x2 : S8192x1024.Idx → EReal) (h0 : m ((c : Thread nD τ).loc main_arg0) = x0) (h2 : m ((c : Thread nD τ).loc main_arg2) = x2) :
    (dats m 0 c).arrAt 2 cfg0.N = val_main_v7 (F := Ideal) x0 x2 := by
  subst h0 h2
  rw [final]
  funext j
  obtain ⟨p, q, rfl⟩ : ∃ (p : Fin 1024) (q : Fin 1024), j = ix2 p q := ⟨j 0, j 1, eq_ix2 j⟩
  exact (ref _ _ p q).symm

/-- The kernel and the reference leave the same. -/
theorem value : Cert.algebraic_GradSqIdeal_ReferenceGradSqIdeal := by
  intro m g m' g' _ he
  refine ⟨fun c => (dats m 0 c).arrAt 2 cfg0.N, ?_, ?_⟩
  · exact (θ_run defs _ _).mono (fun r h c => ⟨(h c).1 2,
      ((h c).1 0).trans (((dats m 0 c).arrAt_in 0 rfl _).trans ((rfl).trans (V_main_arg0 m c))),
      ((h c).2 main_arg1 (Pipeline.mem_restRefs_of main_arg1 (by decide) (by decide))).trans (V_main_arg1 m c),
      ((h c).1 1).trans (((dats m 0 c).arrAt_in 1 rfl _).trans ((rfl).trans (V_main_arg2 m c)))⟩) (run_main (F := Ideal) m g)
  · refine (θ_run Cert.ReferenceGradSqIdeal.defs _ _).mono (fun r h c => ?_) (Cert.ReferenceGradSqIdeal.Value.run (F := Ideal) m' g')
    obtain ⟨h0, ha⟩ := h c
    obtain ⟨e0, e1, e2⟩ := he c
    exact ⟨h0.trans ((Cert.ReferenceGradSqIdeal.Read.val_main_v7_eq _ _).trans (Cert.GradSqV.out m c _ _ e0.symm e2.symm).symm), ha⟩

end Cert.GradSqV
-- ==== Proof.OddInValue.lean ====
/-  The odd layers' input product with its modulation: what the kernel leaves, and that the reference leaves it.  -/
module
public import proofs.«01_k».proof.Defs
public import proofs.«01_k».proof.Proof.Gen.OddInIdeal.Frame
public import proofs.«01_k».proof.Proof.Gen.ReferenceOddInIdeal.Read
public import proofs.«01_k».proof.Proof.Taps
public import Idealize.ShloMosaic.Lib.Pointwise
public import Idealize.ShloMosaic.Lib.Pipeline.ReadBack
public import Idealize.ShloMosaic.Lib.Pipeline.ValueKit
@[expose] public section
noncomputable section
namespace Cert.OddInV
open Idealize.ShloMosaic Idealize.ShloMosaic.TcCoe Idealize.ShloMosaic.StableHlo Idealize.ShloMosaic.Tactic Cert.OddInIdeal Cert.OddInIdeal.Gen Cert.Conf

/-! ## The mathematics, by row -/

section Rows
variable (X : S8192x1024.Idx → EReal) (S C : S2x1024.Idx → EReal) (W : S1024x3072.Idx → EReal)

/-- The row scaled and shifted by its sequence's modulation. -/
def h (r q : ℕ) : EReal := rd (a := 8192) (b := 1024) X r q * (1 + rd (a := 2) (b := 1024) C (r / 4096) q) + rd (a := 2) (b := 1024) S (r / 4096) q

/-- The product with the weights: three groups of 1024 columns. -/
def z (r q : ℕ) : EReal := ∑ k : Fin 1024, h X S C r k * rd (a := 1024) (b := 3072) W k q

/-! ## The stored values -/

theorem pay1 (x0 : Vec Ideal S512x1024 .f32) (x1 x2 : Vec Ideal S1x1x1024 .f32) (p : Fin 512) (r : ℕ)
    (hx : ∀ q : Fin 1024, x0 (ix2 p q) = rd (a := 8192) (b := 1024) X r q)
    (hs : ∀ q : Fin 1024, x1 (ix3 0 0 q) = rd (a := 2) (b := 1024) S (r / 4096) q)
    (hc : ∀ q : Fin 1024, x2 (ix3 0 0 q) = rd (a := 2) (b := 1024) C (r / 4096) q) (q : Fin 1024) :
    k0_pay1 x0 x1 x2 (ix2 p q) = h X S C r q := by
  unfold k0_pay1
  pointwise
  simp only [hx, hs, hc]
  rfl

theorem pay2 (x0 : Vec Ideal S512x1024 .f32) (x1 x2 : Vec Ideal S1x1x1024 .f32) (w : Vec Ideal S1024x1024 .bf16) (p : Fin 512) (r o : ℕ) (q : Fin 1024)
    (hy : ∀ k : Fin 1024, k0_pay1 x0 x1 x2 (ix2 p k) = h X S C r k) (hw : ∀ k : Fin 1024, w (ix2 k q) = rd (a := 1024) (b := 3072) W k (o + q)) :
    k0_pay2 x0 x1 x2 w (ix2 p q) = z X S C W r (o + q) := by
  unfold k0_pay2
  pointwise
  simp only [hy, hw]
  rfl

end Rows

variable (m : (ℓ : Loc nD τ sig) → Buf (Elt Ideal) ℓ) (c : Dev nD)

theorem at_0 : ∀ t : Fin cfg0.N, win0_0.index t = ![t.val, 0] := (by decide +kernel : ∀ t : Fin grid0.N, _)
theorem at_1 : ∀ t : Fin cfg0.N, win0_1.index t = ![t.val / 8, 0, 0] := (by decide +kernel : ∀ t : Fin grid0.N, _)
theorem at_2 : ∀ t : Fin cfg0.N, win0_2.index t = ![t.val / 8, 0, 0] := (by decide +kernel : ∀ t : Fin grid0.N, _)
theorem at_3 : ∀ t : Fin cfg0.N, win0_3.index t = ![0, 0] := (by decide +kernel : ∀ t : Fin grid0.N, _)
theorem at_4 : ∀ t : Fin cfg0.N, win0_4.index t = ![t.val, 0] := (by decide +kernel : ∀ t : Fin grid0.N, _)
theorem at_5 : ∀ t : Fin cfg0.N, win0_5.index t = ![t.val, 0] := (by decide +kernel : ∀ t : Fin grid0.N, _)
theorem at_6 : ∀ t : Fin cfg0.N, win0_6.index t = ![t.val, 0] := (by decide +kernel : ∀ t : Fin grid0.N, _)
theorem at_7 : ∀ t : Fin cfg0.N, win0_7.index t = ![t.val, 0] := (by decide +kernel : ∀ t : Fin grid0.N, _)

/-- The arguments. -/
abbrev aX : S8192x1024.Idx → EReal := m ((c : Thread nD τ).loc main_arg0)
abbrev aS : S2x1024.Idx → EReal := m ((c : Thread nD τ).loc main_arg1)
abbrev aC : S2x1024.Idx → EReal := m ((c : Thread nD τ).loc main_arg2)
abbrev aW : S1024x3072.Idx → EReal := m ((c : Thread nD τ).loc main_arg3)

theorem blk_0 (t : Fin cfg0.N) (p : Fin 512) (q : Fin 1024) :
    (iblk m c 0 t : Vec Ideal S512x1024 .f32) (ix2 p q) = rd (a := 8192) (b := 1024) (aX m c) (512 * t.val + p) q := by
  blk_simp [iblk]
  rw [aX, ← V_main_arg0 m c]
  exact rd_of (a := 8192) (b := 1024) _ _ (by blk_simp [at_0]; show _ + p.val = _; omega) (by blk_simp [at_0])

theorem blk_1 (t : Fin cfg0.N) (r : ℕ) (hr : r < 512) (q : Fin 1024) :
    (iblk m c 1 t : Vec Ideal S1x1x1024 .f32) (ix3 0 0 q) = rd (a := 2) (b := 1024) (aS m c) ((512 * t.val + r) / 4096) q := by
  have e : V m c main_v0 = broadcastInDim S2x1x1024 ![0, 2] bcast_S2x1024_S2x1x1024_0_2 (m ((c : Thread nD τ).loc main_arg1)) := by
    unfold V hostOps0
    after_results
  rw [show (512 * t.val + r) / 4096 = t.val / 8 by omega]
  blk_simp [iblk]
  show V m c main_v0 _ = _
  rw [e]
  pointwise
  exact rd_of (a := 2) (b := 1024) _ _ (by blk_simp [at_1]; exact Nat.add_zero _) (by blk_simp [at_1])

theorem blk_2 (t : Fin cfg0.N) (r : ℕ) (hr : r < 512) (q : Fin 1024) :
    (iblk m c 2 t : Vec Ideal S1x1x1024 .f32) (ix3 0 0 q) = rd (a := 2) (b := 1024) (aC m c) ((512 * t.val + r) / 4096) q := by
  have e : V m c main_v1 = broadcastInDim S2x1x1024 ![0, 2] bcast_S2x1024_S2x1x1024_0_2 (m ((c : Thread nD τ).loc main_arg2)) := by
    unfold V hostOps0
    after_results
  rw [show (512 * t.val + r) / 4096 = t.val / 8 by omega]
  blk_simp [iblk]
  show V m c main_v1 _ = _
  rw [e]
  pointwise
  exact rd_of (a := 2) (b := 1024) _ _ (by blk_simp [at_2]; exact Nat.add_zero _) (by blk_simp [at_2])

/-- The weights' block is all of them. -/
theorem blk_3 (t : Fin cfg0.N) : (iblk m c 3 t : Vec Ideal S1024x3072 .bf16) = aW m c := by
  funext j
  obtain ⟨p, q, rfl⟩ : ∃ (p : Fin 1024) (q : Fin 3072), j = ix2 p q := ⟨j 0, j 1, eq_ix2 j⟩
  blk_simp [iblk]
  rw [aW, ← V_main_arg3 m c]
  refine congrArg (V m c main_arg3) (funext fun a => Fin.ext ?_)
  match a with
  | ⟨0, _⟩ => blk_simp [at_3]
  | ⟨1, _⟩ => blk_simp [at_3]

/-- A group of the weights' columns. -/
theorem cols (t : Fin cfg0.N) (o : ℕ) (inb : ∀ a, (![0, o] : Fin 2 → ℕ) a + (S1024x1024.size) a ≤ S1024x3072.size a) (k q : Fin 1024) :
    View.ld (iblk m c 3 t : Vec Ideal S1024x3072 .bf16) (Rect.unit (s := S1024x3072) ![0, o] S1024x1024.size inb) (ix2 k q) = rd (a := 1024) (b := 3072) (aW m c) k (o + q) := by
  rw [blk_3]
  refine (ld_rd (a := 1024) (b := 3072) (aW m c) 0 o inb (ix2 k q)).trans ?_
  show rd _ (0 + k.val) (o + q.val) = _
  rw [Nat.zero_add]

/-! ## A tile of 512 rows -/

theorem mod_blk (t : Fin cfg0.N) (p : Fin 512) (q : Fin 1024) :
    k0_pay1 (iblk m c 0 t) (iblk m c 1 t) (iblk m c 2 t) (ix2 p q) = h (aX m c) (aS m c) (aC m c) (512 * t.val + p) q :=
  pay1 _ _ _ _ _ _ p _ (blk_0 m c t p) (blk_1 m c t p p.isLt) (blk_2 m c t p p.isLt) q

/-- What a point leaves of the modulated rows. -/
theorem tile_4 (t : Fin cfg0.N) (p : Fin 512) (q : Fin 1024) :
    ((dats m 0 c).after 4 t : Vec Ideal S512x1024 .bf16) (ix2 p q) = h (aX m c) (aS m c) (aC m c) (512 * t.val + p) q := by
  rw [after0_4]
  frame_out
  exact mod_blk m c t p q

/-- What a point leaves of the first group of columns. -/
theorem tile_5 (t : Fin cfg0.N) (p : Fin 512) (q : Fin 1024) :
    ((dats m 0 c).after 5 t : Vec Ideal S512x1024 .f32) (ix2 p q) = z (aX m c) (aS m c) (aC m c) (aW m c) (512 * t.val + p) q := by
  rw [after0_5]
  frame_out
  exact (pay2 _ _ _ _ _ _ _ _ _ _ 0 q (mod_blk m c t p) fun k => cols m c t 0 _ k q).trans (by rw [Nat.zero_add])

/-- What a point leaves of the second group of columns. -/
theorem tile_6 (t : Fin cfg0.N) (p : Fin 512) (q : Fin 1024) :
    ((dats m 0 c).after 6 t : Vec Ideal S512x1024 .f32) (ix2 p q) = z (aX m c) (aS m c) (aC m c) (aW m c) (512 * t.val + p) (1024 + q) := by
  rw [after0_6]
  frame_out
  exact (pay2 _ _ _ _ _ _ _ _ _ _ 1024 q (mod_blk m c t p) fun k => cols m c t 1024 _ k q)

/-- What a point leaves of the third group of columns. -/
theorem tile_7 (t : Fin cfg0.N) (p : Fin 512) (q : Fin 1024) :
    ((dats m 0 c).after 7 t : Vec Ideal S512x1024 .f32) (ix2 p q) = z (aX m c) (aS m c) (aC m c) (aW m c) (512 * t.val + p) (2048 + q) := by
  rw [after0_7]
  frame_out
  exact (pay2 _ _ _ _ _ _ _ _ _ _ 2048 q (mod_blk m c t p) fun k => cols m c t 2048 _ k q)

/-- What the kernel leaves: the modulated rows. -/
theorem final_4 : (dats m 0 c).arrAt 4 cfg0.N = fun j : S8192x1024.Idx => h (aX m c) (aS m c) (aC m c) (j 0).val ((j 1).val) := by
  refine (dats m 0 c).arrAt_eq_of_covers 4 _ (by decide +kernel) fun t hf y => ?_
  blk_simp [at_4]
  obtain ⟨p, q, rfl⟩ : ∃ (p : Fin 512) (q : Fin 1024), y = ix2 p q := ⟨y 0, y 1, eq_ix2 y⟩
  refine (tile_4 m c t p q).trans ?_
  show h _ _ _ _ (q.val) = h _ _ _ (t.val * 512 + p.val) _
  rw [Nat.mul_comm]
  simp

/-- What the kernel leaves: the first group of columns. -/
theorem final_5 : (dats m 0 c).arrAt 5 cfg0.N = fun j : S8192x1024.Idx => z (aX m c) (aS m c) (aC m c) (aW m c) (j 0).val ((j 1).val) := by
  refine (dats m 0 c).arrAt_eq_of_covers 5 _ (by decide +kernel) fun t hf y => ?_
  blk_simp [at_5]
  obtain ⟨p, q, rfl⟩ : ∃ (p : Fin 512) (q : Fin 1024), y = ix2 p q := ⟨y 0, y 1, eq_ix2 y⟩
  refine (tile_5 m c t p q).trans ?_
  show z _ _ _ _ _ (q.val) = z _ _ _ _ (t.val * 512 + p.val) _
  rw [Nat.mul_comm]
  simp

/-- What the kernel leaves: the second group of columns. -/
theorem final_6 : (dats m 0 c).arrAt 6 cfg0.N = fun j : S8192x1024.Idx => z (aX m c) (aS m c) (aC m c) (aW m c) (j 0).val (1024 + (j 1).val) := by
  refine (dats m 0 c).arrAt_eq_of_covers 6 _ (by decide +kernel) fun t hf y => ?_
  blk_simp [at_6]
  obtain ⟨p, q, rfl⟩ : ∃ (p : Fin 512) (q : Fin 1024), y = ix2 p q := ⟨y 0, y 1, eq_ix2 y⟩
  refine (tile_6 m c t p q).trans ?_
  show z _ _ _ _ _ (1024 + q.val) = z _ _ _ _ (t.val * 512 + p.val) _
  rw [Nat.mul_comm]
  simp

/-- What the kernel leaves: the third group of columns. -/
theorem final_7 : (dats m 0 c).arrAt 7 cfg0.N = fun j : S8192x1024.Idx => z (aX m c) (aS m c) (aC m c) (aW m c) (j 0).val (2048 + (j 1).val) := by
  refine (dats m 0 c).arrAt_eq_of_covers 7 _ (by decide +kernel) fun t hf y => ?_
  blk_simp [at_7]
  obtain ⟨p, q, rfl⟩ : ∃ (p : Fin 512) (q : Fin 1024), y = ix2 p q := ⟨y 0, y 1, eq_ix2 y⟩
  refine (tile_7 m c t p q).trans ?_
  show z _ _ _ _ _ (2048 + q.val) = z _ _ _ _ (t.val * 512 + p.val) _
  rw [Nat.mul_comm]
  simp

/-! ## The reference -/

section Ref
open Cert.ReferenceOddInIdeal.Read

variable (X : S8192x1024.Idx → EReal) (S C : S2x1024.Idx → EReal) (W : S1024x3072.Idx → EReal)

theorem one_word : (FloatOps.ofBits (F := Ideal) .f32 0x3F800000#32 : EReal) = 1 := by pointwise

theorem ref_h (s : Fin 2) (p : Fin 4096) (q : Fin 1024) : val_main_v8 (F := Ideal) X S C (ix3 s p q) = h X S C (4096 * s + p) q := by
  rw [val_main_v8_apply, val_main_v5_apply, val_main_v0_apply, val_main_v4_apply, val_main_v3_apply, val_main_v2_apply, val_main_cst_apply, val_main_v1_apply,
    val_main_v7_apply, val_main_v6_apply, one_word]
  have h1 : X (idx_main_v0 (ix3 s p q)) = rd (a := 8192) (b := 1024) X (4096 * s + p) q :=
    rd_of (a := 8192) (b := 1024) X _ (show ((s.val * 4096 + p.val) * 1024 + q.val) / 1024 = 4096 * s.val + p.val by omega)
      (show ((s.val * 4096 + p.val) * 1024 + q.val) % 1024 = q.val by omega)
  have h2 : C (idx_main_v1 (idx_main_v4 (ix3 s p q))) = rd (a := 2) (b := 1024) C ((4096 * s + p) / 4096) q :=
    rd_of (a := 2) (b := 1024) C _ (show s.val = (4096 * s.val + p.val) / 4096 by omega) rfl
  have h3 : S (idx_main_v6 (idx_main_v7 (ix3 s p q))) = rd (a := 2) (b := 1024) S ((4096 * s + p) / 4096) q :=
    rd_of (a := 2) (b := 1024) S _ (show s.val = (4096 * s.val + p.val) / 4096 by omega) rfl
  rw [h1, h2, h3, h]
  rfl

theorem ref_z (s : Fin 2) (p : Fin 4096) (q : Fin 3072) : val_main_v10 (F := Ideal) X S C W (ix3 s p q) = z X S C W (4096 * s + p) q := by
  rw [val_main_v10_apply, z]
  refine Finset.sum_congr rfl fun k _ => ?_
  refine congrArg₂ HMul.hMul ?_ ?_
  · exact (congrArg (val_main_v8 (F := Ideal) X S C) (eq_ix3 _)).trans (ref_h X S C s p k)
  · exact rd_of (a := 1024) (b := 3072) W _ rfl rfl

theorem ref_0 (s : Fin 2) (p : Fin 4096) (q : Fin 1024) : val_main_v11 (F := Ideal) X S C W (ix3 s p q) = z X S C W (4096 * s + p) q := by
  rw [val_main_v11_apply]
  refine Eq.trans (congrArg (val_main_v10 (F := Ideal) X S C W) (eq_ix3 _)) ((ref_z X S C W s p ⟨q.val, by omega⟩))

theorem ref_1 (s : Fin 2) (p : Fin 4096) (q : Fin 1024) : val_main_v12 (F := Ideal) X S C W (ix3 s p q) = z X S C W (4096 * s + p) (1024 + q) := by
  rw [val_main_v12_apply]
  refine Eq.trans (congrArg (val_main_v10 (F := Ideal) X S C W) (eq_ix3 _)) ((ref_z X S C W s p ⟨1024 + q.val, by omega⟩))

theorem ref_2 (s : Fin 2) (p : Fin 4096) (q : Fin 1024) : val_main_v13 (F := Ideal) X S C W (ix3 s p q) = z X S C W (4096 * s + p) (2048 + q) := by
  rw [val_main_v13_apply]
  refine Eq.trans (congrArg (val_main_v10 (F := Ideal) X S C W) (eq_ix3 _)) ((ref_z X S C W s p ⟨2048 + q.val, by omega⟩))

end Ref

variable {X : S8192x1024.Idx → EReal} {S C : S2x1024.Idx → EReal} {W : S1024x3072.Idx → EReal}

open Cert.ReferenceOddInIdeal.Read in
/-- The kernel leaves the reference's modulated rows. -/
theorem out0 (h0 : m ((c : Thread nD τ).loc main_arg0) = X) (h1 : m ((c : Thread nD τ).loc main_arg1) = S) (h2 : m ((c : Thread nD τ).loc main_arg2) = C) :
    (dats m 0 c).arrAt 4 cfg0.N = val_main_v15 (F := Ideal) X S C := by
  subst h0 h1 h2
  rw [final_4]
  funext j
  have hr : (j 0).val < 8192 := (j 0).isLt
  have hq : (j 1).val < 1024 := (j 1).isLt
  have e : idx_main_v14 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v15_apply, val_main_v14_apply, e]
  refine Eq.trans ?_ (ref_h _ _ _ _ _ _).symm
  show h _ _ _ (j 0).val _ = h _ _ _ (4096 * ((j 0).val / 4096) + (j 0).val % 4096) _
  rw [Nat.div_add_mod]

open Cert.ReferenceOddInIdeal.Read in
/-- The kernel leaves the reference's first group of columns. -/
theorem out1 (h0 : m ((c : Thread nD τ).loc main_arg0) = X) (h1 : m ((c : Thread nD τ).loc main_arg1) = S) (h2 : m ((c : Thread nD τ).loc main_arg2) = C) (h3 : m ((c : Thread nD τ).loc main_arg3) = W) :
    (dats m 0 c).arrAt 5 cfg0.N = val_main_v16 (F := Ideal) X S C W := by
  subst h0 h1 h2 h3
  rw [final_5]
  funext j
  have hr : (j 0).val < 8192 := (j 0).isLt
  have hq : (j 1).val < 1024 := (j 1).isLt
  have e : idx_main_v16 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v16_apply, e]
  refine Eq.trans ?_ (ref_0 _ _ _ _ _ _ _).symm
  show z _ _ _ _ (j 0).val _ = z _ _ _ _ (4096 * ((j 0).val / 4096) + (j 0).val % 4096) _
  rw [Nat.div_add_mod]

open Cert.ReferenceOddInIdeal.Read in
/-- The kernel leaves the reference's second group of columns. -/
theorem out2 (h0 : m ((c : Thread nD τ).loc main_arg0) = X) (h1 : m ((c : Thread nD τ).loc main_arg1) = S) (h2 : m ((c : Thread nD τ).loc main_arg2) = C) (h3 : m ((c : Thread nD τ).loc main_arg3) = W) :
    (dats m 0 c).arrAt 6 cfg0.N = val_main_v17 (F := Ideal) X S C W := by
  subst h0 h1 h2 h3
  rw [final_6]
  funext j
  have hr : (j 0).val < 8192 := (j 0).isLt
  have hq : (j 1).val < 1024 := (j 1).isLt
  have e : idx_main_v17 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v17_apply, e]
  refine Eq.trans ?_ (ref_1 _ _ _ _ _ _ _).symm
  show z _ _ _ _ (j 0).val _ = z _ _ _ _ (4096 * ((j 0).val / 4096) + (j 0).val % 4096) _
  rw [Nat.div_add_mod]

open Cert.ReferenceOddInIdeal.Read in
/-- The kernel leaves the reference's third group of columns. -/
theorem out3 (h0 : m ((c : Thread nD τ).loc main_arg0) = X) (h1 : m ((c : Thread nD τ).loc main_arg1) = S) (h2 : m ((c : Thread nD τ).loc main_arg2) = C) (h3 : m ((c : Thread nD τ).loc main_arg3) = W) :
    (dats m 0 c).arrAt 7 cfg0.N = val_main_v18 (F := Ideal) X S C W := by
  subst h0 h1 h2 h3
  rw [final_7]
  funext j
  have hr : (j 0).val < 8192 := (j 0).isLt
  have hq : (j 1).val < 1024 := (j 1).isLt
  have e : idx_main_v18 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v18_apply, e]
  refine Eq.trans ?_ (ref_2 _ _ _ _ _ _ _).symm
  show z _ _ _ _ (j 0).val _ = z _ _ _ _ (4096 * ((j 0).val / 4096) + (j 0).val % 4096) _
  rw [Nat.div_add_mod]

/-- The kernel and the reference leave the same. -/
theorem value : Cert.algebraic_OddInIdeal_ReferenceOddInIdeal := by
  intro m g m' g' _ he
  refine ⟨fun c => (dats m 0 c).arrAt 4 cfg0.N, fun c => (dats m 0 c).arrAt 5 cfg0.N, fun c => (dats m 0 c).arrAt 6 cfg0.N, fun c => (dats m 0 c).arrAt 7 cfg0.N, ?_, ?_⟩
  · exact (θ_run defs _ _).mono (fun r h c => ⟨(h c).1 4, (h c).1 5, (h c).1 6, (h c).1 7,
      ((h c).1 0).trans (((dats m 0 c).arrAt_in 0 rfl _).trans ((rfl).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((rfl).trans (V_main_arg3 m c)))⟩) (run_main (F := Ideal) m g)
  · refine (θ_run Cert.ReferenceOddInIdeal.defs _ _).mono (fun r h c => ?_) (Cert.ReferenceOddInIdeal.Value.run (F := Ideal) m' g')
    obtain ⟨h0, h1, h2, h3, ha⟩ := h c
    obtain ⟨e0, e1, e2, e3⟩ := he c
    exact ⟨h0.trans ((Cert.ReferenceOddInIdeal.Read.val_main_v15_eq _ _ _).trans (Cert.OddInV.out0 m c e0.symm e1.symm e2.symm).symm),
      h1.trans ((Cert.ReferenceOddInIdeal.Read.val_main_v16_eq _ _ _ _).trans (Cert.OddInV.out1 m c e0.symm e1.symm e2.symm e3.symm).symm),
      h2.trans ((Cert.ReferenceOddInIdeal.Read.val_main_v17_eq _ _ _ _).trans (Cert.OddInV.out2 m c e0.symm e1.symm e2.symm e3.symm).symm),
      h3.trans ((Cert.ReferenceOddInIdeal.Read.val_main_v18_eq _ _ _ _).trans (Cert.OddInV.out3 m c e0.symm e1.symm e2.symm e3.symm).symm), ha⟩

end Cert.OddInV
-- ==== Proof.OddInBwdValue.lean ====
/-  The backward pass through an odd mixer's modulated input projection: what the kernel leaves, and that the reference leaves it.  -/
module
public import proofs.«01_k».proof.Defs
public import proofs.«01_k».proof.Proof.Gen.OddInBwdIdeal.Frame
public import proofs.«01_k».proof.Proof.Gen.ReferenceOddInBwdIdeal.Read
public import proofs.«01_k».proof.Proof.FfnUpValue
public import proofs.«01_k».proof.Proof.Taps
public import Idealize.ShloMosaic.Lib.Pointwise
public import Idealize.ShloMosaic.Lib.Pipeline.ReadBack
public import Idealize.ShloMosaic.Lib.Pipeline.ValueKit
@[expose] public section
noncomputable section
namespace Cert.OddInBwdV
open Idealize.ShloMosaic Idealize.ShloMosaic.TcCoe Idealize.ShloMosaic.StableHlo Idealize.ShloMosaic.Tactic Cert.OddInBwdIdeal Cert.OddInBwdIdeal.Gen Cert.Conf

/-! ## The mathematics, by row -/

section Rows
variable (A B E : S8192x1024.Idx → EReal) (W : S1024x3072.Idx → EReal) (X : S8192x1024.Idx → EReal) (C : S2x1024.Idx → EReal) (R : S8192x1024.Idx → EReal)

/-- The cotangents of the three groups of columns side by side. -/
def ct (r j : ℕ) : EReal := if j < 1024 then rd (a := 8192) (b := 1024) A r j else if j < 2048 then rd (a := 8192) (b := 1024) B r (j - 1024) else rd (a := 8192) (b := 1024) E r (j - 2048)

theorem ct_0 {r j : ℕ} (h : j < 1024) : ct A B E r j = rd (a := 8192) (b := 1024) A r j := if_pos h
theorem ct_1 {r j : ℕ} (h : j < 1024) : ct A B E r (1024 + j) = rd (a := 8192) (b := 1024) B r j := by
  rw [ct, if_neg (by omega), if_pos (by omega), Nat.add_sub_cancel_left]
theorem ct_2 (r j : ℕ) : ct A B E r (2048 + j) = rd (a := 8192) (b := 1024) E r j := by
  rw [ct, if_neg (by omega), if_neg (by omega), Nat.add_sub_cancel_left]

/-- The cotangent of the modulated rows. -/
def dh (r k : ℕ) : EReal := ∑ j ∈ Finset.range 3072, ct A B E r j * rd (a := 1024) (b := 3072) W k j

/-- The sum over the columns in its three groups. -/
theorem three (f : ℕ → EReal) : ∑ j ∈ Finset.range 3072, f j
    = (∑ j ∈ Finset.range 1024, f (0 + j) + ∑ j ∈ Finset.range 1024, f (1024 + j)) + ∑ j ∈ Finset.range 1024, f (2048 + j) := by
  rw [show 3072 = 1024 + 1024 + 1024 by rfl, Finset.sum_range_add, Finset.sum_range_add]
  simp only [Nat.zero_add]

/-- The cotangent of the rows: that of the residual, and that of the modulated rows scaled. -/
def dx (r q : ℕ) : EReal := rd (a := 8192) (b := 1024) R r q + dh A B E W r q * (1 + rd (a := 2) (b := 1024) C (r / 4096) q)
/-- The cotangent of the shift: the sum over the sequence's rows. -/
def dsh (b q : ℕ) : EReal := ∑ r ∈ Finset.range 4096, dh A B E W (4096 * b + r) q
/-- The cotangent of the scale: the sum over the sequence's rows, each times the row. -/
def dsc (b q : ℕ) : EReal := ∑ r ∈ Finset.range 4096, dh A B E W (4096 * b + r) q * rd (a := 8192) (b := 1024) X (4096 * b + r) q

/-! ## The stored values -/

theorem pay5 (a b e : Vec Ideal S512x1024 .bf16) (w w' w'' : Vec Ideal S1024x1024 .bf16) (p : Fin 512) (r : ℕ) (k : Fin 1024)
    (ha : ∀ q : Fin 1024, a (ix2 p q) = rd (a := 8192) (b := 1024) A r q) (hb : ∀ q : Fin 1024, b (ix2 p q) = rd (a := 8192) (b := 1024) B r q)
    (he : ∀ q : Fin 1024, e (ix2 p q) = rd (a := 8192) (b := 1024) E r q)
    (hw : ∀ q : Fin 1024, w (ix2 k q) = rd (a := 1024) (b := 3072) W k (0 + q)) (hw' : ∀ q : Fin 1024, w' (ix2 k q) = rd (a := 1024) (b := 3072) W k (1024 + q))
    (hw'' : ∀ q : Fin 1024, w'' (ix2 k q) = rd (a := 1024) (b := 3072) W k (2048 + q)) :
    k0_pay5 a w b w' e w'' (ix2 p k) = dh A B E W r k := by
  have h : k0_pay5 a w b w' e w'' (ix2 p k) = (∑ j : Fin 1024, a (ix2 p j) * w (ix2 k j) + ∑ j : Fin 1024, b (ix2 p j) * w' (ix2 k j)) + ∑ j : Fin 1024, e (ix2 p j) * w'' (ix2 k j) := by
    unfold k0_pay5
    pointwise
  rw [h, dh, three, Finset.sum_range, Finset.sum_range, Finset.sum_range]
  refine congrArg₂ HAdd.hAdd (congrArg₂ HAdd.hAdd (Finset.sum_congr rfl fun j _ => ?_) (Finset.sum_congr rfl fun j _ => ?_)) (Finset.sum_congr rfl fun j _ => ?_)
  · rw [ha, hw, ct_0 _ _ _ (by omega), Nat.zero_add]
  · rw [hb, hw', ct_1 _ _ _ (by omega)]
  · rw [he, hw'', ct_2]

theorem pay6 (a b e : Vec Ideal S512x1024 .bf16) (w w' w'' : Vec Ideal S1024x1024 .bf16) (x7 : Vec Ideal S512x1024 .f32) (x6 : Vec Ideal S1x1x1024 .f32) (p : Fin 512) (q : Fin 1024) :
    k0_pay6 a w b w' e w'' x7 x6 (ix2 p q) = x7 (ix2 p q) + k0_pay5 a w b w' e w'' (ix2 p q) * (1 + x6 (ix3 0 0 q)) := by
  unfold k0_pay6
  generalize k0_pay5 a w b w' e w'' = y
  pointwise

theorem pay3 (y : FVec Ideal S512x1024 .f32) (a : Vec Ideal S1x1x1024 .f32) (q : Fin 1024) :
    k0_pay3 y a (ix3 0 0 q) = a (ix3 0 0 q) + ∑ p : Fin 512, y (ix2 p q) := by
  unfold k0_pay3
  pointwise

theorem pay4 (y : FVec Ideal S512x1024 .f32) (a : Vec Ideal S1x1x1024 .f32) (x : Vec Ideal S512x1024 .f32) (q : Fin 1024) :
    k0_pay4 y a x (ix3 0 0 q) = a (ix3 0 0 q) + ∑ p : Fin 512, y (ix2 p q) * x (ix2 p q) := by
  unfold k0_pay4
  pointwise

theorem zero_1 (q : Fin 1024) : (k0_pay1 (F := Ideal) (ix3 0 0 q) : EReal) = 0 := by
  unfold k0_pay1
  pointwise
theorem zero_2 (q : Fin 1024) : (k0_pay2 (F := Ideal) (ix3 0 0 q) : EReal) = 0 := by
  unfold k0_pay2
  pointwise

end Rows

variable (m : (ℓ : Loc nD τ sig) → Buf (Elt Ideal) ℓ) (c : Dev nD)

/-- The arguments. -/
abbrev aA : S8192x1024.Idx → EReal := m ((c : Thread nD τ).loc main_arg0)
abbrev aB : S8192x1024.Idx → EReal := m ((c : Thread nD τ).loc main_arg1)
abbrev aE : S8192x1024.Idx → EReal := m ((c : Thread nD τ).loc main_arg2)
abbrev aW : S1024x3072.Idx → EReal := m ((c : Thread nD τ).loc main_arg3)
abbrev aX : S8192x1024.Idx → EReal := m ((c : Thread nD τ).loc main_arg4)
abbrev aC : S2x1024.Idx → EReal := m ((c : Thread nD τ).loc main_arg5)
abbrev aR : S8192x1024.Idx → EReal := m ((c : Thread nD τ).loc main_arg6)

theorem at_0 : ∀ t : Fin cfg0.N, win0_0.index t = ![t.val, 0] := (by decide +kernel : ∀ t : Fin grid0.N, _)
theorem at_1 : ∀ t : Fin cfg0.N, win0_1.index t = ![t.val, 0] := (by decide +kernel : ∀ t : Fin grid0.N, _)
theorem at_2 : ∀ t : Fin cfg0.N, win0_2.index t = ![t.val, 0] := (by decide +kernel : ∀ t : Fin grid0.N, _)
theorem at_3 : ∀ t : Fin cfg0.N, win0_3.index t = ![0, 0] := (by decide +kernel : ∀ t : Fin grid0.N, _)
theorem at_4 : ∀ t : Fin cfg0.N, win0_4.index t = ![t.val, 0] := (by decide +kernel : ∀ t : Fin grid0.N, _)
theorem at_5 : ∀ t : Fin cfg0.N, win0_5.index t = ![t.val / 8, 0, 0] := (by decide +kernel : ∀ t : Fin grid0.N, _)
theorem at_6 : ∀ t : Fin cfg0.N, win0_6.index t = ![t.val, 0] := (by decide +kernel : ∀ t : Fin grid0.N, _)
theorem at_7 : ∀ t : Fin cfg0.N, win0_7.index t = ![t.val, 0] := (by decide +kernel : ∀ t : Fin grid0.N, _)
theorem at_8 : ∀ t : Fin cfg0.N, win0_8.index t = ![t.val / 8, 0, 0] := (by decide +kernel : ∀ t : Fin grid0.N, _)
theorem at_9 : ∀ t : Fin cfg0.N, win0_9.index t = ![t.val / 8, 0, 0] := (by decide +kernel : ∀ t : Fin grid0.N, _)

theorem blk_0 (t : Fin cfg0.N) (p : Fin 512) (q : Fin 1024) :
    (iblk m c 0 t : Vec Ideal S512x1024 .bf16) (ix2 p q) = rd (a := 8192) (b := 1024) (aA m c) (512 * t.val + p) q := by
  blk_simp [iblk]
  rw [aA, ← V_main_arg0 m c]
  exact rd_of (a := 8192) (b := 1024) _ _ (by blk_simp [at_0]; show _ + p.val = _; omega) (by blk_simp [at_0])

theorem blk_1 (t : Fin cfg0.N) (p : Fin 512) (q : Fin 1024) :
    (iblk m c 1 t : Vec Ideal S512x1024 .bf16) (ix2 p q) = rd (a := 8192) (b := 1024) (aB m c) (512 * t.val + p) q := by
  blk_simp [iblk]
  rw [aB, ← V_main_arg1 m c]
  exact rd_of (a := 8192) (b := 1024) _ _ (by blk_simp [at_1]; show _ + p.val = _; omega) (by blk_simp [at_1])

theorem blk_2 (t : Fin cfg0.N) (p : Fin 512) (q : Fin 1024) :
    (iblk m c 2 t : Vec Ideal S512x1024 .bf16) (ix2 p q) = rd (a := 8192) (b := 1024) (aE m c) (512 * t.val + p) q := by
  blk_simp [iblk]
  rw [aE, ← V_main_arg2 m c]
  exact rd_of (a := 8192) (b := 1024) _ _ (by blk_simp [at_2]; show _ + p.val = _; omega) (by blk_simp [at_2])

theorem blk_4 (t : Fin cfg0.N) (p : Fin 512) (q : Fin 1024) :
    (iblk m c 4 t : Vec Ideal S512x1024 .f32) (ix2 p q) = rd (a := 8192) (b := 1024) (aX m c) (512 * t.val + p) q := by
  blk_simp [iblk]
  rw [aX, ← V_main_arg4 m c]
  exact rd_of (a := 8192) (b := 1024) _ _ (by blk_simp [at_4]; show _ + p.val = _; omega) (by blk_simp [at_4])

theorem blk_6 (t : Fin cfg0.N) (p : Fin 512) (q : Fin 1024) :
    (iblk m c 6 t : Vec Ideal S512x1024 .f32) (ix2 p q) = rd (a := 8192) (b := 1024) (aR m c) (512 * t.val + p) q := by
  blk_simp [iblk]
  rw [aR, ← V_main_arg6 m c]
  exact rd_of (a := 8192) (b := 1024) _ _ (by blk_simp [at_6]; show _ + p.val = _; omega) (by blk_simp [at_6])

theorem blk_3 (t : Fin cfg0.N) : (iblk m c 3 t : Vec Ideal S1024x3072 .bf16) = aW m c := by
  funext j
  obtain ⟨p, q, rfl⟩ : ∃ (p : Fin 1024) (q : Fin 3072), j = ix2 p q := ⟨j 0, j 1, eq_ix2 j⟩
  blk_simp [iblk]
  rw [aW, ← V_main_arg3 m c]
  refine congrArg (V m c main_arg3) (funext fun a => Fin.ext ?_)
  match a with
  | ⟨0, _⟩ => blk_simp [at_3]
  | ⟨1, _⟩ => blk_simp [at_3]

/-- A group of the weights' columns. -/
theorem cols (t : Fin cfg0.N) (o : ℕ) (inb : ∀ a, (![0, o] : Fin 2 → ℕ) a + (S1024x1024.size) a ≤ S1024x3072.size a) (k q : Fin 1024) :
    View.ld (iblk m c 3 t : Vec Ideal S1024x3072 .bf16) (Rect.unit (s := S1024x3072) ![0, o] S1024x1024.size inb) (ix2 k q) = rd (a := 1024) (b := 3072) (aW m c) k (o + q) := by
  rw [blk_3]
  refine (ld_rd (a := 1024) (b := 3072) (aW m c) 0 o inb (ix2 k q)).trans ?_
  show rd _ (0 + k.val) (o + q.val) = _
  rw [Nat.zero_add]

theorem blk_5 (t : Fin cfg0.N) (q : Fin 1024) :
    (iblk m c 5 t : Vec Ideal S1x1x1024 .f32) (ix3 0 0 q) = rd (a := 2) (b := 1024) (aC m c) (t.val / 8) q := by
  have e : V m c main_v0 = broadcastInDim S2x1x1024 ![0, 2] bcast_S2x1024_S2x1x1024_0_2 (m ((c : Thread nD τ).loc main_arg5)) := by
    unfold V hostOps0
    after_results
  blk_simp [iblk]
  show V m c main_v0 _ = _
  rw [e]
  pointwise
  exact rd_of (a := 2) (b := 1024) _ _ (by blk_simp [at_5]; exact Nat.add_zero _) (by blk_simp [at_5])

/-! ## What a point leaves -/

/-- The point's group of the weights' columns. -/
abbrev wt (t : Fin cfg0.N) (o : ℕ) (inb : ∀ a, (![0, o] : Fin 2 → ℕ) a + (S1024x1024.size) a ≤ S1024x3072.size a) : Vec Ideal S1024x1024 .bf16 :=
  View.ld (iblk m c 3 t : Vec Ideal S1024x3072 .bf16) (Rect.unit (s := S1024x3072) ![0, o] S1024x1024.size inb)

/-- A point's rows of the cotangent of the modulated rows. -/
theorem dh_tile (t : Fin cfg0.N) (i0 i1 i2) (p : Fin 512) (k : Fin 1024) :
    k0_pay5 (iblk m c 0 t) (wt m c t 0 i0) (iblk m c 1 t) (wt m c t 1024 i1) (iblk m c 2 t) (wt m c t 2048 i2) (ix2 p k)
      = dh (aA m c) (aB m c) (aE m c) (aW m c) (512 * t.val + p) k :=
  pay5 _ _ _ _ _ _ _ _ _ _ p _ k (blk_0 m c t p) (blk_1 m c t p) (blk_2 m c t p) (cols m c t 0 i0 k) (cols m c t 1024 i1 k) (cols m c t 2048 i2 k)

theorem dx_tile (t : Fin cfg0.N) (i0 i1 i2) (p : Fin 512) (q : Fin 1024) :
    k0_pay6 (iblk m c 0 t) (wt m c t 0 i0) (iblk m c 1 t) (wt m c t 1024 i1) (iblk m c 2 t) (wt m c t 2048 i2) (iblk m c 6 t) (iblk m c 5 t) (ix2 p q)
      = dx (aA m c) (aB m c) (aE m c) (aW m c) (aC m c) (aR m c) (512 * t.val + p) q := by
  rw [pay6, dh_tile, blk_6, blk_5, dx, show (512 * t.val + p.val) / 4096 = t.val / 8 by omega]

/-- What a point leaves of the cotangent of the rows. -/
theorem tile_7 (t : Fin cfg0.N) (p : Fin 512) (q : Fin 1024) :
    ((dats m 0 c).after 7 t : Vec Ideal S512x1024 .f32) (ix2 p q) = dx (aA m c) (aB m c) (aE m c) (aW m c) (aC m c) (aR m c) (512 * t.val + p) q := by
  rw [after0_7]
  by_cases h0 : t.val % 8 = 0
  · rw [outsAt0_A m c t h0]
    frame_out
    exact dx_tile m c t _ _ _ p q
  · rw [outsAt0_B m c t h0]
    frame_out
    exact dx_tile m c t _ _ _ p q

/-- What a point adds to the cotangent of the shift. -/
def term8 (n : ℕ) (q : Fin 1024) : EReal := ∑ r ∈ Finset.range 512, dh (aA m c) (aB m c) (aE m c) (aW m c) (512 * n + r) q
/-- What a point adds to the cotangent of the scale. -/
def term9 (n : ℕ) (q : Fin 1024) : EReal :=
  ∑ r ∈ Finset.range 512, dh (aA m c) (aB m c) (aE m c) (aW m c) (512 * n + r) q * rd (a := 8192) (b := 1024) (aX m c) (512 * n + r) q

theorem term_8 (t : Fin cfg0.N) (y : FVec Ideal S512x1024 .f32) (a : Vec Ideal S1x1x1024 .f32) (q : Fin 1024)
    (hy : ∀ (p : Fin 512) (q : Fin 1024), y (ix2 p q) = dh (aA m c) (aB m c) (aE m c) (aW m c) (512 * t.val + p) q) :
    k0_pay3 y a (ix3 0 0 q) = a (ix3 0 0 q) + term8 m c t.val q := by
  rw [pay3, term8, Finset.sum_range]
  simp only [hy]

theorem term_9 (t : Fin cfg0.N) (y : FVec Ideal S512x1024 .f32) (a : Vec Ideal S1x1x1024 .f32) (q : Fin 1024)
    (hy : ∀ (p : Fin 512) (q : Fin 1024), y (ix2 p q) = dh (aA m c) (aB m c) (aE m c) (aW m c) (512 * t.val + p) q) :
    k0_pay4 y a (iblk m c 4 t) (ix3 0 0 q) = a (ix3 0 0 q) + term9 m c t.val q := by
  rw [pay4, term9, Finset.sum_range]
  simp only [hy, blk_4]

/-- The accumulator of the cotangent of the shift after a point: the sum over the sequence's points so far. -/
theorem acc_8 (t : Fin cfg0.N) (q : Fin 1024) :
    ((outsAt0 m c t.val t.isLt).2.1 (ix3 0 0 q) : EReal) = 0 + ∑ s ∈ Finset.range (t.val % 8 + 1), term8 m c (8 * (t.val / 8) + s) q := by
  refine Pipeline.eq_sum_of_reset_step_apply (M := EReal) (fun n h (q : Fin 1024) => (outsAt0 m c n h).2.1 (ix3 0 0 q)) 8 (fun _ => 0)
    (fun t q => term8 m c t q) ?_ ?_ t q
  · intro t h1 q
    rw [outsAt0_A m c t h1]
    frame_out
    rw [term_8 m c t _ _ _ (dh_tile m c t _ _ _), zero_1]
  · intro t h1 q
    rw [outsAt0_B m c t h1]
    frame_out
    rw [term_8 m c t _ _ _ (dh_tile m c t _ _ _)]

/-- The sequence's eight points together. -/
theorem last_8 (t : Fin cfg0.N) (ht : t.val % 8 = 7) (q : Fin 1024) :
    ((dats m 0 c).after 8 t : Vec Ideal S1x1x1024 .f32) (ix3 0 0 q) = dsh (aA m c) (aB m c) (aE m c) (aW m c) (t.val / 8) q := by
  rw [after0_8]
  refine (acc_8 m c t q).trans ?_
  rw [ht, zero_add]
  refine Eq.trans ?_ (Finset.sum_range_range_mul_add 8 512 fun r => dh (aA m c) (aB m c) (aE m c) (aW m c) (4096 * (t.val / 8) + r) q)
  refine Finset.sum_congr rfl fun s hs => Finset.sum_congr rfl fun r hr => ?_
  rw [show 512 * (8 * (t.val / 8) + s) + r = 4096 * (t.val / 8) + (s * 512 + r) by omega]

/-- The accumulator of the cotangent of the scale after a point: the sum over the sequence's points so far. -/
theorem acc_9 (t : Fin cfg0.N) (q : Fin 1024) :
    ((outsAt0 m c t.val t.isLt).2.2 (ix3 0 0 q) : EReal) = 0 + ∑ s ∈ Finset.range (t.val % 8 + 1), term9 m c (8 * (t.val / 8) + s) q := by
  refine Pipeline.eq_sum_of_reset_step_apply (M := EReal) (fun n h (q : Fin 1024) => (outsAt0 m c n h).2.2 (ix3 0 0 q)) 8 (fun _ => 0)
    (fun t q => term9 m c t q) ?_ ?_ t q
  · intro t h1 q
    rw [outsAt0_A m c t h1]
    frame_out
    rw [term_9 m c t _ _ _ (dh_tile m c t _ _ _), zero_2]
  · intro t h1 q
    rw [outsAt0_B m c t h1]
    frame_out
    rw [term_9 m c t _ _ _ (dh_tile m c t _ _ _)]

/-- The sequence's eight points together. -/
theorem last_9 (t : Fin cfg0.N) (ht : t.val % 8 = 7) (q : Fin 1024) :
    ((dats m 0 c).after 9 t : Vec Ideal S1x1x1024 .f32) (ix3 0 0 q) = dsc (aA m c) (aB m c) (aE m c) (aW m c) (aX m c) (t.val / 8) q := by
  rw [after0_9]
  refine (acc_9 m c t q).trans ?_
  rw [ht, zero_add]
  refine Eq.trans ?_ (Finset.sum_range_range_mul_add 8 512 fun r => dh (aA m c) (aB m c) (aE m c) (aW m c) (4096 * (t.val / 8) + r) q
    * rd (a := 8192) (b := 1024) (aX m c) (4096 * (t.val / 8) + r) q)
  refine Finset.sum_congr rfl fun s hs => Finset.sum_congr rfl fun r hr => ?_
  rw [show 512 * (8 * (t.val / 8) + s) + r = 4096 * (t.val / 8) + (s * 512 + r) by omega]

/-- What the kernel leaves: the cotangent of the rows. -/
theorem final_7 : (dats m 0 c).arrAt 7 cfg0.N = fun j : S8192x1024.Idx => dx (aA m c) (aB m c) (aE m c) (aW m c) (aC m c) (aR m c) (j 0).val (j 1).val := by
  refine (dats m 0 c).arrAt_eq_of_covers 7 _ (by decide +kernel) fun t hf y => ?_
  blk_simp [at_7]
  obtain ⟨p, q, rfl⟩ : ∃ (p : Fin 512) (q : Fin 1024), y = ix2 p q := ⟨y 0, y 1, eq_ix2 y⟩
  refine (tile_7 m c t p q).trans ?_
  show dx _ _ _ _ _ _ _ q.val = dx _ _ _ _ _ _ (t.val * 512 + p.val) _
  rw [Nat.mul_comm]
  simp

theorem one_rows (y : S1x1x1024.Idx) : y = ix3 (n0 := 1) (n1 := 1) 0 0 (y 2) := funext fun a =>
  match a with
  | ⟨0, _⟩ => Subsingleton.elim (α := Fin 1) (y 0) 0
  | ⟨1, _⟩ => Subsingleton.elim (α := Fin 1) (y 1) 0
  | ⟨2, _⟩ => rfl

/-- What the kernel leaves: the cotangent of the shift. -/
theorem final_8 : (dats m 0 c).arrAt 8 cfg0.N = fun j : S2x1x1024.Idx => dsh (aA m c) (aB m c) (aE m c) (aW m c) (j 0).val (j 2).val := by
  refine (dats m 0 c).arrAt_eq_of_covers 8 _ (by decide +kernel) fun t hf y => ?_
  have h := last_8 m c t ((flush0_8 t).mp hf) (y 2)
  have e0 : win0_8.index t 0 = t.val / 8 := congrFun (at_8 t) 0
  have e2 : win0_8.index t 2 = 0 := congrFun (at_8 t) 2
  blk_simp
  rw [e0, e2, Nat.zero_mul, Nat.zero_add]
  exact (congrArg ((dats m 0 c).after 8 t : Vec Ideal S1x1x1024 .f32) (one_rows y)).trans h

/-- What the kernel leaves: the cotangent of the scale. -/
theorem final_9 : (dats m 0 c).arrAt 9 cfg0.N = fun j : S2x1x1024.Idx => dsc (aA m c) (aB m c) (aE m c) (aW m c) (aX m c) (j 0).val (j 2).val := by
  refine (dats m 0 c).arrAt_eq_of_covers 9 _ (by decide +kernel) fun t hf y => ?_
  have h := last_9 m c t ((flush0_9 t).mp hf) (y 2)
  have e0 : win0_9.index t 0 = t.val / 8 := congrFun (at_9 t) 0
  have e2 : win0_9.index t 2 = 0 := congrFun (at_9 t) 2
  blk_simp
  rw [e0, e2, Nat.zero_mul, Nat.zero_add]
  exact (congrArg ((dats m 0 c).after 9 t : Vec Ideal S1x1x1024 .f32) (one_rows y)).trans h

theorem two_rows (j : S2x1x1024.Idx) : j = ix3 (n0 := 2) (n1 := 1) (j 0) 0 (j 2) := funext fun a =>
  match a with
  | ⟨0, _⟩ => rfl
  | ⟨1, _⟩ => Subsingleton.elim (α := Fin 1) (j 1) 0
  | ⟨2, _⟩ => rfl

/-! ## The reference -/

section Ref
open Cert.ReferenceOddInBwdIdeal.Read

variable (A B E : S8192x1024.Idx → EReal) (W : S1024x3072.Idx → EReal) (X : S8192x1024.Idx → EReal) (C : S2x1024.Idx → EReal) (R : S8192x1024.Idx → EReal)

theorem ref_row (G : S8192x1024.Idx → EReal) (s : Fin 2) (p : Fin 4096) (q : Fin 1024) : val_main_v1 (F := Ideal) G (ix3 s p q) = rd (a := 8192) (b := 1024) G (4096 * s + p) q := by
  rw [val_main_v1_apply]
  exact rd_of (a := 8192) (b := 1024) G _ (show ((s.val * 4096 + p.val) * 1024 + q.val) / 1024 = 4096 * s.val + p.val by omega)
    (show ((s.val * 4096 + p.val) * 1024 + q.val) % 1024 = q.val by omega)

/-- The three cotangents side by side. -/
theorem ref_ct (s : Fin 2) (p : Fin 4096) (q : Fin 3072) : val_main_v18 (F := Ideal) A B E (ix3 s p q) = ct A B E (4096 * s + p) q := by
  unfold val_main_v18
  pointwise
  split
  · next h => exact (ref_row A s p ⟨q.val, h⟩).trans (if_pos h).symm
  · next h =>
    split
    · next h' =>
      exact (ref_row B s p ⟨q.val - 1024, h'⟩).trans (((if_neg h).trans (if_pos (by omega))).symm)
    · next h' =>
      exact (ref_row E s p ⟨q.val - 1024 - 1024, by omega⟩).trans ((congrArg (rd (a := 8192) (b := 1024) E _) (by omega : q.val - 1024 - 1024 = q.val - 2048)).trans ((if_neg h).trans (if_neg (by omega))).symm)

theorem ref_dh (s : Fin 2) (p : Fin 4096) (k : Fin 1024) : val_main_v19 (F := Ideal) A B E W (ix3 s p k) = dh A B E W (4096 * s + p) k := by
  rw [val_main_v19_apply, dh, Finset.sum_range]
  refine Finset.sum_congr rfl fun j _ => ?_
  refine congrArg₂ HMul.hMul ?_ ?_
  · exact (congrArg (val_main_v18 (F := Ideal) A B E) (eq_ix3 _)).trans (ref_ct A B E s p j)
  · exact rd_of (a := 1024) (b := 3072) W _ rfl rfl

theorem zero_word : (FloatOps.ofBits (F := Ideal) .f32 0x00000000#32 : EReal) = 0 := by pointwise

theorem one_word : (FloatOps.ofBits (F := Ideal) .f32 0x3F800000#32 : EReal) = 1 := by pointwise

theorem idx_dsh (s : Fin 2) (k : Fin 1024) (p : Fin 4096) :
    idx_main_v20 (idx_main_v21 (idx_main_v22 (idx_main_v31 (ix3 s (0 : Fin 1) k)) 0)) p = ix3 s p k := funext fun a =>
  match a with
  | ⟨0, _⟩ => Fin.ext (show ((s.val * 1 + 0) * 1024 + k.val) / 1024 = s.val by omega)
  | ⟨1, _⟩ => rfl
  | ⟨2, _⟩ => Fin.ext (show ((s.val * 1 + 0) * 1024 + k.val) % 1024 = k.val by omega)

theorem idx_dsc (s : Fin 2) (k : Fin 1024) (p : Fin 4096) :
    idx_main_v24 (idx_main_v25 (idx_main_v28 (idx_main_v32 (ix3 s (0 : Fin 1) k)) 0)) p = ix3 s p k := funext fun a =>
  match a with
  | ⟨0, _⟩ => Fin.ext (show ((s.val * 1 + 0) * 1024 + k.val) / 1024 = s.val by omega)
  | ⟨1, _⟩ => rfl
  | ⟨2, _⟩ => Fin.ext (show ((s.val * 1 + 0) * 1024 + k.val) % 1024 = k.val by omega)

theorem ref_dsh (s : Fin 2) (k : Fin 1024) : val_main_v31 (F := Ideal) A B E W (ix3 s (0 : Fin 1) k) = dsh A B E W s k := by
  rw [val_main_v31_apply, val_main_v22_apply, val_main_cst_2_apply, zero_word, zero_add, Fin.sum_univ_one, val_main_v21_apply, val_main_v20_apply, val_main_cst_1_apply, zero_word, zero_add,
    dsh, Finset.sum_range]
  refine Finset.sum_congr rfl fun p _ => ?_
  rw [idx_dsh]
  exact ref_dh A B E W s p k

theorem ref_dsc (s : Fin 2) (k : Fin 1024) : val_main_v32 (F := Ideal) A B E W X (ix3 s (0 : Fin 1) k) = dsc A B E W X s k := by
  rw [val_main_v32_apply, val_main_v28_apply, val_main_cst_4_apply, zero_word, zero_add, Fin.sum_univ_one, val_main_v25_apply, val_main_v24_apply, val_main_cst_3_apply, zero_word, zero_add,
    dsc, Finset.sum_range]
  refine Finset.sum_congr rfl fun p _ => ?_
  rw [idx_dsc, val_main_v23_apply, ref_row, ref_dh A B E W s p k]
  exact mul_comm _ _

theorem ref_dx (s : Fin 2) (p : Fin 4096) (k : Fin 1024) :
    val_main_v27 (F := Ideal) A B E W C (ix3 s p k) = dh A B E W (4096 * s + p) k * (1 + rd (a := 2) (b := 1024) C ((4096 * s + p) / 4096) k) := by
  rw [val_main_v27_apply, val_main_v26_apply, val_main_v4_apply, val_main_v3_apply, val_main_cst_0_apply, val_main_v2_apply, one_word, ref_dh A B E W s p k]
  have h2 : C (idx_main_v2 (idx_main_v26 (ix3 s p k))) = rd (a := 2) (b := 1024) C ((4096 * s + p) / 4096) k :=
    rd_of (a := 2) (b := 1024) C _ (show s.val = (4096 * s.val + p.val) / 4096 by omega) rfl
  rw [h2]
  rfl

/-- The reference's cotangent of the rows by row. -/
theorem rows_dx : val_main_v30 (F := Ideal) A B E W C R = fun j : S8192x1024.Idx => dx A B E W C R (j 0).val (j 1).val := by
  funext j
  have hr : (j 0).val < 8192 := (j 0).isLt
  have hq : (j 1).val < 1024 := (j 1).isLt
  have e : idx_main_v29 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v30_apply, val_main_v29_apply, e, dx]
  refine congrArg₂ HAdd.hAdd (rd_of (a := 8192) (b := 1024) R j rfl rfl) ?_
  refine (ref_dx A B E W C _ _ _).trans ?_
  show dh _ _ _ _ (4096 * ((j 0).val / 4096) + (j 0).val % 4096) _ * (1 + rd _ ((4096 * ((j 0).val / 4096) + (j 0).val % 4096) / 4096) _) = _
  rw [Nat.div_add_mod]

end Ref

variable {A B E : S8192x1024.Idx → EReal} {W : S1024x3072.Idx → EReal} {X : S8192x1024.Idx → EReal} {C : S2x1024.Idx → EReal} {R : S8192x1024.Idx → EReal}
open Cert.ReferenceOddInBwdIdeal.Read

section Outs
variable (h0 : m ((c : Thread nD τ).loc main_arg0) = A) (h1 : m ((c : Thread nD τ).loc main_arg1) = B) (h2 : m ((c : Thread nD τ).loc main_arg2) = E)
  (h3 : m ((c : Thread nD τ).loc main_arg3) = W)
include h0 h1 h2 h3

theorem out0 (h5 : m ((c : Thread nD τ).loc main_arg5) = C) (h6 : m ((c : Thread nD τ).loc main_arg6) = R) : (dats m 0 c).arrAt 7 cfg0.N = val_main_v30 (F := Ideal) A B E W C R := by
  subst h0 h1 h2 h3 h5 h6
  rw [final_7, rows_dx]

theorem out1 : (dats m 0 c).arrAt 8 cfg0.N = val_main_v31 (F := Ideal) A B E W := by
  subst h0 h1 h2 h3
  rw [final_8]
  funext j
  obtain ⟨s, k, rfl⟩ : ∃ (s : Fin 2) (k : Fin 1024), j = ix3 s (0 : Fin 1) k := ⟨j 0, j 2, two_rows j⟩
  exact (ref_dsh _ _ _ _ s k).symm

theorem out2 (h4 : m ((c : Thread nD τ).loc main_arg4) = X) : (dats m 0 c).arrAt 9 cfg0.N = val_main_v32 (F := Ideal) A B E W X := by
  subst h0 h1 h2 h3 h4
  rw [final_9]
  funext j
  obtain ⟨s, k, rfl⟩ : ∃ (s : Fin 2) (k : Fin 1024), j = ix3 s (0 : Fin 1) k := ⟨j 0, j 2, two_rows j⟩
  exact (ref_dsc _ _ _ _ _ s k).symm

end Outs

/-- The kernel and the reference leave the same. -/
theorem value : Cert.algebraic_OddInBwdIdeal_ReferenceOddInBwdIdeal := by
  intro m g m' g' _ he
  refine ⟨fun c => (dats m 0 c).arrAt 7 cfg0.N, fun c => (dats m 0 c).arrAt 8 cfg0.N, fun c => (dats m 0 c).arrAt 9 cfg0.N, ?_, ?_⟩
  · exact (θ_run defs _ _).mono (fun r h c => ⟨(h c).1 7, (h c).1 8, (h c).1 9,
      ((h c).1 0).trans (((dats m 0 c).arrAt_in 0 rfl _).trans ((rfl).trans (V_main_arg0 m c))),
      ((h c).1 1).trans (((dats m 0 c).arrAt_in 1 rfl _).trans ((rfl).trans (V_main_arg1 m c))),
      ((h c).1 2).trans (((dats m 0 c).arrAt_in 2 rfl _).trans ((rfl).trans (V_main_arg2 m c))),
      ((h c).1 3).trans (((dats m 0 c).arrAt_in 3 rfl _).trans ((rfl).trans (V_main_arg3 m c))),
      ((h c).1 4).trans (((dats m 0 c).arrAt_in 4 rfl _).trans ((rfl).trans (V_main_arg4 m c))),
      ((h c).2 main_arg5 (Pipeline.mem_restRefs_of main_arg5 (by decide) (by decide))).trans (V_main_arg5 m c),
      ((h c).1 6).trans (((dats m 0 c).arrAt_in 6 rfl _).trans ((rfl).trans (V_main_arg6 m c)))⟩) (run_main (F := Ideal) m g)
  · refine (θ_run Cert.ReferenceOddInBwdIdeal.defs _ _).mono (fun r h c => ?_) (Cert.ReferenceOddInBwdIdeal.Value.run (F := Ideal) m' g')
    obtain ⟨h0, h1, h2, ha⟩ := h c
    obtain ⟨e0, e1, e2, e3, e4, e5, e6⟩ := he c
    exact ⟨h0.trans ((Cert.ReferenceOddInBwdIdeal.Read.val_main_v30_eq _ _ _ _ _ _).trans (Cert.OddInBwdV.out0 m c e0.symm e1.symm e2.symm e3.symm e5.symm e6.symm).symm), h1.trans ((Cert.ReferenceOddInBwdIdeal.Read.val_main_v31_eq _ _ _ _).trans (Cert.OddInBwdV.out1 m c e0.symm e1.symm e2.symm e3.symm).symm), h2.trans ((Cert.ReferenceOddInBwdIdeal.Read.val_main_v32_eq _ _ _ _ _).trans (Cert.OddInBwdV.out2 m c e0.symm e1.symm e2.symm e3.symm e4.symm).symm), ha⟩

end Cert.OddInBwdV
-- ==== Proof.Finite.lean ====
/-  Real values among the extended reals: what keeps a value real, the laws that hold there, and the preconditions read back.  -/
module
public import proofs.«01_k».proof.Pre_ffn_finite
public import proofs.«01_k».proof.Proof.Gen.Pre_ffn_finite
public import proofs.«01_k».proof.Proof.Taps
public import Idealize.ShloMosaic.Lib.Pointwise
public import Idealize.ShloMosaic.Lib.ReduceAll
@[expose] public section
noncomputable section
namespace Cert.Real
open Idealize.ShloMosaic Cert.Conf

/-- The value is a real number. -/
def IsReal (a : EReal) : Prop := ∃ r : ℝ, a = (r : EReal)

theorem real_zero : IsReal 0 := ⟨0, rfl⟩
theorem real_one : IsReal 1 := ⟨1, rfl⟩
theorem IsReal.add {a b : EReal} : IsReal a → IsReal b → IsReal (a + b) := by
  rintro ⟨x, rfl⟩ ⟨y, rfl⟩
  exact ⟨x + y, (EReal.coe_add x y).symm⟩
theorem IsReal.sub {a b : EReal} : IsReal a → IsReal b → IsReal (a - b) := by
  rintro ⟨x, rfl⟩ ⟨y, rfl⟩
  exact ⟨x - y, (EReal.coe_sub x y).symm⟩
theorem IsReal.mul {a b : EReal} : IsReal a → IsReal b → IsReal (a * b) := by
  rintro ⟨x, rfl⟩ ⟨y, rfl⟩
  exact ⟨x * y, (EReal.coe_mul x y).symm⟩
theorem real_sum {ι : Type} (s : Finset ι) (f : ι → EReal) (h : ∀ i ∈ s, IsReal (f i)) : IsReal (∑ i ∈ s, f i) :=
  Finset.sum_induction f IsReal (fun _ _ => IsReal.add) real_zero h

theorem real_rd {a b : ℕ} (X : (⟨2, ![a, b]⟩ : Shape).Idx → EReal) (h : ∀ i, IsReal (X i)) (p q : ℕ) : IsReal (rd X p q) := by
  unfold rd
  split
  · exact h _
  · exact real_zero

/-- The logistic function of a real number is real. -/
theorem IsReal.logistic {a : EReal} : IsReal a → IsReal (Ideal.logistic a) := by
  rintro ⟨x, rfl⟩
  have e : (1 : EReal) + Ideal.exp (-(x : EReal)) = ((1 + Real.exp (-x) : ℝ) : EReal) := by
    rw [← EReal.coe_neg, Ideal.exp_coe, EReal.coe_add]
    rfl
  have hp : (1 + Real.exp (-x) : ℝ) ≠ 0 := by positivity
  unfold Ideal.logistic
  rw [e, Ideal.div_coe hp]
  exact real_one.mul ⟨_, rfl⟩

/-- The derivative of `g ↦ g · logistic g` in its two spellings. -/
theorem gate_grad {p g s : EReal} (hp : IsReal p) (hg : IsReal g) (hs : IsReal s) :
    p * s * (1 + g * (1 - s)) = p * s + g * p * (s * (1 - s)) := by
  obtain ⟨x, rfl⟩ := hp
  obtain ⟨y, rfl⟩ := hg
  obtain ⟨z, rfl⟩ := hs
  have h1 : (1 : EReal) = ((1 : ℝ) : EReal) := rfl
  rw [h1]
  norm_cast
  congr 1
  ring

theorem real_of_lt {a : EReal} (h : max a (-a) < ⊤) : IsReal a := by
  induction a with
  | bot => simp at h
  | top => simp at h
  | coe x => exact ⟨x, rfl⟩

/-- An array whose every absolute value compares below infinity is an array of real numbers. -/
theorem real_of_all {s t u : Shape} {axes : List (Fin s.rank)} [Subsingleton t.Idx] (φ : FTy) (X : FVec Ideal s φ) (v : FVec Ideal s φ)
    (hv : ∀ i, (v i : EReal) = ⊤) (k : u.Idx → BitVec 1) (hr : s.ReducesTo axes t) (hu : 0 < u.numel) (j : t.Idx)
    (h : Host.reduce IntOp.andi (cmpf .olt (Host.absf X) v) k hr hu j = 1#1) (i : s.Idx) : IsReal (X i) := by
  have e := Host.reduce_andi_all _ k hr hu j h i
  have e : BitVec.ofBool (decide (max (X i : EReal) (-(X i : EReal)) < (v i : EReal))) = 1#1 := e
  rw [hv] at e
  refine real_of_lt ?_
  by_contra hn
  rw [decide_eq_false hn] at e
  exact absurd e (by decide)

theorem top_f32 : (FloatOps.ofBits (F := Ideal) .f32 0x7F800000#32 : EReal) = ⊤ := by
  show Ideal.ofBits .f32 0x7F800000#32 = ⊤
  simp [Ideal.ofBits, Ideal.ieee]
theorem top_bf16 : (FloatOps.ofBits (F := Ideal) .bf16 0x7F80#16 : EReal) = ⊤ := by
  show Ideal.ofBits .bf16 0x7F80#16 = ⊤
  simp [Ideal.ofBits, Ideal.ieee]

instance : Subsingleton (⟨0, ![]⟩ : Shape).Idx := ⟨fun a b => funext fun i => i.elim0⟩

theorem andi_eq {s : Shape} (a b : IVec s 1) (i : s.Idx) (h : andi a b i = 1#1) : a i = 1#1 ∧ b i = 1#1 := IntOp.andi_eq_one.1 h

open Cert.Pre_ffn_finite in
/-- The precondition of the backward input product, read back: its arguments are arrays of real numbers. -/
theorem ffn_finite (x0 : FVec Ideal S8192x1024 .f32) (x1 x2 : FVec Ideal S2x1024 .f32) (x3 : FVec Ideal S1024x5632 .bf16) (x4 : FVec Ideal S8192x2816 .bf16) (x5 : FVec Ideal S8192x1024 .f32)
    (h : Cert.Pre_ffn_finite.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) := by
  have h := congrFun h (fun a => a.elim0)
  unfold fn fn_part1 at h
  obtain ⟨h, h4⟩ := andi_eq _ _ _ h
  obtain ⟨h, h3⟩ := andi_eq _ _ _ h
  obtain ⟨h, h2⟩ := andi_eq _ _ _ h
  obtain ⟨h0, h1⟩ := andi_eq _ _ _ h
  exact ⟨real_of_all _ _ _ (fun _ => top_f32) _ _ _ _ h0, real_of_all _ _ _ (fun _ => top_f32) _ _ _ _ h1, real_of_all _ _ _ (fun _ => top_f32) _ _ _ _ h2,
    real_of_all _ _ _ (fun _ => top_bf16) _ _ _ _ h3, real_of_all _ _ _ (fun _ => top_bf16) _ _ _ _ h4⟩

end Cert.Real
-- ==== Proof.FfnUpBwdValue.lean ====
/-  The backward pass through the feed-forward input product, its gate and its modulation: what the kernel leaves, and that the reference leaves it.  -/
module
public import proofs.«01_k».proof.Defs
public import proofs.«01_k».proof.Proof.Gen.FfnUpBwdIdeal.Frame
public import proofs.«01_k».proof.Proof.Gen.ReferenceFfnUpBwdIdeal.Read
public import proofs.«01_k».proof.Proof.FfnUpValue
public import proofs.«01_k».proof.Proof.Finite
public import Idealize.ShloMosaic.Lib.Pointwise
public import Idealize.ShloMosaic.Lib.Pipeline.ReadBack
public import Idealize.ShloMosaic.Lib.Pipeline.ValueKit
@[expose] public section
noncomputable section
namespace Cert.FfnUpBwdV
open Idealize.ShloMosaic Idealize.ShloMosaic.TcCoe Idealize.ShloMosaic.StableHlo Idealize.ShloMosaic.Tactic Cert.FfnUpBwdIdeal Cert.FfnUpBwdIdeal.Gen Cert.Conf
open Cert.FfnUpV (z)

/-! ## The mathematics, by row -/

section Rows
variable (X : S8192x1024.Idx → EReal) (S C : S2x1024.Idx → EReal) (W : S1024x5632.Idx → EReal) (D : S8192x2816.Idx → EReal)

/-- The cotangent of the gate: that of the gated value, times the value, times the derivative of `g ↦ g · logistic g`. -/
def dgate (r q : ℕ) : EReal :=
  rd (a := 8192) (b := 2816) D r q * z X S C W r (2816 + q) * Ideal.logistic (z X S C W r q) * (1 + z X S C W r q * (1 - Ideal.logistic (z X S C W r q)))

/-- The cotangent of the value. -/
def dval (r q : ℕ) : EReal := rd (a := 8192) (b := 2816) D r q * z X S C W r q * Ideal.logistic (z X S C W r q)

/-- The cotangent of the product: the gate's in the first 2816 columns, the value's in the rest. -/
def dgu (r q : ℕ) : EReal := if q < 2816 then dgate X S C W D r q else dval X S C W D r (q - 2816)

theorem dgu_lo {r q : ℕ} (h : q < 2816) : dgu X S C W D r q = dgate X S C W D r q := if_pos h
theorem dgu_hi (r q : ℕ) : dgu X S C W D r (2816 + q) = dval X S C W D r q := by
  rw [dgu, if_neg (by omega), Nat.add_sub_cancel_left]

/-- The cotangent of the modulated rows. -/
def dh (r k : ℕ) : EReal := ∑ j ∈ Finset.range 5632, dgu X S C W D r j * rd (a := 1024) (b := 5632) W k j

/-- The sum over the product's columns in the kernel's four tiles. -/
theorem four (f : ℕ → EReal) : ∑ j ∈ Finset.range 5632, f j
    = (∑ j ∈ Finset.range 1408, f (0 + j) + ∑ j ∈ Finset.range 1408, f (2816 + 0 + j)) + (∑ j ∈ Finset.range 1408, f (1408 + j) + ∑ j ∈ Finset.range 1408, f (2816 + 1408 + j)) := by
  rw [show 5632 = 1408 + 1408 + (1408 + 1408) by rfl, Finset.sum_range_add, Finset.sum_range_add, Finset.sum_range_add, add_add_add_comm]
  simp only [Nat.zero_add, Nat.add_assoc, Nat.reduceAdd]
  simp only [← Nat.add_assoc, Nat.reduceAdd]

/-! ## The stored values -/

theorem pay4 (v3 v6 v9 : Vec Ideal S256x1408 .bf16) (p : Fin 256) (r o : ℕ) (q : Fin 1408)
    (h3 : v3 (ix2 p q) = z X S C W r (o + q)) (h6 : v6 (ix2 p q) = z X S C W r (2816 + (o + q))) (h9 : v9 (ix2 p q) = rd (a := 8192) (b := 2816) D r (o + q)) :
    k0_pay4 v3 v6 v9 (ix2 p q) = dgate X S C W D r (o + q) := by
  unfold k0_pay4 k0_pay3 k0_pay2 k0_pay1
  pointwise
  rw [h3, h6, h9]
  rfl

theorem pay5 (v3 v9 : Vec Ideal S256x1408 .bf16) (p : Fin 256) (r o : ℕ) (q : Fin 1408)
    (h3 : v3 (ix2 p q) = z X S C W r (o + q)) (h9 : v9 (ix2 p q) = rd (a := 8192) (b := 2816) D r (o + q)) :
    k0_pay5 v3 v9 (ix2 p q) = dval X S C W D r (o + q) := by
  unfold k0_pay5 k0_pay3 k0_pay2 k0_pay1
  pointwise
  rw [h3, h9]
  rfl

theorem pay10 (v3 v6 v9 : Vec Ideal S256x1408 .bf16) : k0_pay10 (k0_pay7 v3) v6 v9 = k0_pay4 v3 v6 v9 := rfl
theorem pay11 (v3 v9 : Vec Ideal S256x1408 .bf16) : k0_pay11 (k0_pay7 v3) v9 = k0_pay5 v3 v9 := rfl
theorem pay12 (y : FVec Ideal S256x1024 .f32) (v3 v6 v9 : Vec Ideal S256x1408 .bf16) (w w' : Vec Ideal S1024x1408 .bf16) :
    k0_pay12 y (k0_pay7 v3) v6 v9 w w' = addf y (k0_pay6 v3 v6 v9 w w') := rfl

/-- One half of the columns' part of the cotangent of the modulated rows. -/
theorem pay6 (v3 v6 v9 : Vec Ideal S256x1408 .bf16) (w w' : Vec Ideal S1024x1408 .bf16) (p : Fin 256) (r o : ℕ) (ho : o + 1408 ≤ 2816) (k : Fin 1024)
    (h3 : ∀ q : Fin 1408, v3 (ix2 p q) = z X S C W r (o + q)) (h6 : ∀ q : Fin 1408, v6 (ix2 p q) = z X S C W r (2816 + (o + q)))
    (h9 : ∀ q : Fin 1408, v9 (ix2 p q) = rd (a := 8192) (b := 2816) D r (o + q))
    (hw : ∀ q : Fin 1408, w (ix2 k q) = rd (a := 1024) (b := 5632) W k (o + q)) (hw' : ∀ q : Fin 1408, w' (ix2 k q) = rd (a := 1024) (b := 5632) W k (2816 + o + q)) :
    k0_pay6 v3 v6 v9 w w' (ix2 p k) = ∑ j ∈ Finset.range 1408, dgu X S C W D r (o + j) * rd (a := 1024) (b := 5632) W k (o + j)
      + ∑ j ∈ Finset.range 1408, dgu X S C W D r (2816 + o + j) * rd (a := 1024) (b := 5632) W k (2816 + o + j) := by
  have e : k0_pay6 v3 v6 v9 w w' (ix2 p k) = ∑ j : Fin 1408, k0_pay4 v3 v6 v9 (ix2 p j) * w (ix2 k j) + ∑ j : Fin 1408, k0_pay5 v3 v9 (ix2 p j) * w' (ix2 k j) := by
    unfold k0_pay6
    pointwise
  rw [e, Finset.sum_range, Finset.sum_range]
  refine congrArg₂ HAdd.hAdd (Finset.sum_congr rfl fun j _ => ?_) (Finset.sum_congr rfl fun j _ => ?_)
  · rw [pay4 X S C W D v3 v6 v9 p r o j (h3 j) (h6 j) (h9 j), hw, dgu_lo _ _ _ _ _ (by omega)]
  · rw [pay5 X S C W D v3 v9 p r o j (h3 j) (h9 j), hw', Nat.add_assoc, dgu_hi]

theorem pay13 (y x7 : Vec Ideal S256x1024 .f32) (x6 : Vec Ideal S1x1x1024 .f32) (p : Fin 256) (q : Fin 1024) :
    k0_pay13 y x7 x6 (ix2 p q) = x7 (ix2 p q) + y (ix2 p q) * (1 + x6 (ix3 0 0 q)) := by
  unfold k0_pay13
  pointwise

theorem pay16 (y : FVec Ideal S256x1024 .f32) (a : Vec Ideal S1x1x1024 .f32) (q : Fin 1024) :
    k0_pay16 y a (ix3 0 0 q) = a (ix3 0 0 q) + ∑ p : Fin 256, y (ix2 p q) := by
  unfold k0_pay16
  pointwise

theorem pay17 (y : FVec Ideal S256x1024 .f32) (a : Vec Ideal S1x1x1024 .f32) (x : Vec Ideal S256x1024 .f32) (q : Fin 1024) :
    k0_pay17 y a x (ix3 0 0 q) = a (ix3 0 0 q) + ∑ p : Fin 256, y (ix2 p q) * x (ix2 p q) := by
  unfold k0_pay17
  pointwise

end Rows

variable (m : (ℓ : Loc nD τ sig) → Buf (Elt Ideal) ℓ) (c : Dev nD)

/-- The arguments. -/
abbrev aX : S8192x1024.Idx → EReal := m ((c : Thread nD τ).loc main_arg0)
abbrev aS : S2x1024.Idx → EReal := m ((c : Thread nD τ).loc main_arg1)
abbrev aC : S2x1024.Idx → EReal := m ((c : Thread nD τ).loc main_arg2)
abbrev aW : S1024x5632.Idx → EReal := m ((c : Thread nD τ).loc main_arg3)
abbrev aD : S8192x2816.Idx → EReal := m ((c : Thread nD τ).loc main_arg4)
abbrev aR : S8192x1024.Idx → EReal := m ((c : Thread nD τ).loc main_arg5)

/-- The gate the kernel is given. -/
theorem V_gate : V m c main_v14 = fun j : S8192x2816.Idx => z (aX m c) (aS m c) (aC m c) (aW m c) (j 0).val (j 1).val := by
  have e : V m c main_v14 = Cert.ReferenceFfnUpIdeal.Read.val_main_v18 (F := Ideal) (aX m c) (aS m c) (aC m c) (aW m c) := by
    unfold V hostOps0
    after_results
    rfl
  rw [e, Cert.FfnUpV.rows_gate]

/-- The value the kernel is given. -/
theorem V_up : V m c main_v16 = fun j : S8192x2816.Idx => z (aX m c) (aS m c) (aC m c) (aW m c) (j 0).val (2816 + (j 1).val) := by
  have e : V m c main_v16 = Cert.ReferenceFfnUpIdeal.Read.val_main_v20 (F := Ideal) (aX m c) (aS m c) (aC m c) (aW m c) := by
    unfold V hostOps0
    after_results
    rfl
  rw [e, Cert.FfnUpV.rows_value]

theorem at_0 : ∀ t : Fin cfg0.N, win0_0.index t = ![t.val, 0] := (by decide +kernel : ∀ t : Fin grid0.N, _)
theorem at_1 : ∀ t : Fin cfg0.N, win0_1.index t = ![t.val, 0] := (by decide +kernel : ∀ t : Fin grid0.N, _)
theorem at_2 : ∀ t : Fin cfg0.N, win0_2.index t = ![t.val, 0] := (by decide +kernel : ∀ t : Fin grid0.N, _)
theorem at_3 : ∀ t : Fin cfg0.N, win0_3.index t = ![t.val, 0] := (by decide +kernel : ∀ t : Fin grid0.N, _)
theorem at_4 : ∀ t : Fin cfg0.N, win0_4.index t = ![t.val / 16, 0, 0] := (by decide +kernel : ∀ t : Fin grid0.N, _)
theorem at_5 : ∀ t : Fin cfg0.N, win0_5.index t = ![t.val, 0] := (by decide +kernel : ∀ t : Fin grid0.N, _)
theorem at_6 : ∀ t : Fin cfg0.N, win0_6.index t = ![t.val, 0] := (by decide +kernel : ∀ t : Fin grid0.N, _)
theorem at_7 : ∀ t : Fin cfg0.N, win0_7.index t = ![t.val, 0] := (by decide +kernel : ∀ t : Fin grid0.N, _)
theorem at_8 : ∀ t : Fin cfg0.N, win0_8.index t = ![t.val / 16, 0, 0] := (by decide +kernel : ∀ t : Fin grid0.N, _)
theorem at_9 : ∀ t : Fin cfg0.N, win0_9.index t = ![t.val / 16, 0, 0] := (by decide +kernel : ∀ t : Fin grid0.N, _)

theorem blk_0 (t : Fin cfg0.N) (p : Fin 256) (q : Fin 2816) :
    (iblk m c 0 t : Vec Ideal S256x2816 .bf16) (ix2 p q) = rd (a := 8192) (b := 2816) (aD m c) (256 * t.val + p) q := by
  blk_simp [iblk]
  rw [aD, ← V_main_arg4 m c]
  exact rd_of (a := 8192) (b := 2816) _ _ (by blk_simp [at_0]; show _ + p.val = _; omega) (by blk_simp [at_0])

theorem blk_1 (t : Fin cfg0.N) (p : Fin 256) (q : Fin 2816) :
    (iblk m c 1 t : Vec Ideal S256x2816 .bf16) (ix2 p q) = z (aX m c) (aS m c) (aC m c) (aW m c) (256 * t.val + p) q := by
  blk_simp [iblk]
  show V m c main_v14 _ = _
  rw [V_gate]
  refine congrArg₂ (z (aX m c) (aS m c) (aC m c) (aW m c)) ?_ ?_
  · blk_simp [at_1]; show _ + p.val = _; omega
  · blk_simp [at_1]

theorem blk_2 (t : Fin cfg0.N) (p : Fin 256) (q : Fin 2816) :
    (iblk m c 2 t : Vec Ideal S256x2816 .bf16) (ix2 p q) = z (aX m c) (aS m c) (aC m c) (aW m c) (256 * t.val + p) (2816 + q) := by
  blk_simp [iblk]
  show V m c main_v16 _ = _
  rw [V_up]
  refine congrArg₂ (z (aX m c) (aS m c) (aC m c) (aW m c)) ?_ ?_
  · blk_simp [at_2]; show _ + p.val = _; omega
  · blk_simp [at_2]

theorem blk_3 (t : Fin cfg0.N) (p : Fin 256) (q : Fin 1024) :
    (iblk m c 3 t : Vec Ideal S256x1024 .f32) (ix2 p q) = rd (a := 8192) (b := 1024) (aX m c) (256 * t.val + p) q := by
  blk_simp [iblk]
  rw [aX, ← V_main_arg0 m c]
  exact rd_of (a := 8192) (b := 1024) _ _ (by blk_simp [at_3]; show _ + p.val = _; omega) (by blk_simp [at_3])

theorem blk_4 (t : Fin cfg0.N) (q : Fin 1024) :
    (iblk m c 4 t : Vec Ideal S1x1x1024 .f32) (ix3 0 0 q) = rd (a := 2) (b := 1024) (aC m c) (t.val / 16) q := by
  have e : V m c main_v17 = broadcastInDim S2x1x1024 ![0, 2] bcast_S2x1024_S2x1x1024_0_2 (m ((c : Thread nD τ).loc main_arg2)) := by
    unfold V hostOps0
    after_results
  blk_simp [iblk]
  show V m c main_v17 _ = _
  rw [e]
  pointwise
  exact rd_of (a := 2) (b := 1024) _ _ (by blk_simp [at_4]; exact Nat.add_zero _) (by blk_simp [at_4])

theorem blk_5 (t : Fin cfg0.N) (p : Fin 256) (q : Fin 1024) :
    (iblk m c 5 t : Vec Ideal S256x1024 .f32) (ix2 p q) = rd (a := 8192) (b := 1024) (aR m c) (256 * t.val + p) q := by
  blk_simp [iblk]
  rw [aR, ← V_main_arg5 m c]
  exact rd_of (a := 8192) (b := 1024) _ _ (by blk_simp [at_5]; show _ + p.val = _; omega) (by blk_simp [at_5])

/-! ## The weights the kernel keeps -/

theorem canon_whole (w : S1024x5632.Idx → EReal) : View.canon (Val := Elt Ideal) (e := .bf16) [⟨Rect.whole S1024x5632, w⟩] = w := by
  funext j
  have e : (Rect.whole S1024x5632).emb j = j := funext fun a => Fin.ext (by simp)
  exact (congrArg _ e).symm.trans (View.canon_cons_emb (Val := Elt Ideal) (e := .bf16) (Rect.whole S1024x5632) w [] j)

/-- After every point the scratch holds the weights. -/
theorem kept (n : ℕ) (hn : n < cfg0.N) : (outsAt0 m c n hn).2.2.2.2 = aW m c := by
  have hA : ∀ t : Fin cfg0.N, t.val % 32 = 0 → (outsAt0 m c t.val t.isLt).2.2.2.2 = aW m c := fun t h => by
    rw [outsAt0_A m c t h (by omega)]
    frame_out
    exact (canon_whole _).trans (V_main_arg3 m c)
  induction n with
  | zero => exact hA ⟨0, hn⟩ rfl
  | succ n ih =>
    by_cases h : (n + 1) % 32 = 0
    · exact hA ⟨n + 1, hn⟩ h
    · by_cases h1 : (n + 1) % 16 = 0
      · rw [outsAt0_C m c ⟨n + 1, hn⟩ h h1]
        unfold sout0_C_0
        simp only [Nat.add_sub_cancel]
        exact ih _
      · rw [outsAt0_B m c ⟨n + 1, hn⟩ h h1]
        unfold sout0_B_0
        simp only [Nat.add_sub_cancel]
        exact ih _

/-- A tile of the weights read at the point that has just fetched them. -/
theorem fresh (o : ℕ) (inb : ∀ a, (![0, o] : Fin 2 → ℕ) a + (![1024, 1408] : Fin 2 → ℕ) a ≤ S1024x5632.size a) (k : Fin 1024) (q : Fin 1408) :
    (View.whole cc0_scratch0).readCov
      [⟨Rect.whole S1024x5632, ReadAs.same.apply (View.read (Elt Ideal) (View.whole main_arg3) (V m c main_arg3))⟩]
      (Rect.unit (s := S1024x5632) ![0, o] ![1024, 1408] inb).toLoadRect (ix2 k q) = rd (a := 1024) (b := 5632) (aW m c) k (o + q) := by
  rw [View.readCov_eq_canon']
  refine (congrFun ((canon_whole _).trans (V_main_arg3 m c)) _).trans ?_
  refine (ld_rd (a := 1024) (b := 5632) (aW m c) 0 o inb (ix2 k q)).trans ?_
  show rd _ (0 + k.val) (o + q.val) = _
  rw [Nat.zero_add]

/-- A tile of the weights read at a later point. -/
theorem later (n : ℕ) (hn : n < cfg0.N) (hw : (Memref.whole cc0_scratch0).IsWhole) (o : ℕ)
    (inb : ∀ a, (![0, o] : Fin 2 → ℕ) a + (![1024, 1408] : Fin 2 → ℕ) a ≤ S1024x5632.size a) (k : Fin 1024) (q : Fin 1408) :
    View.ld (View.read (Elt Ideal) (View.whole cc0_scratch0) (hw.unread (outsAt0 m c n hn).2.2.2.2))
      (Rect.unit (s := S1024x5632) ![0, o] ![1024, 1408] inb) (ix2 k q) = rd (a := 1024) (b := 5632) (aW m c) k (o + q) := by
  rw [kept m c n hn]
  refine (congrFun (read_unread_whole cc0_scratch0 hw (m ((c : Thread nD τ).loc main_arg3))) _).trans ?_
  refine (ld_rd (a := 1024) (b := 5632) (aW m c) 0 o inb (ix2 k q)).trans ?_
  show rd _ (0 + k.val) (o + q.val) = _
  rw [Nat.zero_add]

/-! ## What a point leaves -/

/-- A half of the columns of a block. -/
theorem half (b : Vec Ideal S256x2816 .bf16) (o : ℕ) (inb : ∀ a, (![0, o] : Fin 2 → ℕ) a + (![256, 1408] : Fin 2 → ℕ) a ≤ S256x2816.size a) (p : Fin 256) (q : Fin 1408) (h : o + q.val < 2816) :
    View.ld b (Rect.unit (s := S256x2816) ![0, o] ![256, 1408] inb) (ix2 p q) = b (ix2 p ⟨o + q, h⟩) := by
  refine (ld_rd (a := 256) (b := 2816) b 0 o inb (ix2 p q)).trans ?_
  show rd (a := 256) (b := 2816) b (0 + p.val) (o + q.val) = _
  rw [Nat.zero_add, rd_lt (a := 256) (b := 2816) b p.isLt h]

section Half
variable (t : Fin cfg0.N) (o : ℕ) (inb : ∀ a, (![0, o] : Fin 2 → ℕ) a + (![256, 1408] : Fin 2 → ℕ) a ≤ S256x2816.size a)

/-- The half of the block of a point that starts at a column. -/
abbrev part (w : Vec Ideal S256x2816 .bf16) : Vec Ideal S256x1408 .bf16 := View.ld w (Rect.unit (s := S256x2816) ![0, o] ![256, 1408] inb)

include inb in
theorem half_le : o + 1408 ≤ 2816 := inb 1

theorem half_0 (p : Fin 256) (q : Fin 1408) : part o inb (iblk m c 0 t) (ix2 p q) = rd (a := 8192) (b := 2816) (aD m c) (256 * t.val + p) (o + q) :=
  (half _ o inb p q (by have := half_le o inb; omega)).trans (blk_0 m c t p _)
theorem half_1 (p : Fin 256) (q : Fin 1408) : part o inb (iblk m c 1 t) (ix2 p q) = z (aX m c) (aS m c) (aC m c) (aW m c) (256 * t.val + p) (o + q) :=
  (half _ o inb p q (by have := half_le o inb; omega)).trans (blk_1 m c t p _)
theorem half_2 (p : Fin 256) (q : Fin 1408) : part o inb (iblk m c 2 t) (ix2 p q) = z (aX m c) (aS m c) (aC m c) (aW m c) (256 * t.val + p) (2816 + (o + q)) :=
  (half _ o inb p q (by have := half_le o inb; omega)).trans (blk_2 m c t p _)

/-- A tile of the cotangent of the gate. -/
theorem gate_tile (x : S256x1408.Idx) (R Q : ℕ) (hR : R = (x 0).val) (hQ : Q = o + (x 1).val) :
    k0_pay4 (part o inb (iblk m c 1 t)) (part o inb (iblk m c 2 t)) (part o inb (iblk m c 0 t)) x = dgu (aX m c) (aS m c) (aC m c) (aW m c) (aD m c) (256 * t.val + R) Q := by
  subst hR hQ
  have h1 : (x 1).val < 1408 := (x 1).isLt
  have h := half_le o inb
  rw [dgu_lo _ _ _ _ _ (by omega), show x = ix2 (x 0) (x 1) from eq_ix2 x]
  exact pay4 _ _ _ _ _ _ _ _ _ _ _ _ (half_1 m c t o inb _ _) (half_2 m c t o inb _ _) (half_0 m c t o inb _ _)

/-- A tile of the cotangent of the value. -/
theorem val_tile (x : S256x1408.Idx) (R Q : ℕ) (hR : R = (x 0).val) (hQ : Q = 2816 + (o + (x 1).val)) :
    k0_pay5 (part o inb (iblk m c 1 t)) (part o inb (iblk m c 0 t)) x = dgu (aX m c) (aS m c) (aC m c) (aW m c) (aD m c) (256 * t.val + R) Q := by
  subst hR hQ
  rw [dgu_hi, show x = ix2 (x 0) (x 1) from eq_ix2 x]
  exact pay5 _ _ _ _ _ _ _ _ _ _ _ (half_1 m c t o inb _ _) (half_0 m c t o inb _ _)

end Half

/-- The tile of the weights that starts at a column. -/
abbrev IsTile (w : Vec Ideal S1024x1408 .bf16) (o : ℕ) : Prop := ∀ (k : Fin 1024) (q : Fin 1408), w (ix2 k q) = rd (a := 1024) (b := 5632) (aW m c) k (o + q)

/-- A point's rows of the cotangent of the modulated rows. -/
theorem dh_tile (t : Fin cfg0.N) (i0 i1) (w0 w1 w2 w3 : Vec Ideal S1024x1408 .bf16) (h0 : IsTile m c w0 0) (h1 : IsTile m c w1 2816) (h2 : IsTile m c w2 1408) (h3 : IsTile m c w3 4224)
    (p : Fin 256) (k : Fin 1024) :
    k0_pay12 (k0_pay6 (part 0 i0 (iblk m c 1 t)) (part 0 i0 (iblk m c 2 t)) (part 0 i0 (iblk m c 0 t)) w0 w1)
      (k0_pay7 (part 1408 i1 (iblk m c 1 t))) (part 1408 i1 (iblk m c 2 t)) (part 1408 i1 (iblk m c 0 t)) w2 w3 (ix2 p k)
      = dh (aX m c) (aS m c) (aC m c) (aW m c) (aD m c) (256 * t.val + p) k := by
  rw [pay12, dh, four]
  refine congrArg₂ HAdd.hAdd ?_ ?_
  · exact pay6 _ _ _ _ _ _ _ _ _ _ p _ 0 (by omega) k (half_1 m c t 0 i0 p) (half_2 m c t 0 i0 p) (half_0 m c t 0 i0 p) (h0 k) (h1 k)
  · exact pay6 _ _ _ _ _ _ _ _ _ _ p _ 1408 (by omega) k (half_1 m c t 1408 i1 p) (half_2 m c t 1408 i1 p) (half_0 m c t 1408 i1 p) (h2 k) (h3 k)

/-- What a point leaves of the cotangent of the product. -/
theorem tile_6 (t : Fin cfg0.N) (p : Fin 256) (q : Fin 5632) :
    ((dats m 0 c).after 6 t : Vec Ideal S256x5632 .bf16) (ix2 p q) = dgu (aX m c) (aS m c) (aC m c) (aW m c) (aD m c) (256 * t.val + p) q := by
  rw [after0_6]
  by_cases h0 : t.val % 32 = 0
  · rw [outsAt0_A m c t h0 (by omega)]
    frame_out
    canon_tiles x hx
    · have e1 : q.val = 4224 + (x 1).val := hx1
      exact val_tile m c t 1408 _ x _ _ hx0 (by omega)
    · have e1 : q.val = 1408 + (x 1).val := hx1
      exact gate_tile m c t 1408 _ x _ _ hx0 (by omega)
    · have e1 : q.val = 2816 + (x 1).val := hx1
      exact val_tile m c t 0 _ x _ _ hx0 (by omega)
    · have e1 : q.val = (x 1).val := hx1
      exact gate_tile m c t 0 _ x _ _ hx0 (by omega)
  · by_cases h1 : t.val % 16 = 0
    · rw [outsAt0_C m c t h0 h1]
      frame_out
      canon_tiles x hx
      · have e1 : q.val = 4224 + (x 1).val := hx1
        exact val_tile m c t 1408 _ x _ _ hx0 (by omega)
      · have e1 : q.val = 1408 + (x 1).val := hx1
        exact gate_tile m c t 1408 _ x _ _ hx0 (by omega)
      · have e1 : q.val = 2816 + (x 1).val := hx1
        exact val_tile m c t 0 _ x _ _ hx0 (by omega)
      · have e1 : q.val = (x 1).val := hx1
        exact gate_tile m c t 0 _ x _ _ hx0 (by omega)
    · rw [outsAt0_B m c t h0 h1]
      frame_out
      canon_tiles x hx
      · have e1 : q.val = 4224 + (x 1).val := hx1
        exact val_tile m c t 1408 _ x _ _ hx0 (by omega)
      · have e1 : q.val = 1408 + (x 1).val := hx1
        exact gate_tile m c t 1408 _ x _ _ hx0 (by omega)
      · have e1 : q.val = 2816 + (x 1).val := hx1
        exact val_tile m c t 0 _ x _ _ hx0 (by omega)
      · have e1 : q.val = (x 1).val := hx1
        exact gate_tile m c t 0 _ x _ _ hx0 (by omega)

/-- The cotangent of the rows: that of the residual, and that of the modulated rows scaled. -/
def dx (X : S8192x1024.Idx → EReal) (S C : S2x1024.Idx → EReal) (W : S1024x5632.Idx → EReal) (D : S8192x2816.Idx → EReal) (R : S8192x1024.Idx → EReal) (r q : ℕ) : EReal :=
  rd (a := 8192) (b := 1024) R r q + dh X S C W D r q * (1 + rd (a := 2) (b := 1024) C (r / 4096) q)

/-- What a point leaves of the cotangent of the rows. -/
theorem dx_tile (t : Fin cfg0.N) (y : FVec Ideal S256x1024 .f32) (p : Fin 256) (q : Fin 1024)
    (hy : y (ix2 p q) = dh (aX m c) (aS m c) (aC m c) (aW m c) (aD m c) (256 * t.val + p) q) :
    k0_pay13 y (iblk m c 5 t) (iblk m c 4 t) (ix2 p q) = dx (aX m c) (aS m c) (aC m c) (aW m c) (aD m c) (aR m c) (256 * t.val + p) q := by
  rw [pay13, hy, blk_5, blk_4, dx, show (256 * t.val + p.val) / 4096 = t.val / 16 by omega]

theorem tile_7 (t : Fin cfg0.N) (p : Fin 256) (q : Fin 1024) :
    ((dats m 0 c).after 7 t : Vec Ideal S256x1024 .f32) (ix2 p q) = dx (aX m c) (aS m c) (aC m c) (aW m c) (aD m c) (aR m c) (256 * t.val + p) q := by
  rw [after0_7]
  by_cases h0 : t.val % 32 = 0
  · rw [outsAt0_A m c t h0 (by omega)]
    frame_out
    exact dx_tile m c t _ p q (dh_tile m c t _ _ _ _ _ _ (fresh m c 0 _) (fresh m c 2816 _) (fresh m c 1408 _) (fresh m c 4224 _) p q)
  · by_cases h1 : t.val % 16 = 0
    · rw [outsAt0_C m c t h0 h1]
      frame_out
      exact dx_tile m c t _ p q (dh_tile m c t _ _ _ _ _ _ (later m c _ _ _ 0 _) (later m c _ _ _ 2816 _) (later m c _ _ _ 1408 _) (later m c _ _ _ 4224 _) p q)
    · rw [outsAt0_B m c t h0 h1]
      frame_out
      exact dx_tile m c t _ p q (dh_tile m c t _ _ _ _ _ _ (later m c _ _ _ 0 _) (later m c _ _ _ 2816 _) (later m c _ _ _ 1408 _) (later m c _ _ _ 4224 _) p q)

/-- What a point adds to the cotangent of the shift. -/
def term8 (n : ℕ) (q : Fin 1024) : EReal := ∑ r ∈ Finset.range 256, dh (aX m c) (aS m c) (aC m c) (aW m c) (aD m c) (256 * n + r) q
/-- What a point adds to the cotangent of the scale. -/
def term9 (n : ℕ) (q : Fin 1024) : EReal :=
  ∑ r ∈ Finset.range 256, dh (aX m c) (aS m c) (aC m c) (aW m c) (aD m c) (256 * n + r) q * rd (a := 8192) (b := 1024) (aX m c) (256 * n + r) q

theorem term_8 (t : Fin cfg0.N) (y : FVec Ideal S256x1024 .f32) (a : Vec Ideal S1x1x1024 .f32) (q : Fin 1024)
    (hy : ∀ (p : Fin 256) (q : Fin 1024), y (ix2 p q) = dh (aX m c) (aS m c) (aC m c) (aW m c) (aD m c) (256 * t.val + p) q) :
    k0_pay16 y a (ix3 0 0 q) = a (ix3 0 0 q) + term8 m c t.val q := by
  rw [pay16, term8, Finset.sum_range]
  simp only [hy]

theorem term_9 (t : Fin cfg0.N) (y : FVec Ideal S256x1024 .f32) (a : Vec Ideal S1x1x1024 .f32) (q : Fin 1024)
    (hy : ∀ (p : Fin 256) (q : Fin 1024), y (ix2 p q) = dh (aX m c) (aS m c) (aC m c) (aW m c) (aD m c) (256 * t.val + p) q) :
    k0_pay17 y a (iblk m c 3 t) (ix3 0 0 q) = a (ix3 0 0 q) + term9 m c t.val q := by
  rw [pay17, term9, Finset.sum_range]
  simp only [hy, blk_3]

theorem zero_14 (q : Fin 1024) : (k0_pay14 (F := Ideal) (ix3 0 0 q) : EReal) = 0 := by
  unfold k0_pay14
  pointwise
theorem zero_15 (q : Fin 1024) : (k0_pay15 (F := Ideal) (ix3 0 0 q) : EReal) = 0 := by
  unfold k0_pay15
  pointwise

/-- The accumulator of the cotangent of the shift after a point: the sum over the sequence's points so far. -/
theorem acc_8 (t : Fin cfg0.N) (q : Fin 1024) :
    ((outsAt0 m c t.val t.isLt).2.2.1 (ix3 0 0 q) : EReal) = 0 + ∑ s ∈ Finset.range (t.val % 16 + 1), term8 m c (16 * (t.val / 16) + s) q := by
  refine Pipeline.eq_sum_of_reset_step_apply (M := EReal) (fun n h (q : Fin 1024) => (outsAt0 m c n h).2.2.1 (ix3 0 0 q)) 16 (fun _ => 0)
    (fun t q => term8 m c t q) ?_ ?_ t q
  · intro t h1 q
    by_cases h0 : t.val % 32 = 0
    · rw [outsAt0_A m c t h0 h1]
      frame_out
      rw [term_8 m c t _ _ _ (dh_tile m c t _ _ _ _ _ _ (fresh m c 0 _) (fresh m c 2816 _) (fresh m c 1408 _) (fresh m c 4224 _)), zero_14]
    · rw [outsAt0_C m c t h0 h1]
      frame_out
      rw [term_8 m c t _ _ _ (dh_tile m c t _ _ _ _ _ _ (later m c _ _ _ 0 _) (later m c _ _ _ 2816 _) (later m c _ _ _ 1408 _) (later m c _ _ _ 4224 _)), zero_14]
  · intro t h1 q
    rw [outsAt0_B m c t (by omega) h1]
    frame_out
    rw [term_8 m c t _ _ _ (dh_tile m c t _ _ _ _ _ _ (later m c _ _ _ 0 _) (later m c _ _ _ 2816 _) (later m c _ _ _ 1408 _) (later m c _ _ _ 4224 _))]

/-- The accumulator of the cotangent of the scale after a point: the sum over the sequence's points so far. -/
theorem acc_9 (t : Fin cfg0.N) (q : Fin 1024) :
    ((outsAt0 m c t.val t.isLt).2.2.2.1 (ix3 0 0 q) : EReal) = 0 + ∑ s ∈ Finset.range (t.val % 16 + 1), term9 m c (16 * (t.val / 16) + s) q := by
  refine Pipeline.eq_sum_of_reset_step_apply (M := EReal) (fun n h (q : Fin 1024) => (outsAt0 m c n h).2.2.2.1 (ix3 0 0 q)) 16 (fun _ => 0)
    (fun t q => term9 m c t q) ?_ ?_ t q
  · intro t h1 q
    by_cases h0 : t.val % 32 = 0
    · rw [outsAt0_A m c t h0 h1]
      frame_out
      rw [term_9 m c t _ _ _ (dh_tile m c t _ _ _ _ _ _ (fresh m c 0 _) (fresh m c 2816 _) (fresh m c 1408 _) (fresh m c 4224 _)), zero_15]
    · rw [outsAt0_C m c t h0 h1]
      frame_out
      rw [term_9 m c t _ _ _ (dh_tile m c t _ _ _ _ _ _ (later m c _ _ _ 0 _) (later m c _ _ _ 2816 _) (later m c _ _ _ 1408 _) (later m c _ _ _ 4224 _)), zero_15]
  · intro t h1 q
    rw [outsAt0_B m c t (by omega) h1]
    frame_out
    rw [term_9 m c t _ _ _ (dh_tile m c t _ _ _ _ _ _ (later m c _ _ _ 0 _) (later m c _ _ _ 2816 _) (later m c _ _ _ 1408 _) (later m c _ _ _ 4224 _))]

section Sums
variable (X : S8192x1024.Idx → EReal) (S C : S2x1024.Idx → EReal) (W : S1024x5632.Idx → EReal) (D : S8192x2816.Idx → EReal)

/-- The cotangent of the shift: the sum over the sequence's rows. -/
def dsh (b q : ℕ) : EReal := ∑ r ∈ Finset.range 4096, dh X S C W D (4096 * b + r) q
/-- The cotangent of the scale: the sum over the sequence's rows, each times the row. -/
def dsc (b q : ℕ) : EReal := ∑ r ∈ Finset.range 4096, dh X S C W D (4096 * b + r) q * rd (a := 8192) (b := 1024) X (4096 * b + r) q

end Sums

/-- The sequence's sixteen points together. -/
theorem last_8 (t : Fin cfg0.N) (ht : t.val % 16 = 15) (q : Fin 1024) :
    ((dats m 0 c).after 8 t : Vec Ideal S1x1x1024 .f32) (ix3 0 0 q) = dsh (aX m c) (aS m c) (aC m c) (aW m c) (aD m c) (t.val / 16) q := by
  rw [after0_8]
  refine (acc_8 m c t q).trans ?_
  rw [ht, zero_add]
  refine Eq.trans ?_ (Finset.sum_range_range_mul_add 16 256 fun r => dh (aX m c) (aS m c) (aC m c) (aW m c) (aD m c) (4096 * (t.val / 16) + r) q)
  refine Finset.sum_congr rfl fun s hs => Finset.sum_congr rfl fun r hr => ?_
  rw [show 256 * (16 * (t.val / 16) + s) + r = 4096 * (t.val / 16) + (s * 256 + r) by omega]

theorem last_9 (t : Fin cfg0.N) (ht : t.val % 16 = 15) (q : Fin 1024) :
    ((dats m 0 c).after 9 t : Vec Ideal S1x1x1024 .f32) (ix3 0 0 q) = dsc (aX m c) (aS m c) (aC m c) (aW m c) (aD m c) (t.val / 16) q := by
  rw [after0_9]
  refine (acc_9 m c t q).trans ?_
  rw [ht, zero_add]
  refine Eq.trans ?_ (Finset.sum_range_range_mul_add 16 256 fun r => dh (aX m c) (aS m c) (aC m c) (aW m c) (aD m c) (4096 * (t.val / 16) + r) q
    * rd (a := 8192) (b := 1024) (aX m c) (4096 * (t.val / 16) + r) q)
  refine Finset.sum_congr rfl fun s hs => Finset.sum_congr rfl fun r hr => ?_
  rw [show 256 * (16 * (t.val / 16) + s) + r = 4096 * (t.val / 16) + (s * 256 + r) by omega]

/-- What the kernel leaves: the cotangent of the product. -/
theorem final_6 : (dats m 0 c).arrAt 6 cfg0.N = fun j : S8192x5632.Idx => dgu (aX m c) (aS m c) (aC m c) (aW m c) (aD m c) (j 0).val (j 1).val := by
  refine (dats m 0 c).arrAt_eq_of_covers 6 _ (by decide +kernel) fun t hf y => ?_
  blk_simp [at_6]
  obtain ⟨p, q, rfl⟩ : ∃ (p : Fin 256) (q : Fin 5632), y = ix2 p q := ⟨y 0, y 1, eq_ix2 y⟩
  refine (tile_6 m c t p q).trans ?_
  show dgu _ _ _ _ _ _ q.val = dgu _ _ _ _ _ (t.val * 256 + p.val) _
  rw [Nat.mul_comm]
  simp

/-- What the kernel leaves: the cotangent of the rows. -/
theorem final_7 : (dats m 0 c).arrAt 7 cfg0.N = fun j : S8192x1024.Idx => dx (aX m c) (aS m c) (aC m c) (aW m c) (aD m c) (aR m c) (j 0).val (j 1).val := by
  refine (dats m 0 c).arrAt_eq_of_covers 7 _ (by decide +kernel) fun t hf y => ?_
  blk_simp [at_7]
  obtain ⟨p, q, rfl⟩ : ∃ (p : Fin 256) (q : Fin 1024), y = ix2 p q := ⟨y 0, y 1, eq_ix2 y⟩
  refine (tile_7 m c t p q).trans ?_
  show dx _ _ _ _ _ _ _ q.val = dx _ _ _ _ _ _ (t.val * 256 + p.val) _
  rw [Nat.mul_comm]
  simp

theorem one_rows (y : S1x1x1024.Idx) : y = ix3 (n0 := 1) (n1 := 1) 0 0 (y 2) := funext fun a =>
  match a with
  | ⟨0, _⟩ => Subsingleton.elim (α := Fin 1) (y 0) 0
  | ⟨1, _⟩ => Subsingleton.elim (α := Fin 1) (y 1) 0
  | ⟨2, _⟩ => rfl

/-- What the kernel leaves: the cotangent of the shift. -/
theorem final_8 : (dats m 0 c).arrAt 8 cfg0.N = fun j : S2x1x1024.Idx => dsh (aX m c) (aS m c) (aC m c) (aW m c) (aD m c) (j 0).val (j 2).val := by
  refine (dats m 0 c).arrAt_eq_of_covers 8 _ (by decide +kernel) fun t hf y => ?_
  have h := last_8 m c t ((flush0_8 t).mp hf) (y 2)
  have e0 : win0_8.index t 0 = t.val / 16 := congrFun (at_8 t) 0
  have e2 : win0_8.index t 2 = 0 := congrFun (at_8 t) 2
  blk_simp
  rw [e0, e2, Nat.zero_mul, Nat.zero_add]
  exact (congrArg ((dats m 0 c).after 8 t : Vec Ideal S1x1x1024 .f32) (one_rows y)).trans h

/-- What the kernel leaves: the cotangent of the scale. -/
theorem final_9 : (dats m 0 c).arrAt 9 cfg0.N = fun j : S2x1x1024.Idx => dsc (aX m c) (aS m c) (aC m c) (aW m c) (aD m c) (j 0).val (j 2).val := by
  refine (dats m 0 c).arrAt_eq_of_covers 9 _ (by decide +kernel) fun t hf y => ?_
  have h := last_9 m c t ((flush0_9 t).mp hf) (y 2)
  have e0 : win0_9.index t 0 = t.val / 16 := congrFun (at_9 t) 0
  have e2 : win0_9.index t 2 = 0 := congrFun (at_9 t) 2
  blk_simp
  rw [e0, e2, Nat.zero_mul, Nat.zero_add]
  exact (congrArg ((dats m 0 c).after 9 t : Vec Ideal S1x1x1024 .f32) (one_rows y)).trans h

theorem two_rows (j : S2x1x1024.Idx) : j = ix3 (n0 := 2) (n1 := 1) (j 0) 0 (j 2) := funext fun a =>
  match a with
  | ⟨0, _⟩ => rfl
  | ⟨1, _⟩ => Subsingleton.elim (α := Fin 1) (j 1) 0
  | ⟨2, _⟩ => rfl

/-! ## The reference -/

section Ref
open Cert.ReferenceFfnUpBwdIdeal.Read Cert.Real

variable (X : S8192x1024.Idx → EReal) (S C : S2x1024.Idx → EReal) (W : S1024x5632.Idx → EReal) (D : S8192x2816.Idx → EReal) (R : S8192x1024.Idx → EReal)

theorem ref_gate (s : Fin 2) (p : Fin 4096) (q : Fin 2816) : val_main_v11 (F := Ideal) X S C W (ix3 s p q) = z X S C W (4096 * s + p) q :=
  Cert.FfnUpV.ref_gate X S C W s p q

theorem ref_up (s : Fin 2) (p : Fin 4096) (q : Fin 2816) : val_main_v12 (F := Ideal) X S C W (ix3 s p q) = z X S C W (4096 * s + p) (2816 + q) :=
  Cert.FfnUpV.ref_up X S C W s p q

theorem ref_da (s : Fin 2) (p : Fin 4096) (q : Fin 2816) : val_main_v16 (F := Ideal) D (ix3 s p q) = rd (a := 8192) (b := 2816) D (4096 * s + p) q := by
  rw [val_main_v16_apply, val_main_v15_apply]
  exact rd_of (a := 8192) (b := 2816) D _ (show ((s.val * 4096 + p.val) * 2816 + q.val) / 2816 = 4096 * s.val + p.val by omega)
    (show ((s.val * 4096 + p.val) * 2816 + q.val) % 2816 = q.val by omega)

theorem ref_sig (s : Fin 2) (p : Fin 4096) (q : Fin 2816) : val_main_v13_2 (F := Ideal) X S C W (ix3 s p q) = Ideal.logistic (z X S C W (4096 * s + p) q) := by
  rw [val_main_v13_2_apply, val_main_call0_v4_apply, val_main_call0_v3_apply, val_main_call0_v2_apply, val_main_call0_v1_apply,
    val_main_call0_v0_apply, val_main_call0_cst_apply, val_main_call0_cst_0_apply, Cert.FfnUpV.one_word, ref_gate]
  rfl

theorem ref_val (s : Fin 2) (p : Fin 4096) (q : Fin 2816) : val_main_v17 (F := Ideal) X S C W D (ix3 s p q) = dval X S C W D (4096 * s + p) q := by
  rw [val_main_v17_apply, val_main_v13_0_apply, ref_sig, ref_gate, ref_da]
  show z X S C W (4096 * s + p) q * Ideal.logistic (z X S C W (4096 * s + p) q) * rd (a := 8192) (b := 2816) D (4096 * s + p) q = _
  rw [dval, mul_comm, mul_assoc]

variable {X S C W D} (hX : ∀ i, IsReal (X i)) (hS : ∀ i, IsReal (S i)) (hC : ∀ i, IsReal (C i)) (hW : ∀ i, IsReal (W i)) (hD : ∀ i, IsReal (D i))

include hX hS hC hW in
/-- The product of real arrays is real. -/
theorem real_z (r q : ℕ) : IsReal (z X S C W r q) :=
  real_sum _ _ fun _ _ => (((real_rd _ hX _ _).mul (real_one.add (real_rd _ hC _ _))).add (real_rd _ hS _ _)).mul (real_rd _ hW _ _)

include hX hS hC hW hD in
theorem ref_dgate (s : Fin 2) (p : Fin 4096) (q : Fin 2816) : val_main_v19 (F := Ideal) X S C W D (ix3 s p q) = dgate X S C W D (4096 * s + p) q := by
  rw [val_main_v19_apply, val_main_call1_v2_apply, val_main_call1_v1_apply, val_main_call1_v0_apply, val_main_v18_apply, val_main_v13_1_apply, val_main_call0_v7_apply,
    val_main_call0_v6_apply, val_main_call0_cst_1_apply, Cert.FfnUpV.one_word, ref_sig, ref_gate, ref_up, ref_da]
  have hz := real_z hX hS hC hW (4096 * s + p) q
  exact (gate_grad ((real_rd _ hD (4096 * s + p) q).mul (real_z hX hS hC hW (4096 * s + p) (2816 + q))) hz hz.logistic).symm

include hX hS hC hW hD in
theorem ref_dgu (s : Fin 2) (p : Fin 4096) (q : Fin 5632) : val_main_v20 (F := Ideal) X S C W D (ix3 s p q) = dgu X S C W D (4096 * s + p) q := by
  unfold val_main_v20
  pointwise
  split
  · next h => exact (ref_dgate hX hS hC hW hD s p ⟨q.val, h⟩).trans (dgu_lo _ _ _ _ _ h).symm
  · next h =>
    refine (ref_val X S C W D s p ⟨q.val - 2816, _⟩).trans ?_
    rw [dgu, if_neg h]

include hX hS hC hW hD in
theorem ref_dh (s : Fin 2) (p : Fin 4096) (k : Fin 1024) : val_main_v21 (F := Ideal) X S C W D (ix3 s p k) = dh X S C W D (4096 * s + p) k := by
  rw [val_main_v21_apply, dh, Finset.sum_range]
  refine Finset.sum_congr rfl fun j _ => ?_
  refine congrArg₂ HMul.hMul ?_ ?_
  · exact (congrArg (val_main_v20 (F := Ideal) X S C W D) (eq_ix3 _)).trans (ref_dgu hX hS hC hW hD s p j)
  · exact rd_of (a := 1024) (b := 5632) W _ rfl rfl

theorem zero_word : (FloatOps.ofBits (F := Ideal) .f32 0x00000000#32 : EReal) = 0 := by pointwise

theorem idx_dsh (s : Fin 2) (k : Fin 1024) (p : Fin 4096) :
    idx_main_v22 (idx_main_v23 (idx_main_v24 (idx_main_v35 (ix3 s (0 : Fin 1) k)) 0)) p = ix3 s p k := funext fun a =>
  match a with
  | ⟨0, _⟩ => Fin.ext (show ((s.val * 1 + 0) * 1024 + k.val) / 1024 = s.val by omega)
  | ⟨1, _⟩ => rfl
  | ⟨2, _⟩ => Fin.ext (show ((s.val * 1 + 0) * 1024 + k.val) % 1024 = k.val by omega)

theorem idx_dsc (s : Fin 2) (k : Fin 1024) (p : Fin 4096) :
    idx_main_v26 (idx_main_v27 (idx_main_v30 (idx_main_v36 (ix3 s (0 : Fin 1) k)) 0)) p = ix3 s p k := funext fun a =>
  match a with
  | ⟨0, _⟩ => Fin.ext (show ((s.val * 1 + 0) * 1024 + k.val) / 1024 = s.val by omega)
  | ⟨1, _⟩ => rfl
  | ⟨2, _⟩ => Fin.ext (show ((s.val * 1 + 0) * 1024 + k.val) % 1024 = k.val by omega)

include hX hS hC hW hD in
theorem ref_dsh (s : Fin 2) (k : Fin 1024) : val_main_v35 (F := Ideal) X S C W D (ix3 s (0 : Fin 1) k) = dsh X S C W D s k := by
  rw [val_main_v35_apply, val_main_v24_apply, val_main_cst_1_apply, zero_word, zero_add, Fin.sum_univ_one, val_main_v23_apply, val_main_v22_apply, val_main_cst_0_apply, zero_word, zero_add,
    dsh, Finset.sum_range]
  refine Finset.sum_congr rfl fun p _ => ?_
  rw [idx_dsh]
  exact ref_dh hX hS hC hW hD s p k

include hX hS hC hW hD in
theorem ref_dsc (s : Fin 2) (k : Fin 1024) : val_main_v36 (F := Ideal) X S C W D (ix3 s (0 : Fin 1) k) = dsc X S C W D s k := by
  rw [val_main_v36_apply, val_main_v30_apply, val_main_cst_3_apply, zero_word, zero_add, Fin.sum_univ_one, val_main_v27_apply, val_main_v26_apply, val_main_cst_2_apply, zero_word, zero_add,
    dsc, Finset.sum_range]
  refine Finset.sum_congr rfl fun p _ => ?_
  rw [idx_dsc, val_main_v25_apply, val_main_v0_apply, ref_dh hX hS hC hW hD s p k]
  refine (mul_comm _ _).trans (congrArg₂ HMul.hMul rfl ?_)
  exact rd_of (a := 8192) (b := 1024) X _ (show ((s.val * 4096 + p.val) * 1024 + k.val) / 1024 = 4096 * s.val + p.val by omega)
    (show ((s.val * 4096 + p.val) * 1024 + k.val) % 1024 = k.val by omega)

include hX hS hC hW hD in
theorem ref_dx (s : Fin 2) (p : Fin 4096) (k : Fin 1024) :
    val_main_v29 (F := Ideal) X S C W D (ix3 s p k) = dh X S C W D (4096 * s + p) k * (1 + rd (a := 2) (b := 1024) C ((4096 * s + p) / 4096) k) := by
  rw [val_main_v29_apply, val_main_v28_apply, val_main_v3_apply, val_main_v2_apply, val_main_cst_apply, val_main_v1_apply, Cert.FfnUpV.one_word, ref_dh hX hS hC hW hD s p k]
  have h2 : C (idx_main_v1 (idx_main_v28 (ix3 s p k))) = rd (a := 2) (b := 1024) C ((4096 * s + p) / 4096) k :=
    rd_of (a := 2) (b := 1024) C _ (show s.val = (4096 * s.val + p.val) / 4096 by omega) rfl
  rw [h2]
  rfl

include hX hS hC hW hD in
/-- The reference's cotangent of the product by row. -/
theorem rows_dgu : val_main_v33 (F := Ideal) X S C W D = fun j : S8192x5632.Idx => dgu X S C W D (j 0).val (j 1).val := by
  funext j
  have hr : (j 0).val < 8192 := (j 0).isLt
  have hq : (j 1).val < 5632 := (j 1).isLt
  have e : idx_main_v32 j = ix3 (n0 := 2) (n1 := 4096) (n2 := 5632) ⟨(j 0).val / 4096, by omega⟩ ⟨(j 0).val % 4096, by omega⟩ (j 1) := by
    funext a
    match a with
    | ⟨0, _⟩ => exact Fin.ext (show ((j 0).val * 5632 + (j 1).val) / 23068672 = (j 0).val / 4096 by omega)
    | ⟨1, _⟩ => exact Fin.ext (show ((j 0).val * 5632 + (j 1).val) / 5632 % 4096 = (j 0).val % 4096 by omega)
    | ⟨2, _⟩ => exact Fin.ext (show ((j 0).val * 5632 + (j 1).val) % 5632 = (j 1).val by omega)
  rw [val_main_v33_apply, val_main_v32_apply, e]
  refine (ref_dgu hX hS hC hW hD _ _ _).trans ?_
  show dgu _ _ _ _ _ (4096 * ((j 0).val / 4096) + (j 0).val % 4096) _ = dgu _ _ _ _ _ (j 0).val _
  rw [Nat.div_add_mod]

include hX hS hC hW hD in
/-- The reference's cotangent of the rows by row. -/
theorem rows_dx : val_main_v34 (F := Ideal) X S C W D R = fun j : S8192x1024.Idx => dx X S C W D R (j 0).val (j 1).val := by
  funext j
  have hr : (j 0).val < 8192 := (j 0).isLt
  have hq : (j 1).val < 1024 := (j 1).isLt
  have e : idx_main_v31 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v34_apply, val_main_v31_apply, e, dx]
  refine congrArg₂ HAdd.hAdd (rd_of (a := 8192) (b := 1024) R j rfl rfl) ?_
  refine (ref_dx hX hS hC hW hD _ _ _).trans ?_
  show dh _ _ _ _ _ (4096 * ((j 0).val / 4096) + (j 0).val % 4096) _ * (1 + rd _ ((4096 * ((j 0).val / 4096) + (j 0).val % 4096) / 4096) _) = _
  rw [Nat.div_add_mod]

end Ref

variable {X : S8192x1024.Idx → EReal} {S C : S2x1024.Idx → EReal} {W : S1024x5632.Idx → EReal} {D : S8192x2816.Idx → EReal} {R : S8192x1024.Idx → EReal}
open Cert.Real Cert.ReferenceFfnUpBwdIdeal.Read

/-- What makes the two programs agree: the arguments are real. -/
def AllReal (X : S8192x1024.Idx → EReal) (S C : S2x1024.Idx → EReal) (W : S1024x5632.Idx → EReal) (D : S8192x2816.Idx → EReal) : Prop :=
  (∀ i, IsReal (X i)) ∧ (∀ i, IsReal (S i)) ∧ (∀ i, IsReal (C i)) ∧ (∀ i, IsReal (W i)) ∧ (∀ i, IsReal (D i))

section Outs
variable (hr : AllReal (aX m c) (aS m c) (aC m c) (aW m c) (aD m c))
  (h0 : m ((c : Thread nD τ).loc main_arg0) = X) (h1 : m ((c : Thread nD τ).loc main_arg1) = S) (h2 : m ((c : Thread nD τ).loc main_arg2) = C)
  (h3 : m ((c : Thread nD τ).loc main_arg3) = W) (h4 : m ((c : Thread nD τ).loc main_arg4) = D)
include hr h0 h1 h2 h3 h4

theorem out0 : (dats m 0 c).arrAt 6 cfg0.N = val_main_v33 (F := Ideal) X S C W D := by
  subst h0 h1 h2 h3 h4
  rw [final_6, rows_dgu hr.1 hr.2.1 hr.2.2.1 hr.2.2.2.1 hr.2.2.2.2]

theorem out1 (h5 : m ((c : Thread nD τ).loc main_arg5) = R) : (dats m 0 c).arrAt 7 cfg0.N = val_main_v34 (F := Ideal) X S C W D R := by
  subst h0 h1 h2 h3 h4 h5
  rw [final_7, rows_dx _ hr.1 hr.2.1 hr.2.2.1 hr.2.2.2.1 hr.2.2.2.2]

theorem out2 : (dats m 0 c).arrAt 8 cfg0.N = val_main_v35 (F := Ideal) X S C W D := by
  subst h0 h1 h2 h3 h4
  rw [final_8]
  funext j
  obtain ⟨s, k, rfl⟩ : ∃ (s : Fin 2) (k : Fin 1024), j = ix3 s (0 : Fin 1) k := ⟨j 0, j 2, two_rows j⟩
  exact (ref_dsh hr.1 hr.2.1 hr.2.2.1 hr.2.2.2.1 hr.2.2.2.2 s k).symm

theorem out3 : (dats m 0 c).arrAt 9 cfg0.N = val_main_v36 (F := Ideal) X S C W D := by
  subst h0 h1 h2 h3 h4
  rw [final_9]
  funext j
  obtain ⟨s, k, rfl⟩ : ∃ (s : Fin 2) (k : Fin 1024), j = ix3 s (0 : Fin 1) k := ⟨j 0, j 2, two_rows j⟩
  exact (ref_dsc hr.1 hr.2.1 hr.2.2.1 hr.2.2.2.1 hr.2.2.2.2 s k).symm

end Outs

/-- The kernel and the reference leave the same. -/
theorem value : Cert.algebraic_FfnUpBwdIdeal_ReferenceFfnUpBwdIdeal_pre_ffn_finite := by
  intro m g m' g' hp he
  have hr : ∀ c, AllReal (aX m c) (aS m c) (aC m c) (aW m c) (aD m c) := fun c => ffn_finite _ _ _ _ _ _ (hp c)
  refine ⟨fun c => (dats m 0 c).arrAt 6 cfg0.N, fun c => (dats m 0 c).arrAt 7 cfg0.N, fun c => (dats m 0 c).arrAt 8 cfg0.N, fun c => (dats m 0 c).arrAt 9 cfg0.N, ?_, ?_⟩
  · exact (θ_run defs _ _).mono (fun r h c => ⟨(h c).1 6, (h c).1 7, (h c).1 8, (h c).1 9,
      ((h c).1 3).trans (((dats m 0 c).arrAt_in 3 rfl _).trans ((rfl).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 0).trans (((dats m 0 c).arrAt_in 0 rfl _).trans ((rfl).trans (V_main_arg4 m c))),
      ((h c).1 5).trans (((dats m 0 c).arrAt_in 5 rfl _).trans ((rfl).trans (V_main_arg5 m c)))⟩) (run_main (F := Ideal) m g)
  · refine (θ_run Cert.ReferenceFfnUpBwdIdeal.defs _ _).mono (fun r h c => ?_) (Cert.ReferenceFfnUpBwdIdeal.Value.run (F := Ideal) m' g')
    obtain ⟨h0, h1, h2, h3, ha⟩ := h c
    obtain ⟨e0, e1, e2, e3, e4, e5⟩ := he c
    exact ⟨h0.trans ((Cert.ReferenceFfnUpBwdIdeal.Read.val_main_v33_eq _ _).trans (Cert.FfnUpBwdV.out0 m c (hr c) e0.symm e1.symm e2.symm e3.symm e4.symm).symm), h1.trans ((Cert.ReferenceFfnUpBwdIdeal.Read.val_main_v34_eq _ _).trans (Cert.FfnUpBwdV.out1 m c (hr c) e0.symm e1.symm e2.symm e3.symm e4.symm e5.symm).symm), h2.trans ((Cert.ReferenceFfnUpBwdIdeal.Read.val_main_v35_eq _ _).trans (Cert.FfnUpBwdV.out2 m c (hr c) e0.symm e1.symm e2.symm e3.symm e4.symm).symm), h3.trans ((Cert.ReferenceFfnUpBwdIdeal.Read.val_main_v36_eq _ _).trans (Cert.FfnUpBwdV.out3 m c (hr c) e0.symm e1.symm e2.symm e3.symm e4.symm).symm), ha⟩

end Cert.FfnUpBwdV
-- ==== Proof.Norm.lean ====
/-  The derivative of a layer norm over the reals: the closed form and the transposed lines agree.  -/
module
public import proofs.«01_k».proof.Proof.Finite
@[expose] public section
noncomputable section
namespace Cert.Real
open Idealize.ShloMosaic Cert.Conf

theorem word_1024 : (Ideal.ofBits .f32 0x44800000#32 : EReal) = ((1024 : ℝ) : EReal) := by
  simp only [Ideal.ofBits, Ideal.ieee]
  simp [← EReal.coe_mul, ← EReal.coe_neg]
  norm_num [← EReal.coe_mul, ← EReal.coe_neg]
theorem word_half : (Ideal.ofBits .f32 0x3F000000#32 : EReal) = ((1 / 2 : ℝ) : EReal) := by
  simp only [Ideal.ofBits, Ideal.ieee]
  simp [← EReal.coe_mul, ← EReal.coe_neg]
  norm_num [← EReal.coe_mul, ← EReal.coe_neg]
theorem word_neg_half : (Ideal.ofBits .f32 0xBF000000#32 : EReal) = ((-(1 / 2) : ℝ) : EReal) := by
  simp only [Ideal.ofBits, Ideal.ieee]
  simp [← EReal.coe_mul, ← EReal.coe_neg]
  norm_num [← EReal.coe_mul, ← EReal.coe_neg]
theorem word_eps : ∃ e : ℝ, 0 < e ∧ (Ideal.ofBits .f32 0x3727C5AC#32 : EReal) = (e : EReal) := by
  simp [Ideal.ofBits, Ideal.ieee]
  exact ⟨10995116 * (2 ^ 40)⁻¹, by positivity, (EReal.coe_mul _ _).symm⟩
theorem word_alpha : IsReal (Ideal.ofBits .f32 0x3FD744FD#32) := by
  simp [Ideal.ofBits, Ideal.ieee, IsReal]
  exact ⟨14107901 * (2 ^ 23)⁻¹, (EReal.coe_mul _ _).symm⟩

theorem sum_coe {n : ℕ} (f : Fin n → ℝ) : ∑ i, ((f i : ℝ) : EReal) = ((∑ i, f i : ℝ) : EReal) := by
  induction (Finset.univ : Finset (Fin n)) using Finset.induction_on with
  | empty => simp
  | insert a s h ih => rw [Finset.sum_insert h, Finset.sum_insert h, ih, EReal.coe_add]

theorem div_1024 (x : ℝ) : Ideal.div (x : EReal) (Ideal.ofBits .f32 0x44800000#32) = ((x / 1024 : ℝ) : EReal) := by
  rw [word_1024, Ideal.div_coe (by norm_num), ← EReal.coe_mul]
  congr 1
  ring

/-- A row of reals less its mean, and its variance with the small word added: reals, the first of sum zero and the second positive. -/
theorem real_norm (v : Fin 1024 → EReal) (hv : ∀ q, IsReal (v q)) :
    ∃ (w : Fin 1024 → ℝ) (n : ℝ), 0 < n ∧ ∑ q, w q = 0
      ∧ (∀ q, v q - Ideal.div (∑ x, v x) (Ideal.ofBits .f32 0x44800000#32) = (w q : EReal))
      ∧ Ideal.div (∑ q, (w q : EReal) * (w q : EReal)) (Ideal.ofBits .f32 0x44800000#32) + Ideal.ofBits .f32 0x3727C5AC#32 = (n : EReal) := by
  choose u hu using hv
  obtain ⟨e, he, hw⟩ := word_eps
  refine ⟨fun q => u q - (∑ x, u x) / 1024, (∑ q, (u q - (∑ x, u x) / 1024) * (u q - (∑ x, u x) / 1024)) / 1024 + e, ?_, ?_, fun q => ?_, ?_⟩
  · have : 0 ≤ ∑ q, (u q - (∑ x, u x) / 1024) * (u q - (∑ x, u x) / 1024) := Finset.sum_nonneg fun i _ => mul_self_nonneg _
    positivity
  · rw [Finset.sum_sub_distrib, Finset.sum_const, Finset.card_univ, Fintype.card_fin]
    simp
    ring
  · simp only [hu]
    rw [sum_coe, div_1024, ← EReal.coe_sub]
  · simp only [← EReal.coe_mul]
    rw [sum_coe, div_1024, hw, ← EReal.coe_add]

/-- The closed form of the derivative. -/
def closed (w : Fin 1024 → EReal) (R : EReal) (e : Fin 1024 → EReal) (q : Fin 1024) : EReal :=
  R * (e q - Ideal.div (∑ x, e x) (Ideal.ofBits .f32 0x44800000#32)
    - w q * R * Ideal.div (∑ x, e x * (w x * R)) (Ideal.ofBits .f32 0x44800000#32))

/-- The cotangent of the variance, as the transposed lines have it. -/
def dvar (w : Fin 1024 → EReal) (n R : EReal) (e : Fin 1024 → EReal) : EReal :=
  Ideal.div ((∑ x, w x * e x) * (Ideal.ofBits .f32 0xBF000000#32 * Ideal.div R n)) (Ideal.ofBits .f32 0x44800000#32)

/-- The cotangent of the centred row. -/
def dcen (w : Fin 1024 → EReal) (n R : EReal) (e : Fin 1024 → EReal) (q : Fin 1024) : EReal :=
  e q * R + w q * dvar w n R e + dvar w n R e * w q

/-- The derivative by the transposed lines. -/
def transposed (w : Fin 1024 → EReal) (n R : EReal) (e : Fin 1024 → EReal) (q : Fin 1024) : EReal :=
  dcen w n R e q + Ideal.div (∑ x, -dcen w n R e x) (Ideal.ofBits .f32 0x44800000#32)

/-- Over the reals the two agree, when the row has sum zero. -/
theorem norm_grad (w e : Fin 1024 → ℝ) (n : ℝ) (hn : 0 < n) (hw : ∑ q, w q = 0) (q : Fin 1024) :
    transposed (fun x => (w x : EReal)) n (Ideal.rsqrt n) (fun x => (e x : EReal)) q = closed (fun x => (w x : EReal)) (Ideal.rsqrt n) (fun x => (e x : EReal)) q := by
  have hR : Ideal.rsqrt (n : EReal) = (((Real.sqrt n)⁻¹ : ℝ) : EReal) := by
    rw [Ideal.rsqrt_coe, if_neg (not_lt.mpr hn.le), if_neg hn.ne']
  rw [hR]
  have hq : Real.sqrt n ^ 2 = n := Real.sq_sqrt hn.le
  have h0 : Real.sqrt n ≠ 0 := (Real.sqrt_pos.mpr hn).ne'
  set s := Real.sqrt n with hs
  have hv : dvar (fun x => (w x : EReal)) n ((s⁻¹ : ℝ) : EReal) (fun x => (e x : EReal)) = (((∑ x, w x * e x) * (-(1 / 2) * (s⁻¹ * (1 / n))) / 1024 : ℝ) : EReal) := by
    unfold dvar
    simp only [← EReal.coe_mul]
    rw [sum_coe, Ideal.div_coe hn.ne', word_neg_half]
    simp only [← EReal.coe_mul]
    rw [div_1024]
  have hc : ∀ x, dcen (fun x => (w x : EReal)) n ((s⁻¹ : ℝ) : EReal) (fun x => (e x : EReal)) x
      = ((e x * s⁻¹ + w x * ((∑ x, w x * e x) * (-(1 / 2) * (s⁻¹ * (1 / n))) / 1024) + ((∑ x, w x * e x) * (-(1 / 2) * (s⁻¹ * (1 / n))) / 1024) * w x : ℝ) : EReal) := by
    intro x
    unfold dcen
    rw [hv]
    simp only [← EReal.coe_mul, ← EReal.coe_add]
  unfold transposed closed
  simp only [hc, ← EReal.coe_mul, ← EReal.coe_neg]
  rw [sum_coe, sum_coe, sum_coe, div_1024, div_1024, div_1024]
  simp only [← EReal.coe_mul, ← EReal.coe_add, ← EReal.coe_sub]
  congr 1
  have h1 : ∑ x, -(e x * s⁻¹ + w x * ((∑ x, w x * e x) * (-(1 / 2) * (s⁻¹ * (1 / n))) / 1024) + ((∑ x, w x * e x) * (-(1 / 2) * (s⁻¹ * (1 / n))) / 1024) * w x)
      = -((∑ x, e x) * s⁻¹) := by
    rw [Finset.sum_neg_distrib, Finset.sum_add_distrib, Finset.sum_add_distrib, ← Finset.sum_mul, ← Finset.sum_mul, ← Finset.mul_sum, hw]
    ring
  have h2 : ∑ x, e x * (w x * s⁻¹) = (∑ x, w x * e x) * s⁻¹ := by
    rw [Finset.sum_mul]
    exact Finset.sum_congr rfl fun x _ => by ring
  rw [h1, h2]
  generalize (∑ x, w x * e x) = S
  generalize (∑ x, e x) = T
  rw [← hq]
  field_simp
  ring

end Cert.Real
-- ==== Proof.FfnDownBwdPay.lean ====
/-  The backward pass through the feed-forward output product, its residual and its layer norm: the mathematics by row, and what the stored values are.  -/
module
public import proofs.«01_k».proof.Proof.Gen.FfnDownBwdIdeal.Frame
public import proofs.«01_k».proof.Proof.FfnDownValue
public import proofs.«01_k».proof.Proof.Norm
public import Idealize.ShloMosaic.Lib.Pointwise
public import Idealize.ShloMosaic.Lib.Pipeline.ReadBack
public import Idealize.ShloMosaic.Lib.Pipeline.ValueKit
@[expose] public section
noncomputable section
namespace Cert.FfnDownBwdV
open Idealize.ShloMosaic Idealize.ShloMosaic.TcCoe Idealize.ShloMosaic.StableHlo Idealize.ShloMosaic.Tactic Cert.FfnDownBwdIdeal Cert.FfnDownBwdIdeal.Gen Cert.Conf

/-! ## The mathematics, by row -/

section Rows
variable (A : S8192x2816.Idx → EReal) (W : S2816x1024.Idx → EReal) (X : S8192x1024.Idx → EReal) (G : S2x1024.Idx → EReal) (L : S1024.Idx → EReal) (T : S8192x1024.Idx → EReal)

/-- The cotangent of the normed row before its scale. -/
def e (r : ℕ) (q : Fin 1024) : EReal := rd (a := 8192) (b := 1024) T r q * L (ix1 q)

/-- The cotangent of the row that is normed. -/
def dz (r : ℕ) (q : Fin 1024) : EReal :=
  Cert.Real.closed (fun x : Fin 1024 => Cert.FfnDownV.d A W X G r x) (Cert.FfnDownV.rs A W X G r) (e L T r) q

/-- The cotangent of the residual. -/
def dx (r : ℕ) (q : Fin 1024) : EReal := Ideal.ofBits .f32 0x3FD744FD#32 * dz A W X G L T r q

/-- The cotangent of the product. -/
def dy (r : ℕ) (q : Fin 1024) : EReal := Ideal.ofBits .f32 0x3F000000#32 * (1 + rd (a := 2) (b := 1024) G (r / 4096) q) * dz A W X G L T r q

/-- The cotangent of the product's left factor. -/
def da (r : ℕ) (j : ℕ) : EReal := ∑ q : Fin 1024, dy A W X G L T r q * rd (a := 2816) (b := 1024) W j q

/-- A row's part of the cotangent of the gate, without its half. -/
def gt (r : ℕ) (q : Fin 1024) : EReal := Cert.FfnDownV.y A W r q * dz A W X G L T r q

/-- A row's part of the cotangent of the norm's scale. -/
def lt (r : ℕ) (q : Fin 1024) : EReal := rd (a := 8192) (b := 1024) T r q * (Cert.FfnDownV.d A W X G r q * Cert.FfnDownV.rs A W X G r)

/-! ## The stored values -/

section Pays
variable (p : Fin 256) (r : ℕ) (z : FVec Ideal S256x1024 .f32)

theorem pay10 (hz : ∀ q : Fin 1024, z (ix2 p q) = Cert.FfnDownV.v A W X G r q) (q : Fin 1024) : k0_pay10 z (ix2 p q) = Cert.FfnDownV.d A W X G r q := by
  unfold k0_pay10
  pointwise
  simp only [hz]
  rfl

theorem pay11 (hz : ∀ q : Fin 1024, z (ix2 p q) = Cert.FfnDownV.v A W X G r q) (q : Fin 1) : k0_pay11 z (ix2 p q) = Cert.FfnDownV.rs A W X G r := by
  unfold k0_pay11
  pointwise
  simp only [pay10 A W X G p r z hz]
  rfl

theorem pay12 (hz : ∀ q : Fin 1024, z (ix2 p q) = Cert.FfnDownV.v A W X G r q) (q : Fin 1024) :
    k0_pay12 z (ix2 p q) = Cert.FfnDownV.d A W X G r q * Cert.FfnDownV.rs A W X G r := by
  unfold k0_pay12
  pointwise
  simp only [pay10 A W X G p r z hz, pay11 A W X G p r z hz]

theorem pay13 (hz : ∀ q : Fin 1024, z (ix2 p q) = Cert.FfnDownV.v A W X G r q) (l : FVec Ideal S1x1024 .f32) (t : Vec Ideal S256x1024 .f32)
    (hl : ∀ q : Fin 1024, l (ix2 0 q) = L (ix1 q)) (ht : ∀ q : Fin 1024, t (ix2 p q) = rd (a := 8192) (b := 1024) T r q) (q : Fin 1024) :
    k0_pay13 l t z (ix2 p q) = dz A W X G L T r q := by
  unfold k0_pay13
  pointwise
  simp only [pay11 A W X G p r z hz, pay12 A W X G p r z hz, hl, ht]
  rfl

end Pays

/-! ## A piece of 256 rows -/

section Piece
variable (x y : Vec Ideal S256x1024 .f32) (g : Vec Ideal S1x1x1024 .f32) (l : Vec Ideal S1x1024 .f32) (t : Vec Ideal S256x1024 .f32) (b : ℕ)

/-- The blocks of a piece hold the arguments' rows from `b` on. -/
structure Holds : Prop where
  hx : ∀ (p : Fin 256) (q : Fin 1024), x (ix2 p q) = rd (a := 8192) (b := 1024) X (b + p) q
  hy : ∀ (p : Fin 256) (q : Fin 1024), y (ix2 p q) = Cert.FfnDownV.y A W (b + p) q
  hg : ∀ (p : Fin 256) (q : Fin 1024), g (ix3 0 0 q) = rd (a := 2) (b := 1024) G ((b + p) / 4096) q
  hl : ∀ q : Fin 1024, l (ix2 0 q) = L (ix1 q)
  ht : ∀ (p : Fin 256) (q : Fin 1024), t (ix2 p q) = rd (a := 8192) (b := 1024) T (b + p) q

variable {A W X G L T x y g l t b} (h : Holds A W X G L T x y g l t b)
include h

theorem pay9 (p : Fin 256) (q : Fin 1024) : k0_pay9 x y g (ix2 p q) = Cert.FfnDownV.v A W X G (b + p) q := by
  unfold k0_pay9 k0_pay8 k0_pay6
  pointwise
  rw [h.hx, h.hy, h.hg p]
  rfl

theorem scale7 (q : Fin 1024) : k0_pay7 l (ix2 0 q) = L (ix1 q) := by
  unfold k0_pay7
  pointwise
  exact h.hl q

theorem p13 (p : Fin 256) (q : Fin 1024) : k0_pay13 (k0_pay7 l) t (k0_pay9 x y g) (ix2 p q) = dz A W X G L T (b + p) q :=
  pay13 A W X G L T p _ _ (pay9 h p) _ _ (scale7 h) (h.ht p) q

theorem p14 (p : Fin 256) (q : Fin 1024) : k0_pay14 (k0_pay7 l) t (k0_pay9 x y g) (ix2 p q) = dx A W X G L T (b + p) q := by
  unfold k0_pay14
  pointwise
  rw [p13 h]
  rfl

theorem p15 (p : Fin 256) (q : Fin 1024) : k0_pay15 (k0_pay7 l) t (k0_pay8 g) (k0_pay9 x y g) (ix2 p q) = dy A W X G L T (b + p) q := by
  unfold k0_pay15 k0_pay8
  pointwise
  rw [p13 h, h.hg p]
  rfl

theorem p18 (p : Fin 256) (q : Fin 1024) : k0_pay18 (k0_pay15 (k0_pay7 l) t (k0_pay8 g) (k0_pay9 x y g)) (ix2 p q) = dy A W X G L T (b + p) q := by
  unfold k0_pay18
  pointwise
  exact p15 h p q

theorem p19 (w : Vec Ideal S2816x1024 .bf16) (hw : ∀ (j : Fin 2816) (q : Fin 1024), w (ix2 j q) = rd (a := 2816) (b := 1024) W j q) (p : Fin 256) (j : Fin 2816) :
    k0_pay19 (k0_pay15 (k0_pay7 l) t (k0_pay8 g) (k0_pay9 x y g)) w (ix2 p j) = da A W X G L T (b + p) j := by
  unfold k0_pay19
  pointwise
  simp only [p18 h, hw]
  rfl

theorem p20 (a : Vec Ideal S1x1x1024 .f32) (q : Fin 1024) :
    k0_pay20 (k0_pay16 (k0_pay6 y) (k0_pay7 l) t (k0_pay9 x y g)) a (ix3 0 0 q) = a (ix3 0 0 q) + Ideal.ofBits .f32 0x3F000000#32 * ∑ p : Fin 256, gt A W X G L T (b + p) q := by
  unfold k0_pay20 k0_pay16 k0_pay6
  pointwise
  simp only [p13 h, h.hy]
  rfl

theorem p21 (a : Vec Ideal S1x1024 .f32) (q : Fin 1024) :
    k0_pay21 (k0_pay17 t (k0_pay9 x y g)) a (ix2 0 q) = a (ix2 0 q) + ∑ p : Fin 256, lt A W X G T (b + p) q := by
  unfold k0_pay21 k0_pay17
  pointwise
  simp only [fun p => pay12 A W X G p _ _ (pay9 h p), h.ht]
  rfl

theorem p22 (a : Vec Ideal S1x1024 .f32) (q : Fin 1024) :
    k0_pay22 t a (ix2 0 q) = a (ix2 0 q) + ∑ p : Fin 256, rd (a := 8192) (b := 1024) T (b + p) q := by
  unfold k0_pay22
  pointwise
  simp only [h.ht]

end Piece
end Rows

/-! ## The upper half of a tile computes the same -/

section Upper
variable (x y : Vec Ideal S256x1024 .f32) (g : Vec Ideal S1x1x1024 .f32) (l : Vec Ideal S1x1024 .f32) (t : Vec Ideal S256x1024 .f32)

theorem up33 : k0_pay33 (k0_pay26 x (k0_pay23 y) g) (k0_pay27 x (k0_pay23 y) g) (k0_pay29 l t) (k0_pay30 x (k0_pay23 y) g l t) k0_pay31
    = k0_pay14 (k0_pay7 l) t (k0_pay9 x y g) := rfl
theorem up36 : k0_pay36 (k0_pay24 g) (k0_pay26 x (k0_pay23 y) g) (k0_pay27 x (k0_pay23 y) g) (k0_pay29 l t) (k0_pay30 x (k0_pay23 y) g l t) k0_pay31
    = k0_pay18 (k0_pay15 (k0_pay7 l) t (k0_pay8 g) (k0_pay9 x y g)) := rfl
theorem up37 (w : Vec Ideal S2816x1024 .bf16) : k0_pay37 (k0_pay24 g) (k0_pay26 x (k0_pay23 y) g) (k0_pay27 x (k0_pay23 y) g) (k0_pay29 l t) (k0_pay30 x (k0_pay23 y) g l t) k0_pay31 w
    = k0_pay19 (k0_pay15 (k0_pay7 l) t (k0_pay8 g) (k0_pay9 x y g)) w := rfl
theorem up38 (a : Vec Ideal S1x1x1024 .f32) : k0_pay38 (k0_pay23 y) (k0_pay26 x (k0_pay23 y) g) (k0_pay27 x (k0_pay23 y) g) (k0_pay29 l t) (k0_pay30 x (k0_pay23 y) g l t) k0_pay31 a
    = k0_pay20 (k0_pay16 (k0_pay6 y) (k0_pay7 l) t (k0_pay9 x y g)) a := rfl
theorem up1 (a : Vec Ideal S1x1024 .f32) : k0_pay1 (k0_pay34 t (k0_pay27 x (k0_pay23 y) g)) a = k0_pay21 (k0_pay17 t (k0_pay9 x y g)) a := rfl
theorem up2 (a : Vec Ideal S1x1024 .f32) : k0_pay2 (k0_pay35 t) a = k0_pay22 t a := rfl

end Upper

theorem zero_3 (q : Fin 1024) : (k0_pay3 (F := Ideal) (ix3 0 0 q) : EReal) = 0 := by
  unfold k0_pay3
  pointwise
theorem zero_4 (q : Fin 1024) : (k0_pay4 (F := Ideal) (ix2 0 q) : EReal) = 0 := by
  unfold k0_pay4
  pointwise
theorem zero_5 (q : Fin 1024) : (k0_pay5 (F := Ideal) (ix2 0 q) : EReal) = 0 := by
  unfold k0_pay5
  pointwise

end Cert.FfnDownBwdV
-- ==== Proof.FfnDownBwdRef.lean ====
/-  The backward pass through the feed-forward output product: the reference's lines, entry by entry.  -/
module
public import proofs.«01_k».proof.Proof.Gen.ReferenceFfnDownBwdIdeal.Read
public import proofs.«01_k».proof.Proof.FfnDownBwdPay
public import proofs.«01_k».proof.Proof.Ref2
@[expose] public section
noncomputable section
namespace Cert.FfnDownBwdV
open Idealize.ShloMosaic Idealize.ShloMosaic.TcCoe Idealize.ShloMosaic.StableHlo Idealize.ShloMosaic.Tactic Cert.FfnDownBwdIdeal Cert.Conf Cert.Real
open Cert.ReferenceFfnDownBwdIdeal.Read
open Cert.FfnDownV (y v d rs)

/-- A row's variance with the small word added. -/
def nv (A : S8192x2816.Idx → EReal) (W : S2816x1024.Idx → EReal) (X : S8192x1024.Idx → EReal) (G : S2x1024.Idx → EReal) (r : ℕ) : EReal :=
  Ideal.div (∑ x : Fin 1024, d A W X G r x * d A W X G r x) (Ideal.ofBits .f32 0x44800000#32) + Ideal.ofBits .f32 0x3727C5AC#32

variable (A : S8192x2816.Idx → EReal) (W : S2816x1024.Idx → EReal) (X : S8192x1024.Idx → EReal) (G : S2x1024.Idx → EReal) (L : S1024.Idx → EReal) (T : S8192x1024.Idx → EReal)

theorem rs_eq (r : ℕ) : rs A W X G r = Ideal.rsqrt (nv A W X G r) := rfl

/-! ## The forward lines -/

theorem ref_y (s : Fin 2) (p : Fin 4096) (q : Fin 1024) : val_main_v3 (F := Ideal) A W (ix3 s p q) = y A W (4096 * s + p) q := by
  rw [val_main_v3_apply, y, Finset.sum_range]
  refine Finset.sum_congr rfl fun k _ => ?_
  rw [val_main_v1_apply]
  refine congrArg₂ HMul.hMul ?_ ?_
  · exact rd_of (a := 8192) (b := 2816) A _ (show ((s.val * 4096 + p.val) * 2816 + k.val) / 2816 = 4096 * s.val + p.val by omega)
      (show ((s.val * 4096 + p.val) * 2816 + k.val) % 2816 = k.val by omega)
  · exact rd_of (a := 2816) (b := 1024) W _ rfl rfl

theorem ref_v (s : Fin 2) (p : Fin 4096) (q : Fin 1024) : val_main_v14 (F := Ideal) X A W G (ix3 s p q) = v A W X G (4096 * s + p) q := by
  rw [val_main_v14_apply, val_main_v6_apply, val_main_v13_apply, val_main_v12_apply, val_main_v11_apply, val_main_v9_apply, val_main_v7_apply, val_main_v4_apply, ref_y,
    val_main_v5_apply, val_main_v8_apply, val_main_v10_apply, val_main_cst_apply, val_main_cst_0_apply, val_main_cst_1_apply]
  have h1 : X (idx_main_v4 (ix3 s p q)) = rd (a := 8192) (b := 1024) X (4096 * s + p) q :=
    rd_of (a := 8192) (b := 1024) X _ (show ((s.val * 4096 + p.val) * 1024 + q.val) / 1024 = 4096 * s.val + p.val by omega)
      (show ((s.val * 4096 + p.val) * 1024 + q.val) % 1024 = q.val by omega)
  have h2 : G (idx_main_v7 (idx_main_v12 (ix3 s p q))) = rd (a := 2) (b := 1024) G ((4096 * s + p) / 4096) q :=
    rd_of (a := 2) (b := 1024) G _ (show s.val = (4096 * s.val + p.val) / 4096 by omega) rfl
  rw [h1, h2, v]
  have h3 : Ideal.ofBits .f32 0x3F800000#32 = 1 := by pointwise
  rw [← h3]
  rfl

theorem ref_d (s : Fin 2) (p : Fin 4096) (q : Fin 1024) : val_main_v20 (F := Ideal) X A W G (ix3 s p q) = d A W X G (4096 * s + p) q := by
  have hm : val_main_v15 (F := Ideal) X A W G (idx_main_v16 (idx_main_v19 (ix3 s p q))) = ∑ x : Fin 1024, v A W X G (4096 * s + p) x := by
    rw [val_main_v15_apply, val_main_cst_2_apply]
    refine Eq.trans ?_ (zero_add _)
    refine congrArg₂ HAdd.hAdd (by pointwise) (Finset.sum_congr rfl fun k _ => ?_)
    exact (congrArg (val_main_v14 (F := Ideal) X A W G) (eq_ix3 _)).trans (ref_v A W X G s p k)
  rw [val_main_v20_apply, val_main_v19_apply, val_main_v18_apply, val_main_v16_apply, hm, val_main_v17_apply, val_main_cst_3_apply, ref_v, d]
  rfl

theorem ref_n (s : Fin 2) (p : Fin 4096) : val_main_v27 (F := Ideal) X A W G (ix3 s p (0 : Fin 1)) = nv A W X G (4096 * s + p) := by
  have hm : val_main_v22 (F := Ideal) X A W G (idx_main_v23 (ix3 s p (0 : Fin 1))) = ∑ x : Fin 1024, d A W X G (4096 * s + p) x * d A W X G (4096 * s + p) x := by
    rw [val_main_v22_apply, val_main_cst_4_apply]
    refine Eq.trans ?_ (zero_add _)
    refine congrArg₂ HAdd.hAdd (by pointwise) (Finset.sum_congr rfl fun k _ => ?_)
    have hk : val_main_v20 (F := Ideal) X A W G (idx_main_v22 (idx_main_v23 (ix3 s p (0 : Fin 1))) k) = d A W X G (4096 * s + p) k :=
      (congrArg (val_main_v20 (F := Ideal) X A W G) (eq_ix3 _)).trans (ref_d A W X G s p k)
    rw [val_main_v21_apply, hk]
    rfl
  rw [val_main_v27_apply, val_main_v25_apply, val_main_v23_apply, hm, val_main_v24_apply, val_main_v26_apply, val_main_cst_5_apply, val_main_cst_6_apply, nv]
  rfl

theorem ref_rs (s : Fin 2) (p : Fin 4096) : val_main_v28 (F := Ideal) X A W G (ix3 s p (0 : Fin 1)) = rs A W X G (4096 * s + p) := by
  rw [val_main_v28_apply, ref_n, rs_eq]
  rfl

/-! ## The transposed lines -/

theorem zero_word : (FloatOps.ofBits (F := Ideal) .f32 0x00000000#32 : EReal) = 0 := by pointwise

theorem ref_t (s : Fin 2) (p : Fin 4096) (q : Fin 1024) : val_main_v40 (F := Ideal) T (ix3 s p q) = rd (a := 8192) (b := 1024) T (4096 * s + p) q := by
  rw [val_main_v40_apply]
  exact rd_of (a := 8192) (b := 1024) T _ (show ((s.val * 4096 + p.val) * 1024 + q.val) / 1024 = 4096 * s.val + p.val by omega)
    (show ((s.val * 4096 + p.val) * 1024 + q.val) % 1024 = q.val by omega)

theorem ref_e (s : Fin 2) (p : Fin 4096) (q : Fin 1024) : val_main_v48 (F := Ideal) L T (ix3 s p q) = e L T (4096 * s + p) q := by
  rw [val_main_v48_apply, ref_t, val_main_v47_apply, val_main_v34_apply]
  exact congrArg₂ HMul.hMul rfl (congrArg L (eq_ix1 _))

theorem ref_dev (s : Fin 2) (p : Fin 4096) (q : Fin 1024) : val_main_v53 (F := Ideal) X A W G (ix3 s p q) = rs A W X G (4096 * s + p) := by
  rw [val_main_v53_apply]
  exact (congrArg (val_main_v28 (F := Ideal) X A W G) (eq_ix3 _)).trans (ref_rs A W X G s p)

theorem idx_52 (s : Fin 2) (p : Fin 4096) (k : Fin 1024) : idx_main_v51 (idx_main_v52 (ix3 s p (0 : Fin 1))) k = ix3 s p k := funext fun a =>
  match a with
  | ⟨0, _⟩ => Fin.ext (show ((s.val * 4096 + p.val) * 1 + 0) / 4096 = s.val by omega)
  | ⟨1, _⟩ => Fin.ext (show ((s.val * 4096 + p.val) * 1 + 0) % 4096 = p.val by omega)
  | ⟨2, _⟩ => rfl

theorem idx_66 (s : Fin 2) (p : Fin 4096) (k : Fin 1024) : idx_main_v65 (idx_main_v66 (ix3 s p (0 : Fin 1))) k = ix3 s p k := funext fun a =>
  match a with
  | ⟨0, _⟩ => Fin.ext (show ((s.val * 4096 + p.val) * 1 + 0) / 4096 = s.val by omega)
  | ⟨1, _⟩ => Fin.ext (show ((s.val * 4096 + p.val) * 1 + 0) % 4096 = p.val by omega)
  | ⟨2, _⟩ => rfl

theorem idx_59 (s : Fin 2) (p : Fin 4096) (q : Fin 1024) : idx_main_v58 (idx_main_v59 (ix3 s p q)) 0 = ix3 s p (0 : Fin 1) := funext fun a =>
  match a with
  | ⟨0, _⟩ => rfl
  | ⟨1, _⟩ => rfl
  | ⟨2, _⟩ => rfl

theorem idx_70 (s : Fin 2) (p : Fin 4096) (q : Fin 1024) : idx_main_v69 (idx_main_v70 (ix3 s p q)) 0 = ix3 s p (0 : Fin 1) := funext fun a =>
  match a with
  | ⟨0, _⟩ => rfl
  | ⟨1, _⟩ => rfl
  | ⟨2, _⟩ => rfl

/-- The cotangent of a row's variance. -/
theorem ref_dvar (s : Fin 2) (p : Fin 4096) (q : Fin 1024) :
    val_main_v59 (F := Ideal) X A W G L T (ix3 s p q)
      = dvar (fun x : Fin 1024 => d A W X G (4096 * s + p) x) (nv A W X G (4096 * s + p)) (rs A W X G (4096 * s + p)) (e L T (4096 * s + p)) := by
  have hm : val_main_v52 (F := Ideal) X A W G L T (ix3 s p (0 : Fin 1)) = ∑ x : Fin 1024, d A W X G (4096 * s + p) x * e L T (4096 * s + p) x := by
    rw [val_main_v52_apply, val_main_v51_apply, val_main_cst_12_apply, zero_word, zero_add]
    refine Finset.sum_congr rfl fun k _ => ?_
    rw [idx_52, val_main_v50_apply, ref_d, ref_e]
    rfl
  rw [val_main_v59_apply, val_main_v58_apply, val_main_cst_14_apply, zero_word, zero_add, Fin.sum_univ_one, idx_59, val_main_v57_apply, val_main_v55_apply, hm, val_main_v31_apply,
    val_main_v30_apply, val_main_cst_7_apply, val_main_v29_apply, ref_rs, ref_n, val_main_v56_apply, val_main_cst_13_apply]
  rfl

/-- The cotangent of a centred row. -/
theorem ref_dcen (s : Fin 2) (p : Fin 4096) (q : Fin 1024) :
    val_main_v63 (F := Ideal) X A W G L T (ix3 s p q)
      = dcen (fun x : Fin 1024 => d A W X G (4096 * s + p) x) (nv A W X G (4096 * s + p)) (rs A W X G (4096 * s + p)) (e L T (4096 * s + p)) q := by
  rw [val_main_v63_apply, val_main_v61_apply, val_main_v62_apply, val_main_v60_apply, val_main_v54_apply, ref_dvar, ref_d, ref_e, ref_dev]
  rfl

/-- The cotangent of a row that is normed, by the transposed lines. -/
theorem ref_tr (s : Fin 2) (p : Fin 4096) (q : Fin 1024) :
    val_main_v71 (F := Ideal) X A W G L T (ix3 s p q)
      = transposed (fun x : Fin 1024 => d A W X G (4096 * s + p) x) (nv A W X G (4096 * s + p)) (rs A W X G (4096 * s + p)) (e L T (4096 * s + p)) q := by
  have hm : val_main_v66 (F := Ideal) X A W G L T (ix3 s p (0 : Fin 1))
      = ∑ x : Fin 1024, -dcen (fun x : Fin 1024 => d A W X G (4096 * s + p) x) (nv A W X G (4096 * s + p)) (rs A W X G (4096 * s + p)) (e L T (4096 * s + p)) x := by
    rw [val_main_v66_apply, val_main_v65_apply, val_main_cst_15_apply, zero_word, zero_add]
    refine Finset.sum_congr rfl fun k _ => ?_
    rw [idx_66, val_main_v64_apply, ref_dcen]
    rfl
  rw [val_main_v71_apply, ref_dcen, val_main_v70_apply, val_main_v69_apply, val_main_cst_17_apply, zero_word, zero_add, Fin.sum_univ_one, idx_70, val_main_v68_apply, hm,
    val_main_v67_apply, val_main_cst_16_apply]
  rfl

/-! ## Over the reals -/

/-- The arguments are real. -/
structure AllReal : Prop where
  hA : ∀ i, IsReal (A i)
  hW : ∀ i, IsReal (W i)
  hX : ∀ i, IsReal (X i)
  hG : ∀ i, IsReal (G i)
  hL : ∀ i, IsReal (L i)
  hT : ∀ i, IsReal (T i)

theorem real_half : IsReal (Ideal.ofBits .f32 0x3F000000#32) := ⟨_, word_half⟩

theorem mul_add_real {a b c : EReal} (ha : IsReal a) (hb : IsReal b) (hc : IsReal c) : a * (b + c) = a * b + a * c := by
  obtain ⟨x, rfl⟩ := ha
  obtain ⟨y, rfl⟩ := hb
  obtain ⟨z, rfl⟩ := hc
  simp only [← EReal.coe_mul, ← EReal.coe_add, mul_add]

/-- A real factor goes into a sum of reals. -/
theorem mul_sum_real {a : EReal} (ha : IsReal a) (s : Finset ℕ) (f : ℕ → EReal) (hf : ∀ i, IsReal (f i)) : a * ∑ i ∈ s, f i = ∑ i ∈ s, a * f i := by
  induction s using Finset.induction_on with
  | empty => simp
  | insert i s h ih => rw [Finset.sum_insert h, Finset.sum_insert h, mul_add_real ha (hf i) (real_sum s f fun j _ => hf j), ih]

variable {A W X G L T} (h : AllReal A W X G L T)
include h

theorem real_y (r q : ℕ) : IsReal (y A W r q) := real_sum _ _ fun k _ => (real_rd A h.hA r k).mul (real_rd W h.hW k q)

theorem real_v (r q : ℕ) : IsReal (v A W X G r q) :=
  (word_alpha.mul (real_rd X h.hX r q)).add ((real_half.mul (real_one.add (real_rd G h.hG _ q))).mul (real_y h r q))

theorem real_e (r : ℕ) (q : Fin 1024) : IsReal (e L T r q) := (real_rd T h.hT r q).mul (h.hL _)

/-- The transposed lines leave the closed form. -/
theorem tr_eq (r : ℕ) (q : Fin 1024) :
    transposed (fun x : Fin 1024 => d A W X G r x) (nv A W X G r) (rs A W X G r) (e L T r) q = dz A W X G L T r q := by
  obtain ⟨w, n, hn, hw, hd, hv⟩ := real_norm (fun x : Fin 1024 => v A W X G r x) fun x => real_v h r x
  have hd' : (fun x : Fin 1024 => d A W X G r x) = fun x => (w x : EReal) := funext hd
  choose u hu using real_e h r
  have he : e L T r = fun x => (u x : EReal) := funext hu
  have hnv : nv A W X G r = (n : EReal) := by
    rw [nv, ← hv]
    refine congrArg₂ HAdd.hAdd (congrArg₂ Ideal.div (Finset.sum_congr rfl fun x _ => ?_) rfl) rfl
    exact congrArg₂ HMul.hMul (hd x) (hd x)
  rw [dz, rs_eq, hnv, hd', he]
  exact norm_grad w u n hn hw q

/-- The cotangent of a row that is normed is real. -/
theorem real_dz (r : ℕ) (q : Fin 1024) : IsReal (dz A W X G L T r q) := by
  obtain ⟨w, n, hn, hw, hd, hv⟩ := real_norm (fun x : Fin 1024 => v A W X G r x) fun x => real_v h r x
  have hd' : (fun x : Fin 1024 => d A W X G r x) = fun x => (w x : EReal) := funext hd
  choose u hu using real_e h r
  have he : e L T r = fun x => (u x : EReal) := funext hu
  have hnv : nv A W X G r = (n : EReal) := by
    rw [nv, ← hv]
    refine congrArg₂ HAdd.hAdd (congrArg₂ Ideal.div (Finset.sum_congr rfl fun x _ => ?_) rfl) rfl
    exact congrArg₂ HMul.hMul (hd x) (hd x)
  have hR : Ideal.rsqrt (n : EReal) = (((Real.sqrt n)⁻¹ : ℝ) : EReal) := by
    rw [Ideal.rsqrt_coe, if_neg (not_lt.mpr hn.le), if_neg hn.ne']
  rw [dz, rs_eq, hnv, hd', he, hR, closed]
  simp only [← EReal.coe_mul]
  rw [sum_coe, sum_coe, div_1024, div_1024]
  simp only [← EReal.coe_mul, ← EReal.coe_sub]
  exact ⟨_, rfl⟩

theorem ref_dz (s : Fin 2) (p : Fin 4096) (q : Fin 1024) : val_main_v71 (F := Ideal) X A W G L T (ix3 s p q) = dz A W X G L T (4096 * s + p) q :=
  (ref_tr A W X G L T s p q).trans (tr_eq h _ q)

theorem ref_dx (s : Fin 2) (p : Fin 4096) (q : Fin 1024) : val_main_v81 (F := Ideal) X A W G L T (ix3 s p q) = dx A W X G L T (4096 * s + p) q := by
  rw [val_main_v81_apply, val_main_v80_apply, val_main_cst_21_apply, ref_dz h]
  rfl

theorem ref_dy (s : Fin 2) (p : Fin 4096) (q : Fin 1024) : val_main_v73 (F := Ideal) X A W G L T (ix3 s p q) = dy A W X G L T (4096 * s + p) q := by
  rw [val_main_v73_apply, val_main_v72_apply, val_main_v11_apply, val_main_v10_apply, val_main_cst_1_apply, val_main_v9_apply, val_main_v8_apply, val_main_cst_0_apply, val_main_v7_apply, ref_dz h]
  have h2 : G (idx_main_v7 (idx_main_v72 (ix3 s p q))) = rd (a := 2) (b := 1024) G ((4096 * s + p) / 4096) q :=
    rd_of (a := 2) (b := 1024) G _ (show s.val = (4096 * s.val + p.val) / 4096 by omega) rfl
  rw [h2, dy]
  have h3 : Ideal.ofBits .f32 0x3F800000#32 = 1 := by pointwise
  rw [← h3]
  rfl

theorem ref_da (s : Fin 2) (p : Fin 4096) (j : Fin 2816) : val_main_v82 (F := Ideal) X A W G L T (ix3 s p j) = da A W X G L T (4096 * s + p) j := by
  rw [val_main_v82_apply, da]
  refine Finset.sum_congr rfl fun q _ => ?_
  refine congrArg₂ HMul.hMul ?_ ?_
  · exact (congrArg (val_main_v73 (F := Ideal) X A W G L T) (eq_ix3 _)).trans (ref_dy h s p q)
  · exact rd_of (a := 2816) (b := 1024) W _ rfl rfl

omit h in
theorem idx_dg (s : Fin 2) (k : Fin 1024) (p : Fin 4096) :
    idx_main_v75 (idx_main_v76 (idx_main_v79 (idx_main_v88 (ix3 s (0 : Fin 1) k)) 0)) p = ix3 s p k := funext fun a =>
  match a with
  | ⟨0, _⟩ => Fin.ext (show ((s.val * 1 + 0) * 1024 + k.val) / 1024 = s.val by omega)
  | ⟨1, _⟩ => rfl
  | ⟨2, _⟩ => Fin.ext (show ((s.val * 1 + 0) * 1024 + k.val) % 1024 = k.val by omega)

omit h in
variable (A W X G L T) in
/-- The cotangent of the gate: half the sum over the sequence's rows, by pieces of 256 rows. -/
def dg (b : ℕ) (q : Fin 1024) : EReal := ∑ i ∈ Finset.range 16, Ideal.ofBits .f32 0x3F000000#32 * ∑ r ∈ Finset.range 256, gt A W X G L T (4096 * b + (i * 256 + r)) q

theorem dg_eq (b : ℕ) (q : Fin 1024) : dg A W X G L T b q = Ideal.ofBits .f32 0x3F000000#32 * ∑ r ∈ Finset.range 4096, gt A W X G L T (4096 * b + r) q := by
  have hg : ∀ r, IsReal (gt A W X G L T r q) := fun r => (real_y h r q).mul (real_dz h r q)
  rw [mul_sum_real real_half _ _ fun i => hg _]
  refine Eq.trans ?_ (Finset.sum_range_range_mul_add 16 256 fun r => Ideal.ofBits .f32 0x3F000000#32 * gt A W X G L T (4096 * b + r) q)
  exact Finset.sum_congr rfl fun i _ => mul_sum_real real_half _ _ fun r => hg _

theorem ref_dg (s : Fin 2) (k : Fin 1024) : val_main_v88 (F := Ideal) X A W G L T (ix3 s (0 : Fin 1) k) = dg A W X G L T s k := by
  rw [dg_eq h, val_main_v88_apply, val_main_v79_apply, val_main_cst_20_apply, zero_word, zero_add, Fin.sum_univ_one, val_main_v78_apply, val_main_v77_apply, val_main_cst_19_apply,
    val_main_v76_apply, val_main_v75_apply, val_main_cst_18_apply, zero_word, zero_add, Finset.sum_range]
  refine congrArg₂ HMul.hMul rfl (Finset.sum_congr rfl fun p _ => ?_)
  rw [idx_dg, val_main_v74_apply, ref_dz h, ref_y]
  exact mul_comm _ _

omit h
variable (A W X G T)

/-- The cotangent of the norm's scale: the sum over all rows. -/
def dlng (q : Fin 1024) : EReal := ∑ r ∈ Finset.range 8192, lt A W X G T r q
/-- The cotangent of the norm's shift: the sum over all rows. -/
def dlnb (q : Fin 1024) : EReal := ∑ r ∈ Finset.range 8192, rd (a := 8192) (b := 1024) T r q

theorem ref_dlng (q : Fin 1024) : val_main_v89 (F := Ideal) X A W G T (ix2 (0 : Fin 1) q) = dlng A W X G T q := by
  have h1 : val_main_v45 (F := Ideal) X A W G T (ix1 q) = dlng A W X G T q := by
    rw [val_main_v45]
    refine (sum3 _ _ _ _ zero_word q).trans ?_
    rw [dlng, ← sum_rows]
    refine Finset.sum_congr rfl fun s _ => Finset.sum_congr rfl fun p _ => ?_
    rw [val_main_v44_apply, val_main_v33_apply, val_main_v32_apply, ref_t, ref_d]
    have hr : val_main_v28 (F := Ideal) X A W G (idx_main_v32 (ix3 s p q)) = rs A W X G (4096 * s + p) :=
      (congrArg (val_main_v28 (F := Ideal) X A W G) (eq_ix3 _)).trans (ref_rs A W X G s p)
    rw [hr]
    exact mul_comm _ _
  rw [val_main_v89_apply, val_main_v49]
  refine (congrArg _ (eq_ix1 _)).trans ((sum3 _ _ _ _ zero_word q).trans ?_)
  rw [Fin.sum_univ_one, Fin.sum_univ_one, val_main_v46_apply]
  refine (congrArg (val_main_v45 (F := Ideal) X A W G T) (funext fun a => ?_)).trans h1
  match a with
  | ⟨0, _⟩ => exact Fin.ext (show (0 * 1 + 0) * 1024 + q.val = q.val by omega)

theorem ref_dlnb (q : Fin 1024) : val_main_v90 (F := Ideal) T (ix2 (0 : Fin 1) q) = dlnb T q := by
  have h1 : val_main_v41 (F := Ideal) T (ix1 q) = dlnb T q := by
    rw [val_main_v41]
    refine (sum3 _ _ _ _ zero_word q).trans ?_
    rw [dlnb, ← sum_rows]
    exact Finset.sum_congr rfl fun s _ => Finset.sum_congr rfl fun p _ => ref_t T s p q
  rw [val_main_v90_apply, val_main_v43]
  refine (congrArg _ (eq_ix1 _)).trans ((sum3 _ _ _ _ zero_word q).trans ?_)
  rw [Fin.sum_univ_one, Fin.sum_univ_one, val_main_v42_apply]
  refine (congrArg (val_main_v41 (F := Ideal) T) (funext fun a => ?_)).trans h1
  match a with
  | ⟨0, _⟩ => exact Fin.ext (show (0 * 1 + 0) * 1024 + q.val = q.val by omega)

end Cert.FfnDownBwdV
-- ==== Proof.FfnDownBwdTile.lean ====
/-  The backward pass through the feed-forward output product: what each point of the kernel leaves.  -/
module
public import proofs.«01_k».proof.Proof.FfnDownBwdRef
public import proofs.«01_k».proof.Proof.Taps
@[expose] public section
noncomputable section
namespace Cert.FfnDownBwdV
open Idealize.ShloMosaic Idealize.ShloMosaic.TcCoe Idealize.ShloMosaic.StableHlo Idealize.ShloMosaic.Tactic Cert.FfnDownBwdIdeal Cert.FfnDownBwdIdeal.Gen Cert.Conf

variable (m : (ℓ : Loc nD τ sig) → Buf (Elt Ideal) ℓ) (c : Dev nD)

/-- The arguments. -/
abbrev aX : S8192x1024.Idx → EReal := m ((c : Thread nD τ).loc main_arg0)
abbrev aA : S8192x2816.Idx → EReal := m ((c : Thread nD τ).loc main_arg1)
abbrev aW : S2816x1024.Idx → EReal := m ((c : Thread nD τ).loc main_arg2)
abbrev aG : S2x1024.Idx → EReal := m ((c : Thread nD τ).loc main_arg3)
abbrev aL : S1024.Idx → EReal := m ((c : Thread nD τ).loc main_arg4)
abbrev aT : S8192x1024.Idx → EReal := m ((c : Thread nD τ).loc main_arg6)

theorem at_0 : ∀ t : Fin cfg0.N, win0_0.index t = ![t.val, 0] := (by decide +kernel : ∀ t : Fin grid0.N, _)
theorem at_1 : ∀ t : Fin cfg0.N, win0_1.index t = ![t.val, 0] := (by decide +kernel : ∀ t : Fin grid0.N, _)
theorem at_2 : ∀ t : Fin cfg0.N, win0_2.index t = ![t.val, 0] := (by decide +kernel : ∀ t : Fin grid0.N, _)
theorem at_3 : ∀ t : Fin cfg0.N, win0_3.index t = ![t.val / 8, 0, 0] := (by decide +kernel : ∀ t : Fin grid0.N, _)
theorem at_4 : ∀ t : Fin cfg0.N, win0_4.index t = ![0, 0] := (by decide +kernel : ∀ t : Fin grid0.N, _)
theorem at_6 : ∀ t : Fin cfg0.N, win0_6.index t = ![0, 0] := (by decide +kernel : ∀ t : Fin grid0.N, _)
theorem at_7 : ∀ t : Fin cfg0.N, win0_7.index t = ![t.val, 0] := (by decide +kernel : ∀ t : Fin grid0.N, _)
theorem at_8 : ∀ t : Fin cfg0.N, win0_8.index t = ![t.val, 0] := (by decide +kernel : ∀ t : Fin grid0.N, _)
theorem at_9 : ∀ t : Fin cfg0.N, win0_9.index t = ![t.val, 0] := (by decide +kernel : ∀ t : Fin grid0.N, _)
theorem at_10 : ∀ t : Fin cfg0.N, win0_10.index t = ![t.val / 8, 0, 0] := (by decide +kernel : ∀ t : Fin grid0.N, _)
theorem at_11 : ∀ t : Fin cfg0.N, win0_11.index t = ![0, 0] := (by decide +kernel : ∀ t : Fin grid0.N, _)
theorem at_12 : ∀ t : Fin cfg0.N, win0_12.index t = ![0, 0] := (by decide +kernel : ∀ t : Fin grid0.N, _)

theorem blk_0 (t : Fin cfg0.N) {p q : ℕ} (hp : p < 512) (hq : q < 1024) :
    rd (a := 512) (b := 1024) (iblk m c 0 t) p q = rd (a := 8192) (b := 1024) (aT m c) (512 * t.val + p) q := by
  rw [rd_lt (a := 512) (b := 1024) _ hp hq]
  blk_simp [iblk]
  rw [aT, ← V_main_arg6 m c]
  exact rd_of (a := 8192) (b := 1024) _ _ (by blk_simp [at_0]; show _ + p = _; omega) (by blk_simp [at_0])

theorem blk_1 (t : Fin cfg0.N) {p q : ℕ} (hp : p < 512) (hq : q < 1024) :
    rd (a := 512) (b := 1024) (iblk m c 1 t) p q = rd (a := 8192) (b := 1024) (aX m c) (512 * t.val + p) q := by
  rw [rd_lt (a := 512) (b := 1024) _ hp hq]
  blk_simp [iblk]
  rw [aX, ← V_main_arg0 m c]
  exact rd_of (a := 8192) (b := 1024) _ _ (by blk_simp [at_1]; show _ + p = _; omega) (by blk_simp [at_1])

/-- The product the host makes from the saved rows. -/
theorem host_y (r : Fin 8192) (q : Fin 1024) : (V m c main_v4 : S8192x1024.Idx → EReal) (ix2 r q) = Cert.FfnDownV.y (aA m c) (aW m c) r q := by
  have e : (V m c main_v4 : S8192x1024.Idx → EReal)
      = shapeCast S8192x1024 (Cert.ReferenceFfnDownBwdIdeal.Read.val_main_v3 (F := Ideal) (aA m c) (aW m c) : Vec Ideal S2x4096x1024 .f32) shapeCasts_S2x4096x1024_S8192x1024 := by
    unfold V hostOps0
    after_results
    rfl
  have hr := r.isLt
  have hq := q.isLt
  rw [e]
  pointwise
  refine Eq.trans (congrArg (Cert.ReferenceFfnDownBwdIdeal.Read.val_main_v3 (F := Ideal) (aA m c) (aW m c))
    (show _ = ix3 (n0 := 2) (n1 := 4096) (n2 := 1024) ⟨r.val / 4096, by omega⟩ ⟨r.val % 4096, by omega⟩ q from ?_)) ((ref_y (aA m c) (aW m c) _ _ _).trans ?_)
  · funext a
    match a with
    | ⟨0, _⟩ => exact Fin.ext (by simp)
    | ⟨1, _⟩ => exact Fin.ext (by simp)
    | ⟨2, _⟩ => exact Fin.ext (by simp)
  · show Cert.FfnDownV.y _ _ (4096 * (r.val / 4096) + r.val % 4096) _ = _
    rw [Nat.div_add_mod]

theorem blk_2 (t : Fin cfg0.N) {p q : ℕ} (hp : p < 512) (hq : q < 1024) :
    rd (a := 512) (b := 1024) (iblk m c 2 t) p q = Cert.FfnDownV.y (aA m c) (aW m c) (512 * t.val + p) q := by
  rw [rd_lt (a := 512) (b := 1024) _ hp hq]
  blk_simp [iblk]
  have ht : t.val < 16 := t.isLt
  refine Eq.trans ?_ (host_y m c ⟨512 * t.val + p, by omega⟩ ⟨q, hq⟩)
  refine congrArg (V m c main_v4 : S8192x1024.Idx → EReal) (funext fun a => Fin.ext ?_)
  match a with
  | ⟨0, _⟩ => blk_simp [at_2]; show _ + p = 512 * t.val + p; omega
  | ⟨1, _⟩ => blk_simp [at_2]

theorem blk_3 (t : Fin cfg0.N) (q : Fin 1024) :
    (iblk m c 3 t : Vec Ideal S1x1x1024 .f32) (ix3 0 0 q) = rd (a := 2) (b := 1024) (aG m c) (t.val / 8) q := by
  have e : V m c main_v5 = broadcastInDim S2x1x1024 ![0, 2] bcast_S2x1024_S2x1x1024_0_2 (m ((c : Thread nD τ).loc main_arg3)) := by
    unfold V hostOps0
    after_results
  blk_simp [iblk]
  show V m c main_v5 _ = _
  rw [e]
  pointwise
  exact rd_of (a := 2) (b := 1024) _ _ (by blk_simp [at_3]; exact Nat.add_zero _) (by blk_simp [at_3])

theorem blk_4 (t : Fin cfg0.N) (q : Fin 1024) : (iblk m c 4 t : Vec Ideal S1x1024 .f32) (ix2 0 q) = aL m c (ix1 q) := by
  have e : V m c main_v6 = broadcastInDim S1x1024 ![1] bcast_S1024_S1x1024_1 (m ((c : Thread nD τ).loc main_arg4)) := by
    unfold V hostOps0
    after_results
  blk_simp [iblk]
  show V m c main_v6 _ = _
  rw [e]
  pointwise
  exact congrArg (fun z => aL m c (ix1 z)) (Fin.ext (by blk_simp [at_4]))

theorem blk_6 (t : Fin cfg0.N) (j : Fin 2816) (q : Fin 1024) :
    (iblk m c 6 t : Vec Ideal S2816x1024 .bf16) (ix2 j q) = rd (a := 2816) (b := 1024) (aW m c) j q := by
  blk_simp [iblk]
  rw [aW, ← V_main_arg2 m c]
  exact rd_of (a := 2816) (b := 1024) _ _ (by blk_simp [at_6]) (by blk_simp [at_6])

/-- The rows of a tile from `o` on. -/
abbrev at_rows (v : Vec Ideal S512x1024 .f32) (o : ℕ) (h : ∀ a : Fin 2, (![o, 0] : Fin 2 → ℕ) a + (![256, 1024] : Fin 2 → ℕ) a ≤ S512x1024.size a) : Vec Ideal S256x1024 .f32 :=
  View.ld v (Rect.unit (s := S512x1024) ![o, 0] ![256, 1024] h)

theorem hold (t : Fin cfg0.N) (o : ℕ) (h : ∀ a : Fin 2, (![o, 0] : Fin 2 → ℕ) a + (![256, 1024] : Fin 2 → ℕ) a ≤ S512x1024.size a) :
    Holds (aA m c) (aW m c) (aX m c) (aG m c) (aL m c) (aT m c) (at_rows (iblk m c 1 t) o h) (at_rows (iblk m c 2 t) o h) (iblk m c 3 t) (iblk m c 4 t) (at_rows (iblk m c 0 t) o h) (512 * t.val + o) := by
  have ho : o + 256 ≤ 512 := h 0
  refine ⟨fun p q => ?_, fun p q => ?_, fun p q => ?_, blk_4 m c t, fun p q => ?_⟩
  · refine (ld_rd (a := 512) (b := 1024) (iblk m c 1 t) o 0 _ _).trans ?_
    refine (blk_1 m c t (by show o + p.val < 512; omega) (by show 0 + q.val < 1024; omega)).trans ?_
    show rd _ (512 * t.val + (o + p.val)) (0 + q.val) = _
    rw [Nat.zero_add, Nat.add_assoc]
  · refine (ld_rd (a := 512) (b := 1024) (iblk m c 2 t) o 0 _ _).trans ?_
    refine (blk_2 m c t (by show o + p.val < 512; omega) (by show 0 + q.val < 1024; omega)).trans ?_
    show Cert.FfnDownV.y _ _ (512 * t.val + (o + p.val)) (0 + q.val) = _
    rw [Nat.zero_add, Nat.add_assoc]
  · rw [blk_3, show (512 * t.val + o + p.val) / 4096 = t.val / 8 by omega]
  · refine (ld_rd (a := 512) (b := 1024) (iblk m c 0 t) o 0 _ _).trans ?_
    refine (blk_0 m c t (by show o + p.val < 512; omega) (by show 0 + q.val < 1024; omega)).trans ?_
    show rd _ (512 * t.val + (o + p.val)) (0 + q.val) = _
    rw [Nat.zero_add, Nat.add_assoc]

/-! ## The outputs that a point writes whole -/
theorem lo_7 (t : Fin cfg0.N) (h) (p' : Fin 256) (q : Fin 1024) (p : Fin 512) (q' : Fin 1024) (e0 : p.val = p'.val) (e1 : q.val = q'.val) :
    k0_pay14 (k0_pay7 (iblk m c 4 t)) (at_rows (iblk m c 0 t) 0 h) (k0_pay9 (at_rows (iblk m c 1 t) 0 h) (at_rows (iblk m c 2 t) 0 h) (iblk m c 3 t)) (ix2 p' q') = dx (aA m c) (aW m c) (aX m c) (aG m c) (aL m c) (aT m c) (512 * t.val + p) q := by
  obtain rfl : q = q' := Fin.ext e1
  refine (p14 (hold m c t 0 h) p' q).trans ?_
  rw [e0, Nat.add_zero]

theorem hi_7 (t : Fin cfg0.N) (h) (p' : Fin 256) (q : Fin 1024) (p : Fin 512) (q' : Fin 1024) (e0 : p.val = 256 + p'.val) (e1 : q.val = q'.val) :
    k0_pay33 (k0_pay26 (at_rows (iblk m c 1 t) 256 h) (k0_pay23 (at_rows (iblk m c 2 t) 256 h)) (iblk m c 3 t)) (k0_pay27 (at_rows (iblk m c 1 t) 256 h) (k0_pay23 (at_rows (iblk m c 2 t) 256 h)) (iblk m c 3 t)) (k0_pay29 (iblk m c 4 t) (at_rows (iblk m c 0 t) 256 h)) (k0_pay30 (at_rows (iblk m c 1 t) 256 h) (k0_pay23 (at_rows (iblk m c 2 t) 256 h)) (iblk m c 3 t) (iblk m c 4 t) (at_rows (iblk m c 0 t) 256 h)) k0_pay31 (ix2 p' q') = dx (aA m c) (aW m c) (aX m c) (aG m c) (aL m c) (aT m c) (512 * t.val + p) q := by
  obtain rfl : q = q' := Fin.ext e1
  rw [up33]
  refine (p14 (hold m c t 256 h) p' q).trans ?_
  rw [e0, Nat.add_assoc]

/-- What a point leaves of the cotangent of the residual. -/
theorem tile_7 (t : Fin cfg0.N) (p : Fin 512) (q : Fin 1024) :
    ((dats m 0 c).after 7 t : Vec Ideal S512x1024 .f32) (ix2 p q) = dx (aA m c) (aW m c) (aX m c) (aG m c) (aL m c) (aT m c) (512 * t.val + p) q := by
  rw [after0_7]
  by_cases h0 : t.val % 8 = 0
  · by_cases h1 : t.val % 16 = 0
    · rw [outsAt0_A m c t h0 h1]
      frame_out
      canon_tiles x hx
      · obtain ⟨p', q', rfl⟩ : ∃ (p' : Fin 256) (q' : Fin 1024), x = ix2 p' q' := ⟨x 0, x 1, eq_ix2 x⟩
        exact hi_7 m c t _ p' q p q' hx0 hx1
      · obtain ⟨p', q', rfl⟩ : ∃ (p' : Fin 256) (q' : Fin 1024), x = ix2 p' q' := ⟨x 0, x 1, eq_ix2 x⟩
        exact lo_7 m c t _ p' q p q' hx0 hx1
    · rw [outsAt0_C m c t h0 h1]
      frame_out
      canon_tiles x hx
      · obtain ⟨p', q', rfl⟩ : ∃ (p' : Fin 256) (q' : Fin 1024), x = ix2 p' q' := ⟨x 0, x 1, eq_ix2 x⟩
        exact hi_7 m c t _ p' q p q' hx0 hx1
      · obtain ⟨p', q', rfl⟩ : ∃ (p' : Fin 256) (q' : Fin 1024), x = ix2 p' q' := ⟨x 0, x 1, eq_ix2 x⟩
        exact lo_7 m c t _ p' q p q' hx0 hx1
  · have h1 : ¬ t.val % 16 = 0 := by omega
    rw [outsAt0_B m c t h0 h1]
    frame_out
    canon_tiles x hx
    · obtain ⟨p', q', rfl⟩ : ∃ (p' : Fin 256) (q' : Fin 1024), x = ix2 p' q' := ⟨x 0, x 1, eq_ix2 x⟩
      exact hi_7 m c t _ p' q p q' hx0 hx1
    · obtain ⟨p', q', rfl⟩ : ∃ (p' : Fin 256) (q' : Fin 1024), x = ix2 p' q' := ⟨x 0, x 1, eq_ix2 x⟩
      exact lo_7 m c t _ p' q p q' hx0 hx1

theorem lo_8 (t : Fin cfg0.N) (h) (p' : Fin 256) (q : Fin 1024) (p : Fin 512) (q' : Fin 1024) (e0 : p.val = p'.val) (e1 : q.val = q'.val) :
    k0_pay18 (k0_pay15 (k0_pay7 (iblk m c 4 t)) (at_rows (iblk m c 0 t) 0 h) (k0_pay8 (iblk m c 3 t)) (k0_pay9 (at_rows (iblk m c 1 t) 0 h) (at_rows (iblk m c 2 t) 0 h) (iblk m c 3 t))) (ix2 p' q') = dy (aA m c) (aW m c) (aX m c) (aG m c) (aL m c) (aT m c) (512 * t.val + p) q := by
  obtain rfl : q = q' := Fin.ext e1
  refine (p18 (hold m c t 0 h) p' q).trans ?_
  rw [e0, Nat.add_zero]

theorem hi_8 (t : Fin cfg0.N) (h) (p' : Fin 256) (q : Fin 1024) (p : Fin 512) (q' : Fin 1024) (e0 : p.val = 256 + p'.val) (e1 : q.val = q'.val) :
    k0_pay36 (k0_pay24 (iblk m c 3 t)) (k0_pay26 (at_rows (iblk m c 1 t) 256 h) (k0_pay23 (at_rows (iblk m c 2 t) 256 h)) (iblk m c 3 t)) (k0_pay27 (at_rows (iblk m c 1 t) 256 h) (k0_pay23 (at_rows (iblk m c 2 t) 256 h)) (iblk m c 3 t)) (k0_pay29 (iblk m c 4 t) (at_rows (iblk m c 0 t) 256 h)) (k0_pay30 (at_rows (iblk m c 1 t) 256 h) (k0_pay23 (at_rows (iblk m c 2 t) 256 h)) (iblk m c 3 t) (iblk m c 4 t) (at_rows (iblk m c 0 t) 256 h)) k0_pay31 (ix2 p' q') = dy (aA m c) (aW m c) (aX m c) (aG m c) (aL m c) (aT m c) (512 * t.val + p) q := by
  obtain rfl : q = q' := Fin.ext e1
  rw [up36]
  refine (p18 (hold m c t 256 h) p' q).trans ?_
  rw [e0, Nat.add_assoc]

/-- What a point leaves of the cotangent of the product. -/
theorem tile_8 (t : Fin cfg0.N) (p : Fin 512) (q : Fin 1024) :
    ((dats m 0 c).after 8 t : Vec Ideal S512x1024 .bf16) (ix2 p q) = dy (aA m c) (aW m c) (aX m c) (aG m c) (aL m c) (aT m c) (512 * t.val + p) q := by
  rw [after0_8]
  by_cases h0 : t.val % 8 = 0
  · by_cases h1 : t.val % 16 = 0
    · rw [outsAt0_A m c t h0 h1]
      frame_out
      canon_tiles x hx
      · obtain ⟨p', q', rfl⟩ : ∃ (p' : Fin 256) (q' : Fin 1024), x = ix2 p' q' := ⟨x 0, x 1, eq_ix2 x⟩
        exact hi_8 m c t _ p' q p q' hx0 hx1
      · obtain ⟨p', q', rfl⟩ : ∃ (p' : Fin 256) (q' : Fin 1024), x = ix2 p' q' := ⟨x 0, x 1, eq_ix2 x⟩
        exact lo_8 m c t _ p' q p q' hx0 hx1
    · rw [outsAt0_C m c t h0 h1]
      frame_out
      canon_tiles x hx
      · obtain ⟨p', q', rfl⟩ : ∃ (p' : Fin 256) (q' : Fin 1024), x = ix2 p' q' := ⟨x 0, x 1, eq_ix2 x⟩
        exact hi_8 m c t _ p' q p q' hx0 hx1
      · obtain ⟨p', q', rfl⟩ : ∃ (p' : Fin 256) (q' : Fin 1024), x = ix2 p' q' := ⟨x 0, x 1, eq_ix2 x⟩
        exact lo_8 m c t _ p' q p q' hx0 hx1
  · have h1 : ¬ t.val % 16 = 0 := by omega
    rw [outsAt0_B m c t h0 h1]
    frame_out
    canon_tiles x hx
    · obtain ⟨p', q', rfl⟩ : ∃ (p' : Fin 256) (q' : Fin 1024), x = ix2 p' q' := ⟨x 0, x 1, eq_ix2 x⟩
      exact hi_8 m c t _ p' q p q' hx0 hx1
    · obtain ⟨p', q', rfl⟩ : ∃ (p' : Fin 256) (q' : Fin 1024), x = ix2 p' q' := ⟨x 0, x 1, eq_ix2 x⟩
      exact lo_8 m c t _ p' q p q' hx0 hx1

theorem lo_9 (t : Fin cfg0.N) (h) (p' : Fin 256) (q : Fin 2816) (p : Fin 512) (q' : Fin 2816) (e0 : p.val = p'.val) (e1 : q.val = q'.val) :
    k0_pay19 (k0_pay15 (k0_pay7 (iblk m c 4 t)) (at_rows (iblk m c 0 t) 0 h) (k0_pay8 (iblk m c 3 t)) (k0_pay9 (at_rows (iblk m c 1 t) 0 h) (at_rows (iblk m c 2 t) 0 h) (iblk m c 3 t))) (iblk m c 6 t) (ix2 p' q') = da (aA m c) (aW m c) (aX m c) (aG m c) (aL m c) (aT m c) (512 * t.val + p) q.val := by
  obtain rfl : q = q' := Fin.ext e1
  refine (p19 (hold m c t 0 h) _ (blk_6 m c t) p' q).trans ?_
  rw [e0, Nat.add_zero]

theorem hi_9 (t : Fin cfg0.N) (h) (p' : Fin 256) (q : Fin 2816) (p : Fin 512) (q' : Fin 2816) (e0 : p.val = 256 + p'.val) (e1 : q.val = q'.val) :
    k0_pay37 (k0_pay24 (iblk m c 3 t)) (k0_pay26 (at_rows (iblk m c 1 t) 256 h) (k0_pay23 (at_rows (iblk m c 2 t) 256 h)) (iblk m c 3 t)) (k0_pay27 (at_rows (iblk m c 1 t) 256 h) (k0_pay23 (at_rows (iblk m c 2 t) 256 h)) (iblk m c 3 t)) (k0_pay29 (iblk m c 4 t) (at_rows (iblk m c 0 t) 256 h)) (k0_pay30 (at_rows (iblk m c 1 t) 256 h) (k0_pay23 (at_rows (iblk m c 2 t) 256 h)) (iblk m c 3 t) (iblk m c 4 t) (at_rows (iblk m c 0 t) 256 h)) k0_pay31 (iblk m c 6 t) (ix2 p' q') = da (aA m c) (aW m c) (aX m c) (aG m c) (aL m c) (aT m c) (512 * t.val + p) q.val := by
  obtain rfl : q = q' := Fin.ext e1
  rw [up37]
  refine (p19 (hold m c t 256 h) _ (blk_6 m c t) p' q).trans ?_
  rw [e0, Nat.add_assoc]

/-- What a point leaves of the cotangent of the left factor. -/
theorem tile_9 (t : Fin cfg0.N) (p : Fin 512) (q : Fin 2816) :
    ((dats m 0 c).after 9 t : Vec Ideal S512x2816 .bf16) (ix2 p q) = da (aA m c) (aW m c) (aX m c) (aG m c) (aL m c) (aT m c) (512 * t.val + p) q.val := by
  rw [after0_9]
  by_cases h0 : t.val % 8 = 0
  · by_cases h1 : t.val % 16 = 0
    · rw [outsAt0_A m c t h0 h1]
      frame_out
      canon_tiles x hx
      · obtain ⟨p', q', rfl⟩ : ∃ (p' : Fin 256) (q' : Fin 2816), x = ix2 p' q' := ⟨x 0, x 1, eq_ix2 x⟩
        exact hi_9 m c t _ p' q p q' hx0 hx1
      · obtain ⟨p', q', rfl⟩ : ∃ (p' : Fin 256) (q' : Fin 2816), x = ix2 p' q' := ⟨x 0, x 1, eq_ix2 x⟩
        exact lo_9 m c t _ p' q p q' hx0 hx1
    · rw [outsAt0_C m c t h0 h1]
      frame_out
      canon_tiles x hx
      · obtain ⟨p', q', rfl⟩ : ∃ (p' : Fin 256) (q' : Fin 2816), x = ix2 p' q' := ⟨x 0, x 1, eq_ix2 x⟩
        exact hi_9 m c t _ p' q p q' hx0 hx1
      · obtain ⟨p', q', rfl⟩ : ∃ (p' : Fin 256) (q' : Fin 2816), x = ix2 p' q' := ⟨x 0, x 1, eq_ix2 x⟩
        exact lo_9 m c t _ p' q p q' hx0 hx1
  · have h1 : ¬ t.val % 16 = 0 := by omega
    rw [outsAt0_B m c t h0 h1]
    frame_out
    canon_tiles x hx
    · obtain ⟨p', q', rfl⟩ : ∃ (p' : Fin 256) (q' : Fin 2816), x = ix2 p' q' := ⟨x 0, x 1, eq_ix2 x⟩
      exact hi_9 m c t _ p' q p q' hx0 hx1
    · obtain ⟨p', q', rfl⟩ : ∃ (p' : Fin 256) (q' : Fin 2816), x = ix2 p' q' := ⟨x 0, x 1, eq_ix2 x⟩
      exact lo_9 m c t _ p' q p q' hx0 hx1

/-! ## The accumulators -/

/-- What a point adds to the cotangent of the gate. -/
def term10 (n : ℕ) (q : Fin 1024) : EReal :=
  Ideal.ofBits .f32 0x3F000000#32 * ∑ p : Fin 256, gt (aA m c) (aW m c) (aX m c) (aG m c) (aL m c) (aT m c) (512 * n + 0 + p) q + Ideal.ofBits .f32 0x3F000000#32 * ∑ p : Fin 256, gt (aA m c) (aW m c) (aX m c) (aG m c) (aL m c) (aT m c) (512 * n + 256 + p) q
/-- What a point adds to the cotangent of the norm's scale. -/
def term11 (n : ℕ) (q : Fin 1024) : EReal :=
  ∑ p : Fin 256, lt (aA m c) (aW m c) (aX m c) (aG m c) (aT m c) (512 * n + 0 + p) q + ∑ p : Fin 256, lt (aA m c) (aW m c) (aX m c) (aG m c) (aT m c) (512 * n + 256 + p) q
/-- What a point adds to the cotangent of the norm's shift. -/
def term12 (n : ℕ) (q : Fin 1024) : EReal :=
  ∑ p : Fin 256, rd (a := 8192) (b := 1024) (aT m c) (512 * n + 0 + p) q + ∑ p : Fin 256, rd (a := 8192) (b := 1024) (aT m c) (512 * n + 256 + p) q

theorem step_10 (t : Fin cfg0.N) (h h') (a : Vec Ideal S1x1x1024 .f32) (q : Fin 1024) :
    k0_pay38 (k0_pay23 (at_rows (iblk m c 2 t) 256 h')) (k0_pay26 (at_rows (iblk m c 1 t) 256 h') (k0_pay23 (at_rows (iblk m c 2 t) 256 h')) (iblk m c 3 t)) (k0_pay27 (at_rows (iblk m c 1 t) 256 h') (k0_pay23 (at_rows (iblk m c 2 t) 256 h')) (iblk m c 3 t)) (k0_pay29 (iblk m c 4 t) (at_rows (iblk m c 0 t) 256 h')) (k0_pay30 (at_rows (iblk m c 1 t) 256 h') (k0_pay23 (at_rows (iblk m c 2 t) 256 h')) (iblk m c 3 t) (iblk m c 4 t) (at_rows (iblk m c 0 t) 256 h')) k0_pay31
      (k0_pay20 (k0_pay16 (k0_pay6 (at_rows (iblk m c 2 t) 0 h)) (k0_pay7 (iblk m c 4 t)) (at_rows (iblk m c 0 t) 0 h) (k0_pay9 (at_rows (iblk m c 1 t) 0 h) (at_rows (iblk m c 2 t) 0 h) (iblk m c 3 t))) a) (ix3 0 0 q) = a (ix3 0 0 q) + term10 m c t.val q := by
  rw [up38, p20 (hold m c t 256 h'), p20 (hold m c t 0 h), add_assoc]
  rfl

theorem step_11 (t : Fin cfg0.N) (h h') (a : Vec Ideal S1x1024 .f32) (q : Fin 1024) :
    k0_pay1 (k0_pay34 (at_rows (iblk m c 0 t) 256 h') (k0_pay27 (at_rows (iblk m c 1 t) 256 h') (k0_pay23 (at_rows (iblk m c 2 t) 256 h')) (iblk m c 3 t)))
      (k0_pay21 (k0_pay17 (at_rows (iblk m c 0 t) 0 h) (k0_pay9 (at_rows (iblk m c 1 t) 0 h) (at_rows (iblk m c 2 t) 0 h) (iblk m c 3 t))) a) (ix2 0 q) = a (ix2 0 q) + term11 m c t.val q := by
  rw [up1, p21 (hold m c t 256 h'), p21 (hold m c t 0 h), add_assoc]
  rfl

theorem step_12 (t : Fin cfg0.N) (h h') (a : Vec Ideal S1x1024 .f32) (q : Fin 1024) :
    k0_pay2 (k0_pay35 (at_rows (iblk m c 0 t) 256 h')) (k0_pay22 (at_rows (iblk m c 0 t) 0 h) a) (ix2 0 q) = a (ix2 0 q) + term12 m c t.val q := by
  rw [up2, p22 (hold m c t 256 h'), p22 (hold m c t 0 h), add_assoc]
  rfl

/-- The accumulator of the cotangent of the gate after a point: the sum over the sequence's points so far. -/
theorem acc_10 (t : Fin cfg0.N) (q : Fin 1024) :
    ((outsAt0 m c t.val t.isLt).2.2.2.1 (ix3 0 0 q) : EReal) = 0 + ∑ s ∈ Finset.range (t.val % 8 + 1), term10 m c (8 * (t.val / 8) + s) q := by
  refine Pipeline.eq_sum_of_reset_step_apply (M := EReal) (fun n h (q : Fin 1024) => (outsAt0 m c n h).2.2.2.1 (ix3 0 0 q)) 8 (fun _ => 0)
    (fun t q => term10 m c t q) ?_ ?_ t q
  · intro t h0 q
    by_cases h1 : t.val % 16 = 0
    · rw [outsAt0_A m c t h0 h1]
      frame_out
      refine (step_10 m c t _ _ _ q).trans ?_
      rw [zero_3]
    · rw [outsAt0_C m c t h0 h1]
      frame_out
      refine (step_10 m c t _ _ _ q).trans ?_
      rw [zero_3]
  · intro t h0 q
    rw [outsAt0_B m c t h0 (by omega)]
    frame_out
    exact step_10 m c t _ _ _ q

/-- The accumulator of the cotangent of the norm's scale after a point: the sum over the points so far. -/
theorem acc_11 (t : Fin cfg0.N) (q : Fin 1024) :
    ((outsAt0 m c t.val t.isLt).2.2.2.2.1 (ix2 0 q) : EReal) = 0 + ∑ s ∈ Finset.range (t.val % 16 + 1), term11 m c (16 * (t.val / 16) + s) q := by
  refine Pipeline.eq_sum_of_reset_step_apply (M := EReal) (fun n h (q : Fin 1024) => (outsAt0 m c n h).2.2.2.2.1 (ix2 0 q)) 16 (fun _ => 0)
    (fun t q => term11 m c t q) ?_ ?_ t q
  · intro t h1 q
    rw [outsAt0_A m c t (by omega) h1]
    frame_out
    refine (step_11 m c t _ _ _ q).trans ?_
    rw [zero_4]
  · intro t h1 q
    by_cases h0 : t.val % 8 = 0
    · rw [outsAt0_C m c t h0 h1]
      frame_out
      exact step_11 m c t _ _ _ q
    · rw [outsAt0_B m c t h0 h1]
      frame_out
      exact step_11 m c t _ _ _ q

/-- The accumulator of the cotangent of the norm's shift after a point: the sum over the points so far. -/
theorem acc_12 (t : Fin cfg0.N) (q : Fin 1024) :
    ((outsAt0 m c t.val t.isLt).2.2.2.2.2 (ix2 0 q) : EReal) = 0 + ∑ s ∈ Finset.range (t.val % 16 + 1), term12 m c (16 * (t.val / 16) + s) q := by
  refine Pipeline.eq_sum_of_reset_step_apply (M := EReal) (fun n h (q : Fin 1024) => (outsAt0 m c n h).2.2.2.2.2 (ix2 0 q)) 16 (fun _ => 0)
    (fun t q => term12 m c t q) ?_ ?_ t q
  · intro t h1 q
    rw [outsAt0_A m c t (by omega) h1]
    frame_out
    refine (step_12 m c t _ _ _ q).trans ?_
    rw [zero_5]
  · intro t h1 q
    by_cases h0 : t.val % 8 = 0
    · rw [outsAt0_C m c t h0 h1]
      frame_out
      exact step_12 m c t _ _ _ q
    · rw [outsAt0_B m c t h0 h1]
      frame_out
      exact step_12 m c t _ _ _ q

end Cert.FfnDownBwdV
-- ==== Proof.FfnDownBwdValue.lean ====
/-  The backward pass through the feed-forward output product, its norm and its residual: what the kernel leaves, and that the reference leaves it.  -/
module
public import proofs.«01_k».proof.Defs
public import proofs.«01_k».proof.Pre_norm_finite
public import proofs.«01_k».proof.Proof.Gen.Pre_norm_finite
public import proofs.«01_k».proof.Proof.Gen.FfnDownBwdIdeal.Frame
public import proofs.«01_k».proof.Proof.Gen.ReferenceFfnDownBwdIdeal.Read
public import proofs.«01_k».proof.Proof.FfnDownBwdTile
public import proofs.«01_k».proof.Proof.Finite
public import Idealize.ShloMosaic.Lib.Pointwise
public import Idealize.ShloMosaic.Lib.Pipeline.ReadBack
public import Idealize.ShloMosaic.Lib.Pipeline.ValueKit
@[expose] public section
noncomputable section
namespace Cert.FfnDownBwdV
open Idealize.ShloMosaic Idealize.ShloMosaic.TcCoe Idealize.ShloMosaic.StableHlo Idealize.ShloMosaic.Tactic Cert.FfnDownBwdIdeal Cert.FfnDownBwdIdeal.Gen Cert.Conf

variable (m : (ℓ : Loc nD τ sig) → Buf (Elt Ideal) ℓ) (c : Dev nD)

/-! ## The accumulators at their last points -/

/-- A sum taken two terms at a time. -/
theorem pairs (f : ℕ → EReal) (n : ℕ) : ∑ s ∈ Finset.range n, (f (s * 2) + f (s * 2 + 1)) = ∑ i ∈ Finset.range (n * 2), f i := by
  refine Eq.trans (Finset.sum_congr rfl fun s _ => ?_) (Finset.sum_range_range_mul_add n 2 f)
  rw [Finset.sum_range_succ, Finset.sum_range_one]
  rfl

theorem last_10 (t : Fin cfg0.N) (ht : t.val % 8 = 7) (q : Fin 1024) :
    ((dats m 0 c).after 10 t : Vec Ideal S1x1x1024 .f32) (ix3 0 0 q) = dg (aA m c) (aW m c) (aX m c) (aG m c) (aL m c) (aT m c) (t.val / 8) q := by
  rw [after0_10]
  refine (acc_10 m c t q).trans ?_
  rw [ht, zero_add]
  refine Eq.trans (Finset.sum_congr rfl fun s _ => ?_)
    (pairs (fun i => Ideal.ofBits .f32 0x3F000000#32 * ∑ r ∈ Finset.range 256, gt (aA m c) (aW m c) (aX m c) (aG m c) (aL m c) (aT m c) (4096 * (t.val / 8) + (i * 256 + r)) q) 8)
  simp only [Finset.sum_range]
  refine congrArg₂ HAdd.hAdd (congrArg _ (Finset.sum_congr rfl fun p _ => ?_)) (congrArg _ (Finset.sum_congr rfl fun p _ => ?_))
  · rw [show 512 * (8 * (t.val / 8) + s) + 0 + p.val = 4096 * (t.val / 8) + (s * 2 * 256 + p.val) by omega]
  · rw [show 512 * (8 * (t.val / 8) + s) + 256 + p.val = 4096 * (t.val / 8) + ((s * 2 + 1) * 256 + p.val) by omega]

theorem last_11 (t : Fin cfg0.N) (ht : t.val % 16 = 15) (q : Fin 1024) :
    ((dats m 0 c).after 11 t : Vec Ideal S1x1024 .f32) (ix2 0 q) = dlng (aA m c) (aW m c) (aX m c) (aG m c) (aT m c) q := by
  have h16 : t.val < 16 := t.isLt
  rw [after0_11]
  refine (acc_11 m c t q).trans ?_
  rw [ht, zero_add, dlng, ← Finset.sum_range_range_mul_add 32 256 fun r => lt (aA m c) (aW m c) (aX m c) (aG m c) (aT m c) r q]
  refine Eq.trans (Finset.sum_congr rfl fun s _ => ?_) (pairs (fun i => ∑ r ∈ Finset.range 256, lt (aA m c) (aW m c) (aX m c) (aG m c) (aT m c) (i * 256 + r) q) 16)
  simp only [Finset.sum_range]
  refine congrArg₂ HAdd.hAdd (Finset.sum_congr rfl fun p _ => ?_) (Finset.sum_congr rfl fun p _ => ?_)
  · rw [show 512 * (16 * (t.val / 16) + s) + 0 + p.val = s * 2 * 256 + p.val by omega]
  · rw [show 512 * (16 * (t.val / 16) + s) + 256 + p.val = (s * 2 + 1) * 256 + p.val by omega]

theorem last_12 (t : Fin cfg0.N) (ht : t.val % 16 = 15) (q : Fin 1024) :
    ((dats m 0 c).after 12 t : Vec Ideal S1x1024 .f32) (ix2 0 q) = dlnb (aT m c) q := by
  have h16 : t.val < 16 := t.isLt
  rw [after0_12]
  refine (acc_12 m c t q).trans ?_
  rw [ht, zero_add, dlnb, ← Finset.sum_range_range_mul_add 32 256 fun r => rd (a := 8192) (b := 1024) (aT m c) r q]
  refine Eq.trans (Finset.sum_congr rfl fun s _ => ?_) (pairs (fun i => ∑ r ∈ Finset.range 256, rd (a := 8192) (b := 1024) (aT m c) (i * 256 + r) q) 16)
  simp only [Finset.sum_range]
  refine congrArg₂ HAdd.hAdd (Finset.sum_congr rfl fun p _ => ?_) (Finset.sum_congr rfl fun p _ => ?_)
  · rw [show 512 * (16 * (t.val / 16) + s) + 0 + p.val = s * 2 * 256 + p.val by omega]
  · rw [show 512 * (16 * (t.val / 16) + s) + 256 + p.val = (s * 2 + 1) * 256 + p.val by omega]

/-! ## The whole outputs -/

/-- What the kernel leaves: the cotangent of the residual. -/
theorem final_7 : (dats m 0 c).arrAt 7 cfg0.N = fun j : S8192x1024.Idx => dx (aA m c) (aW m c) (aX m c) (aG m c) (aL m c) (aT m c) (j 0).val (j 1) := by
  refine (dats m 0 c).arrAt_eq_of_covers 7 _ (by decide +kernel) fun t hf y => ?_
  blk_simp [at_7]
  obtain ⟨p, q, rfl⟩ : ∃ (p : Fin 512) (q : Fin 1024), y = ix2 p q := ⟨y 0, y 1, eq_ix2 y⟩
  refine (tile_7 m c t p q).trans ?_
  show dx _ _ _ _ _ _ _ q = dx _ _ _ _ _ _ (t.val * 512 + p.val) _
  rw [Nat.mul_comm]
  exact congrArg _ (Fin.ext (by blk_simp [at_7]))

/-- What the kernel leaves: the cotangent of the product. -/
theorem final_8 : (dats m 0 c).arrAt 8 cfg0.N = fun j : S8192x1024.Idx => dy (aA m c) (aW m c) (aX m c) (aG m c) (aL m c) (aT m c) (j 0).val (j 1) := by
  refine (dats m 0 c).arrAt_eq_of_covers 8 _ (by decide +kernel) fun t hf y => ?_
  blk_simp [at_8]
  obtain ⟨p, q, rfl⟩ : ∃ (p : Fin 512) (q : Fin 1024), y = ix2 p q := ⟨y 0, y 1, eq_ix2 y⟩
  refine (tile_8 m c t p q).trans ?_
  show dy _ _ _ _ _ _ _ q = dy _ _ _ _ _ _ (t.val * 512 + p.val) _
  rw [Nat.mul_comm]
  exact congrArg _ (Fin.ext (by blk_simp [at_8]))

/-- What the kernel leaves: the cotangent of the left factor. -/
theorem final_9 : (dats m 0 c).arrAt 9 cfg0.N = fun j : S8192x2816.Idx => da (aA m c) (aW m c) (aX m c) (aG m c) (aL m c) (aT m c) (j 0).val (j 1).val := by
  refine (dats m 0 c).arrAt_eq_of_covers 9 _ (by decide +kernel) fun t hf y => ?_
  blk_simp [at_9]
  obtain ⟨p, q, rfl⟩ : ∃ (p : Fin 512) (q : Fin 2816), y = ix2 p q := ⟨y 0, y 1, eq_ix2 y⟩
  refine (tile_9 m c t p q).trans ?_
  show da _ _ _ _ _ _ _ q.val = da _ _ _ _ _ _ (t.val * 512 + p.val) _
  rw [Nat.mul_comm]
  simp

theorem one_rows (y : S1x1x1024.Idx) : y = ix3 (n0 := 1) (n1 := 1) 0 0 (y 2) := funext fun a =>
  match a with
  | ⟨0, _⟩ => Subsingleton.elim (α := Fin 1) (y 0) 0
  | ⟨1, _⟩ => Subsingleton.elim (α := Fin 1) (y 1) 0
  | ⟨2, _⟩ => rfl

theorem one_row (y : S1x1024.Idx) : y = ix2 (n0 := 1) 0 (y 1) := funext fun a =>
  match a with
  | ⟨0, _⟩ => Subsingleton.elim (α := Fin 1) (y 0) 0
  | ⟨1, _⟩ => rfl

theorem two_rows (j : S2x1x1024.Idx) : j = ix3 (n0 := 2) (n1 := 1) (j 0) 0 (j 2) := funext fun a =>
  match a with
  | ⟨0, _⟩ => rfl
  | ⟨1, _⟩ => Subsingleton.elim (α := Fin 1) (j 1) 0
  | ⟨2, _⟩ => rfl

/-- What the kernel leaves: the cotangent of the gate. -/
theorem final_10 : (dats m 0 c).arrAt 10 cfg0.N = fun j : S2x1x1024.Idx => dg (aA m c) (aW m c) (aX m c) (aG m c) (aL m c) (aT m c) (j 0).val (j 2) := by
  refine (dats m 0 c).arrAt_eq_of_covers 10 _ (by decide +kernel) fun t hf y => ?_
  have h := last_10 m c t ((flush0_10 t).mp hf) (y 2)
  have e0 : win0_10.index t 0 = t.val / 8 := congrFun (at_10 t) 0
  have e2 : win0_10.index t 2 = 0 := congrFun (at_10 t) 2
  refine ((congrArg ((dats m 0 c).after 10 t : Vec Ideal S1x1x1024 .f32) (one_rows y)).trans h).trans ?_
  refine congrArg₂ (dg (aA m c) (aW m c) (aX m c) (aG m c) (aL m c) (aT m c)) ?_ (Fin.ext ?_)
  · blk_simp
    rw [e0]
  · blk_simp
    rw [e2, Nat.zero_mul, Nat.zero_add]

/-- What the kernel leaves: the cotangent of the norm's scale. -/
theorem final_11 : (dats m 0 c).arrAt 11 cfg0.N = fun j : S1x1024.Idx => dlng (aA m c) (aW m c) (aX m c) (aG m c) (aT m c) (j 1) := by
  refine (dats m 0 c).arrAt_eq_of_covers 11 _ (by decide +kernel) fun t hf y => ?_
  have h := last_11 m c t ((flush0_11 t).mp hf) (y 1)
  have e1 : win0_11.index t 1 = 0 := congrFun (at_11 t) 1
  refine ((congrArg ((dats m 0 c).after 11 t : Vec Ideal S1x1024 .f32) (one_row y)).trans h).trans ?_
  refine congrArg (dlng (aA m c) (aW m c) (aX m c) (aG m c) (aT m c)) (Fin.ext ?_)
  blk_simp
  rw [e1, Nat.zero_mul, Nat.zero_add]

/-- What the kernel leaves: the cotangent of the norm's shift. -/
theorem final_12 : (dats m 0 c).arrAt 12 cfg0.N = fun j : S1x1024.Idx => dlnb (aT m c) (j 1) := by
  refine (dats m 0 c).arrAt_eq_of_covers 12 _ (by decide +kernel) fun t hf y => ?_
  have h := last_12 m c t ((flush0_12 t).mp hf) (y 1)
  have e1 : win0_12.index t 1 = 0 := congrFun (at_12 t) 1
  refine ((congrArg ((dats m 0 c).after 12 t : Vec Ideal S1x1024 .f32) (one_row y)).trans h).trans ?_
  refine congrArg (dlnb (aT m c)) (Fin.ext ?_)
  blk_simp
  rw [e1, Nat.zero_mul, Nat.zero_add]

/-! ## The reference by row -/

section Ref
open Cert.ReferenceFfnDownBwdIdeal.Read Cert.Real

variable {A : S8192x2816.Idx → EReal} {W : S2816x1024.Idx → EReal} {X : S8192x1024.Idx → EReal} {G : S2x1024.Idx → EReal} {L : S1024.Idx → EReal} {T : S8192x1024.Idx → EReal}
  (h : AllReal A W X G L T)
include h

/-- The reference's cotangent of the residual by row. -/
theorem rows_dx : val_main_v83 (F := Ideal) X A W G L T = fun j : S8192x1024.Idx => dx A W X G L T (j 0).val (j 1) := by
  funext j
  have hr : (j 0).val < 8192 := (j 0).isLt
  have hq : (j 1).val < 1024 := (j 1).isLt
  have e : idx_main_v83 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v83_apply, e]
  refine (ref_dx h _ _ _).trans ?_
  show dx _ _ _ _ _ _ (4096 * ((j 0).val / 4096) + (j 0).val % 4096) _ = dx _ _ _ _ _ _ (j 0).val _
  rw [Nat.div_add_mod]

/-- The reference's cotangent of the product by row. -/
theorem rows_dy : val_main_v85 (F := Ideal) X A W G L T = fun j : S8192x1024.Idx => dy A W X G L T (j 0).val (j 1) := by
  funext j
  have hr : (j 0).val < 8192 := (j 0).isLt
  have hq : (j 1).val < 1024 := (j 1).isLt
  have e : idx_main_v84 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v85_apply, val_main_v84_apply, e]
  refine (ref_dy h _ _ _).trans ?_
  show dy _ _ _ _ _ _ (4096 * ((j 0).val / 4096) + (j 0).val % 4096) _ = dy _ _ _ _ _ _ (j 0).val _
  rw [Nat.div_add_mod]

/-- The reference's cotangent of the left factor by row. -/
theorem rows_da : val_main_v87 (F := Ideal) X A W G L T = fun j : S8192x2816.Idx => da A W X G L T (j 0).val (j 1).val := by
  funext j
  have hr : (j 0).val < 8192 := (j 0).isLt
  have hq : (j 1).val < 2816 := (j 1).isLt
  have e : idx_main_v86 j = ix3 (n0 := 2) (n1 := 4096) (n2 := 2816) ⟨(j 0).val / 4096, by omega⟩ ⟨(j 0).val % 4096, by omega⟩ (j 1) := by
    funext a
    match a with
    | ⟨0, _⟩ => exact Fin.ext (show ((j 0).val * 2816 + (j 1).val) / 11534336 = (j 0).val / 4096 by omega)
    | ⟨1, _⟩ => exact Fin.ext (show ((j 0).val * 2816 + (j 1).val) / 2816 % 4096 = (j 0).val % 4096 by omega)
    | ⟨2, _⟩ => exact Fin.ext (show ((j 0).val * 2816 + (j 1).val) % 2816 = (j 1).val by omega)
  rw [val_main_v87_apply, val_main_v86_apply, e]
  refine (ref_da h _ _ _).trans ?_
  show da _ _ _ _ _ _ (4096 * ((j 0).val / 4096) + (j 0).val % 4096) _ = da _ _ _ _ _ _ (j 0).val _
  rw [Nat.div_add_mod]

end Ref

section Outs
open Cert.ReferenceFfnDownBwdIdeal.Read Cert.Real
variable {A : S8192x2816.Idx → EReal} {W : S2816x1024.Idx → EReal} {X : S8192x1024.Idx → EReal} {G : S2x1024.Idx → EReal} {L : S1024.Idx → EReal} {T : S8192x1024.Idx → EReal}
variable (hr : AllReal (aA m c) (aW m c) (aX m c) (aG m c) (aL m c) (aT m c))
  (h0 : m ((c : Thread nD τ).loc main_arg0) = X) (h1 : m ((c : Thread nD τ).loc main_arg1) = A) (h2 : m ((c : Thread nD τ).loc main_arg2) = W)
  (h3 : m ((c : Thread nD τ).loc main_arg3) = G) (h4 : m ((c : Thread nD τ).loc main_arg4) = L) (h6 : m ((c : Thread nD τ).loc main_arg6) = T)
include hr h0 h1 h2 h3 h4 h6

theorem out0 : (dats m 0 c).arrAt 7 cfg0.N = val_main_v83 (F := Ideal) X A W G L T := by
  subst h0 h1 h2 h3 h4 h6
  rw [final_7, rows_dx hr]

theorem out1 : (dats m 0 c).arrAt 8 cfg0.N = val_main_v85 (F := Ideal) X A W G L T := by
  subst h0 h1 h2 h3 h4 h6
  rw [final_8, rows_dy hr]

theorem out2 : (dats m 0 c).arrAt 9 cfg0.N = val_main_v87 (F := Ideal) X A W G L T := by
  subst h0 h1 h2 h3 h4 h6
  rw [final_9, rows_da hr]

theorem out3 : (dats m 0 c).arrAt 10 cfg0.N = val_main_v88 (F := Ideal) X A W G L T := by
  subst h0 h1 h2 h3 h4 h6
  rw [final_10]
  funext j
  obtain ⟨s, k, rfl⟩ : ∃ (s : Fin 2) (k : Fin 1024), j = ix3 s (0 : Fin 1) k := ⟨j 0, j 2, two_rows j⟩
  exact (ref_dg hr s k).symm

omit hr h4 in
theorem out4 : (dats m 0 c).arrAt 11 cfg0.N = val_main_v89 (F := Ideal) X A W G T := by
  subst h0 h1 h2 h3 h6
  rw [final_11]
  funext j
  obtain ⟨k, rfl⟩ : ∃ k : Fin 1024, j = ix2 (0 : Fin 1) k := ⟨j 1, one_row j⟩
  exact (ref_dlng _ _ _ _ _ k).symm

omit hr h0 h1 h2 h3 h4 in
theorem out5 : (dats m 0 c).arrAt 12 cfg0.N = val_main_v90 (F := Ideal) T := by
  subst h6
  rw [final_12]
  funext j
  obtain ⟨k, rfl⟩ : ∃ k : Fin 1024, j = ix2 (0 : Fin 1) k := ⟨j 1, one_row j⟩
  exact (ref_dlnb _ k).symm

end Outs

open Cert.Real in
/-- The precondition of the backward output product, read back: its arguments are arrays of real numbers. -/
theorem norm_finite (x0 : FVec Ideal S8192x1024 .f32) (x1 : FVec Ideal S8192x2816 .bf16) (x2 : FVec Ideal S2816x1024 .bf16) (x3 : FVec Ideal S2x1024 .f32)
    (x4 x5 : FVec Ideal S1024 .f32) (x6 : FVec Ideal S8192x1024 .f32)
    (h : Cert.Pre_norm_finite.fn (F := Ideal) x0 x1 x2 x3 x4 x5 x6 = fun _ => 1#1) : AllReal x1 x2 x0 x3 x4 x6 := by
  have h := congrFun h (fun a => a.elim0)
  unfold Cert.Pre_norm_finite.fn Cert.Pre_norm_finite.fn_part1 at h
  obtain ⟨h, h6⟩ := andi_eq _ _ _ h
  obtain ⟨h, h4⟩ := andi_eq _ _ _ h
  obtain ⟨h, h3⟩ := andi_eq _ _ _ h
  obtain ⟨h, h2⟩ := andi_eq _ _ _ h
  obtain ⟨h0, h1⟩ := andi_eq _ _ _ h
  exact ⟨real_of_all _ _ _ (fun _ => top_bf16) _ _ _ _ h1, real_of_all _ _ _ (fun _ => top_bf16) _ _ _ _ h2, real_of_all _ _ _ (fun _ => top_f32) _ _ _ _ h0,
    real_of_all _ _ _ (fun _ => top_f32) _ _ _ _ h3, real_of_all _ _ _ (fun _ => top_f32) _ _ _ _ h4, real_of_all _ _ _ (fun _ => top_f32) _ _ _ _ h6⟩

/-- The kernel and the reference leave the same. -/
theorem value : Cert.algebraic_FfnDownBwdIdeal_ReferenceFfnDownBwdIdeal_pre_norm_finite := by
  intro m g m' g' hp he
  have hr : ∀ c, AllReal (aA m c) (aW m c) (aX m c) (aG m c) (aL m c) (aT m c) := fun c => norm_finite _ _ _ _ _ _ _ (hp c)
  refine ⟨fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N, ?_, ?_⟩
  · exact (θ_run defs _ _).mono (fun r h c => ⟨(h c).1 7, (h c).1 8, (h c).1 9, (h c).1 10, (h c).1 11, (h c).1 12,
      ((h c).1 1).trans (((dats m 0 c).arrAt_in 1 rfl _).trans ((rfl).trans (V_main_arg0 m c))),
      ((h c).2 main_arg1 (Pipeline.mem_restRefs_of main_arg1 (by decide) (by decide))).trans (V_main_arg1 m c),
      ((h c).1 6).trans (((dats m 0 c).arrAt_in 6 rfl _).trans ((rfl).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 0).trans (((dats m 0 c).arrAt_in 0 rfl _).trans ((rfl).trans (V_main_arg6 m c)))⟩) (run_main (F := Ideal) m g)
  · refine (θ_run Cert.ReferenceFfnDownBwdIdeal.defs _ _).mono (fun r h c => ?_) (Cert.ReferenceFfnDownBwdIdeal.Value.run (F := Ideal) m' g')
    obtain ⟨h0, h1, h2, h3, h4, h5, ha⟩ := h c
    obtain ⟨e0, e1, e2, e3, e4, e5, e6⟩ := he c
    exact ⟨h0.trans ((Cert.ReferenceFfnDownBwdIdeal.Read.val_main_v83_eq _ _).trans (Cert.FfnDownBwdV.out0 m c (hr c) e0.symm e1.symm e2.symm e3.symm e4.symm e6.symm).symm), h1.trans ((Cert.ReferenceFfnDownBwdIdeal.Read.val_main_v85_eq _ _).trans (Cert.FfnDownBwdV.out1 m c (hr c) e0.symm e1.symm e2.symm e3.symm e4.symm e6.symm).symm), h2.trans ((Cert.ReferenceFfnDownBwdIdeal.Read.val_main_v87_eq _ _).trans (Cert.FfnDownBwdV.out2 m c (hr c) e0.symm e1.symm e2.symm e3.symm e4.symm e6.symm).symm), h3.trans ((Cert.ReferenceFfnDownBwdIdeal.Read.val_main_v88_eq _ _).trans (Cert.FfnDownBwdV.out3 m c (hr c) e0.symm e1.symm e2.symm e3.symm e4.symm e6.symm).symm), h4.trans ((Cert.ReferenceFfnDownBwdIdeal.Read.val_main_v89_eq _ _).trans (Cert.FfnDownBwdV.out4 m c e0.symm e1.symm e2.symm e3.symm e6.symm).symm), h5.trans ((Cert.ReferenceFfnDownBwdIdeal.Read.val_main_v90_eq _).trans (Cert.FfnDownBwdV.out5 m c e6.symm).symm), ha⟩

end Cert.FfnDownBwdV
-- ==== Proof.EvInValue.lean ====
/-  The even layers' input product with its modulation: what the kernel leaves, and that the reference leaves it.  -/
module
public import proofs.«01_k».proof.Defs
public import proofs.«01_k».proof.Proof.Gen.EvInIdeal.Frame
public import proofs.«01_k».proof.Proof.Gen.ReferenceEvInIdeal.Read
public import proofs.«01_k».proof.Proof.Taps
public import Idealize.ShloMosaic.Lib.Pointwise
public import Idealize.ShloMosaic.Lib.Pipeline.ReadBack
public import Idealize.ShloMosaic.Lib.Pipeline.ValueKit
@[expose] public section
noncomputable section
namespace Cert.EvInV
open Idealize.ShloMosaic Idealize.ShloMosaic.TcCoe Idealize.ShloMosaic.StableHlo Idealize.ShloMosaic.Tactic Cert.EvInIdeal Cert.EvInIdeal.Gen Cert.Conf

/-! ## The mathematics, by row -/

section Rows
variable (X : S8192x1024.Idx → EReal) (S C : S2x1024.Idx → EReal) (W : S1024x3200.Idx → EReal)

/-- The row scaled and shifted by its sequence's modulation. -/
def h (r q : ℕ) : EReal := rd (a := 8192) (b := 1024) X r q * (1 + rd (a := 2) (b := 1024) C (r / 4096) q) + rd (a := 2) (b := 1024) S (r / 4096) q

/-- The product with the weights: four groups of columns, 1024, 1536, 512 and 128 of them. -/
def z (r q : ℕ) : EReal := ∑ k : Fin 1024, h X S C r k * rd (a := 1024) (b := 3200) W k q

/-! ## The stored values -/

theorem pay1 (x0 : Vec Ideal S512x1024 .f32) (x1 x2 : Vec Ideal S1x1x1024 .f32) (p : Fin 512) (r : ℕ)
    (hx : ∀ q : Fin 1024, x0 (ix2 p q) = rd (a := 8192) (b := 1024) X r q)
    (hs : ∀ q : Fin 1024, x1 (ix3 0 0 q) = rd (a := 2) (b := 1024) S (r / 4096) q)
    (hc : ∀ q : Fin 1024, x2 (ix3 0 0 q) = rd (a := 2) (b := 1024) C (r / 4096) q) (q : Fin 1024) :
    k0_pay1 x0 x1 x2 (ix2 p q) = h X S C r q := by
  unfold k0_pay1
  pointwise
  simp only [hx, hs, hc]
  rfl

theorem pay2 (x0 : Vec Ideal S512x1024 .f32) (x1 x2 : Vec Ideal S1x1x1024 .f32) (w : Vec Ideal S1024x1024 .bf16) (p : Fin 512) (r o : ℕ) (q : Fin 1024)
    (hy : ∀ k : Fin 1024, k0_pay1 x0 x1 x2 (ix2 p k) = h X S C r k) (hw : ∀ k : Fin 1024, w (ix2 k q) = rd (a := 1024) (b := 3200) W k (o + q)) :
    k0_pay2 x0 x1 x2 w (ix2 p q) = z X S C W r (o + q) := by
  unfold k0_pay2
  pointwise
  simp only [hy, hw]
  rfl

theorem pay3 (x0 : Vec Ideal S512x1024 .f32) (x1 x2 : Vec Ideal S1x1x1024 .f32) (w : Vec Ideal S1024x1536 .bf16) (p : Fin 512) (r o : ℕ) (q : Fin 1536)
    (hy : ∀ k : Fin 1024, k0_pay1 x0 x1 x2 (ix2 p k) = h X S C r k) (hw : ∀ k : Fin 1024, w (ix2 k q) = rd (a := 1024) (b := 3200) W k (o + q)) :
    k0_pay3 x0 x1 x2 w (ix2 p q) = z X S C W r (o + q) := by
  unfold k0_pay3
  pointwise
  simp only [hy, hw]
  rfl

theorem pay4 (x0 : Vec Ideal S512x1024 .f32) (x1 x2 : Vec Ideal S1x1x1024 .f32) (w : Vec Ideal S1024x512 .bf16) (p : Fin 512) (r o : ℕ) (q : Fin 512)
    (hy : ∀ k : Fin 1024, k0_pay1 x0 x1 x2 (ix2 p k) = h X S C r k) (hw : ∀ k : Fin 1024, w (ix2 k q) = rd (a := 1024) (b := 3200) W k (o + q)) :
    k0_pay4 x0 x1 x2 w (ix2 p q) = z X S C W r (o + q) := by
  unfold k0_pay4
  pointwise
  simp only [hy, hw]
  rfl

theorem pay5 (x0 : Vec Ideal S512x1024 .f32) (x1 x2 : Vec Ideal S1x1x1024 .f32) (w : Vec Ideal S1024x128 .bf16) (p : Fin 512) (r o : ℕ) (q : Fin 128)
    (hy : ∀ k : Fin 1024, k0_pay1 x0 x1 x2 (ix2 p k) = h X S C r k) (hw : ∀ k : Fin 1024, w (ix2 k q) = rd (a := 1024) (b := 3200) W k (o + q)) :
    k0_pay5 x0 x1 x2 w (ix2 p q) = z X S C W r (o + q) := by
  unfold k0_pay5
  pointwise
  simp only [hy, hw]
  rfl

end Rows

variable (m : (ℓ : Loc nD τ sig) → Buf (Elt Ideal) ℓ) (c : Dev nD)

theorem at_0 : ∀ t : Fin cfg0.N, win0_0.index t = ![t.val, 0] := (by decide +kernel : ∀ t : Fin grid0.N, _)
theorem at_1 : ∀ t : Fin cfg0.N, win0_1.index t = ![t.val / 8, 0, 0] := (by decide +kernel : ∀ t : Fin grid0.N, _)
theorem at_2 : ∀ t : Fin cfg0.N, win0_2.index t = ![t.val / 8, 0, 0] := (by decide +kernel : ∀ t : Fin grid0.N, _)
theorem at_3 : ∀ t : Fin cfg0.N, win0_3.index t = ![0, 0] := (by decide +kernel : ∀ t : Fin grid0.N, _)
theorem at_4 : ∀ t : Fin cfg0.N, win0_4.index t = ![t.val, 0] := (by decide +kernel : ∀ t : Fin grid0.N, _)
theorem at_5 : ∀ t : Fin cfg0.N, win0_5.index t = ![t.val, 0] := (by decide +kernel : ∀ t : Fin grid0.N, _)
theorem at_6 : ∀ t : Fin cfg0.N, win0_6.index t = ![t.val, 0] := (by decide +kernel : ∀ t : Fin grid0.N, _)
theorem at_7 : ∀ t : Fin cfg0.N, win0_7.index t = ![t.val, 0] := (by decide +kernel : ∀ t : Fin grid0.N, _)
theorem at_8 : ∀ t : Fin cfg0.N, win0_8.index t = ![t.val, 0] := (by decide +kernel : ∀ t : Fin grid0.N, _)

/-- The arguments. -/
abbrev aX : S8192x1024.Idx → EReal := m ((c : Thread nD τ).loc main_arg0)
abbrev aS : S2x1024.Idx → EReal := m ((c : Thread nD τ).loc main_arg1)
abbrev aC : S2x1024.Idx → EReal := m ((c : Thread nD τ).loc main_arg2)
abbrev aW : S1024x3200.Idx → EReal := m ((c : Thread nD τ).loc main_arg3)

theorem blk_0 (t : Fin cfg0.N) (p : Fin 512) (q : Fin 1024) :
    (iblk m c 0 t : Vec Ideal S512x1024 .f32) (ix2 p q) = rd (a := 8192) (b := 1024) (aX m c) (512 * t.val + p) q := by
  blk_simp [iblk]
  rw [aX, ← V_main_arg0 m c]
  exact rd_of (a := 8192) (b := 1024) _ _ (by blk_simp [at_0]; show _ + p.val = _; omega) (by blk_simp [at_0])

theorem blk_1 (t : Fin cfg0.N) (r : ℕ) (hr : r < 512) (q : Fin 1024) :
    (iblk m c 1 t : Vec Ideal S1x1x1024 .f32) (ix3 0 0 q) = rd (a := 2) (b := 1024) (aS m c) ((512 * t.val + r) / 4096) q := by
  have e : V m c main_v0 = broadcastInDim S2x1x1024 ![0, 2] bcast_S2x1024_S2x1x1024_0_2 (m ((c : Thread nD τ).loc main_arg1)) := by
    unfold V hostOps0
    after_results
  rw [show (512 * t.val + r) / 4096 = t.val / 8 by omega]
  blk_simp [iblk]
  show V m c main_v0 _ = _
  rw [e]
  pointwise
  exact rd_of (a := 2) (b := 1024) _ _ (by blk_simp [at_1]; exact Nat.add_zero _) (by blk_simp [at_1])

theorem blk_2 (t : Fin cfg0.N) (r : ℕ) (hr : r < 512) (q : Fin 1024) :
    (iblk m c 2 t : Vec Ideal S1x1x1024 .f32) (ix3 0 0 q) = rd (a := 2) (b := 1024) (aC m c) ((512 * t.val + r) / 4096) q := by
  have e : V m c main_v1 = broadcastInDim S2x1x1024 ![0, 2] bcast_S2x1024_S2x1x1024_0_2 (m ((c : Thread nD τ).loc main_arg2)) := by
    unfold V hostOps0
    after_results
  rw [show (512 * t.val + r) / 4096 = t.val / 8 by omega]
  blk_simp [iblk]
  show V m c main_v1 _ = _
  rw [e]
  pointwise
  exact rd_of (a := 2) (b := 1024) _ _ (by blk_simp [at_2]; exact Nat.add_zero _) (by blk_simp [at_2])

/-- The weights' block is all of them. -/
theorem blk_3 (t : Fin cfg0.N) : (iblk m c 3 t : Vec Ideal S1024x3200 .bf16) = aW m c := by
  funext j
  obtain ⟨p, q, rfl⟩ : ∃ (p : Fin 1024) (q : Fin 3200), j = ix2 p q := ⟨j 0, j 1, eq_ix2 j⟩
  blk_simp [iblk]
  rw [aW, ← V_main_arg3 m c]
  refine congrArg (V m c main_arg3) (funext fun a => Fin.ext ?_)
  match a with
  | ⟨0, _⟩ => blk_simp [at_3]
  | ⟨1, _⟩ => blk_simp [at_3]

/-- A group of the weights' columns. -/
theorem cols (t : Fin cfg0.N) (o n : ℕ) (inb : ∀ a, (![0, o] : Fin 2 → ℕ) a + (⟨2, ![1024, n]⟩ : Shape).size a ≤ S1024x3200.size a) (k : Fin 1024) (q : Fin n) :
    View.ld (iblk m c 3 t : Vec Ideal S1024x3200 .bf16) (Rect.unit (s := S1024x3200) ![0, o] ![1024, n] inb) (ix2 k q) = rd (a := 1024) (b := 3200) (aW m c) k (o + q) := by
  rw [blk_3]
  refine (ld_rd (a := 1024) (b := 3200) (aW m c) 0 o inb (ix2 k q)).trans ?_
  show rd _ (0 + k.val) (o + q.val) = _
  rw [Nat.zero_add]

/-! ## A tile of 512 rows -/

theorem mod_blk (t : Fin cfg0.N) (p : Fin 512) (q : Fin 1024) :
    k0_pay1 (iblk m c 0 t) (iblk m c 1 t) (iblk m c 2 t) (ix2 p q) = h (aX m c) (aS m c) (aC m c) (512 * t.val + p) q :=
  pay1 _ _ _ _ _ _ p _ (blk_0 m c t p) (blk_1 m c t p p.isLt) (blk_2 m c t p p.isLt) q

/-- What a point leaves of the modulated rows. -/
theorem tile_4 (t : Fin cfg0.N) (p : Fin 512) (q : Fin 1024) :
    ((dats m 0 c).after 4 t : Vec Ideal S512x1024 .bf16) (ix2 p q) = h (aX m c) (aS m c) (aC m c) (512 * t.val + p) q := by
  rw [after0_4]
  frame_out
  exact mod_blk m c t p q

/-- What a point leaves of the first group of columns. -/
theorem tile_5 (t : Fin cfg0.N) (p : Fin 512) (q : Fin 1024) :
    ((dats m 0 c).after 5 t : Vec Ideal S512x1024 .f32) (ix2 p q) = z (aX m c) (aS m c) (aC m c) (aW m c) (512 * t.val + p) q := by
  rw [after0_5]
  frame_out
  exact (pay2 _ _ _ _ _ _ _ _ _ _ 0 q (mod_blk m c t p) fun k => cols m c t 0 1024 _ k q).trans (by rw [Nat.zero_add])

/-- What a point leaves of the second group of columns. -/
theorem tile_6 (t : Fin cfg0.N) (p : Fin 512) (q : Fin 1536) :
    ((dats m 0 c).after 6 t : Vec Ideal S512x1536 .f32) (ix2 p q) = z (aX m c) (aS m c) (aC m c) (aW m c) (512 * t.val + p) (1024 + q) := by
  rw [after0_6]
  frame_out
  exact (pay3 _ _ _ _ _ _ _ _ _ _ 1024 q (mod_blk m c t p) fun k => cols m c t 1024 1536 _ k q)

/-- What a point leaves of the third group of columns. -/
theorem tile_7 (t : Fin cfg0.N) (p : Fin 512) (q : Fin 512) :
    ((dats m 0 c).after 7 t : Vec Ideal S512x512 .f32) (ix2 p q) = z (aX m c) (aS m c) (aC m c) (aW m c) (512 * t.val + p) (2560 + q) := by
  rw [after0_7]
  frame_out
  exact (pay4 _ _ _ _ _ _ _ _ _ _ 2560 q (mod_blk m c t p) fun k => cols m c t 2560 512 _ k q)

/-- What a point leaves of the fourth group of columns. -/
theorem tile_8 (t : Fin cfg0.N) (p : Fin 512) (q : Fin 128) :
    ((dats m 0 c).after 8 t : Vec Ideal S512x128 .f32) (ix2 p q) = z (aX m c) (aS m c) (aC m c) (aW m c) (512 * t.val + p) (3072 + q) := by
  rw [after0_8]
  frame_out
  exact (pay5 _ _ _ _ _ _ _ _ _ _ 3072 q (mod_blk m c t p) fun k => cols m c t 3072 128 _ k q)

/-- What the kernel leaves: the modulated rows. -/
theorem final_4 : (dats m 0 c).arrAt 4 cfg0.N = fun j : S8192x1024.Idx => h (aX m c) (aS m c) (aC m c) (j 0).val ((j 1).val) := by
  refine (dats m 0 c).arrAt_eq_of_covers 4 _ (by decide +kernel) fun t hf y => ?_
  blk_simp [at_4]
  obtain ⟨p, q, rfl⟩ : ∃ (p : Fin 512) (q : Fin 1024), y = ix2 p q := ⟨y 0, y 1, eq_ix2 y⟩
  refine (tile_4 m c t p q).trans ?_
  show h _ _ _ _ (q.val) = h _ _ _ (t.val * 512 + p.val) _
  rw [Nat.mul_comm]
  simp

/-- What the kernel leaves: the first group of columns. -/
theorem final_5 : (dats m 0 c).arrAt 5 cfg0.N = fun j : S8192x1024.Idx => z (aX m c) (aS m c) (aC m c) (aW m c) (j 0).val ((j 1).val) := by
  refine (dats m 0 c).arrAt_eq_of_covers 5 _ (by decide +kernel) fun t hf y => ?_
  blk_simp [at_5]
  obtain ⟨p, q, rfl⟩ : ∃ (p : Fin 512) (q : Fin 1024), y = ix2 p q := ⟨y 0, y 1, eq_ix2 y⟩
  refine (tile_5 m c t p q).trans ?_
  show z _ _ _ _ _ (q.val) = z _ _ _ _ (t.val * 512 + p.val) _
  rw [Nat.mul_comm]
  simp

/-- What the kernel leaves: the second group of columns. -/
theorem final_6 : (dats m 0 c).arrAt 6 cfg0.N = fun j : S8192x1536.Idx => z (aX m c) (aS m c) (aC m c) (aW m c) (j 0).val (1024 + (j 1).val) := by
  refine (dats m 0 c).arrAt_eq_of_covers 6 _ (by decide +kernel) fun t hf y => ?_
  blk_simp [at_6]
  obtain ⟨p, q, rfl⟩ : ∃ (p : Fin 512) (q : Fin 1536), y = ix2 p q := ⟨y 0, y 1, eq_ix2 y⟩
  refine (tile_6 m c t p q).trans ?_
  show z _ _ _ _ _ (1024 + q.val) = z _ _ _ _ (t.val * 512 + p.val) _
  rw [Nat.mul_comm]
  simp

/-- What the kernel leaves: the third group of columns. -/
theorem final_7 : (dats m 0 c).arrAt 7 cfg0.N = fun j : S8192x512.Idx => z (aX m c) (aS m c) (aC m c) (aW m c) (j 0).val (2560 + (j 1).val) := by
  refine (dats m 0 c).arrAt_eq_of_covers 7 _ (by decide +kernel) fun t hf y => ?_
  blk_simp [at_7]
  obtain ⟨p, q, rfl⟩ : ∃ (p : Fin 512) (q : Fin 512), y = ix2 p q := ⟨y 0, y 1, eq_ix2 y⟩
  refine (tile_7 m c t p q).trans ?_
  show z _ _ _ _ _ (2560 + q.val) = z _ _ _ _ (t.val * 512 + p.val) _
  rw [Nat.mul_comm]
  simp

/-- What the kernel leaves: the fourth group of columns. -/
theorem final_8 : (dats m 0 c).arrAt 8 cfg0.N = fun j : S8192x128.Idx => z (aX m c) (aS m c) (aC m c) (aW m c) (j 0).val (3072 + (j 1).val) := by
  refine (dats m 0 c).arrAt_eq_of_covers 8 _ (by decide +kernel) fun t hf y => ?_
  blk_simp [at_8]
  obtain ⟨p, q, rfl⟩ : ∃ (p : Fin 512) (q : Fin 128), y = ix2 p q := ⟨y 0, y 1, eq_ix2 y⟩
  refine (tile_8 m c t p q).trans ?_
  show z _ _ _ _ _ (3072 + q.val) = z _ _ _ _ (t.val * 512 + p.val) _
  rw [Nat.mul_comm]
  simp

/-! ## The reference -/

section Ref
open Cert.ReferenceEvInIdeal.Read

variable (X : S8192x1024.Idx → EReal) (S C : S2x1024.Idx → EReal) (W : S1024x3200.Idx → EReal)

theorem one_word : (FloatOps.ofBits (F := Ideal) .f32 0x3F800000#32 : EReal) = 1 := by pointwise

theorem ref_h (s : Fin 2) (p : Fin 4096) (q : Fin 1024) : val_main_v8 (F := Ideal) X S C (ix3 s p q) = h X S C (4096 * s + p) q := by
  rw [val_main_v8_apply, val_main_v5_apply, val_main_v0_apply, val_main_v4_apply, val_main_v3_apply, val_main_v2_apply, val_main_cst_apply, val_main_v1_apply,
    val_main_v7_apply, val_main_v6_apply, one_word]
  have h1 : X (idx_main_v0 (ix3 s p q)) = rd (a := 8192) (b := 1024) X (4096 * s + p) q :=
    rd_of (a := 8192) (b := 1024) X _ (show ((s.val * 4096 + p.val) * 1024 + q.val) / 1024 = 4096 * s.val + p.val by omega)
      (show ((s.val * 4096 + p.val) * 1024 + q.val) % 1024 = q.val by omega)
  have h2 : C (idx_main_v1 (idx_main_v4 (ix3 s p q))) = rd (a := 2) (b := 1024) C ((4096 * s + p) / 4096) q :=
    rd_of (a := 2) (b := 1024) C _ (show s.val = (4096 * s.val + p.val) / 4096 by omega) rfl
  have h3 : S (idx_main_v6 (idx_main_v7 (ix3 s p q))) = rd (a := 2) (b := 1024) S ((4096 * s + p) / 4096) q :=
    rd_of (a := 2) (b := 1024) S _ (show s.val = (4096 * s.val + p.val) / 4096 by omega) rfl
  rw [h1, h2, h3, h]
  rfl

theorem ref_z (s : Fin 2) (p : Fin 4096) (q : Fin 3200) : val_main_v10 (F := Ideal) X S C W (ix3 s p q) = z X S C W (4096 * s + p) q := by
  rw [val_main_v10_apply, z]
  refine Finset.sum_congr rfl fun k _ => ?_
  refine congrArg₂ HMul.hMul ?_ ?_
  · exact (congrArg (val_main_v8 (F := Ideal) X S C) (eq_ix3 _)).trans (ref_h X S C s p k)
  · exact rd_of (a := 1024) (b := 3200) W _ rfl rfl

theorem ref_0 (s : Fin 2) (p : Fin 4096) (q : Fin 1024) : val_main_v11 (F := Ideal) X S C W (ix3 s p q) = z X S C W (4096 * s + p) (q) := by
  rw [val_main_v11_apply]
  exact (congrArg (val_main_v10 (F := Ideal) X S C W) (eq_ix3 _)).trans (ref_z X S C W s p ⟨q.val, by omega⟩)

theorem ref_1 (s : Fin 2) (p : Fin 4096) (q : Fin 1536) : val_main_v12 (F := Ideal) X S C W (ix3 s p q) = z X S C W (4096 * s + p) (1024 + q) := by
  rw [val_main_v12_apply]
  exact (congrArg (val_main_v10 (F := Ideal) X S C W) (eq_ix3 _)).trans (ref_z X S C W s p ⟨1024 + q.val, by omega⟩)

theorem ref_2 (s : Fin 2) (p : Fin 4096) (q : Fin 512) : val_main_v13 (F := Ideal) X S C W (ix3 s p q) = z X S C W (4096 * s + p) (2560 + q) := by
  rw [val_main_v13_apply]
  exact (congrArg (val_main_v10 (F := Ideal) X S C W) (eq_ix3 _)).trans (ref_z X S C W s p ⟨2560 + q.val, by omega⟩)

theorem ref_3 (s : Fin 2) (p : Fin 4096) (q : Fin 128) : val_main_v14 (F := Ideal) X S C W (ix3 s p q) = z X S C W (4096 * s + p) (3072 + q) := by
  rw [val_main_v14_apply]
  exact (congrArg (val_main_v10 (F := Ideal) X S C W) (eq_ix3 _)).trans (ref_z X S C W s p ⟨3072 + q.val, by omega⟩)

end Ref

variable {X : S8192x1024.Idx → EReal} {S C : S2x1024.Idx → EReal} {W : S1024x3200.Idx → EReal}

open Cert.ReferenceEvInIdeal.Read in
/-- The kernel leaves the reference's modulated rows. -/
theorem out0 (h0 : m ((c : Thread nD τ).loc main_arg0) = X) (h1 : m ((c : Thread nD τ).loc main_arg1) = S) (h2 : m ((c : Thread nD τ).loc main_arg2) = C) :
    (dats m 0 c).arrAt 4 cfg0.N = val_main_v16 (F := Ideal) X S C := by
  subst h0 h1 h2
  rw [final_4]
  funext j
  have hr : (j 0).val < 8192 := (j 0).isLt
  have hq : (j 1).val < 1024 := (j 1).isLt
  have e : idx_main_v15 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v16_apply, val_main_v15_apply, e]
  refine Eq.trans ?_ (ref_h _ _ _ _ _ _).symm
  show h _ _ _ (j 0).val _ = h _ _ _ (4096 * ((j 0).val / 4096) + (j 0).val % 4096) _
  rw [Nat.div_add_mod]

open Cert.ReferenceEvInIdeal.Read in
/-- The kernel leaves the reference's first group of columns. -/
theorem out1 (h0 : m ((c : Thread nD τ).loc main_arg0) = X) (h1 : m ((c : Thread nD τ).loc main_arg1) = S) (h2 : m ((c : Thread nD τ).loc main_arg2) = C) (h3 : m ((c : Thread nD τ).loc main_arg3) = W) :
    (dats m 0 c).arrAt 5 cfg0.N = val_main_v17 (F := Ideal) X S C W := by
  subst h0 h1 h2 h3
  rw [final_5]
  funext j
  have hr : (j 0).val < 8192 := (j 0).isLt
  have hq : (j 1).val < 1024 := (j 1).isLt
  have e : idx_main_v17 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v17_apply, e]
  refine Eq.trans ?_ (ref_0 _ _ _ _ _ _ _).symm
  show z _ _ _ _ (j 0).val _ = z _ _ _ _ (4096 * ((j 0).val / 4096) + (j 0).val % 4096) _
  rw [Nat.div_add_mod]

open Cert.ReferenceEvInIdeal.Read in
/-- The kernel leaves the reference's second group of columns. -/
theorem out2 (h0 : m ((c : Thread nD τ).loc main_arg0) = X) (h1 : m ((c : Thread nD τ).loc main_arg1) = S) (h2 : m ((c : Thread nD τ).loc main_arg2) = C) (h3 : m ((c : Thread nD τ).loc main_arg3) = W) :
    (dats m 0 c).arrAt 6 cfg0.N = val_main_v18 (F := Ideal) X S C W := by
  subst h0 h1 h2 h3
  rw [final_6]
  funext j
  have hr : (j 0).val < 8192 := (j 0).isLt
  have hq : (j 1).val < 1536 := (j 1).isLt
  have e : idx_main_v18 j = ix3 (n0 := 2) (n1 := 4096) (n2 := 1536) ⟨(j 0).val / 4096, by omega⟩ ⟨(j 0).val % 4096, by omega⟩ (j 1) := by
    funext a
    match a with
    | ⟨0, _⟩ => exact Fin.ext (show ((j 0).val * 1536 + (j 1).val) / 6291456 = (j 0).val / 4096 by omega)
    | ⟨1, _⟩ => exact Fin.ext (show ((j 0).val * 1536 + (j 1).val) / 1536 % 4096 = (j 0).val % 4096 by omega)
    | ⟨2, _⟩ => exact Fin.ext (show ((j 0).val * 1536 + (j 1).val) % 1536 = (j 1).val by omega)
  rw [val_main_v18_apply, e]
  refine Eq.trans ?_ (ref_1 _ _ _ _ _ _ _).symm
  show z _ _ _ _ (j 0).val _ = z _ _ _ _ (4096 * ((j 0).val / 4096) + (j 0).val % 4096) _
  rw [Nat.div_add_mod]

open Cert.ReferenceEvInIdeal.Read in
/-- The kernel leaves the reference's third group of columns. -/
theorem out3 (h0 : m ((c : Thread nD τ).loc main_arg0) = X) (h1 : m ((c : Thread nD τ).loc main_arg1) = S) (h2 : m ((c : Thread nD τ).loc main_arg2) = C) (h3 : m ((c : Thread nD τ).loc main_arg3) = W) :
    (dats m 0 c).arrAt 7 cfg0.N = val_main_v19 (F := Ideal) X S C W := by
  subst h0 h1 h2 h3
  rw [final_7]
  funext j
  have hr : (j 0).val < 8192 := (j 0).isLt
  have hq : (j 1).val < 512 := (j 1).isLt
  have e : idx_main_v19 j = ix3 (n0 := 2) (n1 := 4096) (n2 := 512) ⟨(j 0).val / 4096, by omega⟩ ⟨(j 0).val % 4096, by omega⟩ (j 1) := by
    funext a
    match a with
    | ⟨0, _⟩ => exact Fin.ext (show ((j 0).val * 512 + (j 1).val) / 2097152 = (j 0).val / 4096 by omega)
    | ⟨1, _⟩ => exact Fin.ext (show ((j 0).val * 512 + (j 1).val) / 512 % 4096 = (j 0).val % 4096 by omega)
    | ⟨2, _⟩ => exact Fin.ext (show ((j 0).val * 512 + (j 1).val) % 512 = (j 1).val by omega)
  rw [val_main_v19_apply, e]
  refine Eq.trans ?_ (ref_2 _ _ _ _ _ _ _).symm
  show z _ _ _ _ (j 0).val _ = z _ _ _ _ (4096 * ((j 0).val / 4096) + (j 0).val % 4096) _
  rw [Nat.div_add_mod]

open Cert.ReferenceEvInIdeal.Read in
/-- The kernel leaves the reference's fourth group of columns. -/
theorem out4 (h0 : m ((c : Thread nD τ).loc main_arg0) = X) (h1 : m ((c : Thread nD τ).loc main_arg1) = S) (h2 : m ((c : Thread nD τ).loc main_arg2) = C) (h3 : m ((c : Thread nD τ).loc main_arg3) = W) :
    (dats m 0 c).arrAt 8 cfg0.N = val_main_v20 (F := Ideal) X S C W := by
  subst h0 h1 h2 h3
  rw [final_8]
  funext j
  have hr : (j 0).val < 8192 := (j 0).isLt
  have hq : (j 1).val < 128 := (j 1).isLt
  have e : idx_main_v20 j = ix3 (n0 := 2) (n1 := 4096) (n2 := 128) ⟨(j 0).val / 4096, by omega⟩ ⟨(j 0).val % 4096, by omega⟩ (j 1) := by
    funext a
    match a with
    | ⟨0, _⟩ => exact Fin.ext (show ((j 0).val * 128 + (j 1).val) / 524288 = (j 0).val / 4096 by omega)
    | ⟨1, _⟩ => exact Fin.ext (show ((j 0).val * 128 + (j 1).val) / 128 % 4096 = (j 0).val % 4096 by omega)
    | ⟨2, _⟩ => exact Fin.ext (show ((j 0).val * 128 + (j 1).val) % 128 = (j 1).val by omega)
  rw [val_main_v20_apply, e]
  refine Eq.trans ?_ (ref_3 _ _ _ _ _ _ _).symm
  show z _ _ _ _ (j 0).val _ = z _ _ _ _ (4096 * ((j 0).val / 4096) + (j 0).val % 4096) _
  rw [Nat.div_add_mod]

/-- The kernel and the reference leave the same. -/
theorem value : Cert.algebraic_EvInIdeal_ReferenceEvInIdeal := by
  intro m g m' g' _ he
  refine ⟨fun c => (dats m 0 c).arrAt 4 cfg0.N, fun c => (dats m 0 c).arrAt 5 cfg0.N, fun c => (dats m 0 c).arrAt 6 cfg0.N, fun c => (dats m 0 c).arrAt 7 cfg0.N, fun c => (dats m 0 c).arrAt 8 cfg0.N, ?_, ?_⟩
  · exact (θ_run defs _ _).mono (fun r h c => ⟨(h c).1 4, (h c).1 5, (h c).1 6, (h c).1 7, (h c).1 8,
      ((h c).1 0).trans (((dats m 0 c).arrAt_in 0 rfl _).trans ((rfl).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((rfl).trans (V_main_arg3 m c)))⟩) (run_main (F := Ideal) m g)
  · refine (θ_run Cert.ReferenceEvInIdeal.defs _ _).mono (fun r h c => ?_) (Cert.ReferenceEvInIdeal.Value.run (F := Ideal) m' g')
    obtain ⟨h0, h1, h2, h3, h4, ha⟩ := h c
    obtain ⟨e0, e1, e2, e3⟩ := he c
    exact ⟨h0.trans ((Cert.ReferenceEvInIdeal.Read.val_main_v16_eq _ _ _).trans (Cert.EvInV.out0 m c e0.symm e1.symm e2.symm).symm),
      h1.trans ((Cert.ReferenceEvInIdeal.Read.val_main_v17_eq _ _ _ _).trans (Cert.EvInV.out1 m c e0.symm e1.symm e2.symm e3.symm).symm),
      h2.trans ((Cert.ReferenceEvInIdeal.Read.val_main_v18_eq _ _ _ _).trans (Cert.EvInV.out2 m c e0.symm e1.symm e2.symm e3.symm).symm),
      h3.trans ((Cert.ReferenceEvInIdeal.Read.val_main_v19_eq _ _ _ _).trans (Cert.EvInV.out3 m c e0.symm e1.symm e2.symm e3.symm).symm),
      h4.trans ((Cert.ReferenceEvInIdeal.Read.val_main_v20_eq _ _ _ _).trans (Cert.EvInV.out4 m c e0.symm e1.symm e2.symm e3.symm).symm), ha⟩

end Cert.EvInV
-- ==== Proof.EvInBwdValue.lean ====
/-  The backward pass through an even mixer's modulated input projection: what the kernel leaves, and that the reference leaves it.  -/
module
public import proofs.«01_k».proof.Defs
public import proofs.«01_k».proof.Proof.Gen.EvInBwdIdeal.Frame
public import proofs.«01_k».proof.Proof.Gen.ReferenceEvInBwdIdeal.Read
public import proofs.«01_k».proof.Proof.Taps
public import Idealize.ShloMosaic.Lib.Pointwise
public import Idealize.ShloMosaic.Lib.Pipeline.ReadBack
public import Idealize.ShloMosaic.Lib.Pipeline.ValueKit
@[expose] public section
noncomputable section
namespace Cert.EvInBwdV
open Idealize.ShloMosaic Idealize.ShloMosaic.TcCoe Idealize.ShloMosaic.StableHlo Idealize.ShloMosaic.Tactic Cert.EvInBwdIdeal Cert.EvInBwdIdeal.Gen Cert.Conf

/-! ## The mathematics, by row -/

section Rows
variable (A : S8192x1024.Idx → EReal) (B : S8192x1536.Idx → EReal) (E : S8192x512.Idx → EReal) (G : S8192x128.Idx → EReal) (W : S1024x3200.Idx → EReal) (X : S8192x1024.Idx → EReal) (C : S2x1024.Idx → EReal) (R : S8192x1024.Idx → EReal)

/-- The cotangents of the four groups of columns side by side. -/
def ct (r j : ℕ) : EReal := if j < 1024 then rd (a := 8192) (b := 1024) A r j else if j < 2560 then rd (a := 8192) (b := 1536) B r (j - 1024)
  else if j < 3072 then rd (a := 8192) (b := 512) E r (j - 2560) else rd (a := 8192) (b := 128) G r (j - 3072)

theorem ct_0 {r j : ℕ} (h : j < 1024) : ct A B E G r j = rd (a := 8192) (b := 1024) A r j := if_pos h
theorem ct_1 {r j : ℕ} (h : j < 1536) : ct A B E G r (1024 + j) = rd (a := 8192) (b := 1536) B r j := by
  rw [ct, if_neg (by omega), if_pos (by omega), Nat.add_sub_cancel_left]
theorem ct_2 {r j : ℕ} (h : j < 512) : ct A B E G r (2560 + j) = rd (a := 8192) (b := 512) E r j := by
  rw [ct, if_neg (by omega), if_neg (by omega), if_pos (by omega), Nat.add_sub_cancel_left]
theorem ct_3 (r j : ℕ) : ct A B E G r (3072 + j) = rd (a := 8192) (b := 128) G r j := by
  rw [ct, if_neg (by omega), if_neg (by omega), if_neg (by omega), Nat.add_sub_cancel_left]

/-- The cotangent of the modulated rows. -/
def dh (r k : ℕ) : EReal := ∑ j ∈ Finset.range 3200, ct A B E G r j * rd (a := 1024) (b := 3200) W k j

/-- The sum over the columns in its four groups. -/
theorem four (f : ℕ → EReal) : ∑ j ∈ Finset.range 3200, f j
    = ((∑ j ∈ Finset.range 1024, f (0 + j) + ∑ j ∈ Finset.range 1536, f (1024 + j)) + ∑ j ∈ Finset.range 512, f (2560 + j)) + ∑ j ∈ Finset.range 128, f (3072 + j) := by
  rw [show 3200 = 1024 + 1536 + 512 + 128 by rfl, Finset.sum_range_add, Finset.sum_range_add, Finset.sum_range_add]
  simp only [Nat.zero_add]

/-- The cotangent of the rows: that of the residual, and that of the modulated rows scaled. -/
def dx (r q : ℕ) : EReal := rd (a := 8192) (b := 1024) R r q + dh A B E G W r q * (1 + rd (a := 2) (b := 1024) C (r / 4096) q)
/-- The cotangent of the shift: the sum over the sequence's rows. -/
def dsh (b q : ℕ) : EReal := ∑ r ∈ Finset.range 4096, dh A B E G W (4096 * b + r) q
/-- The cotangent of the scale: the sum over the sequence's rows, each times the row. -/
def dsc (b q : ℕ) : EReal := ∑ r ∈ Finset.range 4096, dh A B E G W (4096 * b + r) q * rd (a := 8192) (b := 1024) X (4096 * b + r) q

/-! ## The stored values -/

theorem pay6 (a : Vec Ideal S512x1024 .bf16) (b : Vec Ideal S512x1536 .bf16) (e : Vec Ideal S512x512 .bf16) (g : Vec Ideal S512x128 .bf16)
    (w : Vec Ideal S1024x1024 .bf16) (w' : Vec Ideal S1024x1536 .bf16) (w'' : Vec Ideal S1024x512 .bf16) (v : Vec Ideal S1024x128 .bf16) (p : Fin 512) (r : ℕ) (k : Fin 1024)
    (ha : ∀ q : Fin 1024, a (ix2 p q) = rd (a := 8192) (b := 1024) A r q) (hb : ∀ q : Fin 1536, b (ix2 p q) = rd (a := 8192) (b := 1536) B r q)
    (he : ∀ q : Fin 512, e (ix2 p q) = rd (a := 8192) (b := 512) E r q) (hg : ∀ q : Fin 128, g (ix2 p q) = rd (a := 8192) (b := 128) G r q)
    (hw : ∀ q : Fin 1024, w (ix2 k q) = rd (a := 1024) (b := 3200) W k (0 + q)) (hw' : ∀ q : Fin 1536, w' (ix2 k q) = rd (a := 1024) (b := 3200) W k (1024 + q))
    (hw'' : ∀ q : Fin 512, w'' (ix2 k q) = rd (a := 1024) (b := 3200) W k (2560 + q)) (hv : ∀ q : Fin 128, v (ix2 k q) = rd (a := 1024) (b := 3200) W k (3072 + q)) :
    k0_pay6 a w b w' e w'' g v (ix2 p k) = dh A B E G W r k := by
  have h : k0_pay6 a w b w' e w'' g v (ix2 p k) = ((∑ j : Fin 1024, a (ix2 p j) * w (ix2 k j) + ∑ j : Fin 1536, b (ix2 p j) * w' (ix2 k j))
      + ∑ j : Fin 512, e (ix2 p j) * w'' (ix2 k j)) + ∑ j : Fin 128, g (ix2 p j) * v (ix2 k j) := by
    unfold k0_pay6
    pointwise
  rw [h, dh, four, Finset.sum_range, Finset.sum_range, Finset.sum_range, Finset.sum_range]
  refine congrArg₂ HAdd.hAdd (congrArg₂ HAdd.hAdd (congrArg₂ HAdd.hAdd (Finset.sum_congr rfl fun j _ => ?_) (Finset.sum_congr rfl fun j _ => ?_)) (Finset.sum_congr rfl fun j _ => ?_))
    (Finset.sum_congr rfl fun j _ => ?_)
  · rw [ha, hw, ct_0 _ _ _ _ (by omega), Nat.zero_add]
  · rw [hb, hw', ct_1 _ _ _ _ (by omega)]
  · rw [he, hw'', ct_2 _ _ _ _ (by omega)]
  · rw [hg, hv, ct_3]

theorem pay1 (y : FVec Ideal S512x1024 .f32) (x7 : Vec Ideal S512x1024 .f32) (x6 : Vec Ideal S1x1x1024 .f32) (p : Fin 512) (q : Fin 1024) :
    k0_pay1 y x7 x6 (ix2 p q) = x7 (ix2 p q) + y (ix2 p q) * (1 + x6 (ix3 0 0 q)) := by
  unfold k0_pay1
  pointwise

theorem pay4 (y : FVec Ideal S512x1024 .f32) (a : Vec Ideal S1x1x1024 .f32) (q : Fin 1024) :
    k0_pay4 y a (ix3 0 0 q) = a (ix3 0 0 q) + ∑ p : Fin 512, y (ix2 p q) := by
  unfold k0_pay4
  pointwise

theorem pay5 (y : FVec Ideal S512x1024 .f32) (a : Vec Ideal S1x1x1024 .f32) (x : Vec Ideal S512x1024 .f32) (q : Fin 1024) :
    k0_pay5 y a x (ix3 0 0 q) = a (ix3 0 0 q) + ∑ p : Fin 512, y (ix2 p q) * x (ix2 p q) := by
  unfold k0_pay5
  pointwise

theorem zero_2 (q : Fin 1024) : (k0_pay2 (F := Ideal) (ix3 0 0 q) : EReal) = 0 := by
  unfold k0_pay2
  pointwise
theorem zero_3 (q : Fin 1024) : (k0_pay3 (F := Ideal) (ix3 0 0 q) : EReal) = 0 := by
  unfold k0_pay3
  pointwise

end Rows

variable (m : (ℓ : Loc nD τ sig) → Buf (Elt Ideal) ℓ) (c : Dev nD)

/-- The arguments. -/
abbrev aA : S8192x1024.Idx → EReal := m ((c : Thread nD τ).loc main_arg0)
abbrev aB : S8192x1536.Idx → EReal := m ((c : Thread nD τ).loc main_arg1)
abbrev aE : S8192x512.Idx → EReal := m ((c : Thread nD τ).loc main_arg2)
abbrev aG : S8192x128.Idx → EReal := m ((c : Thread nD τ).loc main_arg3)
abbrev aW : S1024x3200.Idx → EReal := m ((c : Thread nD τ).loc main_arg4)
abbrev aX : S8192x1024.Idx → EReal := m ((c : Thread nD τ).loc main_arg5)
abbrev aC : S2x1024.Idx → EReal := m ((c : Thread nD τ).loc main_arg6)
abbrev aR : S8192x1024.Idx → EReal := m ((c : Thread nD τ).loc main_arg7)

theorem at_0 : ∀ t : Fin cfg0.N, win0_0.index t = ![t.val, 0] := (by decide +kernel : ∀ t : Fin grid0.N, _)
theorem at_1 : ∀ t : Fin cfg0.N, win0_1.index t = ![t.val, 0] := (by decide +kernel : ∀ t : Fin grid0.N, _)
theorem at_2 : ∀ t : Fin cfg0.N, win0_2.index t = ![t.val, 0] := (by decide +kernel : ∀ t : Fin grid0.N, _)
theorem at_3 : ∀ t : Fin cfg0.N, win0_3.index t = ![t.val, 0] := (by decide +kernel : ∀ t : Fin grid0.N, _)
theorem at_4 : ∀ t : Fin cfg0.N, win0_4.index t = ![0, 0] := (by decide +kernel : ∀ t : Fin grid0.N, _)
theorem at_5 : ∀ t : Fin cfg0.N, win0_5.index t = ![t.val, 0] := (by decide +kernel : ∀ t : Fin grid0.N, _)
theorem at_6 : ∀ t : Fin cfg0.N, win0_6.index t = ![t.val / 8, 0, 0] := (by decide +kernel : ∀ t : Fin grid0.N, _)
theorem at_7 : ∀ t : Fin cfg0.N, win0_7.index t = ![t.val, 0] := (by decide +kernel : ∀ t : Fin grid0.N, _)
theorem at_8 : ∀ t : Fin cfg0.N, win0_8.index t = ![t.val, 0] := (by decide +kernel : ∀ t : Fin grid0.N, _)
theorem at_9 : ∀ t : Fin cfg0.N, win0_9.index t = ![t.val / 8, 0, 0] := (by decide +kernel : ∀ t : Fin grid0.N, _)
theorem at_10 : ∀ t : Fin cfg0.N, win0_10.index t = ![t.val / 8, 0, 0] := (by decide +kernel : ∀ t : Fin grid0.N, _)

theorem blk_0 (t : Fin cfg0.N) (p : Fin 512) (q : Fin 1024) :
    (iblk m c 0 t : Vec Ideal S512x1024 .bf16) (ix2 p q) = rd (a := 8192) (b := 1024) (aA m c) (512 * t.val + p) q := by
  blk_simp [iblk]
  rw [aA, ← V_main_arg0 m c]
  exact rd_of (a := 8192) (b := 1024) _ _ (by blk_simp [at_0]; show _ + p.val = _; omega) (by blk_simp [at_0])

theorem blk_1 (t : Fin cfg0.N) (p : Fin 512) (q : Fin 1536) :
    (iblk m c 1 t : Vec Ideal S512x1536 .bf16) (ix2 p q) = rd (a := 8192) (b := 1536) (aB m c) (512 * t.val + p) q := by
  blk_simp [iblk]
  rw [aB, ← V_main_arg1 m c]
  exact rd_of (a := 8192) (b := 1536) _ _ (by blk_simp [at_1]; show _ + p.val = _; omega) (by blk_simp [at_1])

theorem blk_2 (t : Fin cfg0.N) (p : Fin 512) (q : Fin 512) :
    (iblk m c 2 t : Vec Ideal S512x512 .bf16) (ix2 p q) = rd (a := 8192) (b := 512) (aE m c) (512 * t.val + p) q := by
  blk_simp [iblk]
  rw [aE, ← V_main_arg2 m c]
  exact rd_of (a := 8192) (b := 512) _ _ (by blk_simp [at_2]; show _ + p.val = _; omega) (by blk_simp [at_2])

theorem blk_3 (t : Fin cfg0.N) (p : Fin 512) (q : Fin 128) :
    (iblk m c 3 t : Vec Ideal S512x128 .bf16) (ix2 p q) = rd (a := 8192) (b := 128) (aG m c) (512 * t.val + p) q := by
  blk_simp [iblk]
  rw [aG, ← V_main_arg3 m c]
  exact rd_of (a := 8192) (b := 128) _ _ (by blk_simp [at_3]; show _ + p.val = _; omega) (by blk_simp [at_3])

theorem blk_5 (t : Fin cfg0.N) (p : Fin 512) (q : Fin 1024) :
    (iblk m c 5 t : Vec Ideal S512x1024 .f32) (ix2 p q) = rd (a := 8192) (b := 1024) (aX m c) (512 * t.val + p) q := by
  blk_simp [iblk]
  rw [aX, ← V_main_arg5 m c]
  exact rd_of (a := 8192) (b := 1024) _ _ (by blk_simp [at_5]; show _ + p.val = _; omega) (by blk_simp [at_5])

theorem blk_7 (t : Fin cfg0.N) (p : Fin 512) (q : Fin 1024) :
    (iblk m c 7 t : Vec Ideal S512x1024 .f32) (ix2 p q) = rd (a := 8192) (b := 1024) (aR m c) (512 * t.val + p) q := by
  blk_simp [iblk]
  rw [aR, ← V_main_arg7 m c]
  exact rd_of (a := 8192) (b := 1024) _ _ (by blk_simp [at_7]; show _ + p.val = _; omega) (by blk_simp [at_7])

theorem blk_4 (t : Fin cfg0.N) : (iblk m c 4 t : Vec Ideal S1024x3200 .bf16) = aW m c := by
  funext j
  obtain ⟨p, q, rfl⟩ : ∃ (p : Fin 1024) (q : Fin 3200), j = ix2 p q := ⟨j 0, j 1, eq_ix2 j⟩
  blk_simp [iblk]
  rw [aW, ← V_main_arg4 m c]
  refine congrArg (V m c main_arg4) (funext fun a => Fin.ext ?_)
  match a with
  | ⟨0, _⟩ => blk_simp [at_4]
  | ⟨1, _⟩ => blk_simp [at_4]

/-- A group of the weights' columns. -/
theorem cols (t : Fin cfg0.N) (o n : ℕ) (inb : ∀ a, (![0, o] : Fin 2 → ℕ) a + (⟨2, ![1024, n]⟩ : Shape).size a ≤ S1024x3200.size a) (k : Fin 1024) (q : Fin n) :
    View.ld (iblk m c 4 t : Vec Ideal S1024x3200 .bf16) (Rect.unit (s := S1024x3200) ![0, o] ![1024, n] inb) (ix2 k q) = rd (a := 1024) (b := 3200) (aW m c) k (o + q) := by
  rw [blk_4]
  refine (ld_rd (a := 1024) (b := 3200) (aW m c) 0 o inb (ix2 k q)).trans ?_
  show rd _ (0 + k.val) (o + q.val) = _
  rw [Nat.zero_add]

theorem blk_6 (t : Fin cfg0.N) (q : Fin 1024) :
    (iblk m c 6 t : Vec Ideal S1x1x1024 .f32) (ix3 0 0 q) = rd (a := 2) (b := 1024) (aC m c) (t.val / 8) q := by
  have e : V m c main_v0 = broadcastInDim S2x1x1024 ![0, 2] bcast_S2x1024_S2x1x1024_0_2 (m ((c : Thread nD τ).loc main_arg6)) := by
    unfold V hostOps0
    after_results
  blk_simp [iblk]
  show V m c main_v0 _ = _
  rw [e]
  pointwise
  exact rd_of (a := 2) (b := 1024) _ _ (by blk_simp [at_6]; exact Nat.add_zero _) (by blk_simp [at_6])

/-! ## What a point leaves -/

/-- The point's group of the weights' columns. -/
abbrev wt (t : Fin cfg0.N) (o n : ℕ) (inb : ∀ a, (![0, o] : Fin 2 → ℕ) a + (⟨2, ![1024, n]⟩ : Shape).size a ≤ S1024x3200.size a) : Vec Ideal ⟨2, ![1024, n]⟩ .bf16 :=
  View.ld (iblk m c 4 t : Vec Ideal S1024x3200 .bf16) (Rect.unit (s := S1024x3200) ![0, o] ![1024, n] inb)

/-- A point's rows of the cotangent of the modulated rows. -/
theorem dh_tile (t : Fin cfg0.N) (i0 i1 i2 i3) (p : Fin 512) (k : Fin 1024) :
    k0_pay6 (iblk m c 0 t) (wt m c t 0 1024 i0) (iblk m c 1 t) (wt m c t 1024 1536 i1) (iblk m c 2 t) (wt m c t 2560 512 i2) (iblk m c 3 t) (wt m c t 3072 128 i3) (ix2 p k)
      = dh (aA m c) (aB m c) (aE m c) (aG m c) (aW m c) (512 * t.val + p) k :=
  pay6 _ _ _ _ _ _ _ _ _ _ _ _ _ p _ k (blk_0 m c t p) (blk_1 m c t p) (blk_2 m c t p) (blk_3 m c t p) (cols m c t 0 1024 i0 k) (cols m c t 1024 1536 i1 k) (cols m c t 2560 512 i2 k)
    (cols m c t 3072 128 i3 k)

theorem dx_tile (t : Fin cfg0.N) (y : FVec Ideal S512x1024 .f32) (p : Fin 512) (q : Fin 1024)
    (hy : ∀ (p : Fin 512) (q : Fin 1024), y (ix2 p q) = dh (aA m c) (aB m c) (aE m c) (aG m c) (aW m c) (512 * t.val + p) q) :
    k0_pay1 y (iblk m c 7 t) (iblk m c 6 t) (ix2 p q) = dx (aA m c) (aB m c) (aE m c) (aG m c) (aW m c) (aC m c) (aR m c) (512 * t.val + p) q := by
  rw [pay1, hy, blk_7, blk_6, dx, show (512 * t.val + p.val) / 4096 = t.val / 8 by omega]

/-- What a point leaves of the cotangent of the rows. -/
theorem tile_8 (t : Fin cfg0.N) (p : Fin 512) (q : Fin 1024) :
    ((dats m 0 c).after 8 t : Vec Ideal S512x1024 .f32) (ix2 p q) = dx (aA m c) (aB m c) (aE m c) (aG m c) (aW m c) (aC m c) (aR m c) (512 * t.val + p) q := by
  rw [after0_8]
  by_cases h0 : t.val % 8 = 0
  · rw [outsAt0_A m c t h0]
    frame_out
    exact dx_tile m c t _ p q (dh_tile m c t _ _ _ _)
  · rw [outsAt0_B m c t h0]
    frame_out
    exact dx_tile m c t _ p q (dh_tile m c t _ _ _ _)

/-- What a point adds to the cotangent of the shift. -/
def term9 (n : ℕ) (q : Fin 1024) : EReal := ∑ r ∈ Finset.range 512, dh (aA m c) (aB m c) (aE m c) (aG m c) (aW m c) (512 * n + r) q
/-- What a point adds to the cotangent of the scale. -/
def term10 (n : ℕ) (q : Fin 1024) : EReal :=
  ∑ r ∈ Finset.range 512, dh (aA m c) (aB m c) (aE m c) (aG m c) (aW m c) (512 * n + r) q * rd (a := 8192) (b := 1024) (aX m c) (512 * n + r) q

theorem term_9 (t : Fin cfg0.N) (y : FVec Ideal S512x1024 .f32) (a : Vec Ideal S1x1x1024 .f32) (q : Fin 1024)
    (hy : ∀ (p : Fin 512) (q : Fin 1024), y (ix2 p q) = dh (aA m c) (aB m c) (aE m c) (aG m c) (aW m c) (512 * t.val + p) q) :
    k0_pay4 y a (ix3 0 0 q) = a (ix3 0 0 q) + term9 m c t.val q := by
  rw [pay4, term9, Finset.sum_range]
  simp only [hy]

theorem term_10 (t : Fin cfg0.N) (y : FVec Ideal S512x1024 .f32) (a : Vec Ideal S1x1x1024 .f32) (q : Fin 1024)
    (hy : ∀ (p : Fin 512) (q : Fin 1024), y (ix2 p q) = dh (aA m c) (aB m c) (aE m c) (aG m c) (aW m c) (512 * t.val + p) q) :
    k0_pay5 y a (iblk m c 5 t) (ix3 0 0 q) = a (ix3 0 0 q) + term10 m c t.val q := by
  rw [pay5, term10, Finset.sum_range]
  simp only [hy, blk_5]

/-- The accumulator of the cotangent of the shift after a point: the sum over the sequence's points so far. -/
theorem acc_9 (t : Fin cfg0.N) (q : Fin 1024) :
    ((outsAt0 m c t.val t.isLt).2.1 (ix3 0 0 q) : EReal) = 0 + ∑ s ∈ Finset.range (t.val % 8 + 1), term9 m c (8 * (t.val / 8) + s) q := by
  refine Pipeline.eq_sum_of_reset_step_apply (M := EReal) (fun n h (q : Fin 1024) => (outsAt0 m c n h).2.1 (ix3 0 0 q)) 8 (fun _ => 0)
    (fun t q => term9 m c t q) ?_ ?_ t q
  · intro t h1 q
    rw [outsAt0_A m c t h1]
    frame_out
    rw [term_9 m c t _ _ _ (dh_tile m c t _ _ _ _), zero_2]
  · intro t h1 q
    rw [outsAt0_B m c t h1]
    frame_out
    rw [term_9 m c t _ _ _ (dh_tile m c t _ _ _ _)]

/-- The sequence's eight points together. -/
theorem last_9 (t : Fin cfg0.N) (ht : t.val % 8 = 7) (q : Fin 1024) :
    ((dats m 0 c).after 9 t : Vec Ideal S1x1x1024 .f32) (ix3 0 0 q) = dsh (aA m c) (aB m c) (aE m c) (aG m c) (aW m c) (t.val / 8) q := by
  rw [after0_9]
  refine (acc_9 m c t q).trans ?_
  rw [ht, zero_add]
  refine Eq.trans ?_ (Finset.sum_range_range_mul_add 8 512 fun r => dh (aA m c) (aB m c) (aE m c) (aG m c) (aW m c) (4096 * (t.val / 8) + r) q)
  refine Finset.sum_congr rfl fun s hs => Finset.sum_congr rfl fun r hr => ?_
  rw [show 512 * (8 * (t.val / 8) + s) + r = 4096 * (t.val / 8) + (s * 512 + r) by omega]

/-- The accumulator of the cotangent of the scale after a point: the sum over the sequence's points so far. -/
theorem acc_10 (t : Fin cfg0.N) (q : Fin 1024) :
    ((outsAt0 m c t.val t.isLt).2.2 (ix3 0 0 q) : EReal) = 0 + ∑ s ∈ Finset.range (t.val % 8 + 1), term10 m c (8 * (t.val / 8) + s) q := by
  refine Pipeline.eq_sum_of_reset_step_apply (M := EReal) (fun n h (q : Fin 1024) => (outsAt0 m c n h).2.2 (ix3 0 0 q)) 8 (fun _ => 0)
    (fun t q => term10 m c t q) ?_ ?_ t q
  · intro t h1 q
    rw [outsAt0_A m c t h1]
    frame_out
    rw [term_10 m c t _ _ _ (dh_tile m c t _ _ _ _), zero_3]
  · intro t h1 q
    rw [outsAt0_B m c t h1]
    frame_out
    rw [term_10 m c t _ _ _ (dh_tile m c t _ _ _ _)]

/-- The sequence's eight points together. -/
theorem last_10 (t : Fin cfg0.N) (ht : t.val % 8 = 7) (q : Fin 1024) :
    ((dats m 0 c).after 10 t : Vec Ideal S1x1x1024 .f32) (ix3 0 0 q) = dsc (aA m c) (aB m c) (aE m c) (aG m c) (aW m c) (aX m c) (t.val / 8) q := by
  rw [after0_10]
  refine (acc_10 m c t q).trans ?_
  rw [ht, zero_add]
  refine Eq.trans ?_ (Finset.sum_range_range_mul_add 8 512 fun r => dh (aA m c) (aB m c) (aE m c) (aG m c) (aW m c) (4096 * (t.val / 8) + r) q
    * rd (a := 8192) (b := 1024) (aX m c) (4096 * (t.val / 8) + r) q)
  refine Finset.sum_congr rfl fun s hs => Finset.sum_congr rfl fun r hr => ?_
  rw [show 512 * (8 * (t.val / 8) + s) + r = 4096 * (t.val / 8) + (s * 512 + r) by omega]

/-- What the kernel leaves: the cotangent of the rows. -/
theorem final_8 : (dats m 0 c).arrAt 8 cfg0.N = fun j : S8192x1024.Idx => dx (aA m c) (aB m c) (aE m c) (aG m c) (aW m c) (aC m c) (aR m c) (j 0).val (j 1).val := by
  refine (dats m 0 c).arrAt_eq_of_covers 8 _ (by decide +kernel) fun t hf y => ?_
  blk_simp [at_8]
  obtain ⟨p, q, rfl⟩ : ∃ (p : Fin 512) (q : Fin 1024), y = ix2 p q := ⟨y 0, y 1, eq_ix2 y⟩
  refine (tile_8 m c t p q).trans ?_
  show dx _ _ _ _ _ _ _ _ q.val = dx _ _ _ _ _ _ _ (t.val * 512 + p.val) _
  rw [Nat.mul_comm]
  simp

theorem one_rows (y : S1x1x1024.Idx) : y = ix3 (n0 := 1) (n1 := 1) 0 0 (y 2) := funext fun a =>
  match a with
  | ⟨0, _⟩ => Subsingleton.elim (α := Fin 1) (y 0) 0
  | ⟨1, _⟩ => Subsingleton.elim (α := Fin 1) (y 1) 0
  | ⟨2, _⟩ => rfl

/-- What the kernel leaves: the cotangent of the shift. -/
theorem final_9 : (dats m 0 c).arrAt 9 cfg0.N = fun j : S2x1x1024.Idx => dsh (aA m c) (aB m c) (aE m c) (aG m c) (aW m c) (j 0).val (j 2).val := by
  refine (dats m 0 c).arrAt_eq_of_covers 9 _ (by decide +kernel) fun t hf y => ?_
  have h := last_9 m c t ((flush0_9 t).mp hf) (y 2)
  have e0 : win0_9.index t 0 = t.val / 8 := congrFun (at_9 t) 0
  have e2 : win0_9.index t 2 = 0 := congrFun (at_9 t) 2
  blk_simp
  rw [e0, e2, Nat.zero_mul, Nat.zero_add]
  exact (congrArg ((dats m 0 c).after 9 t : Vec Ideal S1x1x1024 .f32) (one_rows y)).trans h

/-- What the kernel leaves: the cotangent of the scale. -/
theorem final_10 : (dats m 0 c).arrAt 10 cfg0.N = fun j : S2x1x1024.Idx => dsc (aA m c) (aB m c) (aE m c) (aG m c) (aW m c) (aX m c) (j 0).val (j 2).val := by
  refine (dats m 0 c).arrAt_eq_of_covers 10 _ (by decide +kernel) fun t hf y => ?_
  have h := last_10 m c t ((flush0_10 t).mp hf) (y 2)
  have e0 : win0_10.index t 0 = t.val / 8 := congrFun (at_10 t) 0
  have e2 : win0_10.index t 2 = 0 := congrFun (at_10 t) 2
  blk_simp
  rw [e0, e2, Nat.zero_mul, Nat.zero_add]
  exact (congrArg ((dats m 0 c).after 10 t : Vec Ideal S1x1x1024 .f32) (one_rows y)).trans h

theorem two_rows (j : S2x1x1024.Idx) : j = ix3 (n0 := 2) (n1 := 1) (j 0) 0 (j 2) := funext fun a =>
  match a with
  | ⟨0, _⟩ => rfl
  | ⟨1, _⟩ => Subsingleton.elim (α := Fin 1) (j 1) 0
  | ⟨2, _⟩ => rfl

/-! ## The reference -/

section Ref
open Cert.ReferenceEvInBwdIdeal.Read

variable (A : S8192x1024.Idx → EReal) (B : S8192x1536.Idx → EReal) (E : S8192x512.Idx → EReal) (G : S8192x128.Idx → EReal) (W : S1024x3200.Idx → EReal) (X : S8192x1024.Idx → EReal) (C : S2x1024.Idx → EReal) (R : S8192x1024.Idx → EReal)

theorem ref_row (H : S8192x1024.Idx → EReal) (s : Fin 2) (p : Fin 4096) (q : Fin 1024) : val_main_v1 (F := Ideal) H (ix3 s p q) = rd (a := 8192) (b := 1024) H (4096 * s + p) q := by
  rw [val_main_v1_apply]
  exact rd_of (a := 8192) (b := 1024) H _ (show ((s.val * 4096 + p.val) * 1024 + q.val) / 1024 = 4096 * s.val + p.val by omega)
    (show ((s.val * 4096 + p.val) * 1024 + q.val) % 1024 = q.val by omega)

theorem row_1 (H : S8192x1536.Idx → EReal) (s : Fin 2) (p : Fin 4096) (q : Fin 1536) : val_main_v15 (F := Ideal) H (ix3 s p q) = rd (a := 8192) (b := 1536) H (4096 * s + p) q := by
  rw [val_main_v15_apply, val_main_v14_apply]
  exact rd_of (a := 8192) (b := 1536) H _ (show ((s.val * 4096 + p.val) * 1536 + q.val) / 1536 = 4096 * s.val + p.val by omega)
    (show ((s.val * 4096 + p.val) * 1536 + q.val) % 1536 = q.val by omega)

theorem row_2 (H : S8192x512.Idx → EReal) (s : Fin 2) (p : Fin 4096) (q : Fin 512) : val_main_v17 (F := Ideal) H (ix3 s p q) = rd (a := 8192) (b := 512) H (4096 * s + p) q := by
  rw [val_main_v17_apply, val_main_v16_apply]
  exact rd_of (a := 8192) (b := 512) H _ (show ((s.val * 4096 + p.val) * 512 + q.val) / 512 = 4096 * s.val + p.val by omega)
    (show ((s.val * 4096 + p.val) * 512 + q.val) % 512 = q.val by omega)

theorem row_3 (H : S8192x128.Idx → EReal) (s : Fin 2) (p : Fin 4096) (q : Fin 128) : val_main_v19 (F := Ideal) H (ix3 s p q) = rd (a := 8192) (b := 128) H (4096 * s + p) q := by
  rw [val_main_v19_apply, val_main_v18_apply]
  exact rd_of (a := 8192) (b := 128) H _ (show ((s.val * 4096 + p.val) * 128 + q.val) / 128 = 4096 * s.val + p.val by omega)
    (show ((s.val * 4096 + p.val) * 128 + q.val) % 128 = q.val by omega)

/-- The four cotangents side by side. -/
theorem ref_ct (s : Fin 2) (p : Fin 4096) (q : Fin 3200) : val_main_v20 (F := Ideal) A B E G (ix3 s p q) = ct A B E G (4096 * s + p) q := by
  unfold val_main_v20
  pointwise
  split
  · next h => exact (ref_row A s p ⟨q.val, h⟩).trans (if_pos h).symm
  · next h =>
    split
    · next h' => exact (row_1 B s p ⟨q.val - 1024, h'⟩).trans (((if_neg h).trans (if_pos (by omega))).symm)
    · next h' =>
      split
      · next h'' =>
        exact (row_2 E s p ⟨q.val - 1024 - 1536, h''⟩).trans ((congrArg (rd (a := 8192) (b := 512) E _) (by omega : q.val - 1024 - 1536 = q.val - 2560)).trans
          ((if_neg h).trans ((if_neg (by omega)).trans (if_pos (by omega)))).symm)
      · next h'' =>
        exact (row_3 G s p ⟨q.val - 1024 - 1536 - 512, by omega⟩).trans ((congrArg (rd (a := 8192) (b := 128) G _) (by omega : q.val - 1024 - 1536 - 512 = q.val - 3072)).trans
          ((if_neg h).trans ((if_neg (by omega)).trans (if_neg (by omega)))).symm)

theorem ref_dh (s : Fin 2) (p : Fin 4096) (k : Fin 1024) : val_main_v21 (F := Ideal) A B E G W (ix3 s p k) = dh A B E G W (4096 * s + p) k := by
  rw [val_main_v21_apply, dh, Finset.sum_range]
  refine Finset.sum_congr rfl fun j _ => ?_
  refine congrArg₂ HMul.hMul ?_ ?_
  · exact (congrArg (val_main_v20 (F := Ideal) A B E G) (eq_ix3 _)).trans (ref_ct A B E G s p j)
  · exact rd_of (a := 1024) (b := 3200) W _ rfl rfl

theorem zero_word : (FloatOps.ofBits (F := Ideal) .f32 0x00000000#32 : EReal) = 0 := by pointwise

theorem one_word : (FloatOps.ofBits (F := Ideal) .f32 0x3F800000#32 : EReal) = 1 := by pointwise

theorem idx_dsh (s : Fin 2) (k : Fin 1024) (p : Fin 4096) :
    idx_main_v22 (idx_main_v23 (idx_main_v24 (idx_main_v33 (ix3 s (0 : Fin 1) k)) 0)) p = ix3 s p k := funext fun a =>
  match a with
  | ⟨0, _⟩ => Fin.ext (show ((s.val * 1 + 0) * 1024 + k.val) / 1024 = s.val by omega)
  | ⟨1, _⟩ => rfl
  | ⟨2, _⟩ => Fin.ext (show ((s.val * 1 + 0) * 1024 + k.val) % 1024 = k.val by omega)

theorem idx_dsc (s : Fin 2) (k : Fin 1024) (p : Fin 4096) :
    idx_main_v26 (idx_main_v27 (idx_main_v30 (idx_main_v34 (ix3 s (0 : Fin 1) k)) 0)) p = ix3 s p k := funext fun a =>
  match a with
  | ⟨0, _⟩ => Fin.ext (show ((s.val * 1 + 0) * 1024 + k.val) / 1024 = s.val by omega)
  | ⟨1, _⟩ => rfl
  | ⟨2, _⟩ => Fin.ext (show ((s.val * 1 + 0) * 1024 + k.val) % 1024 = k.val by omega)

theorem ref_dsh (s : Fin 2) (k : Fin 1024) : val_main_v33 (F := Ideal) A B E G W (ix3 s (0 : Fin 1) k) = dsh A B E G W s k := by
  rw [val_main_v33_apply, val_main_v24_apply, val_main_cst_2_apply, zero_word, zero_add, Fin.sum_univ_one, val_main_v23_apply, val_main_v22_apply, val_main_cst_1_apply, zero_word, zero_add,
    dsh, Finset.sum_range]
  refine Finset.sum_congr rfl fun p _ => ?_
  rw [idx_dsh]
  exact ref_dh A B E G W s p k

theorem ref_dsc (s : Fin 2) (k : Fin 1024) : val_main_v34 (F := Ideal) A B E G W X (ix3 s (0 : Fin 1) k) = dsc A B E G W X s k := by
  rw [val_main_v34_apply, val_main_v30_apply, val_main_cst_4_apply, zero_word, zero_add, Fin.sum_univ_one, val_main_v27_apply, val_main_v26_apply, val_main_cst_3_apply, zero_word, zero_add,
    dsc, Finset.sum_range]
  refine Finset.sum_congr rfl fun p _ => ?_
  rw [idx_dsc, val_main_v25_apply, ref_row, ref_dh A B E G W s p k]
  exact mul_comm _ _

theorem ref_dx (s : Fin 2) (p : Fin 4096) (k : Fin 1024) :
    val_main_v29 (F := Ideal) A B E G W C (ix3 s p k) = dh A B E G W (4096 * s + p) k * (1 + rd (a := 2) (b := 1024) C ((4096 * s + p) / 4096) k) := by
  rw [val_main_v29_apply, val_main_v28_apply, val_main_v4_apply, val_main_v3_apply, val_main_cst_0_apply, val_main_v2_apply, one_word, ref_dh A B E G W s p k]
  have h2 : C (idx_main_v2 (idx_main_v28 (ix3 s p k))) = rd (a := 2) (b := 1024) C ((4096 * s + p) / 4096) k :=
    rd_of (a := 2) (b := 1024) C _ (show s.val = (4096 * s.val + p.val) / 4096 by omega) rfl
  rw [h2]
  rfl

/-- The reference's cotangent of the rows by row. -/
theorem rows_dx : val_main_v32 (F := Ideal) A B E G W C R = fun j : S8192x1024.Idx => dx A B E G W C R (j 0).val (j 1).val := by
  funext j
  have hr : (j 0).val < 8192 := (j 0).isLt
  have hq : (j 1).val < 1024 := (j 1).isLt
  have e : idx_main_v31 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v32_apply, val_main_v31_apply, e, dx]
  refine congrArg₂ HAdd.hAdd (rd_of (a := 8192) (b := 1024) R j rfl rfl) ?_
  refine (ref_dx A B E G W C _ _ _).trans ?_
  show dh _ _ _ _ _ (4096 * ((j 0).val / 4096) + (j 0).val % 4096) _ * (1 + rd _ ((4096 * ((j 0).val / 4096) + (j 0).val % 4096) / 4096) _) = _
  rw [Nat.div_add_mod]

end Ref

variable {A : S8192x1024.Idx → EReal} {B : S8192x1536.Idx → EReal} {E : S8192x512.Idx → EReal} {G : S8192x128.Idx → EReal} {W : S1024x3200.Idx → EReal} {X : S8192x1024.Idx → EReal} {C : S2x1024.Idx → EReal} {R : S8192x1024.Idx → EReal}
open Cert.ReferenceEvInBwdIdeal.Read

section Outs
variable (h0 : m ((c : Thread nD τ).loc main_arg0) = A) (h1 : m ((c : Thread nD τ).loc main_arg1) = B) (h2 : m ((c : Thread nD τ).loc main_arg2) = E)
  (h3 : m ((c : Thread nD τ).loc main_arg3) = G)
  (h4 : m ((c : Thread nD τ).loc main_arg4) = W)
include h0 h1 h2 h3 h4

theorem out0 (h6 : m ((c : Thread nD τ).loc main_arg6) = C) (h7 : m ((c : Thread nD τ).loc main_arg7) = R) : (dats m 0 c).arrAt 8 cfg0.N = val_main_v32 (F := Ideal) A B E G W C R := by
  subst h0 h1 h2 h3 h4 h6 h7
  rw [final_8, rows_dx]

theorem out1 : (dats m 0 c).arrAt 9 cfg0.N = val_main_v33 (F := Ideal) A B E G W := by
  subst h0 h1 h2 h3 h4
  rw [final_9]
  funext j
  obtain ⟨s, k, rfl⟩ : ∃ (s : Fin 2) (k : Fin 1024), j = ix3 s (0 : Fin 1) k := ⟨j 0, j 2, two_rows j⟩
  exact (ref_dsh _ _ _ _ _ s k).symm

theorem out2 (h5 : m ((c : Thread nD τ).loc main_arg5) = X) : (dats m 0 c).arrAt 10 cfg0.N = val_main_v34 (F := Ideal) A B E G W X := by
  subst h0 h1 h2 h3 h4 h5
  rw [final_10]
  funext j
  obtain ⟨s, k, rfl⟩ : ∃ (s : Fin 2) (k : Fin 1024), j = ix3 s (0 : Fin 1) k := ⟨j 0, j 2, two_rows j⟩
  exact (ref_dsc _ _ _ _ _ _ s k).symm

end Outs

/-- The kernel and the reference leave the same. -/
theorem value : Cert.algebraic_EvInBwdIdeal_ReferenceEvInBwdIdeal := by
  intro m g m' g' _ he
  refine ⟨fun c => (dats m 0 c).arrAt 8 cfg0.N, fun c => (dats m 0 c).arrAt 9 cfg0.N, fun c => (dats m 0 c).arrAt 10 cfg0.N, ?_, ?_⟩
  · exact (θ_run defs _ _).mono (fun r h c => ⟨(h c).1 8, (h c).1 9, (h c).1 10,
      ((h c).1 0).trans (((dats m 0 c).arrAt_in 0 rfl _).trans ((rfl).trans (V_main_arg0 m c))),
      ((h c).1 1).trans (((dats m 0 c).arrAt_in 1 rfl _).trans ((rfl).trans (V_main_arg1 m c))),
      ((h c).1 2).trans (((dats m 0 c).arrAt_in 2 rfl _).trans ((rfl).trans (V_main_arg2 m c))),
      ((h c).1 3).trans (((dats m 0 c).arrAt_in 3 rfl _).trans ((rfl).trans (V_main_arg3 m c))),
      ((h c).1 4).trans (((dats m 0 c).arrAt_in 4 rfl _).trans ((rfl).trans (V_main_arg4 m c))),
      ((h c).1 5).trans (((dats m 0 c).arrAt_in 5 rfl _).trans ((rfl).trans (V_main_arg5 m c))),
      ((h c).2 main_arg6 (Pipeline.mem_restRefs_of main_arg6 (by decide) (by decide))).trans (V_main_arg6 m c),
      ((h c).1 7).trans (((dats m 0 c).arrAt_in 7 rfl _).trans ((rfl).trans (V_main_arg7 m c)))⟩) (run_main (F := Ideal) m g)
  · refine (θ_run Cert.ReferenceEvInBwdIdeal.defs _ _).mono (fun r h c => ?_) (Cert.ReferenceEvInBwdIdeal.Value.run (F := Ideal) m' g')
    obtain ⟨h0, h1, h2, ha⟩ := h c
    obtain ⟨e0, e1, e2, e3, e4, e5, e6, e7⟩ := he c
    exact ⟨h0.trans ((Cert.ReferenceEvInBwdIdeal.Read.val_main_v32_eq _ _ _ _ _ _ _).trans (Cert.EvInBwdV.out0 m c e0.symm e1.symm e2.symm e3.symm e4.symm e6.symm e7.symm).symm), h1.trans ((Cert.ReferenceEvInBwdIdeal.Read.val_main_v33_eq _ _ _ _ _).trans (Cert.EvInBwdV.out1 m c e0.symm e1.symm e2.symm e3.symm e4.symm).symm), h2.trans ((Cert.ReferenceEvInBwdIdeal.Read.val_main_v34_eq _ _ _ _ _ _).trans (Cert.EvInBwdV.out2 m c e0.symm e1.symm e2.symm e3.symm e4.symm e5.symm).symm), ha⟩

end Cert.EvInBwdV
-- ==== Proof.GradXbcValue.lean ====
/-  The gradient at the convolved columns of an even mixer's input weight: what the kernel leaves, and that the reference leaves it.  -/
module
public import proofs.«01_k».proof.Defs
public import proofs.«01_k».proof.Proof.Gen.GradXbcIdeal.Frame
public import proofs.«01_k».proof.Proof.Gen.ReferenceGradXbcIdeal.Read
public import proofs.«01_k».proof.Proof.Taps
public import Idealize.ShloMosaic.Lib.Pointwise
public import Idealize.ShloMosaic.Lib.Pipeline.ReadBack
public import Idealize.ShloMosaic.Lib.Pipeline.ValueKit
@[expose] public section
noncomputable section
namespace Cert.GradXbcV
open Idealize.ShloMosaic Idealize.ShloMosaic.TcCoe Cert.GradXbcIdeal Cert.GradXbcIdeal.Gen Cert.Conf

variable (m : (ℓ : Loc nD τ sig) → Buf (Elt Ideal) ℓ) (c : Dev nD)

/-- The product of a tile of rows of the two operands, transposed on the left. -/
theorem pay1 (x0 : Vec Ideal S2048x1024 .bf16) (x1 : Vec Ideal S2048x1536 .bf16) (p : Fin 1024) (q : Fin 1536) :
    k0_pay1 x0 x1 (ix2 p q) = ∑ r ∈ Finset.range 2048, rd (a := 2048) (b := 1024) x0 r p * rd (a := 2048) (b := 1536) x1 r q := by
  unfold k0_pay1
  pointwise
  rw [Finset.sum_range]
  simp only [rd_val]

theorem pay2 (x0 : Vec Ideal S2048x1024 .bf16) (x1 : Vec Ideal S2048x1536 .bf16) (p : Fin 1024) (q : Fin 1536) :
    k0_pay2 x0 x1 (ix2 p q) = 0 + ∑ r ∈ Finset.range 2048, rd (a := 2048) (b := 1024) x0 r p * rd (a := 2048) (b := 1536) x1 r q := by
  rw [← pay1]
  unfold k0_pay2
  pointwise

theorem pay3 (x0 : Vec Ideal S2048x1024 .bf16) (x1 : Vec Ideal S2048x1536 .bf16) (x2 : Vec Ideal S1024x1536 .f32) (p : Fin 1024) (q : Fin 1536) :
    k0_pay3 x0 x1 x2 (ix2 p q) = x2 (ix2 p q) + ∑ r ∈ Finset.range 2048, rd (a := 2048) (b := 1024) x0 r p * rd (a := 2048) (b := 1536) x1 r q := by
  rw [← pay1]
  unfold k0_pay3
  pointwise

theorem at_0 : ∀ t : Fin cfg0.N, win0_0.index t = ![t.val % 4, t.val / 4] := (by decide +kernel : ∀ t : Fin grid0.N, _)
theorem at_1 : ∀ t : Fin cfg0.N, win0_1.index t = ![t.val % 4, 0] := (by decide +kernel : ∀ t : Fin grid0.N, _)
theorem at_2 : ∀ t : Fin cfg0.N, win0_2.index t = ![t.val / 4, 0] := (by decide +kernel : ∀ t : Fin grid0.N, _)

theorem blk_0 (t : Fin cfg0.N) {p q : ℕ} (hp : p < 2048) (hq : q < 1024) :
    rd (a := 2048) (b := 1024) (iblk m c 0 t) p q = rd (a := 8192) (b := 1024) (m ((c : Thread nD τ).loc main_arg0)) (2048 * (t.val % 4) + p) (1024 * (t.val / 4) + q) := by
  rw [rd_lt (a := 2048) (b := 1024) _ hp hq]
  blk_simp [iblk]
  exact rd_of (a := 8192) (b := 1024) _ _ (by blk_simp [at_0]; show _ + p = _; omega) (by blk_simp [at_0]; show _ + q = _; omega)

theorem blk_1 (t : Fin cfg0.N) {p q : ℕ} (hp : p < 2048) (hq : q < 1536) :
    rd (a := 2048) (b := 1536) (iblk m c 1 t) p q = rd (a := 8192) (b := 1536) (m ((c : Thread nD τ).loc main_arg2)) (2048 * (t.val % 4) + p) q := by
  rw [rd_lt (a := 2048) (b := 1536) _ hp hq]
  blk_simp [iblk]
  exact rd_of (a := 8192) (b := 1536) _ _ (by blk_simp [at_1]; show _ + p = _; omega) (by blk_simp [at_1])

/-- What a tile of rows adds to the gradient. -/
def term (n : ℕ) (i : Fin 1024 × Fin 1536) : EReal :=
  ∑ r ∈ Finset.range 2048, rd (a := 8192) (b := 1024) (m ((c : Thread nD τ).loc main_arg0)) (2048 * (n % 4) + r) (1024 * (n / 4) + i.1)
    * rd (a := 8192) (b := 1536) (m ((c : Thread nD τ).loc main_arg2)) (2048 * (n % 4) + r) i.2

theorem term_eq (t : Fin cfg0.N) (p : Fin 1024) (q : Fin 1536) :
    ∑ r ∈ Finset.range 2048, rd (a := 2048) (b := 1024) (iblk m c 0 t) r p * rd (a := 2048) (b := 1536) (iblk m c 1 t) r q = term m c t.val (p, q) := by
  refine Finset.sum_congr rfl fun r hr => ?_
  have hr := Finset.mem_range.mp hr
  rw [blk_0 m c t hr p.isLt, blk_1 m c t hr q.isLt]

/-- The accumulator after a point: the sum over the tiles of rows so far. -/
theorem acc (t : Fin cfg0.N) (p : Fin 1024) (q : Fin 1536) :
    ((outsAt0 m c t.val t.isLt).2 (ix2 p q) : EReal) = 0 + ∑ s ∈ Finset.range (t.val % 4 + 1), term m c (4 * (t.val / 4) + s) (p, q) := by
  refine Pipeline.eq_sum_of_reset_step_apply (M := EReal) (fun n h (i : Fin 1024 × Fin 1536) => (outsAt0 m c n h).2 (ix2 i.1 i.2)) 4 (fun _ => 0)
    (fun t i => term m c t i) ?_ ?_ t (p, q)
  · rintro t h0 ⟨p, q⟩
    have ht : t.val < 4 := t.isLt
    rw [outsAt0_A m c t h0 (by omega) (by omega)]
    frame_out
    rw [pay2, term_eq]
  · rintro t h0 ⟨p, q⟩
    by_cases h3 : t.val % 4 = 3
    · rw [outsAt0_C m c t h0 (by omega) h3]
      frame_out
      rw [pay3, term_eq, read_unread_whole]
    · rw [outsAt0_B m c t h0 (by omega) h3]
      frame_out
      rw [pay3, term_eq, read_unread_whole]

/-- The gradient: the sum over all the rows. -/
def dw (p q : ℕ) : EReal :=
  ∑ r ∈ Finset.range 8192, rd (a := 8192) (b := 1024) (m ((c : Thread nD τ).loc main_arg0)) r p
    * rd (a := 8192) (b := 1536) (m ((c : Thread nD τ).loc main_arg2)) r q

/-- The four tiles of rows together. -/
theorem acc_last (t : Fin cfg0.N) (ht : t.val % 4 = 3) (p : Fin 1024) (q : Fin 1536) :
    ((outsAt0 m c t.val t.isLt).2 (ix2 p q) : EReal) = dw m c (1024 * (t.val / 4) + p) q := by
  rw [acc, ht, zero_add]
  refine Eq.trans ?_ (Finset.sum_range_range_mul_add 4 2048 fun r => rd (a := 8192) (b := 1024) (m ((c : Thread nD τ).loc main_arg0)) r (1024 * (t.val / 4) + p)
    * rd (a := 8192) (b := 1536) (m ((c : Thread nD τ).loc main_arg2)) r q)
  refine Finset.sum_congr rfl fun s hs => ?_
  have hs := Finset.mem_range.mp hs
  rw [term, show (4 * (t.val / 4) + s) % 4 = s by omega, show (4 * (t.val / 4) + s) / 4 = t.val / 4 by omega, Nat.mul_comm 2048 s]

/-- What is written back: the accumulator after the last tile of rows. -/
theorem out_last (t : Fin cfg0.N) (ht : t.val % 4 = 3) (p : Fin 1024) (q : Fin 1536) :
    ((outsAt0 m c t.val t.isLt).1 (ix2 p q) : EReal) = dw m c (1024 * (t.val / 4) + p) q := by
  have h := acc_last m c t ht p q
  rw [outsAt0_C m c t (by omega) (by omega) ht] at h ⊢
  frame_out at h
  frame_out
  unfold k0_pay4
  pointwise
  exact h

/-- What the kernel leaves. -/
theorem final : (dats m 0 c).arrAt 2 cfg0.N = fun j : S1024x1536.Idx => dw m c (j 0).val (j 1).val := by
  refine (dats m 0 c).arrAt_eq_of_covers 2 _ (by decide +kernel) fun t hf y => ?_
  blk_simp [at_2]
  rw [after0_2]
  obtain ⟨p, q, rfl⟩ : ∃ (p : Fin 1024) (q : Fin 1536), y = ix2 p q := ⟨y 0, y 1, eq_ix2 y⟩
  refine (out_last m c t ((flush0_2 t).mp hf) p q).trans ?_
  show dw m c _ _ = dw m c (t.val / 4 * 1024 + p.val) q.val
  congr 1
  omega

open Cert.ReferenceGradXbcIdeal.Read in
/-- The reference's product at an index. -/
theorem ref (x0 : S8192x1024.Idx → EReal) (x2 : S8192x1536.Idx → EReal) (p : Fin 1024) (q : Fin 1536) :
    val_main_v7 (F := Ideal) x0 x2 (ix2 p q) = ∑ r ∈ Finset.range 8192, rd (a := 8192) (b := 1024) x0 r p * rd (a := 8192) (b := 1536) x2 r q := by
  have e : idx_main_v6 (ix2 p q) = ix2 (n0 := 1536) (n1 := 1024) q p := by
    funext a
    match a with
    | ⟨0, _⟩ => rfl
    | ⟨1, _⟩ => rfl
  rw [val_main_v7_apply, val_main_v6_apply, e]
  unfold val_main_v5
  pointwise
  rw [Finset.sum_range_mul_split 2 4096, Finset.sum_range]
  refine Finset.sum_congr rfl fun b _ => ?_
  rw [Finset.sum_range]
  refine Finset.sum_congr rfl fun r _ => ?_
  rw [val_main_v1_apply, val_main_v4_apply]
  refine (mul_comm _ _).trans (congrArg₂ HMul.hMul ?_ ?_)
  · exact rd_of (a := 8192) (b := 1024) x0 _ (show ((b.val * 4096 + r.val) * 1024 + p.val) / 1024 = b.val * 4096 + r.val by omega)
      (show ((b.val * 4096 + r.val) * 1024 + p.val) % 1024 = p.val by omega)
  · exact rd_of (a := 8192) (b := 1536) x2 _ (show ((b.val * 4096 + r.val) * 1536 + q.val) / 1536 = b.val * 4096 + r.val by omega)
      (show ((b.val * 4096 + r.val) * 1536 + q.val) % 1536 = q.val by omega)

open Cert.ReferenceGradXbcIdeal.Read in
/-- The kernel leaves what the reference leaves. -/
theorem out (x0 : S8192x1024.Idx → EReal) (x2 : S8192x1536.Idx → EReal) (h0 : m ((c : Thread nD τ).loc main_arg0) = x0) (h2 : m ((c : Thread nD τ).loc main_arg2) = x2) :
    (dats m 0 c).arrAt 2 cfg0.N = val_main_v7 (F := Ideal) x0 x2 := by
  subst h0 h2
  rw [final]
  funext j
  obtain ⟨p, q, rfl⟩ : ∃ (p : Fin 1024) (q : Fin 1536), j = ix2 p q := ⟨j 0, j 1, eq_ix2 j⟩
  exact (ref _ _ p q).symm

/-- The kernel and the reference leave the same. -/
theorem value : Cert.algebraic_GradXbcIdeal_ReferenceGradXbcIdeal := by
  intro m g m' g' _ he
  refine ⟨fun c => (dats m 0 c).arrAt 2 cfg0.N, ?_, ?_⟩
  · exact (θ_run defs _ _).mono (fun r h c => ⟨(h c).1 2,
      ((h c).1 0).trans (((dats m 0 c).arrAt_in 0 rfl _).trans ((rfl).trans (V_main_arg0 m c))),
      ((h c).2 main_arg1 (Pipeline.mem_restRefs_of main_arg1 (by decide) (by decide))).trans (V_main_arg1 m c),
      ((h c).1 1).trans (((dats m 0 c).arrAt_in 1 rfl _).trans ((rfl).trans (V_main_arg2 m c)))⟩) (run_main (F := Ideal) m g)
  · refine (θ_run Cert.ReferenceGradXbcIdeal.defs _ _).mono (fun r h c => ?_) (Cert.ReferenceGradXbcIdeal.Value.run (F := Ideal) m' g')
    obtain ⟨h0, ha⟩ := h c
    obtain ⟨e0, e1, e2⟩ := he c
    exact ⟨h0.trans ((Cert.ReferenceGradXbcIdeal.Read.val_main_v7_eq _ _).trans (Cert.GradXbcV.out m c _ _ e0.symm e2.symm).symm), ha⟩

end Cert.GradXbcV
-- ==== Proof.GradPoolValue.lean ====
/-  The gradient at the pooled columns of an even mixer's input weight: what the kernel leaves, and that the reference leaves it.  -/
module
public import proofs.«01_k».proof.Defs
public import proofs.«01_k».proof.Proof.Gen.GradPoolIdeal.Frame
public import proofs.«01_k».proof.Proof.Gen.ReferenceGradPoolIdeal.Read
public import proofs.«01_k».proof.Proof.Taps
public import Idealize.ShloMosaic.Lib.Pointwise
public import Idealize.ShloMosaic.Lib.Pipeline.ReadBack
public import Idealize.ShloMosaic.Lib.Pipeline.ValueKit
@[expose] public section
noncomputable section
namespace Cert.GradPoolV
open Idealize.ShloMosaic Idealize.ShloMosaic.TcCoe Cert.GradPoolIdeal Cert.GradPoolIdeal.Gen Cert.Conf

variable (m : (ℓ : Loc nD τ sig) → Buf (Elt Ideal) ℓ) (c : Dev nD)

/-- The product of a tile of rows of the two operands, transposed on the left. -/
theorem pay1 (x0 : Vec Ideal S2048x1024 .bf16) (x1 : Vec Ideal S2048x512 .bf16) (p : Fin 1024) (q : Fin 512) :
    k0_pay1 x0 x1 (ix2 p q) = ∑ r ∈ Finset.range 2048, rd (a := 2048) (b := 1024) x0 r p * rd (a := 2048) (b := 512) x1 r q := by
  unfold k0_pay1
  pointwise
  rw [Finset.sum_range]
  simp only [rd_val]

theorem pay2 (x0 : Vec Ideal S2048x1024 .bf16) (x1 : Vec Ideal S2048x512 .bf16) (p : Fin 1024) (q : Fin 512) :
    k0_pay2 x0 x1 (ix2 p q) = 0 + ∑ r ∈ Finset.range 2048, rd (a := 2048) (b := 1024) x0 r p * rd (a := 2048) (b := 512) x1 r q := by
  rw [← pay1]
  unfold k0_pay2
  pointwise

theorem pay3 (x0 : Vec Ideal S2048x1024 .bf16) (x1 : Vec Ideal S2048x512 .bf16) (x2 : Vec Ideal S1024x512 .f32) (p : Fin 1024) (q : Fin 512) :
    k0_pay3 x0 x1 x2 (ix2 p q) = x2 (ix2 p q) + ∑ r ∈ Finset.range 2048, rd (a := 2048) (b := 1024) x0 r p * rd (a := 2048) (b := 512) x1 r q := by
  rw [← pay1]
  unfold k0_pay3
  pointwise

theorem at_0 : ∀ t : Fin cfg0.N, win0_0.index t = ![t.val % 4, t.val / 4] := (by decide +kernel : ∀ t : Fin grid0.N, _)
theorem at_1 : ∀ t : Fin cfg0.N, win0_1.index t = ![t.val % 4, 0] := (by decide +kernel : ∀ t : Fin grid0.N, _)
theorem at_2 : ∀ t : Fin cfg0.N, win0_2.index t = ![t.val / 4, 0] := (by decide +kernel : ∀ t : Fin grid0.N, _)

theorem blk_0 (t : Fin cfg0.N) {p q : ℕ} (hp : p < 2048) (hq : q < 1024) :
    rd (a := 2048) (b := 1024) (iblk m c 0 t) p q = rd (a := 8192) (b := 1024) (m ((c : Thread nD τ).loc main_arg0)) (2048 * (t.val % 4) + p) (1024 * (t.val / 4) + q) := by
  rw [rd_lt (a := 2048) (b := 1024) _ hp hq]
  blk_simp [iblk]
  exact rd_of (a := 8192) (b := 1024) _ _ (by blk_simp [at_0]; show _ + p = _; omega) (by blk_simp [at_0]; show _ + q = _; omega)

theorem blk_1 (t : Fin cfg0.N) {p q : ℕ} (hp : p < 2048) (hq : q < 512) :
    rd (a := 2048) (b := 512) (iblk m c 1 t) p q = rd (a := 8192) (b := 512) (m ((c : Thread nD τ).loc main_arg2)) (2048 * (t.val % 4) + p) q := by
  rw [rd_lt (a := 2048) (b := 512) _ hp hq]
  blk_simp [iblk]
  exact rd_of (a := 8192) (b := 512) _ _ (by blk_simp [at_1]; show _ + p = _; omega) (by blk_simp [at_1])

/-- What a tile of rows adds to the gradient. -/
def term (n : ℕ) (i : Fin 1024 × Fin 512) : EReal :=
  ∑ r ∈ Finset.range 2048, rd (a := 8192) (b := 1024) (m ((c : Thread nD τ).loc main_arg0)) (2048 * (n % 4) + r) (1024 * (n / 4) + i.1)
    * rd (a := 8192) (b := 512) (m ((c : Thread nD τ).loc main_arg2)) (2048 * (n % 4) + r) i.2

theorem term_eq (t : Fin cfg0.N) (p : Fin 1024) (q : Fin 512) :
    ∑ r ∈ Finset.range 2048, rd (a := 2048) (b := 1024) (iblk m c 0 t) r p * rd (a := 2048) (b := 512) (iblk m c 1 t) r q = term m c t.val (p, q) := by
  refine Finset.sum_congr rfl fun r hr => ?_
  have hr := Finset.mem_range.mp hr
  rw [blk_0 m c t hr p.isLt, blk_1 m c t hr q.isLt]

/-- The accumulator after a point: the sum over the tiles of rows so far. -/
theorem acc (t : Fin cfg0.N) (p : Fin 1024) (q : Fin 512) :
    ((outsAt0 m c t.val t.isLt).2 (ix2 p q) : EReal) = 0 + ∑ s ∈ Finset.range (t.val % 4 + 1), term m c (4 * (t.val / 4) + s) (p, q) := by
  refine Pipeline.eq_sum_of_reset_step_apply (M := EReal) (fun n h (i : Fin 1024 × Fin 512) => (outsAt0 m c n h).2 (ix2 i.1 i.2)) 4 (fun _ => 0)
    (fun t i => term m c t i) ?_ ?_ t (p, q)
  · rintro t h0 ⟨p, q⟩
    have ht : t.val < 4 := t.isLt
    rw [outsAt0_A m c t h0 (by omega) (by omega)]
    frame_out
    rw [pay2, term_eq]
  · rintro t h0 ⟨p, q⟩
    by_cases h3 : t.val % 4 = 3
    · rw [outsAt0_C m c t h0 (by omega) h3]
      frame_out
      rw [pay3, term_eq, read_unread_whole]
    · rw [outsAt0_B m c t h0 (by omega) h3]
      frame_out
      rw [pay3, term_eq, read_unread_whole]

/-- The gradient: the sum over all the rows. -/
def dw (p q : ℕ) : EReal :=
  ∑ r ∈ Finset.range 8192, rd (a := 8192) (b := 1024) (m ((c : Thread nD τ).loc main_arg0)) r p
    * rd (a := 8192) (b := 512) (m ((c : Thread nD τ).loc main_arg2)) r q

/-- The four tiles of rows together. -/
theorem acc_last (t : Fin cfg0.N) (ht : t.val % 4 = 3) (p : Fin 1024) (q : Fin 512) :
    ((outsAt0 m c t.val t.isLt).2 (ix2 p q) : EReal) = dw m c (1024 * (t.val / 4) + p) q := by
  rw [acc, ht, zero_add]
  refine Eq.trans ?_ (Finset.sum_range_range_mul_add 4 2048 fun r => rd (a := 8192) (b := 1024) (m ((c : Thread nD τ).loc main_arg0)) r (1024 * (t.val / 4) + p)
    * rd (a := 8192) (b := 512) (m ((c : Thread nD τ).loc main_arg2)) r q)
  refine Finset.sum_congr rfl fun s hs => ?_
  have hs := Finset.mem_range.mp hs
  rw [term, show (4 * (t.val / 4) + s) % 4 = s by omega, show (4 * (t.val / 4) + s) / 4 = t.val / 4 by omega, Nat.mul_comm 2048 s]

/-- What is written back: the accumulator after the last tile of rows. -/
theorem out_last (t : Fin cfg0.N) (ht : t.val % 4 = 3) (p : Fin 1024) (q : Fin 512) :
    ((outsAt0 m c t.val t.isLt).1 (ix2 p q) : EReal) = dw m c (1024 * (t.val / 4) + p) q := by
  have h := acc_last m c t ht p q
  rw [outsAt0_C m c t (by omega) (by omega) ht] at h ⊢
  frame_out at h
  frame_out
  unfold k0_pay4
  pointwise
  exact h

/-- What the kernel leaves. -/
theorem final : (dats m 0 c).arrAt 2 cfg0.N = fun j : S1024x512.Idx => dw m c (j 0).val (j 1).val := by
  refine (dats m 0 c).arrAt_eq_of_covers 2 _ (by decide +kernel) fun t hf y => ?_
  blk_simp [at_2]
  rw [after0_2]
  obtain ⟨p, q, rfl⟩ : ∃ (p : Fin 1024) (q : Fin 512), y = ix2 p q := ⟨y 0, y 1, eq_ix2 y⟩
  refine (out_last m c t ((flush0_2 t).mp hf) p q).trans ?_
  show dw m c _ _ = dw m c (t.val / 4 * 1024 + p.val) q.val
  congr 1
  omega

open Cert.ReferenceGradPoolIdeal.Read in
/-- The reference's product at an index. -/
theorem ref (x0 : S8192x1024.Idx → EReal) (x2 : S8192x512.Idx → EReal) (p : Fin 1024) (q : Fin 512) :
    val_main_v7 (F := Ideal) x0 x2 (ix2 p q) = ∑ r ∈ Finset.range 8192, rd (a := 8192) (b := 1024) x0 r p * rd (a := 8192) (b := 512) x2 r q := by
  have e : idx_main_v6 (ix2 p q) = ix2 (n0 := 512) (n1 := 1024) q p := by
    funext a
    match a with
    | ⟨0, _⟩ => rfl
    | ⟨1, _⟩ => rfl
  rw [val_main_v7_apply, val_main_v6_apply, e]
  unfold val_main_v5
  pointwise
  rw [Finset.sum_range_mul_split 2 4096, Finset.sum_range]
  refine Finset.sum_congr rfl fun b _ => ?_
  rw [Finset.sum_range]
  refine Finset.sum_congr rfl fun r _ => ?_
  rw [val_main_v1_apply, val_main_v4_apply]
  refine (mul_comm _ _).trans (congrArg₂ HMul.hMul ?_ ?_)
  · exact rd_of (a := 8192) (b := 1024) x0 _ (show ((b.val * 4096 + r.val) * 1024 + p.val) / 1024 = b.val * 4096 + r.val by omega)
      (show ((b.val * 4096 + r.val) * 1024 + p.val) % 1024 = p.val by omega)
  · exact rd_of (a := 8192) (b := 512) x2 _ (show ((b.val * 4096 + r.val) * 512 + q.val) / 512 = b.val * 4096 + r.val by omega)
      (show ((b.val * 4096 + r.val) * 512 + q.val) % 512 = q.val by omega)

open Cert.ReferenceGradPoolIdeal.Read in
/-- The kernel leaves what the reference leaves. -/
theorem out (x0 : S8192x1024.Idx → EReal) (x2 : S8192x512.Idx → EReal) (h0 : m ((c : Thread nD τ).loc main_arg0) = x0) (h2 : m ((c : Thread nD τ).loc main_arg2) = x2) :
    (dats m 0 c).arrAt 2 cfg0.N = val_main_v7 (F := Ideal) x0 x2 := by
  subst h0 h2
  rw [final]
  funext j
  obtain ⟨p, q, rfl⟩ : ∃ (p : Fin 1024) (q : Fin 512), j = ix2 p q := ⟨j 0, j 1, eq_ix2 j⟩
  exact (ref _ _ p q).symm

/-- The kernel and the reference leave the same. -/
theorem value : Cert.algebraic_GradPoolIdeal_ReferenceGradPoolIdeal := by
  intro m g m' g' _ he
  refine ⟨fun c => (dats m 0 c).arrAt 2 cfg0.N, ?_, ?_⟩
  · exact (θ_run defs _ _).mono (fun r h c => ⟨(h c).1 2,
      ((h c).1 0).trans (((dats m 0 c).arrAt_in 0 rfl _).trans ((rfl).trans (V_main_arg0 m c))),
      ((h c).2 main_arg1 (Pipeline.mem_restRefs_of main_arg1 (by decide) (by decide))).trans (V_main_arg1 m c),
      ((h c).1 1).trans (((dats m 0 c).arrAt_in 1 rfl _).trans ((rfl).trans (V_main_arg2 m c)))⟩) (run_main (F := Ideal) m g)
  · refine (θ_run Cert.ReferenceGradPoolIdeal.defs _ _).mono (fun r h c => ?_) (Cert.ReferenceGradPoolIdeal.Value.run (F := Ideal) m' g')
    obtain ⟨h0, ha⟩ := h c
    obtain ⟨e0, e1, e2⟩ := he c
    exact ⟨h0.trans ((Cert.ReferenceGradPoolIdeal.Read.val_main_v7_eq _ _).trans (Cert.GradPoolV.out m c _ _ e0.symm e2.symm).symm), ha⟩

end Cert.GradPoolV
-- ==== Proof.GradDtValue.lean ====
/-  The gradient at the step columns of an even mixer's input weight: what the kernel leaves, and that the reference leaves it.  -/
module
public import proofs.«01_k».proof.Defs
public import proofs.«01_k».proof.Proof.Gen.GradDtIdeal.Frame
public import proofs.«01_k».proof.Proof.Gen.ReferenceGradDtIdeal.Read
public import proofs.«01_k».proof.Proof.Taps
public import Idealize.ShloMosaic.Lib.Pointwise
public import Idealize.ShloMosaic.Lib.Pipeline.ReadBack
public import Idealize.ShloMosaic.Lib.Pipeline.ValueKit
@[expose] public section
noncomputable section
namespace Cert.GradDtV
open Idealize.ShloMosaic Idealize.ShloMosaic.TcCoe Cert.GradDtIdeal Cert.GradDtIdeal.Gen Cert.Conf

variable (m : (ℓ : Loc nD τ sig) → Buf (Elt Ideal) ℓ) (c : Dev nD)

/-- The product of a tile of rows of the two operands, transposed on the left. -/
theorem pay1 (x0 : Vec Ideal S2048x1024 .bf16) (x1 : Vec Ideal S2048x128 .bf16) (p : Fin 1024) (q : Fin 128) :
    k0_pay1 x0 x1 (ix2 p q) = ∑ r ∈ Finset.range 2048, rd (a := 2048) (b := 1024) x0 r p * rd (a := 2048) (b := 128) x1 r q := by
  unfold k0_pay1
  pointwise
  rw [Finset.sum_range]
  simp only [rd_val]

theorem pay2 (x0 : Vec Ideal S2048x1024 .bf16) (x1 : Vec Ideal S2048x128 .bf16) (p : Fin 1024) (q : Fin 128) :
    k0_pay2 x0 x1 (ix2 p q) = 0 + ∑ r ∈ Finset.range 2048, rd (a := 2048) (b := 1024) x0 r p * rd (a := 2048) (b := 128) x1 r q := by
  rw [← pay1]
  unfold k0_pay2
  pointwise

theorem pay3 (x0 : Vec Ideal S2048x1024 .bf16) (x1 : Vec Ideal S2048x128 .bf16) (x2 : Vec Ideal S1024x128 .f32) (p : Fin 1024) (q : Fin 128) :
    k0_pay3 x0 x1 x2 (ix2 p q) = x2 (ix2 p q) + ∑ r ∈ Finset.range 2048, rd (a := 2048) (b := 1024) x0 r p * rd (a := 2048) (b := 128) x1 r q := by
  rw [← pay1]
  unfold k0_pay3
  pointwise

theorem at_0 : ∀ t : Fin cfg0.N, win0_0.index t = ![t.val % 4, t.val / 4] := (by decide +kernel : ∀ t : Fin grid0.N, _)
theorem at_1 : ∀ t : Fin cfg0.N, win0_1.index t = ![t.val % 4, 0] := (by decide +kernel : ∀ t : Fin grid0.N, _)
theorem at_2 : ∀ t : Fin cfg0.N, win0_2.index t = ![t.val / 4, 0] := (by decide +kernel : ∀ t : Fin grid0.N, _)

theorem blk_0 (t : Fin cfg0.N) {p q : ℕ} (hp : p < 2048) (hq : q < 1024) :
    rd (a := 2048) (b := 1024) (iblk m c 0 t) p q = rd (a := 8192) (b := 1024) (m ((c : Thread nD τ).loc main_arg0)) (2048 * (t.val % 4) + p) (1024 * (t.val / 4) + q) := by
  rw [rd_lt (a := 2048) (b := 1024) _ hp hq]
  blk_simp [iblk]
  exact rd_of (a := 8192) (b := 1024) _ _ (by blk_simp [at_0]; show _ + p = _; omega) (by blk_simp [at_0]; show _ + q = _; omega)

theorem blk_1 (t : Fin cfg0.N) {p q : ℕ} (hp : p < 2048) (hq : q < 128) :
    rd (a := 2048) (b := 128) (iblk m c 1 t) p q = rd (a := 8192) (b := 128) (m ((c : Thread nD τ).loc main_arg2)) (2048 * (t.val % 4) + p) q := by
  rw [rd_lt (a := 2048) (b := 128) _ hp hq]
  blk_simp [iblk]
  exact rd_of (a := 8192) (b := 128) _ _ (by blk_simp [at_1]; show _ + p = _; omega) (by blk_simp [at_1])

/-- What a tile of rows adds to the gradient. -/
def term (n : ℕ) (i : Fin 1024 × Fin 128) : EReal :=
  ∑ r ∈ Finset.range 2048, rd (a := 8192) (b := 1024) (m ((c : Thread nD τ).loc main_arg0)) (2048 * (n % 4) + r) (1024 * (n / 4) + i.1)
    * rd (a := 8192) (b := 128) (m ((c : Thread nD τ).loc main_arg2)) (2048 * (n % 4) + r) i.2

theorem term_eq (t : Fin cfg0.N) (p : Fin 1024) (q : Fin 128) :
    ∑ r ∈ Finset.range 2048, rd (a := 2048) (b := 1024) (iblk m c 0 t) r p * rd (a := 2048) (b := 128) (iblk m c 1 t) r q = term m c t.val (p, q) := by
  refine Finset.sum_congr rfl fun r hr => ?_
  have hr := Finset.mem_range.mp hr
  rw [blk_0 m c t hr p.isLt, blk_1 m c t hr q.isLt]

/-- The accumulator after a point: the sum over the tiles of rows so far. -/
theorem acc (t : Fin cfg0.N) (p : Fin 1024) (q : Fin 128) :
    ((outsAt0 m c t.val t.isLt).2 (ix2 p q) : EReal) = 0 + ∑ s ∈ Finset.range (t.val % 4 + 1), term m c (4 * (t.val / 4) + s) (p, q) := by
  refine Pipeline.eq_sum_of_reset_step_apply (M := EReal) (fun n h (i : Fin 1024 × Fin 128) => (outsAt0 m c n h).2 (ix2 i.1 i.2)) 4 (fun _ => 0)
    (fun t i => term m c t i) ?_ ?_ t (p, q)
  · rintro t h0 ⟨p, q⟩
    have ht : t.val < 4 := t.isLt
    rw [outsAt0_A m c t h0 (by omega) (by omega)]
    frame_out
    rw [pay2, term_eq]
  · rintro t h0 ⟨p, q⟩
    by_cases h3 : t.val % 4 = 3
    · rw [outsAt0_C m c t h0 (by omega) h3]
      frame_out
      rw [pay3, term_eq, read_unread_whole]
    · rw [outsAt0_B m c t h0 (by omega) h3]
      frame_out
      rw [pay3, term_eq, read_unread_whole]

/-- The gradient: the sum over all the rows. -/
def dw (p q : ℕ) : EReal :=
  ∑ r ∈ Finset.range 8192, rd (a := 8192) (b := 1024) (m ((c : Thread nD τ).loc main_arg0)) r p
    * rd (a := 8192) (b := 128) (m ((c : Thread nD τ).loc main_arg2)) r q

/-- The four tiles of rows together. -/
theorem acc_last (t : Fin cfg0.N) (ht : t.val % 4 = 3) (p : Fin 1024) (q : Fin 128) :
    ((outsAt0 m c t.val t.isLt).2 (ix2 p q) : EReal) = dw m c (1024 * (t.val / 4) + p) q := by
  rw [acc, ht, zero_add]
  refine Eq.trans ?_ (Finset.sum_range_range_mul_add 4 2048 fun r => rd (a := 8192) (b := 1024) (m ((c : Thread nD τ).loc main_arg0)) r (1024 * (t.val / 4) + p)
    * rd (a := 8192) (b := 128) (m ((c : Thread nD τ).loc main_arg2)) r q)
  refine Finset.sum_congr rfl fun s hs => ?_
  have hs := Finset.mem_range.mp hs
  rw [term, show (4 * (t.val / 4) + s) % 4 = s by omega, show (4 * (t.val / 4) + s) / 4 = t.val / 4 by omega, Nat.mul_comm 2048 s]

/-- What is written back: the accumulator after the last tile of rows. -/
theorem out_last (t : Fin cfg0.N) (ht : t.val % 4 = 3) (p : Fin 1024) (q : Fin 128) :
    ((outsAt0 m c t.val t.isLt).1 (ix2 p q) : EReal) = dw m c (1024 * (t.val / 4) + p) q := by
  have h := acc_last m c t ht p q
  rw [outsAt0_C m c t (by omega) (by omega) ht] at h ⊢
  frame_out at h
  frame_out
  unfold k0_pay4
  pointwise
  exact h

/-- What the kernel leaves. -/
theorem final : (dats m 0 c).arrAt 2 cfg0.N = fun j : S1024x128.Idx => dw m c (j 0).val (j 1).val := by
  refine (dats m 0 c).arrAt_eq_of_covers 2 _ (by decide +kernel) fun t hf y => ?_
  blk_simp [at_2]
  rw [after0_2]
  obtain ⟨p, q, rfl⟩ : ∃ (p : Fin 1024) (q : Fin 128), y = ix2 p q := ⟨y 0, y 1, eq_ix2 y⟩
  refine (out_last m c t ((flush0_2 t).mp hf) p q).trans ?_
  show dw m c _ _ = dw m c (t.val / 4 * 1024 + p.val) q.val
  congr 1
  omega

open Cert.ReferenceGradDtIdeal.Read in
/-- The reference's product at an index. -/
theorem ref (x0 : S8192x1024.Idx → EReal) (x2 : S8192x128.Idx → EReal) (p : Fin 1024) (q : Fin 128) :
    val_main_v7 (F := Ideal) x0 x2 (ix2 p q) = ∑ r ∈ Finset.range 8192, rd (a := 8192) (b := 1024) x0 r p * rd (a := 8192) (b := 128) x2 r q := by
  have e : idx_main_v6 (ix2 p q) = ix2 (n0 := 128) (n1 := 1024) q p := by
    funext a
    match a with
    | ⟨0, _⟩ => rfl
    | ⟨1, _⟩ => rfl
  rw [val_main_v7_apply, val_main_v6_apply, e]
  unfold val_main_v5
  pointwise
  rw [Finset.sum_range_mul_split 2 4096, Finset.sum_range]
  refine Finset.sum_congr rfl fun b _ => ?_
  rw [Finset.sum_range]
  refine Finset.sum_congr rfl fun r _ => ?_
  rw [val_main_v1_apply, val_main_v4_apply]
  refine (mul_comm _ _).trans (congrArg₂ HMul.hMul ?_ ?_)
  · exact rd_of (a := 8192) (b := 1024) x0 _ (show ((b.val * 4096 + r.val) * 1024 + p.val) / 1024 = b.val * 4096 + r.val by omega)
      (show ((b.val * 4096 + r.val) * 1024 + p.val) % 1024 = p.val by omega)
  · exact rd_of (a := 8192) (b := 128) x2 _ (show ((b.val * 4096 + r.val) * 128 + q.val) / 128 = b.val * 4096 + r.val by omega)
      (show ((b.val * 4096 + r.val) * 128 + q.val) % 128 = q.val by omega)

open Cert.ReferenceGradDtIdeal.Read in
/-- The kernel leaves what the reference leaves. -/
theorem out (x0 : S8192x1024.Idx → EReal) (x2 : S8192x128.Idx → EReal) (h0 : m ((c : Thread nD τ).loc main_arg0) = x0) (h2 : m ((c : Thread nD τ).loc main_arg2) = x2) :
    (dats m 0 c).arrAt 2 cfg0.N = val_main_v7 (F := Ideal) x0 x2 := by
  subst h0 h2
  rw [final]
  funext j
  obtain ⟨p, q, rfl⟩ : ∃ (p : Fin 1024) (q : Fin 128), j = ix2 p q := ⟨j 0, j 1, eq_ix2 j⟩
  exact (ref _ _ p q).symm

/-- The kernel and the reference leave the same. -/
theorem value : Cert.algebraic_GradDtIdeal_ReferenceGradDtIdeal := by
  intro m g m' g' _ he
  refine ⟨fun c => (dats m 0 c).arrAt 2 cfg0.N, ?_, ?_⟩
  · exact (θ_run defs _ _).mono (fun r h c => ⟨(h c).1 2,
      ((h c).1 0).trans (((dats m 0 c).arrAt_in 0 rfl _).trans ((rfl).trans (V_main_arg0 m c))),
      ((h c).2 main_arg1 (Pipeline.mem_restRefs_of main_arg1 (by decide) (by decide))).trans (V_main_arg1 m c),
      ((h c).1 1).trans (((dats m 0 c).arrAt_in 1 rfl _).trans ((rfl).trans (V_main_arg2 m c)))⟩) (run_main (F := Ideal) m g)
  · refine (θ_run Cert.ReferenceGradDtIdeal.defs _ _).mono (fun r h c => ?_) (Cert.ReferenceGradDtIdeal.Value.run (F := Ideal) m' g')
    obtain ⟨h0, ha⟩ := h c
    obtain ⟨e0, e1, e2⟩ := he c
    exact ⟨h0.trans ((Cert.ReferenceGradDtIdeal.Read.val_main_v7_eq _ _).trans (Cert.GradDtV.out m c _ _ e0.symm e2.symm).symm), ha⟩

end Cert.GradDtV
-- ==== Proof.GradMixValue.lean ====
/-  The gradient at the narrower rows of a mixer's output weight: what the kernel leaves, and that the reference leaves it.  -/
module
public import proofs.«01_k».proof.Defs
public import proofs.«01_k».proof.Proof.Gen.GradMixIdeal.Frame
public import proofs.«01_k».proof.Proof.Gen.ReferenceGradMixIdeal.Read
public import proofs.«01_k».proof.Proof.Taps
public import Idealize.ShloMosaic.Lib.Pointwise
public import Idealize.ShloMosaic.Lib.Pipeline.ReadBack
public import Idealize.ShloMosaic.Lib.Pipeline.ValueKit
@[expose] public section
noncomputable section
namespace Cert.GradMixV
open Idealize.ShloMosaic Idealize.ShloMosaic.TcCoe Cert.GradMixIdeal Cert.GradMixIdeal.Gen Cert.Conf

variable (m : (ℓ : Loc nD τ sig) → Buf (Elt Ideal) ℓ) (c : Dev nD)

/-- The product of a tile of rows of the two operands, transposed on the left. -/
theorem pay1 (x0 : Vec Ideal S2048x512 .bf16) (x1 : Vec Ideal S2048x1024 .bf16) (p : Fin 512) (q : Fin 1024) :
    k0_pay1 x0 x1 (ix2 p q) = ∑ r ∈ Finset.range 2048, rd (a := 2048) (b := 512) x0 r p * rd (a := 2048) (b := 1024) x1 r q := by
  unfold k0_pay1
  pointwise
  rw [Finset.sum_range]
  simp only [rd_val]

theorem pay2 (x0 : Vec Ideal S2048x512 .bf16) (x1 : Vec Ideal S2048x1024 .bf16) (p : Fin 512) (q : Fin 1024) :
    k0_pay2 x0 x1 (ix2 p q) = 0 + ∑ r ∈ Finset.range 2048, rd (a := 2048) (b := 512) x0 r p * rd (a := 2048) (b := 1024) x1 r q := by
  rw [← pay1]
  unfold k0_pay2
  pointwise

theorem pay3 (x0 : Vec Ideal S2048x512 .bf16) (x1 : Vec Ideal S2048x1024 .bf16) (x2 : Vec Ideal S512x1024 .f32) (p : Fin 512) (q : Fin 1024) :
    k0_pay3 x0 x1 x2 (ix2 p q) = x2 (ix2 p q) + ∑ r ∈ Finset.range 2048, rd (a := 2048) (b := 512) x0 r p * rd (a := 2048) (b := 1024) x1 r q := by
  rw [← pay1]
  unfold k0_pay3
  pointwise

theorem at_0 : ∀ t : Fin cfg0.N, win0_0.index t = ![t.val % 4, t.val / 4] := (by decide +kernel : ∀ t : Fin grid0.N, _)
theorem at_1 : ∀ t : Fin cfg0.N, win0_1.index t = ![t.val % 4, 0] := (by decide +kernel : ∀ t : Fin grid0.N, _)
theorem at_2 : ∀ t : Fin cfg0.N, win0_2.index t = ![t.val / 4, 0] := (by decide +kernel : ∀ t : Fin grid0.N, _)

theorem blk_0 (t : Fin cfg0.N) {p q : ℕ} (hp : p < 2048) (hq : q < 512) :
    rd (a := 2048) (b := 512) (iblk m c 0 t) p q = rd (a := 8192) (b := 512) (m ((c : Thread nD τ).loc main_arg0)) (2048 * (t.val % 4) + p) (512 * (t.val / 4) + q) := by
  rw [rd_lt (a := 2048) (b := 512) _ hp hq]
  blk_simp [iblk]
  exact rd_of (a := 8192) (b := 512) _ _ (by blk_simp [at_0]; show _ + p = _; omega) (by blk_simp [at_0]; show _ + q = _; omega)

theorem blk_1 (t : Fin cfg0.N) {p q : ℕ} (hp : p < 2048) (hq : q < 1024) :
    rd (a := 2048) (b := 1024) (iblk m c 1 t) p q = rd (a := 8192) (b := 1024) (m ((c : Thread nD τ).loc main_arg2)) (2048 * (t.val % 4) + p) q := by
  rw [rd_lt (a := 2048) (b := 1024) _ hp hq]
  blk_simp [iblk]
  exact rd_of (a := 8192) (b := 1024) _ _ (by blk_simp [at_1]; show _ + p = _; omega) (by blk_simp [at_1])

/-- What a tile of rows adds to the gradient. -/
def term (n : ℕ) (i : Fin 512 × Fin 1024) : EReal :=
  ∑ r ∈ Finset.range 2048, rd (a := 8192) (b := 512) (m ((c : Thread nD τ).loc main_arg0)) (2048 * (n % 4) + r) (512 * (n / 4) + i.1)
    * rd (a := 8192) (b := 1024) (m ((c : Thread nD τ).loc main_arg2)) (2048 * (n % 4) + r) i.2

theorem term_eq (t : Fin cfg0.N) (p : Fin 512) (q : Fin 1024) :
    ∑ r ∈ Finset.range 2048, rd (a := 2048) (b := 512) (iblk m c 0 t) r p * rd (a := 2048) (b := 1024) (iblk m c 1 t) r q = term m c t.val (p, q) := by
  refine Finset.sum_congr rfl fun r hr => ?_
  have hr := Finset.mem_range.mp hr
  rw [blk_0 m c t hr p.isLt, blk_1 m c t hr q.isLt]

/-- The accumulator after a point: the sum over the tiles of rows so far. -/
theorem acc (t : Fin cfg0.N) (p : Fin 512) (q : Fin 1024) :
    ((outsAt0 m c t.val t.isLt).2 (ix2 p q) : EReal) = 0 + ∑ s ∈ Finset.range (t.val % 4 + 1), term m c (4 * (t.val / 4) + s) (p, q) := by
  refine Pipeline.eq_sum_of_reset_step_apply (M := EReal) (fun n h (i : Fin 512 × Fin 1024) => (outsAt0 m c n h).2 (ix2 i.1 i.2)) 4 (fun _ => 0)
    (fun t i => term m c t i) ?_ ?_ t (p, q)
  · rintro t h0 ⟨p, q⟩
    have ht : t.val < 4 := t.isLt
    rw [outsAt0_A m c t h0 (by omega) (by omega)]
    frame_out
    rw [pay2, term_eq]
  · rintro t h0 ⟨p, q⟩
    by_cases h3 : t.val % 4 = 3
    · rw [outsAt0_C m c t h0 (by omega) h3]
      frame_out
      rw [pay3, term_eq, read_unread_whole]
    · rw [outsAt0_B m c t h0 (by omega) h3]
      frame_out
      rw [pay3, term_eq, read_unread_whole]

/-- The gradient: the sum over all the rows. -/
def dw (p q : ℕ) : EReal :=
  ∑ r ∈ Finset.range 8192, rd (a := 8192) (b := 512) (m ((c : Thread nD τ).loc main_arg0)) r p
    * rd (a := 8192) (b := 1024) (m ((c : Thread nD τ).loc main_arg2)) r q

/-- The four tiles of rows together. -/
theorem acc_last (t : Fin cfg0.N) (ht : t.val % 4 = 3) (p : Fin 512) (q : Fin 1024) :
    ((outsAt0 m c t.val t.isLt).2 (ix2 p q) : EReal) = dw m c (512 * (t.val / 4) + p) q := by
  rw [acc, ht, zero_add]
  refine Eq.trans ?_ (Finset.sum_range_range_mul_add 4 2048 fun r => rd (a := 8192) (b := 512) (m ((c : Thread nD τ).loc main_arg0)) r (512 * (t.val / 4) + p)
    * rd (a := 8192) (b := 1024) (m ((c : Thread nD τ).loc main_arg2)) r q)
  refine Finset.sum_congr rfl fun s hs => ?_
  have hs := Finset.mem_range.mp hs
  rw [term, show (4 * (t.val / 4) + s) % 4 = s by omega, show (4 * (t.val / 4) + s) / 4 = t.val / 4 by omega, Nat.mul_comm 2048 s]

/-- What is written back: the accumulator after the last tile of rows. -/
theorem out_last (t : Fin cfg0.N) (ht : t.val % 4 = 3) (p : Fin 512) (q : Fin 1024) :
    ((outsAt0 m c t.val t.isLt).1 (ix2 p q) : EReal) = dw m c (512 * (t.val / 4) + p) q := by
  have h := acc_last m c t ht p q
  rw [outsAt0_C m c t (by omega) (by omega) ht] at h ⊢
  frame_out at h
  frame_out
  unfold k0_pay4
  pointwise
  exact h

/-- What the kernel leaves. -/
theorem final : (dats m 0 c).arrAt 2 cfg0.N = fun j : S512x1024.Idx => dw m c (j 0).val (j 1).val := by
  refine (dats m 0 c).arrAt_eq_of_covers 2 _ (by decide +kernel) fun t hf y => ?_
  blk_simp [at_2]
  rw [after0_2]
  obtain ⟨p, q, rfl⟩ : ∃ (p : Fin 512) (q : Fin 1024), y = ix2 p q := ⟨y 0, y 1, eq_ix2 y⟩
  refine (out_last m c t ((flush0_2 t).mp hf) p q).trans ?_
  show dw m c _ _ = dw m c (t.val / 4 * 512 + p.val) q.val
  congr 1
  omega

open Cert.ReferenceGradMixIdeal.Read in
/-- The reference's product at an index. -/
theorem ref (x0 : S8192x512.Idx → EReal) (x2 : S8192x1024.Idx → EReal) (p : Fin 512) (q : Fin 1024) :
    val_main_v7 (F := Ideal) x0 x2 (ix2 p q) = ∑ r ∈ Finset.range 8192, rd (a := 8192) (b := 512) x0 r p * rd (a := 8192) (b := 1024) x2 r q := by
  have e : idx_main_v6 (ix2 p q) = ix2 (n0 := 1024) (n1 := 512) q p := by
    funext a
    match a with
    | ⟨0, _⟩ => rfl
    | ⟨1, _⟩ => rfl
  rw [val_main_v7_apply, val_main_v6_apply, e]
  unfold val_main_v5
  pointwise
  rw [Finset.sum_range_mul_split 2 4096, Finset.sum_range]
  refine Finset.sum_congr rfl fun b _ => ?_
  rw [Finset.sum_range]
  refine Finset.sum_congr rfl fun r _ => ?_
  rw [val_main_v1_apply, val_main_v4_apply]
  refine (mul_comm _ _).trans (congrArg₂ HMul.hMul ?_ ?_)
  · exact rd_of (a := 8192) (b := 512) x0 _ (show ((b.val * 4096 + r.val) * 512 + p.val) / 512 = b.val * 4096 + r.val by omega)
      (show ((b.val * 4096 + r.val) * 512 + p.val) % 512 = p.val by omega)
  · exact rd_of (a := 8192) (b := 1024) x2 _ (show ((b.val * 4096 + r.val) * 1024 + q.val) / 1024 = b.val * 4096 + r.val by omega)
      (show ((b.val * 4096 + r.val) * 1024 + q.val) % 1024 = q.val by omega)

open Cert.ReferenceGradMixIdeal.Read in
/-- The kernel leaves what the reference leaves. -/
theorem out (x0 : S8192x512.Idx → EReal) (x2 : S8192x1024.Idx → EReal) (h0 : m ((c : Thread nD τ).loc main_arg0) = x0) (h2 : m ((c : Thread nD τ).loc main_arg2) = x2) :
    (dats m 0 c).arrAt 2 cfg0.N = val_main_v7 (F := Ideal) x0 x2 := by
  subst h0 h2
  rw [final]
  funext j
  obtain ⟨p, q, rfl⟩ : ∃ (p : Fin 512) (q : Fin 1024), j = ix2 p q := ⟨j 0, j 1, eq_ix2 j⟩
  exact (ref _ _ p q).symm

/-- The kernel and the reference leave the same. -/
theorem value : Cert.algebraic_GradMixIdeal_ReferenceGradMixIdeal := by
  intro m g m' g' _ he
  refine ⟨fun c => (dats m 0 c).arrAt 2 cfg0.N, ?_, ?_⟩
  · exact (θ_run defs _ _).mono (fun r h c => ⟨(h c).1 2,
      ((h c).1 0).trans (((dats m 0 c).arrAt_in 0 rfl _).trans ((rfl).trans (V_main_arg0 m c))),
      ((h c).2 main_arg1 (Pipeline.mem_restRefs_of main_arg1 (by decide) (by decide))).trans (V_main_arg1 m c),
      ((h c).1 1).trans (((dats m 0 c).arrAt_in 1 rfl _).trans ((rfl).trans (V_main_arg2 m c)))⟩) (run_main (F := Ideal) m g)
  · refine (θ_run Cert.ReferenceGradMixIdeal.defs _ _).mono (fun r h c => ?_) (Cert.ReferenceGradMixIdeal.Value.run (F := Ideal) m' g')
    obtain ⟨h0, ha⟩ := h c
    obtain ⟨e0, e1, e2⟩ := he c
    exact ⟨h0.trans ((Cert.ReferenceGradMixIdeal.Read.val_main_v7_eq _ _).trans (Cert.GradMixV.out m c _ _ e0.symm e2.symm).symm), ha⟩

end Cert.GradMixV
-- ==== Proof.MixOutValue.lean ====
/-  The even layers' output product, of two groups of columns, with its residual and layer norm: what the kernel leaves, and that the reference leaves it.  -/
module
public import proofs.«01_k».proof.Defs
public import proofs.«01_k».proof.Proof.Gen.MixOutIdeal.Frame
public import proofs.«01_k».proof.Proof.Gen.ReferenceMixOutIdeal.Read
public import proofs.«01_k».proof.Proof.Taps
public import Idealize.ShloMosaic.Lib.Pointwise
public import Idealize.ShloMosaic.Lib.Pipeline.ReadBack
public import Idealize.ShloMosaic.Lib.Pipeline.ValueKit
@[expose] public section
noncomputable section
namespace Cert.MixOutV
open Idealize.ShloMosaic Idealize.ShloMosaic.TcCoe Idealize.ShloMosaic.StableHlo Idealize.ShloMosaic.Tactic Cert.MixOutIdeal Cert.MixOutIdeal.Gen Cert.Conf

/-! ## The mathematics, by row -/

section Rows
variable (A : S8192x1024.Idx → EReal) (A' : S8192x512.Idx → EReal) (W : S1536x1024.Idx → EReal) (X : S8192x1024.Idx → EReal) (G : S2x1024.Idx → EReal) (L B : S1024.Idx → EReal)

/-- The product: of the two groups of columns, added. -/
def y (r q : ℕ) : EReal :=
  ∑ k ∈ Finset.range 1024, rd (a := 8192) (b := 1024) A r k * rd (a := 1536) (b := 1024) W k q
    + ∑ k ∈ Finset.range 512, rd (a := 8192) (b := 512) A' r k * rd (a := 1536) (b := 1024) W (1024 + k) q

/-- The residual with the gated product added. -/
def v (r q : ℕ) : EReal :=
  Ideal.ofBits .f32 0x3FD744FD#32 * rd (a := 8192) (b := 1024) X r q + (1 + rd (a := 2) (b := 1024) G (r / 4096) q) * y A A' W r q

/-- A row less its mean. -/
def d (r q : ℕ) : EReal := v A A' W X G r q - Ideal.div (∑ x : Fin 1024, v A A' W X G r x) (Ideal.ofBits .f32 0x44800000#32)

/-- One over a row's deviation. -/
def rs (r : ℕ) : EReal :=
  Ideal.rsqrt (Ideal.div (∑ x : Fin 1024, d A A' W X G r x * d A A' W X G r x) (Ideal.ofBits .f32 0x44800000#32) + Ideal.ofBits .f32 0x3727C5AC#32)

/-- The row normed. -/
def xn (r : ℕ) (q : Fin 1024) : EReal := d A A' W X G r q * rs A A' W X G r * L (ix1 q) + B (ix1 q)

/-! ## The stored values -/

theorem pay2 (x0 : Vec Ideal S256x1024 .bf16) (x1 : Vec Ideal S1024x1024 .bf16) (x2 : Vec Ideal S256x512 .bf16) (x3 : Vec Ideal S512x1024 .bf16) (p : Fin 256) (q : Fin 1024) :
    k0_pay2 x0 x1 x2 x3 (ix2 p q) = ∑ r ∈ Finset.range 1024, rd (a := 256) (b := 1024) x0 p r * rd (a := 1024) (b := 1024) x1 r q
      + ∑ r ∈ Finset.range 512, rd (a := 256) (b := 512) x2 p r * rd (a := 512) (b := 1024) x3 r q := by
  unfold k0_pay2
  pointwise
  simp only [Finset.sum_range, rd_val]

variable (x0 : Vec Ideal S256x1024 .bf16) (x1 : Vec Ideal S1024x1024 .bf16) (x2 : Vec Ideal S256x512 .bf16) (x3 : Vec Ideal S512x1024 .bf16) (x4 : Vec Ideal S256x1024 .f32) (x5 : Vec Ideal S1x1x1024 .f32) (p : Fin 256) (r : ℕ)
  (hy : ∀ q : Fin 1024, k0_pay2 x0 x1 x2 x3 (ix2 p q) = y A A' W r q) (hx : ∀ q : Fin 1024, x4 (ix2 p q) = rd (a := 8192) (b := 1024) X r q)
  (hg : ∀ q : Fin 1024, x5 (ix3 0 0 q) = rd (a := 2) (b := 1024) G (r / 4096) q)

include hy hx hg in
theorem pay5 (q : Fin 1024) : k0_pay5 x0 x1 x2 x3 x4 x5 (ix2 p q) = d A A' W X G r q := by
  unfold k0_pay5
  pointwise
  simp only [hy, hx, hg, one_mul]
  rfl

include hy hx hg in
theorem pay7 (g b : Vec Ideal S1x1024 .f32) (hL : ∀ q : Fin 1024, g (ix2 0 q) = L (ix1 q)) (hB : ∀ q : Fin 1024, b (ix2 0 q) = B (ix1 q)) (q : Fin 1024) :
    k0_pay7 (k0_pay3 g) (k0_pay4 b) (k0_pay5 x0 x1 x2 x3 x4 x5) (k0_pay6 x0 x1 x2 x3 x4 x5) (ix2 p q) = xn A A' W X G L B r q := by
  unfold k0_pay7 k0_pay3 k0_pay4 k0_pay6
  pointwise
  simp only [pay5 A A' W X G x0 x1 x2 x3 x4 x5 p r hy hx hg, hL, hB]
  rfl

include hy hx hg in
theorem pay1 (g b : Vec Ideal S1x1024 .f32) (hL : ∀ q : Fin 1024, g (ix2 0 q) = L (ix1 q)) (hB : ∀ q : Fin 1024, b (ix2 0 q) = B (ix1 q)) (q : Fin 1024) :
    k0_pay1 (k0_pay8 x0 x1 x2 x3) (k0_pay9 x5) (k0_pay10 g) (k0_pay11 b) (k0_pay12 x4) (Scalar.ofBits .f32 0x3F800000#32) (ix2 p q) = xn A A' W X G L B r q :=
  pay7 A A' W X G L B x0 x1 x2 x3 x4 x5 p r hy hx hg g b hL hB q

end Rows

variable (m : (ℓ : Loc nD τ sig) → Buf (Elt Ideal) ℓ) (c : Dev nD)

theorem at_0 : ∀ t : Fin cfg0.N, win0_0.index t = ![t.val, 0] := (by decide +kernel : ∀ t : Fin grid0.N, _)
theorem at_1 : ∀ t : Fin cfg0.N, win0_1.index t = ![t.val, 0] := (by decide +kernel : ∀ t : Fin grid0.N, _)
theorem at_2 : ∀ t : Fin cfg0.N, win0_2.index t = ![0, 0] := (by decide +kernel : ∀ t : Fin grid0.N, _)
theorem at_3 : ∀ t : Fin cfg0.N, win0_3.index t = ![t.val, 0] := (by decide +kernel : ∀ t : Fin grid0.N, _)
theorem at_4 : ∀ t : Fin cfg0.N, win0_4.index t = ![t.val / 8, 0, 0] := (by decide +kernel : ∀ t : Fin grid0.N, _)
theorem at_5 : ∀ t : Fin cfg0.N, win0_5.index t = ![0, 0] := (by decide +kernel : ∀ t : Fin grid0.N, _)
theorem at_6 : ∀ t : Fin cfg0.N, win0_6.index t = ![0, 0] := (by decide +kernel : ∀ t : Fin grid0.N, _)
theorem at_7 : ∀ t : Fin cfg0.N, win0_7.index t = ![t.val, 0] := (by decide +kernel : ∀ t : Fin grid0.N, _)
theorem at_8 : ∀ t : Fin cfg0.N, win0_8.index t = ![t.val, 0] := (by decide +kernel : ∀ t : Fin grid0.N, _)

theorem blk_0 (t : Fin cfg0.N) {p q : ℕ} (hp : p < 512) (hq : q < 1024) :
    rd (a := 512) (b := 1024) (iblk m c 0 t) p q = rd (a := 8192) (b := 1024) (m ((c : Thread nD τ).loc main_arg0)) (512 * t.val + p) q := by
  rw [rd_lt (a := 512) (b := 1024) _ hp hq]
  blk_simp [iblk]
  rw [← V_main_arg0 m c]
  exact rd_of (a := 8192) (b := 1024) _ _ (by blk_simp [at_0]; show _ + p = _; omega) (by blk_simp [at_0])

theorem blk_1 (t : Fin cfg0.N) {p q : ℕ} (hp : p < 512) (hq : q < 512) :
    rd (a := 512) (b := 512) (iblk m c 1 t) p q = rd (a := 8192) (b := 512) (m ((c : Thread nD τ).loc main_arg1)) (512 * t.val + p) q := by
  rw [rd_lt (a := 512) (b := 512) _ hp hq]
  blk_simp [iblk]
  rw [← V_main_arg1 m c]
  exact rd_of (a := 8192) (b := 512) _ _ (by blk_simp [at_1]; show _ + p = _; omega) (by blk_simp [at_1])

theorem blk_2 (t : Fin cfg0.N) {p q : ℕ} (hp : p < 1536) (hq : q < 1024) :
    rd (a := 1536) (b := 1024) (iblk m c 2 t) p q = rd (a := 1536) (b := 1024) (m ((c : Thread nD τ).loc main_arg2)) p q := by
  rw [rd_lt (a := 1536) (b := 1024) _ hp hq]
  blk_simp [iblk]
  rw [← V_main_arg2 m c]
  exact rd_of (a := 1536) (b := 1024) _ _ (by blk_simp [at_2]) (by blk_simp [at_2])

theorem blk_3 (t : Fin cfg0.N) {p q : ℕ} (hp : p < 512) (hq : q < 1024) :
    rd (a := 512) (b := 1024) (iblk m c 3 t) p q = rd (a := 8192) (b := 1024) (m ((c : Thread nD τ).loc main_arg3)) (512 * t.val + p) q := by
  rw [rd_lt (a := 512) (b := 1024) _ hp hq]
  blk_simp [iblk]
  rw [← V_main_arg3 m c]
  exact rd_of (a := 8192) (b := 1024) _ _ (by blk_simp [at_3]; show _ + p = _; omega) (by blk_simp [at_3])

theorem blk_4 (t : Fin cfg0.N) (q : Fin 1024) :
    (iblk m c 4 t : Vec Ideal S1x1x1024 .f32) (ix3 0 0 q) = rd (a := 2) (b := 1024) (m ((c : Thread nD τ).loc main_arg4)) (t.val / 8) q := by
  have e : V m c main_v0 = broadcastInDim S2x1x1024 ![0, 2] bcast_S2x1024_S2x1x1024_0_2 (m ((c : Thread nD τ).loc main_arg4)) := by
    unfold V hostOps0
    after_results
  blk_simp [iblk]
  show V m c main_v0 _ = _
  rw [e]
  pointwise
  exact rd_of (a := 2) (b := 1024) _ _ (by blk_simp [at_4]; exact Nat.add_zero _) (by blk_simp [at_4])

theorem blk_5 (t : Fin cfg0.N) (q : Fin 1024) : (iblk m c 5 t : Vec Ideal S1x1024 .f32) (ix2 0 q) = (m ((c : Thread nD τ).loc main_arg5) : S1024.Idx → EReal) (ix1 q) := by
  have e : V m c main_v1 = broadcastInDim S1x1024 ![1] bcast_S1024_S1x1024_1 (m ((c : Thread nD τ).loc main_arg5)) := by
    unfold V hostOps0
    after_results
  blk_simp [iblk]
  show V m c main_v1 _ = _
  rw [e]
  pointwise
  exact congrArg (fun z => (m ((c : Thread nD τ).loc main_arg5) : S1024.Idx → EReal) (ix1 z)) (Fin.ext (by blk_simp [at_5]))

theorem blk_6 (t : Fin cfg0.N) (q : Fin 1024) : (iblk m c 6 t : Vec Ideal S1x1024 .f32) (ix2 0 q) = (m ((c : Thread nD τ).loc main_arg6) : S1024.Idx → EReal) (ix1 q) := by
  have e : V m c main_v2 = broadcastInDim S1x1024 ![1] bcast_S1024_S1x1024_1 (m ((c : Thread nD τ).loc main_arg6)) := by
    unfold V hostOps0
    after_results
  blk_simp [iblk]
  show V m c main_v2 _ = _
  rw [e]
  pointwise
  exact congrArg (fun z => (m ((c : Thread nD τ).loc main_arg6) : S1024.Idx → EReal) (ix1 z)) (Fin.ext (by blk_simp [at_6]))

/-! ## A tile of 512 rows -/

/-- The arguments. -/
abbrev aA : S8192x1024.Idx → EReal := m ((c : Thread nD τ).loc main_arg0)
abbrev aA' : S8192x512.Idx → EReal := m ((c : Thread nD τ).loc main_arg1)
abbrev aW : S1536x1024.Idx → EReal := m ((c : Thread nD τ).loc main_arg2)
abbrev aX : S8192x1024.Idx → EReal := m ((c : Thread nD τ).loc main_arg3)
abbrev aG : S2x1024.Idx → EReal := m ((c : Thread nD τ).loc main_arg4)
abbrev aL : S1024.Idx → EReal := m ((c : Thread nD τ).loc main_arg5)
abbrev aB : S1024.Idx → EReal := m ((c : Thread nD τ).loc main_arg6)

/-- The product of the rows of a tile from one on. -/
theorem prod (t : Fin cfg0.N) (o : ℕ) (ho : o ≤ 256) (ia : ∀ a, (![o, 0] : Fin 2 → ℕ) a + S256x1024.size a ≤ S512x1024.size a)
    (ib : ∀ a, (![o, 0] : Fin 2 → ℕ) a + S256x512.size a ≤ S512x512.size a) (p : Fin 256) (q : Fin 1024) :
    k0_pay2 (View.ld (iblk m c 0 t) (Rect.unit (s := S512x1024) ![o, 0] S256x1024.size ia)) (View.ld (iblk m c 2 t) r0_1)
      (View.ld (iblk m c 1 t) (Rect.unit (s := S512x512) ![o, 0] S256x512.size ib)) (View.ld (iblk m c 2 t) r0_3) (ix2 p q)
      = y (aA m c) (aA' m c) (aW m c) (512 * t.val + (o + p)) q := by
  rw [pay2]
  refine congrArg₂ HAdd.hAdd ?_ ?_
  · refine Finset.sum_congr rfl fun k hk => ?_
    have hk := Finset.mem_range.mp hk
    refine congrArg₂ HMul.hMul ?_ ?_
    · rw [rd_lt (a := 256) (b := 1024) _ p.isLt hk]
      refine (ld_rd (a := 512) (b := 1024) (iblk m c 0 t) o 0 _ _).trans ?_
      refine (blk_0 m c t (by show o + p.val < 512; omega) (by show 0 + k < 1024; omega)).trans ?_
      show rd _ (512 * t.val + (o + p.val)) (0 + k) = _
      rw [Nat.zero_add]
    · rw [rd_lt (a := 1024) (b := 1024) _ hk q.isLt]
      refine (ld_rd (a := 1536) (b := 1024) (iblk m c 2 t) 0 0 _ _).trans ?_
      refine (blk_2 m c t (by show 0 + k < 1536; omega) (by show 0 + q.val < 1024; omega)).trans ?_
      show rd _ (0 + k) (0 + q.val) = _
      rw [Nat.zero_add, Nat.zero_add]
  · refine Finset.sum_congr rfl fun k hk => ?_
    have hk := Finset.mem_range.mp hk
    refine congrArg₂ HMul.hMul ?_ ?_
    · rw [rd_lt (a := 256) (b := 512) _ p.isLt hk]
      refine (ld_rd (a := 512) (b := 512) (iblk m c 1 t) o 0 _ _).trans ?_
      refine (blk_1 m c t (by show o + p.val < 512; omega) (by show 0 + k < 512; omega)).trans ?_
      show rd _ (512 * t.val + (o + p.val)) (0 + k) = _
      rw [Nat.zero_add]
    · rw [rd_lt (a := 512) (b := 1024) _ hk q.isLt]
      refine (ld_rd (a := 1536) (b := 1024) (iblk m c 2 t) 1024 0 _ _).trans ?_
      refine (blk_2 m c t (by show 1024 + k < 1536; omega) (by show 0 + q.val < 1024; omega)).trans ?_
      show rd _ (1024 + k) (0 + q.val) = _
      rw [Nat.zero_add]

/-- The residual's rows of a tile from one on. -/
theorem res (t : Fin cfg0.N) (o : ℕ) (ho : o ≤ 256) (ix : ∀ a, (![o, 0] : Fin 2 → ℕ) a + S256x1024.size a ≤ S512x1024.size a) (p : Fin 256) (q : Fin 1024) :
    View.ld (iblk m c 3 t : Vec Ideal S512x1024 .f32) (Rect.unit (s := S512x1024) ![o, 0] S256x1024.size ix) (ix2 p q) = rd (a := 8192) (b := 1024) (aX m c) (512 * t.val + (o + p)) q := by
  refine (ld_rd (a := 512) (b := 1024) (iblk m c 3 t) o 0 _ _).trans ?_
  refine (blk_3 m c t (by show o + p.val < 512; omega) (by show 0 + q.val < 1024; omega)).trans ?_
  show rd _ (512 * t.val + (o + p.val)) (0 + q.val) = _
  rw [Nat.zero_add]

theorem gate (t : Fin cfg0.N) (r : ℕ) (hr : r < 512) (q : Fin 1024) :
    View.ld (iblk m c 4 t) r0_4 (ix3 0 0 q) = rd (a := 2) (b := 1024) (aG m c) ((512 * t.val + r) / 4096) q := by
  rw [show (512 * t.val + r) / 4096 = t.val / 8 by omega, ← blk_4 m c t q]
  exact congrArg (iblk m c 4 t) (funext fun a => Fin.ext ((Rect.idx_unit_val (s := S1x1x1024) _ _ _ _ a).trans (by fin_cases a <;> simp)))

theorem scale (t : Fin cfg0.N) (q : Fin 1024) : View.ld (iblk m c 5 t) r0_5 (ix2 0 q) = aL m c (ix1 q) := by
  refine Eq.trans ?_ (blk_5 m c t q)
  exact congrArg (iblk m c 5 t) (funext fun a => Fin.ext ((Rect.idx_unit_val (s := S1x1024) _ _ _ _ a).trans (by fin_cases a <;> simp)))

theorem bias (t : Fin cfg0.N) (q : Fin 1024) : View.ld (iblk m c 6 t) r0_5 (ix2 0 q) = aB m c (ix1 q) := by
  refine Eq.trans ?_ (blk_6 m c t q)
  exact congrArg (iblk m c 6 t) (funext fun a => Fin.ext ((Rect.idx_unit_val (s := S1x1024) _ _ _ _ a).trans (by fin_cases a <;> simp)))

/-- What a point leaves of the normed rows. -/
theorem tile_7 (t : Fin cfg0.N) (p : Fin 512) (q : Fin 1024) :
    ((dats m 0 c).after 7 t : Vec Ideal S512x1024 .f32) (ix2 p q) = xn (aA m c) (aA' m c) (aW m c) (aX m c) (aG m c) (aL m c) (aB m c) (512 * t.val + p) q := by
  rw [after0_7]
  unfold out0_7
  canon_tiles x hx
  · rw [show x = ix2 (x 0) (x 1) from eq_ix2 x]
    refine (pay1 _ _ _ _ _ _ _ _ _ _ _ _ _ _ (512 * t.val + (256 + (x 0).val)) (prod m c t 256 (by omega) _ _ _) (res m c t 256 (by omega) _ _) (gate m c t _ (by omega)) _ _ (scale m c t) (bias m c t) _).trans ?_
    have e0 : p.val = 256 + (x 0).val := hx0
    rw [← e0]
    exact congrArg _ (Fin.ext hx1.symm)
  · rw [show x = ix2 (x 0) (x 1) from eq_ix2 x]
    refine (pay7 _ _ _ _ _ _ _ _ _ _ _ _ _ _ (512 * t.val + (0 + (x 0).val)) (prod m c t 0 (by omega) _ _ _) (res m c t 0 (by omega) _ _) (gate m c t _ (by omega)) _ _ (scale m c t) (bias m c t) _).trans ?_
    have e0 : p.val = 0 + (x 0).val := hx0.trans (Nat.zero_add _).symm
    rw [← e0]
    exact congrArg _ (Fin.ext hx1.symm)

/-- What a point leaves of the product. -/
theorem tile_8 (t : Fin cfg0.N) (p : Fin 512) (q : Fin 1024) :
    ((dats m 0 c).after 8 t : Vec Ideal S512x1024 .f32) (ix2 p q) = y (aA m c) (aA' m c) (aW m c) (512 * t.val + p) q := by
  rw [after0_8]
  unfold out0_8
  canon_tiles x hx
  · rw [show x = ix2 (x 0) (x 1) from eq_ix2 x]
    refine (prod m c t 256 (by omega) _ _ _ _).trans ?_
    have e0 : p.val = 256 + (x 0).val := hx0
    have e1 : q.val = (x 1).val := hx1
    rw [← e0, ← e1]
  · rw [show x = ix2 (x 0) (x 1) from eq_ix2 x]
    refine (prod m c t 0 (by omega) _ _ _ _).trans ?_
    have e0 : p.val = 0 + (x 0).val := hx0.trans (Nat.zero_add _).symm
    have e1 : q.val = (x 1).val := hx1
    rw [← e0, ← e1]

/-- What the kernel leaves: the normed rows. -/
theorem final_7 : (dats m 0 c).arrAt 7 cfg0.N = fun j : S8192x1024.Idx => xn (aA m c) (aA' m c) (aW m c) (aX m c) (aG m c) (aL m c) (aB m c) (j 0).val (j 1) := by
  refine (dats m 0 c).arrAt_eq_of_covers 7 _ (by decide +kernel) fun t hf y => ?_
  blk_simp [at_7]
  obtain ⟨p, q, rfl⟩ : ∃ (p : Fin 512) (q : Fin 1024), y = ix2 p q := ⟨y 0, y 1, eq_ix2 y⟩
  refine (tile_7 m c t p q).trans ?_
  show xn _ _ _ _ _ _ _ _ q = xn _ _ _ _ _ _ _ (t.val * 512 + p.val) _
  rw [Nat.mul_comm]
  exact congrArg _ (Fin.ext (by blk_simp [at_7]))

/-- What the kernel leaves: the product. -/
theorem final_8 : (dats m 0 c).arrAt 8 cfg0.N = fun j : S8192x1024.Idx => y (aA m c) (aA' m c) (aW m c) (j 0).val (j 1).val := by
  refine (dats m 0 c).arrAt_eq_of_covers 8 _ (by decide +kernel) fun t hf z => ?_
  blk_simp [at_8]
  obtain ⟨p, q, rfl⟩ : ∃ (p : Fin 512) (q : Fin 1024), z = ix2 p q := ⟨z 0, z 1, eq_ix2 z⟩
  refine (tile_8 m c t p q).trans ?_
  show y _ _ _ _ q.val = y _ _ _ (t.val * 512 + p.val) _
  rw [Nat.mul_comm]
  simp

/-! ## The reference -/

section Ref
open Cert.ReferenceMixOutIdeal.Read

variable (A : S8192x1024.Idx → EReal) (A' : S8192x512.Idx → EReal) (W : S1536x1024.Idx → EReal) (X : S8192x1024.Idx → EReal) (G : S2x1024.Idx → EReal) (L B : S1024.Idx → EReal)

theorem cat_left (j : Cert.ReferenceMixOutIdeal.S8192x1536.Idx) (k : ℕ) (h : (j 1).val = k) (hk : k < 1024) : val_main_v0 (F := Ideal) A A' j = rd (a := 8192) (b := 1024) A (j 0).val k := by
  unfold val_main_v0
  refine (concatenate_pair_apply_left (t := Cert.ReferenceMixOutIdeal.S8192x1536) (s₁ := S8192x1024) (1 : Fin 2) _ _ _ _ rfl (ix2 (j 0) ⟨k, hk⟩) fun b => ?_).trans (rd_of (a := 8192) (b := 1024) A _ rfl rfl)
  match b with
  | ⟨0, _⟩ => rfl
  | ⟨1, _⟩ => exact h.symm

theorem cat_right (j : Cert.ReferenceMixOutIdeal.S8192x1536.Idx) (k : ℕ) (h : (j 1).val = 1024 + k) (hk : k < 512) : val_main_v0 (F := Ideal) A A' j = rd (a := 8192) (b := 512) A' (j 0).val k := by
  unfold val_main_v0
  refine (concatenate_pair_apply_right (t := Cert.ReferenceMixOutIdeal.S8192x1536) (s₁ := S8192x1024) (s₂ := S8192x512) (1 : Fin 2) _ _ _ _ rfl rfl (ix2 (j 0) ⟨k, hk⟩) (fun b hb => ?_) ?_).trans
    (rd_of (a := 8192) (b := 512) A' _ rfl rfl)
  · match b with
    | ⟨0, _⟩ => rfl
    | ⟨1, _⟩ => exact absurd rfl hb
  · show k + 1024 = (j 1).val
    omega

theorem ref_y (s : Fin 2) (p : Fin 4096) (q : Fin 1024) : val_main_v4 (F := Ideal) A A' W (ix3 s p q) = y A A' W (4096 * s + p) q := by
  have er : ∀ k : Fin 1536, ((s.val * 4096 + p.val) * 1536 + k.val) / 1536 = 4096 * s.val + p.val := fun k => by omega
  have ek : ∀ k : Fin 1536, ((s.val * 4096 + p.val) * 1536 + k.val) % 1536 = k.val := fun k => by omega
  rw [val_main_v4_apply, y, Finset.sum_range, Finset.sum_range]
  refine (Fin.sum_univ_add (a := 1024) (b := 512) _).trans (congrArg₂ HAdd.hAdd (Finset.sum_congr rfl fun k _ => ?_) (Finset.sum_congr rfl fun k _ => ?_))
  · refine congrArg₂ HMul.hMul ?_ ?_
    · rw [val_main_v2_apply, val_main_v1_apply]
      refine (cat_left A A' _ k.val (ek _) k.isLt).trans ?_
      exact congrArg (fun r => rd (a := 8192) (b := 1024) A r k) (er _)
    · exact rd_of (a := 1536) (b := 1024) W _ rfl rfl
  · refine congrArg₂ HMul.hMul ?_ ?_
    · rw [val_main_v2_apply, val_main_v1_apply]
      refine (cat_right A A' _ k.val (ek _) k.isLt).trans ?_
      exact congrArg (fun r => rd (a := 8192) (b := 512) A' r k) (er _)
    · exact rd_of (a := 1536) (b := 1024) W _ rfl rfl

theorem ref_v (s : Fin 2) (p : Fin 4096) (q : Fin 1024) : val_main_v13 (F := Ideal) A A' W X G (ix3 s p q) = v A A' W X G (4096 * s + p) q := by
  rw [val_main_v13_apply, val_main_v7_apply, val_main_v12_apply, val_main_v11_apply, val_main_v10_apply, val_main_v8_apply, val_main_v5_apply, ref_y, val_main_v6_apply,
    val_main_v9_apply, val_main_cst_apply, val_main_cst_0_apply]
  have h1 : X (idx_main_v5 (ix3 s p q)) = rd (a := 8192) (b := 1024) X (4096 * s + p) q :=
    rd_of (a := 8192) (b := 1024) X _ (show ((s.val * 4096 + p.val) * 1024 + q.val) / 1024 = 4096 * s.val + p.val by omega)
      (show ((s.val * 4096 + p.val) * 1024 + q.val) % 1024 = q.val by omega)
  have h2 : G (idx_main_v8 (idx_main_v11 (ix3 s p q))) = rd (a := 2) (b := 1024) G ((4096 * s + p) / 4096) q :=
    rd_of (a := 2) (b := 1024) G _ (show s.val = (4096 * s.val + p.val) / 4096 by omega) rfl
  rw [h1, h2, v]
  have h3 : Ideal.ofBits .f32 0x3F800000#32 = 1 := by pointwise
  rw [← h3]
  rfl

theorem ref_d (s : Fin 2) (p : Fin 4096) (q : Fin 1024) : val_main_v19 (F := Ideal) A A' W X G (ix3 s p q) = d A A' W X G (4096 * s + p) q := by
  have hm : val_main_v14 (F := Ideal) A A' W X G (idx_main_v15 (idx_main_v18 (ix3 s p q))) = ∑ x : Fin 1024, v A A' W X G (4096 * s + p) x := by
    rw [val_main_v14_apply, val_main_cst_1_apply]
    refine Eq.trans ?_ (zero_add _)
    refine congrArg₂ HAdd.hAdd (by pointwise) (Finset.sum_congr rfl fun k _ => ?_)
    exact (congrArg (val_main_v13 (F := Ideal) A A' W X G) (eq_ix3 _)).trans (ref_v A A' W X G s p k)
  rw [val_main_v19_apply, val_main_v18_apply, val_main_v17_apply, val_main_v15_apply, hm, val_main_v16_apply, val_main_cst_2_apply, ref_v, d]
  rfl

theorem ref_rs (s : Fin 2) (p : Fin 4096) : val_main_v27 (F := Ideal) A A' W X G (ix3 s p 0) = rs A A' W X G (4096 * s + p) := by
  have hm : val_main_v21 (F := Ideal) A A' W X G (idx_main_v22 (ix3 s p 0)) = ∑ x : Fin 1024, d A A' W X G (4096 * s + p) x * d A A' W X G (4096 * s + p) x := by
    rw [val_main_v21_apply, val_main_cst_3_apply]
    refine Eq.trans ?_ (zero_add _)
    refine congrArg₂ HAdd.hAdd (by pointwise) (Finset.sum_congr rfl fun k _ => ?_)
    have hk : val_main_v19 (F := Ideal) A A' W X G (idx_main_v21 (idx_main_v22 (ix3 s p 0)) k) = d A A' W X G (4096 * s + p) k :=
      (congrArg (val_main_v19 (F := Ideal) A A' W X G) (eq_ix3 _)).trans (ref_d A A' W X G s p k)
    rw [val_main_v20_apply, hk]
    rfl
  rw [val_main_v27_apply, val_main_v26_apply, val_main_v24_apply, val_main_v22_apply, hm, val_main_v23_apply, val_main_v25_apply, val_main_cst_4_apply, val_main_cst_5_apply, rs]
  rfl

theorem ref_xn (s : Fin 2) (p : Fin 4096) (q : Fin 1024) : val_main_v35 (F := Ideal) A A' W X G L B (ix3 s p q) = xn A A' W X G L B (4096 * s + p) q := by
  have h1 : val_main_v27 (F := Ideal) A A' W X G (idx_main_v28 (ix3 s p q)) = rs A A' W X G (4096 * s + p) :=
    (congrArg (val_main_v27 (F := Ideal) A A' W X G) (eq_ix3 _)).trans (ref_rs A A' W X G s p)
  rw [val_main_v35_apply, val_main_v32_apply, val_main_v29_apply, val_main_v28_apply, val_main_v31_apply, val_main_v30_apply, val_main_v34_apply, val_main_v33_apply, h1, ref_d, xn]
  refine congrArg₂ HAdd.hAdd (congrArg₂ HMul.hMul rfl (congrArg L ?_)) (congrArg B ?_)
  · exact eq_ix1 _
  · exact eq_ix1 _

end Ref

variable {A : S8192x1024.Idx → EReal} {A' : S8192x512.Idx → EReal} {W : S1536x1024.Idx → EReal} {X : S8192x1024.Idx → EReal} {G : S2x1024.Idx → EReal} {L B : S1024.Idx → EReal}

open Cert.ReferenceMixOutIdeal.Read in
/-- The kernel leaves the reference's normed rows. -/
theorem out0 (h0 : m ((c : Thread nD τ).loc main_arg0) = A) (h1 : m ((c : Thread nD τ).loc main_arg1) = A') (h2 : m ((c : Thread nD τ).loc main_arg2) = W) (h3 : m ((c : Thread nD τ).loc main_arg3) = X)
    (h4 : m ((c : Thread nD τ).loc main_arg4) = G) (h5 : m ((c : Thread nD τ).loc main_arg5) = L) (h6 : m ((c : Thread nD τ).loc main_arg6) = B) :
    (dats m 0 c).arrAt 7 cfg0.N = val_main_v36 (F := Ideal) A A' W X G L B := by
  subst h0 h1 h2 h3 h4 h5 h6
  rw [final_7]
  funext j
  have hr : (j 0).val < 8192 := (j 0).isLt
  have hq : (j 1).val < 1024 := (j 1).isLt
  have e : idx_main_v36 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v36_apply, e]
  refine Eq.trans ?_ (ref_xn _ _ _ _ _ _ _ _ _ _).symm
  show xn _ _ _ _ _ _ _ (j 0).val _ = xn _ _ _ _ _ _ _ (4096 * ((j 0).val / 4096) + (j 0).val % 4096) _
  rw [Nat.div_add_mod]

open Cert.ReferenceMixOutIdeal.Read in
/-- The kernel leaves the reference's product. -/
theorem out1 (h0 : m ((c : Thread nD τ).loc main_arg0) = A) (h1 : m ((c : Thread nD τ).loc main_arg1) = A') (h2 : m ((c : Thread nD τ).loc main_arg2) = W) :
    (dats m 0 c).arrAt 8 cfg0.N = val_main_v37 (F := Ideal) A A' W := by
  subst h0 h1 h2
  rw [final_8]
  funext j
  have hr : (j 0).val < 8192 := (j 0).isLt
  have hq : (j 1).val < 1024 := (j 1).isLt
  have e : idx_main_v37 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v37_apply, e]
  refine Eq.trans ?_ (ref_y _ _ _ _ _ _).symm
  show y _ _ _ (j 0).val _ = y _ _ _ (4096 * ((j 0).val / 4096) + (j 0).val % 4096) _
  rw [Nat.div_add_mod]

/-- The kernel and the reference leave the same. -/
theorem value : Cert.algebraic_MixOutIdeal_ReferenceMixOutIdeal := by
  intro m g m' g' _ he
  refine ⟨fun c => (dats m 0 c).arrAt 7 cfg0.N, fun c => (dats m 0 c).arrAt 8 cfg0.N, ?_, ?_⟩
  · exact (θ_run defs _ _).mono (fun r h c => ⟨(h c).1 7, (h c).1 8,
      ((h c).1 0).trans (((dats m 0 c).arrAt_in 0 rfl _).trans ((rfl).trans (V_main_arg0 m c))),
      ((h c).1 1).trans (((dats m 0 c).arrAt_in 1 rfl _).trans ((rfl).trans (V_main_arg1 m c))),
      ((h c).1 2).trans (((dats m 0 c).arrAt_in 2 rfl _).trans ((rfl).trans (V_main_arg2 m c))),
      ((h c).1 3).trans (((dats m 0 c).arrAt_in 3 rfl _).trans ((rfl).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main (F := Ideal) m g)
  · refine (θ_run Cert.ReferenceMixOutIdeal.defs _ _).mono (fun r h c => ?_) (Cert.ReferenceMixOutIdeal.Value.run (F := Ideal) m' g')
    obtain ⟨h0, h1, ha⟩ := h c
    obtain ⟨e0, e1, e2, e3, e4, e5, e6⟩ := he c
    exact ⟨h0.trans ((Cert.ReferenceMixOutIdeal.Read.val_main_v36_eq m' c).trans (Cert.MixOutV.out0 m c e0.symm e1.symm e2.symm e3.symm e4.symm e5.symm e6.symm).symm), h1.trans ((Cert.ReferenceMixOutIdeal.Read.val_main_v37_eq _ _ _).trans (Cert.MixOutV.out1 m c e0.symm e1.symm e2.symm).symm), ha⟩

end Cert.MixOutV
-- ==== Proof.MixOutOddValue.lean ====
/-  The odd layers' output product, of two groups of columns, with its residual and layer norm: what the kernel leaves, and that the reference leaves it.  -/
module
public import proofs.«01_k».proof.Defs
public import proofs.«01_k».proof.Proof.Gen.MixOutOddIdeal.Frame
public import proofs.«01_k».proof.Proof.Gen.ReferenceMixOutOddIdeal.Read
public import proofs.«01_k».proof.Proof.Taps
public import Idealize.ShloMosaic.Lib.Pointwise
public import Idealize.ShloMosaic.Lib.Pipeline.ReadBack
public import Idealize.ShloMosaic.Lib.Pipeline.ValueKit
@[expose] public section
noncomputable section
namespace Cert.MixOutOddV
open Idealize.ShloMosaic Idealize.ShloMosaic.TcCoe Idealize.ShloMosaic.StableHlo Idealize.ShloMosaic.Tactic Cert.MixOutOddIdeal Cert.MixOutOddIdeal.Gen Cert.Conf

/-! ## The mathematics, by row -/

section Rows
variable (A : S8192x512.Idx → EReal) (A' : S8192x1024.Idx → EReal) (W : S1536x1024.Idx → EReal) (X : S8192x1024.Idx → EReal) (G : S2x1024.Idx → EReal) (L B : S1024.Idx → EReal)

/-- The product: of the two groups of columns, added. -/
def y (r q : ℕ) : EReal :=
  ∑ k ∈ Finset.range 512, rd (a := 8192) (b := 512) A r k * rd (a := 1536) (b := 1024) W k q
    + ∑ k ∈ Finset.range 1024, rd (a := 8192) (b := 1024) A' r k * rd (a := 1536) (b := 1024) W (512 + k) q

/-- The residual with the gated product added. -/
def v (r q : ℕ) : EReal :=
  Ideal.ofBits .f32 0x3FD744FD#32 * rd (a := 8192) (b := 1024) X r q + (1 + rd (a := 2) (b := 1024) G (r / 4096) q) * y A A' W r q

/-- A row less its mean. -/
def d (r q : ℕ) : EReal := v A A' W X G r q - Ideal.div (∑ x : Fin 1024, v A A' W X G r x) (Ideal.ofBits .f32 0x44800000#32)

/-- One over a row's deviation. -/
def rs (r : ℕ) : EReal :=
  Ideal.rsqrt (Ideal.div (∑ x : Fin 1024, d A A' W X G r x * d A A' W X G r x) (Ideal.ofBits .f32 0x44800000#32) + Ideal.ofBits .f32 0x3727C5AC#32)

/-- The row normed. -/
def xn (r : ℕ) (q : Fin 1024) : EReal := d A A' W X G r q * rs A A' W X G r * L (ix1 q) + B (ix1 q)

/-! ## The stored values -/

theorem pay2 (x0 : Vec Ideal S256x512 .bf16) (x1 : Vec Ideal S512x1024 .bf16) (x2 : Vec Ideal S256x1024 .bf16) (x3 : Vec Ideal S1024x1024 .bf16) (p : Fin 256) (q : Fin 1024) :
    k0_pay2 x0 x1 x2 x3 (ix2 p q) = ∑ r ∈ Finset.range 512, rd (a := 256) (b := 512) x0 p r * rd (a := 512) (b := 1024) x1 r q
      + ∑ r ∈ Finset.range 1024, rd (a := 256) (b := 1024) x2 p r * rd (a := 1024) (b := 1024) x3 r q := by
  unfold k0_pay2
  pointwise
  simp only [Finset.sum_range, rd_val]

variable (x0 : Vec Ideal S256x512 .bf16) (x1 : Vec Ideal S512x1024 .bf16) (x2 : Vec Ideal S256x1024 .bf16) (x3 : Vec Ideal S1024x1024 .bf16) (x4 : Vec Ideal S256x1024 .f32) (x5 : Vec Ideal S1x1x1024 .f32) (p : Fin 256) (r : ℕ)
  (hy : ∀ q : Fin 1024, k0_pay2 x0 x1 x2 x3 (ix2 p q) = y A A' W r q) (hx : ∀ q : Fin 1024, x4 (ix2 p q) = rd (a := 8192) (b := 1024) X r q)
  (hg : ∀ q : Fin 1024, x5 (ix3 0 0 q) = rd (a := 2) (b := 1024) G (r / 4096) q)

include hy hx hg in
theorem pay5 (q : Fin 1024) : k0_pay5 x0 x1 x2 x3 x4 x5 (ix2 p q) = d A A' W X G r q := by
  unfold k0_pay5
  pointwise
  simp only [hy, hx, hg, one_mul]
  rfl

include hy hx hg in
theorem pay7 (g b : Vec Ideal S1x1024 .f32) (hL : ∀ q : Fin 1024, g (ix2 0 q) = L (ix1 q)) (hB : ∀ q : Fin 1024, b (ix2 0 q) = B (ix1 q)) (q : Fin 1024) :
    k0_pay7 (k0_pay3 g) (k0_pay4 b) (k0_pay5 x0 x1 x2 x3 x4 x5) (k0_pay6 x0 x1 x2 x3 x4 x5) (ix2 p q) = xn A A' W X G L B r q := by
  unfold k0_pay7 k0_pay3 k0_pay4 k0_pay6
  pointwise
  simp only [pay5 A A' W X G x0 x1 x2 x3 x4 x5 p r hy hx hg, hL, hB]
  rfl

include hy hx hg in
theorem pay1 (g b : Vec Ideal S1x1024 .f32) (hL : ∀ q : Fin 1024, g (ix2 0 q) = L (ix1 q)) (hB : ∀ q : Fin 1024, b (ix2 0 q) = B (ix1 q)) (q : Fin 1024) :
    k0_pay1 (k0_pay8 x0 x1 x2 x3) (k0_pay9 x5) (k0_pay10 g) (k0_pay11 b) (k0_pay12 x4) (Scalar.ofBits .f32 0x3F800000#32) (ix2 p q) = xn A A' W X G L B r q :=
  pay7 A A' W X G L B x0 x1 x2 x3 x4 x5 p r hy hx hg g b hL hB q

end Rows

variable (m : (ℓ : Loc nD τ sig) → Buf (Elt Ideal) ℓ) (c : Dev nD)

theorem at_0 : ∀ t : Fin cfg0.N, win0_0.index t = ![t.val, 0] := (by decide +kernel : ∀ t : Fin grid0.N, _)
theorem at_1 : ∀ t : Fin cfg0.N, win0_1.index t = ![t.val, 0] := (by decide +kernel : ∀ t : Fin grid0.N, _)
theorem at_2 : ∀ t : Fin cfg0.N, win0_2.index t = ![0, 0] := (by decide +kernel : ∀ t : Fin grid0.N, _)
theorem at_3 : ∀ t : Fin cfg0.N, win0_3.index t = ![t.val, 0] := (by decide +kernel : ∀ t : Fin grid0.N, _)
theorem at_4 : ∀ t : Fin cfg0.N, win0_4.index t = ![t.val / 8, 0, 0] := (by decide +kernel : ∀ t : Fin grid0.N, _)
theorem at_5 : ∀ t : Fin cfg0.N, win0_5.index t = ![0, 0] := (by decide +kernel : ∀ t : Fin grid0.N, _)
theorem at_6 : ∀ t : Fin cfg0.N, win0_6.index t = ![0, 0] := (by decide +kernel : ∀ t : Fin grid0.N, _)
theorem at_7 : ∀ t : Fin cfg0.N, win0_7.index t = ![t.val, 0] := (by decide +kernel : ∀ t : Fin grid0.N, _)
theorem at_8 : ∀ t : Fin cfg0.N, win0_8.index t = ![t.val, 0] := (by decide +kernel : ∀ t : Fin grid0.N, _)

theorem blk_0 (t : Fin cfg0.N) {p q : ℕ} (hp : p < 512) (hq : q < 512) :
    rd (a := 512) (b := 512) (iblk m c 0 t) p q = rd (a := 8192) (b := 512) (m ((c : Thread nD τ).loc main_arg0)) (512 * t.val + p) q := by
  rw [rd_lt (a := 512) (b := 512) _ hp hq]
  blk_simp [iblk]
  rw [← V_main_arg0 m c]
  exact rd_of (a := 8192) (b := 512) _ _ (by blk_simp [at_0]; show _ + p = _; omega) (by blk_simp [at_0])

theorem blk_1 (t : Fin cfg0.N) {p q : ℕ} (hp : p < 512) (hq : q < 1024) :
    rd (a := 512) (b := 1024) (iblk m c 1 t) p q = rd (a := 8192) (b := 1024) (m ((c : Thread nD τ).loc main_arg1)) (512 * t.val + p) q := by
  rw [rd_lt (a := 512) (b := 1024) _ hp hq]
  blk_simp [iblk]
  rw [← V_main_arg1 m c]
  exact rd_of (a := 8192) (b := 1024) _ _ (by blk_simp [at_1]; show _ + p = _; omega) (by blk_simp [at_1])

theorem blk_2 (t : Fin cfg0.N) {p q : ℕ} (hp : p < 1536) (hq : q < 1024) :
    rd (a := 1536) (b := 1024) (iblk m c 2 t) p q = rd (a := 1536) (b := 1024) (m ((c : Thread nD τ).loc main_arg2)) p q := by
  rw [rd_lt (a := 1536) (b := 1024) _ hp hq]
  blk_simp [iblk]
  rw [← V_main_arg2 m c]
  exact rd_of (a := 1536) (b := 1024) _ _ (by blk_simp [at_2]) (by blk_simp [at_2])

theorem blk_3 (t : Fin cfg0.N) {p q : ℕ} (hp : p < 512) (hq : q < 1024) :
    rd (a := 512) (b := 1024) (iblk m c 3 t) p q = rd (a := 8192) (b := 1024) (m ((c : Thread nD τ).loc main_arg3)) (512 * t.val + p) q := by
  rw [rd_lt (a := 512) (b := 1024) _ hp hq]
  blk_simp [iblk]
  rw [← V_main_arg3 m c]
  exact rd_of (a := 8192) (b := 1024) _ _ (by blk_simp [at_3]; show _ + p = _; omega) (by blk_simp [at_3])

theorem blk_4 (t : Fin cfg0.N) (q : Fin 1024) :
    (iblk m c 4 t : Vec Ideal S1x1x1024 .f32) (ix3 0 0 q) = rd (a := 2) (b := 1024) (m ((c : Thread nD τ).loc main_arg4)) (t.val / 8) q := by
  have e : V m c main_v0 = broadcastInDim S2x1x1024 ![0, 2] bcast_S2x1024_S2x1x1024_0_2 (m ((c : Thread nD τ).loc main_arg4)) := by
    unfold V hostOps0
    after_results
  blk_simp [iblk]
  show V m c main_v0 _ = _
  rw [e]
  pointwise
  exact rd_of (a := 2) (b := 1024) _ _ (by blk_simp [at_4]; exact Nat.add_zero _) (by blk_simp [at_4])

theorem blk_5 (t : Fin cfg0.N) (q : Fin 1024) : (iblk m c 5 t : Vec Ideal S1x1024 .f32) (ix2 0 q) = (m ((c : Thread nD τ).loc main_arg5) : S1024.Idx → EReal) (ix1 q) := by
  have e : V m c main_v1 = broadcastInDim S1x1024 ![1] bcast_S1024_S1x1024_1 (m ((c : Thread nD τ).loc main_arg5)) := by
    unfold V hostOps0
    after_results
  blk_simp [iblk]
  show V m c main_v1 _ = _
  rw [e]
  pointwise
  exact congrArg (fun z => (m ((c : Thread nD τ).loc main_arg5) : S1024.Idx → EReal) (ix1 z)) (Fin.ext (by blk_simp [at_5]))

theorem blk_6 (t : Fin cfg0.N) (q : Fin 1024) : (iblk m c 6 t : Vec Ideal S1x1024 .f32) (ix2 0 q) = (m ((c : Thread nD τ).loc main_arg6) : S1024.Idx → EReal) (ix1 q) := by
  have e : V m c main_v2 = broadcastInDim S1x1024 ![1] bcast_S1024_S1x1024_1 (m ((c : Thread nD τ).loc main_arg6)) := by
    unfold V hostOps0
    after_results
  blk_simp [iblk]
  show V m c main_v2 _ = _
  rw [e]
  pointwise
  exact congrArg (fun z => (m ((c : Thread nD τ).loc main_arg6) : S1024.Idx → EReal) (ix1 z)) (Fin.ext (by blk_simp [at_6]))

/-! ## A tile of 512 rows -/

/-- The arguments. -/
abbrev aA : S8192x512.Idx → EReal := m ((c : Thread nD τ).loc main_arg0)
abbrev aA' : S8192x1024.Idx → EReal := m ((c : Thread nD τ).loc main_arg1)
abbrev aW : S1536x1024.Idx → EReal := m ((c : Thread nD τ).loc main_arg2)
abbrev aX : S8192x1024.Idx → EReal := m ((c : Thread nD τ).loc main_arg3)
abbrev aG : S2x1024.Idx → EReal := m ((c : Thread nD τ).loc main_arg4)
abbrev aL : S1024.Idx → EReal := m ((c : Thread nD τ).loc main_arg5)
abbrev aB : S1024.Idx → EReal := m ((c : Thread nD τ).loc main_arg6)

/-- The product of the rows of a tile from one on. -/
theorem prod (t : Fin cfg0.N) (o : ℕ) (ho : o ≤ 256) (ia : ∀ a, (![o, 0] : Fin 2 → ℕ) a + S256x512.size a ≤ S512x512.size a)
    (ib : ∀ a, (![o, 0] : Fin 2 → ℕ) a + S256x1024.size a ≤ S512x1024.size a) (p : Fin 256) (q : Fin 1024) :
    k0_pay2 (View.ld (iblk m c 0 t) (Rect.unit (s := S512x512) ![o, 0] S256x512.size ia)) (View.ld (iblk m c 2 t) r0_1)
      (View.ld (iblk m c 1 t) (Rect.unit (s := S512x1024) ![o, 0] S256x1024.size ib)) (View.ld (iblk m c 2 t) r0_3) (ix2 p q)
      = y (aA m c) (aA' m c) (aW m c) (512 * t.val + (o + p)) q := by
  rw [pay2]
  refine congrArg₂ HAdd.hAdd ?_ ?_
  · refine Finset.sum_congr rfl fun k hk => ?_
    have hk := Finset.mem_range.mp hk
    refine congrArg₂ HMul.hMul ?_ ?_
    · rw [rd_lt (a := 256) (b := 512) _ p.isLt hk]
      refine (ld_rd (a := 512) (b := 512) (iblk m c 0 t) o 0 _ _).trans ?_
      refine (blk_0 m c t (by show o + p.val < 512; omega) (by show 0 + k < 512; omega)).trans ?_
      show rd _ (512 * t.val + (o + p.val)) (0 + k) = _
      rw [Nat.zero_add]
    · rw [rd_lt (a := 512) (b := 1024) _ hk q.isLt]
      refine (ld_rd (a := 1536) (b := 1024) (iblk m c 2 t) 0 0 _ _).trans ?_
      refine (blk_2 m c t (by show 0 + k < 1536; omega) (by show 0 + q.val < 1024; omega)).trans ?_
      show rd _ (0 + k) (0 + q.val) = _
      rw [Nat.zero_add, Nat.zero_add]
  · refine Finset.sum_congr rfl fun k hk => ?_
    have hk := Finset.mem_range.mp hk
    refine congrArg₂ HMul.hMul ?_ ?_
    · rw [rd_lt (a := 256) (b := 1024) _ p.isLt hk]
      refine (ld_rd (a := 512) (b := 1024) (iblk m c 1 t) o 0 _ _).trans ?_
      refine (blk_1 m c t (by show o + p.val < 512; omega) (by show 0 + k < 1024; omega)).trans ?_
      show rd _ (512 * t.val + (o + p.val)) (0 + k) = _
      rw [Nat.zero_add]
    · rw [rd_lt (a := 1024) (b := 1024) _ hk q.isLt]
      refine (ld_rd (a := 1536) (b := 1024) (iblk m c 2 t) 512 0 _ _).trans ?_
      refine (blk_2 m c t (by show 512 + k < 1536; omega) (by show 0 + q.val < 1024; omega)).trans ?_
      show rd _ (512 + k) (0 + q.val) = _
      rw [Nat.zero_add]

/-- The residual's rows of a tile from one on. -/
theorem res (t : Fin cfg0.N) (o : ℕ) (ho : o ≤ 256) (ix : ∀ a, (![o, 0] : Fin 2 → ℕ) a + S256x1024.size a ≤ S512x1024.size a) (p : Fin 256) (q : Fin 1024) :
    View.ld (iblk m c 3 t : Vec Ideal S512x1024 .f32) (Rect.unit (s := S512x1024) ![o, 0] S256x1024.size ix) (ix2 p q) = rd (a := 8192) (b := 1024) (aX m c) (512 * t.val + (o + p)) q := by
  refine (ld_rd (a := 512) (b := 1024) (iblk m c 3 t) o 0 _ _).trans ?_
  refine (blk_3 m c t (by show o + p.val < 512; omega) (by show 0 + q.val < 1024; omega)).trans ?_
  show rd _ (512 * t.val + (o + p.val)) (0 + q.val) = _
  rw [Nat.zero_add]

theorem gate (t : Fin cfg0.N) (r : ℕ) (hr : r < 512) (q : Fin 1024) :
    View.ld (iblk m c 4 t) r0_4 (ix3 0 0 q) = rd (a := 2) (b := 1024) (aG m c) ((512 * t.val + r) / 4096) q := by
  rw [show (512 * t.val + r) / 4096 = t.val / 8 by omega, ← blk_4 m c t q]
  exact congrArg (iblk m c 4 t) (funext fun a => Fin.ext ((Rect.idx_unit_val (s := S1x1x1024) _ _ _ _ a).trans (by fin_cases a <;> simp)))

theorem scale (t : Fin cfg0.N) (q : Fin 1024) : View.ld (iblk m c 5 t) r0_5 (ix2 0 q) = aL m c (ix1 q) := by
  refine Eq.trans ?_ (blk_5 m c t q)
  exact congrArg (iblk m c 5 t) (funext fun a => Fin.ext ((Rect.idx_unit_val (s := S1x1024) _ _ _ _ a).trans (by fin_cases a <;> simp)))

theorem bias (t : Fin cfg0.N) (q : Fin 1024) : View.ld (iblk m c 6 t) r0_5 (ix2 0 q) = aB m c (ix1 q) := by
  refine Eq.trans ?_ (blk_6 m c t q)
  exact congrArg (iblk m c 6 t) (funext fun a => Fin.ext ((Rect.idx_unit_val (s := S1x1024) _ _ _ _ a).trans (by fin_cases a <;> simp)))

/-- What a point leaves of the normed rows. -/
theorem tile_7 (t : Fin cfg0.N) (p : Fin 512) (q : Fin 1024) :
    ((dats m 0 c).after 7 t : Vec Ideal S512x1024 .f32) (ix2 p q) = xn (aA m c) (aA' m c) (aW m c) (aX m c) (aG m c) (aL m c) (aB m c) (512 * t.val + p) q := by
  rw [after0_7]
  unfold out0_7
  canon_tiles x hx
  · rw [show x = ix2 (x 0) (x 1) from eq_ix2 x]
    refine (pay1 _ _ _ _ _ _ _ _ _ _ _ _ _ _ (512 * t.val + (256 + (x 0).val)) (prod m c t 256 (by omega) _ _ _) (res m c t 256 (by omega) _ _) (gate m c t _ (by omega)) _ _ (scale m c t) (bias m c t) _).trans ?_
    have e0 : p.val = 256 + (x 0).val := hx0
    rw [← e0]
    exact congrArg _ (Fin.ext hx1.symm)
  · rw [show x = ix2 (x 0) (x 1) from eq_ix2 x]
    refine (pay7 _ _ _ _ _ _ _ _ _ _ _ _ _ _ (512 * t.val + (0 + (x 0).val)) (prod m c t 0 (by omega) _ _ _) (res m c t 0 (by omega) _ _) (gate m c t _ (by omega)) _ _ (scale m c t) (bias m c t) _).trans ?_
    have e0 : p.val = 0 + (x 0).val := hx0.trans (Nat.zero_add _).symm
    rw [← e0]
    exact congrArg _ (Fin.ext hx1.symm)

/-- What a point leaves of the product. -/
theorem tile_8 (t : Fin cfg0.N) (p : Fin 512) (q : Fin 1024) :
    ((dats m 0 c).after 8 t : Vec Ideal S512x1024 .f32) (ix2 p q) = y (aA m c) (aA' m c) (aW m c) (512 * t.val + p) q := by
  rw [after0_8]
  unfold out0_8
  canon_tiles x hx
  · rw [show x = ix2 (x 0) (x 1) from eq_ix2 x]
    refine (prod m c t 256 (by omega) _ _ _ _).trans ?_
    have e0 : p.val = 256 + (x 0).val := hx0
    have e1 : q.val = (x 1).val := hx1
    rw [← e0, ← e1]
  · rw [show x = ix2 (x 0) (x 1) from eq_ix2 x]
    refine (prod m c t 0 (by omega) _ _ _ _).trans ?_
    have e0 : p.val = 0 + (x 0).val := hx0.trans (Nat.zero_add _).symm
    have e1 : q.val = (x 1).val := hx1
    rw [← e0, ← e1]

/-- What the kernel leaves: the normed rows. -/
theorem final_7 : (dats m 0 c).arrAt 7 cfg0.N = fun j : S8192x1024.Idx => xn (aA m c) (aA' m c) (aW m c) (aX m c) (aG m c) (aL m c) (aB m c) (j 0).val (j 1) := by
  refine (dats m 0 c).arrAt_eq_of_covers 7 _ (by decide +kernel) fun t hf y => ?_
  blk_simp [at_7]
  obtain ⟨p, q, rfl⟩ : ∃ (p : Fin 512) (q : Fin 1024), y = ix2 p q := ⟨y 0, y 1, eq_ix2 y⟩
  refine (tile_7 m c t p q).trans ?_
  show xn _ _ _ _ _ _ _ _ q = xn _ _ _ _ _ _ _ (t.val * 512 + p.val) _
  rw [Nat.mul_comm]
  exact congrArg _ (Fin.ext (by blk_simp [at_7]))

/-- What the kernel leaves: the product. -/
theorem final_8 : (dats m 0 c).arrAt 8 cfg0.N = fun j : S8192x1024.Idx => y (aA m c) (aA' m c) (aW m c) (j 0).val (j 1).val := by
  refine (dats m 0 c).arrAt_eq_of_covers 8 _ (by decide +kernel) fun t hf z => ?_
  blk_simp [at_8]
  obtain ⟨p, q, rfl⟩ : ∃ (p : Fin 512) (q : Fin 1024), z = ix2 p q := ⟨z 0, z 1, eq_ix2 z⟩
  refine (tile_8 m c t p q).trans ?_
  show y _ _ _ _ q.val = y _ _ _ (t.val * 512 + p.val) _
  rw [Nat.mul_comm]
  simp

/-! ## The reference -/

section Ref
open Cert.ReferenceMixOutOddIdeal.Read

variable (A : S8192x512.Idx → EReal) (A' : S8192x1024.Idx → EReal) (W : S1536x1024.Idx → EReal) (X : S8192x1024.Idx → EReal) (G : S2x1024.Idx → EReal) (L B : S1024.Idx → EReal)

theorem cat_left (j : Cert.ReferenceMixOutOddIdeal.S8192x1536.Idx) (k : ℕ) (h : (j 1).val = k) (hk : k < 512) : val_main_v0 (F := Ideal) A A' j = rd (a := 8192) (b := 512) A (j 0).val k := by
  unfold val_main_v0
  refine (concatenate_pair_apply_left (t := Cert.ReferenceMixOutOddIdeal.S8192x1536) (s₁ := S8192x512) (1 : Fin 2) _ _ _ _ rfl (ix2 (j 0) ⟨k, hk⟩) fun b => ?_).trans (rd_of (a := 8192) (b := 512) A _ rfl rfl)
  match b with
  | ⟨0, _⟩ => rfl
  | ⟨1, _⟩ => exact h.symm

theorem cat_right (j : Cert.ReferenceMixOutOddIdeal.S8192x1536.Idx) (k : ℕ) (h : (j 1).val = 512 + k) (hk : k < 1024) : val_main_v0 (F := Ideal) A A' j = rd (a := 8192) (b := 1024) A' (j 0).val k := by
  unfold val_main_v0
  refine (concatenate_pair_apply_right (t := Cert.ReferenceMixOutOddIdeal.S8192x1536) (s₁ := S8192x512) (s₂ := S8192x1024) (1 : Fin 2) _ _ _ _ rfl rfl (ix2 (j 0) ⟨k, hk⟩) (fun b hb => ?_) ?_).trans
    (rd_of (a := 8192) (b := 1024) A' _ rfl rfl)
  · match b with
    | ⟨0, _⟩ => rfl
    | ⟨1, _⟩ => exact absurd rfl hb
  · show k + 512 = (j 1).val
    omega

theorem ref_y (s : Fin 2) (p : Fin 4096) (q : Fin 1024) : val_main_v4 (F := Ideal) A A' W (ix3 s p q) = y A A' W (4096 * s + p) q := by
  have er : ∀ k : Fin 1536, ((s.val * 4096 + p.val) * 1536 + k.val) / 1536 = 4096 * s.val + p.val := fun k => by omega
  have ek : ∀ k : Fin 1536, ((s.val * 4096 + p.val) * 1536 + k.val) % 1536 = k.val := fun k => by omega
  rw [val_main_v4_apply, y, Finset.sum_range, Finset.sum_range]
  refine (Fin.sum_univ_add (a := 512) (b := 1024) _).trans (congrArg₂ HAdd.hAdd (Finset.sum_congr rfl fun k _ => ?_) (Finset.sum_congr rfl fun k _ => ?_))
  · refine congrArg₂ HMul.hMul ?_ ?_
    · rw [val_main_v2_apply, val_main_v1_apply]
      refine (cat_left A A' _ k.val (ek _) k.isLt).trans ?_
      exact congrArg (fun r => rd (a := 8192) (b := 512) A r k) (er _)
    · exact rd_of (a := 1536) (b := 1024) W _ rfl rfl
  · refine congrArg₂ HMul.hMul ?_ ?_
    · rw [val_main_v2_apply, val_main_v1_apply]
      refine (cat_right A A' _ k.val (ek _) k.isLt).trans ?_
      exact congrArg (fun r => rd (a := 8192) (b := 1024) A' r k) (er _)
    · exact rd_of (a := 1536) (b := 1024) W _ rfl rfl

theorem ref_v (s : Fin 2) (p : Fin 4096) (q : Fin 1024) : val_main_v13 (F := Ideal) A A' W X G (ix3 s p q) = v A A' W X G (4096 * s + p) q := by
  rw [val_main_v13_apply, val_main_v7_apply, val_main_v12_apply, val_main_v11_apply, val_main_v10_apply, val_main_v8_apply, val_main_v5_apply, ref_y, val_main_v6_apply,
    val_main_v9_apply, val_main_cst_apply, val_main_cst_0_apply]
  have h1 : X (idx_main_v5 (ix3 s p q)) = rd (a := 8192) (b := 1024) X (4096 * s + p) q :=
    rd_of (a := 8192) (b := 1024) X _ (show ((s.val * 4096 + p.val) * 1024 + q.val) / 1024 = 4096 * s.val + p.val by omega)
      (show ((s.val * 4096 + p.val) * 1024 + q.val) % 1024 = q.val by omega)
  have h2 : G (idx_main_v8 (idx_main_v11 (ix3 s p q))) = rd (a := 2) (b := 1024) G ((4096 * s + p) / 4096) q :=
    rd_of (a := 2) (b := 1024) G _ (show s.val = (4096 * s.val + p.val) / 4096 by omega) rfl
  rw [h1, h2, v]
  have h3 : Ideal.ofBits .f32 0x3F800000#32 = 1 := by pointwise
  rw [← h3]
  rfl

theorem ref_d (s : Fin 2) (p : Fin 4096) (q : Fin 1024) : val_main_v19 (F := Ideal) A A' W X G (ix3 s p q) = d A A' W X G (4096 * s + p) q := by
  have hm : val_main_v14 (F := Ideal) A A' W X G (idx_main_v15 (idx_main_v18 (ix3 s p q))) = ∑ x : Fin 1024, v A A' W X G (4096 * s + p) x := by
    rw [val_main_v14_apply, val_main_cst_1_apply]
    refine Eq.trans ?_ (zero_add _)
    refine congrArg₂ HAdd.hAdd (by pointwise) (Finset.sum_congr rfl fun k _ => ?_)
    exact (congrArg (val_main_v13 (F := Ideal) A A' W X G) (eq_ix3 _)).trans (ref_v A A' W X G s p k)
  rw [val_main_v19_apply, val_main_v18_apply, val_main_v17_apply, val_main_v15_apply, hm, val_main_v16_apply, val_main_cst_2_apply, ref_v, d]
  rfl

theorem ref_rs (s : Fin 2) (p : Fin 4096) : val_main_v27 (F := Ideal) A A' W X G (ix3 s p 0) = rs A A' W X G (4096 * s + p) := by
  have hm : val_main_v21 (F := Ideal) A A' W X G (idx_main_v22 (ix3 s p 0)) = ∑ x : Fin 1024, d A A' W X G (4096 * s + p) x * d A A' W X G (4096 * s + p) x := by
    rw [val_main_v21_apply, val_main_cst_3_apply]
    refine Eq.trans ?_ (zero_add _)
    refine congrArg₂ HAdd.hAdd (by pointwise) (Finset.sum_congr rfl fun k _ => ?_)
    have hk : val_main_v19 (F := Ideal) A A' W X G (idx_main_v21 (idx_main_v22 (ix3 s p 0)) k) = d A A' W X G (4096 * s + p) k :=
      (congrArg (val_main_v19 (F := Ideal) A A' W X G) (eq_ix3 _)).trans (ref_d A A' W X G s p k)
    rw [val_main_v20_apply, hk]
    rfl
  rw [val_main_v27_apply, val_main_v26_apply, val_main_v24_apply, val_main_v22_apply, hm, val_main_v23_apply, val_main_v25_apply, val_main_cst_4_apply, val_main_cst_5_apply, rs]
  rfl

theorem ref_xn (s : Fin 2) (p : Fin 4096) (q : Fin 1024) : val_main_v35 (F := Ideal) A A' W X G L B (ix3 s p q) = xn A A' W X G L B (4096 * s + p) q := by
  have h1 : val_main_v27 (F := Ideal) A A' W X G (idx_main_v28 (ix3 s p q)) = rs A A' W X G (4096 * s + p) :=
    (congrArg (val_main_v27 (F := Ideal) A A' W X G) (eq_ix3 _)).trans (ref_rs A A' W X G s p)
  rw [val_main_v35_apply, val_main_v32_apply, val_main_v29_apply, val_main_v28_apply, val_main_v31_apply, val_main_v30_apply, val_main_v34_apply, val_main_v33_apply, h1, ref_d, xn]
  refine congrArg₂ HAdd.hAdd (congrArg₂ HMul.hMul rfl (congrArg L ?_)) (congrArg B ?_)
  · exact eq_ix1 _
  · exact eq_ix1 _

end Ref

variable {A : S8192x512.Idx → EReal} {A' : S8192x1024.Idx → EReal} {W : S1536x1024.Idx → EReal} {X : S8192x1024.Idx → EReal} {G : S2x1024.Idx → EReal} {L B : S1024.Idx → EReal}

open Cert.ReferenceMixOutOddIdeal.Read in
/-- The kernel leaves the reference's normed rows. -/
theorem out0 (h0 : m ((c : Thread nD τ).loc main_arg0) = A) (h1 : m ((c : Thread nD τ).loc main_arg1) = A') (h2 : m ((c : Thread nD τ).loc main_arg2) = W) (h3 : m ((c : Thread nD τ).loc main_arg3) = X)
    (h4 : m ((c : Thread nD τ).loc main_arg4) = G) (h5 : m ((c : Thread nD τ).loc main_arg5) = L) (h6 : m ((c : Thread nD τ).loc main_arg6) = B) :
    (dats m 0 c).arrAt 7 cfg0.N = val_main_v36 (F := Ideal) A A' W X G L B := by
  subst h0 h1 h2 h3 h4 h5 h6
  rw [final_7]
  funext j
  have hr : (j 0).val < 8192 := (j 0).isLt
  have hq : (j 1).val < 1024 := (j 1).isLt
  have e : idx_main_v36 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v36_apply, e]
  refine Eq.trans ?_ (ref_xn _ _ _ _ _ _ _ _ _ _).symm
  show xn _ _ _ _ _ _ _ (j 0).val _ = xn _ _ _ _ _ _ _ (4096 * ((j 0).val / 4096) + (j 0).val % 4096) _
  rw [Nat.div_add_mod]

open Cert.ReferenceMixOutOddIdeal.Read in
/-- The kernel leaves the reference's product. -/
theorem out1 (h0 : m ((c : Thread nD τ).loc main_arg0) = A) (h1 : m ((c : Thread nD τ).loc main_arg1) = A') (h2 : m ((c : Thread nD τ).loc main_arg2) = W) :
    (dats m 0 c).arrAt 8 cfg0.N = val_main_v37 (F := Ideal) A A' W := by
  subst h0 h1 h2
  rw [final_8]
  funext j
  have hr : (j 0).val < 8192 := (j 0).isLt
  have hq : (j 1).val < 1024 := (j 1).isLt
  have e : idx_main_v37 j = ix3 (n0 := 2) (n1 := 4096) (n2 := 1024) ⟨(j 0).val / 4096, by omega⟩ ⟨(j 0).val % 4096, by omega⟩ (j 1) := by
    funext a
    match a with
    | ⟨0, _⟩ => exact Fin.ext (show ((j 0).val * 1024 + (j 1).val) / 4194304 = (j 0).val / 4096 by omega)
    | ⟨1, _⟩ => exact Fin.ext (show ((j 0).val * 1024 + (j 1).val) / 1024 % 4096 = (j 0).val % 4096 by omega)
    | ⟨2, _⟩ => exact Fin.ext (show ((j 0).val * 1024 + (j 1).val) % 1024 = (j 1).val by omega)
  rw [val_main_v37_apply, e]
  refine Eq.trans ?_ (ref_y _ _ _ _ _ _).symm
  show y _ _ _ (j 0).val _ = y _ _ _ (4096 * ((j 0).val / 4096) + (j 0).val % 4096) _
  rw [Nat.div_add_mod]

/-- The kernel and the reference leave the same. -/
theorem value : Cert.algebraic_MixOutOddIdeal_ReferenceMixOutOddIdeal := by
  intro m g m' g' _ he
  refine ⟨fun c => (dats m 0 c).arrAt 7 cfg0.N, fun c => (dats m 0 c).arrAt 8 cfg0.N, ?_, ?_⟩
  · exact (θ_run defs _ _).mono (fun r h c => ⟨(h c).1 7, (h c).1 8,
      ((h c).1 0).trans (((dats m 0 c).arrAt_in 0 rfl _).trans ((rfl).trans (V_main_arg0 m c))),
      ((h c).1 1).trans (((dats m 0 c).arrAt_in 1 rfl _).trans ((rfl).trans (V_main_arg1 m c))),
      ((h c).1 2).trans (((dats m 0 c).arrAt_in 2 rfl _).trans ((rfl).trans (V_main_arg2 m c))),
      ((h c).1 3).trans (((dats m 0 c).arrAt_in 3 rfl _).trans ((rfl).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main (F := Ideal) m g)
  · refine (θ_run Cert.ReferenceMixOutOddIdeal.defs _ _).mono (fun r h c => ?_) (Cert.ReferenceMixOutOddIdeal.Value.run (F := Ideal) m' g')
    obtain ⟨h0, h1, ha⟩ := h c
    obtain ⟨e0, e1, e2, e3, e4, e5, e6⟩ := he c
    exact ⟨h0.trans ((Cert.ReferenceMixOutOddIdeal.Read.val_main_v36_eq m' c).trans (Cert.MixOutOddV.out0 m c e0.symm e1.symm e2.symm e3.symm e4.symm e5.symm e6.symm).symm), h1.trans ((Cert.ReferenceMixOutOddIdeal.Read.val_main_v37_eq _ _ _).trans (Cert.MixOutOddV.out1 m c e0.symm e1.symm e2.symm).symm), ha⟩

end Cert.MixOutOddV
-- ==== Proof.lean ====
/-  The claims about the conformer's convolution and the feed-forward products, assembled.  -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.GradIn
public import proofs.«01_k».proof.Proof.Gen.GradIn.Skeleton
public import proofs.«01_k».proof.Proof.Gen.GradIn.Launch
public import proofs.«01_k».proof.Proof.Gen.GradIn.Points
public import proofs.«01_k».proof.Proof.Gen.GradIn.Frame
public import proofs.«01_k».proof.Proof.Gen.GradInIdeal
public import proofs.«01_k».proof.Proof.Gen.GradInIdeal.Skeleton
public import proofs.«01_k».proof.Proof.Gen.GradInIdeal.Launch
public import proofs.«01_k».proof.Proof.Gen.GradInIdeal.Points
public import proofs.«01_k».proof.Proof.Gen.GradInIdeal.Frame
public import proofs.«01_k».proof.Proof.Gen.ReferenceGradInIdeal
public import proofs.«01_k».proof.Proof.Gen.ReferenceGradInIdeal.Read
public import proofs.«01_k».proof.Proof.Gen.GradOut
public import proofs.«01_k».proof.Proof.Gen.GradOut.Skeleton
public import proofs.«01_k».proof.Proof.Gen.GradOut.Launch
public import proofs.«01_k».proof.Proof.Gen.GradOut.Points
public import proofs.«01_k».proof.Proof.Gen.GradOut.Frame
public import proofs.«01_k».proof.Proof.Gen.GradOutIdeal
public import proofs.«01_k».proof.Proof.Gen.GradOutIdeal.Skeleton
public import proofs.«01_k».proof.Proof.Gen.GradOutIdeal.Launch
public import proofs.«01_k».proof.Proof.Gen.GradOutIdeal.Points
public import proofs.«01_k».proof.Proof.Gen.GradOutIdeal.Frame
public import proofs.«01_k».proof.Proof.Gen.ReferenceGradOutIdeal
public import proofs.«01_k».proof.Proof.Gen.ReferenceGradOutIdeal.Read
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.ReferenceFfnUpIdeal
public import proofs.«01_k».proof.Proof.Gen.ReferenceFfnUpIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.ReferenceFfnDownIdeal
public import proofs.«01_k».proof.Proof.Gen.ReferenceFfnDownIdeal.Read
public import proofs.«01_k».proof.Proof.Gen.GradSq
public import proofs.«01_k».proof.Proof.Gen.GradSq.Skeleton
public import proofs.«01_k».proof.Proof.Gen.GradSq.Launch
public import proofs.«01_k».proof.Proof.Gen.GradSq.Points
public import proofs.«01_k».proof.Proof.Gen.GradSq.Frame
public import proofs.«01_k».proof.Proof.Gen.GradSqIdeal
public import proofs.«01_k».proof.Proof.Gen.GradSqIdeal.Skeleton
public import proofs.«01_k».proof.Proof.Gen.GradSqIdeal.Launch
public import proofs.«01_k».proof.Proof.Gen.GradSqIdeal.Points
public import proofs.«01_k».proof.Proof.Gen.GradSqIdeal.Frame
public import proofs.«01_k».proof.Proof.Gen.ReferenceGradSqIdeal
public import proofs.«01_k».proof.Proof.Gen.ReferenceGradSqIdeal.Read
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.ReferenceOddInIdeal
public import proofs.«01_k».proof.Proof.Gen.ReferenceOddInIdeal.Read
public import proofs.«01_k».proof.Proof.Gen.OddInBwd
public import proofs.«01_k».proof.Proof.Gen.OddInBwd.Skeleton
public import proofs.«01_k».proof.Proof.Gen.OddInBwd.Launch
public import proofs.«01_k».proof.Proof.Gen.OddInBwd.Points
public import proofs.«01_k».proof.Proof.Gen.OddInBwd.Frame
public import proofs.«01_k».proof.Proof.Gen.OddInBwdIdeal
public import proofs.«01_k».proof.Proof.Gen.OddInBwdIdeal.Skeleton
public import proofs.«01_k».proof.Proof.Gen.OddInBwdIdeal.Launch
public import proofs.«01_k».proof.Proof.Gen.OddInBwdIdeal.Points
public import proofs.«01_k».proof.Proof.Gen.OddInBwdIdeal.Frame
public import proofs.«01_k».proof.Proof.Gen.ReferenceOddInBwdIdeal
public import proofs.«01_k».proof.Proof.Gen.ReferenceOddInBwdIdeal.Read
public import proofs.«01_k».proof.Proof.Gen.FfnUpBwd
public import proofs.«01_k».proof.Proof.Gen.FfnUpBwd.Skeleton
public import proofs.«01_k».proof.Proof.Gen.FfnUpBwd.Launch
public import proofs.«01_k».proof.Proof.Gen.FfnUpBwd.Points
public import proofs.«01_k».proof.Proof.Gen.FfnUpBwd.Frame
public import proofs.«01_k».proof.Proof.Gen.FfnUpBwdIdeal
public import proofs.«01_k».proof.Proof.Gen.FfnUpBwdIdeal.Skeleton
public import proofs.«01_k».proof.Proof.Gen.FfnUpBwdIdeal.Launch
public import proofs.«01_k».proof.Proof.Gen.FfnUpBwdIdeal.Points
public import proofs.«01_k».proof.Proof.Gen.FfnUpBwdIdeal.Frame
public import proofs.«01_k».proof.Proof.Gen.Pre_ffn_finite
public import proofs.«01_k».proof.Proof.Gen.ReferenceFfnUpBwdIdeal
public import proofs.«01_k».proof.Proof.Gen.ReferenceFfnUpBwdIdeal.Read
public import proofs.«01_k».proof.Proof.Gen.FfnDownBwd
public import proofs.«01_k».proof.Proof.Gen.FfnDownBwd.Skeleton
public import proofs.«01_k».proof.Proof.Gen.FfnDownBwd.Launch
public import proofs.«01_k».proof.Proof.Gen.FfnDownBwd.Points
public import proofs.«01_k».proof.Proof.Gen.FfnDownBwd.Frame
public import proofs.«01_k».proof.Proof.Gen.FfnDownBwdIdeal
public import proofs.«01_k».proof.Proof.Gen.FfnDownBwdIdeal.Skeleton
public import proofs.«01_k».proof.Proof.Gen.FfnDownBwdIdeal.Launch
public import proofs.«01_k».proof.Proof.Gen.FfnDownBwdIdeal.Points
public import proofs.«01_k».proof.Proof.Gen.FfnDownBwdIdeal.Frame
public import proofs.«01_k».proof.Proof.Gen.Pre_norm_finite
public import proofs.«01_k».proof.Proof.Gen.ReferenceFfnDownBwdIdeal
public import proofs.«01_k».proof.Proof.Gen.ReferenceFfnDownBwdIdeal.Read
public import proofs.«01_k».proof.Proof.Gen.EvIn
public import proofs.«01_k».proof.Proof.Gen.EvIn.Skeleton
public import proofs.«01_k».proof.Proof.Gen.EvIn.Launch
public import proofs.«01_k».proof.Proof.Gen.EvIn.Points
public import proofs.«01_k».proof.Proof.Gen.EvIn.Frame
public import proofs.«01_k».proof.Proof.Gen.EvInIdeal
public import proofs.«01_k».proof.Proof.Gen.EvInIdeal.Skeleton
public import proofs.«01_k».proof.Proof.Gen.EvInIdeal.Launch
public import proofs.«01_k».proof.Proof.Gen.EvInIdeal.Points
public import proofs.«01_k».proof.Proof.Gen.EvInIdeal.Frame
public import proofs.«01_k».proof.Proof.Gen.ReferenceEvInIdeal
public import proofs.«01_k».proof.Proof.Gen.ReferenceEvInIdeal.Read
public import proofs.«01_k».proof.Proof.Gen.EvInBwd
public import proofs.«01_k».proof.Proof.Gen.EvInBwd.Skeleton
public import proofs.«01_k».proof.Proof.Gen.EvInBwd.Launch
public import proofs.«01_k».proof.Proof.Gen.EvInBwd.Points
public import proofs.«01_k».proof.Proof.Gen.EvInBwd.Frame
public import proofs.«01_k».proof.Proof.Gen.EvInBwdIdeal
public import proofs.«01_k».proof.Proof.Gen.EvInBwdIdeal.Skeleton
public import proofs.«01_k».proof.Proof.Gen.EvInBwdIdeal.Launch
public import proofs.«01_k».proof.Proof.Gen.EvInBwdIdeal.Points
public import proofs.«01_k».proof.Proof.Gen.EvInBwdIdeal.Frame
public import proofs.«01_k».proof.Proof.Gen.ReferenceEvInBwdIdeal
public import proofs.«01_k».proof.Proof.Gen.ReferenceEvInBwdIdeal.Read
public import proofs.«01_k».proof.Proof.Gen.GradXbc
public import proofs.«01_k».proof.Proof.Gen.GradXbc.Skeleton
public import proofs.«01_k».proof.Proof.Gen.GradXbc.Launch
public import proofs.«01_k».proof.Proof.Gen.GradXbc.Points
public import proofs.«01_k».proof.Proof.Gen.GradXbc.Frame
public import proofs.«01_k».proof.Proof.Gen.GradXbcIdeal
public import proofs.«01_k».proof.Proof.Gen.GradXbcIdeal.Skeleton
public import proofs.«01_k».proof.Proof.Gen.GradXbcIdeal.Launch
public import proofs.«01_k».proof.Proof.Gen.GradXbcIdeal.Points
public import proofs.«01_k».proof.Proof.Gen.GradXbcIdeal.Frame
public import proofs.«01_k».proof.Proof.Gen.ReferenceGradXbcIdeal
public import proofs.«01_k».proof.Proof.Gen.ReferenceGradXbcIdeal.Read
public import proofs.«01_k».proof.Proof.Gen.GradPool
public import proofs.«01_k».proof.Proof.Gen.GradPool.Skeleton
public import proofs.«01_k».proof.Proof.Gen.GradPool.Launch
public import proofs.«01_k».proof.Proof.Gen.GradPool.Points
public import proofs.«01_k».proof.Proof.Gen.GradPool.Frame
public import proofs.«01_k».proof.Proof.Gen.GradPoolIdeal
public import proofs.«01_k».proof.Proof.Gen.GradPoolIdeal.Skeleton
public import proofs.«01_k».proof.Proof.Gen.GradPoolIdeal.Launch
public import proofs.«01_k».proof.Proof.Gen.GradPoolIdeal.Points
public import proofs.«01_k».proof.Proof.Gen.GradPoolIdeal.Frame
public import proofs.«01_k».proof.Proof.Gen.ReferenceGradPoolIdeal
public import proofs.«01_k».proof.Proof.Gen.ReferenceGradPoolIdeal.Read
public import proofs.«01_k».proof.Proof.Gen.GradDt
public import proofs.«01_k».proof.Proof.Gen.GradDt.Skeleton
public import proofs.«01_k».proof.Proof.Gen.GradDt.Launch
public import proofs.«01_k».proof.Proof.Gen.GradDt.Points
public import proofs.«01_k».proof.Proof.Gen.GradDt.Frame
public import proofs.«01_k».proof.Proof.Gen.GradDtIdeal
public import proofs.«01_k».proof.Proof.Gen.GradDtIdeal.Skeleton
public import proofs.«01_k».proof.Proof.Gen.GradDtIdeal.Launch
public import proofs.«01_k».proof.Proof.Gen.GradDtIdeal.Points
public import proofs.«01_k».proof.Proof.Gen.GradDtIdeal.Frame
public import proofs.«01_k».proof.Proof.Gen.ReferenceGradDtIdeal
public import proofs.«01_k».proof.Proof.Gen.ReferenceGradDtIdeal.Read
public import proofs.«01_k».proof.Proof.Gen.GradMix
public import proofs.«01_k».proof.Proof.Gen.GradMix.Skeleton
public import proofs.«01_k».proof.Proof.Gen.GradMix.Launch
public import proofs.«01_k».proof.Proof.Gen.GradMix.Points
public import proofs.«01_k».proof.Proof.Gen.GradMix.Frame
public import proofs.«01_k».proof.Proof.Gen.GradMixIdeal
public import proofs.«01_k».proof.Proof.Gen.GradMixIdeal.Skeleton
public import proofs.«01_k».proof.Proof.Gen.GradMixIdeal.Launch
public import proofs.«01_k».proof.Proof.Gen.GradMixIdeal.Points
public import proofs.«01_k».proof.Proof.Gen.GradMixIdeal.Frame
public import proofs.«01_k».proof.Proof.Gen.ReferenceGradMixIdeal
public import proofs.«01_k».proof.Proof.Gen.ReferenceGradMixIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.ReferenceMixOutIdeal
public import proofs.«01_k».proof.Proof.Gen.ReferenceMixOutIdeal.Read
public import proofs.«01_k».proof.Proof.Gen.MixOutOdd
public import proofs.«01_k».proof.Proof.Gen.MixOutOdd.Skeleton
public import proofs.«01_k».proof.Proof.Gen.MixOutOdd.Launch
public import proofs.«01_k».proof.Proof.Gen.MixOutOdd.Points
public import proofs.«01_k».proof.Proof.Gen.MixOutOdd.Frame
public import proofs.«01_k».proof.Proof.Gen.MixOutOddIdeal
public import proofs.«01_k».proof.Proof.Gen.MixOutOddIdeal.Skeleton
public import proofs.«01_k».proof.Proof.Gen.MixOutOddIdeal.Launch
public import proofs.«01_k».proof.Proof.Gen.MixOutOddIdeal.Points
public import proofs.«01_k».proof.Proof.Gen.MixOutOddIdeal.Frame
public import proofs.«01_k».proof.Proof.Gen.ReferenceMixOutOddIdeal
public import proofs.«01_k».proof.Proof.Gen.ReferenceMixOutOddIdeal.Read
public import proofs.«01_k».proof.Proof.Value
public import proofs.«01_k».proof.Proof.GradInValue
public import proofs.«01_k».proof.Proof.GradOutValue
public import proofs.«01_k».proof.Proof.FfnUpValue
public import proofs.«01_k».proof.Proof.FfnDownValue
public import proofs.«01_k».proof.Proof.GradSqValue
public import proofs.«01_k».proof.Proof.OddInValue
public import proofs.«01_k».proof.Proof.OddInBwdValue
public import proofs.«01_k».proof.Proof.FfnUpBwdValue
public import proofs.«01_k».proof.Proof.FfnDownBwdValue
public import proofs.«01_k».proof.Proof.EvInValue
public import proofs.«01_k».proof.Proof.EvInBwdValue
public import proofs.«01_k».proof.Proof.GradXbcValue
public import proofs.«01_k».proof.Proof.GradPoolValue
public import proofs.«01_k».proof.Proof.GradDtValue
public import proofs.«01_k».proof.Proof.GradMixValue
public import proofs.«01_k».proof.Proof.MixOutValue
public import proofs.«01_k».proof.Proof.MixOutOddValue
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel runs and leaves its arguments. -/
theorem frame_kernel : Cert.quiescent_Kernel := fun m ρ _ => Cert.Kernel.Gen.frame m ρ

/-- The kernel read over the extended reals runs and leaves its arguments. -/
theorem frame_ideal : Cert.quiescent_KernelIdeal := fun m ρ _ => Cert.Conf.run_frame (F := Ideal) m ρ

/-- The reference runs, leaves its arguments, and has no counters. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩) (Cert.ReferenceIdeal.Value.run (F := Ideal) m ρ)

/-- The two programs' results agree. -/
theorem value : Cert.algebraic_KernelIdeal_ReferenceIdeal := by
  intro m g m' g' _ he
  refine ⟨fun c => Cert.KernelIdeal.Gen.W4 m g c (Proc.devRef .tc Cert.KernelIdeal.main_v6_0), fun c => Cert.KernelIdeal.Gen.W4 m g c (Proc.devRef .tc Cert.KernelIdeal.main_v6_1),
    fun c => Cert.KernelIdeal.Gen.W4 m g c (Proc.devRef .tc Cert.KernelIdeal.main_v6_2), fun c => Cert.KernelIdeal.Gen.W4 m g c (Proc.devRef .tc Cert.KernelIdeal.main_v6_3),
    fun c => Cert.KernelIdeal.Gen.W4 m g c (Proc.devRef .tc Cert.KernelIdeal.main_v6_4), ?_, ?_⟩
  · refine (θ_run Cert.KernelIdeal.defs _ _).mono (fun r h c => ?_) (Cert.Conf.run_main (F := Ideal) m g)
    exact ⟨h.1 c _ (Cert.KernelIdeal.Gen.mem_uc Cert.KernelIdeal.main_v6_0 (by decide)), h.1 c _ (Cert.KernelIdeal.Gen.mem_uc Cert.KernelIdeal.main_v6_1 (by decide)),
      h.1 c _ (Cert.KernelIdeal.Gen.mem_uc Cert.KernelIdeal.main_v6_2 (by decide)), h.1 c _ (Cert.KernelIdeal.Gen.mem_uc Cert.KernelIdeal.main_v6_3 (by decide)),
      h.1 c _ (Cert.KernelIdeal.Gen.mem_uc Cert.KernelIdeal.main_v6_4 (by decide)),
      (h.1 c _ (Cert.KernelIdeal.Gen.mem_uc Cert.KernelIdeal.main_arg0 (by decide))).trans (Cert.KernelIdeal.Gen.W4_main_arg0 m g c),
      (h.1 c _ (Cert.KernelIdeal.Gen.mem_uc Cert.KernelIdeal.main_arg1 (by decide))).trans (Cert.KernelIdeal.Gen.W4_main_arg1 m g c),
      (h.1 c _ (Cert.KernelIdeal.Gen.mem_uc Cert.KernelIdeal.main_arg2 (by decide))).trans (Cert.KernelIdeal.Gen.W4_main_arg2 m g c),
      (h.1 c _ (Cert.KernelIdeal.Gen.mem_uc Cert.KernelIdeal.main_arg3 (by decide))).trans (Cert.KernelIdeal.Gen.W4_main_arg3 m g c),
      (h.1 c _ (Cert.KernelIdeal.Gen.mem_uc Cert.KernelIdeal.main_arg4 (by decide))).trans (Cert.KernelIdeal.Gen.W4_main_arg4 m g c),
      (h.1 c _ (Cert.KernelIdeal.Gen.mem_uc Cert.KernelIdeal.main_arg5 (by decide))).trans (Cert.KernelIdeal.Gen.W4_main_arg5 m g c)⟩
  · refine (θ_run Cert.ReferenceIdeal.defs _ _).mono (fun r h c => ?_) (Cert.ReferenceIdeal.Value.run (F := Ideal) m' g')
    obtain ⟨h0, h1, h2, h3, h4, ha⟩ := h c
    obtain ⟨e0, e1, e2, e3, e4, e5⟩ := he c
    exact ⟨h0.trans ((Cert.ReferenceIdeal.Read.val_main_v290_eq (StableHlo.launchContents m' c)).trans (Cert.Conf.out0 m g c _ _ _ _ _ _ e0 e1 e2 e3 e4 e5).symm),
      h1.trans ((Cert.ReferenceIdeal.Read.val_main_v157_eq (StableHlo.launchContents m' c)).trans (Cert.Conf.out1 m g c _ _ _ _ _ _ e0 e1 e2 e3 e4 e5).symm),
      h2.trans ((Cert.ReferenceIdeal.Read.val_main_v291_eq (StableHlo.launchContents m' c)).trans (Cert.Conf.out2 m g c _ _ _ _ _ _ e0 e1 e2 e3 e4 e5).symm),
      h3.trans ((Cert.ReferenceIdeal.Read.val_main_v292_eq (StableHlo.launchContents m' c)).trans (Cert.Conf.out3 m g c _ _ _ _ _ _ e0 e1 e2 e3 e4 e5).symm),
      h4.trans ((Cert.ReferenceIdeal.Read.val_main_v293_eq (StableHlo.launchContents m' c)).trans (Cert.Conf.out4 m g c _ _ _ _ _ _ e0 e1 e2 e3 e4 e5).symm), ha⟩

/-- The kernel of the gradient at the feed-forward input weights runs and leaves its arguments. -/
theorem frame_GradIn : Cert.quiescent_GradIn := fun m ρ _ => Cert.GradIn.Gen.frame m ρ

/-- The same over the extended reals. -/
theorem frame_GradInIdeal : Cert.quiescent_GradInIdeal := fun m ρ _ => Cert.GradInIdeal.Gen.frame m ρ

/-- The reference of the gradient at the feed-forward input weights runs, leaves its arguments, and has no counters. -/
theorem frame_ReferenceGradIn : Cert.quiescent_ReferenceGradInIdeal := fun m ρ _ =>
  (θ_run Cert.ReferenceGradInIdeal.defs _ _).mono (fun r h => ⟨fun c => (h c).2, sem_eq_zero_of_no_sems (by decide) r.2⟩) (Cert.ReferenceGradInIdeal.Value.run (F := Ideal) m ρ)

/-- The kernel of the gradient at the feed-forward output weights runs and leaves its arguments. -/
theorem frame_GradOut : Cert.quiescent_GradOut := fun m ρ _ => Cert.GradOut.Gen.frame m ρ

/-- The same over the extended reals. -/
theorem frame_GradOutIdeal : Cert.quiescent_GradOutIdeal := fun m ρ _ => Cert.GradOutIdeal.Gen.frame m ρ

/-- The reference of the gradient at the feed-forward output weights runs, leaves its arguments, and has no counters. -/
theorem frame_ReferenceGradOut : Cert.quiescent_ReferenceGradOutIdeal := fun m ρ _ =>
  (θ_run Cert.ReferenceGradOutIdeal.defs _ _).mono (fun r h => ⟨fun c => (h c).2, sem_eq_zero_of_no_sems (by decide) r.2⟩) (Cert.ReferenceGradOutIdeal.Value.run (F := Ideal) m ρ)

/-- The kernel of the feed-forward input product runs and leaves its arguments. -/
theorem frame_FfnUp : Cert.quiescent_FfnUp := fun m ρ _ => Cert.FfnUp.Gen.frame m ρ

/-- The same over the extended reals. -/
theorem frame_FfnUpIdeal : Cert.quiescent_FfnUpIdeal := fun m ρ _ => Cert.FfnUpIdeal.Gen.frame m ρ

/-- The reference of the feed-forward input product runs, leaves its arguments, and has no counters. -/
theorem frame_ReferenceFfnUp : Cert.quiescent_ReferenceFfnUpIdeal := fun m ρ _ =>
  (θ_run Cert.ReferenceFfnUpIdeal.defs _ _).mono (fun r h => ⟨fun c => (h c).2.2.2.2, sem_eq_zero_of_no_sems (by decide) r.2⟩) (Cert.ReferenceFfnUpIdeal.Value.run (F := Ideal) m ρ)

/-- The kernel of the feed-forward output product and its normalisation runs and leaves its arguments. -/
theorem frame_FfnDown : Cert.quiescent_FfnDown := fun m ρ _ => Cert.FfnDown.Gen.frame m ρ

/-- The same over the extended reals. -/
theorem frame_FfnDownIdeal : Cert.quiescent_FfnDownIdeal := fun m ρ _ => Cert.FfnDownIdeal.Gen.frame m ρ

/-- The reference of the feed-forward output product and its normalisation runs, leaves its arguments, and has no counters. -/
theorem frame_ReferenceFfnDown : Cert.quiescent_ReferenceFfnDownIdeal := fun m ρ _ =>
  (θ_run Cert.ReferenceFfnDownIdeal.defs _ _).mono (fun r h => ⟨fun c => (h c).2.2, sem_eq_zero_of_no_sems (by decide) r.2⟩) (Cert.ReferenceFfnDownIdeal.Value.run (F := Ideal) m ρ)

/-- The kernel of the gradient at a square mixer weight runs and leaves its arguments. -/
theorem frame_GradSq : Cert.quiescent_GradSq := fun m ρ _ => Cert.GradSq.Gen.frame m ρ

/-- The same over the extended reals. -/
theorem frame_GradSqIdeal : Cert.quiescent_GradSqIdeal := fun m ρ _ => Cert.GradSqIdeal.Gen.frame m ρ

/-- The reference of the gradient at a square mixer weight runs, leaves its arguments, and has no counters. -/
theorem frame_ReferenceGradSq : Cert.quiescent_ReferenceGradSqIdeal := fun m ρ _ =>
  (θ_run Cert.ReferenceGradSqIdeal.defs _ _).mono (fun r h => ⟨fun c => (h c).2, sem_eq_zero_of_no_sems (by decide) r.2⟩) (Cert.ReferenceGradSqIdeal.Value.run (F := Ideal) m ρ)

/-- The kernel of the odd layers' input product runs and leaves its arguments. -/
theorem frame_OddIn : Cert.quiescent_OddIn := fun m ρ _ => Cert.OddIn.Gen.frame m ρ

/-- The same over the extended reals. -/
theorem frame_OddInIdeal : Cert.quiescent_OddInIdeal := fun m ρ _ => Cert.OddInIdeal.Gen.frame m ρ

/-- The reference of the odd layers' input product runs, leaves its arguments, and has no counters. -/
theorem frame_ReferenceOddIn : Cert.quiescent_ReferenceOddInIdeal := fun m ρ _ =>
  (θ_run Cert.ReferenceOddInIdeal.defs _ _).mono (fun r h => ⟨fun c => (h c).2.2.2.2, sem_eq_zero_of_no_sems (by decide) r.2⟩) (Cert.ReferenceOddInIdeal.Value.run (F := Ideal) m ρ)

/-- The kernel of the backward pass of the odd layers' input product runs and leaves its arguments. -/
theorem frame_OddInBwd : Cert.quiescent_OddInBwd := fun m ρ _ => Cert.OddInBwd.Gen.frame m ρ

/-- The same over the extended reals. -/
theorem frame_OddInBwdIdeal : Cert.quiescent_OddInBwdIdeal := fun m ρ _ => Cert.OddInBwdIdeal.Gen.frame m ρ

/-- The reference of the backward pass of the odd layers' input product runs, leaves its arguments, and has no counters. -/
theorem frame_ReferenceOddInBwd : Cert.quiescent_ReferenceOddInBwdIdeal := fun m ρ _ =>
  (θ_run Cert.ReferenceOddInBwdIdeal.defs _ _).mono (fun r h => ⟨fun c => (h c).2.2.2, sem_eq_zero_of_no_sems (by decide) r.2⟩) (Cert.ReferenceOddInBwdIdeal.Value.run (F := Ideal) m ρ)

/-- The kernel of the backward pass of the feed-forward input product runs and leaves its arguments. -/
theorem frame_FfnUpBwd : Cert.quiescent_FfnUpBwd := fun m ρ _ => Cert.FfnUpBwd.Gen.frame m ρ

/-- The same over the extended reals. -/
theorem frame_FfnUpBwdIdeal : Cert.quiescent_FfnUpBwdIdeal := fun m ρ _ => Cert.FfnUpBwdIdeal.Gen.frame m ρ

/-- The reference of the backward pass of the feed-forward input product runs, leaves its arguments, and has no counters. -/
theorem frame_ReferenceFfnUpBwd : Cert.quiescent_ReferenceFfnUpBwdIdeal := fun m ρ _ =>
  (θ_run Cert.ReferenceFfnUpBwdIdeal.defs _ _).mono (fun r h => ⟨fun c => (h c).2.2.2.2, sem_eq_zero_of_no_sems (by decide) r.2⟩) (Cert.ReferenceFfnUpBwdIdeal.Value.run (F := Ideal) m ρ)

/-- With the precondition. -/
theorem frame_FfnUpBwdIdeal_pre : Cert.quiescent_FfnUpBwdIdeal_pre_ffn_finite := fun m ρ _ => Cert.FfnUpBwdIdeal.Gen.frame m ρ

/-- With the precondition. -/
theorem frame_ReferenceFfnUpBwd_pre : Cert.quiescent_ReferenceFfnUpBwdIdeal_pre_ffn_finite := fun m ρ _ => frame_ReferenceFfnUpBwd m ρ trivial

/-- The kernel of the backward pass of the feed-forward output product and its normalisation runs and leaves its arguments. -/
theorem frame_FfnDownBwd : Cert.quiescent_FfnDownBwd := fun m ρ _ => Cert.FfnDownBwd.Gen.frame m ρ

/-- The same over the extended reals. -/
theorem frame_FfnDownBwdIdeal : Cert.quiescent_FfnDownBwdIdeal := fun m ρ _ => Cert.FfnDownBwdIdeal.Gen.frame m ρ

/-- The reference of the backward pass of the feed-forward output product and its normalisation runs, leaves its arguments, and has no counters. -/
theorem frame_ReferenceFfnDownBwd : Cert.quiescent_ReferenceFfnDownBwdIdeal := fun m ρ _ =>
  (θ_run Cert.ReferenceFfnDownBwdIdeal.defs _ _).mono (fun r h => ⟨fun c => (h c).2.2.2.2.2.2, sem_eq_zero_of_no_sems (by decide) r.2⟩) (Cert.ReferenceFfnDownBwdIdeal.Value.run (F := Ideal) m ρ)

/-- With the precondition. -/
theorem frame_FfnDownBwdIdeal_pre : Cert.quiescent_FfnDownBwdIdeal_pre_norm_finite := fun m ρ _ => Cert.FfnDownBwdIdeal.Gen.frame m ρ

/-- With the precondition. -/
theorem frame_ReferenceFfnDownBwd_pre : Cert.quiescent_ReferenceFfnDownBwdIdeal_pre_norm_finite := fun m ρ _ => frame_ReferenceFfnDownBwd m ρ trivial

/-- The kernel of the even layers' input product runs and leaves its arguments. -/
theorem frame_EvIn : Cert.quiescent_EvIn := fun m ρ _ => Cert.EvIn.Gen.frame m ρ

/-- The same over the extended reals. -/
theorem frame_EvInIdeal : Cert.quiescent_EvInIdeal := fun m ρ _ => Cert.EvInIdeal.Gen.frame m ρ

/-- The reference of the even layers' input product runs, leaves its arguments, and has no counters. -/
theorem frame_ReferenceEvIn : Cert.quiescent_ReferenceEvInIdeal := fun m ρ _ =>
  (θ_run Cert.ReferenceEvInIdeal.defs _ _).mono (fun r h => ⟨fun c => (h c).2.2.2.2.2, sem_eq_zero_of_no_sems (by decide) r.2⟩) (Cert.ReferenceEvInIdeal.Value.run (F := Ideal) m ρ)

/-- The kernel of the backward pass of the even layers' input product runs and leaves its arguments. -/
theorem frame_EvInBwd : Cert.quiescent_EvInBwd := fun m ρ _ => Cert.EvInBwd.Gen.frame m ρ

/-- The same over the extended reals. -/
theorem frame_EvInBwdIdeal : Cert.quiescent_EvInBwdIdeal := fun m ρ _ => Cert.EvInBwdIdeal.Gen.frame m ρ

/-- The reference of the backward pass of the even layers' input product runs, leaves its arguments, and has no counters. -/
theorem frame_ReferenceEvInBwd : Cert.quiescent_ReferenceEvInBwdIdeal := fun m ρ _ =>
  (θ_run Cert.ReferenceEvInBwdIdeal.defs _ _).mono (fun r h => ⟨fun c => (h c).2.2.2, sem_eq_zero_of_no_sems (by decide) r.2⟩) (Cert.ReferenceEvInBwdIdeal.Value.run (F := Ideal) m ρ)

/-- The kernel of the gradient at the even layers' convolved columns runs and leaves its arguments. -/
theorem frame_GradXbc : Cert.quiescent_GradXbc := fun m ρ _ => Cert.GradXbc.Gen.frame m ρ

/-- The same over the extended reals. -/
theorem frame_GradXbcIdeal : Cert.quiescent_GradXbcIdeal := fun m ρ _ => Cert.GradXbcIdeal.Gen.frame m ρ

/-- The reference of the gradient at the even layers' convolved columns runs, leaves its arguments, and has no counters. -/
theorem frame_ReferenceGradXbc : Cert.quiescent_ReferenceGradXbcIdeal := fun m ρ _ =>
  (θ_run Cert.ReferenceGradXbcIdeal.defs _ _).mono (fun r h => ⟨fun c => (h c).2, sem_eq_zero_of_no_sems (by decide) r.2⟩) (Cert.ReferenceGradXbcIdeal.Value.run (F := Ideal) m ρ)

/-- The kernel of the gradient at the even layers' pooled columns runs and leaves its arguments. -/
theorem frame_GradPool : Cert.quiescent_GradPool := fun m ρ _ => Cert.GradPool.Gen.frame m ρ

/-- The same over the extended reals. -/
theorem frame_GradPoolIdeal : Cert.quiescent_GradPoolIdeal := fun m ρ _ => Cert.GradPoolIdeal.Gen.frame m ρ

/-- The reference of the gradient at the even layers' pooled columns runs, leaves its arguments, and has no counters. -/
theorem frame_ReferenceGradPool : Cert.quiescent_ReferenceGradPoolIdeal := fun m ρ _ =>
  (θ_run Cert.ReferenceGradPoolIdeal.defs _ _).mono (fun r h => ⟨fun c => (h c).2, sem_eq_zero_of_no_sems (by decide) r.2⟩) (Cert.ReferenceGradPoolIdeal.Value.run (F := Ideal) m ρ)

/-- The kernel of the gradient at the even layers' step columns runs and leaves its arguments. -/
theorem frame_GradDt : Cert.quiescent_GradDt := fun m ρ _ => Cert.GradDt.Gen.frame m ρ

/-- The same over the extended reals. -/
theorem frame_GradDtIdeal : Cert.quiescent_GradDtIdeal := fun m ρ _ => Cert.GradDtIdeal.Gen.frame m ρ

/-- The reference of the gradient at the even layers' step columns runs, leaves its arguments, and has no counters. -/
theorem frame_ReferenceGradDt : Cert.quiescent_ReferenceGradDtIdeal := fun m ρ _ =>
  (θ_run Cert.ReferenceGradDtIdeal.defs _ _).mono (fun r h => ⟨fun c => (h c).2, sem_eq_zero_of_no_sems (by decide) r.2⟩) (Cert.ReferenceGradDtIdeal.Value.run (F := Ideal) m ρ)

/-- The kernel of the gradient at the narrower rows of a mixer's output weights runs and leaves its arguments. -/
theorem frame_GradMix : Cert.quiescent_GradMix := fun m ρ _ => Cert.GradMix.Gen.frame m ρ

/-- The same over the extended reals. -/
theorem frame_GradMixIdeal : Cert.quiescent_GradMixIdeal := fun m ρ _ => Cert.GradMixIdeal.Gen.frame m ρ

/-- The reference of the gradient at the narrower rows of a mixer's output weights runs, leaves its arguments, and has no counters. -/
theorem frame_ReferenceGradMix : Cert.quiescent_ReferenceGradMixIdeal := fun m ρ _ =>
  (θ_run Cert.ReferenceGradMixIdeal.defs _ _).mono (fun r h => ⟨fun c => (h c).2, sem_eq_zero_of_no_sems (by decide) r.2⟩) (Cert.ReferenceGradMixIdeal.Value.run (F := Ideal) m ρ)

/-- The kernel of an even mixer's output product and its normalisation runs and leaves its arguments. -/
theorem frame_MixOut : Cert.quiescent_MixOut := fun m ρ _ => Cert.MixOut.Gen.frame m ρ

/-- The same over the extended reals. -/
theorem frame_MixOutIdeal : Cert.quiescent_MixOutIdeal := fun m ρ _ => Cert.MixOutIdeal.Gen.frame m ρ

/-- The reference of an even mixer's output product and its normalisation runs, leaves its arguments, and has no counters. -/
theorem frame_ReferenceMixOut : Cert.quiescent_ReferenceMixOutIdeal := fun m ρ _ =>
  (θ_run Cert.ReferenceMixOutIdeal.defs _ _).mono (fun r h => ⟨fun c => (h c).2.2, sem_eq_zero_of_no_sems (by decide) r.2⟩) (Cert.ReferenceMixOutIdeal.Value.run (F := Ideal) m ρ)

/-- The kernel of an odd mixer's output product and its normalisation runs and leaves its arguments. -/
theorem frame_MixOutOdd : Cert.quiescent_MixOutOdd := fun m ρ _ => Cert.MixOutOdd.Gen.frame m ρ

/-- The same over the extended reals. -/
theorem frame_MixOutOddIdeal : Cert.quiescent_MixOutOddIdeal := fun m ρ _ => Cert.MixOutOddIdeal.Gen.frame m ρ

/-- The reference of an odd mixer's output product and its normalisation runs, leaves its arguments, and has no counters. -/
theorem frame_ReferenceMixOutOdd : Cert.quiescent_ReferenceMixOutOddIdeal := fun m ρ _ =>
  (θ_run Cert.ReferenceMixOutOddIdeal.defs _ _).mono (fun r h => ⟨fun c => (h c).2.2, sem_eq_zero_of_no_sems (by decide) r.2⟩) (Cert.ReferenceMixOutOddIdeal.Value.run (F := Ideal) m ρ)

theorem claim : Cert.Claim := ⟨Cert.Kernel.Gen.facts, Cert.KernelIdeal.Gen.facts, Cert.ReferenceIdeal.Gen.facts, Cert.GradIn.Gen.facts,
  Cert.GradInIdeal.Gen.facts, Cert.ReferenceGradInIdeal.Gen.facts, Cert.GradOut.Gen.facts, Cert.GradOutIdeal.Gen.facts,
  Cert.ReferenceGradOutIdeal.Gen.facts, Cert.FfnUp.Gen.facts, Cert.FfnUpIdeal.Gen.facts, Cert.ReferenceFfnUpIdeal.Gen.facts,
  Cert.FfnDown.Gen.facts, Cert.FfnDownIdeal.Gen.facts, Cert.ReferenceFfnDownIdeal.Gen.facts, Cert.GradSq.Gen.facts,
  Cert.GradSqIdeal.Gen.facts, Cert.ReferenceGradSqIdeal.Gen.facts, Cert.OddIn.Gen.facts, Cert.OddInIdeal.Gen.facts,
  Cert.ReferenceOddInIdeal.Gen.facts, Cert.OddInBwd.Gen.facts, Cert.OddInBwdIdeal.Gen.facts, Cert.ReferenceOddInBwdIdeal.Gen.facts,
  Cert.FfnUpBwd.Gen.facts, Cert.FfnUpBwdIdeal.Gen.facts, Cert.ReferenceFfnUpBwdIdeal.Gen.facts, Cert.FfnDownBwd.Gen.facts,
  Cert.FfnDownBwdIdeal.Gen.facts, Cert.ReferenceFfnDownBwdIdeal.Gen.facts, Cert.EvIn.Gen.facts, Cert.EvInIdeal.Gen.facts,
  Cert.ReferenceEvInIdeal.Gen.facts, Cert.EvInBwd.Gen.facts, Cert.EvInBwdIdeal.Gen.facts, Cert.ReferenceEvInBwdIdeal.Gen.facts,
  Cert.GradXbc.Gen.facts, Cert.GradXbcIdeal.Gen.facts, Cert.ReferenceGradXbcIdeal.Gen.facts, Cert.GradPool.Gen.facts,
  Cert.GradPoolIdeal.Gen.facts, Cert.ReferenceGradPoolIdeal.Gen.facts, Cert.GradDt.Gen.facts, Cert.GradDtIdeal.Gen.facts,
  Cert.ReferenceGradDtIdeal.Gen.facts, Cert.GradMix.Gen.facts, Cert.GradMixIdeal.Gen.facts, Cert.ReferenceGradMixIdeal.Gen.facts,
  Cert.MixOut.Gen.facts, Cert.MixOutIdeal.Gen.facts, Cert.ReferenceMixOutIdeal.Gen.facts, Cert.MixOutOdd.Gen.facts,
  Cert.MixOutOddIdeal.Gen.facts, Cert.ReferenceMixOutOddIdeal.Gen.facts, Cert.Pre_ffn_finite.Gen.facts, Cert.Pre_norm_finite.Gen.facts,
  frame_kernel, frame_ideal, frame_reference, frame_GradIn,
  frame_GradInIdeal, frame_ReferenceGradIn, frame_GradOut, frame_GradOutIdeal,
  frame_ReferenceGradOut, frame_FfnUp, frame_FfnUpIdeal, frame_ReferenceFfnUp,
  frame_FfnDown, frame_FfnDownIdeal, frame_ReferenceFfnDown, frame_GradSq,
  frame_GradSqIdeal, frame_ReferenceGradSq, frame_OddIn, frame_OddInIdeal,
  frame_ReferenceOddIn, frame_OddInBwd, frame_OddInBwdIdeal, frame_ReferenceOddInBwd,
  frame_FfnUpBwd, frame_FfnUpBwdIdeal, frame_FfnUpBwdIdeal_pre, frame_ReferenceFfnUpBwd,
  frame_ReferenceFfnUpBwd_pre, frame_FfnDownBwd, frame_FfnDownBwdIdeal, frame_FfnDownBwdIdeal_pre,
  frame_ReferenceFfnDownBwd, frame_ReferenceFfnDownBwd_pre, frame_EvIn, frame_EvInIdeal,
  frame_ReferenceEvIn, frame_EvInBwd, frame_EvInBwdIdeal, frame_ReferenceEvInBwd,
  frame_GradXbc, frame_GradXbcIdeal, frame_ReferenceGradXbc, frame_GradPool,
  frame_GradPoolIdeal, frame_ReferenceGradPool, frame_GradDt, frame_GradDtIdeal,
  frame_ReferenceGradDt, frame_GradMix, frame_GradMixIdeal, frame_ReferenceGradMix,
  frame_MixOut, frame_MixOutIdeal, frame_ReferenceMixOut, frame_MixOutOdd,
  frame_MixOutOddIdeal, frame_ReferenceMixOutOdd,
  trivial, value, trivial, Cert.FfnGradIn.value,
  trivial, Cert.FfnGradOut.value, trivial, Cert.FfnUpV.value,
  trivial, Cert.FfnDownV.value, trivial, Cert.GradSqV.value,
  trivial, Cert.OddInV.value, trivial, Cert.OddInBwdV.value,
  trivial, Cert.FfnUpBwdV.value, trivial, Cert.FfnDownBwdV.value,
  trivial, Cert.EvInV.value, trivial, Cert.EvInBwdV.value,
  trivial, Cert.GradXbcV.value, trivial, Cert.GradPoolV.value,
  trivial, Cert.GradDtV.value, trivial, Cert.GradMixV.value,
  trivial, Cert.MixOutV.value, trivial, Cert.MixOutOddV.value⟩

end Cert.Proof

end
